-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S2x31x8x256 : Shape := ⟨4, ![2, 31, 8, 256]⟩
abbrev S2x31 : Shape := ⟨2, ![2, 31]⟩
abbrev S_ : Shape := ⟨0, ![]⟩
abbrev S256x256 : Shape := ⟨2, ![256, 256]⟩
abbrev S1x1 : Shape := ⟨2, ![1, 1]⟩
abbrev S1x1x8x256 : Shape := ⟨4, ![1, 1, 8, 256]⟩
abbrev S8x256 : Shape := ⟨2, ![8, 256]⟩
abbrev S1x31x8x256 : Shape := ⟨4, ![1, 31, 8, 256]⟩
abbrev S31x8x256 : Shape := ⟨3, ![31, 8, 256]⟩

abbrev nBuf : Space → Nat
  | .hbm => 8
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S2x31x8x256, .f32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 256 → Bool
  | ⟨i, _⟩ => dmaSemScopedAt i

abbrev sig : RefSig :=
  (ofTc nBuf bufTy 1 256 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c0_i32_297 : BitVec 32) (c1_i32_289 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v418 : BitVec 32 := Scalar.addi v2 c1_i32_289
  let c32_i32_290 : BitVec 32 := 32#32
  let c0_i32_291 : BitVec 32 := 0#32
  let v419 : BitVec 1 := Scalar.cmpi .eq c32_i32_290 c0_i32_291
  let c1_i32_292 : BitVec 32 := 1#32
  let v420 : BitVec 32 := Scalar.select v419 c1_i32_292 c32_i32_290
  let v421 : BitVec 32 := Scalar.remsi v418 v420
  let c0_i32_294 : BitVec 32 := 0#32
  let v423 : BitVec 1 := Scalar.cmpi .slt v421 c0_i32_294
  let c0_i32_295 : BitVec 32 := 0#32
  let v424 : BitVec 1 := Scalar.cmpi .slt v420 c0_i32_295
  let v425 : BitVec 1 := Scalar.xori v423 v424
  let c0_i32_293 : BitVec 32 := 0#32
  let v422 : BitVec 1 := Scalar.cmpi .ne v421 c0_i32_293
  let v426 : BitVec 1 := Scalar.andi v425 v422
  let v427 : BitVec 32 := Scalar.addi v421 v420
  let v428 : BitVec 32 := Scalar.select v426 v427 v421
  let c8_i32_296 : BitVec 32 := 8#32
  let v429 : BitVec 32 := Scalar.muli v428 c8_i32_296
  let v430 : BitVec 32 := Scalar.addi c0_i32_297 v429
  let c0_i32_308 : BitVec 32 := 0#32
  ![v430.toNat, 0]
def k0_dev32 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_289 : BitVec 32 := 1#32
  let v418 : BitVec 32 := Scalar.addi v2 c1_i32_289
  let c32_i32_290 : BitVec 32 := 32#32
  let c0_i32_291 : BitVec 32 := 0#32
  let v419 : BitVec 1 := Scalar.cmpi .eq c32_i32_290 c0_i32_291
  let c1_i32_292 : BitVec 32 := 1#32
  let v420 : BitVec 32 := Scalar.select v419 c1_i32_292 c32_i32_290
  let v421 : BitVec 32 := Scalar.remsi v418 v420
  let c0_i32_294 : BitVec 32 := 0#32
  let v423 : BitVec 1 := Scalar.cmpi .slt v421 c0_i32_294
  let c0_i32_295 : BitVec 32 := 0#32
  let v424 : BitVec 1 := Scalar.cmpi .slt v420 c0_i32_295
  let v425 : BitVec 1 := Scalar.xori v423 v424
  let c0_i32_293 : BitVec 32 := 0#32
  let v422 : BitVec 1 := Scalar.cmpi .ne v421 c0_i32_293
  let v426 : BitVec 1 := Scalar.andi v425 v422
  let v427 : BitVec 32 := Scalar.addi v421 v420
  let v428 : BitVec 32 := Scalar.select v426 v427 v421
  let c1_i32_304 : BitVec 32 := 1#32
  let v431 : BitVec 32 := Scalar.muli v428 c1_i32_304
  let v432 : BitVec 32 := Scalar.addi c0_i32_305 v431
  v432.toNat
def k0_dev33 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_309 : BitVec 32 := 2#32
  let v440 : BitVec 32 := Scalar.addi v2 c2_i32_309
  let c32_i32_310 : BitVec 32 := 32#32
  let c0_i32_311 : BitVec 32 := 0#32
  let v441 : BitVec 1 := Scalar.cmpi .eq c32_i32_310 c0_i32_311
  let c1_i32_312 : BitVec 32 := 1#32
  let v442 : BitVec 32 := Scalar.select v441 c1_i32_312 c32_i32_310
  let v443 : BitVec 32 := Scalar.remsi v440 v442
  let c0_i32_314 : BitVec 32 := 0#32
  let v445 : BitVec 1 := Scalar.cmpi .slt v443 c0_i32_314
  let c0_i32_315 : BitVec 32 := 0#32
  let v446 : BitVec 1 := Scalar.cmpi .slt v442 c0_i32_315
  let v447 : BitVec 1 := Scalar.xori v445 v446
  let c0_i32_313 : BitVec 32 := 0#32
  let v444 : BitVec 1 := Scalar.cmpi .ne v443 c0_i32_313
  let v448 : BitVec 1 := Scalar.andi v447 v444
  let v449 : BitVec 32 := Scalar.addi v443 v442
  let v450 : BitVec 32 := Scalar.select v448 v449 v443
  let c1_i32_324 : BitVec 32 := 1#32
  let v453 : BitVec 32 := Scalar.muli v450 c1_i32_324
  let v454 : BitVec 32 := Scalar.addi c0_i32_325 v453
  v454.toNat
def k0_dev34 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_329 : BitVec 32 := 3#32
  let v462 : BitVec 32 := Scalar.addi v2 c3_i32_329
  let c32_i32_330 : BitVec 32 := 32#32
  let c0_i32_331 : BitVec 32 := 0#32
  let v463 : BitVec 1 := Scalar.cmpi .eq c32_i32_330 c0_i32_331
  let c1_i32_332 : BitVec 32 := 1#32
  let v464 : BitVec 32 := Scalar.select v463 c1_i32_332 c32_i32_330
  let v465 : BitVec 32 := Scalar.remsi v462 v464
  let c0_i32_334 : BitVec 32 := 0#32
  let v467 : BitVec 1 := Scalar.cmpi .slt v465 c0_i32_334
  let c0_i32_335 : BitVec 32 := 0#32
  let v468 : BitVec 1 := Scalar.cmpi .slt v464 c0_i32_335
  let v469 : BitVec 1 := Scalar.xori v467 v468
  let c0_i32_333 : BitVec 32 := 0#32
  let v466 : BitVec 1 := Scalar.cmpi .ne v465 c0_i32_333
  let v470 : BitVec 1 := Scalar.andi v469 v466
  let v471 : BitVec 32 := Scalar.addi v465 v464
  let v472 : BitVec 32 := Scalar.select v470 v471 v465
  let c1_i32_344 : BitVec 32 := 1#32
  let v475 : BitVec 32 := Scalar.muli v472 c1_i32_344
  let v476 : BitVec 32 := Scalar.addi c0_i32_345 v475
  v476.toNat
def k0_dev35 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_349 : BitVec 32 := 4#32
  let v484 : BitVec 32 := Scalar.addi v2 c4_i32_349
  let c32_i32_350 : BitVec 32 := 32#32
  let c0_i32_351 : BitVec 32 := 0#32
  let v485 : BitVec 1 := Scalar.cmpi .eq c32_i32_350 c0_i32_351
  let c1_i32_352 : BitVec 32 := 1#32
  let v486 : BitVec 32 := Scalar.select v485 c1_i32_352 c32_i32_350
  let v487 : BitVec 32 := Scalar.remsi v484 v486
  let c0_i32_354 : BitVec 32 := 0#32
  let v489 : BitVec 1 := Scalar.cmpi .slt v487 c0_i32_354
  let c0_i32_355 : BitVec 32 := 0#32
  let v490 : BitVec 1 := Scalar.cmpi .slt v486 c0_i32_355
  let v491 : BitVec 1 := Scalar.xori v489 v490
  let c0_i32_353 : BitVec 32 := 0#32
  let v488 : BitVec 1 := Scalar.cmpi .ne v487 c0_i32_353
  let v492 : BitVec 1 := Scalar.andi v491 v488
  let v493 : BitVec 32 := Scalar.addi v487 v486
  let v494 : BitVec 32 := Scalar.select v492 v493 v487
  let c1_i32_364 : BitVec 32 := 1#32
  let v497 : BitVec 32 := Scalar.muli v494 c1_i32_364
  let v498 : BitVec 32 := Scalar.addi c0_i32_365 v497
  v498.toNat
def k0_dev36 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_369 : BitVec 32 := 5#32
  let v506 : BitVec 32 := Scalar.addi v2 c5_i32_369
  let c32_i32_370 : BitVec 32 := 32#32
  let c0_i32_371 : BitVec 32 := 0#32
  let v507 : BitVec 1 := Scalar.cmpi .eq c32_i32_370 c0_i32_371
  let c1_i32_372 : BitVec 32 := 1#32
  let v508 : BitVec 32 := Scalar.select v507 c1_i32_372 c32_i32_370
  let v509 : BitVec 32 := Scalar.remsi v506 v508
  let c0_i32_374 : BitVec 32 := 0#32
  let v511 : BitVec 1 := Scalar.cmpi .slt v509 c0_i32_374
  let c0_i32_375 : BitVec 32 := 0#32
  let v512 : BitVec 1 := Scalar.cmpi .slt v508 c0_i32_375
  let v513 : BitVec 1 := Scalar.xori v511 v512
  let c0_i32_373 : BitVec 32 := 0#32
  let v510 : BitVec 1 := Scalar.cmpi .ne v509 c0_i32_373
  let v514 : BitVec 1 := Scalar.andi v513 v510
  let v515 : BitVec 32 := Scalar.addi v509 v508
  let v516 : BitVec 32 := Scalar.select v514 v515 v509
  let c1_i32_384 : BitVec 32 := 1#32
  let v519 : BitVec 32 := Scalar.muli v516 c1_i32_384
  let v520 : BitVec 32 := Scalar.addi c0_i32_385 v519
  v520.toNat
def k0_dev37 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_389 : BitVec 32 := 6#32
  let v528 : BitVec 32 := Scalar.addi v2 c6_i32_389
  let c32_i32_390 : BitVec 32 := 32#32
  let c0_i32_391 : BitVec 32 := 0#32
  let v529 : BitVec 1 := Scalar.cmpi .eq c32_i32_390 c0_i32_391
  let c1_i32_392 : BitVec 32 := 1#32
  let v530 : BitVec 32 := Scalar.select v529 c1_i32_392 c32_i32_390
  let v531 : BitVec 32 := Scalar.remsi v528 v530
  let c0_i32_394 : BitVec 32 := 0#32
  let v533 : BitVec 1 := Scalar.cmpi .slt v531 c0_i32_394
  let c0_i32_395 : BitVec 32 := 0#32
  let v534 : BitVec 1 := Scalar.cmpi .slt v530 c0_i32_395
  let v535 : BitVec 1 := Scalar.xori v533 v534
  let c0_i32_393 : BitVec 32 := 0#32
  let v532 : BitVec 1 := Scalar.cmpi .ne v531 c0_i32_393
  let v536 : BitVec 1 := Scalar.andi v535 v532
  let v537 : BitVec 32 := Scalar.addi v531 v530
  let v538 : BitVec 32 := Scalar.select v536 v537 v531
  let c1_i32_404 : BitVec 32 := 1#32
  let v541 : BitVec 32 := Scalar.muli v538 c1_i32_404
  let v542 : BitVec 32 := Scalar.addi c0_i32_405 v541
  v542.toNat
def k0_dev38 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_409 : BitVec 32 := 7#32
  let v550 : BitVec 32 := Scalar.addi v2 c7_i32_409
  let c32_i32_410 : BitVec 32 := 32#32
  let c0_i32_411 : BitVec 32 := 0#32
  let v551 : BitVec 1 := Scalar.cmpi .eq c32_i32_410 c0_i32_411
  let c1_i32_412 : BitVec 32 := 1#32
  let v552 : BitVec 32 := Scalar.select v551 c1_i32_412 c32_i32_410
  let v553 : BitVec 32 := Scalar.remsi v550 v552
  let c0_i32_414 : BitVec 32 := 0#32
  let v555 : BitVec 1 := Scalar.cmpi .slt v553 c0_i32_414
  let c0_i32_415 : BitVec 32 := 0#32
  let v556 : BitVec 1 := Scalar.cmpi .slt v552 c0_i32_415
  let v557 : BitVec 1 := Scalar.xori v555 v556
  let c0_i32_413 : BitVec 32 := 0#32
  let v554 : BitVec 1 := Scalar.cmpi .ne v553 c0_i32_413
  let v558 : BitVec 1 := Scalar.andi v557 v554
  let v559 : BitVec 32 := Scalar.addi v553 v552
  let v560 : BitVec 32 := Scalar.select v558 v559 v553
  let c1_i32_424 : BitVec 32 := 1#32
  let v563 : BitVec 32 := Scalar.muli v560 c1_i32_424
  let v564 : BitVec 32 := Scalar.addi c0_i32_425 v563
  v564.toNat
def k0_dev39 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_429 : BitVec 32 := 8#32
  let v572 : BitVec 32 := Scalar.addi v2 c8_i32_429
  let c32_i32_430 : BitVec 32 := 32#32
  let c0_i32_431 : BitVec 32 := 0#32
  let v573 : BitVec 1 := Scalar.cmpi .eq c32_i32_430 c0_i32_431
  let c1_i32_432 : BitVec 32 := 1#32
  let v574 : BitVec 32 := Scalar.select v573 c1_i32_432 c32_i32_430
  let v575 : BitVec 32 := Scalar.remsi v572 v574
  let c0_i32_434 : BitVec 32 := 0#32
  let v577 : BitVec 1 := Scalar.cmpi .slt v575 c0_i32_434
  let c0_i32_435 : BitVec 32 := 0#32
  let v578 : BitVec 1 := Scalar.cmpi .slt v574 c0_i32_435
  let v579 : BitVec 1 := Scalar.xori v577 v578
  let c0_i32_433 : BitVec 32 := 0#32
  let v576 : BitVec 1 := Scalar.cmpi .ne v575 c0_i32_433
  let v580 : BitVec 1 := Scalar.andi v579 v576
  let v581 : BitVec 32 := Scalar.addi v575 v574
  let v582 : BitVec 32 := Scalar.select v580 v581 v575
  let c1_i32_444 : BitVec 32 := 1#32
  let v585 : BitVec 32 := Scalar.muli v582 c1_i32_444
  let v586 : BitVec 32 := Scalar.addi c0_i32_445 v585
  v586.toNat
def k0_dev40 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_449 : BitVec 32 := 9#32
  let v594 : BitVec 32 := Scalar.addi v2 c9_i32_449
  let c32_i32_450 : BitVec 32 := 32#32
  let c0_i32_451 : BitVec 32 := 0#32
  let v595 : BitVec 1 := Scalar.cmpi .eq c32_i32_450 c0_i32_451
  let c1_i32_452 : BitVec 32 := 1#32
  let v596 : BitVec 32 := Scalar.select v595 c1_i32_452 c32_i32_450
  let v597 : BitVec 32 := Scalar.remsi v594 v596
  let c0_i32_454 : BitVec 32 := 0#32
  let v599 : BitVec 1 := Scalar.cmpi .slt v597 c0_i32_454
  let c0_i32_455 : BitVec 32 := 0#32
  let v600 : BitVec 1 := Scalar.cmpi .slt v596 c0_i32_455
  let v601 : BitVec 1 := Scalar.xori v599 v600
  let c0_i32_453 : BitVec 32 := 0#32
  let v598 : BitVec 1 := Scalar.cmpi .ne v597 c0_i32_453
  let v602 : BitVec 1 := Scalar.andi v601 v598
  let v603 : BitVec 32 := Scalar.addi v597 v596
  let v604 : BitVec 32 := Scalar.select v602 v603 v597
  let c1_i32_464 : BitVec 32 := 1#32
  let v607 : BitVec 32 := Scalar.muli v604 c1_i32_464
  let v608 : BitVec 32 := Scalar.addi c0_i32_465 v607
  v608.toNat
def k0_dev41 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_469 : BitVec 32 := 10#32
  let v616 : BitVec 32 := Scalar.addi v2 c10_i32_469
  let c32_i32_470 : BitVec 32 := 32#32
  let c0_i32_471 : BitVec 32 := 0#32
  let v617 : BitVec 1 := Scalar.cmpi .eq c32_i32_470 c0_i32_471
  let c1_i32_472 : BitVec 32 := 1#32
  let v618 : BitVec 32 := Scalar.select v617 c1_i32_472 c32_i32_470
  let v619 : BitVec 32 := Scalar.remsi v616 v618
  let c0_i32_474 : BitVec 32 := 0#32
  let v621 : BitVec 1 := Scalar.cmpi .slt v619 c0_i32_474
  let c0_i32_475 : BitVec 32 := 0#32
  let v622 : BitVec 1 := Scalar.cmpi .slt v618 c0_i32_475
  let v623 : BitVec 1 := Scalar.xori v621 v622
  let c0_i32_473 : BitVec 32 := 0#32
  let v620 : BitVec 1 := Scalar.cmpi .ne v619 c0_i32_473
  let v624 : BitVec 1 := Scalar.andi v623 v620
  let v625 : BitVec 32 := Scalar.addi v619 v618
  let v626 : BitVec 32 := Scalar.select v624 v625 v619
  let c1_i32_484 : BitVec 32 := 1#32
  let v629 : BitVec 32 := Scalar.muli v626 c1_i32_484
  let v630 : BitVec 32 := Scalar.addi c0_i32_485 v629
  v630.toNat
def k0_dev42 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_489 : BitVec 32 := 11#32
  let v638 : BitVec 32 := Scalar.addi v2 c11_i32_489
  let c32_i32_490 : BitVec 32 := 32#32
  let c0_i32_491 : BitVec 32 := 0#32
  let v639 : BitVec 1 := Scalar.cmpi .eq c32_i32_490 c0_i32_491
  let c1_i32_492 : BitVec 32 := 1#32
  let v640 : BitVec 32 := Scalar.select v639 c1_i32_492 c32_i32_490
  let v641 : BitVec 32 := Scalar.remsi v638 v640
  let c0_i32_494 : BitVec 32 := 0#32
  let v643 : BitVec 1 := Scalar.cmpi .slt v641 c0_i32_494
  let c0_i32_495 : BitVec 32 := 0#32
  let v644 : BitVec 1 := Scalar.cmpi .slt v640 c0_i32_495
  let v645 : BitVec 1 := Scalar.xori v643 v644
  let c0_i32_493 : BitVec 32 := 0#32
  let v642 : BitVec 1 := Scalar.cmpi .ne v641 c0_i32_493
  let v646 : BitVec 1 := Scalar.andi v645 v642
  let v647 : BitVec 32 := Scalar.addi v641 v640
  let v648 : BitVec 32 := Scalar.select v646 v647 v641
  let c1_i32_504 : BitVec 32 := 1#32
  let v651 : BitVec 32 := Scalar.muli v648 c1_i32_504
  let v652 : BitVec 32 := Scalar.addi c0_i32_505 v651
  v652.toNat
def k0_dev43 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_509 : BitVec 32 := 12#32
  let v660 : BitVec 32 := Scalar.addi v2 c12_i32_509
  let c32_i32_510 : BitVec 32 := 32#32
  let c0_i32_511 : BitVec 32 := 0#32
  let v661 : BitVec 1 := Scalar.cmpi .eq c32_i32_510 c0_i32_511
  let c1_i32_512 : BitVec 32 := 1#32
  let v662 : BitVec 32 := Scalar.select v661 c1_i32_512 c32_i32_510
  let v663 : BitVec 32 := Scalar.remsi v660 v662
  let c0_i32_514 : BitVec 32 := 0#32
  let v665 : BitVec 1 := Scalar.cmpi .slt v663 c0_i32_514
  let c0_i32_515 : BitVec 32 := 0#32
  let v666 : BitVec 1 := Scalar.cmpi .slt v662 c0_i32_515
  let v667 : BitVec 1 := Scalar.xori v665 v666
  let c0_i32_513 : BitVec 32 := 0#32
  let v664 : BitVec 1 := Scalar.cmpi .ne v663 c0_i32_513
  let v668 : BitVec 1 := Scalar.andi v667 v664
  let v669 : BitVec 32 := Scalar.addi v663 v662
  let v670 : BitVec 32 := Scalar.select v668 v669 v663
  let c1_i32_524 : BitVec 32 := 1#32
  let v673 : BitVec 32 := Scalar.muli v670 c1_i32_524
  let v674 : BitVec 32 := Scalar.addi c0_i32_525 v673
  v674.toNat
def k0_dev44 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_529 : BitVec 32 := 13#32
  let v682 : BitVec 32 := Scalar.addi v2 c13_i32_529
  let c32_i32_530 : BitVec 32 := 32#32
  let c0_i32_531 : BitVec 32 := 0#32
  let v683 : BitVec 1 := Scalar.cmpi .eq c32_i32_530 c0_i32_531
  let c1_i32_532 : BitVec 32 := 1#32
  let v684 : BitVec 32 := Scalar.select v683 c1_i32_532 c32_i32_530
  let v685 : BitVec 32 := Scalar.remsi v682 v684
  let c0_i32_534 : BitVec 32 := 0#32
  let v687 : BitVec 1 := Scalar.cmpi .slt v685 c0_i32_534
  let c0_i32_535 : BitVec 32 := 0#32
  let v688 : BitVec 1 := Scalar.cmpi .slt v684 c0_i32_535
  let v689 : BitVec 1 := Scalar.xori v687 v688
  let c0_i32_533 : BitVec 32 := 0#32
  let v686 : BitVec 1 := Scalar.cmpi .ne v685 c0_i32_533
  let v690 : BitVec 1 := Scalar.andi v689 v686
  let v691 : BitVec 32 := Scalar.addi v685 v684
  let v692 : BitVec 32 := Scalar.select v690 v691 v685
  let c1_i32_544 : BitVec 32 := 1#32
  let v695 : BitVec 32 := Scalar.muli v692 c1_i32_544
  let v696 : BitVec 32 := Scalar.addi c0_i32_545 v695
  v696.toNat
def k0_dev45 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_549 : BitVec 32 := 14#32
  let v704 : BitVec 32 := Scalar.addi v2 c14_i32_549
  let c32_i32_550 : BitVec 32 := 32#32
  let c0_i32_551 : BitVec 32 := 0#32
  let v705 : BitVec 1 := Scalar.cmpi .eq c32_i32_550 c0_i32_551
  let c1_i32_552 : BitVec 32 := 1#32
  let v706 : BitVec 32 := Scalar.select v705 c1_i32_552 c32_i32_550
  let v707 : BitVec 32 := Scalar.remsi v704 v706
  let c0_i32_554 : BitVec 32 := 0#32
  let v709 : BitVec 1 := Scalar.cmpi .slt v707 c0_i32_554
  let c0_i32_555 : BitVec 32 := 0#32
  let v710 : BitVec 1 := Scalar.cmpi .slt v706 c0_i32_555
  let v711 : BitVec 1 := Scalar.xori v709 v710
  let c0_i32_553 : BitVec 32 := 0#32
  let v708 : BitVec 1 := Scalar.cmpi .ne v707 c0_i32_553
  let v712 : BitVec 1 := Scalar.andi v711 v708
  let v713 : BitVec 32 := Scalar.addi v707 v706
  let v714 : BitVec 32 := Scalar.select v712 v713 v707
  let c1_i32_564 : BitVec 32 := 1#32
  let v717 : BitVec 32 := Scalar.muli v714 c1_i32_564
  let v718 : BitVec 32 := Scalar.addi c0_i32_565 v717
  v718.toNat
def k0_dev46 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_569 : BitVec 32 := 15#32
  let v726 : BitVec 32 := Scalar.addi v2 c15_i32_569
  let c32_i32_570 : BitVec 32 := 32#32
  let c0_i32_571 : BitVec 32 := 0#32
  let v727 : BitVec 1 := Scalar.cmpi .eq c32_i32_570 c0_i32_571
  let c1_i32_572 : BitVec 32 := 1#32
  let v728 : BitVec 32 := Scalar.select v727 c1_i32_572 c32_i32_570
  let v729 : BitVec 32 := Scalar.remsi v726 v728
  let c0_i32_574 : BitVec 32 := 0#32
  let v731 : BitVec 1 := Scalar.cmpi .slt v729 c0_i32_574
  let c0_i32_575 : BitVec 32 := 0#32
  let v732 : BitVec 1 := Scalar.cmpi .slt v728 c0_i32_575
  let v733 : BitVec 1 := Scalar.xori v731 v732
  let c0_i32_573 : BitVec 32 := 0#32
  let v730 : BitVec 1 := Scalar.cmpi .ne v729 c0_i32_573
  let v734 : BitVec 1 := Scalar.andi v733 v730
  let v735 : BitVec 32 := Scalar.addi v729 v728
  let v736 : BitVec 32 := Scalar.select v734 v735 v729
  let c1_i32_584 : BitVec 32 := 1#32
  let v739 : BitVec 32 := Scalar.muli v736 c1_i32_584
  let v740 : BitVec 32 := Scalar.addi c0_i32_585 v739
  v740.toNat
def k0_dev47 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_589 : BitVec 32 := 16#32
  let v748 : BitVec 32 := Scalar.addi v2 c16_i32_589
  let c32_i32_590 : BitVec 32 := 32#32
  let c0_i32_591 : BitVec 32 := 0#32
  let v749 : BitVec 1 := Scalar.cmpi .eq c32_i32_590 c0_i32_591
  let c1_i32_592 : BitVec 32 := 1#32
  let v750 : BitVec 32 := Scalar.select v749 c1_i32_592 c32_i32_590
  let v751 : BitVec 32 := Scalar.remsi v748 v750
  let c0_i32_594 : BitVec 32 := 0#32
  let v753 : BitVec 1 := Scalar.cmpi .slt v751 c0_i32_594
  let c0_i32_595 : BitVec 32 := 0#32
  let v754 : BitVec 1 := Scalar.cmpi .slt v750 c0_i32_595
  let v755 : BitVec 1 := Scalar.xori v753 v754
  let c0_i32_593 : BitVec 32 := 0#32
  let v752 : BitVec 1 := Scalar.cmpi .ne v751 c0_i32_593
  let v756 : BitVec 1 := Scalar.andi v755 v752
  let v757 : BitVec 32 := Scalar.addi v751 v750
  let v758 : BitVec 32 := Scalar.select v756 v757 v751
  let c1_i32_604 : BitVec 32 := 1#32
  let v761 : BitVec 32 := Scalar.muli v758 c1_i32_604
  let v762 : BitVec 32 := Scalar.addi c0_i32_605 v761
  v762.toNat
def k0_dev48 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_609 : BitVec 32 := 17#32
  let v770 : BitVec 32 := Scalar.addi v2 c17_i32_609
  let c32_i32_610 : BitVec 32 := 32#32
  let c0_i32_611 : BitVec 32 := 0#32
  let v771 : BitVec 1 := Scalar.cmpi .eq c32_i32_610 c0_i32_611
  let c1_i32_612 : BitVec 32 := 1#32
  let v772 : BitVec 32 := Scalar.select v771 c1_i32_612 c32_i32_610
  let v773 : BitVec 32 := Scalar.remsi v770 v772
  let c0_i32_614 : BitVec 32 := 0#32
  let v775 : BitVec 1 := Scalar.cmpi .slt v773 c0_i32_614
  let c0_i32_615 : BitVec 32 := 0#32
  let v776 : BitVec 1 := Scalar.cmpi .slt v772 c0_i32_615
  let v777 : BitVec 1 := Scalar.xori v775 v776
  let c0_i32_613 : BitVec 32 := 0#32
  let v774 : BitVec 1 := Scalar.cmpi .ne v773 c0_i32_613
  let v778 : BitVec 1 := Scalar.andi v777 v774
  let v779 : BitVec 32 := Scalar.addi v773 v772
  let v780 : BitVec 32 := Scalar.select v778 v779 v773
  let c1_i32_624 : BitVec 32 := 1#32
  let v783 : BitVec 32 := Scalar.muli v780 c1_i32_624
  let v784 : BitVec 32 := Scalar.addi c0_i32_625 v783
  v784.toNat
def k0_dev49 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_629 : BitVec 32 := 18#32
  let v792 : BitVec 32 := Scalar.addi v2 c18_i32_629
  let c32_i32_630 : BitVec 32 := 32#32
  let c0_i32_631 : BitVec 32 := 0#32
  let v793 : BitVec 1 := Scalar.cmpi .eq c32_i32_630 c0_i32_631
  let c1_i32_632 : BitVec 32 := 1#32
  let v794 : BitVec 32 := Scalar.select v793 c1_i32_632 c32_i32_630
  let v795 : BitVec 32 := Scalar.remsi v792 v794
  let c0_i32_634 : BitVec 32 := 0#32
  let v797 : BitVec 1 := Scalar.cmpi .slt v795 c0_i32_634
  let c0_i32_635 : BitVec 32 := 0#32
  let v798 : BitVec 1 := Scalar.cmpi .slt v794 c0_i32_635
  let v799 : BitVec 1 := Scalar.xori v797 v798
  let c0_i32_633 : BitVec 32 := 0#32
  let v796 : BitVec 1 := Scalar.cmpi .ne v795 c0_i32_633
  let v800 : BitVec 1 := Scalar.andi v799 v796
  let v801 : BitVec 32 := Scalar.addi v795 v794
  let v802 : BitVec 32 := Scalar.select v800 v801 v795
  let c1_i32_644 : BitVec 32 := 1#32
  let v805 : BitVec 32 := Scalar.muli v802 c1_i32_644
  let v806 : BitVec 32 := Scalar.addi c0_i32_645 v805
  v806.toNat
def k0_dev50 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_649 : BitVec 32 := 19#32
  let v814 : BitVec 32 := Scalar.addi v2 c19_i32_649
  let c32_i32_650 : BitVec 32 := 32#32
  let c0_i32_651 : BitVec 32 := 0#32
  let v815 : BitVec 1 := Scalar.cmpi .eq c32_i32_650 c0_i32_651
  let c1_i32_652 : BitVec 32 := 1#32
  let v816 : BitVec 32 := Scalar.select v815 c1_i32_652 c32_i32_650
  let v817 : BitVec 32 := Scalar.remsi v814 v816
  let c0_i32_654 : BitVec 32 := 0#32
  let v819 : BitVec 1 := Scalar.cmpi .slt v817 c0_i32_654
  let c0_i32_655 : BitVec 32 := 0#32
  let v820 : BitVec 1 := Scalar.cmpi .slt v816 c0_i32_655
  let v821 : BitVec 1 := Scalar.xori v819 v820
  let c0_i32_653 : BitVec 32 := 0#32
  let v818 : BitVec 1 := Scalar.cmpi .ne v817 c0_i32_653
  let v822 : BitVec 1 := Scalar.andi v821 v818
  let v823 : BitVec 32 := Scalar.addi v817 v816
  let v824 : BitVec 32 := Scalar.select v822 v823 v817
  let c1_i32_664 : BitVec 32 := 1#32
  let v827 : BitVec 32 := Scalar.muli v824 c1_i32_664
  let v828 : BitVec 32 := Scalar.addi c0_i32_665 v827
  v828.toNat
def k0_dev51 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_669 : BitVec 32 := 20#32
  let v836 : BitVec 32 := Scalar.addi v2 c20_i32_669
  let c32_i32_670 : BitVec 32 := 32#32
  let c0_i32_671 : BitVec 32 := 0#32
  let v837 : BitVec 1 := Scalar.cmpi .eq c32_i32_670 c0_i32_671
  let c1_i32_672 : BitVec 32 := 1#32
  let v838 : BitVec 32 := Scalar.select v837 c1_i32_672 c32_i32_670
  let v839 : BitVec 32 := Scalar.remsi v836 v838
  let c0_i32_674 : BitVec 32 := 0#32
  let v841 : BitVec 1 := Scalar.cmpi .slt v839 c0_i32_674
  let c0_i32_675 : BitVec 32 := 0#32
  let v842 : BitVec 1 := Scalar.cmpi .slt v838 c0_i32_675
  let v843 : BitVec 1 := Scalar.xori v841 v842
  let c0_i32_673 : BitVec 32 := 0#32
  let v840 : BitVec 1 := Scalar.cmpi .ne v839 c0_i32_673
  let v844 : BitVec 1 := Scalar.andi v843 v840
  let v845 : BitVec 32 := Scalar.addi v839 v838
  let v846 : BitVec 32 := Scalar.select v844 v845 v839
  let c1_i32_684 : BitVec 32 := 1#32
  let v849 : BitVec 32 := Scalar.muli v846 c1_i32_684
  let v850 : BitVec 32 := Scalar.addi c0_i32_685 v849
  v850.toNat
def k0_dev52 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_689 : BitVec 32 := 21#32
  let v858 : BitVec 32 := Scalar.addi v2 c21_i32_689
  let c32_i32_690 : BitVec 32 := 32#32
  let c0_i32_691 : BitVec 32 := 0#32
  let v859 : BitVec 1 := Scalar.cmpi .eq c32_i32_690 c0_i32_691
  let c1_i32_692 : BitVec 32 := 1#32
  let v860 : BitVec 32 := Scalar.select v859 c1_i32_692 c32_i32_690
  let v861 : BitVec 32 := Scalar.remsi v858 v860
  let c0_i32_694 : BitVec 32 := 0#32
  let v863 : BitVec 1 := Scalar.cmpi .slt v861 c0_i32_694
  let c0_i32_695 : BitVec 32 := 0#32
  let v864 : BitVec 1 := Scalar.cmpi .slt v860 c0_i32_695
  let v865 : BitVec 1 := Scalar.xori v863 v864
  let c0_i32_693 : BitVec 32 := 0#32
  let v862 : BitVec 1 := Scalar.cmpi .ne v861 c0_i32_693
  let v866 : BitVec 1 := Scalar.andi v865 v862
  let v867 : BitVec 32 := Scalar.addi v861 v860
  let v868 : BitVec 32 := Scalar.select v866 v867 v861
  let c1_i32_704 : BitVec 32 := 1#32
  let v871 : BitVec 32 := Scalar.muli v868 c1_i32_704
  let v872 : BitVec 32 := Scalar.addi c0_i32_705 v871
  v872.toNat
def k0_dev53 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_709 : BitVec 32 := 22#32
  let v880 : BitVec 32 := Scalar.addi v2 c22_i32_709
  let c32_i32_710 : BitVec 32 := 32#32
  let c0_i32_711 : BitVec 32 := 0#32
  let v881 : BitVec 1 := Scalar.cmpi .eq c32_i32_710 c0_i32_711
  let c1_i32_712 : BitVec 32 := 1#32
  let v882 : BitVec 32 := Scalar.select v881 c1_i32_712 c32_i32_710
  let v883 : BitVec 32 := Scalar.remsi v880 v882
  let c0_i32_714 : BitVec 32 := 0#32
  let v885 : BitVec 1 := Scalar.cmpi .slt v883 c0_i32_714
  let c0_i32_715 : BitVec 32 := 0#32
  let v886 : BitVec 1 := Scalar.cmpi .slt v882 c0_i32_715
  let v887 : BitVec 1 := Scalar.xori v885 v886
  let c0_i32_713 : BitVec 32 := 0#32
  let v884 : BitVec 1 := Scalar.cmpi .ne v883 c0_i32_713
  let v888 : BitVec 1 := Scalar.andi v887 v884
  let v889 : BitVec 32 := Scalar.addi v883 v882
  let v890 : BitVec 32 := Scalar.select v888 v889 v883
  let c1_i32_724 : BitVec 32 := 1#32
  let v893 : BitVec 32 := Scalar.muli v890 c1_i32_724
  let v894 : BitVec 32 := Scalar.addi c0_i32_725 v893
  v894.toNat
def k0_dev54 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_729 : BitVec 32 := 23#32
  let v902 : BitVec 32 := Scalar.addi v2 c23_i32_729
  let c32_i32_730 : BitVec 32 := 32#32
  let c0_i32_731 : BitVec 32 := 0#32
  let v903 : BitVec 1 := Scalar.cmpi .eq c32_i32_730 c0_i32_731
  let c1_i32_732 : BitVec 32 := 1#32
  let v904 : BitVec 32 := Scalar.select v903 c1_i32_732 c32_i32_730
  let v905 : BitVec 32 := Scalar.remsi v902 v904
  let c0_i32_734 : BitVec 32 := 0#32
  let v907 : BitVec 1 := Scalar.cmpi .slt v905 c0_i32_734
  let c0_i32_735 : BitVec 32 := 0#32
  let v908 : BitVec 1 := Scalar.cmpi .slt v904 c0_i32_735
  let v909 : BitVec 1 := Scalar.xori v907 v908
  let c0_i32_733 : BitVec 32 := 0#32
  let v906 : BitVec 1 := Scalar.cmpi .ne v905 c0_i32_733
  let v910 : BitVec 1 := Scalar.andi v909 v906
  let v911 : BitVec 32 := Scalar.addi v905 v904
  let v912 : BitVec 32 := Scalar.select v910 v911 v905
  let c1_i32_744 : BitVec 32 := 1#32
  let v915 : BitVec 32 := Scalar.muli v912 c1_i32_744
  let v916 : BitVec 32 := Scalar.addi c0_i32_745 v915
  v916.toNat
def k0_dev55 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_749 : BitVec 32 := 24#32
  let v924 : BitVec 32 := Scalar.addi v2 c24_i32_749
  let c32_i32_750 : BitVec 32 := 32#32
  let c0_i32_751 : BitVec 32 := 0#32
  let v925 : BitVec 1 := Scalar.cmpi .eq c32_i32_750 c0_i32_751
  let c1_i32_752 : BitVec 32 := 1#32
  let v926 : BitVec 32 := Scalar.select v925 c1_i32_752 c32_i32_750
  let v927 : BitVec 32 := Scalar.remsi v924 v926
  let c0_i32_754 : BitVec 32 := 0#32
  let v929 : BitVec 1 := Scalar.cmpi .slt v927 c0_i32_754
  let c0_i32_755 : BitVec 32 := 0#32
  let v930 : BitVec 1 := Scalar.cmpi .slt v926 c0_i32_755
  let v931 : BitVec 1 := Scalar.xori v929 v930
  let c0_i32_753 : BitVec 32 := 0#32
  let v928 : BitVec 1 := Scalar.cmpi .ne v927 c0_i32_753
  let v932 : BitVec 1 := Scalar.andi v931 v928
  let v933 : BitVec 32 := Scalar.addi v927 v926
  let v934 : BitVec 32 := Scalar.select v932 v933 v927
  let c1_i32_764 : BitVec 32 := 1#32
  let v937 : BitVec 32 := Scalar.muli v934 c1_i32_764
  let v938 : BitVec 32 := Scalar.addi c0_i32_765 v937
  v938.toNat
def k0_dev56 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_769 : BitVec 32 := 25#32
  let v946 : BitVec 32 := Scalar.addi v2 c25_i32_769
  let c32_i32_770 : BitVec 32 := 32#32
  let c0_i32_771 : BitVec 32 := 0#32
  let v947 : BitVec 1 := Scalar.cmpi .eq c32_i32_770 c0_i32_771
  let c1_i32_772 : BitVec 32 := 1#32
  let v948 : BitVec 32 := Scalar.select v947 c1_i32_772 c32_i32_770
  let v949 : BitVec 32 := Scalar.remsi v946 v948
  let c0_i32_774 : BitVec 32 := 0#32
  let v951 : BitVec 1 := Scalar.cmpi .slt v949 c0_i32_774
  let c0_i32_775 : BitVec 32 := 0#32
  let v952 : BitVec 1 := Scalar.cmpi .slt v948 c0_i32_775
  let v953 : BitVec 1 := Scalar.xori v951 v952
  let c0_i32_773 : BitVec 32 := 0#32
  let v950 : BitVec 1 := Scalar.cmpi .ne v949 c0_i32_773
  let v954 : BitVec 1 := Scalar.andi v953 v950
  let v955 : BitVec 32 := Scalar.addi v949 v948
  let v956 : BitVec 32 := Scalar.select v954 v955 v949
  let c1_i32_784 : BitVec 32 := 1#32
  let v959 : BitVec 32 := Scalar.muli v956 c1_i32_784
  let v960 : BitVec 32 := Scalar.addi c0_i32_785 v959
  v960.toNat
def k0_dev57 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_789 : BitVec 32 := 26#32
  let v968 : BitVec 32 := Scalar.addi v2 c26_i32_789
  let c32_i32_790 : BitVec 32 := 32#32
  let c0_i32_791 : BitVec 32 := 0#32
  let v969 : BitVec 1 := Scalar.cmpi .eq c32_i32_790 c0_i32_791
  let c1_i32_792 : BitVec 32 := 1#32
  let v970 : BitVec 32 := Scalar.select v969 c1_i32_792 c32_i32_790
  let v971 : BitVec 32 := Scalar.remsi v968 v970
  let c0_i32_794 : BitVec 32 := 0#32
  let v973 : BitVec 1 := Scalar.cmpi .slt v971 c0_i32_794
  let c0_i32_795 : BitVec 32 := 0#32
  let v974 : BitVec 1 := Scalar.cmpi .slt v970 c0_i32_795
  let v975 : BitVec 1 := Scalar.xori v973 v974
  let c0_i32_793 : BitVec 32 := 0#32
  let v972 : BitVec 1 := Scalar.cmpi .ne v971 c0_i32_793
  let v976 : BitVec 1 := Scalar.andi v975 v972
  let v977 : BitVec 32 := Scalar.addi v971 v970
  let v978 : BitVec 32 := Scalar.select v976 v977 v971
  let c1_i32_804 : BitVec 32 := 1#32
  let v981 : BitVec 32 := Scalar.muli v978 c1_i32_804
  let v982 : BitVec 32 := Scalar.addi c0_i32_805 v981
  v982.toNat
def k0_dev58 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_809 : BitVec 32 := 27#32
  let v990 : BitVec 32 := Scalar.addi v2 c27_i32_809
  let c32_i32_810 : BitVec 32 := 32#32
  let c0_i32_811 : BitVec 32 := 0#32
  let v991 : BitVec 1 := Scalar.cmpi .eq c32_i32_810 c0_i32_811
  let c1_i32_812 : BitVec 32 := 1#32
  let v992 : BitVec 32 := Scalar.select v991 c1_i32_812 c32_i32_810
  let v993 : BitVec 32 := Scalar.remsi v990 v992
  let c0_i32_814 : BitVec 32 := 0#32
  let v995 : BitVec 1 := Scalar.cmpi .slt v993 c0_i32_814
  let c0_i32_815 : BitVec 32 := 0#32
  let v996 : BitVec 1 := Scalar.cmpi .slt v992 c0_i32_815
  let v997 : BitVec 1 := Scalar.xori v995 v996
  let c0_i32_813 : BitVec 32 := 0#32
  let v994 : BitVec 1 := Scalar.cmpi .ne v993 c0_i32_813
  let v998 : BitVec 1 := Scalar.andi v997 v994
  let v999 : BitVec 32 := Scalar.addi v993 v992
  let v1000 : BitVec 32 := Scalar.select v998 v999 v993
  let c1_i32_824 : BitVec 32 := 1#32
  let v1003 : BitVec 32 := Scalar.muli v1000 c1_i32_824
  let v1004 : BitVec 32 := Scalar.addi c0_i32_825 v1003
  v1004.toNat
def k0_dev59 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_829 : BitVec 32 := 28#32
  let v1012 : BitVec 32 := Scalar.addi v2 c28_i32_829
  let c32_i32_830 : BitVec 32 := 32#32
  let c0_i32_831 : BitVec 32 := 0#32
  let v1013 : BitVec 1 := Scalar.cmpi .eq c32_i32_830 c0_i32_831
  let c1_i32_832 : BitVec 32 := 1#32
  let v1014 : BitVec 32 := Scalar.select v1013 c1_i32_832 c32_i32_830
  let v1015 : BitVec 32 := Scalar.remsi v1012 v1014
  let c0_i32_834 : BitVec 32 := 0#32
  let v1017 : BitVec 1 := Scalar.cmpi .slt v1015 c0_i32_834
  let c0_i32_835 : BitVec 32 := 0#32
  let v1018 : BitVec 1 := Scalar.cmpi .slt v1014 c0_i32_835
  let v1019 : BitVec 1 := Scalar.xori v1017 v1018
  let c0_i32_833 : BitVec 32 := 0#32
  let v1016 : BitVec 1 := Scalar.cmpi .ne v1015 c0_i32_833
  let v1020 : BitVec 1 := Scalar.andi v1019 v1016
  let v1021 : BitVec 32 := Scalar.addi v1015 v1014
  let v1022 : BitVec 32 := Scalar.select v1020 v1021 v1015
  let c1_i32_844 : BitVec 32 := 1#32
  let v1025 : BitVec 32 := Scalar.muli v1022 c1_i32_844
  let v1026 : BitVec 32 := Scalar.addi c0_i32_845 v1025
  v1026.toNat
def k0_dev60 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_849 : BitVec 32 := 29#32
  let v1034 : BitVec 32 := Scalar.addi v2 c29_i32_849
  let c32_i32_850 : BitVec 32 := 32#32
  let c0_i32_851 : BitVec 32 := 0#32
  let v1035 : BitVec 1 := Scalar.cmpi .eq c32_i32_850 c0_i32_851
  let c1_i32_852 : BitVec 32 := 1#32
  let v1036 : BitVec 32 := Scalar.select v1035 c1_i32_852 c32_i32_850
  let v1037 : BitVec 32 := Scalar.remsi v1034 v1036
  let c0_i32_854 : BitVec 32 := 0#32
  let v1039 : BitVec 1 := Scalar.cmpi .slt v1037 c0_i32_854
  let c0_i32_855 : BitVec 32 := 0#32
  let v1040 : BitVec 1 := Scalar.cmpi .slt v1036 c0_i32_855
  let v1041 : BitVec 1 := Scalar.xori v1039 v1040
  let c0_i32_853 : BitVec 32 := 0#32
  let v1038 : BitVec 1 := Scalar.cmpi .ne v1037 c0_i32_853
  let v1042 : BitVec 1 := Scalar.andi v1041 v1038
  let v1043 : BitVec 32 := Scalar.addi v1037 v1036
  let v1044 : BitVec 32 := Scalar.select v1042 v1043 v1037
  let c1_i32_864 : BitVec 32 := 1#32
  let v1047 : BitVec 32 := Scalar.muli v1044 c1_i32_864
  let v1048 : BitVec 32 := Scalar.addi c0_i32_865 v1047
  v1048.toNat
def k0_dev61 (d0 : Dev nD) : Nat :=
  let c0_i32_885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_869 : BitVec 32 := 30#32
  let v1056 : BitVec 32 := Scalar.addi v2 c30_i32_869
  let c32_i32_870 : BitVec 32 := 32#32
  let c0_i32_871 : BitVec 32 := 0#32
  let v1057 : BitVec 1 := Scalar.cmpi .eq c32_i32_870 c0_i32_871
  let c1_i32_872 : BitVec 32 := 1#32
  let v1058 : BitVec 32 := Scalar.select v1057 c1_i32_872 c32_i32_870
  let v1059 : BitVec 32 := Scalar.remsi v1056 v1058
  let c0_i32_874 : BitVec 32 := 0#32
  let v1061 : BitVec 1 := Scalar.cmpi .slt v1059 c0_i32_874
  let c0_i32_875 : BitVec 32 := 0#32
  let v1062 : BitVec 1 := Scalar.cmpi .slt v1058 c0_i32_875
  let v1063 : BitVec 1 := Scalar.xori v1061 v1062
  let c0_i32_873 : BitVec 32 := 0#32
  let v1060 : BitVec 1 := Scalar.cmpi .ne v1059 c0_i32_873
  let v1064 : BitVec 1 := Scalar.andi v1063 v1060
  let v1065 : BitVec 32 := Scalar.addi v1059 v1058
  let v1066 : BitVec 32 := Scalar.select v1064 v1065 v1059
  let c1_i32_884 : BitVec 32 := 1#32
  let v1069 : BitVec 32 := Scalar.muli v1066 c1_i32_884
  let v1070 : BitVec 32 := Scalar.addi c0_i32_885 v1069
  v1070.toNat
def k0_dev62 (d0 : Dev nD) : Nat :=
  let c0_i32_905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_889 : BitVec 32 := 31#32
  let v1078 : BitVec 32 := Scalar.addi v2 c31_i32_889
  let c32_i32_890 : BitVec 32 := 32#32
  let c0_i32_891 : BitVec 32 := 0#32
  let v1079 : BitVec 1 := Scalar.cmpi .eq c32_i32_890 c0_i32_891
  let c1_i32_892 : BitVec 32 := 1#32
  let v1080 : BitVec 32 := Scalar.select v1079 c1_i32_892 c32_i32_890
  let v1081 : BitVec 32 := Scalar.remsi v1078 v1080
  let c0_i32_894 : BitVec 32 := 0#32
  let v1083 : BitVec 1 := Scalar.cmpi .slt v1081 c0_i32_894
  let c0_i32_895 : BitVec 32 := 0#32
  let v1084 : BitVec 1 := Scalar.cmpi .slt v1080 c0_i32_895
  let v1085 : BitVec 1 := Scalar.xori v1083 v1084
  let c0_i32_893 : BitVec 32 := 0#32
  let v1082 : BitVec 1 := Scalar.cmpi .ne v1081 c0_i32_893
  let v1086 : BitVec 1 := Scalar.andi v1085 v1082
  let v1087 : BitVec 32 := Scalar.addi v1081 v1080
  let v1088 : BitVec 32 := Scalar.select v1086 v1087 v1081
  let c1_i32_904 : BitVec 32 := 1#32
  let v1091 : BitVec 32 := Scalar.muli v1088 c1_i32_904
  let v1092 : BitVec 32 := Scalar.addi c0_i32_905 v1091
  v1092.toNat
def k0_dev63 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_919 : BitVec 32 := 1#32
  let v1111 : BitVec 32 := Scalar.addi v2 c1_i32_919
  let c32_i32_920 : BitVec 32 := 32#32
  let c0_i32_921 : BitVec 32 := 0#32
  let v1112 : BitVec 1 := Scalar.cmpi .eq c32_i32_920 c0_i32_921
  let c1_i32_922 : BitVec 32 := 1#32
  let v1113 : BitVec 32 := Scalar.select v1112 c1_i32_922 c32_i32_920
  let v1114 : BitVec 32 := Scalar.remsi v1111 v1113
  let c0_i32_924 : BitVec 32 := 0#32
  let v1116 : BitVec 1 := Scalar.cmpi .slt v1114 c0_i32_924
  let c0_i32_925 : BitVec 32 := 0#32
  let v1117 : BitVec 1 := Scalar.cmpi .slt v1113 c0_i32_925
  let v1118 : BitVec 1 := Scalar.xori v1116 v1117
  let c0_i32_923 : BitVec 32 := 0#32
  let v1115 : BitVec 1 := Scalar.cmpi .ne v1114 c0_i32_923
  let v1119 : BitVec 1 := Scalar.andi v1118 v1115
  let v1120 : BitVec 32 := Scalar.addi v1114 v1113
  let v1121 : BitVec 32 := Scalar.select v1119 v1120 v1114
  let c1_i32_933 : BitVec 32 := 1#32
  let v1124 : BitVec 32 := Scalar.muli v1121 c1_i32_933
  let v1125 : BitVec 32 := Scalar.addi c0_i32_934 v1124
  v1125.toNat
def k0_dev64 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_938 : BitVec 32 := 2#32
  let v1133 : BitVec 32 := Scalar.addi v2 c2_i32_938
  let c32_i32_939 : BitVec 32 := 32#32
  let c0_i32_940 : BitVec 32 := 0#32
  let v1134 : BitVec 1 := Scalar.cmpi .eq c32_i32_939 c0_i32_940
  let c1_i32_941 : BitVec 32 := 1#32
  let v1135 : BitVec 32 := Scalar.select v1134 c1_i32_941 c32_i32_939
  let v1136 : BitVec 32 := Scalar.remsi v1133 v1135
  let c0_i32_943 : BitVec 32 := 0#32
  let v1138 : BitVec 1 := Scalar.cmpi .slt v1136 c0_i32_943
  let c0_i32_944 : BitVec 32 := 0#32
  let v1139 : BitVec 1 := Scalar.cmpi .slt v1135 c0_i32_944
  let v1140 : BitVec 1 := Scalar.xori v1138 v1139
  let c0_i32_942 : BitVec 32 := 0#32
  let v1137 : BitVec 1 := Scalar.cmpi .ne v1136 c0_i32_942
  let v1141 : BitVec 1 := Scalar.andi v1140 v1137
  let v1142 : BitVec 32 := Scalar.addi v1136 v1135
  let v1143 : BitVec 32 := Scalar.select v1141 v1142 v1136
  let c1_i32_953 : BitVec 32 := 1#32
  let v1146 : BitVec 32 := Scalar.muli v1143 c1_i32_953
  let v1147 : BitVec 32 := Scalar.addi c0_i32_954 v1146
  v1147.toNat
def k0_dev65 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_958 : BitVec 32 := 3#32
  let v1155 : BitVec 32 := Scalar.addi v2 c3_i32_958
  let c32_i32_959 : BitVec 32 := 32#32
  let c0_i32_960 : BitVec 32 := 0#32
  let v1156 : BitVec 1 := Scalar.cmpi .eq c32_i32_959 c0_i32_960
  let c1_i32_961 : BitVec 32 := 1#32
  let v1157 : BitVec 32 := Scalar.select v1156 c1_i32_961 c32_i32_959
  let v1158 : BitVec 32 := Scalar.remsi v1155 v1157
  let c0_i32_963 : BitVec 32 := 0#32
  let v1160 : BitVec 1 := Scalar.cmpi .slt v1158 c0_i32_963
  let c0_i32_964 : BitVec 32 := 0#32
  let v1161 : BitVec 1 := Scalar.cmpi .slt v1157 c0_i32_964
  let v1162 : BitVec 1 := Scalar.xori v1160 v1161
  let c0_i32_962 : BitVec 32 := 0#32
  let v1159 : BitVec 1 := Scalar.cmpi .ne v1158 c0_i32_962
  let v1163 : BitVec 1 := Scalar.andi v1162 v1159
  let v1164 : BitVec 32 := Scalar.addi v1158 v1157
  let v1165 : BitVec 32 := Scalar.select v1163 v1164 v1158
  let c1_i32_973 : BitVec 32 := 1#32
  let v1168 : BitVec 32 := Scalar.muli v1165 c1_i32_973
  let v1169 : BitVec 32 := Scalar.addi c0_i32_974 v1168
  v1169.toNat
def k0_dev66 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_978 : BitVec 32 := 4#32
  let v1177 : BitVec 32 := Scalar.addi v2 c4_i32_978
  let c32_i32_979 : BitVec 32 := 32#32
  let c0_i32_980 : BitVec 32 := 0#32
  let v1178 : BitVec 1 := Scalar.cmpi .eq c32_i32_979 c0_i32_980
  let c1_i32_981 : BitVec 32 := 1#32
  let v1179 : BitVec 32 := Scalar.select v1178 c1_i32_981 c32_i32_979
  let v1180 : BitVec 32 := Scalar.remsi v1177 v1179
  let c0_i32_983 : BitVec 32 := 0#32
  let v1182 : BitVec 1 := Scalar.cmpi .slt v1180 c0_i32_983
  let c0_i32_984 : BitVec 32 := 0#32
  let v1183 : BitVec 1 := Scalar.cmpi .slt v1179 c0_i32_984
  let v1184 : BitVec 1 := Scalar.xori v1182 v1183
  let c0_i32_982 : BitVec 32 := 0#32
  let v1181 : BitVec 1 := Scalar.cmpi .ne v1180 c0_i32_982
  let v1185 : BitVec 1 := Scalar.andi v1184 v1181
  let v1186 : BitVec 32 := Scalar.addi v1180 v1179
  let v1187 : BitVec 32 := Scalar.select v1185 v1186 v1180
  let c1_i32_993 : BitVec 32 := 1#32
  let v1190 : BitVec 32 := Scalar.muli v1187 c1_i32_993
  let v1191 : BitVec 32 := Scalar.addi c0_i32_994 v1190
  v1191.toNat
def k0_dev67 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_998 : BitVec 32 := 5#32
  let v1199 : BitVec 32 := Scalar.addi v2 c5_i32_998
  let c32_i32_999 : BitVec 32 := 32#32
  let c0_i32_1000 : BitVec 32 := 0#32
  let v1200 : BitVec 1 := Scalar.cmpi .eq c32_i32_999 c0_i32_1000
  let c1_i32_1001 : BitVec 32 := 1#32
  let v1201 : BitVec 32 := Scalar.select v1200 c1_i32_1001 c32_i32_999
  let v1202 : BitVec 32 := Scalar.remsi v1199 v1201
  let c0_i32_1003 : BitVec 32 := 0#32
  let v1204 : BitVec 1 := Scalar.cmpi .slt v1202 c0_i32_1003
  let c0_i32_1004 : BitVec 32 := 0#32
  let v1205 : BitVec 1 := Scalar.cmpi .slt v1201 c0_i32_1004
  let v1206 : BitVec 1 := Scalar.xori v1204 v1205
  let c0_i32_1002 : BitVec 32 := 0#32
  let v1203 : BitVec 1 := Scalar.cmpi .ne v1202 c0_i32_1002
  let v1207 : BitVec 1 := Scalar.andi v1206 v1203
  let v1208 : BitVec 32 := Scalar.addi v1202 v1201
  let v1209 : BitVec 32 := Scalar.select v1207 v1208 v1202
  let c1_i32_1013 : BitVec 32 := 1#32
  let v1212 : BitVec 32 := Scalar.muli v1209 c1_i32_1013
  let v1213 : BitVec 32 := Scalar.addi c0_i32_1014 v1212
  v1213.toNat
def k0_dev68 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1018 : BitVec 32 := 6#32
  let v1221 : BitVec 32 := Scalar.addi v2 c6_i32_1018
  let c32_i32_1019 : BitVec 32 := 32#32
  let c0_i32_1020 : BitVec 32 := 0#32
  let v1222 : BitVec 1 := Scalar.cmpi .eq c32_i32_1019 c0_i32_1020
  let c1_i32_1021 : BitVec 32 := 1#32
  let v1223 : BitVec 32 := Scalar.select v1222 c1_i32_1021 c32_i32_1019
  let v1224 : BitVec 32 := Scalar.remsi v1221 v1223
  let c0_i32_1023 : BitVec 32 := 0#32
  let v1226 : BitVec 1 := Scalar.cmpi .slt v1224 c0_i32_1023
  let c0_i32_1024 : BitVec 32 := 0#32
  let v1227 : BitVec 1 := Scalar.cmpi .slt v1223 c0_i32_1024
  let v1228 : BitVec 1 := Scalar.xori v1226 v1227
  let c0_i32_1022 : BitVec 32 := 0#32
  let v1225 : BitVec 1 := Scalar.cmpi .ne v1224 c0_i32_1022
  let v1229 : BitVec 1 := Scalar.andi v1228 v1225
  let v1230 : BitVec 32 := Scalar.addi v1224 v1223
  let v1231 : BitVec 32 := Scalar.select v1229 v1230 v1224
  let c1_i32_1033 : BitVec 32 := 1#32
  let v1234 : BitVec 32 := Scalar.muli v1231 c1_i32_1033
  let v1235 : BitVec 32 := Scalar.addi c0_i32_1034 v1234
  v1235.toNat
def k0_dev69 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1038 : BitVec 32 := 7#32
  let v1243 : BitVec 32 := Scalar.addi v2 c7_i32_1038
  let c32_i32_1039 : BitVec 32 := 32#32
  let c0_i32_1040 : BitVec 32 := 0#32
  let v1244 : BitVec 1 := Scalar.cmpi .eq c32_i32_1039 c0_i32_1040
  let c1_i32_1041 : BitVec 32 := 1#32
  let v1245 : BitVec 32 := Scalar.select v1244 c1_i32_1041 c32_i32_1039
  let v1246 : BitVec 32 := Scalar.remsi v1243 v1245
  let c0_i32_1043 : BitVec 32 := 0#32
  let v1248 : BitVec 1 := Scalar.cmpi .slt v1246 c0_i32_1043
  let c0_i32_1044 : BitVec 32 := 0#32
  let v1249 : BitVec 1 := Scalar.cmpi .slt v1245 c0_i32_1044
  let v1250 : BitVec 1 := Scalar.xori v1248 v1249
  let c0_i32_1042 : BitVec 32 := 0#32
  let v1247 : BitVec 1 := Scalar.cmpi .ne v1246 c0_i32_1042
  let v1251 : BitVec 1 := Scalar.andi v1250 v1247
  let v1252 : BitVec 32 := Scalar.addi v1246 v1245
  let v1253 : BitVec 32 := Scalar.select v1251 v1252 v1246
  let c1_i32_1053 : BitVec 32 := 1#32
  let v1256 : BitVec 32 := Scalar.muli v1253 c1_i32_1053
  let v1257 : BitVec 32 := Scalar.addi c0_i32_1054 v1256
  v1257.toNat
def k0_dev70 (d0 : Dev nD) : Nat :=
  let c0_i32_1074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1058 : BitVec 32 := 8#32
  let v1265 : BitVec 32 := Scalar.addi v2 c8_i32_1058
  let c32_i32_1059 : BitVec 32 := 32#32
  let c0_i32_1060 : BitVec 32 := 0#32
  let v1266 : BitVec 1 := Scalar.cmpi .eq c32_i32_1059 c0_i32_1060
  let c1_i32_1061 : BitVec 32 := 1#32
  let v1267 : BitVec 32 := Scalar.select v1266 c1_i32_1061 c32_i32_1059
  let v1268 : BitVec 32 := Scalar.remsi v1265 v1267
  let c0_i32_1063 : BitVec 32 := 0#32
  let v1270 : BitVec 1 := Scalar.cmpi .slt v1268 c0_i32_1063
  let c0_i32_1064 : BitVec 32 := 0#32
  let v1271 : BitVec 1 := Scalar.cmpi .slt v1267 c0_i32_1064
  let v1272 : BitVec 1 := Scalar.xori v1270 v1271
  let c0_i32_1062 : BitVec 32 := 0#32
  let v1269 : BitVec 1 := Scalar.cmpi .ne v1268 c0_i32_1062
  let v1273 : BitVec 1 := Scalar.andi v1272 v1269
  let v1274 : BitVec 32 := Scalar.addi v1268 v1267
  let v1275 : BitVec 32 := Scalar.select v1273 v1274 v1268
  let c1_i32_1073 : BitVec 32 := 1#32
  let v1278 : BitVec 32 := Scalar.muli v1275 c1_i32_1073
  let v1279 : BitVec 32 := Scalar.addi c0_i32_1074 v1278
  v1279.toNat
def k0_dev71 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1078 : BitVec 32 := 9#32
  let v1287 : BitVec 32 := Scalar.addi v2 c9_i32_1078
  let c32_i32_1079 : BitVec 32 := 32#32
  let c0_i32_1080 : BitVec 32 := 0#32
  let v1288 : BitVec 1 := Scalar.cmpi .eq c32_i32_1079 c0_i32_1080
  let c1_i32_1081 : BitVec 32 := 1#32
  let v1289 : BitVec 32 := Scalar.select v1288 c1_i32_1081 c32_i32_1079
  let v1290 : BitVec 32 := Scalar.remsi v1287 v1289
  let c0_i32_1083 : BitVec 32 := 0#32
  let v1292 : BitVec 1 := Scalar.cmpi .slt v1290 c0_i32_1083
  let c0_i32_1084 : BitVec 32 := 0#32
  let v1293 : BitVec 1 := Scalar.cmpi .slt v1289 c0_i32_1084
  let v1294 : BitVec 1 := Scalar.xori v1292 v1293
  let c0_i32_1082 : BitVec 32 := 0#32
  let v1291 : BitVec 1 := Scalar.cmpi .ne v1290 c0_i32_1082
  let v1295 : BitVec 1 := Scalar.andi v1294 v1291
  let v1296 : BitVec 32 := Scalar.addi v1290 v1289
  let v1297 : BitVec 32 := Scalar.select v1295 v1296 v1290
  let c1_i32_1093 : BitVec 32 := 1#32
  let v1300 : BitVec 32 := Scalar.muli v1297 c1_i32_1093
  let v1301 : BitVec 32 := Scalar.addi c0_i32_1094 v1300
  v1301.toNat
def k0_dev72 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1098 : BitVec 32 := 10#32
  let v1309 : BitVec 32 := Scalar.addi v2 c10_i32_1098
  let c32_i32_1099 : BitVec 32 := 32#32
  let c0_i32_1100 : BitVec 32 := 0#32
  let v1310 : BitVec 1 := Scalar.cmpi .eq c32_i32_1099 c0_i32_1100
  let c1_i32_1101 : BitVec 32 := 1#32
  let v1311 : BitVec 32 := Scalar.select v1310 c1_i32_1101 c32_i32_1099
  let v1312 : BitVec 32 := Scalar.remsi v1309 v1311
  let c0_i32_1103 : BitVec 32 := 0#32
  let v1314 : BitVec 1 := Scalar.cmpi .slt v1312 c0_i32_1103
  let c0_i32_1104 : BitVec 32 := 0#32
  let v1315 : BitVec 1 := Scalar.cmpi .slt v1311 c0_i32_1104
  let v1316 : BitVec 1 := Scalar.xori v1314 v1315
  let c0_i32_1102 : BitVec 32 := 0#32
  let v1313 : BitVec 1 := Scalar.cmpi .ne v1312 c0_i32_1102
  let v1317 : BitVec 1 := Scalar.andi v1316 v1313
  let v1318 : BitVec 32 := Scalar.addi v1312 v1311
  let v1319 : BitVec 32 := Scalar.select v1317 v1318 v1312
  let c1_i32_1113 : BitVec 32 := 1#32
  let v1322 : BitVec 32 := Scalar.muli v1319 c1_i32_1113
  let v1323 : BitVec 32 := Scalar.addi c0_i32_1114 v1322
  v1323.toNat
def k0_dev73 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1118 : BitVec 32 := 11#32
  let v1331 : BitVec 32 := Scalar.addi v2 c11_i32_1118
  let c32_i32_1119 : BitVec 32 := 32#32
  let c0_i32_1120 : BitVec 32 := 0#32
  let v1332 : BitVec 1 := Scalar.cmpi .eq c32_i32_1119 c0_i32_1120
  let c1_i32_1121 : BitVec 32 := 1#32
  let v1333 : BitVec 32 := Scalar.select v1332 c1_i32_1121 c32_i32_1119
  let v1334 : BitVec 32 := Scalar.remsi v1331 v1333
  let c0_i32_1123 : BitVec 32 := 0#32
  let v1336 : BitVec 1 := Scalar.cmpi .slt v1334 c0_i32_1123
  let c0_i32_1124 : BitVec 32 := 0#32
  let v1337 : BitVec 1 := Scalar.cmpi .slt v1333 c0_i32_1124
  let v1338 : BitVec 1 := Scalar.xori v1336 v1337
  let c0_i32_1122 : BitVec 32 := 0#32
  let v1335 : BitVec 1 := Scalar.cmpi .ne v1334 c0_i32_1122
  let v1339 : BitVec 1 := Scalar.andi v1338 v1335
  let v1340 : BitVec 32 := Scalar.addi v1334 v1333
  let v1341 : BitVec 32 := Scalar.select v1339 v1340 v1334
  let c1_i32_1133 : BitVec 32 := 1#32
  let v1344 : BitVec 32 := Scalar.muli v1341 c1_i32_1133
  let v1345 : BitVec 32 := Scalar.addi c0_i32_1134 v1344
  v1345.toNat
def k0_dev74 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1138 : BitVec 32 := 12#32
  let v1353 : BitVec 32 := Scalar.addi v2 c12_i32_1138
  let c32_i32_1139 : BitVec 32 := 32#32
  let c0_i32_1140 : BitVec 32 := 0#32
  let v1354 : BitVec 1 := Scalar.cmpi .eq c32_i32_1139 c0_i32_1140
  let c1_i32_1141 : BitVec 32 := 1#32
  let v1355 : BitVec 32 := Scalar.select v1354 c1_i32_1141 c32_i32_1139
  let v1356 : BitVec 32 := Scalar.remsi v1353 v1355
  let c0_i32_1143 : BitVec 32 := 0#32
  let v1358 : BitVec 1 := Scalar.cmpi .slt v1356 c0_i32_1143
  let c0_i32_1144 : BitVec 32 := 0#32
  let v1359 : BitVec 1 := Scalar.cmpi .slt v1355 c0_i32_1144
  let v1360 : BitVec 1 := Scalar.xori v1358 v1359
  let c0_i32_1142 : BitVec 32 := 0#32
  let v1357 : BitVec 1 := Scalar.cmpi .ne v1356 c0_i32_1142
  let v1361 : BitVec 1 := Scalar.andi v1360 v1357
  let v1362 : BitVec 32 := Scalar.addi v1356 v1355
  let v1363 : BitVec 32 := Scalar.select v1361 v1362 v1356
  let c1_i32_1153 : BitVec 32 := 1#32
  let v1366 : BitVec 32 := Scalar.muli v1363 c1_i32_1153
  let v1367 : BitVec 32 := Scalar.addi c0_i32_1154 v1366
  v1367.toNat
def k0_dev75 (d0 : Dev nD) : Nat :=
  let c0_i32_1174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1158 : BitVec 32 := 13#32
  let v1375 : BitVec 32 := Scalar.addi v2 c13_i32_1158
  let c32_i32_1159 : BitVec 32 := 32#32
  let c0_i32_1160 : BitVec 32 := 0#32
  let v1376 : BitVec 1 := Scalar.cmpi .eq c32_i32_1159 c0_i32_1160
  let c1_i32_1161 : BitVec 32 := 1#32
  let v1377 : BitVec 32 := Scalar.select v1376 c1_i32_1161 c32_i32_1159
  let v1378 : BitVec 32 := Scalar.remsi v1375 v1377
  let c0_i32_1163 : BitVec 32 := 0#32
  let v1380 : BitVec 1 := Scalar.cmpi .slt v1378 c0_i32_1163
  let c0_i32_1164 : BitVec 32 := 0#32
  let v1381 : BitVec 1 := Scalar.cmpi .slt v1377 c0_i32_1164
  let v1382 : BitVec 1 := Scalar.xori v1380 v1381
  let c0_i32_1162 : BitVec 32 := 0#32
  let v1379 : BitVec 1 := Scalar.cmpi .ne v1378 c0_i32_1162
  let v1383 : BitVec 1 := Scalar.andi v1382 v1379
  let v1384 : BitVec 32 := Scalar.addi v1378 v1377
  let v1385 : BitVec 32 := Scalar.select v1383 v1384 v1378
  let c1_i32_1173 : BitVec 32 := 1#32
  let v1388 : BitVec 32 := Scalar.muli v1385 c1_i32_1173
  let v1389 : BitVec 32 := Scalar.addi c0_i32_1174 v1388
  v1389.toNat
def k0_dev76 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1178 : BitVec 32 := 14#32
  let v1397 : BitVec 32 := Scalar.addi v2 c14_i32_1178
  let c32_i32_1179 : BitVec 32 := 32#32
  let c0_i32_1180 : BitVec 32 := 0#32
  let v1398 : BitVec 1 := Scalar.cmpi .eq c32_i32_1179 c0_i32_1180
  let c1_i32_1181 : BitVec 32 := 1#32
  let v1399 : BitVec 32 := Scalar.select v1398 c1_i32_1181 c32_i32_1179
  let v1400 : BitVec 32 := Scalar.remsi v1397 v1399
  let c0_i32_1183 : BitVec 32 := 0#32
  let v1402 : BitVec 1 := Scalar.cmpi .slt v1400 c0_i32_1183
  let c0_i32_1184 : BitVec 32 := 0#32
  let v1403 : BitVec 1 := Scalar.cmpi .slt v1399 c0_i32_1184
  let v1404 : BitVec 1 := Scalar.xori v1402 v1403
  let c0_i32_1182 : BitVec 32 := 0#32
  let v1401 : BitVec 1 := Scalar.cmpi .ne v1400 c0_i32_1182
  let v1405 : BitVec 1 := Scalar.andi v1404 v1401
  let v1406 : BitVec 32 := Scalar.addi v1400 v1399
  let v1407 : BitVec 32 := Scalar.select v1405 v1406 v1400
  let c1_i32_1193 : BitVec 32 := 1#32
  let v1410 : BitVec 32 := Scalar.muli v1407 c1_i32_1193
  let v1411 : BitVec 32 := Scalar.addi c0_i32_1194 v1410
  v1411.toNat
def k0_dev77 (d0 : Dev nD) : Nat :=
  let c0_i32_1214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1198 : BitVec 32 := 15#32
  let v1419 : BitVec 32 := Scalar.addi v2 c15_i32_1198
  let c32_i32_1199 : BitVec 32 := 32#32
  let c0_i32_1200 : BitVec 32 := 0#32
  let v1420 : BitVec 1 := Scalar.cmpi .eq c32_i32_1199 c0_i32_1200
  let c1_i32_1201 : BitVec 32 := 1#32
  let v1421 : BitVec 32 := Scalar.select v1420 c1_i32_1201 c32_i32_1199
  let v1422 : BitVec 32 := Scalar.remsi v1419 v1421
  let c0_i32_1203 : BitVec 32 := 0#32
  let v1424 : BitVec 1 := Scalar.cmpi .slt v1422 c0_i32_1203
  let c0_i32_1204 : BitVec 32 := 0#32
  let v1425 : BitVec 1 := Scalar.cmpi .slt v1421 c0_i32_1204
  let v1426 : BitVec 1 := Scalar.xori v1424 v1425
  let c0_i32_1202 : BitVec 32 := 0#32
  let v1423 : BitVec 1 := Scalar.cmpi .ne v1422 c0_i32_1202
  let v1427 : BitVec 1 := Scalar.andi v1426 v1423
  let v1428 : BitVec 32 := Scalar.addi v1422 v1421
  let v1429 : BitVec 32 := Scalar.select v1427 v1428 v1422
  let c1_i32_1213 : BitVec 32 := 1#32
  let v1432 : BitVec 32 := Scalar.muli v1429 c1_i32_1213
  let v1433 : BitVec 32 := Scalar.addi c0_i32_1214 v1432
  v1433.toNat
def k0_dev78 (d0 : Dev nD) : Nat :=
  let c0_i32_1234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1218 : BitVec 32 := 16#32
  let v1441 : BitVec 32 := Scalar.addi v2 c16_i32_1218
  let c32_i32_1219 : BitVec 32 := 32#32
  let c0_i32_1220 : BitVec 32 := 0#32
  let v1442 : BitVec 1 := Scalar.cmpi .eq c32_i32_1219 c0_i32_1220
  let c1_i32_1221 : BitVec 32 := 1#32
  let v1443 : BitVec 32 := Scalar.select v1442 c1_i32_1221 c32_i32_1219
  let v1444 : BitVec 32 := Scalar.remsi v1441 v1443
  let c0_i32_1223 : BitVec 32 := 0#32
  let v1446 : BitVec 1 := Scalar.cmpi .slt v1444 c0_i32_1223
  let c0_i32_1224 : BitVec 32 := 0#32
  let v1447 : BitVec 1 := Scalar.cmpi .slt v1443 c0_i32_1224
  let v1448 : BitVec 1 := Scalar.xori v1446 v1447
  let c0_i32_1222 : BitVec 32 := 0#32
  let v1445 : BitVec 1 := Scalar.cmpi .ne v1444 c0_i32_1222
  let v1449 : BitVec 1 := Scalar.andi v1448 v1445
  let v1450 : BitVec 32 := Scalar.addi v1444 v1443
  let v1451 : BitVec 32 := Scalar.select v1449 v1450 v1444
  let c1_i32_1233 : BitVec 32 := 1#32
  let v1454 : BitVec 32 := Scalar.muli v1451 c1_i32_1233
  let v1455 : BitVec 32 := Scalar.addi c0_i32_1234 v1454
  v1455.toNat
def k0_dev79 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1238 : BitVec 32 := 17#32
  let v1463 : BitVec 32 := Scalar.addi v2 c17_i32_1238
  let c32_i32_1239 : BitVec 32 := 32#32
  let c0_i32_1240 : BitVec 32 := 0#32
  let v1464 : BitVec 1 := Scalar.cmpi .eq c32_i32_1239 c0_i32_1240
  let c1_i32_1241 : BitVec 32 := 1#32
  let v1465 : BitVec 32 := Scalar.select v1464 c1_i32_1241 c32_i32_1239
  let v1466 : BitVec 32 := Scalar.remsi v1463 v1465
  let c0_i32_1243 : BitVec 32 := 0#32
  let v1468 : BitVec 1 := Scalar.cmpi .slt v1466 c0_i32_1243
  let c0_i32_1244 : BitVec 32 := 0#32
  let v1469 : BitVec 1 := Scalar.cmpi .slt v1465 c0_i32_1244
  let v1470 : BitVec 1 := Scalar.xori v1468 v1469
  let c0_i32_1242 : BitVec 32 := 0#32
  let v1467 : BitVec 1 := Scalar.cmpi .ne v1466 c0_i32_1242
  let v1471 : BitVec 1 := Scalar.andi v1470 v1467
  let v1472 : BitVec 32 := Scalar.addi v1466 v1465
  let v1473 : BitVec 32 := Scalar.select v1471 v1472 v1466
  let c1_i32_1253 : BitVec 32 := 1#32
  let v1476 : BitVec 32 := Scalar.muli v1473 c1_i32_1253
  let v1477 : BitVec 32 := Scalar.addi c0_i32_1254 v1476
  v1477.toNat
def k0_dev80 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1258 : BitVec 32 := 18#32
  let v1485 : BitVec 32 := Scalar.addi v2 c18_i32_1258
  let c32_i32_1259 : BitVec 32 := 32#32
  let c0_i32_1260 : BitVec 32 := 0#32
  let v1486 : BitVec 1 := Scalar.cmpi .eq c32_i32_1259 c0_i32_1260
  let c1_i32_1261 : BitVec 32 := 1#32
  let v1487 : BitVec 32 := Scalar.select v1486 c1_i32_1261 c32_i32_1259
  let v1488 : BitVec 32 := Scalar.remsi v1485 v1487
  let c0_i32_1263 : BitVec 32 := 0#32
  let v1490 : BitVec 1 := Scalar.cmpi .slt v1488 c0_i32_1263
  let c0_i32_1264 : BitVec 32 := 0#32
  let v1491 : BitVec 1 := Scalar.cmpi .slt v1487 c0_i32_1264
  let v1492 : BitVec 1 := Scalar.xori v1490 v1491
  let c0_i32_1262 : BitVec 32 := 0#32
  let v1489 : BitVec 1 := Scalar.cmpi .ne v1488 c0_i32_1262
  let v1493 : BitVec 1 := Scalar.andi v1492 v1489
  let v1494 : BitVec 32 := Scalar.addi v1488 v1487
  let v1495 : BitVec 32 := Scalar.select v1493 v1494 v1488
  let c1_i32_1273 : BitVec 32 := 1#32
  let v1498 : BitVec 32 := Scalar.muli v1495 c1_i32_1273
  let v1499 : BitVec 32 := Scalar.addi c0_i32_1274 v1498
  v1499.toNat
def k0_dev81 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1278 : BitVec 32 := 19#32
  let v1507 : BitVec 32 := Scalar.addi v2 c19_i32_1278
  let c32_i32_1279 : BitVec 32 := 32#32
  let c0_i32_1280 : BitVec 32 := 0#32
  let v1508 : BitVec 1 := Scalar.cmpi .eq c32_i32_1279 c0_i32_1280
  let c1_i32_1281 : BitVec 32 := 1#32
  let v1509 : BitVec 32 := Scalar.select v1508 c1_i32_1281 c32_i32_1279
  let v1510 : BitVec 32 := Scalar.remsi v1507 v1509
  let c0_i32_1283 : BitVec 32 := 0#32
  let v1512 : BitVec 1 := Scalar.cmpi .slt v1510 c0_i32_1283
  let c0_i32_1284 : BitVec 32 := 0#32
  let v1513 : BitVec 1 := Scalar.cmpi .slt v1509 c0_i32_1284
  let v1514 : BitVec 1 := Scalar.xori v1512 v1513
  let c0_i32_1282 : BitVec 32 := 0#32
  let v1511 : BitVec 1 := Scalar.cmpi .ne v1510 c0_i32_1282
  let v1515 : BitVec 1 := Scalar.andi v1514 v1511
  let v1516 : BitVec 32 := Scalar.addi v1510 v1509
  let v1517 : BitVec 32 := Scalar.select v1515 v1516 v1510
  let c1_i32_1293 : BitVec 32 := 1#32
  let v1520 : BitVec 32 := Scalar.muli v1517 c1_i32_1293
  let v1521 : BitVec 32 := Scalar.addi c0_i32_1294 v1520
  v1521.toNat
def k0_dev82 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1298 : BitVec 32 := 20#32
  let v1529 : BitVec 32 := Scalar.addi v2 c20_i32_1298
  let c32_i32_1299 : BitVec 32 := 32#32
  let c0_i32_1300 : BitVec 32 := 0#32
  let v1530 : BitVec 1 := Scalar.cmpi .eq c32_i32_1299 c0_i32_1300
  let c1_i32_1301 : BitVec 32 := 1#32
  let v1531 : BitVec 32 := Scalar.select v1530 c1_i32_1301 c32_i32_1299
  let v1532 : BitVec 32 := Scalar.remsi v1529 v1531
  let c0_i32_1303 : BitVec 32 := 0#32
  let v1534 : BitVec 1 := Scalar.cmpi .slt v1532 c0_i32_1303
  let c0_i32_1304 : BitVec 32 := 0#32
  let v1535 : BitVec 1 := Scalar.cmpi .slt v1531 c0_i32_1304
  let v1536 : BitVec 1 := Scalar.xori v1534 v1535
  let c0_i32_1302 : BitVec 32 := 0#32
  let v1533 : BitVec 1 := Scalar.cmpi .ne v1532 c0_i32_1302
  let v1537 : BitVec 1 := Scalar.andi v1536 v1533
  let v1538 : BitVec 32 := Scalar.addi v1532 v1531
  let v1539 : BitVec 32 := Scalar.select v1537 v1538 v1532
  let c1_i32_1313 : BitVec 32 := 1#32
  let v1542 : BitVec 32 := Scalar.muli v1539 c1_i32_1313
  let v1543 : BitVec 32 := Scalar.addi c0_i32_1314 v1542
  v1543.toNat
def k0_dev83 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1318 : BitVec 32 := 21#32
  let v1551 : BitVec 32 := Scalar.addi v2 c21_i32_1318
  let c32_i32_1319 : BitVec 32 := 32#32
  let c0_i32_1320 : BitVec 32 := 0#32
  let v1552 : BitVec 1 := Scalar.cmpi .eq c32_i32_1319 c0_i32_1320
  let c1_i32_1321 : BitVec 32 := 1#32
  let v1553 : BitVec 32 := Scalar.select v1552 c1_i32_1321 c32_i32_1319
  let v1554 : BitVec 32 := Scalar.remsi v1551 v1553
  let c0_i32_1323 : BitVec 32 := 0#32
  let v1556 : BitVec 1 := Scalar.cmpi .slt v1554 c0_i32_1323
  let c0_i32_1324 : BitVec 32 := 0#32
  let v1557 : BitVec 1 := Scalar.cmpi .slt v1553 c0_i32_1324
  let v1558 : BitVec 1 := Scalar.xori v1556 v1557
  let c0_i32_1322 : BitVec 32 := 0#32
  let v1555 : BitVec 1 := Scalar.cmpi .ne v1554 c0_i32_1322
  let v1559 : BitVec 1 := Scalar.andi v1558 v1555
  let v1560 : BitVec 32 := Scalar.addi v1554 v1553
  let v1561 : BitVec 32 := Scalar.select v1559 v1560 v1554
  let c1_i32_1333 : BitVec 32 := 1#32
  let v1564 : BitVec 32 := Scalar.muli v1561 c1_i32_1333
  let v1565 : BitVec 32 := Scalar.addi c0_i32_1334 v1564
  v1565.toNat
def k0_dev84 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1338 : BitVec 32 := 22#32
  let v1573 : BitVec 32 := Scalar.addi v2 c22_i32_1338
  let c32_i32_1339 : BitVec 32 := 32#32
  let c0_i32_1340 : BitVec 32 := 0#32
  let v1574 : BitVec 1 := Scalar.cmpi .eq c32_i32_1339 c0_i32_1340
  let c1_i32_1341 : BitVec 32 := 1#32
  let v1575 : BitVec 32 := Scalar.select v1574 c1_i32_1341 c32_i32_1339
  let v1576 : BitVec 32 := Scalar.remsi v1573 v1575
  let c0_i32_1343 : BitVec 32 := 0#32
  let v1578 : BitVec 1 := Scalar.cmpi .slt v1576 c0_i32_1343
  let c0_i32_1344 : BitVec 32 := 0#32
  let v1579 : BitVec 1 := Scalar.cmpi .slt v1575 c0_i32_1344
  let v1580 : BitVec 1 := Scalar.xori v1578 v1579
  let c0_i32_1342 : BitVec 32 := 0#32
  let v1577 : BitVec 1 := Scalar.cmpi .ne v1576 c0_i32_1342
  let v1581 : BitVec 1 := Scalar.andi v1580 v1577
  let v1582 : BitVec 32 := Scalar.addi v1576 v1575
  let v1583 : BitVec 32 := Scalar.select v1581 v1582 v1576
  let c1_i32_1353 : BitVec 32 := 1#32
  let v1586 : BitVec 32 := Scalar.muli v1583 c1_i32_1353
  let v1587 : BitVec 32 := Scalar.addi c0_i32_1354 v1586
  v1587.toNat
def k0_dev85 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1358 : BitVec 32 := 23#32
  let v1595 : BitVec 32 := Scalar.addi v2 c23_i32_1358
  let c32_i32_1359 : BitVec 32 := 32#32
  let c0_i32_1360 : BitVec 32 := 0#32
  let v1596 : BitVec 1 := Scalar.cmpi .eq c32_i32_1359 c0_i32_1360
  let c1_i32_1361 : BitVec 32 := 1#32
  let v1597 : BitVec 32 := Scalar.select v1596 c1_i32_1361 c32_i32_1359
  let v1598 : BitVec 32 := Scalar.remsi v1595 v1597
  let c0_i32_1363 : BitVec 32 := 0#32
  let v1600 : BitVec 1 := Scalar.cmpi .slt v1598 c0_i32_1363
  let c0_i32_1364 : BitVec 32 := 0#32
  let v1601 : BitVec 1 := Scalar.cmpi .slt v1597 c0_i32_1364
  let v1602 : BitVec 1 := Scalar.xori v1600 v1601
  let c0_i32_1362 : BitVec 32 := 0#32
  let v1599 : BitVec 1 := Scalar.cmpi .ne v1598 c0_i32_1362
  let v1603 : BitVec 1 := Scalar.andi v1602 v1599
  let v1604 : BitVec 32 := Scalar.addi v1598 v1597
  let v1605 : BitVec 32 := Scalar.select v1603 v1604 v1598
  let c1_i32_1373 : BitVec 32 := 1#32
  let v1608 : BitVec 32 := Scalar.muli v1605 c1_i32_1373
  let v1609 : BitVec 32 := Scalar.addi c0_i32_1374 v1608
  v1609.toNat
def k0_dev86 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1378 : BitVec 32 := 24#32
  let v1617 : BitVec 32 := Scalar.addi v2 c24_i32_1378
  let c32_i32_1379 : BitVec 32 := 32#32
  let c0_i32_1380 : BitVec 32 := 0#32
  let v1618 : BitVec 1 := Scalar.cmpi .eq c32_i32_1379 c0_i32_1380
  let c1_i32_1381 : BitVec 32 := 1#32
  let v1619 : BitVec 32 := Scalar.select v1618 c1_i32_1381 c32_i32_1379
  let v1620 : BitVec 32 := Scalar.remsi v1617 v1619
  let c0_i32_1383 : BitVec 32 := 0#32
  let v1622 : BitVec 1 := Scalar.cmpi .slt v1620 c0_i32_1383
  let c0_i32_1384 : BitVec 32 := 0#32
  let v1623 : BitVec 1 := Scalar.cmpi .slt v1619 c0_i32_1384
  let v1624 : BitVec 1 := Scalar.xori v1622 v1623
  let c0_i32_1382 : BitVec 32 := 0#32
  let v1621 : BitVec 1 := Scalar.cmpi .ne v1620 c0_i32_1382
  let v1625 : BitVec 1 := Scalar.andi v1624 v1621
  let v1626 : BitVec 32 := Scalar.addi v1620 v1619
  let v1627 : BitVec 32 := Scalar.select v1625 v1626 v1620
  let c1_i32_1393 : BitVec 32 := 1#32
  let v1630 : BitVec 32 := Scalar.muli v1627 c1_i32_1393
  let v1631 : BitVec 32 := Scalar.addi c0_i32_1394 v1630
  v1631.toNat
def k0_dev87 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1398 : BitVec 32 := 25#32
  let v1639 : BitVec 32 := Scalar.addi v2 c25_i32_1398
  let c32_i32_1399 : BitVec 32 := 32#32
  let c0_i32_1400 : BitVec 32 := 0#32
  let v1640 : BitVec 1 := Scalar.cmpi .eq c32_i32_1399 c0_i32_1400
  let c1_i32_1401 : BitVec 32 := 1#32
  let v1641 : BitVec 32 := Scalar.select v1640 c1_i32_1401 c32_i32_1399
  let v1642 : BitVec 32 := Scalar.remsi v1639 v1641
  let c0_i32_1403 : BitVec 32 := 0#32
  let v1644 : BitVec 1 := Scalar.cmpi .slt v1642 c0_i32_1403
  let c0_i32_1404 : BitVec 32 := 0#32
  let v1645 : BitVec 1 := Scalar.cmpi .slt v1641 c0_i32_1404
  let v1646 : BitVec 1 := Scalar.xori v1644 v1645
  let c0_i32_1402 : BitVec 32 := 0#32
  let v1643 : BitVec 1 := Scalar.cmpi .ne v1642 c0_i32_1402
  let v1647 : BitVec 1 := Scalar.andi v1646 v1643
  let v1648 : BitVec 32 := Scalar.addi v1642 v1641
  let v1649 : BitVec 32 := Scalar.select v1647 v1648 v1642
  let c1_i32_1413 : BitVec 32 := 1#32
  let v1652 : BitVec 32 := Scalar.muli v1649 c1_i32_1413
  let v1653 : BitVec 32 := Scalar.addi c0_i32_1414 v1652
  v1653.toNat
def k0_dev88 (d0 : Dev nD) : Nat :=
  let c0_i32_1434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1418 : BitVec 32 := 26#32
  let v1661 : BitVec 32 := Scalar.addi v2 c26_i32_1418
  let c32_i32_1419 : BitVec 32 := 32#32
  let c0_i32_1420 : BitVec 32 := 0#32
  let v1662 : BitVec 1 := Scalar.cmpi .eq c32_i32_1419 c0_i32_1420
  let c1_i32_1421 : BitVec 32 := 1#32
  let v1663 : BitVec 32 := Scalar.select v1662 c1_i32_1421 c32_i32_1419
  let v1664 : BitVec 32 := Scalar.remsi v1661 v1663
  let c0_i32_1423 : BitVec 32 := 0#32
  let v1666 : BitVec 1 := Scalar.cmpi .slt v1664 c0_i32_1423
  let c0_i32_1424 : BitVec 32 := 0#32
  let v1667 : BitVec 1 := Scalar.cmpi .slt v1663 c0_i32_1424
  let v1668 : BitVec 1 := Scalar.xori v1666 v1667
  let c0_i32_1422 : BitVec 32 := 0#32
  let v1665 : BitVec 1 := Scalar.cmpi .ne v1664 c0_i32_1422
  let v1669 : BitVec 1 := Scalar.andi v1668 v1665
  let v1670 : BitVec 32 := Scalar.addi v1664 v1663
  let v1671 : BitVec 32 := Scalar.select v1669 v1670 v1664
  let c1_i32_1433 : BitVec 32 := 1#32
  let v1674 : BitVec 32 := Scalar.muli v1671 c1_i32_1433
  let v1675 : BitVec 32 := Scalar.addi c0_i32_1434 v1674
  v1675.toNat
def k0_dev89 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1438 : BitVec 32 := 27#32
  let v1683 : BitVec 32 := Scalar.addi v2 c27_i32_1438
  let c32_i32_1439 : BitVec 32 := 32#32
  let c0_i32_1440 : BitVec 32 := 0#32
  let v1684 : BitVec 1 := Scalar.cmpi .eq c32_i32_1439 c0_i32_1440
  let c1_i32_1441 : BitVec 32 := 1#32
  let v1685 : BitVec 32 := Scalar.select v1684 c1_i32_1441 c32_i32_1439
  let v1686 : BitVec 32 := Scalar.remsi v1683 v1685
  let c0_i32_1443 : BitVec 32 := 0#32
  let v1688 : BitVec 1 := Scalar.cmpi .slt v1686 c0_i32_1443
  let c0_i32_1444 : BitVec 32 := 0#32
  let v1689 : BitVec 1 := Scalar.cmpi .slt v1685 c0_i32_1444
  let v1690 : BitVec 1 := Scalar.xori v1688 v1689
  let c0_i32_1442 : BitVec 32 := 0#32
  let v1687 : BitVec 1 := Scalar.cmpi .ne v1686 c0_i32_1442
  let v1691 : BitVec 1 := Scalar.andi v1690 v1687
  let v1692 : BitVec 32 := Scalar.addi v1686 v1685
  let v1693 : BitVec 32 := Scalar.select v1691 v1692 v1686
  let c1_i32_1453 : BitVec 32 := 1#32
  let v1696 : BitVec 32 := Scalar.muli v1693 c1_i32_1453
  let v1697 : BitVec 32 := Scalar.addi c0_i32_1454 v1696
  v1697.toNat
def k0_dev90 (d0 : Dev nD) : Nat :=
  let c0_i32_1474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1458 : BitVec 32 := 28#32
  let v1705 : BitVec 32 := Scalar.addi v2 c28_i32_1458
  let c32_i32_1459 : BitVec 32 := 32#32
  let c0_i32_1460 : BitVec 32 := 0#32
  let v1706 : BitVec 1 := Scalar.cmpi .eq c32_i32_1459 c0_i32_1460
  let c1_i32_1461 : BitVec 32 := 1#32
  let v1707 : BitVec 32 := Scalar.select v1706 c1_i32_1461 c32_i32_1459
  let v1708 : BitVec 32 := Scalar.remsi v1705 v1707
  let c0_i32_1463 : BitVec 32 := 0#32
  let v1710 : BitVec 1 := Scalar.cmpi .slt v1708 c0_i32_1463
  let c0_i32_1464 : BitVec 32 := 0#32
  let v1711 : BitVec 1 := Scalar.cmpi .slt v1707 c0_i32_1464
  let v1712 : BitVec 1 := Scalar.xori v1710 v1711
  let c0_i32_1462 : BitVec 32 := 0#32
  let v1709 : BitVec 1 := Scalar.cmpi .ne v1708 c0_i32_1462
  let v1713 : BitVec 1 := Scalar.andi v1712 v1709
  let v1714 : BitVec 32 := Scalar.addi v1708 v1707
  let v1715 : BitVec 32 := Scalar.select v1713 v1714 v1708
  let c1_i32_1473 : BitVec 32 := 1#32
  let v1718 : BitVec 32 := Scalar.muli v1715 c1_i32_1473
  let v1719 : BitVec 32 := Scalar.addi c0_i32_1474 v1718
  v1719.toNat
def k0_dev91 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1478 : BitVec 32 := 29#32
  let v1727 : BitVec 32 := Scalar.addi v2 c29_i32_1478
  let c32_i32_1479 : BitVec 32 := 32#32
  let c0_i32_1480 : BitVec 32 := 0#32
  let v1728 : BitVec 1 := Scalar.cmpi .eq c32_i32_1479 c0_i32_1480
  let c1_i32_1481 : BitVec 32 := 1#32
  let v1729 : BitVec 32 := Scalar.select v1728 c1_i32_1481 c32_i32_1479
  let v1730 : BitVec 32 := Scalar.remsi v1727 v1729
  let c0_i32_1483 : BitVec 32 := 0#32
  let v1732 : BitVec 1 := Scalar.cmpi .slt v1730 c0_i32_1483
  let c0_i32_1484 : BitVec 32 := 0#32
  let v1733 : BitVec 1 := Scalar.cmpi .slt v1729 c0_i32_1484
  let v1734 : BitVec 1 := Scalar.xori v1732 v1733
  let c0_i32_1482 : BitVec 32 := 0#32
  let v1731 : BitVec 1 := Scalar.cmpi .ne v1730 c0_i32_1482
  let v1735 : BitVec 1 := Scalar.andi v1734 v1731
  let v1736 : BitVec 32 := Scalar.addi v1730 v1729
  let v1737 : BitVec 32 := Scalar.select v1735 v1736 v1730
  let c1_i32_1493 : BitVec 32 := 1#32
  let v1740 : BitVec 32 := Scalar.muli v1737 c1_i32_1493
  let v1741 : BitVec 32 := Scalar.addi c0_i32_1494 v1740
  v1741.toNat
def k0_dev92 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1498 : BitVec 32 := 30#32
  let v1749 : BitVec 32 := Scalar.addi v2 c30_i32_1498
  let c32_i32_1499 : BitVec 32 := 32#32
  let c0_i32_1500 : BitVec 32 := 0#32
  let v1750 : BitVec 1 := Scalar.cmpi .eq c32_i32_1499 c0_i32_1500
  let c1_i32_1501 : BitVec 32 := 1#32
  let v1751 : BitVec 32 := Scalar.select v1750 c1_i32_1501 c32_i32_1499
  let v1752 : BitVec 32 := Scalar.remsi v1749 v1751
  let c0_i32_1503 : BitVec 32 := 0#32
  let v1754 : BitVec 1 := Scalar.cmpi .slt v1752 c0_i32_1503
  let c0_i32_1504 : BitVec 32 := 0#32
  let v1755 : BitVec 1 := Scalar.cmpi .slt v1751 c0_i32_1504
  let v1756 : BitVec 1 := Scalar.xori v1754 v1755
  let c0_i32_1502 : BitVec 32 := 0#32
  let v1753 : BitVec 1 := Scalar.cmpi .ne v1752 c0_i32_1502
  let v1757 : BitVec 1 := Scalar.andi v1756 v1753
  let v1758 : BitVec 32 := Scalar.addi v1752 v1751
  let v1759 : BitVec 32 := Scalar.select v1757 v1758 v1752
  let c1_i32_1513 : BitVec 32 := 1#32
  let v1762 : BitVec 32 := Scalar.muli v1759 c1_i32_1513
  let v1763 : BitVec 32 := Scalar.addi c0_i32_1514 v1762
  v1763.toNat
def k0_dev93 (d0 : Dev nD) : Nat :=
  let c0_i32_1534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1518 : BitVec 32 := 31#32
  let v1771 : BitVec 32 := Scalar.addi v2 c31_i32_1518
  let c32_i32_1519 : BitVec 32 := 32#32
  let c0_i32_1520 : BitVec 32 := 0#32
  let v1772 : BitVec 1 := Scalar.cmpi .eq c32_i32_1519 c0_i32_1520
  let c1_i32_1521 : BitVec 32 := 1#32
  let v1773 : BitVec 32 := Scalar.select v1772 c1_i32_1521 c32_i32_1519
  let v1774 : BitVec 32 := Scalar.remsi v1771 v1773
  let c0_i32_1523 : BitVec 32 := 0#32
  let v1776 : BitVec 1 := Scalar.cmpi .slt v1774 c0_i32_1523
  let c0_i32_1524 : BitVec 32 := 0#32
  let v1777 : BitVec 1 := Scalar.cmpi .slt v1773 c0_i32_1524
  let v1778 : BitVec 1 := Scalar.xori v1776 v1777
  let c0_i32_1522 : BitVec 32 := 0#32
  let v1775 : BitVec 1 := Scalar.cmpi .ne v1774 c0_i32_1522
  let v1779 : BitVec 1 := Scalar.andi v1778 v1775
  let v1780 : BitVec 32 := Scalar.addi v1774 v1773
  let v1781 : BitVec 32 := Scalar.select v1779 v1780 v1774
  let c1_i32_1533 : BitVec 32 := 1#32
  let v1784 : BitVec 32 := Scalar.muli v1781 c1_i32_1533
  let v1785 : BitVec 32 := Scalar.addi c0_i32_1534 v1784
  v1785.toNat
def k0_off2 (d0 : Dev nD) (c0_i32_1539 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1538 : BitVec 32 := 8#32
  let v1793 : BitVec 32 := Scalar.muli v2 c8_i32_1538
  let v1794 : BitVec 32 := Scalar.addi c0_i32_1539 v1793
  let v2043 : Index := Scalar.indexCast v1794
  let c0_1974 : Index := 0#32
  ![v2043.toNat, 0]
def k0_off3 (d0 : Dev nD) (c0_i32_1539 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1538 : BitVec 32 := 8#32
  let v1793 : BitVec 32 := Scalar.muli v2 c8_i32_1538
  let v1794 : BitVec 32 := Scalar.addi c0_i32_1539 v1793
  let c0_i32_1994 : BitVec 32 := 0#32
  ![v1794.toNat, 0]
def k0_dev94 (d0 : Dev nD) : Nat :=
  let c0_i32_1993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1981 : BitVec 32 := 1#32
  let v2052 : BitVec 32 := Scalar.addi v2 c1_i32_1981
  let c32_i32_1982 : BitVec 32 := 32#32
  let c0_i32_1983 : BitVec 32 := 0#32
  let v2053 : BitVec 1 := Scalar.cmpi .eq c32_i32_1982 c0_i32_1983
  let c1_i32_1984 : BitVec 32 := 1#32
  let v2054 : BitVec 32 := Scalar.select v2053 c1_i32_1984 c32_i32_1982
  let v2055 : BitVec 32 := Scalar.remsi v2052 v2054
  let c0_i32_1986 : BitVec 32 := 0#32
  let v2057 : BitVec 1 := Scalar.cmpi .slt v2055 c0_i32_1986
  let c0_i32_1987 : BitVec 32 := 0#32
  let v2058 : BitVec 1 := Scalar.cmpi .slt v2054 c0_i32_1987
  let v2059 : BitVec 1 := Scalar.xori v2057 v2058
  let c0_i32_1985 : BitVec 32 := 0#32
  let v2056 : BitVec 1 := Scalar.cmpi .ne v2055 c0_i32_1985
  let v2060 : BitVec 1 := Scalar.andi v2059 v2056
  let v2061 : BitVec 32 := Scalar.addi v2055 v2054
  let v2062 : BitVec 32 := Scalar.select v2060 v2061 v2055
  let c1_i32_1992 : BitVec 32 := 1#32
  let v2063 : BitVec 32 := Scalar.muli v2062 c1_i32_1992
  let v2064 : BitVec 32 := Scalar.addi c0_i32_1993 v2063
  v2064.toNat
def k0_dev95 (d0 : Dev nD) : Nat :=
  let c0_i32_2008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1996 : BitVec 32 := 2#32
  let v2071 : BitVec 32 := Scalar.addi v2 c2_i32_1996
  let c32_i32_1997 : BitVec 32 := 32#32
  let c0_i32_1998 : BitVec 32 := 0#32
  let v2072 : BitVec 1 := Scalar.cmpi .eq c32_i32_1997 c0_i32_1998
  let c1_i32_1999 : BitVec 32 := 1#32
  let v2073 : BitVec 32 := Scalar.select v2072 c1_i32_1999 c32_i32_1997
  let v2074 : BitVec 32 := Scalar.remsi v2071 v2073
  let c0_i32_2001 : BitVec 32 := 0#32
  let v2076 : BitVec 1 := Scalar.cmpi .slt v2074 c0_i32_2001
  let c0_i32_2002 : BitVec 32 := 0#32
  let v2077 : BitVec 1 := Scalar.cmpi .slt v2073 c0_i32_2002
  let v2078 : BitVec 1 := Scalar.xori v2076 v2077
  let c0_i32_2000 : BitVec 32 := 0#32
  let v2075 : BitVec 1 := Scalar.cmpi .ne v2074 c0_i32_2000
  let v2079 : BitVec 1 := Scalar.andi v2078 v2075
  let v2080 : BitVec 32 := Scalar.addi v2074 v2073
  let v2081 : BitVec 32 := Scalar.select v2079 v2080 v2074
  let c1_i32_2007 : BitVec 32 := 1#32
  let v2082 : BitVec 32 := Scalar.muli v2081 c1_i32_2007
  let v2083 : BitVec 32 := Scalar.addi c0_i32_2008 v2082
  v2083.toNat
def k0_dev96 (d0 : Dev nD) : Nat :=
  let c0_i32_2023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2011 : BitVec 32 := 3#32
  let v2090 : BitVec 32 := Scalar.addi v2 c3_i32_2011
  let c32_i32_2012 : BitVec 32 := 32#32
  let c0_i32_2013 : BitVec 32 := 0#32
  let v2091 : BitVec 1 := Scalar.cmpi .eq c32_i32_2012 c0_i32_2013
  let c1_i32_2014 : BitVec 32 := 1#32
  let v2092 : BitVec 32 := Scalar.select v2091 c1_i32_2014 c32_i32_2012
  let v2093 : BitVec 32 := Scalar.remsi v2090 v2092
  let c0_i32_2016 : BitVec 32 := 0#32
  let v2095 : BitVec 1 := Scalar.cmpi .slt v2093 c0_i32_2016
  let c0_i32_2017 : BitVec 32 := 0#32
  let v2096 : BitVec 1 := Scalar.cmpi .slt v2092 c0_i32_2017
  let v2097 : BitVec 1 := Scalar.xori v2095 v2096
  let c0_i32_2015 : BitVec 32 := 0#32
  let v2094 : BitVec 1 := Scalar.cmpi .ne v2093 c0_i32_2015
  let v2098 : BitVec 1 := Scalar.andi v2097 v2094
  let v2099 : BitVec 32 := Scalar.addi v2093 v2092
  let v2100 : BitVec 32 := Scalar.select v2098 v2099 v2093
  let c1_i32_2022 : BitVec 32 := 1#32
  let v2101 : BitVec 32 := Scalar.muli v2100 c1_i32_2022
  let v2102 : BitVec 32 := Scalar.addi c0_i32_2023 v2101
  v2102.toNat
def k0_dev97 (d0 : Dev nD) : Nat :=
  let c0_i32_2038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2026 : BitVec 32 := 4#32
  let v2109 : BitVec 32 := Scalar.addi v2 c4_i32_2026
  let c32_i32_2027 : BitVec 32 := 32#32
  let c0_i32_2028 : BitVec 32 := 0#32
  let v2110 : BitVec 1 := Scalar.cmpi .eq c32_i32_2027 c0_i32_2028
  let c1_i32_2029 : BitVec 32 := 1#32
  let v2111 : BitVec 32 := Scalar.select v2110 c1_i32_2029 c32_i32_2027
  let v2112 : BitVec 32 := Scalar.remsi v2109 v2111
  let c0_i32_2031 : BitVec 32 := 0#32
  let v2114 : BitVec 1 := Scalar.cmpi .slt v2112 c0_i32_2031
  let c0_i32_2032 : BitVec 32 := 0#32
  let v2115 : BitVec 1 := Scalar.cmpi .slt v2111 c0_i32_2032
  let v2116 : BitVec 1 := Scalar.xori v2114 v2115
  let c0_i32_2030 : BitVec 32 := 0#32
  let v2113 : BitVec 1 := Scalar.cmpi .ne v2112 c0_i32_2030
  let v2117 : BitVec 1 := Scalar.andi v2116 v2113
  let v2118 : BitVec 32 := Scalar.addi v2112 v2111
  let v2119 : BitVec 32 := Scalar.select v2117 v2118 v2112
  let c1_i32_2037 : BitVec 32 := 1#32
  let v2120 : BitVec 32 := Scalar.muli v2119 c1_i32_2037
  let v2121 : BitVec 32 := Scalar.addi c0_i32_2038 v2120
  v2121.toNat
def k0_dev98 (d0 : Dev nD) : Nat :=
  let c0_i32_2053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2041 : BitVec 32 := 5#32
  let v2128 : BitVec 32 := Scalar.addi v2 c5_i32_2041
  let c32_i32_2042 : BitVec 32 := 32#32
  let c0_i32_2043 : BitVec 32 := 0#32
  let v2129 : BitVec 1 := Scalar.cmpi .eq c32_i32_2042 c0_i32_2043
  let c1_i32_2044 : BitVec 32 := 1#32
  let v2130 : BitVec 32 := Scalar.select v2129 c1_i32_2044 c32_i32_2042
  let v2131 : BitVec 32 := Scalar.remsi v2128 v2130
  let c0_i32_2046 : BitVec 32 := 0#32
  let v2133 : BitVec 1 := Scalar.cmpi .slt v2131 c0_i32_2046
  let c0_i32_2047 : BitVec 32 := 0#32
  let v2134 : BitVec 1 := Scalar.cmpi .slt v2130 c0_i32_2047
  let v2135 : BitVec 1 := Scalar.xori v2133 v2134
  let c0_i32_2045 : BitVec 32 := 0#32
  let v2132 : BitVec 1 := Scalar.cmpi .ne v2131 c0_i32_2045
  let v2136 : BitVec 1 := Scalar.andi v2135 v2132
  let v2137 : BitVec 32 := Scalar.addi v2131 v2130
  let v2138 : BitVec 32 := Scalar.select v2136 v2137 v2131
  let c1_i32_2052 : BitVec 32 := 1#32
  let v2139 : BitVec 32 := Scalar.muli v2138 c1_i32_2052
  let v2140 : BitVec 32 := Scalar.addi c0_i32_2053 v2139
  v2140.toNat
def k0_dev99 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2056 : BitVec 32 := 6#32
  let v2147 : BitVec 32 := Scalar.addi v2 c6_i32_2056
  let c32_i32_2057 : BitVec 32 := 32#32
  let c0_i32_2058 : BitVec 32 := 0#32
  let v2148 : BitVec 1 := Scalar.cmpi .eq c32_i32_2057 c0_i32_2058
  let c1_i32_2059 : BitVec 32 := 1#32
  let v2149 : BitVec 32 := Scalar.select v2148 c1_i32_2059 c32_i32_2057
  let v2150 : BitVec 32 := Scalar.remsi v2147 v2149
  let c0_i32_2061 : BitVec 32 := 0#32
  let v2152 : BitVec 1 := Scalar.cmpi .slt v2150 c0_i32_2061
  let c0_i32_2062 : BitVec 32 := 0#32
  let v2153 : BitVec 1 := Scalar.cmpi .slt v2149 c0_i32_2062
  let v2154 : BitVec 1 := Scalar.xori v2152 v2153
  let c0_i32_2060 : BitVec 32 := 0#32
  let v2151 : BitVec 1 := Scalar.cmpi .ne v2150 c0_i32_2060
  let v2155 : BitVec 1 := Scalar.andi v2154 v2151
  let v2156 : BitVec 32 := Scalar.addi v2150 v2149
  let v2157 : BitVec 32 := Scalar.select v2155 v2156 v2150
  let c1_i32_2067 : BitVec 32 := 1#32
  let v2158 : BitVec 32 := Scalar.muli v2157 c1_i32_2067
  let v2159 : BitVec 32 := Scalar.addi c0_i32_2068 v2158
  v2159.toNat
def k0_dev100 (d0 : Dev nD) : Nat :=
  let c0_i32_2083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2071 : BitVec 32 := 7#32
  let v2166 : BitVec 32 := Scalar.addi v2 c7_i32_2071
  let c32_i32_2072 : BitVec 32 := 32#32
  let c0_i32_2073 : BitVec 32 := 0#32
  let v2167 : BitVec 1 := Scalar.cmpi .eq c32_i32_2072 c0_i32_2073
  let c1_i32_2074 : BitVec 32 := 1#32
  let v2168 : BitVec 32 := Scalar.select v2167 c1_i32_2074 c32_i32_2072
  let v2169 : BitVec 32 := Scalar.remsi v2166 v2168
  let c0_i32_2076 : BitVec 32 := 0#32
  let v2171 : BitVec 1 := Scalar.cmpi .slt v2169 c0_i32_2076
  let c0_i32_2077 : BitVec 32 := 0#32
  let v2172 : BitVec 1 := Scalar.cmpi .slt v2168 c0_i32_2077
  let v2173 : BitVec 1 := Scalar.xori v2171 v2172
  let c0_i32_2075 : BitVec 32 := 0#32
  let v2170 : BitVec 1 := Scalar.cmpi .ne v2169 c0_i32_2075
  let v2174 : BitVec 1 := Scalar.andi v2173 v2170
  let v2175 : BitVec 32 := Scalar.addi v2169 v2168
  let v2176 : BitVec 32 := Scalar.select v2174 v2175 v2169
  let c1_i32_2082 : BitVec 32 := 1#32
  let v2177 : BitVec 32 := Scalar.muli v2176 c1_i32_2082
  let v2178 : BitVec 32 := Scalar.addi c0_i32_2083 v2177
  v2178.toNat
def k0_dev101 (d0 : Dev nD) : Nat :=
  let c0_i32_2098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2086 : BitVec 32 := 8#32
  let v2185 : BitVec 32 := Scalar.addi v2 c8_i32_2086
  let c32_i32_2087 : BitVec 32 := 32#32
  let c0_i32_2088 : BitVec 32 := 0#32
  let v2186 : BitVec 1 := Scalar.cmpi .eq c32_i32_2087 c0_i32_2088
  let c1_i32_2089 : BitVec 32 := 1#32
  let v2187 : BitVec 32 := Scalar.select v2186 c1_i32_2089 c32_i32_2087
  let v2188 : BitVec 32 := Scalar.remsi v2185 v2187
  let c0_i32_2091 : BitVec 32 := 0#32
  let v2190 : BitVec 1 := Scalar.cmpi .slt v2188 c0_i32_2091
  let c0_i32_2092 : BitVec 32 := 0#32
  let v2191 : BitVec 1 := Scalar.cmpi .slt v2187 c0_i32_2092
  let v2192 : BitVec 1 := Scalar.xori v2190 v2191
  let c0_i32_2090 : BitVec 32 := 0#32
  let v2189 : BitVec 1 := Scalar.cmpi .ne v2188 c0_i32_2090
  let v2193 : BitVec 1 := Scalar.andi v2192 v2189
  let v2194 : BitVec 32 := Scalar.addi v2188 v2187
  let v2195 : BitVec 32 := Scalar.select v2193 v2194 v2188
  let c1_i32_2097 : BitVec 32 := 1#32
  let v2196 : BitVec 32 := Scalar.muli v2195 c1_i32_2097
  let v2197 : BitVec 32 := Scalar.addi c0_i32_2098 v2196
  v2197.toNat
def k0_dev102 (d0 : Dev nD) : Nat :=
  let c0_i32_2113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2101 : BitVec 32 := 9#32
  let v2204 : BitVec 32 := Scalar.addi v2 c9_i32_2101
  let c32_i32_2102 : BitVec 32 := 32#32
  let c0_i32_2103 : BitVec 32 := 0#32
  let v2205 : BitVec 1 := Scalar.cmpi .eq c32_i32_2102 c0_i32_2103
  let c1_i32_2104 : BitVec 32 := 1#32
  let v2206 : BitVec 32 := Scalar.select v2205 c1_i32_2104 c32_i32_2102
  let v2207 : BitVec 32 := Scalar.remsi v2204 v2206
  let c0_i32_2106 : BitVec 32 := 0#32
  let v2209 : BitVec 1 := Scalar.cmpi .slt v2207 c0_i32_2106
  let c0_i32_2107 : BitVec 32 := 0#32
  let v2210 : BitVec 1 := Scalar.cmpi .slt v2206 c0_i32_2107
  let v2211 : BitVec 1 := Scalar.xori v2209 v2210
  let c0_i32_2105 : BitVec 32 := 0#32
  let v2208 : BitVec 1 := Scalar.cmpi .ne v2207 c0_i32_2105
  let v2212 : BitVec 1 := Scalar.andi v2211 v2208
  let v2213 : BitVec 32 := Scalar.addi v2207 v2206
  let v2214 : BitVec 32 := Scalar.select v2212 v2213 v2207
  let c1_i32_2112 : BitVec 32 := 1#32
  let v2215 : BitVec 32 := Scalar.muli v2214 c1_i32_2112
  let v2216 : BitVec 32 := Scalar.addi c0_i32_2113 v2215
  v2216.toNat
def k0_dev103 (d0 : Dev nD) : Nat :=
  let c0_i32_2128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2116 : BitVec 32 := 10#32
  let v2223 : BitVec 32 := Scalar.addi v2 c10_i32_2116
  let c32_i32_2117 : BitVec 32 := 32#32
  let c0_i32_2118 : BitVec 32 := 0#32
  let v2224 : BitVec 1 := Scalar.cmpi .eq c32_i32_2117 c0_i32_2118
  let c1_i32_2119 : BitVec 32 := 1#32
  let v2225 : BitVec 32 := Scalar.select v2224 c1_i32_2119 c32_i32_2117
  let v2226 : BitVec 32 := Scalar.remsi v2223 v2225
  let c0_i32_2121 : BitVec 32 := 0#32
  let v2228 : BitVec 1 := Scalar.cmpi .slt v2226 c0_i32_2121
  let c0_i32_2122 : BitVec 32 := 0#32
  let v2229 : BitVec 1 := Scalar.cmpi .slt v2225 c0_i32_2122
  let v2230 : BitVec 1 := Scalar.xori v2228 v2229
  let c0_i32_2120 : BitVec 32 := 0#32
  let v2227 : BitVec 1 := Scalar.cmpi .ne v2226 c0_i32_2120
  let v2231 : BitVec 1 := Scalar.andi v2230 v2227
  let v2232 : BitVec 32 := Scalar.addi v2226 v2225
  let v2233 : BitVec 32 := Scalar.select v2231 v2232 v2226
  let c1_i32_2127 : BitVec 32 := 1#32
  let v2234 : BitVec 32 := Scalar.muli v2233 c1_i32_2127
  let v2235 : BitVec 32 := Scalar.addi c0_i32_2128 v2234
  v2235.toNat
def k0_dev104 (d0 : Dev nD) : Nat :=
  let c0_i32_2143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2131 : BitVec 32 := 11#32
  let v2242 : BitVec 32 := Scalar.addi v2 c11_i32_2131
  let c32_i32_2132 : BitVec 32 := 32#32
  let c0_i32_2133 : BitVec 32 := 0#32
  let v2243 : BitVec 1 := Scalar.cmpi .eq c32_i32_2132 c0_i32_2133
  let c1_i32_2134 : BitVec 32 := 1#32
  let v2244 : BitVec 32 := Scalar.select v2243 c1_i32_2134 c32_i32_2132
  let v2245 : BitVec 32 := Scalar.remsi v2242 v2244
  let c0_i32_2136 : BitVec 32 := 0#32
  let v2247 : BitVec 1 := Scalar.cmpi .slt v2245 c0_i32_2136
  let c0_i32_2137 : BitVec 32 := 0#32
  let v2248 : BitVec 1 := Scalar.cmpi .slt v2244 c0_i32_2137
  let v2249 : BitVec 1 := Scalar.xori v2247 v2248
  let c0_i32_2135 : BitVec 32 := 0#32
  let v2246 : BitVec 1 := Scalar.cmpi .ne v2245 c0_i32_2135
  let v2250 : BitVec 1 := Scalar.andi v2249 v2246
  let v2251 : BitVec 32 := Scalar.addi v2245 v2244
  let v2252 : BitVec 32 := Scalar.select v2250 v2251 v2245
  let c1_i32_2142 : BitVec 32 := 1#32
  let v2253 : BitVec 32 := Scalar.muli v2252 c1_i32_2142
  let v2254 : BitVec 32 := Scalar.addi c0_i32_2143 v2253
  v2254.toNat
def k0_dev105 (d0 : Dev nD) : Nat :=
  let c0_i32_2158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2146 : BitVec 32 := 12#32
  let v2261 : BitVec 32 := Scalar.addi v2 c12_i32_2146
  let c32_i32_2147 : BitVec 32 := 32#32
  let c0_i32_2148 : BitVec 32 := 0#32
  let v2262 : BitVec 1 := Scalar.cmpi .eq c32_i32_2147 c0_i32_2148
  let c1_i32_2149 : BitVec 32 := 1#32
  let v2263 : BitVec 32 := Scalar.select v2262 c1_i32_2149 c32_i32_2147
  let v2264 : BitVec 32 := Scalar.remsi v2261 v2263
  let c0_i32_2151 : BitVec 32 := 0#32
  let v2266 : BitVec 1 := Scalar.cmpi .slt v2264 c0_i32_2151
  let c0_i32_2152 : BitVec 32 := 0#32
  let v2267 : BitVec 1 := Scalar.cmpi .slt v2263 c0_i32_2152
  let v2268 : BitVec 1 := Scalar.xori v2266 v2267
  let c0_i32_2150 : BitVec 32 := 0#32
  let v2265 : BitVec 1 := Scalar.cmpi .ne v2264 c0_i32_2150
  let v2269 : BitVec 1 := Scalar.andi v2268 v2265
  let v2270 : BitVec 32 := Scalar.addi v2264 v2263
  let v2271 : BitVec 32 := Scalar.select v2269 v2270 v2264
  let c1_i32_2157 : BitVec 32 := 1#32
  let v2272 : BitVec 32 := Scalar.muli v2271 c1_i32_2157
  let v2273 : BitVec 32 := Scalar.addi c0_i32_2158 v2272
  v2273.toNat
def k0_dev106 (d0 : Dev nD) : Nat :=
  let c0_i32_2173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2161 : BitVec 32 := 13#32
  let v2280 : BitVec 32 := Scalar.addi v2 c13_i32_2161
  let c32_i32_2162 : BitVec 32 := 32#32
  let c0_i32_2163 : BitVec 32 := 0#32
  let v2281 : BitVec 1 := Scalar.cmpi .eq c32_i32_2162 c0_i32_2163
  let c1_i32_2164 : BitVec 32 := 1#32
  let v2282 : BitVec 32 := Scalar.select v2281 c1_i32_2164 c32_i32_2162
  let v2283 : BitVec 32 := Scalar.remsi v2280 v2282
  let c0_i32_2166 : BitVec 32 := 0#32
  let v2285 : BitVec 1 := Scalar.cmpi .slt v2283 c0_i32_2166
  let c0_i32_2167 : BitVec 32 := 0#32
  let v2286 : BitVec 1 := Scalar.cmpi .slt v2282 c0_i32_2167
  let v2287 : BitVec 1 := Scalar.xori v2285 v2286
  let c0_i32_2165 : BitVec 32 := 0#32
  let v2284 : BitVec 1 := Scalar.cmpi .ne v2283 c0_i32_2165
  let v2288 : BitVec 1 := Scalar.andi v2287 v2284
  let v2289 : BitVec 32 := Scalar.addi v2283 v2282
  let v2290 : BitVec 32 := Scalar.select v2288 v2289 v2283
  let c1_i32_2172 : BitVec 32 := 1#32
  let v2291 : BitVec 32 := Scalar.muli v2290 c1_i32_2172
  let v2292 : BitVec 32 := Scalar.addi c0_i32_2173 v2291
  v2292.toNat
def k0_dev107 (d0 : Dev nD) : Nat :=
  let c0_i32_2188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2176 : BitVec 32 := 14#32
  let v2299 : BitVec 32 := Scalar.addi v2 c14_i32_2176
  let c32_i32_2177 : BitVec 32 := 32#32
  let c0_i32_2178 : BitVec 32 := 0#32
  let v2300 : BitVec 1 := Scalar.cmpi .eq c32_i32_2177 c0_i32_2178
  let c1_i32_2179 : BitVec 32 := 1#32
  let v2301 : BitVec 32 := Scalar.select v2300 c1_i32_2179 c32_i32_2177
  let v2302 : BitVec 32 := Scalar.remsi v2299 v2301
  let c0_i32_2181 : BitVec 32 := 0#32
  let v2304 : BitVec 1 := Scalar.cmpi .slt v2302 c0_i32_2181
  let c0_i32_2182 : BitVec 32 := 0#32
  let v2305 : BitVec 1 := Scalar.cmpi .slt v2301 c0_i32_2182
  let v2306 : BitVec 1 := Scalar.xori v2304 v2305
  let c0_i32_2180 : BitVec 32 := 0#32
  let v2303 : BitVec 1 := Scalar.cmpi .ne v2302 c0_i32_2180
  let v2307 : BitVec 1 := Scalar.andi v2306 v2303
  let v2308 : BitVec 32 := Scalar.addi v2302 v2301
  let v2309 : BitVec 32 := Scalar.select v2307 v2308 v2302
  let c1_i32_2187 : BitVec 32 := 1#32
  let v2310 : BitVec 32 := Scalar.muli v2309 c1_i32_2187
  let v2311 : BitVec 32 := Scalar.addi c0_i32_2188 v2310
  v2311.toNat
def k0_dev108 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2191 : BitVec 32 := 15#32
  let v2318 : BitVec 32 := Scalar.addi v2 c15_i32_2191
  let c32_i32_2192 : BitVec 32 := 32#32
  let c0_i32_2193 : BitVec 32 := 0#32
  let v2319 : BitVec 1 := Scalar.cmpi .eq c32_i32_2192 c0_i32_2193
  let c1_i32_2194 : BitVec 32 := 1#32
  let v2320 : BitVec 32 := Scalar.select v2319 c1_i32_2194 c32_i32_2192
  let v2321 : BitVec 32 := Scalar.remsi v2318 v2320
  let c0_i32_2196 : BitVec 32 := 0#32
  let v2323 : BitVec 1 := Scalar.cmpi .slt v2321 c0_i32_2196
  let c0_i32_2197 : BitVec 32 := 0#32
  let v2324 : BitVec 1 := Scalar.cmpi .slt v2320 c0_i32_2197
  let v2325 : BitVec 1 := Scalar.xori v2323 v2324
  let c0_i32_2195 : BitVec 32 := 0#32
  let v2322 : BitVec 1 := Scalar.cmpi .ne v2321 c0_i32_2195
  let v2326 : BitVec 1 := Scalar.andi v2325 v2322
  let v2327 : BitVec 32 := Scalar.addi v2321 v2320
  let v2328 : BitVec 32 := Scalar.select v2326 v2327 v2321
  let c1_i32_2202 : BitVec 32 := 1#32
  let v2329 : BitVec 32 := Scalar.muli v2328 c1_i32_2202
  let v2330 : BitVec 32 := Scalar.addi c0_i32_2203 v2329
  v2330.toNat
def k0_dev109 (d0 : Dev nD) : Nat :=
  let c0_i32_2218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2206 : BitVec 32 := 16#32
  let v2337 : BitVec 32 := Scalar.addi v2 c16_i32_2206
  let c32_i32_2207 : BitVec 32 := 32#32
  let c0_i32_2208 : BitVec 32 := 0#32
  let v2338 : BitVec 1 := Scalar.cmpi .eq c32_i32_2207 c0_i32_2208
  let c1_i32_2209 : BitVec 32 := 1#32
  let v2339 : BitVec 32 := Scalar.select v2338 c1_i32_2209 c32_i32_2207
  let v2340 : BitVec 32 := Scalar.remsi v2337 v2339
  let c0_i32_2211 : BitVec 32 := 0#32
  let v2342 : BitVec 1 := Scalar.cmpi .slt v2340 c0_i32_2211
  let c0_i32_2212 : BitVec 32 := 0#32
  let v2343 : BitVec 1 := Scalar.cmpi .slt v2339 c0_i32_2212
  let v2344 : BitVec 1 := Scalar.xori v2342 v2343
  let c0_i32_2210 : BitVec 32 := 0#32
  let v2341 : BitVec 1 := Scalar.cmpi .ne v2340 c0_i32_2210
  let v2345 : BitVec 1 := Scalar.andi v2344 v2341
  let v2346 : BitVec 32 := Scalar.addi v2340 v2339
  let v2347 : BitVec 32 := Scalar.select v2345 v2346 v2340
  let c1_i32_2217 : BitVec 32 := 1#32
  let v2348 : BitVec 32 := Scalar.muli v2347 c1_i32_2217
  let v2349 : BitVec 32 := Scalar.addi c0_i32_2218 v2348
  v2349.toNat
def k0_dev110 (d0 : Dev nD) : Nat :=
  let c0_i32_2233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2221 : BitVec 32 := 17#32
  let v2356 : BitVec 32 := Scalar.addi v2 c17_i32_2221
  let c32_i32_2222 : BitVec 32 := 32#32
  let c0_i32_2223 : BitVec 32 := 0#32
  let v2357 : BitVec 1 := Scalar.cmpi .eq c32_i32_2222 c0_i32_2223
  let c1_i32_2224 : BitVec 32 := 1#32
  let v2358 : BitVec 32 := Scalar.select v2357 c1_i32_2224 c32_i32_2222
  let v2359 : BitVec 32 := Scalar.remsi v2356 v2358
  let c0_i32_2226 : BitVec 32 := 0#32
  let v2361 : BitVec 1 := Scalar.cmpi .slt v2359 c0_i32_2226
  let c0_i32_2227 : BitVec 32 := 0#32
  let v2362 : BitVec 1 := Scalar.cmpi .slt v2358 c0_i32_2227
  let v2363 : BitVec 1 := Scalar.xori v2361 v2362
  let c0_i32_2225 : BitVec 32 := 0#32
  let v2360 : BitVec 1 := Scalar.cmpi .ne v2359 c0_i32_2225
  let v2364 : BitVec 1 := Scalar.andi v2363 v2360
  let v2365 : BitVec 32 := Scalar.addi v2359 v2358
  let v2366 : BitVec 32 := Scalar.select v2364 v2365 v2359
  let c1_i32_2232 : BitVec 32 := 1#32
  let v2367 : BitVec 32 := Scalar.muli v2366 c1_i32_2232
  let v2368 : BitVec 32 := Scalar.addi c0_i32_2233 v2367
  v2368.toNat
def k0_dev111 (d0 : Dev nD) : Nat :=
  let c0_i32_2248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2236 : BitVec 32 := 18#32
  let v2375 : BitVec 32 := Scalar.addi v2 c18_i32_2236
  let c32_i32_2237 : BitVec 32 := 32#32
  let c0_i32_2238 : BitVec 32 := 0#32
  let v2376 : BitVec 1 := Scalar.cmpi .eq c32_i32_2237 c0_i32_2238
  let c1_i32_2239 : BitVec 32 := 1#32
  let v2377 : BitVec 32 := Scalar.select v2376 c1_i32_2239 c32_i32_2237
  let v2378 : BitVec 32 := Scalar.remsi v2375 v2377
  let c0_i32_2241 : BitVec 32 := 0#32
  let v2380 : BitVec 1 := Scalar.cmpi .slt v2378 c0_i32_2241
  let c0_i32_2242 : BitVec 32 := 0#32
  let v2381 : BitVec 1 := Scalar.cmpi .slt v2377 c0_i32_2242
  let v2382 : BitVec 1 := Scalar.xori v2380 v2381
  let c0_i32_2240 : BitVec 32 := 0#32
  let v2379 : BitVec 1 := Scalar.cmpi .ne v2378 c0_i32_2240
  let v2383 : BitVec 1 := Scalar.andi v2382 v2379
  let v2384 : BitVec 32 := Scalar.addi v2378 v2377
  let v2385 : BitVec 32 := Scalar.select v2383 v2384 v2378
  let c1_i32_2247 : BitVec 32 := 1#32
  let v2386 : BitVec 32 := Scalar.muli v2385 c1_i32_2247
  let v2387 : BitVec 32 := Scalar.addi c0_i32_2248 v2386
  v2387.toNat
def k0_dev112 (d0 : Dev nD) : Nat :=
  let c0_i32_2263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2251 : BitVec 32 := 19#32
  let v2394 : BitVec 32 := Scalar.addi v2 c19_i32_2251
  let c32_i32_2252 : BitVec 32 := 32#32
  let c0_i32_2253 : BitVec 32 := 0#32
  let v2395 : BitVec 1 := Scalar.cmpi .eq c32_i32_2252 c0_i32_2253
  let c1_i32_2254 : BitVec 32 := 1#32
  let v2396 : BitVec 32 := Scalar.select v2395 c1_i32_2254 c32_i32_2252
  let v2397 : BitVec 32 := Scalar.remsi v2394 v2396
  let c0_i32_2256 : BitVec 32 := 0#32
  let v2399 : BitVec 1 := Scalar.cmpi .slt v2397 c0_i32_2256
  let c0_i32_2257 : BitVec 32 := 0#32
  let v2400 : BitVec 1 := Scalar.cmpi .slt v2396 c0_i32_2257
  let v2401 : BitVec 1 := Scalar.xori v2399 v2400
  let c0_i32_2255 : BitVec 32 := 0#32
  let v2398 : BitVec 1 := Scalar.cmpi .ne v2397 c0_i32_2255
  let v2402 : BitVec 1 := Scalar.andi v2401 v2398
  let v2403 : BitVec 32 := Scalar.addi v2397 v2396
  let v2404 : BitVec 32 := Scalar.select v2402 v2403 v2397
  let c1_i32_2262 : BitVec 32 := 1#32
  let v2405 : BitVec 32 := Scalar.muli v2404 c1_i32_2262
  let v2406 : BitVec 32 := Scalar.addi c0_i32_2263 v2405
  v2406.toNat
def k0_dev113 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2266 : BitVec 32 := 20#32
  let v2413 : BitVec 32 := Scalar.addi v2 c20_i32_2266
  let c32_i32_2267 : BitVec 32 := 32#32
  let c0_i32_2268 : BitVec 32 := 0#32
  let v2414 : BitVec 1 := Scalar.cmpi .eq c32_i32_2267 c0_i32_2268
  let c1_i32_2269 : BitVec 32 := 1#32
  let v2415 : BitVec 32 := Scalar.select v2414 c1_i32_2269 c32_i32_2267
  let v2416 : BitVec 32 := Scalar.remsi v2413 v2415
  let c0_i32_2271 : BitVec 32 := 0#32
  let v2418 : BitVec 1 := Scalar.cmpi .slt v2416 c0_i32_2271
  let c0_i32_2272 : BitVec 32 := 0#32
  let v2419 : BitVec 1 := Scalar.cmpi .slt v2415 c0_i32_2272
  let v2420 : BitVec 1 := Scalar.xori v2418 v2419
  let c0_i32_2270 : BitVec 32 := 0#32
  let v2417 : BitVec 1 := Scalar.cmpi .ne v2416 c0_i32_2270
  let v2421 : BitVec 1 := Scalar.andi v2420 v2417
  let v2422 : BitVec 32 := Scalar.addi v2416 v2415
  let v2423 : BitVec 32 := Scalar.select v2421 v2422 v2416
  let c1_i32_2277 : BitVec 32 := 1#32
  let v2424 : BitVec 32 := Scalar.muli v2423 c1_i32_2277
  let v2425 : BitVec 32 := Scalar.addi c0_i32_2278 v2424
  v2425.toNat
def k0_dev114 (d0 : Dev nD) : Nat :=
  let c0_i32_2293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2281 : BitVec 32 := 21#32
  let v2432 : BitVec 32 := Scalar.addi v2 c21_i32_2281
  let c32_i32_2282 : BitVec 32 := 32#32
  let c0_i32_2283 : BitVec 32 := 0#32
  let v2433 : BitVec 1 := Scalar.cmpi .eq c32_i32_2282 c0_i32_2283
  let c1_i32_2284 : BitVec 32 := 1#32
  let v2434 : BitVec 32 := Scalar.select v2433 c1_i32_2284 c32_i32_2282
  let v2435 : BitVec 32 := Scalar.remsi v2432 v2434
  let c0_i32_2286 : BitVec 32 := 0#32
  let v2437 : BitVec 1 := Scalar.cmpi .slt v2435 c0_i32_2286
  let c0_i32_2287 : BitVec 32 := 0#32
  let v2438 : BitVec 1 := Scalar.cmpi .slt v2434 c0_i32_2287
  let v2439 : BitVec 1 := Scalar.xori v2437 v2438
  let c0_i32_2285 : BitVec 32 := 0#32
  let v2436 : BitVec 1 := Scalar.cmpi .ne v2435 c0_i32_2285
  let v2440 : BitVec 1 := Scalar.andi v2439 v2436
  let v2441 : BitVec 32 := Scalar.addi v2435 v2434
  let v2442 : BitVec 32 := Scalar.select v2440 v2441 v2435
  let c1_i32_2292 : BitVec 32 := 1#32
  let v2443 : BitVec 32 := Scalar.muli v2442 c1_i32_2292
  let v2444 : BitVec 32 := Scalar.addi c0_i32_2293 v2443
  v2444.toNat
def k0_dev115 (d0 : Dev nD) : Nat :=
  let c0_i32_2308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2296 : BitVec 32 := 22#32
  let v2451 : BitVec 32 := Scalar.addi v2 c22_i32_2296
  let c32_i32_2297 : BitVec 32 := 32#32
  let c0_i32_2298 : BitVec 32 := 0#32
  let v2452 : BitVec 1 := Scalar.cmpi .eq c32_i32_2297 c0_i32_2298
  let c1_i32_2299 : BitVec 32 := 1#32
  let v2453 : BitVec 32 := Scalar.select v2452 c1_i32_2299 c32_i32_2297
  let v2454 : BitVec 32 := Scalar.remsi v2451 v2453
  let c0_i32_2301 : BitVec 32 := 0#32
  let v2456 : BitVec 1 := Scalar.cmpi .slt v2454 c0_i32_2301
  let c0_i32_2302 : BitVec 32 := 0#32
  let v2457 : BitVec 1 := Scalar.cmpi .slt v2453 c0_i32_2302
  let v2458 : BitVec 1 := Scalar.xori v2456 v2457
  let c0_i32_2300 : BitVec 32 := 0#32
  let v2455 : BitVec 1 := Scalar.cmpi .ne v2454 c0_i32_2300
  let v2459 : BitVec 1 := Scalar.andi v2458 v2455
  let v2460 : BitVec 32 := Scalar.addi v2454 v2453
  let v2461 : BitVec 32 := Scalar.select v2459 v2460 v2454
  let c1_i32_2307 : BitVec 32 := 1#32
  let v2462 : BitVec 32 := Scalar.muli v2461 c1_i32_2307
  let v2463 : BitVec 32 := Scalar.addi c0_i32_2308 v2462
  v2463.toNat
def k0_dev116 (d0 : Dev nD) : Nat :=
  let c0_i32_2323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2311 : BitVec 32 := 23#32
  let v2470 : BitVec 32 := Scalar.addi v2 c23_i32_2311
  let c32_i32_2312 : BitVec 32 := 32#32
  let c0_i32_2313 : BitVec 32 := 0#32
  let v2471 : BitVec 1 := Scalar.cmpi .eq c32_i32_2312 c0_i32_2313
  let c1_i32_2314 : BitVec 32 := 1#32
  let v2472 : BitVec 32 := Scalar.select v2471 c1_i32_2314 c32_i32_2312
  let v2473 : BitVec 32 := Scalar.remsi v2470 v2472
  let c0_i32_2316 : BitVec 32 := 0#32
  let v2475 : BitVec 1 := Scalar.cmpi .slt v2473 c0_i32_2316
  let c0_i32_2317 : BitVec 32 := 0#32
  let v2476 : BitVec 1 := Scalar.cmpi .slt v2472 c0_i32_2317
  let v2477 : BitVec 1 := Scalar.xori v2475 v2476
  let c0_i32_2315 : BitVec 32 := 0#32
  let v2474 : BitVec 1 := Scalar.cmpi .ne v2473 c0_i32_2315
  let v2478 : BitVec 1 := Scalar.andi v2477 v2474
  let v2479 : BitVec 32 := Scalar.addi v2473 v2472
  let v2480 : BitVec 32 := Scalar.select v2478 v2479 v2473
  let c1_i32_2322 : BitVec 32 := 1#32
  let v2481 : BitVec 32 := Scalar.muli v2480 c1_i32_2322
  let v2482 : BitVec 32 := Scalar.addi c0_i32_2323 v2481
  v2482.toNat
def k0_dev117 (d0 : Dev nD) : Nat :=
  let c0_i32_2338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2326 : BitVec 32 := 24#32
  let v2489 : BitVec 32 := Scalar.addi v2 c24_i32_2326
  let c32_i32_2327 : BitVec 32 := 32#32
  let c0_i32_2328 : BitVec 32 := 0#32
  let v2490 : BitVec 1 := Scalar.cmpi .eq c32_i32_2327 c0_i32_2328
  let c1_i32_2329 : BitVec 32 := 1#32
  let v2491 : BitVec 32 := Scalar.select v2490 c1_i32_2329 c32_i32_2327
  let v2492 : BitVec 32 := Scalar.remsi v2489 v2491
  let c0_i32_2331 : BitVec 32 := 0#32
  let v2494 : BitVec 1 := Scalar.cmpi .slt v2492 c0_i32_2331
  let c0_i32_2332 : BitVec 32 := 0#32
  let v2495 : BitVec 1 := Scalar.cmpi .slt v2491 c0_i32_2332
  let v2496 : BitVec 1 := Scalar.xori v2494 v2495
  let c0_i32_2330 : BitVec 32 := 0#32
  let v2493 : BitVec 1 := Scalar.cmpi .ne v2492 c0_i32_2330
  let v2497 : BitVec 1 := Scalar.andi v2496 v2493
  let v2498 : BitVec 32 := Scalar.addi v2492 v2491
  let v2499 : BitVec 32 := Scalar.select v2497 v2498 v2492
  let c1_i32_2337 : BitVec 32 := 1#32
  let v2500 : BitVec 32 := Scalar.muli v2499 c1_i32_2337
  let v2501 : BitVec 32 := Scalar.addi c0_i32_2338 v2500
  v2501.toNat
def k0_dev118 (d0 : Dev nD) : Nat :=
  let c0_i32_2353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2341 : BitVec 32 := 25#32
  let v2508 : BitVec 32 := Scalar.addi v2 c25_i32_2341
  let c32_i32_2342 : BitVec 32 := 32#32
  let c0_i32_2343 : BitVec 32 := 0#32
  let v2509 : BitVec 1 := Scalar.cmpi .eq c32_i32_2342 c0_i32_2343
  let c1_i32_2344 : BitVec 32 := 1#32
  let v2510 : BitVec 32 := Scalar.select v2509 c1_i32_2344 c32_i32_2342
  let v2511 : BitVec 32 := Scalar.remsi v2508 v2510
  let c0_i32_2346 : BitVec 32 := 0#32
  let v2513 : BitVec 1 := Scalar.cmpi .slt v2511 c0_i32_2346
  let c0_i32_2347 : BitVec 32 := 0#32
  let v2514 : BitVec 1 := Scalar.cmpi .slt v2510 c0_i32_2347
  let v2515 : BitVec 1 := Scalar.xori v2513 v2514
  let c0_i32_2345 : BitVec 32 := 0#32
  let v2512 : BitVec 1 := Scalar.cmpi .ne v2511 c0_i32_2345
  let v2516 : BitVec 1 := Scalar.andi v2515 v2512
  let v2517 : BitVec 32 := Scalar.addi v2511 v2510
  let v2518 : BitVec 32 := Scalar.select v2516 v2517 v2511
  let c1_i32_2352 : BitVec 32 := 1#32
  let v2519 : BitVec 32 := Scalar.muli v2518 c1_i32_2352
  let v2520 : BitVec 32 := Scalar.addi c0_i32_2353 v2519
  v2520.toNat
def k0_dev119 (d0 : Dev nD) : Nat :=
  let c0_i32_2368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2356 : BitVec 32 := 26#32
  let v2527 : BitVec 32 := Scalar.addi v2 c26_i32_2356
  let c32_i32_2357 : BitVec 32 := 32#32
  let c0_i32_2358 : BitVec 32 := 0#32
  let v2528 : BitVec 1 := Scalar.cmpi .eq c32_i32_2357 c0_i32_2358
  let c1_i32_2359 : BitVec 32 := 1#32
  let v2529 : BitVec 32 := Scalar.select v2528 c1_i32_2359 c32_i32_2357
  let v2530 : BitVec 32 := Scalar.remsi v2527 v2529
  let c0_i32_2361 : BitVec 32 := 0#32
  let v2532 : BitVec 1 := Scalar.cmpi .slt v2530 c0_i32_2361
  let c0_i32_2362 : BitVec 32 := 0#32
  let v2533 : BitVec 1 := Scalar.cmpi .slt v2529 c0_i32_2362
  let v2534 : BitVec 1 := Scalar.xori v2532 v2533
  let c0_i32_2360 : BitVec 32 := 0#32
  let v2531 : BitVec 1 := Scalar.cmpi .ne v2530 c0_i32_2360
  let v2535 : BitVec 1 := Scalar.andi v2534 v2531
  let v2536 : BitVec 32 := Scalar.addi v2530 v2529
  let v2537 : BitVec 32 := Scalar.select v2535 v2536 v2530
  let c1_i32_2367 : BitVec 32 := 1#32
  let v2538 : BitVec 32 := Scalar.muli v2537 c1_i32_2367
  let v2539 : BitVec 32 := Scalar.addi c0_i32_2368 v2538
  v2539.toNat
def k0_dev120 (d0 : Dev nD) : Nat :=
  let c0_i32_2383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2371 : BitVec 32 := 27#32
  let v2546 : BitVec 32 := Scalar.addi v2 c27_i32_2371
  let c32_i32_2372 : BitVec 32 := 32#32
  let c0_i32_2373 : BitVec 32 := 0#32
  let v2547 : BitVec 1 := Scalar.cmpi .eq c32_i32_2372 c0_i32_2373
  let c1_i32_2374 : BitVec 32 := 1#32
  let v2548 : BitVec 32 := Scalar.select v2547 c1_i32_2374 c32_i32_2372
  let v2549 : BitVec 32 := Scalar.remsi v2546 v2548
  let c0_i32_2376 : BitVec 32 := 0#32
  let v2551 : BitVec 1 := Scalar.cmpi .slt v2549 c0_i32_2376
  let c0_i32_2377 : BitVec 32 := 0#32
  let v2552 : BitVec 1 := Scalar.cmpi .slt v2548 c0_i32_2377
  let v2553 : BitVec 1 := Scalar.xori v2551 v2552
  let c0_i32_2375 : BitVec 32 := 0#32
  let v2550 : BitVec 1 := Scalar.cmpi .ne v2549 c0_i32_2375
  let v2554 : BitVec 1 := Scalar.andi v2553 v2550
  let v2555 : BitVec 32 := Scalar.addi v2549 v2548
  let v2556 : BitVec 32 := Scalar.select v2554 v2555 v2549
  let c1_i32_2382 : BitVec 32 := 1#32
  let v2557 : BitVec 32 := Scalar.muli v2556 c1_i32_2382
  let v2558 : BitVec 32 := Scalar.addi c0_i32_2383 v2557
  v2558.toNat
def k0_dev121 (d0 : Dev nD) : Nat :=
  let c0_i32_2398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2386 : BitVec 32 := 28#32
  let v2565 : BitVec 32 := Scalar.addi v2 c28_i32_2386
  let c32_i32_2387 : BitVec 32 := 32#32
  let c0_i32_2388 : BitVec 32 := 0#32
  let v2566 : BitVec 1 := Scalar.cmpi .eq c32_i32_2387 c0_i32_2388
  let c1_i32_2389 : BitVec 32 := 1#32
  let v2567 : BitVec 32 := Scalar.select v2566 c1_i32_2389 c32_i32_2387
  let v2568 : BitVec 32 := Scalar.remsi v2565 v2567
  let c0_i32_2391 : BitVec 32 := 0#32
  let v2570 : BitVec 1 := Scalar.cmpi .slt v2568 c0_i32_2391
  let c0_i32_2392 : BitVec 32 := 0#32
  let v2571 : BitVec 1 := Scalar.cmpi .slt v2567 c0_i32_2392
  let v2572 : BitVec 1 := Scalar.xori v2570 v2571
  let c0_i32_2390 : BitVec 32 := 0#32
  let v2569 : BitVec 1 := Scalar.cmpi .ne v2568 c0_i32_2390
  let v2573 : BitVec 1 := Scalar.andi v2572 v2569
  let v2574 : BitVec 32 := Scalar.addi v2568 v2567
  let v2575 : BitVec 32 := Scalar.select v2573 v2574 v2568
  let c1_i32_2397 : BitVec 32 := 1#32
  let v2576 : BitVec 32 := Scalar.muli v2575 c1_i32_2397
  let v2577 : BitVec 32 := Scalar.addi c0_i32_2398 v2576
  v2577.toNat
def k0_dev122 (d0 : Dev nD) : Nat :=
  let c0_i32_2413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2401 : BitVec 32 := 29#32
  let v2584 : BitVec 32 := Scalar.addi v2 c29_i32_2401
  let c32_i32_2402 : BitVec 32 := 32#32
  let c0_i32_2403 : BitVec 32 := 0#32
  let v2585 : BitVec 1 := Scalar.cmpi .eq c32_i32_2402 c0_i32_2403
  let c1_i32_2404 : BitVec 32 := 1#32
  let v2586 : BitVec 32 := Scalar.select v2585 c1_i32_2404 c32_i32_2402
  let v2587 : BitVec 32 := Scalar.remsi v2584 v2586
  let c0_i32_2406 : BitVec 32 := 0#32
  let v2589 : BitVec 1 := Scalar.cmpi .slt v2587 c0_i32_2406
  let c0_i32_2407 : BitVec 32 := 0#32
  let v2590 : BitVec 1 := Scalar.cmpi .slt v2586 c0_i32_2407
  let v2591 : BitVec 1 := Scalar.xori v2589 v2590
  let c0_i32_2405 : BitVec 32 := 0#32
  let v2588 : BitVec 1 := Scalar.cmpi .ne v2587 c0_i32_2405
  let v2592 : BitVec 1 := Scalar.andi v2591 v2588
  let v2593 : BitVec 32 := Scalar.addi v2587 v2586
  let v2594 : BitVec 32 := Scalar.select v2592 v2593 v2587
  let c1_i32_2412 : BitVec 32 := 1#32
  let v2595 : BitVec 32 := Scalar.muli v2594 c1_i32_2412
  let v2596 : BitVec 32 := Scalar.addi c0_i32_2413 v2595
  v2596.toNat
def k0_dev123 (d0 : Dev nD) : Nat :=
  let c0_i32_2428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2416 : BitVec 32 := 30#32
  let v2603 : BitVec 32 := Scalar.addi v2 c30_i32_2416
  let c32_i32_2417 : BitVec 32 := 32#32
  let c0_i32_2418 : BitVec 32 := 0#32
  let v2604 : BitVec 1 := Scalar.cmpi .eq c32_i32_2417 c0_i32_2418
  let c1_i32_2419 : BitVec 32 := 1#32
  let v2605 : BitVec 32 := Scalar.select v2604 c1_i32_2419 c32_i32_2417
  let v2606 : BitVec 32 := Scalar.remsi v2603 v2605
  let c0_i32_2421 : BitVec 32 := 0#32
  let v2608 : BitVec 1 := Scalar.cmpi .slt v2606 c0_i32_2421
  let c0_i32_2422 : BitVec 32 := 0#32
  let v2609 : BitVec 1 := Scalar.cmpi .slt v2605 c0_i32_2422
  let v2610 : BitVec 1 := Scalar.xori v2608 v2609
  let c0_i32_2420 : BitVec 32 := 0#32
  let v2607 : BitVec 1 := Scalar.cmpi .ne v2606 c0_i32_2420
  let v2611 : BitVec 1 := Scalar.andi v2610 v2607
  let v2612 : BitVec 32 := Scalar.addi v2606 v2605
  let v2613 : BitVec 32 := Scalar.select v2611 v2612 v2606
  let c1_i32_2427 : BitVec 32 := 1#32
  let v2614 : BitVec 32 := Scalar.muli v2613 c1_i32_2427
  let v2615 : BitVec 32 := Scalar.addi c0_i32_2428 v2614
  v2615.toNat
def k0_dev124 (d0 : Dev nD) : Nat :=
  let c0_i32_2443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2431 : BitVec 32 := 31#32
  let v2622 : BitVec 32 := Scalar.addi v2 c31_i32_2431
  let c32_i32_2432 : BitVec 32 := 32#32
  let c0_i32_2433 : BitVec 32 := 0#32
  let v2623 : BitVec 1 := Scalar.cmpi .eq c32_i32_2432 c0_i32_2433
  let c1_i32_2434 : BitVec 32 := 1#32
  let v2624 : BitVec 32 := Scalar.select v2623 c1_i32_2434 c32_i32_2432
  let v2625 : BitVec 32 := Scalar.remsi v2622 v2624
  let c0_i32_2436 : BitVec 32 := 0#32
  let v2627 : BitVec 1 := Scalar.cmpi .slt v2625 c0_i32_2436
  let c0_i32_2437 : BitVec 32 := 0#32
  let v2628 : BitVec 1 := Scalar.cmpi .slt v2624 c0_i32_2437
  let v2629 : BitVec 1 := Scalar.xori v2627 v2628
  let c0_i32_2435 : BitVec 32 := 0#32
  let v2626 : BitVec 1 := Scalar.cmpi .ne v2625 c0_i32_2435
  let v2630 : BitVec 1 := Scalar.andi v2629 v2626
  let v2631 : BitVec 32 := Scalar.addi v2625 v2624
  let v2632 : BitVec 32 := Scalar.select v2630 v2631 v2625
  let c1_i32_2442 : BitVec 32 := 1#32
  let v2633 : BitVec 32 := Scalar.muli v2632 c1_i32_2442
  let v2634 : BitVec 32 := Scalar.addi c0_i32_2443 v2633
  v2634.toNat
def k0_dev125 (d0 : Dev nD) : Nat :=
  let c0_i32_2900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2888 : BitVec 32 := 1#32
  let v2900 : BitVec 32 := Scalar.addi v2 c1_i32_2888
  let c32_i32_2889 : BitVec 32 := 32#32
  let c0_i32_2890 : BitVec 32 := 0#32
  let v2901 : BitVec 1 := Scalar.cmpi .eq c32_i32_2889 c0_i32_2890
  let c1_i32_2891 : BitVec 32 := 1#32
  let v2902 : BitVec 32 := Scalar.select v2901 c1_i32_2891 c32_i32_2889
  let v2903 : BitVec 32 := Scalar.remsi v2900 v2902
  let c0_i32_2893 : BitVec 32 := 0#32
  let v2905 : BitVec 1 := Scalar.cmpi .slt v2903 c0_i32_2893
  let c0_i32_2894 : BitVec 32 := 0#32
  let v2906 : BitVec 1 := Scalar.cmpi .slt v2902 c0_i32_2894
  let v2907 : BitVec 1 := Scalar.xori v2905 v2906
  let c0_i32_2892 : BitVec 32 := 0#32
  let v2904 : BitVec 1 := Scalar.cmpi .ne v2903 c0_i32_2892
  let v2908 : BitVec 1 := Scalar.andi v2907 v2904
  let v2909 : BitVec 32 := Scalar.addi v2903 v2902
  let v2910 : BitVec 32 := Scalar.select v2908 v2909 v2903
  let c1_i32_2899 : BitVec 32 := 1#32
  let v2911 : BitVec 32 := Scalar.muli v2910 c1_i32_2899
  let v2912 : BitVec 32 := Scalar.addi c0_i32_2900 v2911
  v2912.toNat
def k0_dev126 (d0 : Dev nD) : Nat :=
  let c0_i32_2915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2903 : BitVec 32 := 2#32
  let v2919 : BitVec 32 := Scalar.addi v2 c2_i32_2903
  let c32_i32_2904 : BitVec 32 := 32#32
  let c0_i32_2905 : BitVec 32 := 0#32
  let v2920 : BitVec 1 := Scalar.cmpi .eq c32_i32_2904 c0_i32_2905
  let c1_i32_2906 : BitVec 32 := 1#32
  let v2921 : BitVec 32 := Scalar.select v2920 c1_i32_2906 c32_i32_2904
  let v2922 : BitVec 32 := Scalar.remsi v2919 v2921
  let c0_i32_2908 : BitVec 32 := 0#32
  let v2924 : BitVec 1 := Scalar.cmpi .slt v2922 c0_i32_2908
  let c0_i32_2909 : BitVec 32 := 0#32
  let v2925 : BitVec 1 := Scalar.cmpi .slt v2921 c0_i32_2909
  let v2926 : BitVec 1 := Scalar.xori v2924 v2925
  let c0_i32_2907 : BitVec 32 := 0#32
  let v2923 : BitVec 1 := Scalar.cmpi .ne v2922 c0_i32_2907
  let v2927 : BitVec 1 := Scalar.andi v2926 v2923
  let v2928 : BitVec 32 := Scalar.addi v2922 v2921
  let v2929 : BitVec 32 := Scalar.select v2927 v2928 v2922
  let c1_i32_2914 : BitVec 32 := 1#32
  let v2930 : BitVec 32 := Scalar.muli v2929 c1_i32_2914
  let v2931 : BitVec 32 := Scalar.addi c0_i32_2915 v2930
  v2931.toNat
def k0_dev127 (d0 : Dev nD) : Nat :=
  let c0_i32_2930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2918 : BitVec 32 := 3#32
  let v2938 : BitVec 32 := Scalar.addi v2 c3_i32_2918
  let c32_i32_2919 : BitVec 32 := 32#32
  let c0_i32_2920 : BitVec 32 := 0#32
  let v2939 : BitVec 1 := Scalar.cmpi .eq c32_i32_2919 c0_i32_2920
  let c1_i32_2921 : BitVec 32 := 1#32
  let v2940 : BitVec 32 := Scalar.select v2939 c1_i32_2921 c32_i32_2919
  let v2941 : BitVec 32 := Scalar.remsi v2938 v2940
  let c0_i32_2923 : BitVec 32 := 0#32
  let v2943 : BitVec 1 := Scalar.cmpi .slt v2941 c0_i32_2923
  let c0_i32_2924 : BitVec 32 := 0#32
  let v2944 : BitVec 1 := Scalar.cmpi .slt v2940 c0_i32_2924
  let v2945 : BitVec 1 := Scalar.xori v2943 v2944
  let c0_i32_2922 : BitVec 32 := 0#32
  let v2942 : BitVec 1 := Scalar.cmpi .ne v2941 c0_i32_2922
  let v2946 : BitVec 1 := Scalar.andi v2945 v2942
  let v2947 : BitVec 32 := Scalar.addi v2941 v2940
  let v2948 : BitVec 32 := Scalar.select v2946 v2947 v2941
  let c1_i32_2929 : BitVec 32 := 1#32
  let v2949 : BitVec 32 := Scalar.muli v2948 c1_i32_2929
  let v2950 : BitVec 32 := Scalar.addi c0_i32_2930 v2949
  v2950.toNat
def k0_dev128 (d0 : Dev nD) : Nat :=
  let c0_i32_2945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2933 : BitVec 32 := 4#32
  let v2957 : BitVec 32 := Scalar.addi v2 c4_i32_2933
  let c32_i32_2934 : BitVec 32 := 32#32
  let c0_i32_2935 : BitVec 32 := 0#32
  let v2958 : BitVec 1 := Scalar.cmpi .eq c32_i32_2934 c0_i32_2935
  let c1_i32_2936 : BitVec 32 := 1#32
  let v2959 : BitVec 32 := Scalar.select v2958 c1_i32_2936 c32_i32_2934
  let v2960 : BitVec 32 := Scalar.remsi v2957 v2959
  let c0_i32_2938 : BitVec 32 := 0#32
  let v2962 : BitVec 1 := Scalar.cmpi .slt v2960 c0_i32_2938
  let c0_i32_2939 : BitVec 32 := 0#32
  let v2963 : BitVec 1 := Scalar.cmpi .slt v2959 c0_i32_2939
  let v2964 : BitVec 1 := Scalar.xori v2962 v2963
  let c0_i32_2937 : BitVec 32 := 0#32
  let v2961 : BitVec 1 := Scalar.cmpi .ne v2960 c0_i32_2937
  let v2965 : BitVec 1 := Scalar.andi v2964 v2961
  let v2966 : BitVec 32 := Scalar.addi v2960 v2959
  let v2967 : BitVec 32 := Scalar.select v2965 v2966 v2960
  let c1_i32_2944 : BitVec 32 := 1#32
  let v2968 : BitVec 32 := Scalar.muli v2967 c1_i32_2944
  let v2969 : BitVec 32 := Scalar.addi c0_i32_2945 v2968
  v2969.toNat
def k0_dev129 (d0 : Dev nD) : Nat :=
  let c0_i32_2960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2948 : BitVec 32 := 5#32
  let v2976 : BitVec 32 := Scalar.addi v2 c5_i32_2948
  let c32_i32_2949 : BitVec 32 := 32#32
  let c0_i32_2950 : BitVec 32 := 0#32
  let v2977 : BitVec 1 := Scalar.cmpi .eq c32_i32_2949 c0_i32_2950
  let c1_i32_2951 : BitVec 32 := 1#32
  let v2978 : BitVec 32 := Scalar.select v2977 c1_i32_2951 c32_i32_2949
  let v2979 : BitVec 32 := Scalar.remsi v2976 v2978
  let c0_i32_2953 : BitVec 32 := 0#32
  let v2981 : BitVec 1 := Scalar.cmpi .slt v2979 c0_i32_2953
  let c0_i32_2954 : BitVec 32 := 0#32
  let v2982 : BitVec 1 := Scalar.cmpi .slt v2978 c0_i32_2954
  let v2983 : BitVec 1 := Scalar.xori v2981 v2982
  let c0_i32_2952 : BitVec 32 := 0#32
  let v2980 : BitVec 1 := Scalar.cmpi .ne v2979 c0_i32_2952
  let v2984 : BitVec 1 := Scalar.andi v2983 v2980
  let v2985 : BitVec 32 := Scalar.addi v2979 v2978
  let v2986 : BitVec 32 := Scalar.select v2984 v2985 v2979
  let c1_i32_2959 : BitVec 32 := 1#32
  let v2987 : BitVec 32 := Scalar.muli v2986 c1_i32_2959
  let v2988 : BitVec 32 := Scalar.addi c0_i32_2960 v2987
  v2988.toNat
def k0_dev130 (d0 : Dev nD) : Nat :=
  let c0_i32_2975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2963 : BitVec 32 := 6#32
  let v2995 : BitVec 32 := Scalar.addi v2 c6_i32_2963
  let c32_i32_2964 : BitVec 32 := 32#32
  let c0_i32_2965 : BitVec 32 := 0#32
  let v2996 : BitVec 1 := Scalar.cmpi .eq c32_i32_2964 c0_i32_2965
  let c1_i32_2966 : BitVec 32 := 1#32
  let v2997 : BitVec 32 := Scalar.select v2996 c1_i32_2966 c32_i32_2964
  let v2998 : BitVec 32 := Scalar.remsi v2995 v2997
  let c0_i32_2968 : BitVec 32 := 0#32
  let v3000 : BitVec 1 := Scalar.cmpi .slt v2998 c0_i32_2968
  let c0_i32_2969 : BitVec 32 := 0#32
  let v3001 : BitVec 1 := Scalar.cmpi .slt v2997 c0_i32_2969
  let v3002 : BitVec 1 := Scalar.xori v3000 v3001
  let c0_i32_2967 : BitVec 32 := 0#32
  let v2999 : BitVec 1 := Scalar.cmpi .ne v2998 c0_i32_2967
  let v3003 : BitVec 1 := Scalar.andi v3002 v2999
  let v3004 : BitVec 32 := Scalar.addi v2998 v2997
  let v3005 : BitVec 32 := Scalar.select v3003 v3004 v2998
  let c1_i32_2974 : BitVec 32 := 1#32
  let v3006 : BitVec 32 := Scalar.muli v3005 c1_i32_2974
  let v3007 : BitVec 32 := Scalar.addi c0_i32_2975 v3006
  v3007.toNat
def k0_dev131 (d0 : Dev nD) : Nat :=
  let c0_i32_2990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2978 : BitVec 32 := 7#32
  let v3014 : BitVec 32 := Scalar.addi v2 c7_i32_2978
  let c32_i32_2979 : BitVec 32 := 32#32
  let c0_i32_2980 : BitVec 32 := 0#32
  let v3015 : BitVec 1 := Scalar.cmpi .eq c32_i32_2979 c0_i32_2980
  let c1_i32_2981 : BitVec 32 := 1#32
  let v3016 : BitVec 32 := Scalar.select v3015 c1_i32_2981 c32_i32_2979
  let v3017 : BitVec 32 := Scalar.remsi v3014 v3016
  let c0_i32_2983 : BitVec 32 := 0#32
  let v3019 : BitVec 1 := Scalar.cmpi .slt v3017 c0_i32_2983
  let c0_i32_2984 : BitVec 32 := 0#32
  let v3020 : BitVec 1 := Scalar.cmpi .slt v3016 c0_i32_2984
  let v3021 : BitVec 1 := Scalar.xori v3019 v3020
  let c0_i32_2982 : BitVec 32 := 0#32
  let v3018 : BitVec 1 := Scalar.cmpi .ne v3017 c0_i32_2982
  let v3022 : BitVec 1 := Scalar.andi v3021 v3018
  let v3023 : BitVec 32 := Scalar.addi v3017 v3016
  let v3024 : BitVec 32 := Scalar.select v3022 v3023 v3017
  let c1_i32_2989 : BitVec 32 := 1#32
  let v3025 : BitVec 32 := Scalar.muli v3024 c1_i32_2989
  let v3026 : BitVec 32 := Scalar.addi c0_i32_2990 v3025
  v3026.toNat
def k0_dev132 (d0 : Dev nD) : Nat :=
  let c0_i32_3005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2993 : BitVec 32 := 8#32
  let v3033 : BitVec 32 := Scalar.addi v2 c8_i32_2993
  let c32_i32_2994 : BitVec 32 := 32#32
  let c0_i32_2995 : BitVec 32 := 0#32
  let v3034 : BitVec 1 := Scalar.cmpi .eq c32_i32_2994 c0_i32_2995
  let c1_i32_2996 : BitVec 32 := 1#32
  let v3035 : BitVec 32 := Scalar.select v3034 c1_i32_2996 c32_i32_2994
  let v3036 : BitVec 32 := Scalar.remsi v3033 v3035
  let c0_i32_2998 : BitVec 32 := 0#32
  let v3038 : BitVec 1 := Scalar.cmpi .slt v3036 c0_i32_2998
  let c0_i32_2999 : BitVec 32 := 0#32
  let v3039 : BitVec 1 := Scalar.cmpi .slt v3035 c0_i32_2999
  let v3040 : BitVec 1 := Scalar.xori v3038 v3039
  let c0_i32_2997 : BitVec 32 := 0#32
  let v3037 : BitVec 1 := Scalar.cmpi .ne v3036 c0_i32_2997
  let v3041 : BitVec 1 := Scalar.andi v3040 v3037
  let v3042 : BitVec 32 := Scalar.addi v3036 v3035
  let v3043 : BitVec 32 := Scalar.select v3041 v3042 v3036
  let c1_i32_3004 : BitVec 32 := 1#32
  let v3044 : BitVec 32 := Scalar.muli v3043 c1_i32_3004
  let v3045 : BitVec 32 := Scalar.addi c0_i32_3005 v3044
  v3045.toNat
def k0_dev133 (d0 : Dev nD) : Nat :=
  let c0_i32_3020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3008 : BitVec 32 := 9#32
  let v3052 : BitVec 32 := Scalar.addi v2 c9_i32_3008
  let c32_i32_3009 : BitVec 32 := 32#32
  let c0_i32_3010 : BitVec 32 := 0#32
  let v3053 : BitVec 1 := Scalar.cmpi .eq c32_i32_3009 c0_i32_3010
  let c1_i32_3011 : BitVec 32 := 1#32
  let v3054 : BitVec 32 := Scalar.select v3053 c1_i32_3011 c32_i32_3009
  let v3055 : BitVec 32 := Scalar.remsi v3052 v3054
  let c0_i32_3013 : BitVec 32 := 0#32
  let v3057 : BitVec 1 := Scalar.cmpi .slt v3055 c0_i32_3013
  let c0_i32_3014 : BitVec 32 := 0#32
  let v3058 : BitVec 1 := Scalar.cmpi .slt v3054 c0_i32_3014
  let v3059 : BitVec 1 := Scalar.xori v3057 v3058
  let c0_i32_3012 : BitVec 32 := 0#32
  let v3056 : BitVec 1 := Scalar.cmpi .ne v3055 c0_i32_3012
  let v3060 : BitVec 1 := Scalar.andi v3059 v3056
  let v3061 : BitVec 32 := Scalar.addi v3055 v3054
  let v3062 : BitVec 32 := Scalar.select v3060 v3061 v3055
  let c1_i32_3019 : BitVec 32 := 1#32
  let v3063 : BitVec 32 := Scalar.muli v3062 c1_i32_3019
  let v3064 : BitVec 32 := Scalar.addi c0_i32_3020 v3063
  v3064.toNat
def k0_dev134 (d0 : Dev nD) : Nat :=
  let c0_i32_3035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3023 : BitVec 32 := 10#32
  let v3071 : BitVec 32 := Scalar.addi v2 c10_i32_3023
  let c32_i32_3024 : BitVec 32 := 32#32
  let c0_i32_3025 : BitVec 32 := 0#32
  let v3072 : BitVec 1 := Scalar.cmpi .eq c32_i32_3024 c0_i32_3025
  let c1_i32_3026 : BitVec 32 := 1#32
  let v3073 : BitVec 32 := Scalar.select v3072 c1_i32_3026 c32_i32_3024
  let v3074 : BitVec 32 := Scalar.remsi v3071 v3073
  let c0_i32_3028 : BitVec 32 := 0#32
  let v3076 : BitVec 1 := Scalar.cmpi .slt v3074 c0_i32_3028
  let c0_i32_3029 : BitVec 32 := 0#32
  let v3077 : BitVec 1 := Scalar.cmpi .slt v3073 c0_i32_3029
  let v3078 : BitVec 1 := Scalar.xori v3076 v3077
  let c0_i32_3027 : BitVec 32 := 0#32
  let v3075 : BitVec 1 := Scalar.cmpi .ne v3074 c0_i32_3027
  let v3079 : BitVec 1 := Scalar.andi v3078 v3075
  let v3080 : BitVec 32 := Scalar.addi v3074 v3073
  let v3081 : BitVec 32 := Scalar.select v3079 v3080 v3074
  let c1_i32_3034 : BitVec 32 := 1#32
  let v3082 : BitVec 32 := Scalar.muli v3081 c1_i32_3034
  let v3083 : BitVec 32 := Scalar.addi c0_i32_3035 v3082
  v3083.toNat
def k0_dev135 (d0 : Dev nD) : Nat :=
  let c0_i32_3050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3038 : BitVec 32 := 11#32
  let v3090 : BitVec 32 := Scalar.addi v2 c11_i32_3038
  let c32_i32_3039 : BitVec 32 := 32#32
  let c0_i32_3040 : BitVec 32 := 0#32
  let v3091 : BitVec 1 := Scalar.cmpi .eq c32_i32_3039 c0_i32_3040
  let c1_i32_3041 : BitVec 32 := 1#32
  let v3092 : BitVec 32 := Scalar.select v3091 c1_i32_3041 c32_i32_3039
  let v3093 : BitVec 32 := Scalar.remsi v3090 v3092
  let c0_i32_3043 : BitVec 32 := 0#32
  let v3095 : BitVec 1 := Scalar.cmpi .slt v3093 c0_i32_3043
  let c0_i32_3044 : BitVec 32 := 0#32
  let v3096 : BitVec 1 := Scalar.cmpi .slt v3092 c0_i32_3044
  let v3097 : BitVec 1 := Scalar.xori v3095 v3096
  let c0_i32_3042 : BitVec 32 := 0#32
  let v3094 : BitVec 1 := Scalar.cmpi .ne v3093 c0_i32_3042
  let v3098 : BitVec 1 := Scalar.andi v3097 v3094
  let v3099 : BitVec 32 := Scalar.addi v3093 v3092
  let v3100 : BitVec 32 := Scalar.select v3098 v3099 v3093
  let c1_i32_3049 : BitVec 32 := 1#32
  let v3101 : BitVec 32 := Scalar.muli v3100 c1_i32_3049
  let v3102 : BitVec 32 := Scalar.addi c0_i32_3050 v3101
  v3102.toNat
def k0_dev136 (d0 : Dev nD) : Nat :=
  let c0_i32_3065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3053 : BitVec 32 := 12#32
  let v3109 : BitVec 32 := Scalar.addi v2 c12_i32_3053
  let c32_i32_3054 : BitVec 32 := 32#32
  let c0_i32_3055 : BitVec 32 := 0#32
  let v3110 : BitVec 1 := Scalar.cmpi .eq c32_i32_3054 c0_i32_3055
  let c1_i32_3056 : BitVec 32 := 1#32
  let v3111 : BitVec 32 := Scalar.select v3110 c1_i32_3056 c32_i32_3054
  let v3112 : BitVec 32 := Scalar.remsi v3109 v3111
  let c0_i32_3058 : BitVec 32 := 0#32
  let v3114 : BitVec 1 := Scalar.cmpi .slt v3112 c0_i32_3058
  let c0_i32_3059 : BitVec 32 := 0#32
  let v3115 : BitVec 1 := Scalar.cmpi .slt v3111 c0_i32_3059
  let v3116 : BitVec 1 := Scalar.xori v3114 v3115
  let c0_i32_3057 : BitVec 32 := 0#32
  let v3113 : BitVec 1 := Scalar.cmpi .ne v3112 c0_i32_3057
  let v3117 : BitVec 1 := Scalar.andi v3116 v3113
  let v3118 : BitVec 32 := Scalar.addi v3112 v3111
  let v3119 : BitVec 32 := Scalar.select v3117 v3118 v3112
  let c1_i32_3064 : BitVec 32 := 1#32
  let v3120 : BitVec 32 := Scalar.muli v3119 c1_i32_3064
  let v3121 : BitVec 32 := Scalar.addi c0_i32_3065 v3120
  v3121.toNat
def k0_dev137 (d0 : Dev nD) : Nat :=
  let c0_i32_3080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3068 : BitVec 32 := 13#32
  let v3128 : BitVec 32 := Scalar.addi v2 c13_i32_3068
  let c32_i32_3069 : BitVec 32 := 32#32
  let c0_i32_3070 : BitVec 32 := 0#32
  let v3129 : BitVec 1 := Scalar.cmpi .eq c32_i32_3069 c0_i32_3070
  let c1_i32_3071 : BitVec 32 := 1#32
  let v3130 : BitVec 32 := Scalar.select v3129 c1_i32_3071 c32_i32_3069
  let v3131 : BitVec 32 := Scalar.remsi v3128 v3130
  let c0_i32_3073 : BitVec 32 := 0#32
  let v3133 : BitVec 1 := Scalar.cmpi .slt v3131 c0_i32_3073
  let c0_i32_3074 : BitVec 32 := 0#32
  let v3134 : BitVec 1 := Scalar.cmpi .slt v3130 c0_i32_3074
  let v3135 : BitVec 1 := Scalar.xori v3133 v3134
  let c0_i32_3072 : BitVec 32 := 0#32
  let v3132 : BitVec 1 := Scalar.cmpi .ne v3131 c0_i32_3072
  let v3136 : BitVec 1 := Scalar.andi v3135 v3132
  let v3137 : BitVec 32 := Scalar.addi v3131 v3130
  let v3138 : BitVec 32 := Scalar.select v3136 v3137 v3131
  let c1_i32_3079 : BitVec 32 := 1#32
  let v3139 : BitVec 32 := Scalar.muli v3138 c1_i32_3079
  let v3140 : BitVec 32 := Scalar.addi c0_i32_3080 v3139
  v3140.toNat
def k0_dev138 (d0 : Dev nD) : Nat :=
  let c0_i32_3095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3083 : BitVec 32 := 14#32
  let v3147 : BitVec 32 := Scalar.addi v2 c14_i32_3083
  let c32_i32_3084 : BitVec 32 := 32#32
  let c0_i32_3085 : BitVec 32 := 0#32
  let v3148 : BitVec 1 := Scalar.cmpi .eq c32_i32_3084 c0_i32_3085
  let c1_i32_3086 : BitVec 32 := 1#32
  let v3149 : BitVec 32 := Scalar.select v3148 c1_i32_3086 c32_i32_3084
  let v3150 : BitVec 32 := Scalar.remsi v3147 v3149
  let c0_i32_3088 : BitVec 32 := 0#32
  let v3152 : BitVec 1 := Scalar.cmpi .slt v3150 c0_i32_3088
  let c0_i32_3089 : BitVec 32 := 0#32
  let v3153 : BitVec 1 := Scalar.cmpi .slt v3149 c0_i32_3089
  let v3154 : BitVec 1 := Scalar.xori v3152 v3153
  let c0_i32_3087 : BitVec 32 := 0#32
  let v3151 : BitVec 1 := Scalar.cmpi .ne v3150 c0_i32_3087
  let v3155 : BitVec 1 := Scalar.andi v3154 v3151
  let v3156 : BitVec 32 := Scalar.addi v3150 v3149
  let v3157 : BitVec 32 := Scalar.select v3155 v3156 v3150
  let c1_i32_3094 : BitVec 32 := 1#32
  let v3158 : BitVec 32 := Scalar.muli v3157 c1_i32_3094
  let v3159 : BitVec 32 := Scalar.addi c0_i32_3095 v3158
  v3159.toNat
def k0_dev139 (d0 : Dev nD) : Nat :=
  let c0_i32_3110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3098 : BitVec 32 := 15#32
  let v3166 : BitVec 32 := Scalar.addi v2 c15_i32_3098
  let c32_i32_3099 : BitVec 32 := 32#32
  let c0_i32_3100 : BitVec 32 := 0#32
  let v3167 : BitVec 1 := Scalar.cmpi .eq c32_i32_3099 c0_i32_3100
  let c1_i32_3101 : BitVec 32 := 1#32
  let v3168 : BitVec 32 := Scalar.select v3167 c1_i32_3101 c32_i32_3099
  let v3169 : BitVec 32 := Scalar.remsi v3166 v3168
  let c0_i32_3103 : BitVec 32 := 0#32
  let v3171 : BitVec 1 := Scalar.cmpi .slt v3169 c0_i32_3103
  let c0_i32_3104 : BitVec 32 := 0#32
  let v3172 : BitVec 1 := Scalar.cmpi .slt v3168 c0_i32_3104
  let v3173 : BitVec 1 := Scalar.xori v3171 v3172
  let c0_i32_3102 : BitVec 32 := 0#32
  let v3170 : BitVec 1 := Scalar.cmpi .ne v3169 c0_i32_3102
  let v3174 : BitVec 1 := Scalar.andi v3173 v3170
  let v3175 : BitVec 32 := Scalar.addi v3169 v3168
  let v3176 : BitVec 32 := Scalar.select v3174 v3175 v3169
  let c1_i32_3109 : BitVec 32 := 1#32
  let v3177 : BitVec 32 := Scalar.muli v3176 c1_i32_3109
  let v3178 : BitVec 32 := Scalar.addi c0_i32_3110 v3177
  v3178.toNat
def k0_dev140 (d0 : Dev nD) : Nat :=
  let c0_i32_3125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3113 : BitVec 32 := 16#32
  let v3185 : BitVec 32 := Scalar.addi v2 c16_i32_3113
  let c32_i32_3114 : BitVec 32 := 32#32
  let c0_i32_3115 : BitVec 32 := 0#32
  let v3186 : BitVec 1 := Scalar.cmpi .eq c32_i32_3114 c0_i32_3115
  let c1_i32_3116 : BitVec 32 := 1#32
  let v3187 : BitVec 32 := Scalar.select v3186 c1_i32_3116 c32_i32_3114
  let v3188 : BitVec 32 := Scalar.remsi v3185 v3187
  let c0_i32_3118 : BitVec 32 := 0#32
  let v3190 : BitVec 1 := Scalar.cmpi .slt v3188 c0_i32_3118
  let c0_i32_3119 : BitVec 32 := 0#32
  let v3191 : BitVec 1 := Scalar.cmpi .slt v3187 c0_i32_3119
  let v3192 : BitVec 1 := Scalar.xori v3190 v3191
  let c0_i32_3117 : BitVec 32 := 0#32
  let v3189 : BitVec 1 := Scalar.cmpi .ne v3188 c0_i32_3117
  let v3193 : BitVec 1 := Scalar.andi v3192 v3189
  let v3194 : BitVec 32 := Scalar.addi v3188 v3187
  let v3195 : BitVec 32 := Scalar.select v3193 v3194 v3188
  let c1_i32_3124 : BitVec 32 := 1#32
  let v3196 : BitVec 32 := Scalar.muli v3195 c1_i32_3124
  let v3197 : BitVec 32 := Scalar.addi c0_i32_3125 v3196
  v3197.toNat
def k0_dev141 (d0 : Dev nD) : Nat :=
  let c0_i32_3140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3128 : BitVec 32 := 17#32
  let v3204 : BitVec 32 := Scalar.addi v2 c17_i32_3128
  let c32_i32_3129 : BitVec 32 := 32#32
  let c0_i32_3130 : BitVec 32 := 0#32
  let v3205 : BitVec 1 := Scalar.cmpi .eq c32_i32_3129 c0_i32_3130
  let c1_i32_3131 : BitVec 32 := 1#32
  let v3206 : BitVec 32 := Scalar.select v3205 c1_i32_3131 c32_i32_3129
  let v3207 : BitVec 32 := Scalar.remsi v3204 v3206
  let c0_i32_3133 : BitVec 32 := 0#32
  let v3209 : BitVec 1 := Scalar.cmpi .slt v3207 c0_i32_3133
  let c0_i32_3134 : BitVec 32 := 0#32
  let v3210 : BitVec 1 := Scalar.cmpi .slt v3206 c0_i32_3134
  let v3211 : BitVec 1 := Scalar.xori v3209 v3210
  let c0_i32_3132 : BitVec 32 := 0#32
  let v3208 : BitVec 1 := Scalar.cmpi .ne v3207 c0_i32_3132
  let v3212 : BitVec 1 := Scalar.andi v3211 v3208
  let v3213 : BitVec 32 := Scalar.addi v3207 v3206
  let v3214 : BitVec 32 := Scalar.select v3212 v3213 v3207
  let c1_i32_3139 : BitVec 32 := 1#32
  let v3215 : BitVec 32 := Scalar.muli v3214 c1_i32_3139
  let v3216 : BitVec 32 := Scalar.addi c0_i32_3140 v3215
  v3216.toNat
def k0_dev142 (d0 : Dev nD) : Nat :=
  let c0_i32_3155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3143 : BitVec 32 := 18#32
  let v3223 : BitVec 32 := Scalar.addi v2 c18_i32_3143
  let c32_i32_3144 : BitVec 32 := 32#32
  let c0_i32_3145 : BitVec 32 := 0#32
  let v3224 : BitVec 1 := Scalar.cmpi .eq c32_i32_3144 c0_i32_3145
  let c1_i32_3146 : BitVec 32 := 1#32
  let v3225 : BitVec 32 := Scalar.select v3224 c1_i32_3146 c32_i32_3144
  let v3226 : BitVec 32 := Scalar.remsi v3223 v3225
  let c0_i32_3148 : BitVec 32 := 0#32
  let v3228 : BitVec 1 := Scalar.cmpi .slt v3226 c0_i32_3148
  let c0_i32_3149 : BitVec 32 := 0#32
  let v3229 : BitVec 1 := Scalar.cmpi .slt v3225 c0_i32_3149
  let v3230 : BitVec 1 := Scalar.xori v3228 v3229
  let c0_i32_3147 : BitVec 32 := 0#32
  let v3227 : BitVec 1 := Scalar.cmpi .ne v3226 c0_i32_3147
  let v3231 : BitVec 1 := Scalar.andi v3230 v3227
  let v3232 : BitVec 32 := Scalar.addi v3226 v3225
  let v3233 : BitVec 32 := Scalar.select v3231 v3232 v3226
  let c1_i32_3154 : BitVec 32 := 1#32
  let v3234 : BitVec 32 := Scalar.muli v3233 c1_i32_3154
  let v3235 : BitVec 32 := Scalar.addi c0_i32_3155 v3234
  v3235.toNat
def k0_dev143 (d0 : Dev nD) : Nat :=
  let c0_i32_3170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3158 : BitVec 32 := 19#32
  let v3242 : BitVec 32 := Scalar.addi v2 c19_i32_3158
  let c32_i32_3159 : BitVec 32 := 32#32
  let c0_i32_3160 : BitVec 32 := 0#32
  let v3243 : BitVec 1 := Scalar.cmpi .eq c32_i32_3159 c0_i32_3160
  let c1_i32_3161 : BitVec 32 := 1#32
  let v3244 : BitVec 32 := Scalar.select v3243 c1_i32_3161 c32_i32_3159
  let v3245 : BitVec 32 := Scalar.remsi v3242 v3244
  let c0_i32_3163 : BitVec 32 := 0#32
  let v3247 : BitVec 1 := Scalar.cmpi .slt v3245 c0_i32_3163
  let c0_i32_3164 : BitVec 32 := 0#32
  let v3248 : BitVec 1 := Scalar.cmpi .slt v3244 c0_i32_3164
  let v3249 : BitVec 1 := Scalar.xori v3247 v3248
  let c0_i32_3162 : BitVec 32 := 0#32
  let v3246 : BitVec 1 := Scalar.cmpi .ne v3245 c0_i32_3162
  let v3250 : BitVec 1 := Scalar.andi v3249 v3246
  let v3251 : BitVec 32 := Scalar.addi v3245 v3244
  let v3252 : BitVec 32 := Scalar.select v3250 v3251 v3245
  let c1_i32_3169 : BitVec 32 := 1#32
  let v3253 : BitVec 32 := Scalar.muli v3252 c1_i32_3169
  let v3254 : BitVec 32 := Scalar.addi c0_i32_3170 v3253
  v3254.toNat
def k0_dev144 (d0 : Dev nD) : Nat :=
  let c0_i32_3185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3173 : BitVec 32 := 20#32
  let v3261 : BitVec 32 := Scalar.addi v2 c20_i32_3173
  let c32_i32_3174 : BitVec 32 := 32#32
  let c0_i32_3175 : BitVec 32 := 0#32
  let v3262 : BitVec 1 := Scalar.cmpi .eq c32_i32_3174 c0_i32_3175
  let c1_i32_3176 : BitVec 32 := 1#32
  let v3263 : BitVec 32 := Scalar.select v3262 c1_i32_3176 c32_i32_3174
  let v3264 : BitVec 32 := Scalar.remsi v3261 v3263
  let c0_i32_3178 : BitVec 32 := 0#32
  let v3266 : BitVec 1 := Scalar.cmpi .slt v3264 c0_i32_3178
  let c0_i32_3179 : BitVec 32 := 0#32
  let v3267 : BitVec 1 := Scalar.cmpi .slt v3263 c0_i32_3179
  let v3268 : BitVec 1 := Scalar.xori v3266 v3267
  let c0_i32_3177 : BitVec 32 := 0#32
  let v3265 : BitVec 1 := Scalar.cmpi .ne v3264 c0_i32_3177
  let v3269 : BitVec 1 := Scalar.andi v3268 v3265
  let v3270 : BitVec 32 := Scalar.addi v3264 v3263
  let v3271 : BitVec 32 := Scalar.select v3269 v3270 v3264
  let c1_i32_3184 : BitVec 32 := 1#32
  let v3272 : BitVec 32 := Scalar.muli v3271 c1_i32_3184
  let v3273 : BitVec 32 := Scalar.addi c0_i32_3185 v3272
  v3273.toNat
def k0_dev145 (d0 : Dev nD) : Nat :=
  let c0_i32_3200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3188 : BitVec 32 := 21#32
  let v3280 : BitVec 32 := Scalar.addi v2 c21_i32_3188
  let c32_i32_3189 : BitVec 32 := 32#32
  let c0_i32_3190 : BitVec 32 := 0#32
  let v3281 : BitVec 1 := Scalar.cmpi .eq c32_i32_3189 c0_i32_3190
  let c1_i32_3191 : BitVec 32 := 1#32
  let v3282 : BitVec 32 := Scalar.select v3281 c1_i32_3191 c32_i32_3189
  let v3283 : BitVec 32 := Scalar.remsi v3280 v3282
  let c0_i32_3193 : BitVec 32 := 0#32
  let v3285 : BitVec 1 := Scalar.cmpi .slt v3283 c0_i32_3193
  let c0_i32_3194 : BitVec 32 := 0#32
  let v3286 : BitVec 1 := Scalar.cmpi .slt v3282 c0_i32_3194
  let v3287 : BitVec 1 := Scalar.xori v3285 v3286
  let c0_i32_3192 : BitVec 32 := 0#32
  let v3284 : BitVec 1 := Scalar.cmpi .ne v3283 c0_i32_3192
  let v3288 : BitVec 1 := Scalar.andi v3287 v3284
  let v3289 : BitVec 32 := Scalar.addi v3283 v3282
  let v3290 : BitVec 32 := Scalar.select v3288 v3289 v3283
  let c1_i32_3199 : BitVec 32 := 1#32
  let v3291 : BitVec 32 := Scalar.muli v3290 c1_i32_3199
  let v3292 : BitVec 32 := Scalar.addi c0_i32_3200 v3291
  v3292.toNat
def k0_dev146 (d0 : Dev nD) : Nat :=
  let c0_i32_3215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3203 : BitVec 32 := 22#32
  let v3299 : BitVec 32 := Scalar.addi v2 c22_i32_3203
  let c32_i32_3204 : BitVec 32 := 32#32
  let c0_i32_3205 : BitVec 32 := 0#32
  let v3300 : BitVec 1 := Scalar.cmpi .eq c32_i32_3204 c0_i32_3205
  let c1_i32_3206 : BitVec 32 := 1#32
  let v3301 : BitVec 32 := Scalar.select v3300 c1_i32_3206 c32_i32_3204
  let v3302 : BitVec 32 := Scalar.remsi v3299 v3301
  let c0_i32_3208 : BitVec 32 := 0#32
  let v3304 : BitVec 1 := Scalar.cmpi .slt v3302 c0_i32_3208
  let c0_i32_3209 : BitVec 32 := 0#32
  let v3305 : BitVec 1 := Scalar.cmpi .slt v3301 c0_i32_3209
  let v3306 : BitVec 1 := Scalar.xori v3304 v3305
  let c0_i32_3207 : BitVec 32 := 0#32
  let v3303 : BitVec 1 := Scalar.cmpi .ne v3302 c0_i32_3207
  let v3307 : BitVec 1 := Scalar.andi v3306 v3303
  let v3308 : BitVec 32 := Scalar.addi v3302 v3301
  let v3309 : BitVec 32 := Scalar.select v3307 v3308 v3302
  let c1_i32_3214 : BitVec 32 := 1#32
  let v3310 : BitVec 32 := Scalar.muli v3309 c1_i32_3214
  let v3311 : BitVec 32 := Scalar.addi c0_i32_3215 v3310
  v3311.toNat
def k0_dev147 (d0 : Dev nD) : Nat :=
  let c0_i32_3230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3218 : BitVec 32 := 23#32
  let v3318 : BitVec 32 := Scalar.addi v2 c23_i32_3218
  let c32_i32_3219 : BitVec 32 := 32#32
  let c0_i32_3220 : BitVec 32 := 0#32
  let v3319 : BitVec 1 := Scalar.cmpi .eq c32_i32_3219 c0_i32_3220
  let c1_i32_3221 : BitVec 32 := 1#32
  let v3320 : BitVec 32 := Scalar.select v3319 c1_i32_3221 c32_i32_3219
  let v3321 : BitVec 32 := Scalar.remsi v3318 v3320
  let c0_i32_3223 : BitVec 32 := 0#32
  let v3323 : BitVec 1 := Scalar.cmpi .slt v3321 c0_i32_3223
  let c0_i32_3224 : BitVec 32 := 0#32
  let v3324 : BitVec 1 := Scalar.cmpi .slt v3320 c0_i32_3224
  let v3325 : BitVec 1 := Scalar.xori v3323 v3324
  let c0_i32_3222 : BitVec 32 := 0#32
  let v3322 : BitVec 1 := Scalar.cmpi .ne v3321 c0_i32_3222
  let v3326 : BitVec 1 := Scalar.andi v3325 v3322
  let v3327 : BitVec 32 := Scalar.addi v3321 v3320
  let v3328 : BitVec 32 := Scalar.select v3326 v3327 v3321
  let c1_i32_3229 : BitVec 32 := 1#32
  let v3329 : BitVec 32 := Scalar.muli v3328 c1_i32_3229
  let v3330 : BitVec 32 := Scalar.addi c0_i32_3230 v3329
  v3330.toNat
def k0_dev148 (d0 : Dev nD) : Nat :=
  let c0_i32_3245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3233 : BitVec 32 := 24#32
  let v3337 : BitVec 32 := Scalar.addi v2 c24_i32_3233
  let c32_i32_3234 : BitVec 32 := 32#32
  let c0_i32_3235 : BitVec 32 := 0#32
  let v3338 : BitVec 1 := Scalar.cmpi .eq c32_i32_3234 c0_i32_3235
  let c1_i32_3236 : BitVec 32 := 1#32
  let v3339 : BitVec 32 := Scalar.select v3338 c1_i32_3236 c32_i32_3234
  let v3340 : BitVec 32 := Scalar.remsi v3337 v3339
  let c0_i32_3238 : BitVec 32 := 0#32
  let v3342 : BitVec 1 := Scalar.cmpi .slt v3340 c0_i32_3238
  let c0_i32_3239 : BitVec 32 := 0#32
  let v3343 : BitVec 1 := Scalar.cmpi .slt v3339 c0_i32_3239
  let v3344 : BitVec 1 := Scalar.xori v3342 v3343
  let c0_i32_3237 : BitVec 32 := 0#32
  let v3341 : BitVec 1 := Scalar.cmpi .ne v3340 c0_i32_3237
  let v3345 : BitVec 1 := Scalar.andi v3344 v3341
  let v3346 : BitVec 32 := Scalar.addi v3340 v3339
  let v3347 : BitVec 32 := Scalar.select v3345 v3346 v3340
  let c1_i32_3244 : BitVec 32 := 1#32
  let v3348 : BitVec 32 := Scalar.muli v3347 c1_i32_3244
  let v3349 : BitVec 32 := Scalar.addi c0_i32_3245 v3348
  v3349.toNat
def k0_dev149 (d0 : Dev nD) : Nat :=
  let c0_i32_3260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3248 : BitVec 32 := 25#32
  let v3356 : BitVec 32 := Scalar.addi v2 c25_i32_3248
  let c32_i32_3249 : BitVec 32 := 32#32
  let c0_i32_3250 : BitVec 32 := 0#32
  let v3357 : BitVec 1 := Scalar.cmpi .eq c32_i32_3249 c0_i32_3250
  let c1_i32_3251 : BitVec 32 := 1#32
  let v3358 : BitVec 32 := Scalar.select v3357 c1_i32_3251 c32_i32_3249
  let v3359 : BitVec 32 := Scalar.remsi v3356 v3358
  let c0_i32_3253 : BitVec 32 := 0#32
  let v3361 : BitVec 1 := Scalar.cmpi .slt v3359 c0_i32_3253
  let c0_i32_3254 : BitVec 32 := 0#32
  let v3362 : BitVec 1 := Scalar.cmpi .slt v3358 c0_i32_3254
  let v3363 : BitVec 1 := Scalar.xori v3361 v3362
  let c0_i32_3252 : BitVec 32 := 0#32
  let v3360 : BitVec 1 := Scalar.cmpi .ne v3359 c0_i32_3252
  let v3364 : BitVec 1 := Scalar.andi v3363 v3360
  let v3365 : BitVec 32 := Scalar.addi v3359 v3358
  let v3366 : BitVec 32 := Scalar.select v3364 v3365 v3359
  let c1_i32_3259 : BitVec 32 := 1#32
  let v3367 : BitVec 32 := Scalar.muli v3366 c1_i32_3259
  let v3368 : BitVec 32 := Scalar.addi c0_i32_3260 v3367
  v3368.toNat
def k0_dev150 (d0 : Dev nD) : Nat :=
  let c0_i32_3275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3263 : BitVec 32 := 26#32
  let v3375 : BitVec 32 := Scalar.addi v2 c26_i32_3263
  let c32_i32_3264 : BitVec 32 := 32#32
  let c0_i32_3265 : BitVec 32 := 0#32
  let v3376 : BitVec 1 := Scalar.cmpi .eq c32_i32_3264 c0_i32_3265
  let c1_i32_3266 : BitVec 32 := 1#32
  let v3377 : BitVec 32 := Scalar.select v3376 c1_i32_3266 c32_i32_3264
  let v3378 : BitVec 32 := Scalar.remsi v3375 v3377
  let c0_i32_3268 : BitVec 32 := 0#32
  let v3380 : BitVec 1 := Scalar.cmpi .slt v3378 c0_i32_3268
  let c0_i32_3269 : BitVec 32 := 0#32
  let v3381 : BitVec 1 := Scalar.cmpi .slt v3377 c0_i32_3269
  let v3382 : BitVec 1 := Scalar.xori v3380 v3381
  let c0_i32_3267 : BitVec 32 := 0#32
  let v3379 : BitVec 1 := Scalar.cmpi .ne v3378 c0_i32_3267
  let v3383 : BitVec 1 := Scalar.andi v3382 v3379
  let v3384 : BitVec 32 := Scalar.addi v3378 v3377
  let v3385 : BitVec 32 := Scalar.select v3383 v3384 v3378
  let c1_i32_3274 : BitVec 32 := 1#32
  let v3386 : BitVec 32 := Scalar.muli v3385 c1_i32_3274
  let v3387 : BitVec 32 := Scalar.addi c0_i32_3275 v3386
  v3387.toNat
def k0_dev151 (d0 : Dev nD) : Nat :=
  let c0_i32_3290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3278 : BitVec 32 := 27#32
  let v3394 : BitVec 32 := Scalar.addi v2 c27_i32_3278
  let c32_i32_3279 : BitVec 32 := 32#32
  let c0_i32_3280 : BitVec 32 := 0#32
  let v3395 : BitVec 1 := Scalar.cmpi .eq c32_i32_3279 c0_i32_3280
  let c1_i32_3281 : BitVec 32 := 1#32
  let v3396 : BitVec 32 := Scalar.select v3395 c1_i32_3281 c32_i32_3279
  let v3397 : BitVec 32 := Scalar.remsi v3394 v3396
  let c0_i32_3283 : BitVec 32 := 0#32
  let v3399 : BitVec 1 := Scalar.cmpi .slt v3397 c0_i32_3283
  let c0_i32_3284 : BitVec 32 := 0#32
  let v3400 : BitVec 1 := Scalar.cmpi .slt v3396 c0_i32_3284
  let v3401 : BitVec 1 := Scalar.xori v3399 v3400
  let c0_i32_3282 : BitVec 32 := 0#32
  let v3398 : BitVec 1 := Scalar.cmpi .ne v3397 c0_i32_3282
  let v3402 : BitVec 1 := Scalar.andi v3401 v3398
  let v3403 : BitVec 32 := Scalar.addi v3397 v3396
  let v3404 : BitVec 32 := Scalar.select v3402 v3403 v3397
  let c1_i32_3289 : BitVec 32 := 1#32
  let v3405 : BitVec 32 := Scalar.muli v3404 c1_i32_3289
  let v3406 : BitVec 32 := Scalar.addi c0_i32_3290 v3405
  v3406.toNat
def k0_dev152 (d0 : Dev nD) : Nat :=
  let c0_i32_3305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3293 : BitVec 32 := 28#32
  let v3413 : BitVec 32 := Scalar.addi v2 c28_i32_3293
  let c32_i32_3294 : BitVec 32 := 32#32
  let c0_i32_3295 : BitVec 32 := 0#32
  let v3414 : BitVec 1 := Scalar.cmpi .eq c32_i32_3294 c0_i32_3295
  let c1_i32_3296 : BitVec 32 := 1#32
  let v3415 : BitVec 32 := Scalar.select v3414 c1_i32_3296 c32_i32_3294
  let v3416 : BitVec 32 := Scalar.remsi v3413 v3415
  let c0_i32_3298 : BitVec 32 := 0#32
  let v3418 : BitVec 1 := Scalar.cmpi .slt v3416 c0_i32_3298
  let c0_i32_3299 : BitVec 32 := 0#32
  let v3419 : BitVec 1 := Scalar.cmpi .slt v3415 c0_i32_3299
  let v3420 : BitVec 1 := Scalar.xori v3418 v3419
  let c0_i32_3297 : BitVec 32 := 0#32
  let v3417 : BitVec 1 := Scalar.cmpi .ne v3416 c0_i32_3297
  let v3421 : BitVec 1 := Scalar.andi v3420 v3417
  let v3422 : BitVec 32 := Scalar.addi v3416 v3415
  let v3423 : BitVec 32 := Scalar.select v3421 v3422 v3416
  let c1_i32_3304 : BitVec 32 := 1#32
  let v3424 : BitVec 32 := Scalar.muli v3423 c1_i32_3304
  let v3425 : BitVec 32 := Scalar.addi c0_i32_3305 v3424
  v3425.toNat
def k0_dev153 (d0 : Dev nD) : Nat :=
  let c0_i32_3320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3308 : BitVec 32 := 29#32
  let v3432 : BitVec 32 := Scalar.addi v2 c29_i32_3308
  let c32_i32_3309 : BitVec 32 := 32#32
  let c0_i32_3310 : BitVec 32 := 0#32
  let v3433 : BitVec 1 := Scalar.cmpi .eq c32_i32_3309 c0_i32_3310
  let c1_i32_3311 : BitVec 32 := 1#32
  let v3434 : BitVec 32 := Scalar.select v3433 c1_i32_3311 c32_i32_3309
  let v3435 : BitVec 32 := Scalar.remsi v3432 v3434
  let c0_i32_3313 : BitVec 32 := 0#32
  let v3437 : BitVec 1 := Scalar.cmpi .slt v3435 c0_i32_3313
  let c0_i32_3314 : BitVec 32 := 0#32
  let v3438 : BitVec 1 := Scalar.cmpi .slt v3434 c0_i32_3314
  let v3439 : BitVec 1 := Scalar.xori v3437 v3438
  let c0_i32_3312 : BitVec 32 := 0#32
  let v3436 : BitVec 1 := Scalar.cmpi .ne v3435 c0_i32_3312
  let v3440 : BitVec 1 := Scalar.andi v3439 v3436
  let v3441 : BitVec 32 := Scalar.addi v3435 v3434
  let v3442 : BitVec 32 := Scalar.select v3440 v3441 v3435
  let c1_i32_3319 : BitVec 32 := 1#32
  let v3443 : BitVec 32 := Scalar.muli v3442 c1_i32_3319
  let v3444 : BitVec 32 := Scalar.addi c0_i32_3320 v3443
  v3444.toNat
def k0_dev154 (d0 : Dev nD) : Nat :=
  let c0_i32_3335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3323 : BitVec 32 := 30#32
  let v3451 : BitVec 32 := Scalar.addi v2 c30_i32_3323
  let c32_i32_3324 : BitVec 32 := 32#32
  let c0_i32_3325 : BitVec 32 := 0#32
  let v3452 : BitVec 1 := Scalar.cmpi .eq c32_i32_3324 c0_i32_3325
  let c1_i32_3326 : BitVec 32 := 1#32
  let v3453 : BitVec 32 := Scalar.select v3452 c1_i32_3326 c32_i32_3324
  let v3454 : BitVec 32 := Scalar.remsi v3451 v3453
  let c0_i32_3328 : BitVec 32 := 0#32
  let v3456 : BitVec 1 := Scalar.cmpi .slt v3454 c0_i32_3328
  let c0_i32_3329 : BitVec 32 := 0#32
  let v3457 : BitVec 1 := Scalar.cmpi .slt v3453 c0_i32_3329
  let v3458 : BitVec 1 := Scalar.xori v3456 v3457
  let c0_i32_3327 : BitVec 32 := 0#32
  let v3455 : BitVec 1 := Scalar.cmpi .ne v3454 c0_i32_3327
  let v3459 : BitVec 1 := Scalar.andi v3458 v3455
  let v3460 : BitVec 32 := Scalar.addi v3454 v3453
  let v3461 : BitVec 32 := Scalar.select v3459 v3460 v3454
  let c1_i32_3334 : BitVec 32 := 1#32
  let v3462 : BitVec 32 := Scalar.muli v3461 c1_i32_3334
  let v3463 : BitVec 32 := Scalar.addi c0_i32_3335 v3462
  v3463.toNat
def k0_dev155 (d0 : Dev nD) : Nat :=
  let c0_i32_3350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3338 : BitVec 32 := 31#32
  let v3470 : BitVec 32 := Scalar.addi v2 c31_i32_3338
  let c32_i32_3339 : BitVec 32 := 32#32
  let c0_i32_3340 : BitVec 32 := 0#32
  let v3471 : BitVec 1 := Scalar.cmpi .eq c32_i32_3339 c0_i32_3340
  let c1_i32_3341 : BitVec 32 := 1#32
  let v3472 : BitVec 32 := Scalar.select v3471 c1_i32_3341 c32_i32_3339
  let v3473 : BitVec 32 := Scalar.remsi v3470 v3472
  let c0_i32_3343 : BitVec 32 := 0#32
  let v3475 : BitVec 1 := Scalar.cmpi .slt v3473 c0_i32_3343
  let c0_i32_3344 : BitVec 32 := 0#32
  let v3476 : BitVec 1 := Scalar.cmpi .slt v3472 c0_i32_3344
  let v3477 : BitVec 1 := Scalar.xori v3475 v3476
  let c0_i32_3342 : BitVec 32 := 0#32
  let v3474 : BitVec 1 := Scalar.cmpi .ne v3473 c0_i32_3342
  let v3478 : BitVec 1 := Scalar.andi v3477 v3474
  let v3479 : BitVec 32 := Scalar.addi v3473 v3472
  let v3480 : BitVec 32 := Scalar.select v3478 v3479 v3473
  let c1_i32_3349 : BitVec 32 := 1#32
  let v3481 : BitVec 32 := Scalar.muli v3480 c1_i32_3349
  let v3482 : BitVec 32 := Scalar.addi c0_i32_3350 v3481
  v3482.toNat
def k0_dev156 (d0 : Dev nD) : Nat :=
  let c0_i32_4157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4141 : BitVec 32 := 1#32
  let v3967 : BitVec 32 := Scalar.addi v2 c1_i32_4141
  let c32_i32_4142 : BitVec 32 := 32#32
  let c0_i32_4143 : BitVec 32 := 0#32
  let v3968 : BitVec 1 := Scalar.cmpi .eq c32_i32_4142 c0_i32_4143
  let c1_i32_4144 : BitVec 32 := 1#32
  let v3969 : BitVec 32 := Scalar.select v3968 c1_i32_4144 c32_i32_4142
  let v3970 : BitVec 32 := Scalar.remsi v3967 v3969
  let c0_i32_4146 : BitVec 32 := 0#32
  let v3972 : BitVec 1 := Scalar.cmpi .slt v3970 c0_i32_4146
  let c0_i32_4147 : BitVec 32 := 0#32
  let v3973 : BitVec 1 := Scalar.cmpi .slt v3969 c0_i32_4147
  let v3974 : BitVec 1 := Scalar.xori v3972 v3973
  let c0_i32_4145 : BitVec 32 := 0#32
  let v3971 : BitVec 1 := Scalar.cmpi .ne v3970 c0_i32_4145
  let v3975 : BitVec 1 := Scalar.andi v3974 v3971
  let v3976 : BitVec 32 := Scalar.addi v3970 v3969
  let v3977 : BitVec 32 := Scalar.select v3975 v3976 v3970
  let c1_i32_4156 : BitVec 32 := 1#32
  let v3980 : BitVec 32 := Scalar.muli v3977 c1_i32_4156
  let v3981 : BitVec 32 := Scalar.addi c0_i32_4157 v3980
  v3981.toNat
def k0_dev157 (d0 : Dev nD) : Nat :=
  let c0_i32_4177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4161 : BitVec 32 := 2#32
  let v3989 : BitVec 32 := Scalar.addi v2 c2_i32_4161
  let c32_i32_4162 : BitVec 32 := 32#32
  let c0_i32_4163 : BitVec 32 := 0#32
  let v3990 : BitVec 1 := Scalar.cmpi .eq c32_i32_4162 c0_i32_4163
  let c1_i32_4164 : BitVec 32 := 1#32
  let v3991 : BitVec 32 := Scalar.select v3990 c1_i32_4164 c32_i32_4162
  let v3992 : BitVec 32 := Scalar.remsi v3989 v3991
  let c0_i32_4166 : BitVec 32 := 0#32
  let v3994 : BitVec 1 := Scalar.cmpi .slt v3992 c0_i32_4166
  let c0_i32_4167 : BitVec 32 := 0#32
  let v3995 : BitVec 1 := Scalar.cmpi .slt v3991 c0_i32_4167
  let v3996 : BitVec 1 := Scalar.xori v3994 v3995
  let c0_i32_4165 : BitVec 32 := 0#32
  let v3993 : BitVec 1 := Scalar.cmpi .ne v3992 c0_i32_4165
  let v3997 : BitVec 1 := Scalar.andi v3996 v3993
  let v3998 : BitVec 32 := Scalar.addi v3992 v3991
  let v3999 : BitVec 32 := Scalar.select v3997 v3998 v3992
  let c1_i32_4176 : BitVec 32 := 1#32
  let v4002 : BitVec 32 := Scalar.muli v3999 c1_i32_4176
  let v4003 : BitVec 32 := Scalar.addi c0_i32_4177 v4002
  v4003.toNat
def k0_dev158 (d0 : Dev nD) : Nat :=
  let c0_i32_4197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4181 : BitVec 32 := 3#32
  let v4011 : BitVec 32 := Scalar.addi v2 c3_i32_4181
  let c32_i32_4182 : BitVec 32 := 32#32
  let c0_i32_4183 : BitVec 32 := 0#32
  let v4012 : BitVec 1 := Scalar.cmpi .eq c32_i32_4182 c0_i32_4183
  let c1_i32_4184 : BitVec 32 := 1#32
  let v4013 : BitVec 32 := Scalar.select v4012 c1_i32_4184 c32_i32_4182
  let v4014 : BitVec 32 := Scalar.remsi v4011 v4013
  let c0_i32_4186 : BitVec 32 := 0#32
  let v4016 : BitVec 1 := Scalar.cmpi .slt v4014 c0_i32_4186
  let c0_i32_4187 : BitVec 32 := 0#32
  let v4017 : BitVec 1 := Scalar.cmpi .slt v4013 c0_i32_4187
  let v4018 : BitVec 1 := Scalar.xori v4016 v4017
  let c0_i32_4185 : BitVec 32 := 0#32
  let v4015 : BitVec 1 := Scalar.cmpi .ne v4014 c0_i32_4185
  let v4019 : BitVec 1 := Scalar.andi v4018 v4015
  let v4020 : BitVec 32 := Scalar.addi v4014 v4013
  let v4021 : BitVec 32 := Scalar.select v4019 v4020 v4014
  let c1_i32_4196 : BitVec 32 := 1#32
  let v4024 : BitVec 32 := Scalar.muli v4021 c1_i32_4196
  let v4025 : BitVec 32 := Scalar.addi c0_i32_4197 v4024
  v4025.toNat
def k0_dev159 (d0 : Dev nD) : Nat :=
  let c0_i32_4217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4201 : BitVec 32 := 4#32
  let v4033 : BitVec 32 := Scalar.addi v2 c4_i32_4201
  let c32_i32_4202 : BitVec 32 := 32#32
  let c0_i32_4203 : BitVec 32 := 0#32
  let v4034 : BitVec 1 := Scalar.cmpi .eq c32_i32_4202 c0_i32_4203
  let c1_i32_4204 : BitVec 32 := 1#32
  let v4035 : BitVec 32 := Scalar.select v4034 c1_i32_4204 c32_i32_4202
  let v4036 : BitVec 32 := Scalar.remsi v4033 v4035
  let c0_i32_4206 : BitVec 32 := 0#32
  let v4038 : BitVec 1 := Scalar.cmpi .slt v4036 c0_i32_4206
  let c0_i32_4207 : BitVec 32 := 0#32
  let v4039 : BitVec 1 := Scalar.cmpi .slt v4035 c0_i32_4207
  let v4040 : BitVec 1 := Scalar.xori v4038 v4039
  let c0_i32_4205 : BitVec 32 := 0#32
  let v4037 : BitVec 1 := Scalar.cmpi .ne v4036 c0_i32_4205
  let v4041 : BitVec 1 := Scalar.andi v4040 v4037
  let v4042 : BitVec 32 := Scalar.addi v4036 v4035
  let v4043 : BitVec 32 := Scalar.select v4041 v4042 v4036
  let c1_i32_4216 : BitVec 32 := 1#32
  let v4046 : BitVec 32 := Scalar.muli v4043 c1_i32_4216
  let v4047 : BitVec 32 := Scalar.addi c0_i32_4217 v4046
  v4047.toNat
def k0_dev160 (d0 : Dev nD) : Nat :=
  let c0_i32_4237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4221 : BitVec 32 := 5#32
  let v4055 : BitVec 32 := Scalar.addi v2 c5_i32_4221
  let c32_i32_4222 : BitVec 32 := 32#32
  let c0_i32_4223 : BitVec 32 := 0#32
  let v4056 : BitVec 1 := Scalar.cmpi .eq c32_i32_4222 c0_i32_4223
  let c1_i32_4224 : BitVec 32 := 1#32
  let v4057 : BitVec 32 := Scalar.select v4056 c1_i32_4224 c32_i32_4222
  let v4058 : BitVec 32 := Scalar.remsi v4055 v4057
  let c0_i32_4226 : BitVec 32 := 0#32
  let v4060 : BitVec 1 := Scalar.cmpi .slt v4058 c0_i32_4226
  let c0_i32_4227 : BitVec 32 := 0#32
  let v4061 : BitVec 1 := Scalar.cmpi .slt v4057 c0_i32_4227
  let v4062 : BitVec 1 := Scalar.xori v4060 v4061
  let c0_i32_4225 : BitVec 32 := 0#32
  let v4059 : BitVec 1 := Scalar.cmpi .ne v4058 c0_i32_4225
  let v4063 : BitVec 1 := Scalar.andi v4062 v4059
  let v4064 : BitVec 32 := Scalar.addi v4058 v4057
  let v4065 : BitVec 32 := Scalar.select v4063 v4064 v4058
  let c1_i32_4236 : BitVec 32 := 1#32
  let v4068 : BitVec 32 := Scalar.muli v4065 c1_i32_4236
  let v4069 : BitVec 32 := Scalar.addi c0_i32_4237 v4068
  v4069.toNat
def k0_dev161 (d0 : Dev nD) : Nat :=
  let c0_i32_4257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4241 : BitVec 32 := 6#32
  let v4077 : BitVec 32 := Scalar.addi v2 c6_i32_4241
  let c32_i32_4242 : BitVec 32 := 32#32
  let c0_i32_4243 : BitVec 32 := 0#32
  let v4078 : BitVec 1 := Scalar.cmpi .eq c32_i32_4242 c0_i32_4243
  let c1_i32_4244 : BitVec 32 := 1#32
  let v4079 : BitVec 32 := Scalar.select v4078 c1_i32_4244 c32_i32_4242
  let v4080 : BitVec 32 := Scalar.remsi v4077 v4079
  let c0_i32_4246 : BitVec 32 := 0#32
  let v4082 : BitVec 1 := Scalar.cmpi .slt v4080 c0_i32_4246
  let c0_i32_4247 : BitVec 32 := 0#32
  let v4083 : BitVec 1 := Scalar.cmpi .slt v4079 c0_i32_4247
  let v4084 : BitVec 1 := Scalar.xori v4082 v4083
  let c0_i32_4245 : BitVec 32 := 0#32
  let v4081 : BitVec 1 := Scalar.cmpi .ne v4080 c0_i32_4245
  let v4085 : BitVec 1 := Scalar.andi v4084 v4081
  let v4086 : BitVec 32 := Scalar.addi v4080 v4079
  let v4087 : BitVec 32 := Scalar.select v4085 v4086 v4080
  let c1_i32_4256 : BitVec 32 := 1#32
  let v4090 : BitVec 32 := Scalar.muli v4087 c1_i32_4256
  let v4091 : BitVec 32 := Scalar.addi c0_i32_4257 v4090
  v4091.toNat
def k0_dev162 (d0 : Dev nD) : Nat :=
  let c0_i32_4277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4261 : BitVec 32 := 7#32
  let v4099 : BitVec 32 := Scalar.addi v2 c7_i32_4261
  let c32_i32_4262 : BitVec 32 := 32#32
  let c0_i32_4263 : BitVec 32 := 0#32
  let v4100 : BitVec 1 := Scalar.cmpi .eq c32_i32_4262 c0_i32_4263
  let c1_i32_4264 : BitVec 32 := 1#32
  let v4101 : BitVec 32 := Scalar.select v4100 c1_i32_4264 c32_i32_4262
  let v4102 : BitVec 32 := Scalar.remsi v4099 v4101
  let c0_i32_4266 : BitVec 32 := 0#32
  let v4104 : BitVec 1 := Scalar.cmpi .slt v4102 c0_i32_4266
  let c0_i32_4267 : BitVec 32 := 0#32
  let v4105 : BitVec 1 := Scalar.cmpi .slt v4101 c0_i32_4267
  let v4106 : BitVec 1 := Scalar.xori v4104 v4105
  let c0_i32_4265 : BitVec 32 := 0#32
  let v4103 : BitVec 1 := Scalar.cmpi .ne v4102 c0_i32_4265
  let v4107 : BitVec 1 := Scalar.andi v4106 v4103
  let v4108 : BitVec 32 := Scalar.addi v4102 v4101
  let v4109 : BitVec 32 := Scalar.select v4107 v4108 v4102
  let c1_i32_4276 : BitVec 32 := 1#32
  let v4112 : BitVec 32 := Scalar.muli v4109 c1_i32_4276
  let v4113 : BitVec 32 := Scalar.addi c0_i32_4277 v4112
  v4113.toNat
def k0_dev163 (d0 : Dev nD) : Nat :=
  let c0_i32_4297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4281 : BitVec 32 := 8#32
  let v4121 : BitVec 32 := Scalar.addi v2 c8_i32_4281
  let c32_i32_4282 : BitVec 32 := 32#32
  let c0_i32_4283 : BitVec 32 := 0#32
  let v4122 : BitVec 1 := Scalar.cmpi .eq c32_i32_4282 c0_i32_4283
  let c1_i32_4284 : BitVec 32 := 1#32
  let v4123 : BitVec 32 := Scalar.select v4122 c1_i32_4284 c32_i32_4282
  let v4124 : BitVec 32 := Scalar.remsi v4121 v4123
  let c0_i32_4286 : BitVec 32 := 0#32
  let v4126 : BitVec 1 := Scalar.cmpi .slt v4124 c0_i32_4286
  let c0_i32_4287 : BitVec 32 := 0#32
  let v4127 : BitVec 1 := Scalar.cmpi .slt v4123 c0_i32_4287
  let v4128 : BitVec 1 := Scalar.xori v4126 v4127
  let c0_i32_4285 : BitVec 32 := 0#32
  let v4125 : BitVec 1 := Scalar.cmpi .ne v4124 c0_i32_4285
  let v4129 : BitVec 1 := Scalar.andi v4128 v4125
  let v4130 : BitVec 32 := Scalar.addi v4124 v4123
  let v4131 : BitVec 32 := Scalar.select v4129 v4130 v4124
  let c1_i32_4296 : BitVec 32 := 1#32
  let v4134 : BitVec 32 := Scalar.muli v4131 c1_i32_4296
  let v4135 : BitVec 32 := Scalar.addi c0_i32_4297 v4134
  v4135.toNat
def k0_dev164 (d0 : Dev nD) : Nat :=
  let c0_i32_4317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4301 : BitVec 32 := 9#32
  let v4143 : BitVec 32 := Scalar.addi v2 c9_i32_4301
  let c32_i32_4302 : BitVec 32 := 32#32
  let c0_i32_4303 : BitVec 32 := 0#32
  let v4144 : BitVec 1 := Scalar.cmpi .eq c32_i32_4302 c0_i32_4303
  let c1_i32_4304 : BitVec 32 := 1#32
  let v4145 : BitVec 32 := Scalar.select v4144 c1_i32_4304 c32_i32_4302
  let v4146 : BitVec 32 := Scalar.remsi v4143 v4145
  let c0_i32_4306 : BitVec 32 := 0#32
  let v4148 : BitVec 1 := Scalar.cmpi .slt v4146 c0_i32_4306
  let c0_i32_4307 : BitVec 32 := 0#32
  let v4149 : BitVec 1 := Scalar.cmpi .slt v4145 c0_i32_4307
  let v4150 : BitVec 1 := Scalar.xori v4148 v4149
  let c0_i32_4305 : BitVec 32 := 0#32
  let v4147 : BitVec 1 := Scalar.cmpi .ne v4146 c0_i32_4305
  let v4151 : BitVec 1 := Scalar.andi v4150 v4147
  let v4152 : BitVec 32 := Scalar.addi v4146 v4145
  let v4153 : BitVec 32 := Scalar.select v4151 v4152 v4146
  let c1_i32_4316 : BitVec 32 := 1#32
  let v4156 : BitVec 32 := Scalar.muli v4153 c1_i32_4316
  let v4157 : BitVec 32 := Scalar.addi c0_i32_4317 v4156
  v4157.toNat
def k0_dev165 (d0 : Dev nD) : Nat :=
  let c0_i32_4337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4321 : BitVec 32 := 10#32
  let v4165 : BitVec 32 := Scalar.addi v2 c10_i32_4321
  let c32_i32_4322 : BitVec 32 := 32#32
  let c0_i32_4323 : BitVec 32 := 0#32
  let v4166 : BitVec 1 := Scalar.cmpi .eq c32_i32_4322 c0_i32_4323
  let c1_i32_4324 : BitVec 32 := 1#32
  let v4167 : BitVec 32 := Scalar.select v4166 c1_i32_4324 c32_i32_4322
  let v4168 : BitVec 32 := Scalar.remsi v4165 v4167
  let c0_i32_4326 : BitVec 32 := 0#32
  let v4170 : BitVec 1 := Scalar.cmpi .slt v4168 c0_i32_4326
  let c0_i32_4327 : BitVec 32 := 0#32
  let v4171 : BitVec 1 := Scalar.cmpi .slt v4167 c0_i32_4327
  let v4172 : BitVec 1 := Scalar.xori v4170 v4171
  let c0_i32_4325 : BitVec 32 := 0#32
  let v4169 : BitVec 1 := Scalar.cmpi .ne v4168 c0_i32_4325
  let v4173 : BitVec 1 := Scalar.andi v4172 v4169
  let v4174 : BitVec 32 := Scalar.addi v4168 v4167
  let v4175 : BitVec 32 := Scalar.select v4173 v4174 v4168
  let c1_i32_4336 : BitVec 32 := 1#32
  let v4178 : BitVec 32 := Scalar.muli v4175 c1_i32_4336
  let v4179 : BitVec 32 := Scalar.addi c0_i32_4337 v4178
  v4179.toNat
def k0_dev166 (d0 : Dev nD) : Nat :=
  let c0_i32_4357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4341 : BitVec 32 := 11#32
  let v4187 : BitVec 32 := Scalar.addi v2 c11_i32_4341
  let c32_i32_4342 : BitVec 32 := 32#32
  let c0_i32_4343 : BitVec 32 := 0#32
  let v4188 : BitVec 1 := Scalar.cmpi .eq c32_i32_4342 c0_i32_4343
  let c1_i32_4344 : BitVec 32 := 1#32
  let v4189 : BitVec 32 := Scalar.select v4188 c1_i32_4344 c32_i32_4342
  let v4190 : BitVec 32 := Scalar.remsi v4187 v4189
  let c0_i32_4346 : BitVec 32 := 0#32
  let v4192 : BitVec 1 := Scalar.cmpi .slt v4190 c0_i32_4346
  let c0_i32_4347 : BitVec 32 := 0#32
  let v4193 : BitVec 1 := Scalar.cmpi .slt v4189 c0_i32_4347
  let v4194 : BitVec 1 := Scalar.xori v4192 v4193
  let c0_i32_4345 : BitVec 32 := 0#32
  let v4191 : BitVec 1 := Scalar.cmpi .ne v4190 c0_i32_4345
  let v4195 : BitVec 1 := Scalar.andi v4194 v4191
  let v4196 : BitVec 32 := Scalar.addi v4190 v4189
  let v4197 : BitVec 32 := Scalar.select v4195 v4196 v4190
  let c1_i32_4356 : BitVec 32 := 1#32
  let v4200 : BitVec 32 := Scalar.muli v4197 c1_i32_4356
  let v4201 : BitVec 32 := Scalar.addi c0_i32_4357 v4200
  v4201.toNat
def k0_dev167 (d0 : Dev nD) : Nat :=
  let c0_i32_4377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4361 : BitVec 32 := 12#32
  let v4209 : BitVec 32 := Scalar.addi v2 c12_i32_4361
  let c32_i32_4362 : BitVec 32 := 32#32
  let c0_i32_4363 : BitVec 32 := 0#32
  let v4210 : BitVec 1 := Scalar.cmpi .eq c32_i32_4362 c0_i32_4363
  let c1_i32_4364 : BitVec 32 := 1#32
  let v4211 : BitVec 32 := Scalar.select v4210 c1_i32_4364 c32_i32_4362
  let v4212 : BitVec 32 := Scalar.remsi v4209 v4211
  let c0_i32_4366 : BitVec 32 := 0#32
  let v4214 : BitVec 1 := Scalar.cmpi .slt v4212 c0_i32_4366
  let c0_i32_4367 : BitVec 32 := 0#32
  let v4215 : BitVec 1 := Scalar.cmpi .slt v4211 c0_i32_4367
  let v4216 : BitVec 1 := Scalar.xori v4214 v4215
  let c0_i32_4365 : BitVec 32 := 0#32
  let v4213 : BitVec 1 := Scalar.cmpi .ne v4212 c0_i32_4365
  let v4217 : BitVec 1 := Scalar.andi v4216 v4213
  let v4218 : BitVec 32 := Scalar.addi v4212 v4211
  let v4219 : BitVec 32 := Scalar.select v4217 v4218 v4212
  let c1_i32_4376 : BitVec 32 := 1#32
  let v4222 : BitVec 32 := Scalar.muli v4219 c1_i32_4376
  let v4223 : BitVec 32 := Scalar.addi c0_i32_4377 v4222
  v4223.toNat
def k0_dev168 (d0 : Dev nD) : Nat :=
  let c0_i32_4397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4381 : BitVec 32 := 13#32
  let v4231 : BitVec 32 := Scalar.addi v2 c13_i32_4381
  let c32_i32_4382 : BitVec 32 := 32#32
  let c0_i32_4383 : BitVec 32 := 0#32
  let v4232 : BitVec 1 := Scalar.cmpi .eq c32_i32_4382 c0_i32_4383
  let c1_i32_4384 : BitVec 32 := 1#32
  let v4233 : BitVec 32 := Scalar.select v4232 c1_i32_4384 c32_i32_4382
  let v4234 : BitVec 32 := Scalar.remsi v4231 v4233
  let c0_i32_4386 : BitVec 32 := 0#32
  let v4236 : BitVec 1 := Scalar.cmpi .slt v4234 c0_i32_4386
  let c0_i32_4387 : BitVec 32 := 0#32
  let v4237 : BitVec 1 := Scalar.cmpi .slt v4233 c0_i32_4387
  let v4238 : BitVec 1 := Scalar.xori v4236 v4237
  let c0_i32_4385 : BitVec 32 := 0#32
  let v4235 : BitVec 1 := Scalar.cmpi .ne v4234 c0_i32_4385
  let v4239 : BitVec 1 := Scalar.andi v4238 v4235
  let v4240 : BitVec 32 := Scalar.addi v4234 v4233
  let v4241 : BitVec 32 := Scalar.select v4239 v4240 v4234
  let c1_i32_4396 : BitVec 32 := 1#32
  let v4244 : BitVec 32 := Scalar.muli v4241 c1_i32_4396
  let v4245 : BitVec 32 := Scalar.addi c0_i32_4397 v4244
  v4245.toNat
def k0_dev169 (d0 : Dev nD) : Nat :=
  let c0_i32_4417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4401 : BitVec 32 := 14#32
  let v4253 : BitVec 32 := Scalar.addi v2 c14_i32_4401
  let c32_i32_4402 : BitVec 32 := 32#32
  let c0_i32_4403 : BitVec 32 := 0#32
  let v4254 : BitVec 1 := Scalar.cmpi .eq c32_i32_4402 c0_i32_4403
  let c1_i32_4404 : BitVec 32 := 1#32
  let v4255 : BitVec 32 := Scalar.select v4254 c1_i32_4404 c32_i32_4402
  let v4256 : BitVec 32 := Scalar.remsi v4253 v4255
  let c0_i32_4406 : BitVec 32 := 0#32
  let v4258 : BitVec 1 := Scalar.cmpi .slt v4256 c0_i32_4406
  let c0_i32_4407 : BitVec 32 := 0#32
  let v4259 : BitVec 1 := Scalar.cmpi .slt v4255 c0_i32_4407
  let v4260 : BitVec 1 := Scalar.xori v4258 v4259
  let c0_i32_4405 : BitVec 32 := 0#32
  let v4257 : BitVec 1 := Scalar.cmpi .ne v4256 c0_i32_4405
  let v4261 : BitVec 1 := Scalar.andi v4260 v4257
  let v4262 : BitVec 32 := Scalar.addi v4256 v4255
  let v4263 : BitVec 32 := Scalar.select v4261 v4262 v4256
  let c1_i32_4416 : BitVec 32 := 1#32
  let v4266 : BitVec 32 := Scalar.muli v4263 c1_i32_4416
  let v4267 : BitVec 32 := Scalar.addi c0_i32_4417 v4266
  v4267.toNat
def k0_dev170 (d0 : Dev nD) : Nat :=
  let c0_i32_4437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4421 : BitVec 32 := 15#32
  let v4275 : BitVec 32 := Scalar.addi v2 c15_i32_4421
  let c32_i32_4422 : BitVec 32 := 32#32
  let c0_i32_4423 : BitVec 32 := 0#32
  let v4276 : BitVec 1 := Scalar.cmpi .eq c32_i32_4422 c0_i32_4423
  let c1_i32_4424 : BitVec 32 := 1#32
  let v4277 : BitVec 32 := Scalar.select v4276 c1_i32_4424 c32_i32_4422
  let v4278 : BitVec 32 := Scalar.remsi v4275 v4277
  let c0_i32_4426 : BitVec 32 := 0#32
  let v4280 : BitVec 1 := Scalar.cmpi .slt v4278 c0_i32_4426
  let c0_i32_4427 : BitVec 32 := 0#32
  let v4281 : BitVec 1 := Scalar.cmpi .slt v4277 c0_i32_4427
  let v4282 : BitVec 1 := Scalar.xori v4280 v4281
  let c0_i32_4425 : BitVec 32 := 0#32
  let v4279 : BitVec 1 := Scalar.cmpi .ne v4278 c0_i32_4425
  let v4283 : BitVec 1 := Scalar.andi v4282 v4279
  let v4284 : BitVec 32 := Scalar.addi v4278 v4277
  let v4285 : BitVec 32 := Scalar.select v4283 v4284 v4278
  let c1_i32_4436 : BitVec 32 := 1#32
  let v4288 : BitVec 32 := Scalar.muli v4285 c1_i32_4436
  let v4289 : BitVec 32 := Scalar.addi c0_i32_4437 v4288
  v4289.toNat
def k0_dev171 (d0 : Dev nD) : Nat :=
  let c0_i32_4457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4441 : BitVec 32 := 16#32
  let v4297 : BitVec 32 := Scalar.addi v2 c16_i32_4441
  let c32_i32_4442 : BitVec 32 := 32#32
  let c0_i32_4443 : BitVec 32 := 0#32
  let v4298 : BitVec 1 := Scalar.cmpi .eq c32_i32_4442 c0_i32_4443
  let c1_i32_4444 : BitVec 32 := 1#32
  let v4299 : BitVec 32 := Scalar.select v4298 c1_i32_4444 c32_i32_4442
  let v4300 : BitVec 32 := Scalar.remsi v4297 v4299
  let c0_i32_4446 : BitVec 32 := 0#32
  let v4302 : BitVec 1 := Scalar.cmpi .slt v4300 c0_i32_4446
  let c0_i32_4447 : BitVec 32 := 0#32
  let v4303 : BitVec 1 := Scalar.cmpi .slt v4299 c0_i32_4447
  let v4304 : BitVec 1 := Scalar.xori v4302 v4303
  let c0_i32_4445 : BitVec 32 := 0#32
  let v4301 : BitVec 1 := Scalar.cmpi .ne v4300 c0_i32_4445
  let v4305 : BitVec 1 := Scalar.andi v4304 v4301
  let v4306 : BitVec 32 := Scalar.addi v4300 v4299
  let v4307 : BitVec 32 := Scalar.select v4305 v4306 v4300
  let c1_i32_4456 : BitVec 32 := 1#32
  let v4310 : BitVec 32 := Scalar.muli v4307 c1_i32_4456
  let v4311 : BitVec 32 := Scalar.addi c0_i32_4457 v4310
  v4311.toNat
def k0_dev172 (d0 : Dev nD) : Nat :=
  let c0_i32_4477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4461 : BitVec 32 := 17#32
  let v4319 : BitVec 32 := Scalar.addi v2 c17_i32_4461
  let c32_i32_4462 : BitVec 32 := 32#32
  let c0_i32_4463 : BitVec 32 := 0#32
  let v4320 : BitVec 1 := Scalar.cmpi .eq c32_i32_4462 c0_i32_4463
  let c1_i32_4464 : BitVec 32 := 1#32
  let v4321 : BitVec 32 := Scalar.select v4320 c1_i32_4464 c32_i32_4462
  let v4322 : BitVec 32 := Scalar.remsi v4319 v4321
  let c0_i32_4466 : BitVec 32 := 0#32
  let v4324 : BitVec 1 := Scalar.cmpi .slt v4322 c0_i32_4466
  let c0_i32_4467 : BitVec 32 := 0#32
  let v4325 : BitVec 1 := Scalar.cmpi .slt v4321 c0_i32_4467
  let v4326 : BitVec 1 := Scalar.xori v4324 v4325
  let c0_i32_4465 : BitVec 32 := 0#32
  let v4323 : BitVec 1 := Scalar.cmpi .ne v4322 c0_i32_4465
  let v4327 : BitVec 1 := Scalar.andi v4326 v4323
  let v4328 : BitVec 32 := Scalar.addi v4322 v4321
  let v4329 : BitVec 32 := Scalar.select v4327 v4328 v4322
  let c1_i32_4476 : BitVec 32 := 1#32
  let v4332 : BitVec 32 := Scalar.muli v4329 c1_i32_4476
  let v4333 : BitVec 32 := Scalar.addi c0_i32_4477 v4332
  v4333.toNat
def k0_dev173 (d0 : Dev nD) : Nat :=
  let c0_i32_4497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4481 : BitVec 32 := 18#32
  let v4341 : BitVec 32 := Scalar.addi v2 c18_i32_4481
  let c32_i32_4482 : BitVec 32 := 32#32
  let c0_i32_4483 : BitVec 32 := 0#32
  let v4342 : BitVec 1 := Scalar.cmpi .eq c32_i32_4482 c0_i32_4483
  let c1_i32_4484 : BitVec 32 := 1#32
  let v4343 : BitVec 32 := Scalar.select v4342 c1_i32_4484 c32_i32_4482
  let v4344 : BitVec 32 := Scalar.remsi v4341 v4343
  let c0_i32_4486 : BitVec 32 := 0#32
  let v4346 : BitVec 1 := Scalar.cmpi .slt v4344 c0_i32_4486
  let c0_i32_4487 : BitVec 32 := 0#32
  let v4347 : BitVec 1 := Scalar.cmpi .slt v4343 c0_i32_4487
  let v4348 : BitVec 1 := Scalar.xori v4346 v4347
  let c0_i32_4485 : BitVec 32 := 0#32
  let v4345 : BitVec 1 := Scalar.cmpi .ne v4344 c0_i32_4485
  let v4349 : BitVec 1 := Scalar.andi v4348 v4345
  let v4350 : BitVec 32 := Scalar.addi v4344 v4343
  let v4351 : BitVec 32 := Scalar.select v4349 v4350 v4344
  let c1_i32_4496 : BitVec 32 := 1#32
  let v4354 : BitVec 32 := Scalar.muli v4351 c1_i32_4496
  let v4355 : BitVec 32 := Scalar.addi c0_i32_4497 v4354
  v4355.toNat
def k0_dev174 (d0 : Dev nD) : Nat :=
  let c0_i32_4517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4501 : BitVec 32 := 19#32
  let v4363 : BitVec 32 := Scalar.addi v2 c19_i32_4501
  let c32_i32_4502 : BitVec 32 := 32#32
  let c0_i32_4503 : BitVec 32 := 0#32
  let v4364 : BitVec 1 := Scalar.cmpi .eq c32_i32_4502 c0_i32_4503
  let c1_i32_4504 : BitVec 32 := 1#32
  let v4365 : BitVec 32 := Scalar.select v4364 c1_i32_4504 c32_i32_4502
  let v4366 : BitVec 32 := Scalar.remsi v4363 v4365
  let c0_i32_4506 : BitVec 32 := 0#32
  let v4368 : BitVec 1 := Scalar.cmpi .slt v4366 c0_i32_4506
  let c0_i32_4507 : BitVec 32 := 0#32
  let v4369 : BitVec 1 := Scalar.cmpi .slt v4365 c0_i32_4507
  let v4370 : BitVec 1 := Scalar.xori v4368 v4369
  let c0_i32_4505 : BitVec 32 := 0#32
  let v4367 : BitVec 1 := Scalar.cmpi .ne v4366 c0_i32_4505
  let v4371 : BitVec 1 := Scalar.andi v4370 v4367
  let v4372 : BitVec 32 := Scalar.addi v4366 v4365
  let v4373 : BitVec 32 := Scalar.select v4371 v4372 v4366
  let c1_i32_4516 : BitVec 32 := 1#32
  let v4376 : BitVec 32 := Scalar.muli v4373 c1_i32_4516
  let v4377 : BitVec 32 := Scalar.addi c0_i32_4517 v4376
  v4377.toNat
def k0_dev175 (d0 : Dev nD) : Nat :=
  let c0_i32_4537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4521 : BitVec 32 := 20#32
  let v4385 : BitVec 32 := Scalar.addi v2 c20_i32_4521
  let c32_i32_4522 : BitVec 32 := 32#32
  let c0_i32_4523 : BitVec 32 := 0#32
  let v4386 : BitVec 1 := Scalar.cmpi .eq c32_i32_4522 c0_i32_4523
  let c1_i32_4524 : BitVec 32 := 1#32
  let v4387 : BitVec 32 := Scalar.select v4386 c1_i32_4524 c32_i32_4522
  let v4388 : BitVec 32 := Scalar.remsi v4385 v4387
  let c0_i32_4526 : BitVec 32 := 0#32
  let v4390 : BitVec 1 := Scalar.cmpi .slt v4388 c0_i32_4526
  let c0_i32_4527 : BitVec 32 := 0#32
  let v4391 : BitVec 1 := Scalar.cmpi .slt v4387 c0_i32_4527
  let v4392 : BitVec 1 := Scalar.xori v4390 v4391
  let c0_i32_4525 : BitVec 32 := 0#32
  let v4389 : BitVec 1 := Scalar.cmpi .ne v4388 c0_i32_4525
  let v4393 : BitVec 1 := Scalar.andi v4392 v4389
  let v4394 : BitVec 32 := Scalar.addi v4388 v4387
  let v4395 : BitVec 32 := Scalar.select v4393 v4394 v4388
  let c1_i32_4536 : BitVec 32 := 1#32
  let v4398 : BitVec 32 := Scalar.muli v4395 c1_i32_4536
  let v4399 : BitVec 32 := Scalar.addi c0_i32_4537 v4398
  v4399.toNat
def k0_dev176 (d0 : Dev nD) : Nat :=
  let c0_i32_4557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4541 : BitVec 32 := 21#32
  let v4407 : BitVec 32 := Scalar.addi v2 c21_i32_4541
  let c32_i32_4542 : BitVec 32 := 32#32
  let c0_i32_4543 : BitVec 32 := 0#32
  let v4408 : BitVec 1 := Scalar.cmpi .eq c32_i32_4542 c0_i32_4543
  let c1_i32_4544 : BitVec 32 := 1#32
  let v4409 : BitVec 32 := Scalar.select v4408 c1_i32_4544 c32_i32_4542
  let v4410 : BitVec 32 := Scalar.remsi v4407 v4409
  let c0_i32_4546 : BitVec 32 := 0#32
  let v4412 : BitVec 1 := Scalar.cmpi .slt v4410 c0_i32_4546
  let c0_i32_4547 : BitVec 32 := 0#32
  let v4413 : BitVec 1 := Scalar.cmpi .slt v4409 c0_i32_4547
  let v4414 : BitVec 1 := Scalar.xori v4412 v4413
  let c0_i32_4545 : BitVec 32 := 0#32
  let v4411 : BitVec 1 := Scalar.cmpi .ne v4410 c0_i32_4545
  let v4415 : BitVec 1 := Scalar.andi v4414 v4411
  let v4416 : BitVec 32 := Scalar.addi v4410 v4409
  let v4417 : BitVec 32 := Scalar.select v4415 v4416 v4410
  let c1_i32_4556 : BitVec 32 := 1#32
  let v4420 : BitVec 32 := Scalar.muli v4417 c1_i32_4556
  let v4421 : BitVec 32 := Scalar.addi c0_i32_4557 v4420
  v4421.toNat
def k0_dev177 (d0 : Dev nD) : Nat :=
  let c0_i32_4577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4561 : BitVec 32 := 22#32
  let v4429 : BitVec 32 := Scalar.addi v2 c22_i32_4561
  let c32_i32_4562 : BitVec 32 := 32#32
  let c0_i32_4563 : BitVec 32 := 0#32
  let v4430 : BitVec 1 := Scalar.cmpi .eq c32_i32_4562 c0_i32_4563
  let c1_i32_4564 : BitVec 32 := 1#32
  let v4431 : BitVec 32 := Scalar.select v4430 c1_i32_4564 c32_i32_4562
  let v4432 : BitVec 32 := Scalar.remsi v4429 v4431
  let c0_i32_4566 : BitVec 32 := 0#32
  let v4434 : BitVec 1 := Scalar.cmpi .slt v4432 c0_i32_4566
  let c0_i32_4567 : BitVec 32 := 0#32
  let v4435 : BitVec 1 := Scalar.cmpi .slt v4431 c0_i32_4567
  let v4436 : BitVec 1 := Scalar.xori v4434 v4435
  let c0_i32_4565 : BitVec 32 := 0#32
  let v4433 : BitVec 1 := Scalar.cmpi .ne v4432 c0_i32_4565
  let v4437 : BitVec 1 := Scalar.andi v4436 v4433
  let v4438 : BitVec 32 := Scalar.addi v4432 v4431
  let v4439 : BitVec 32 := Scalar.select v4437 v4438 v4432
  let c1_i32_4576 : BitVec 32 := 1#32
  let v4442 : BitVec 32 := Scalar.muli v4439 c1_i32_4576
  let v4443 : BitVec 32 := Scalar.addi c0_i32_4577 v4442
  v4443.toNat
def k0_dev178 (d0 : Dev nD) : Nat :=
  let c0_i32_4597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4581 : BitVec 32 := 23#32
  let v4451 : BitVec 32 := Scalar.addi v2 c23_i32_4581
  let c32_i32_4582 : BitVec 32 := 32#32
  let c0_i32_4583 : BitVec 32 := 0#32
  let v4452 : BitVec 1 := Scalar.cmpi .eq c32_i32_4582 c0_i32_4583
  let c1_i32_4584 : BitVec 32 := 1#32
  let v4453 : BitVec 32 := Scalar.select v4452 c1_i32_4584 c32_i32_4582
  let v4454 : BitVec 32 := Scalar.remsi v4451 v4453
  let c0_i32_4586 : BitVec 32 := 0#32
  let v4456 : BitVec 1 := Scalar.cmpi .slt v4454 c0_i32_4586
  let c0_i32_4587 : BitVec 32 := 0#32
  let v4457 : BitVec 1 := Scalar.cmpi .slt v4453 c0_i32_4587
  let v4458 : BitVec 1 := Scalar.xori v4456 v4457
  let c0_i32_4585 : BitVec 32 := 0#32
  let v4455 : BitVec 1 := Scalar.cmpi .ne v4454 c0_i32_4585
  let v4459 : BitVec 1 := Scalar.andi v4458 v4455
  let v4460 : BitVec 32 := Scalar.addi v4454 v4453
  let v4461 : BitVec 32 := Scalar.select v4459 v4460 v4454
  let c1_i32_4596 : BitVec 32 := 1#32
  let v4464 : BitVec 32 := Scalar.muli v4461 c1_i32_4596
  let v4465 : BitVec 32 := Scalar.addi c0_i32_4597 v4464
  v4465.toNat
def k0_dev179 (d0 : Dev nD) : Nat :=
  let c0_i32_4617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4601 : BitVec 32 := 24#32
  let v4473 : BitVec 32 := Scalar.addi v2 c24_i32_4601
  let c32_i32_4602 : BitVec 32 := 32#32
  let c0_i32_4603 : BitVec 32 := 0#32
  let v4474 : BitVec 1 := Scalar.cmpi .eq c32_i32_4602 c0_i32_4603
  let c1_i32_4604 : BitVec 32 := 1#32
  let v4475 : BitVec 32 := Scalar.select v4474 c1_i32_4604 c32_i32_4602
  let v4476 : BitVec 32 := Scalar.remsi v4473 v4475
  let c0_i32_4606 : BitVec 32 := 0#32
  let v4478 : BitVec 1 := Scalar.cmpi .slt v4476 c0_i32_4606
  let c0_i32_4607 : BitVec 32 := 0#32
  let v4479 : BitVec 1 := Scalar.cmpi .slt v4475 c0_i32_4607
  let v4480 : BitVec 1 := Scalar.xori v4478 v4479
  let c0_i32_4605 : BitVec 32 := 0#32
  let v4477 : BitVec 1 := Scalar.cmpi .ne v4476 c0_i32_4605
  let v4481 : BitVec 1 := Scalar.andi v4480 v4477
  let v4482 : BitVec 32 := Scalar.addi v4476 v4475
  let v4483 : BitVec 32 := Scalar.select v4481 v4482 v4476
  let c1_i32_4616 : BitVec 32 := 1#32
  let v4486 : BitVec 32 := Scalar.muli v4483 c1_i32_4616
  let v4487 : BitVec 32 := Scalar.addi c0_i32_4617 v4486
  v4487.toNat
def k0_dev180 (d0 : Dev nD) : Nat :=
  let c0_i32_4637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4621 : BitVec 32 := 25#32
  let v4495 : BitVec 32 := Scalar.addi v2 c25_i32_4621
  let c32_i32_4622 : BitVec 32 := 32#32
  let c0_i32_4623 : BitVec 32 := 0#32
  let v4496 : BitVec 1 := Scalar.cmpi .eq c32_i32_4622 c0_i32_4623
  let c1_i32_4624 : BitVec 32 := 1#32
  let v4497 : BitVec 32 := Scalar.select v4496 c1_i32_4624 c32_i32_4622
  let v4498 : BitVec 32 := Scalar.remsi v4495 v4497
  let c0_i32_4626 : BitVec 32 := 0#32
  let v4500 : BitVec 1 := Scalar.cmpi .slt v4498 c0_i32_4626
  let c0_i32_4627 : BitVec 32 := 0#32
  let v4501 : BitVec 1 := Scalar.cmpi .slt v4497 c0_i32_4627
  let v4502 : BitVec 1 := Scalar.xori v4500 v4501
  let c0_i32_4625 : BitVec 32 := 0#32
  let v4499 : BitVec 1 := Scalar.cmpi .ne v4498 c0_i32_4625
  let v4503 : BitVec 1 := Scalar.andi v4502 v4499
  let v4504 : BitVec 32 := Scalar.addi v4498 v4497
  let v4505 : BitVec 32 := Scalar.select v4503 v4504 v4498
  let c1_i32_4636 : BitVec 32 := 1#32
  let v4508 : BitVec 32 := Scalar.muli v4505 c1_i32_4636
  let v4509 : BitVec 32 := Scalar.addi c0_i32_4637 v4508
  v4509.toNat
def k0_dev181 (d0 : Dev nD) : Nat :=
  let c0_i32_4657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4641 : BitVec 32 := 26#32
  let v4517 : BitVec 32 := Scalar.addi v2 c26_i32_4641
  let c32_i32_4642 : BitVec 32 := 32#32
  let c0_i32_4643 : BitVec 32 := 0#32
  let v4518 : BitVec 1 := Scalar.cmpi .eq c32_i32_4642 c0_i32_4643
  let c1_i32_4644 : BitVec 32 := 1#32
  let v4519 : BitVec 32 := Scalar.select v4518 c1_i32_4644 c32_i32_4642
  let v4520 : BitVec 32 := Scalar.remsi v4517 v4519
  let c0_i32_4646 : BitVec 32 := 0#32
  let v4522 : BitVec 1 := Scalar.cmpi .slt v4520 c0_i32_4646
  let c0_i32_4647 : BitVec 32 := 0#32
  let v4523 : BitVec 1 := Scalar.cmpi .slt v4519 c0_i32_4647
  let v4524 : BitVec 1 := Scalar.xori v4522 v4523
  let c0_i32_4645 : BitVec 32 := 0#32
  let v4521 : BitVec 1 := Scalar.cmpi .ne v4520 c0_i32_4645
  let v4525 : BitVec 1 := Scalar.andi v4524 v4521
  let v4526 : BitVec 32 := Scalar.addi v4520 v4519
  let v4527 : BitVec 32 := Scalar.select v4525 v4526 v4520
  let c1_i32_4656 : BitVec 32 := 1#32
  let v4530 : BitVec 32 := Scalar.muli v4527 c1_i32_4656
  let v4531 : BitVec 32 := Scalar.addi c0_i32_4657 v4530
  v4531.toNat
def k0_dev182 (d0 : Dev nD) : Nat :=
  let c0_i32_4677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4661 : BitVec 32 := 27#32
  let v4539 : BitVec 32 := Scalar.addi v2 c27_i32_4661
  let c32_i32_4662 : BitVec 32 := 32#32
  let c0_i32_4663 : BitVec 32 := 0#32
  let v4540 : BitVec 1 := Scalar.cmpi .eq c32_i32_4662 c0_i32_4663
  let c1_i32_4664 : BitVec 32 := 1#32
  let v4541 : BitVec 32 := Scalar.select v4540 c1_i32_4664 c32_i32_4662
  let v4542 : BitVec 32 := Scalar.remsi v4539 v4541
  let c0_i32_4666 : BitVec 32 := 0#32
  let v4544 : BitVec 1 := Scalar.cmpi .slt v4542 c0_i32_4666
  let c0_i32_4667 : BitVec 32 := 0#32
  let v4545 : BitVec 1 := Scalar.cmpi .slt v4541 c0_i32_4667
  let v4546 : BitVec 1 := Scalar.xori v4544 v4545
  let c0_i32_4665 : BitVec 32 := 0#32
  let v4543 : BitVec 1 := Scalar.cmpi .ne v4542 c0_i32_4665
  let v4547 : BitVec 1 := Scalar.andi v4546 v4543
  let v4548 : BitVec 32 := Scalar.addi v4542 v4541
  let v4549 : BitVec 32 := Scalar.select v4547 v4548 v4542
  let c1_i32_4676 : BitVec 32 := 1#32
  let v4552 : BitVec 32 := Scalar.muli v4549 c1_i32_4676
  let v4553 : BitVec 32 := Scalar.addi c0_i32_4677 v4552
  v4553.toNat
def k0_dev183 (d0 : Dev nD) : Nat :=
  let c0_i32_4697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4681 : BitVec 32 := 28#32
  let v4561 : BitVec 32 := Scalar.addi v2 c28_i32_4681
  let c32_i32_4682 : BitVec 32 := 32#32
  let c0_i32_4683 : BitVec 32 := 0#32
  let v4562 : BitVec 1 := Scalar.cmpi .eq c32_i32_4682 c0_i32_4683
  let c1_i32_4684 : BitVec 32 := 1#32
  let v4563 : BitVec 32 := Scalar.select v4562 c1_i32_4684 c32_i32_4682
  let v4564 : BitVec 32 := Scalar.remsi v4561 v4563
  let c0_i32_4686 : BitVec 32 := 0#32
  let v4566 : BitVec 1 := Scalar.cmpi .slt v4564 c0_i32_4686
  let c0_i32_4687 : BitVec 32 := 0#32
  let v4567 : BitVec 1 := Scalar.cmpi .slt v4563 c0_i32_4687
  let v4568 : BitVec 1 := Scalar.xori v4566 v4567
  let c0_i32_4685 : BitVec 32 := 0#32
  let v4565 : BitVec 1 := Scalar.cmpi .ne v4564 c0_i32_4685
  let v4569 : BitVec 1 := Scalar.andi v4568 v4565
  let v4570 : BitVec 32 := Scalar.addi v4564 v4563
  let v4571 : BitVec 32 := Scalar.select v4569 v4570 v4564
  let c1_i32_4696 : BitVec 32 := 1#32
  let v4574 : BitVec 32 := Scalar.muli v4571 c1_i32_4696
  let v4575 : BitVec 32 := Scalar.addi c0_i32_4697 v4574
  v4575.toNat
def k0_dev184 (d0 : Dev nD) : Nat :=
  let c0_i32_4717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4701 : BitVec 32 := 29#32
  let v4583 : BitVec 32 := Scalar.addi v2 c29_i32_4701
  let c32_i32_4702 : BitVec 32 := 32#32
  let c0_i32_4703 : BitVec 32 := 0#32
  let v4584 : BitVec 1 := Scalar.cmpi .eq c32_i32_4702 c0_i32_4703
  let c1_i32_4704 : BitVec 32 := 1#32
  let v4585 : BitVec 32 := Scalar.select v4584 c1_i32_4704 c32_i32_4702
  let v4586 : BitVec 32 := Scalar.remsi v4583 v4585
  let c0_i32_4706 : BitVec 32 := 0#32
  let v4588 : BitVec 1 := Scalar.cmpi .slt v4586 c0_i32_4706
  let c0_i32_4707 : BitVec 32 := 0#32
  let v4589 : BitVec 1 := Scalar.cmpi .slt v4585 c0_i32_4707
  let v4590 : BitVec 1 := Scalar.xori v4588 v4589
  let c0_i32_4705 : BitVec 32 := 0#32
  let v4587 : BitVec 1 := Scalar.cmpi .ne v4586 c0_i32_4705
  let v4591 : BitVec 1 := Scalar.andi v4590 v4587
  let v4592 : BitVec 32 := Scalar.addi v4586 v4585
  let v4593 : BitVec 32 := Scalar.select v4591 v4592 v4586
  let c1_i32_4716 : BitVec 32 := 1#32
  let v4596 : BitVec 32 := Scalar.muli v4593 c1_i32_4716
  let v4597 : BitVec 32 := Scalar.addi c0_i32_4717 v4596
  v4597.toNat
def k0_dev185 (d0 : Dev nD) : Nat :=
  let c0_i32_4737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4721 : BitVec 32 := 30#32
  let v4605 : BitVec 32 := Scalar.addi v2 c30_i32_4721
  let c32_i32_4722 : BitVec 32 := 32#32
  let c0_i32_4723 : BitVec 32 := 0#32
  let v4606 : BitVec 1 := Scalar.cmpi .eq c32_i32_4722 c0_i32_4723
  let c1_i32_4724 : BitVec 32 := 1#32
  let v4607 : BitVec 32 := Scalar.select v4606 c1_i32_4724 c32_i32_4722
  let v4608 : BitVec 32 := Scalar.remsi v4605 v4607
  let c0_i32_4726 : BitVec 32 := 0#32
  let v4610 : BitVec 1 := Scalar.cmpi .slt v4608 c0_i32_4726
  let c0_i32_4727 : BitVec 32 := 0#32
  let v4611 : BitVec 1 := Scalar.cmpi .slt v4607 c0_i32_4727
  let v4612 : BitVec 1 := Scalar.xori v4610 v4611
  let c0_i32_4725 : BitVec 32 := 0#32
  let v4609 : BitVec 1 := Scalar.cmpi .ne v4608 c0_i32_4725
  let v4613 : BitVec 1 := Scalar.andi v4612 v4609
  let v4614 : BitVec 32 := Scalar.addi v4608 v4607
  let v4615 : BitVec 32 := Scalar.select v4613 v4614 v4608
  let c1_i32_4736 : BitVec 32 := 1#32
  let v4618 : BitVec 32 := Scalar.muli v4615 c1_i32_4736
  let v4619 : BitVec 32 := Scalar.addi c0_i32_4737 v4618
  v4619.toNat
def k0_dev186 (d0 : Dev nD) : Nat :=
  let c0_i32_4757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4741 : BitVec 32 := 31#32
  let v4627 : BitVec 32 := Scalar.addi v2 c31_i32_4741
  let c32_i32_4742 : BitVec 32 := 32#32
  let c0_i32_4743 : BitVec 32 := 0#32
  let v4628 : BitVec 1 := Scalar.cmpi .eq c32_i32_4742 c0_i32_4743
  let c1_i32_4744 : BitVec 32 := 1#32
  let v4629 : BitVec 32 := Scalar.select v4628 c1_i32_4744 c32_i32_4742
  let v4630 : BitVec 32 := Scalar.remsi v4627 v4629
  let c0_i32_4746 : BitVec 32 := 0#32
  let v4632 : BitVec 1 := Scalar.cmpi .slt v4630 c0_i32_4746
  let c0_i32_4747 : BitVec 32 := 0#32
  let v4633 : BitVec 1 := Scalar.cmpi .slt v4629 c0_i32_4747
  let v4634 : BitVec 1 := Scalar.xori v4632 v4633
  let c0_i32_4745 : BitVec 32 := 0#32
  let v4631 : BitVec 1 := Scalar.cmpi .ne v4630 c0_i32_4745
  let v4635 : BitVec 1 := Scalar.andi v4634 v4631
  let v4636 : BitVec 32 := Scalar.addi v4630 v4629
  let v4637 : BitVec 32 := Scalar.select v4635 v4636 v4630
  let c1_i32_4756 : BitVec 32 := 1#32
  let v4640 : BitVec 32 := Scalar.muli v4637 c1_i32_4756
  let v4641 : BitVec 32 := Scalar.addi c0_i32_4757 v4640
  v4641.toNat
def k0_dev187 (d0 : Dev nD) : Nat :=
  let c0_i32_5565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5549 : BitVec 32 := 1#32
  let v5127 : BitVec 32 := Scalar.addi v2 c1_i32_5549
  let c32_i32_5550 : BitVec 32 := 32#32
  let c0_i32_5551 : BitVec 32 := 0#32
  let v5128 : BitVec 1 := Scalar.cmpi .eq c32_i32_5550 c0_i32_5551
  let c1_i32_5552 : BitVec 32 := 1#32
  let v5129 : BitVec 32 := Scalar.select v5128 c1_i32_5552 c32_i32_5550
  let v5130 : BitVec 32 := Scalar.remsi v5127 v5129
  let c0_i32_5554 : BitVec 32 := 0#32
  let v5132 : BitVec 1 := Scalar.cmpi .slt v5130 c0_i32_5554
  let c0_i32_5555 : BitVec 32 := 0#32
  let v5133 : BitVec 1 := Scalar.cmpi .slt v5129 c0_i32_5555
  let v5134 : BitVec 1 := Scalar.xori v5132 v5133
  let c0_i32_5553 : BitVec 32 := 0#32
  let v5131 : BitVec 1 := Scalar.cmpi .ne v5130 c0_i32_5553
  let v5135 : BitVec 1 := Scalar.andi v5134 v5131
  let v5136 : BitVec 32 := Scalar.addi v5130 v5129
  let v5137 : BitVec 32 := Scalar.select v5135 v5136 v5130
  let c1_i32_5564 : BitVec 32 := 1#32
  let v5140 : BitVec 32 := Scalar.muli v5137 c1_i32_5564
  let v5141 : BitVec 32 := Scalar.addi c0_i32_5565 v5140
  v5141.toNat
def k0_dev188 (d0 : Dev nD) : Nat :=
  let c0_i32_5585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_5569 : BitVec 32 := 2#32
  let v5149 : BitVec 32 := Scalar.addi v2 c2_i32_5569
  let c32_i32_5570 : BitVec 32 := 32#32
  let c0_i32_5571 : BitVec 32 := 0#32
  let v5150 : BitVec 1 := Scalar.cmpi .eq c32_i32_5570 c0_i32_5571
  let c1_i32_5572 : BitVec 32 := 1#32
  let v5151 : BitVec 32 := Scalar.select v5150 c1_i32_5572 c32_i32_5570
  let v5152 : BitVec 32 := Scalar.remsi v5149 v5151
  let c0_i32_5574 : BitVec 32 := 0#32
  let v5154 : BitVec 1 := Scalar.cmpi .slt v5152 c0_i32_5574
  let c0_i32_5575 : BitVec 32 := 0#32
  let v5155 : BitVec 1 := Scalar.cmpi .slt v5151 c0_i32_5575
  let v5156 : BitVec 1 := Scalar.xori v5154 v5155
  let c0_i32_5573 : BitVec 32 := 0#32
  let v5153 : BitVec 1 := Scalar.cmpi .ne v5152 c0_i32_5573
  let v5157 : BitVec 1 := Scalar.andi v5156 v5153
  let v5158 : BitVec 32 := Scalar.addi v5152 v5151
  let v5159 : BitVec 32 := Scalar.select v5157 v5158 v5152
  let c1_i32_5584 : BitVec 32 := 1#32
  let v5162 : BitVec 32 := Scalar.muli v5159 c1_i32_5584
  let v5163 : BitVec 32 := Scalar.addi c0_i32_5585 v5162
  v5163.toNat
def k0_dev189 (d0 : Dev nD) : Nat :=
  let c0_i32_5605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_5589 : BitVec 32 := 3#32
  let v5171 : BitVec 32 := Scalar.addi v2 c3_i32_5589
  let c32_i32_5590 : BitVec 32 := 32#32
  let c0_i32_5591 : BitVec 32 := 0#32
  let v5172 : BitVec 1 := Scalar.cmpi .eq c32_i32_5590 c0_i32_5591
  let c1_i32_5592 : BitVec 32 := 1#32
  let v5173 : BitVec 32 := Scalar.select v5172 c1_i32_5592 c32_i32_5590
  let v5174 : BitVec 32 := Scalar.remsi v5171 v5173
  let c0_i32_5594 : BitVec 32 := 0#32
  let v5176 : BitVec 1 := Scalar.cmpi .slt v5174 c0_i32_5594
  let c0_i32_5595 : BitVec 32 := 0#32
  let v5177 : BitVec 1 := Scalar.cmpi .slt v5173 c0_i32_5595
  let v5178 : BitVec 1 := Scalar.xori v5176 v5177
  let c0_i32_5593 : BitVec 32 := 0#32
  let v5175 : BitVec 1 := Scalar.cmpi .ne v5174 c0_i32_5593
  let v5179 : BitVec 1 := Scalar.andi v5178 v5175
  let v5180 : BitVec 32 := Scalar.addi v5174 v5173
  let v5181 : BitVec 32 := Scalar.select v5179 v5180 v5174
  let c1_i32_5604 : BitVec 32 := 1#32
  let v5184 : BitVec 32 := Scalar.muli v5181 c1_i32_5604
  let v5185 : BitVec 32 := Scalar.addi c0_i32_5605 v5184
  v5185.toNat
def k0_dev190 (d0 : Dev nD) : Nat :=
  let c0_i32_5625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5609 : BitVec 32 := 4#32
  let v5193 : BitVec 32 := Scalar.addi v2 c4_i32_5609
  let c32_i32_5610 : BitVec 32 := 32#32
  let c0_i32_5611 : BitVec 32 := 0#32
  let v5194 : BitVec 1 := Scalar.cmpi .eq c32_i32_5610 c0_i32_5611
  let c1_i32_5612 : BitVec 32 := 1#32
  let v5195 : BitVec 32 := Scalar.select v5194 c1_i32_5612 c32_i32_5610
  let v5196 : BitVec 32 := Scalar.remsi v5193 v5195
  let c0_i32_5614 : BitVec 32 := 0#32
  let v5198 : BitVec 1 := Scalar.cmpi .slt v5196 c0_i32_5614
  let c0_i32_5615 : BitVec 32 := 0#32
  let v5199 : BitVec 1 := Scalar.cmpi .slt v5195 c0_i32_5615
  let v5200 : BitVec 1 := Scalar.xori v5198 v5199
  let c0_i32_5613 : BitVec 32 := 0#32
  let v5197 : BitVec 1 := Scalar.cmpi .ne v5196 c0_i32_5613
  let v5201 : BitVec 1 := Scalar.andi v5200 v5197
  let v5202 : BitVec 32 := Scalar.addi v5196 v5195
  let v5203 : BitVec 32 := Scalar.select v5201 v5202 v5196
  let c1_i32_5624 : BitVec 32 := 1#32
  let v5206 : BitVec 32 := Scalar.muli v5203 c1_i32_5624
  let v5207 : BitVec 32 := Scalar.addi c0_i32_5625 v5206
  v5207.toNat
def k0_dev191 (d0 : Dev nD) : Nat :=
  let c0_i32_5645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5629 : BitVec 32 := 5#32
  let v5215 : BitVec 32 := Scalar.addi v2 c5_i32_5629
  let c32_i32_5630 : BitVec 32 := 32#32
  let c0_i32_5631 : BitVec 32 := 0#32
  let v5216 : BitVec 1 := Scalar.cmpi .eq c32_i32_5630 c0_i32_5631
  let c1_i32_5632 : BitVec 32 := 1#32
  let v5217 : BitVec 32 := Scalar.select v5216 c1_i32_5632 c32_i32_5630
  let v5218 : BitVec 32 := Scalar.remsi v5215 v5217
  let c0_i32_5634 : BitVec 32 := 0#32
  let v5220 : BitVec 1 := Scalar.cmpi .slt v5218 c0_i32_5634
  let c0_i32_5635 : BitVec 32 := 0#32
  let v5221 : BitVec 1 := Scalar.cmpi .slt v5217 c0_i32_5635
  let v5222 : BitVec 1 := Scalar.xori v5220 v5221
  let c0_i32_5633 : BitVec 32 := 0#32
  let v5219 : BitVec 1 := Scalar.cmpi .ne v5218 c0_i32_5633
  let v5223 : BitVec 1 := Scalar.andi v5222 v5219
  let v5224 : BitVec 32 := Scalar.addi v5218 v5217
  let v5225 : BitVec 32 := Scalar.select v5223 v5224 v5218
  let c1_i32_5644 : BitVec 32 := 1#32
  let v5228 : BitVec 32 := Scalar.muli v5225 c1_i32_5644
  let v5229 : BitVec 32 := Scalar.addi c0_i32_5645 v5228
  v5229.toNat
def k0_dev192 (d0 : Dev nD) : Nat :=
  let c0_i32_5665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5649 : BitVec 32 := 6#32
  let v5237 : BitVec 32 := Scalar.addi v2 c6_i32_5649
  let c32_i32_5650 : BitVec 32 := 32#32
  let c0_i32_5651 : BitVec 32 := 0#32
  let v5238 : BitVec 1 := Scalar.cmpi .eq c32_i32_5650 c0_i32_5651
  let c1_i32_5652 : BitVec 32 := 1#32
  let v5239 : BitVec 32 := Scalar.select v5238 c1_i32_5652 c32_i32_5650
  let v5240 : BitVec 32 := Scalar.remsi v5237 v5239
  let c0_i32_5654 : BitVec 32 := 0#32
  let v5242 : BitVec 1 := Scalar.cmpi .slt v5240 c0_i32_5654
  let c0_i32_5655 : BitVec 32 := 0#32
  let v5243 : BitVec 1 := Scalar.cmpi .slt v5239 c0_i32_5655
  let v5244 : BitVec 1 := Scalar.xori v5242 v5243
  let c0_i32_5653 : BitVec 32 := 0#32
  let v5241 : BitVec 1 := Scalar.cmpi .ne v5240 c0_i32_5653
  let v5245 : BitVec 1 := Scalar.andi v5244 v5241
  let v5246 : BitVec 32 := Scalar.addi v5240 v5239
  let v5247 : BitVec 32 := Scalar.select v5245 v5246 v5240
  let c1_i32_5664 : BitVec 32 := 1#32
  let v5250 : BitVec 32 := Scalar.muli v5247 c1_i32_5664
  let v5251 : BitVec 32 := Scalar.addi c0_i32_5665 v5250
  v5251.toNat
def k0_dev193 (d0 : Dev nD) : Nat :=
  let c0_i32_5685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5669 : BitVec 32 := 7#32
  let v5259 : BitVec 32 := Scalar.addi v2 c7_i32_5669
  let c32_i32_5670 : BitVec 32 := 32#32
  let c0_i32_5671 : BitVec 32 := 0#32
  let v5260 : BitVec 1 := Scalar.cmpi .eq c32_i32_5670 c0_i32_5671
  let c1_i32_5672 : BitVec 32 := 1#32
  let v5261 : BitVec 32 := Scalar.select v5260 c1_i32_5672 c32_i32_5670
  let v5262 : BitVec 32 := Scalar.remsi v5259 v5261
  let c0_i32_5674 : BitVec 32 := 0#32
  let v5264 : BitVec 1 := Scalar.cmpi .slt v5262 c0_i32_5674
  let c0_i32_5675 : BitVec 32 := 0#32
  let v5265 : BitVec 1 := Scalar.cmpi .slt v5261 c0_i32_5675
  let v5266 : BitVec 1 := Scalar.xori v5264 v5265
  let c0_i32_5673 : BitVec 32 := 0#32
  let v5263 : BitVec 1 := Scalar.cmpi .ne v5262 c0_i32_5673
  let v5267 : BitVec 1 := Scalar.andi v5266 v5263
  let v5268 : BitVec 32 := Scalar.addi v5262 v5261
  let v5269 : BitVec 32 := Scalar.select v5267 v5268 v5262
  let c1_i32_5684 : BitVec 32 := 1#32
  let v5272 : BitVec 32 := Scalar.muli v5269 c1_i32_5684
  let v5273 : BitVec 32 := Scalar.addi c0_i32_5685 v5272
  v5273.toNat
def k0_dev194 (d0 : Dev nD) : Nat :=
  let c0_i32_5705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5689 : BitVec 32 := 8#32
  let v5281 : BitVec 32 := Scalar.addi v2 c8_i32_5689
  let c32_i32_5690 : BitVec 32 := 32#32
  let c0_i32_5691 : BitVec 32 := 0#32
  let v5282 : BitVec 1 := Scalar.cmpi .eq c32_i32_5690 c0_i32_5691
  let c1_i32_5692 : BitVec 32 := 1#32
  let v5283 : BitVec 32 := Scalar.select v5282 c1_i32_5692 c32_i32_5690
  let v5284 : BitVec 32 := Scalar.remsi v5281 v5283
  let c0_i32_5694 : BitVec 32 := 0#32
  let v5286 : BitVec 1 := Scalar.cmpi .slt v5284 c0_i32_5694
  let c0_i32_5695 : BitVec 32 := 0#32
  let v5287 : BitVec 1 := Scalar.cmpi .slt v5283 c0_i32_5695
  let v5288 : BitVec 1 := Scalar.xori v5286 v5287
  let c0_i32_5693 : BitVec 32 := 0#32
  let v5285 : BitVec 1 := Scalar.cmpi .ne v5284 c0_i32_5693
  let v5289 : BitVec 1 := Scalar.andi v5288 v5285
  let v5290 : BitVec 32 := Scalar.addi v5284 v5283
  let v5291 : BitVec 32 := Scalar.select v5289 v5290 v5284
  let c1_i32_5704 : BitVec 32 := 1#32
  let v5294 : BitVec 32 := Scalar.muli v5291 c1_i32_5704
  let v5295 : BitVec 32 := Scalar.addi c0_i32_5705 v5294
  v5295.toNat
def k0_dev195 (d0 : Dev nD) : Nat :=
  let c0_i32_5725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5709 : BitVec 32 := 9#32
  let v5303 : BitVec 32 := Scalar.addi v2 c9_i32_5709
  let c32_i32_5710 : BitVec 32 := 32#32
  let c0_i32_5711 : BitVec 32 := 0#32
  let v5304 : BitVec 1 := Scalar.cmpi .eq c32_i32_5710 c0_i32_5711
  let c1_i32_5712 : BitVec 32 := 1#32
  let v5305 : BitVec 32 := Scalar.select v5304 c1_i32_5712 c32_i32_5710
  let v5306 : BitVec 32 := Scalar.remsi v5303 v5305
  let c0_i32_5714 : BitVec 32 := 0#32
  let v5308 : BitVec 1 := Scalar.cmpi .slt v5306 c0_i32_5714
  let c0_i32_5715 : BitVec 32 := 0#32
  let v5309 : BitVec 1 := Scalar.cmpi .slt v5305 c0_i32_5715
  let v5310 : BitVec 1 := Scalar.xori v5308 v5309
  let c0_i32_5713 : BitVec 32 := 0#32
  let v5307 : BitVec 1 := Scalar.cmpi .ne v5306 c0_i32_5713
  let v5311 : BitVec 1 := Scalar.andi v5310 v5307
  let v5312 : BitVec 32 := Scalar.addi v5306 v5305
  let v5313 : BitVec 32 := Scalar.select v5311 v5312 v5306
  let c1_i32_5724 : BitVec 32 := 1#32
  let v5316 : BitVec 32 := Scalar.muli v5313 c1_i32_5724
  let v5317 : BitVec 32 := Scalar.addi c0_i32_5725 v5316
  v5317.toNat
def k0_dev196 (d0 : Dev nD) : Nat :=
  let c0_i32_5745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5729 : BitVec 32 := 10#32
  let v5325 : BitVec 32 := Scalar.addi v2 c10_i32_5729
  let c32_i32_5730 : BitVec 32 := 32#32
  let c0_i32_5731 : BitVec 32 := 0#32
  let v5326 : BitVec 1 := Scalar.cmpi .eq c32_i32_5730 c0_i32_5731
  let c1_i32_5732 : BitVec 32 := 1#32
  let v5327 : BitVec 32 := Scalar.select v5326 c1_i32_5732 c32_i32_5730
  let v5328 : BitVec 32 := Scalar.remsi v5325 v5327
  let c0_i32_5734 : BitVec 32 := 0#32
  let v5330 : BitVec 1 := Scalar.cmpi .slt v5328 c0_i32_5734
  let c0_i32_5735 : BitVec 32 := 0#32
  let v5331 : BitVec 1 := Scalar.cmpi .slt v5327 c0_i32_5735
  let v5332 : BitVec 1 := Scalar.xori v5330 v5331
  let c0_i32_5733 : BitVec 32 := 0#32
  let v5329 : BitVec 1 := Scalar.cmpi .ne v5328 c0_i32_5733
  let v5333 : BitVec 1 := Scalar.andi v5332 v5329
  let v5334 : BitVec 32 := Scalar.addi v5328 v5327
  let v5335 : BitVec 32 := Scalar.select v5333 v5334 v5328
  let c1_i32_5744 : BitVec 32 := 1#32
  let v5338 : BitVec 32 := Scalar.muli v5335 c1_i32_5744
  let v5339 : BitVec 32 := Scalar.addi c0_i32_5745 v5338
  v5339.toNat
def k0_dev197 (d0 : Dev nD) : Nat :=
  let c0_i32_5765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5749 : BitVec 32 := 11#32
  let v5347 : BitVec 32 := Scalar.addi v2 c11_i32_5749
  let c32_i32_5750 : BitVec 32 := 32#32
  let c0_i32_5751 : BitVec 32 := 0#32
  let v5348 : BitVec 1 := Scalar.cmpi .eq c32_i32_5750 c0_i32_5751
  let c1_i32_5752 : BitVec 32 := 1#32
  let v5349 : BitVec 32 := Scalar.select v5348 c1_i32_5752 c32_i32_5750
  let v5350 : BitVec 32 := Scalar.remsi v5347 v5349
  let c0_i32_5754 : BitVec 32 := 0#32
  let v5352 : BitVec 1 := Scalar.cmpi .slt v5350 c0_i32_5754
  let c0_i32_5755 : BitVec 32 := 0#32
  let v5353 : BitVec 1 := Scalar.cmpi .slt v5349 c0_i32_5755
  let v5354 : BitVec 1 := Scalar.xori v5352 v5353
  let c0_i32_5753 : BitVec 32 := 0#32
  let v5351 : BitVec 1 := Scalar.cmpi .ne v5350 c0_i32_5753
  let v5355 : BitVec 1 := Scalar.andi v5354 v5351
  let v5356 : BitVec 32 := Scalar.addi v5350 v5349
  let v5357 : BitVec 32 := Scalar.select v5355 v5356 v5350
  let c1_i32_5764 : BitVec 32 := 1#32
  let v5360 : BitVec 32 := Scalar.muli v5357 c1_i32_5764
  let v5361 : BitVec 32 := Scalar.addi c0_i32_5765 v5360
  v5361.toNat
def k0_dev198 (d0 : Dev nD) : Nat :=
  let c0_i32_5785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_5769 : BitVec 32 := 12#32
  let v5369 : BitVec 32 := Scalar.addi v2 c12_i32_5769
  let c32_i32_5770 : BitVec 32 := 32#32
  let c0_i32_5771 : BitVec 32 := 0#32
  let v5370 : BitVec 1 := Scalar.cmpi .eq c32_i32_5770 c0_i32_5771
  let c1_i32_5772 : BitVec 32 := 1#32
  let v5371 : BitVec 32 := Scalar.select v5370 c1_i32_5772 c32_i32_5770
  let v5372 : BitVec 32 := Scalar.remsi v5369 v5371
  let c0_i32_5774 : BitVec 32 := 0#32
  let v5374 : BitVec 1 := Scalar.cmpi .slt v5372 c0_i32_5774
  let c0_i32_5775 : BitVec 32 := 0#32
  let v5375 : BitVec 1 := Scalar.cmpi .slt v5371 c0_i32_5775
  let v5376 : BitVec 1 := Scalar.xori v5374 v5375
  let c0_i32_5773 : BitVec 32 := 0#32
  let v5373 : BitVec 1 := Scalar.cmpi .ne v5372 c0_i32_5773
  let v5377 : BitVec 1 := Scalar.andi v5376 v5373
  let v5378 : BitVec 32 := Scalar.addi v5372 v5371
  let v5379 : BitVec 32 := Scalar.select v5377 v5378 v5372
  let c1_i32_5784 : BitVec 32 := 1#32
  let v5382 : BitVec 32 := Scalar.muli v5379 c1_i32_5784
  let v5383 : BitVec 32 := Scalar.addi c0_i32_5785 v5382
  v5383.toNat
def k0_dev199 (d0 : Dev nD) : Nat :=
  let c0_i32_5805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_5789 : BitVec 32 := 13#32
  let v5391 : BitVec 32 := Scalar.addi v2 c13_i32_5789
  let c32_i32_5790 : BitVec 32 := 32#32
  let c0_i32_5791 : BitVec 32 := 0#32
  let v5392 : BitVec 1 := Scalar.cmpi .eq c32_i32_5790 c0_i32_5791
  let c1_i32_5792 : BitVec 32 := 1#32
  let v5393 : BitVec 32 := Scalar.select v5392 c1_i32_5792 c32_i32_5790
  let v5394 : BitVec 32 := Scalar.remsi v5391 v5393
  let c0_i32_5794 : BitVec 32 := 0#32
  let v5396 : BitVec 1 := Scalar.cmpi .slt v5394 c0_i32_5794
  let c0_i32_5795 : BitVec 32 := 0#32
  let v5397 : BitVec 1 := Scalar.cmpi .slt v5393 c0_i32_5795
  let v5398 : BitVec 1 := Scalar.xori v5396 v5397
  let c0_i32_5793 : BitVec 32 := 0#32
  let v5395 : BitVec 1 := Scalar.cmpi .ne v5394 c0_i32_5793
  let v5399 : BitVec 1 := Scalar.andi v5398 v5395
  let v5400 : BitVec 32 := Scalar.addi v5394 v5393
  let v5401 : BitVec 32 := Scalar.select v5399 v5400 v5394
  let c1_i32_5804 : BitVec 32 := 1#32
  let v5404 : BitVec 32 := Scalar.muli v5401 c1_i32_5804
  let v5405 : BitVec 32 := Scalar.addi c0_i32_5805 v5404
  v5405.toNat
def k0_dev200 (d0 : Dev nD) : Nat :=
  let c0_i32_5825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_5809 : BitVec 32 := 14#32
  let v5413 : BitVec 32 := Scalar.addi v2 c14_i32_5809
  let c32_i32_5810 : BitVec 32 := 32#32
  let c0_i32_5811 : BitVec 32 := 0#32
  let v5414 : BitVec 1 := Scalar.cmpi .eq c32_i32_5810 c0_i32_5811
  let c1_i32_5812 : BitVec 32 := 1#32
  let v5415 : BitVec 32 := Scalar.select v5414 c1_i32_5812 c32_i32_5810
  let v5416 : BitVec 32 := Scalar.remsi v5413 v5415
  let c0_i32_5814 : BitVec 32 := 0#32
  let v5418 : BitVec 1 := Scalar.cmpi .slt v5416 c0_i32_5814
  let c0_i32_5815 : BitVec 32 := 0#32
  let v5419 : BitVec 1 := Scalar.cmpi .slt v5415 c0_i32_5815
  let v5420 : BitVec 1 := Scalar.xori v5418 v5419
  let c0_i32_5813 : BitVec 32 := 0#32
  let v5417 : BitVec 1 := Scalar.cmpi .ne v5416 c0_i32_5813
  let v5421 : BitVec 1 := Scalar.andi v5420 v5417
  let v5422 : BitVec 32 := Scalar.addi v5416 v5415
  let v5423 : BitVec 32 := Scalar.select v5421 v5422 v5416
  let c1_i32_5824 : BitVec 32 := 1#32
  let v5426 : BitVec 32 := Scalar.muli v5423 c1_i32_5824
  let v5427 : BitVec 32 := Scalar.addi c0_i32_5825 v5426
  v5427.toNat
def k0_dev201 (d0 : Dev nD) : Nat :=
  let c0_i32_5845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_5829 : BitVec 32 := 15#32
  let v5435 : BitVec 32 := Scalar.addi v2 c15_i32_5829
  let c32_i32_5830 : BitVec 32 := 32#32
  let c0_i32_5831 : BitVec 32 := 0#32
  let v5436 : BitVec 1 := Scalar.cmpi .eq c32_i32_5830 c0_i32_5831
  let c1_i32_5832 : BitVec 32 := 1#32
  let v5437 : BitVec 32 := Scalar.select v5436 c1_i32_5832 c32_i32_5830
  let v5438 : BitVec 32 := Scalar.remsi v5435 v5437
  let c0_i32_5834 : BitVec 32 := 0#32
  let v5440 : BitVec 1 := Scalar.cmpi .slt v5438 c0_i32_5834
  let c0_i32_5835 : BitVec 32 := 0#32
  let v5441 : BitVec 1 := Scalar.cmpi .slt v5437 c0_i32_5835
  let v5442 : BitVec 1 := Scalar.xori v5440 v5441
  let c0_i32_5833 : BitVec 32 := 0#32
  let v5439 : BitVec 1 := Scalar.cmpi .ne v5438 c0_i32_5833
  let v5443 : BitVec 1 := Scalar.andi v5442 v5439
  let v5444 : BitVec 32 := Scalar.addi v5438 v5437
  let v5445 : BitVec 32 := Scalar.select v5443 v5444 v5438
  let c1_i32_5844 : BitVec 32 := 1#32
  let v5448 : BitVec 32 := Scalar.muli v5445 c1_i32_5844
  let v5449 : BitVec 32 := Scalar.addi c0_i32_5845 v5448
  v5449.toNat
def k0_dev202 (d0 : Dev nD) : Nat :=
  let c0_i32_5865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5849 : BitVec 32 := 16#32
  let v5457 : BitVec 32 := Scalar.addi v2 c16_i32_5849
  let c32_i32_5850 : BitVec 32 := 32#32
  let c0_i32_5851 : BitVec 32 := 0#32
  let v5458 : BitVec 1 := Scalar.cmpi .eq c32_i32_5850 c0_i32_5851
  let c1_i32_5852 : BitVec 32 := 1#32
  let v5459 : BitVec 32 := Scalar.select v5458 c1_i32_5852 c32_i32_5850
  let v5460 : BitVec 32 := Scalar.remsi v5457 v5459
  let c0_i32_5854 : BitVec 32 := 0#32
  let v5462 : BitVec 1 := Scalar.cmpi .slt v5460 c0_i32_5854
  let c0_i32_5855 : BitVec 32 := 0#32
  let v5463 : BitVec 1 := Scalar.cmpi .slt v5459 c0_i32_5855
  let v5464 : BitVec 1 := Scalar.xori v5462 v5463
  let c0_i32_5853 : BitVec 32 := 0#32
  let v5461 : BitVec 1 := Scalar.cmpi .ne v5460 c0_i32_5853
  let v5465 : BitVec 1 := Scalar.andi v5464 v5461
  let v5466 : BitVec 32 := Scalar.addi v5460 v5459
  let v5467 : BitVec 32 := Scalar.select v5465 v5466 v5460
  let c1_i32_5864 : BitVec 32 := 1#32
  let v5470 : BitVec 32 := Scalar.muli v5467 c1_i32_5864
  let v5471 : BitVec 32 := Scalar.addi c0_i32_5865 v5470
  v5471.toNat
def k0_dev203 (d0 : Dev nD) : Nat :=
  let c0_i32_5885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_5869 : BitVec 32 := 17#32
  let v5479 : BitVec 32 := Scalar.addi v2 c17_i32_5869
  let c32_i32_5870 : BitVec 32 := 32#32
  let c0_i32_5871 : BitVec 32 := 0#32
  let v5480 : BitVec 1 := Scalar.cmpi .eq c32_i32_5870 c0_i32_5871
  let c1_i32_5872 : BitVec 32 := 1#32
  let v5481 : BitVec 32 := Scalar.select v5480 c1_i32_5872 c32_i32_5870
  let v5482 : BitVec 32 := Scalar.remsi v5479 v5481
  let c0_i32_5874 : BitVec 32 := 0#32
  let v5484 : BitVec 1 := Scalar.cmpi .slt v5482 c0_i32_5874
  let c0_i32_5875 : BitVec 32 := 0#32
  let v5485 : BitVec 1 := Scalar.cmpi .slt v5481 c0_i32_5875
  let v5486 : BitVec 1 := Scalar.xori v5484 v5485
  let c0_i32_5873 : BitVec 32 := 0#32
  let v5483 : BitVec 1 := Scalar.cmpi .ne v5482 c0_i32_5873
  let v5487 : BitVec 1 := Scalar.andi v5486 v5483
  let v5488 : BitVec 32 := Scalar.addi v5482 v5481
  let v5489 : BitVec 32 := Scalar.select v5487 v5488 v5482
  let c1_i32_5884 : BitVec 32 := 1#32
  let v5492 : BitVec 32 := Scalar.muli v5489 c1_i32_5884
  let v5493 : BitVec 32 := Scalar.addi c0_i32_5885 v5492
  v5493.toNat
def k0_dev204 (d0 : Dev nD) : Nat :=
  let c0_i32_5905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_5889 : BitVec 32 := 18#32
  let v5501 : BitVec 32 := Scalar.addi v2 c18_i32_5889
  let c32_i32_5890 : BitVec 32 := 32#32
  let c0_i32_5891 : BitVec 32 := 0#32
  let v5502 : BitVec 1 := Scalar.cmpi .eq c32_i32_5890 c0_i32_5891
  let c1_i32_5892 : BitVec 32 := 1#32
  let v5503 : BitVec 32 := Scalar.select v5502 c1_i32_5892 c32_i32_5890
  let v5504 : BitVec 32 := Scalar.remsi v5501 v5503
  let c0_i32_5894 : BitVec 32 := 0#32
  let v5506 : BitVec 1 := Scalar.cmpi .slt v5504 c0_i32_5894
  let c0_i32_5895 : BitVec 32 := 0#32
  let v5507 : BitVec 1 := Scalar.cmpi .slt v5503 c0_i32_5895
  let v5508 : BitVec 1 := Scalar.xori v5506 v5507
  let c0_i32_5893 : BitVec 32 := 0#32
  let v5505 : BitVec 1 := Scalar.cmpi .ne v5504 c0_i32_5893
  let v5509 : BitVec 1 := Scalar.andi v5508 v5505
  let v5510 : BitVec 32 := Scalar.addi v5504 v5503
  let v5511 : BitVec 32 := Scalar.select v5509 v5510 v5504
  let c1_i32_5904 : BitVec 32 := 1#32
  let v5514 : BitVec 32 := Scalar.muli v5511 c1_i32_5904
  let v5515 : BitVec 32 := Scalar.addi c0_i32_5905 v5514
  v5515.toNat
def k0_dev205 (d0 : Dev nD) : Nat :=
  let c0_i32_5925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_5909 : BitVec 32 := 19#32
  let v5523 : BitVec 32 := Scalar.addi v2 c19_i32_5909
  let c32_i32_5910 : BitVec 32 := 32#32
  let c0_i32_5911 : BitVec 32 := 0#32
  let v5524 : BitVec 1 := Scalar.cmpi .eq c32_i32_5910 c0_i32_5911
  let c1_i32_5912 : BitVec 32 := 1#32
  let v5525 : BitVec 32 := Scalar.select v5524 c1_i32_5912 c32_i32_5910
  let v5526 : BitVec 32 := Scalar.remsi v5523 v5525
  let c0_i32_5914 : BitVec 32 := 0#32
  let v5528 : BitVec 1 := Scalar.cmpi .slt v5526 c0_i32_5914
  let c0_i32_5915 : BitVec 32 := 0#32
  let v5529 : BitVec 1 := Scalar.cmpi .slt v5525 c0_i32_5915
  let v5530 : BitVec 1 := Scalar.xori v5528 v5529
  let c0_i32_5913 : BitVec 32 := 0#32
  let v5527 : BitVec 1 := Scalar.cmpi .ne v5526 c0_i32_5913
  let v5531 : BitVec 1 := Scalar.andi v5530 v5527
  let v5532 : BitVec 32 := Scalar.addi v5526 v5525
  let v5533 : BitVec 32 := Scalar.select v5531 v5532 v5526
  let c1_i32_5924 : BitVec 32 := 1#32
  let v5536 : BitVec 32 := Scalar.muli v5533 c1_i32_5924
  let v5537 : BitVec 32 := Scalar.addi c0_i32_5925 v5536
  v5537.toNat
def k0_dev206 (d0 : Dev nD) : Nat :=
  let c0_i32_5945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_5929 : BitVec 32 := 20#32
  let v5545 : BitVec 32 := Scalar.addi v2 c20_i32_5929
  let c32_i32_5930 : BitVec 32 := 32#32
  let c0_i32_5931 : BitVec 32 := 0#32
  let v5546 : BitVec 1 := Scalar.cmpi .eq c32_i32_5930 c0_i32_5931
  let c1_i32_5932 : BitVec 32 := 1#32
  let v5547 : BitVec 32 := Scalar.select v5546 c1_i32_5932 c32_i32_5930
  let v5548 : BitVec 32 := Scalar.remsi v5545 v5547
  let c0_i32_5934 : BitVec 32 := 0#32
  let v5550 : BitVec 1 := Scalar.cmpi .slt v5548 c0_i32_5934
  let c0_i32_5935 : BitVec 32 := 0#32
  let v5551 : BitVec 1 := Scalar.cmpi .slt v5547 c0_i32_5935
  let v5552 : BitVec 1 := Scalar.xori v5550 v5551
  let c0_i32_5933 : BitVec 32 := 0#32
  let v5549 : BitVec 1 := Scalar.cmpi .ne v5548 c0_i32_5933
  let v5553 : BitVec 1 := Scalar.andi v5552 v5549
  let v5554 : BitVec 32 := Scalar.addi v5548 v5547
  let v5555 : BitVec 32 := Scalar.select v5553 v5554 v5548
  let c1_i32_5944 : BitVec 32 := 1#32
  let v5558 : BitVec 32 := Scalar.muli v5555 c1_i32_5944
  let v5559 : BitVec 32 := Scalar.addi c0_i32_5945 v5558
  v5559.toNat
def k0_dev207 (d0 : Dev nD) : Nat :=
  let c0_i32_5965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_5949 : BitVec 32 := 21#32
  let v5567 : BitVec 32 := Scalar.addi v2 c21_i32_5949
  let c32_i32_5950 : BitVec 32 := 32#32
  let c0_i32_5951 : BitVec 32 := 0#32
  let v5568 : BitVec 1 := Scalar.cmpi .eq c32_i32_5950 c0_i32_5951
  let c1_i32_5952 : BitVec 32 := 1#32
  let v5569 : BitVec 32 := Scalar.select v5568 c1_i32_5952 c32_i32_5950
  let v5570 : BitVec 32 := Scalar.remsi v5567 v5569
  let c0_i32_5954 : BitVec 32 := 0#32
  let v5572 : BitVec 1 := Scalar.cmpi .slt v5570 c0_i32_5954
  let c0_i32_5955 : BitVec 32 := 0#32
  let v5573 : BitVec 1 := Scalar.cmpi .slt v5569 c0_i32_5955
  let v5574 : BitVec 1 := Scalar.xori v5572 v5573
  let c0_i32_5953 : BitVec 32 := 0#32
  let v5571 : BitVec 1 := Scalar.cmpi .ne v5570 c0_i32_5953
  let v5575 : BitVec 1 := Scalar.andi v5574 v5571
  let v5576 : BitVec 32 := Scalar.addi v5570 v5569
  let v5577 : BitVec 32 := Scalar.select v5575 v5576 v5570
  let c1_i32_5964 : BitVec 32 := 1#32
  let v5580 : BitVec 32 := Scalar.muli v5577 c1_i32_5964
  let v5581 : BitVec 32 := Scalar.addi c0_i32_5965 v5580
  v5581.toNat
def k0_dev208 (d0 : Dev nD) : Nat :=
  let c0_i32_5985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_5969 : BitVec 32 := 22#32
  let v5589 : BitVec 32 := Scalar.addi v2 c22_i32_5969
  let c32_i32_5970 : BitVec 32 := 32#32
  let c0_i32_5971 : BitVec 32 := 0#32
  let v5590 : BitVec 1 := Scalar.cmpi .eq c32_i32_5970 c0_i32_5971
  let c1_i32_5972 : BitVec 32 := 1#32
  let v5591 : BitVec 32 := Scalar.select v5590 c1_i32_5972 c32_i32_5970
  let v5592 : BitVec 32 := Scalar.remsi v5589 v5591
  let c0_i32_5974 : BitVec 32 := 0#32
  let v5594 : BitVec 1 := Scalar.cmpi .slt v5592 c0_i32_5974
  let c0_i32_5975 : BitVec 32 := 0#32
  let v5595 : BitVec 1 := Scalar.cmpi .slt v5591 c0_i32_5975
  let v5596 : BitVec 1 := Scalar.xori v5594 v5595
  let c0_i32_5973 : BitVec 32 := 0#32
  let v5593 : BitVec 1 := Scalar.cmpi .ne v5592 c0_i32_5973
  let v5597 : BitVec 1 := Scalar.andi v5596 v5593
  let v5598 : BitVec 32 := Scalar.addi v5592 v5591
  let v5599 : BitVec 32 := Scalar.select v5597 v5598 v5592
  let c1_i32_5984 : BitVec 32 := 1#32
  let v5602 : BitVec 32 := Scalar.muli v5599 c1_i32_5984
  let v5603 : BitVec 32 := Scalar.addi c0_i32_5985 v5602
  v5603.toNat
def k0_dev209 (d0 : Dev nD) : Nat :=
  let c0_i32_6005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_5989 : BitVec 32 := 23#32
  let v5611 : BitVec 32 := Scalar.addi v2 c23_i32_5989
  let c32_i32_5990 : BitVec 32 := 32#32
  let c0_i32_5991 : BitVec 32 := 0#32
  let v5612 : BitVec 1 := Scalar.cmpi .eq c32_i32_5990 c0_i32_5991
  let c1_i32_5992 : BitVec 32 := 1#32
  let v5613 : BitVec 32 := Scalar.select v5612 c1_i32_5992 c32_i32_5990
  let v5614 : BitVec 32 := Scalar.remsi v5611 v5613
  let c0_i32_5994 : BitVec 32 := 0#32
  let v5616 : BitVec 1 := Scalar.cmpi .slt v5614 c0_i32_5994
  let c0_i32_5995 : BitVec 32 := 0#32
  let v5617 : BitVec 1 := Scalar.cmpi .slt v5613 c0_i32_5995
  let v5618 : BitVec 1 := Scalar.xori v5616 v5617
  let c0_i32_5993 : BitVec 32 := 0#32
  let v5615 : BitVec 1 := Scalar.cmpi .ne v5614 c0_i32_5993
  let v5619 : BitVec 1 := Scalar.andi v5618 v5615
  let v5620 : BitVec 32 := Scalar.addi v5614 v5613
  let v5621 : BitVec 32 := Scalar.select v5619 v5620 v5614
  let c1_i32_6004 : BitVec 32 := 1#32
  let v5624 : BitVec 32 := Scalar.muli v5621 c1_i32_6004
  let v5625 : BitVec 32 := Scalar.addi c0_i32_6005 v5624
  v5625.toNat
def k0_dev210 (d0 : Dev nD) : Nat :=
  let c0_i32_6025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_6009 : BitVec 32 := 24#32
  let v5633 : BitVec 32 := Scalar.addi v2 c24_i32_6009
  let c32_i32_6010 : BitVec 32 := 32#32
  let c0_i32_6011 : BitVec 32 := 0#32
  let v5634 : BitVec 1 := Scalar.cmpi .eq c32_i32_6010 c0_i32_6011
  let c1_i32_6012 : BitVec 32 := 1#32
  let v5635 : BitVec 32 := Scalar.select v5634 c1_i32_6012 c32_i32_6010
  let v5636 : BitVec 32 := Scalar.remsi v5633 v5635
  let c0_i32_6014 : BitVec 32 := 0#32
  let v5638 : BitVec 1 := Scalar.cmpi .slt v5636 c0_i32_6014
  let c0_i32_6015 : BitVec 32 := 0#32
  let v5639 : BitVec 1 := Scalar.cmpi .slt v5635 c0_i32_6015
  let v5640 : BitVec 1 := Scalar.xori v5638 v5639
  let c0_i32_6013 : BitVec 32 := 0#32
  let v5637 : BitVec 1 := Scalar.cmpi .ne v5636 c0_i32_6013
  let v5641 : BitVec 1 := Scalar.andi v5640 v5637
  let v5642 : BitVec 32 := Scalar.addi v5636 v5635
  let v5643 : BitVec 32 := Scalar.select v5641 v5642 v5636
  let c1_i32_6024 : BitVec 32 := 1#32
  let v5646 : BitVec 32 := Scalar.muli v5643 c1_i32_6024
  let v5647 : BitVec 32 := Scalar.addi c0_i32_6025 v5646
  v5647.toNat
def k0_dev211 (d0 : Dev nD) : Nat :=
  let c0_i32_6045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_6029 : BitVec 32 := 25#32
  let v5655 : BitVec 32 := Scalar.addi v2 c25_i32_6029
  let c32_i32_6030 : BitVec 32 := 32#32
  let c0_i32_6031 : BitVec 32 := 0#32
  let v5656 : BitVec 1 := Scalar.cmpi .eq c32_i32_6030 c0_i32_6031
  let c1_i32_6032 : BitVec 32 := 1#32
  let v5657 : BitVec 32 := Scalar.select v5656 c1_i32_6032 c32_i32_6030
  let v5658 : BitVec 32 := Scalar.remsi v5655 v5657
  let c0_i32_6034 : BitVec 32 := 0#32
  let v5660 : BitVec 1 := Scalar.cmpi .slt v5658 c0_i32_6034
  let c0_i32_6035 : BitVec 32 := 0#32
  let v5661 : BitVec 1 := Scalar.cmpi .slt v5657 c0_i32_6035
  let v5662 : BitVec 1 := Scalar.xori v5660 v5661
  let c0_i32_6033 : BitVec 32 := 0#32
  let v5659 : BitVec 1 := Scalar.cmpi .ne v5658 c0_i32_6033
  let v5663 : BitVec 1 := Scalar.andi v5662 v5659
  let v5664 : BitVec 32 := Scalar.addi v5658 v5657
  let v5665 : BitVec 32 := Scalar.select v5663 v5664 v5658
  let c1_i32_6044 : BitVec 32 := 1#32
  let v5668 : BitVec 32 := Scalar.muli v5665 c1_i32_6044
  let v5669 : BitVec 32 := Scalar.addi c0_i32_6045 v5668
  v5669.toNat
def k0_dev212 (d0 : Dev nD) : Nat :=
  let c0_i32_6065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_6049 : BitVec 32 := 26#32
  let v5677 : BitVec 32 := Scalar.addi v2 c26_i32_6049
  let c32_i32_6050 : BitVec 32 := 32#32
  let c0_i32_6051 : BitVec 32 := 0#32
  let v5678 : BitVec 1 := Scalar.cmpi .eq c32_i32_6050 c0_i32_6051
  let c1_i32_6052 : BitVec 32 := 1#32
  let v5679 : BitVec 32 := Scalar.select v5678 c1_i32_6052 c32_i32_6050
  let v5680 : BitVec 32 := Scalar.remsi v5677 v5679
  let c0_i32_6054 : BitVec 32 := 0#32
  let v5682 : BitVec 1 := Scalar.cmpi .slt v5680 c0_i32_6054
  let c0_i32_6055 : BitVec 32 := 0#32
  let v5683 : BitVec 1 := Scalar.cmpi .slt v5679 c0_i32_6055
  let v5684 : BitVec 1 := Scalar.xori v5682 v5683
  let c0_i32_6053 : BitVec 32 := 0#32
  let v5681 : BitVec 1 := Scalar.cmpi .ne v5680 c0_i32_6053
  let v5685 : BitVec 1 := Scalar.andi v5684 v5681
  let v5686 : BitVec 32 := Scalar.addi v5680 v5679
  let v5687 : BitVec 32 := Scalar.select v5685 v5686 v5680
  let c1_i32_6064 : BitVec 32 := 1#32
  let v5690 : BitVec 32 := Scalar.muli v5687 c1_i32_6064
  let v5691 : BitVec 32 := Scalar.addi c0_i32_6065 v5690
  v5691.toNat
def k0_dev213 (d0 : Dev nD) : Nat :=
  let c0_i32_6085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_6069 : BitVec 32 := 27#32
  let v5699 : BitVec 32 := Scalar.addi v2 c27_i32_6069
  let c32_i32_6070 : BitVec 32 := 32#32
  let c0_i32_6071 : BitVec 32 := 0#32
  let v5700 : BitVec 1 := Scalar.cmpi .eq c32_i32_6070 c0_i32_6071
  let c1_i32_6072 : BitVec 32 := 1#32
  let v5701 : BitVec 32 := Scalar.select v5700 c1_i32_6072 c32_i32_6070
  let v5702 : BitVec 32 := Scalar.remsi v5699 v5701
  let c0_i32_6074 : BitVec 32 := 0#32
  let v5704 : BitVec 1 := Scalar.cmpi .slt v5702 c0_i32_6074
  let c0_i32_6075 : BitVec 32 := 0#32
  let v5705 : BitVec 1 := Scalar.cmpi .slt v5701 c0_i32_6075
  let v5706 : BitVec 1 := Scalar.xori v5704 v5705
  let c0_i32_6073 : BitVec 32 := 0#32
  let v5703 : BitVec 1 := Scalar.cmpi .ne v5702 c0_i32_6073
  let v5707 : BitVec 1 := Scalar.andi v5706 v5703
  let v5708 : BitVec 32 := Scalar.addi v5702 v5701
  let v5709 : BitVec 32 := Scalar.select v5707 v5708 v5702
  let c1_i32_6084 : BitVec 32 := 1#32
  let v5712 : BitVec 32 := Scalar.muli v5709 c1_i32_6084
  let v5713 : BitVec 32 := Scalar.addi c0_i32_6085 v5712
  v5713.toNat
def k0_dev214 (d0 : Dev nD) : Nat :=
  let c0_i32_6105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_6089 : BitVec 32 := 28#32
  let v5721 : BitVec 32 := Scalar.addi v2 c28_i32_6089
  let c32_i32_6090 : BitVec 32 := 32#32
  let c0_i32_6091 : BitVec 32 := 0#32
  let v5722 : BitVec 1 := Scalar.cmpi .eq c32_i32_6090 c0_i32_6091
  let c1_i32_6092 : BitVec 32 := 1#32
  let v5723 : BitVec 32 := Scalar.select v5722 c1_i32_6092 c32_i32_6090
  let v5724 : BitVec 32 := Scalar.remsi v5721 v5723
  let c0_i32_6094 : BitVec 32 := 0#32
  let v5726 : BitVec 1 := Scalar.cmpi .slt v5724 c0_i32_6094
  let c0_i32_6095 : BitVec 32 := 0#32
  let v5727 : BitVec 1 := Scalar.cmpi .slt v5723 c0_i32_6095
  let v5728 : BitVec 1 := Scalar.xori v5726 v5727
  let c0_i32_6093 : BitVec 32 := 0#32
  let v5725 : BitVec 1 := Scalar.cmpi .ne v5724 c0_i32_6093
  let v5729 : BitVec 1 := Scalar.andi v5728 v5725
  let v5730 : BitVec 32 := Scalar.addi v5724 v5723
  let v5731 : BitVec 32 := Scalar.select v5729 v5730 v5724
  let c1_i32_6104 : BitVec 32 := 1#32
  let v5734 : BitVec 32 := Scalar.muli v5731 c1_i32_6104
  let v5735 : BitVec 32 := Scalar.addi c0_i32_6105 v5734
  v5735.toNat
def k0_dev215 (d0 : Dev nD) : Nat :=
  let c0_i32_6125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_6109 : BitVec 32 := 29#32
  let v5743 : BitVec 32 := Scalar.addi v2 c29_i32_6109
  let c32_i32_6110 : BitVec 32 := 32#32
  let c0_i32_6111 : BitVec 32 := 0#32
  let v5744 : BitVec 1 := Scalar.cmpi .eq c32_i32_6110 c0_i32_6111
  let c1_i32_6112 : BitVec 32 := 1#32
  let v5745 : BitVec 32 := Scalar.select v5744 c1_i32_6112 c32_i32_6110
  let v5746 : BitVec 32 := Scalar.remsi v5743 v5745
  let c0_i32_6114 : BitVec 32 := 0#32
  let v5748 : BitVec 1 := Scalar.cmpi .slt v5746 c0_i32_6114
  let c0_i32_6115 : BitVec 32 := 0#32
  let v5749 : BitVec 1 := Scalar.cmpi .slt v5745 c0_i32_6115
  let v5750 : BitVec 1 := Scalar.xori v5748 v5749
  let c0_i32_6113 : BitVec 32 := 0#32
  let v5747 : BitVec 1 := Scalar.cmpi .ne v5746 c0_i32_6113
  let v5751 : BitVec 1 := Scalar.andi v5750 v5747
  let v5752 : BitVec 32 := Scalar.addi v5746 v5745
  let v5753 : BitVec 32 := Scalar.select v5751 v5752 v5746
  let c1_i32_6124 : BitVec 32 := 1#32
  let v5756 : BitVec 32 := Scalar.muli v5753 c1_i32_6124
  let v5757 : BitVec 32 := Scalar.addi c0_i32_6125 v5756
  v5757.toNat
def k0_dev216 (d0 : Dev nD) : Nat :=
  let c0_i32_6145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_6129 : BitVec 32 := 30#32
  let v5765 : BitVec 32 := Scalar.addi v2 c30_i32_6129
  let c32_i32_6130 : BitVec 32 := 32#32
  let c0_i32_6131 : BitVec 32 := 0#32
  let v5766 : BitVec 1 := Scalar.cmpi .eq c32_i32_6130 c0_i32_6131
  let c1_i32_6132 : BitVec 32 := 1#32
  let v5767 : BitVec 32 := Scalar.select v5766 c1_i32_6132 c32_i32_6130
  let v5768 : BitVec 32 := Scalar.remsi v5765 v5767
  let c0_i32_6134 : BitVec 32 := 0#32
  let v5770 : BitVec 1 := Scalar.cmpi .slt v5768 c0_i32_6134
  let c0_i32_6135 : BitVec 32 := 0#32
  let v5771 : BitVec 1 := Scalar.cmpi .slt v5767 c0_i32_6135
  let v5772 : BitVec 1 := Scalar.xori v5770 v5771
  let c0_i32_6133 : BitVec 32 := 0#32
  let v5769 : BitVec 1 := Scalar.cmpi .ne v5768 c0_i32_6133
  let v5773 : BitVec 1 := Scalar.andi v5772 v5769
  let v5774 : BitVec 32 := Scalar.addi v5768 v5767
  let v5775 : BitVec 32 := Scalar.select v5773 v5774 v5768
  let c1_i32_6144 : BitVec 32 := 1#32
  let v5778 : BitVec 32 := Scalar.muli v5775 c1_i32_6144
  let v5779 : BitVec 32 := Scalar.addi c0_i32_6145 v5778
  v5779.toNat
def k0_dev217 (d0 : Dev nD) : Nat :=
  let c0_i32_6165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_6149 : BitVec 32 := 31#32
  let v5787 : BitVec 32 := Scalar.addi v2 c31_i32_6149
  let c32_i32_6150 : BitVec 32 := 32#32
  let c0_i32_6151 : BitVec 32 := 0#32
  let v5788 : BitVec 1 := Scalar.cmpi .eq c32_i32_6150 c0_i32_6151
  let c1_i32_6152 : BitVec 32 := 1#32
  let v5789 : BitVec 32 := Scalar.select v5788 c1_i32_6152 c32_i32_6150
  let v5790 : BitVec 32 := Scalar.remsi v5787 v5789
  let c0_i32_6154 : BitVec 32 := 0#32
  let v5792 : BitVec 1 := Scalar.cmpi .slt v5790 c0_i32_6154
  let c0_i32_6155 : BitVec 32 := 0#32
  let v5793 : BitVec 1 := Scalar.cmpi .slt v5789 c0_i32_6155
  let v5794 : BitVec 1 := Scalar.xori v5792 v5793
  let c0_i32_6153 : BitVec 32 := 0#32
  let v5791 : BitVec 1 := Scalar.cmpi .ne v5790 c0_i32_6153
  let v5795 : BitVec 1 := Scalar.andi v5794 v5791
  let v5796 : BitVec 32 := Scalar.addi v5790 v5789
  let v5797 : BitVec 32 := Scalar.select v5795 v5796 v5790
  let c1_i32_6164 : BitVec 32 := 1#32
  let v5800 : BitVec 32 := Scalar.muli v5797 c1_i32_6164
  let v5801 : BitVec 32 := Scalar.addi c0_i32_6165 v5800
  v5801.toNat
def k0_dev218 (d0 : Dev nD) : Nat :=
  let c0_i32_6624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6612 : BitVec 32 := 1#32
  let v6068 : BitVec 32 := Scalar.addi v2 c1_i32_6612
  let c32_i32_6613 : BitVec 32 := 32#32
  let c0_i32_6614 : BitVec 32 := 0#32
  let v6069 : BitVec 1 := Scalar.cmpi .eq c32_i32_6613 c0_i32_6614
  let c1_i32_6615 : BitVec 32 := 1#32
  let v6070 : BitVec 32 := Scalar.select v6069 c1_i32_6615 c32_i32_6613
  let v6071 : BitVec 32 := Scalar.remsi v6068 v6070
  let c0_i32_6617 : BitVec 32 := 0#32
  let v6073 : BitVec 1 := Scalar.cmpi .slt v6071 c0_i32_6617
  let c0_i32_6618 : BitVec 32 := 0#32
  let v6074 : BitVec 1 := Scalar.cmpi .slt v6070 c0_i32_6618
  let v6075 : BitVec 1 := Scalar.xori v6073 v6074
  let c0_i32_6616 : BitVec 32 := 0#32
  let v6072 : BitVec 1 := Scalar.cmpi .ne v6071 c0_i32_6616
  let v6076 : BitVec 1 := Scalar.andi v6075 v6072
  let v6077 : BitVec 32 := Scalar.addi v6071 v6070
  let v6078 : BitVec 32 := Scalar.select v6076 v6077 v6071
  let c1_i32_6623 : BitVec 32 := 1#32
  let v6079 : BitVec 32 := Scalar.muli v6078 c1_i32_6623
  let v6080 : BitVec 32 := Scalar.addi c0_i32_6624 v6079
  v6080.toNat
def k0_dev219 (d0 : Dev nD) : Nat :=
  let c0_i32_6639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_6627 : BitVec 32 := 2#32
  let v6087 : BitVec 32 := Scalar.addi v2 c2_i32_6627
  let c32_i32_6628 : BitVec 32 := 32#32
  let c0_i32_6629 : BitVec 32 := 0#32
  let v6088 : BitVec 1 := Scalar.cmpi .eq c32_i32_6628 c0_i32_6629
  let c1_i32_6630 : BitVec 32 := 1#32
  let v6089 : BitVec 32 := Scalar.select v6088 c1_i32_6630 c32_i32_6628
  let v6090 : BitVec 32 := Scalar.remsi v6087 v6089
  let c0_i32_6632 : BitVec 32 := 0#32
  let v6092 : BitVec 1 := Scalar.cmpi .slt v6090 c0_i32_6632
  let c0_i32_6633 : BitVec 32 := 0#32
  let v6093 : BitVec 1 := Scalar.cmpi .slt v6089 c0_i32_6633
  let v6094 : BitVec 1 := Scalar.xori v6092 v6093
  let c0_i32_6631 : BitVec 32 := 0#32
  let v6091 : BitVec 1 := Scalar.cmpi .ne v6090 c0_i32_6631
  let v6095 : BitVec 1 := Scalar.andi v6094 v6091
  let v6096 : BitVec 32 := Scalar.addi v6090 v6089
  let v6097 : BitVec 32 := Scalar.select v6095 v6096 v6090
  let c1_i32_6638 : BitVec 32 := 1#32
  let v6098 : BitVec 32 := Scalar.muli v6097 c1_i32_6638
  let v6099 : BitVec 32 := Scalar.addi c0_i32_6639 v6098
  v6099.toNat
def k0_dev220 (d0 : Dev nD) : Nat :=
  let c0_i32_6654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_6642 : BitVec 32 := 3#32
  let v6106 : BitVec 32 := Scalar.addi v2 c3_i32_6642
  let c32_i32_6643 : BitVec 32 := 32#32
  let c0_i32_6644 : BitVec 32 := 0#32
  let v6107 : BitVec 1 := Scalar.cmpi .eq c32_i32_6643 c0_i32_6644
  let c1_i32_6645 : BitVec 32 := 1#32
  let v6108 : BitVec 32 := Scalar.select v6107 c1_i32_6645 c32_i32_6643
  let v6109 : BitVec 32 := Scalar.remsi v6106 v6108
  let c0_i32_6647 : BitVec 32 := 0#32
  let v6111 : BitVec 1 := Scalar.cmpi .slt v6109 c0_i32_6647
  let c0_i32_6648 : BitVec 32 := 0#32
  let v6112 : BitVec 1 := Scalar.cmpi .slt v6108 c0_i32_6648
  let v6113 : BitVec 1 := Scalar.xori v6111 v6112
  let c0_i32_6646 : BitVec 32 := 0#32
  let v6110 : BitVec 1 := Scalar.cmpi .ne v6109 c0_i32_6646
  let v6114 : BitVec 1 := Scalar.andi v6113 v6110
  let v6115 : BitVec 32 := Scalar.addi v6109 v6108
  let v6116 : BitVec 32 := Scalar.select v6114 v6115 v6109
  let c1_i32_6653 : BitVec 32 := 1#32
  let v6117 : BitVec 32 := Scalar.muli v6116 c1_i32_6653
  let v6118 : BitVec 32 := Scalar.addi c0_i32_6654 v6117
  v6118.toNat
def k0_dev221 (d0 : Dev nD) : Nat :=
  let c0_i32_6669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_6657 : BitVec 32 := 4#32
  let v6125 : BitVec 32 := Scalar.addi v2 c4_i32_6657
  let c32_i32_6658 : BitVec 32 := 32#32
  let c0_i32_6659 : BitVec 32 := 0#32
  let v6126 : BitVec 1 := Scalar.cmpi .eq c32_i32_6658 c0_i32_6659
  let c1_i32_6660 : BitVec 32 := 1#32
  let v6127 : BitVec 32 := Scalar.select v6126 c1_i32_6660 c32_i32_6658
  let v6128 : BitVec 32 := Scalar.remsi v6125 v6127
  let c0_i32_6662 : BitVec 32 := 0#32
  let v6130 : BitVec 1 := Scalar.cmpi .slt v6128 c0_i32_6662
  let c0_i32_6663 : BitVec 32 := 0#32
  let v6131 : BitVec 1 := Scalar.cmpi .slt v6127 c0_i32_6663
  let v6132 : BitVec 1 := Scalar.xori v6130 v6131
  let c0_i32_6661 : BitVec 32 := 0#32
  let v6129 : BitVec 1 := Scalar.cmpi .ne v6128 c0_i32_6661
  let v6133 : BitVec 1 := Scalar.andi v6132 v6129
  let v6134 : BitVec 32 := Scalar.addi v6128 v6127
  let v6135 : BitVec 32 := Scalar.select v6133 v6134 v6128
  let c1_i32_6668 : BitVec 32 := 1#32
  let v6136 : BitVec 32 := Scalar.muli v6135 c1_i32_6668
  let v6137 : BitVec 32 := Scalar.addi c0_i32_6669 v6136
  v6137.toNat
def k0_dev222 (d0 : Dev nD) : Nat :=
  let c0_i32_6684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_6672 : BitVec 32 := 5#32
  let v6144 : BitVec 32 := Scalar.addi v2 c5_i32_6672
  let c32_i32_6673 : BitVec 32 := 32#32
  let c0_i32_6674 : BitVec 32 := 0#32
  let v6145 : BitVec 1 := Scalar.cmpi .eq c32_i32_6673 c0_i32_6674
  let c1_i32_6675 : BitVec 32 := 1#32
  let v6146 : BitVec 32 := Scalar.select v6145 c1_i32_6675 c32_i32_6673
  let v6147 : BitVec 32 := Scalar.remsi v6144 v6146
  let c0_i32_6677 : BitVec 32 := 0#32
  let v6149 : BitVec 1 := Scalar.cmpi .slt v6147 c0_i32_6677
  let c0_i32_6678 : BitVec 32 := 0#32
  let v6150 : BitVec 1 := Scalar.cmpi .slt v6146 c0_i32_6678
  let v6151 : BitVec 1 := Scalar.xori v6149 v6150
  let c0_i32_6676 : BitVec 32 := 0#32
  let v6148 : BitVec 1 := Scalar.cmpi .ne v6147 c0_i32_6676
  let v6152 : BitVec 1 := Scalar.andi v6151 v6148
  let v6153 : BitVec 32 := Scalar.addi v6147 v6146
  let v6154 : BitVec 32 := Scalar.select v6152 v6153 v6147
  let c1_i32_6683 : BitVec 32 := 1#32
  let v6155 : BitVec 32 := Scalar.muli v6154 c1_i32_6683
  let v6156 : BitVec 32 := Scalar.addi c0_i32_6684 v6155
  v6156.toNat
def k0_dev223 (d0 : Dev nD) : Nat :=
  let c0_i32_6699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_6687 : BitVec 32 := 6#32
  let v6163 : BitVec 32 := Scalar.addi v2 c6_i32_6687
  let c32_i32_6688 : BitVec 32 := 32#32
  let c0_i32_6689 : BitVec 32 := 0#32
  let v6164 : BitVec 1 := Scalar.cmpi .eq c32_i32_6688 c0_i32_6689
  let c1_i32_6690 : BitVec 32 := 1#32
  let v6165 : BitVec 32 := Scalar.select v6164 c1_i32_6690 c32_i32_6688
  let v6166 : BitVec 32 := Scalar.remsi v6163 v6165
  let c0_i32_6692 : BitVec 32 := 0#32
  let v6168 : BitVec 1 := Scalar.cmpi .slt v6166 c0_i32_6692
  let c0_i32_6693 : BitVec 32 := 0#32
  let v6169 : BitVec 1 := Scalar.cmpi .slt v6165 c0_i32_6693
  let v6170 : BitVec 1 := Scalar.xori v6168 v6169
  let c0_i32_6691 : BitVec 32 := 0#32
  let v6167 : BitVec 1 := Scalar.cmpi .ne v6166 c0_i32_6691
  let v6171 : BitVec 1 := Scalar.andi v6170 v6167
  let v6172 : BitVec 32 := Scalar.addi v6166 v6165
  let v6173 : BitVec 32 := Scalar.select v6171 v6172 v6166
  let c1_i32_6698 : BitVec 32 := 1#32
  let v6174 : BitVec 32 := Scalar.muli v6173 c1_i32_6698
  let v6175 : BitVec 32 := Scalar.addi c0_i32_6699 v6174
  v6175.toNat
def k0_dev224 (d0 : Dev nD) : Nat :=
  let c0_i32_6714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_6702 : BitVec 32 := 7#32
  let v6182 : BitVec 32 := Scalar.addi v2 c7_i32_6702
  let c32_i32_6703 : BitVec 32 := 32#32
  let c0_i32_6704 : BitVec 32 := 0#32
  let v6183 : BitVec 1 := Scalar.cmpi .eq c32_i32_6703 c0_i32_6704
  let c1_i32_6705 : BitVec 32 := 1#32
  let v6184 : BitVec 32 := Scalar.select v6183 c1_i32_6705 c32_i32_6703
  let v6185 : BitVec 32 := Scalar.remsi v6182 v6184
  let c0_i32_6707 : BitVec 32 := 0#32
  let v6187 : BitVec 1 := Scalar.cmpi .slt v6185 c0_i32_6707
  let c0_i32_6708 : BitVec 32 := 0#32
  let v6188 : BitVec 1 := Scalar.cmpi .slt v6184 c0_i32_6708
  let v6189 : BitVec 1 := Scalar.xori v6187 v6188
  let c0_i32_6706 : BitVec 32 := 0#32
  let v6186 : BitVec 1 := Scalar.cmpi .ne v6185 c0_i32_6706
  let v6190 : BitVec 1 := Scalar.andi v6189 v6186
  let v6191 : BitVec 32 := Scalar.addi v6185 v6184
  let v6192 : BitVec 32 := Scalar.select v6190 v6191 v6185
  let c1_i32_6713 : BitVec 32 := 1#32
  let v6193 : BitVec 32 := Scalar.muli v6192 c1_i32_6713
  let v6194 : BitVec 32 := Scalar.addi c0_i32_6714 v6193
  v6194.toNat
def k0_dev225 (d0 : Dev nD) : Nat :=
  let c0_i32_6729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6717 : BitVec 32 := 8#32
  let v6201 : BitVec 32 := Scalar.addi v2 c8_i32_6717
  let c32_i32_6718 : BitVec 32 := 32#32
  let c0_i32_6719 : BitVec 32 := 0#32
  let v6202 : BitVec 1 := Scalar.cmpi .eq c32_i32_6718 c0_i32_6719
  let c1_i32_6720 : BitVec 32 := 1#32
  let v6203 : BitVec 32 := Scalar.select v6202 c1_i32_6720 c32_i32_6718
  let v6204 : BitVec 32 := Scalar.remsi v6201 v6203
  let c0_i32_6722 : BitVec 32 := 0#32
  let v6206 : BitVec 1 := Scalar.cmpi .slt v6204 c0_i32_6722
  let c0_i32_6723 : BitVec 32 := 0#32
  let v6207 : BitVec 1 := Scalar.cmpi .slt v6203 c0_i32_6723
  let v6208 : BitVec 1 := Scalar.xori v6206 v6207
  let c0_i32_6721 : BitVec 32 := 0#32
  let v6205 : BitVec 1 := Scalar.cmpi .ne v6204 c0_i32_6721
  let v6209 : BitVec 1 := Scalar.andi v6208 v6205
  let v6210 : BitVec 32 := Scalar.addi v6204 v6203
  let v6211 : BitVec 32 := Scalar.select v6209 v6210 v6204
  let c1_i32_6728 : BitVec 32 := 1#32
  let v6212 : BitVec 32 := Scalar.muli v6211 c1_i32_6728
  let v6213 : BitVec 32 := Scalar.addi c0_i32_6729 v6212
  v6213.toNat
def k0_dev226 (d0 : Dev nD) : Nat :=
  let c0_i32_6744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_6732 : BitVec 32 := 9#32
  let v6220 : BitVec 32 := Scalar.addi v2 c9_i32_6732
  let c32_i32_6733 : BitVec 32 := 32#32
  let c0_i32_6734 : BitVec 32 := 0#32
  let v6221 : BitVec 1 := Scalar.cmpi .eq c32_i32_6733 c0_i32_6734
  let c1_i32_6735 : BitVec 32 := 1#32
  let v6222 : BitVec 32 := Scalar.select v6221 c1_i32_6735 c32_i32_6733
  let v6223 : BitVec 32 := Scalar.remsi v6220 v6222
  let c0_i32_6737 : BitVec 32 := 0#32
  let v6225 : BitVec 1 := Scalar.cmpi .slt v6223 c0_i32_6737
  let c0_i32_6738 : BitVec 32 := 0#32
  let v6226 : BitVec 1 := Scalar.cmpi .slt v6222 c0_i32_6738
  let v6227 : BitVec 1 := Scalar.xori v6225 v6226
  let c0_i32_6736 : BitVec 32 := 0#32
  let v6224 : BitVec 1 := Scalar.cmpi .ne v6223 c0_i32_6736
  let v6228 : BitVec 1 := Scalar.andi v6227 v6224
  let v6229 : BitVec 32 := Scalar.addi v6223 v6222
  let v6230 : BitVec 32 := Scalar.select v6228 v6229 v6223
  let c1_i32_6743 : BitVec 32 := 1#32
  let v6231 : BitVec 32 := Scalar.muli v6230 c1_i32_6743
  let v6232 : BitVec 32 := Scalar.addi c0_i32_6744 v6231
  v6232.toNat
def k0_dev227 (d0 : Dev nD) : Nat :=
  let c0_i32_6759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_6747 : BitVec 32 := 10#32
  let v6239 : BitVec 32 := Scalar.addi v2 c10_i32_6747
  let c32_i32_6748 : BitVec 32 := 32#32
  let c0_i32_6749 : BitVec 32 := 0#32
  let v6240 : BitVec 1 := Scalar.cmpi .eq c32_i32_6748 c0_i32_6749
  let c1_i32_6750 : BitVec 32 := 1#32
  let v6241 : BitVec 32 := Scalar.select v6240 c1_i32_6750 c32_i32_6748
  let v6242 : BitVec 32 := Scalar.remsi v6239 v6241
  let c0_i32_6752 : BitVec 32 := 0#32
  let v6244 : BitVec 1 := Scalar.cmpi .slt v6242 c0_i32_6752
  let c0_i32_6753 : BitVec 32 := 0#32
  let v6245 : BitVec 1 := Scalar.cmpi .slt v6241 c0_i32_6753
  let v6246 : BitVec 1 := Scalar.xori v6244 v6245
  let c0_i32_6751 : BitVec 32 := 0#32
  let v6243 : BitVec 1 := Scalar.cmpi .ne v6242 c0_i32_6751
  let v6247 : BitVec 1 := Scalar.andi v6246 v6243
  let v6248 : BitVec 32 := Scalar.addi v6242 v6241
  let v6249 : BitVec 32 := Scalar.select v6247 v6248 v6242
  let c1_i32_6758 : BitVec 32 := 1#32
  let v6250 : BitVec 32 := Scalar.muli v6249 c1_i32_6758
  let v6251 : BitVec 32 := Scalar.addi c0_i32_6759 v6250
  v6251.toNat
def k0_dev228 (d0 : Dev nD) : Nat :=
  let c0_i32_6774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_6762 : BitVec 32 := 11#32
  let v6258 : BitVec 32 := Scalar.addi v2 c11_i32_6762
  let c32_i32_6763 : BitVec 32 := 32#32
  let c0_i32_6764 : BitVec 32 := 0#32
  let v6259 : BitVec 1 := Scalar.cmpi .eq c32_i32_6763 c0_i32_6764
  let c1_i32_6765 : BitVec 32 := 1#32
  let v6260 : BitVec 32 := Scalar.select v6259 c1_i32_6765 c32_i32_6763
  let v6261 : BitVec 32 := Scalar.remsi v6258 v6260
  let c0_i32_6767 : BitVec 32 := 0#32
  let v6263 : BitVec 1 := Scalar.cmpi .slt v6261 c0_i32_6767
  let c0_i32_6768 : BitVec 32 := 0#32
  let v6264 : BitVec 1 := Scalar.cmpi .slt v6260 c0_i32_6768
  let v6265 : BitVec 1 := Scalar.xori v6263 v6264
  let c0_i32_6766 : BitVec 32 := 0#32
  let v6262 : BitVec 1 := Scalar.cmpi .ne v6261 c0_i32_6766
  let v6266 : BitVec 1 := Scalar.andi v6265 v6262
  let v6267 : BitVec 32 := Scalar.addi v6261 v6260
  let v6268 : BitVec 32 := Scalar.select v6266 v6267 v6261
  let c1_i32_6773 : BitVec 32 := 1#32
  let v6269 : BitVec 32 := Scalar.muli v6268 c1_i32_6773
  let v6270 : BitVec 32 := Scalar.addi c0_i32_6774 v6269
  v6270.toNat
def k0_dev229 (d0 : Dev nD) : Nat :=
  let c0_i32_6789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_6777 : BitVec 32 := 12#32
  let v6277 : BitVec 32 := Scalar.addi v2 c12_i32_6777
  let c32_i32_6778 : BitVec 32 := 32#32
  let c0_i32_6779 : BitVec 32 := 0#32
  let v6278 : BitVec 1 := Scalar.cmpi .eq c32_i32_6778 c0_i32_6779
  let c1_i32_6780 : BitVec 32 := 1#32
  let v6279 : BitVec 32 := Scalar.select v6278 c1_i32_6780 c32_i32_6778
  let v6280 : BitVec 32 := Scalar.remsi v6277 v6279
  let c0_i32_6782 : BitVec 32 := 0#32
  let v6282 : BitVec 1 := Scalar.cmpi .slt v6280 c0_i32_6782
  let c0_i32_6783 : BitVec 32 := 0#32
  let v6283 : BitVec 1 := Scalar.cmpi .slt v6279 c0_i32_6783
  let v6284 : BitVec 1 := Scalar.xori v6282 v6283
  let c0_i32_6781 : BitVec 32 := 0#32
  let v6281 : BitVec 1 := Scalar.cmpi .ne v6280 c0_i32_6781
  let v6285 : BitVec 1 := Scalar.andi v6284 v6281
  let v6286 : BitVec 32 := Scalar.addi v6280 v6279
  let v6287 : BitVec 32 := Scalar.select v6285 v6286 v6280
  let c1_i32_6788 : BitVec 32 := 1#32
  let v6288 : BitVec 32 := Scalar.muli v6287 c1_i32_6788
  let v6289 : BitVec 32 := Scalar.addi c0_i32_6789 v6288
  v6289.toNat
def k0_dev230 (d0 : Dev nD) : Nat :=
  let c0_i32_6804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_6792 : BitVec 32 := 13#32
  let v6296 : BitVec 32 := Scalar.addi v2 c13_i32_6792
  let c32_i32_6793 : BitVec 32 := 32#32
  let c0_i32_6794 : BitVec 32 := 0#32
  let v6297 : BitVec 1 := Scalar.cmpi .eq c32_i32_6793 c0_i32_6794
  let c1_i32_6795 : BitVec 32 := 1#32
  let v6298 : BitVec 32 := Scalar.select v6297 c1_i32_6795 c32_i32_6793
  let v6299 : BitVec 32 := Scalar.remsi v6296 v6298
  let c0_i32_6797 : BitVec 32 := 0#32
  let v6301 : BitVec 1 := Scalar.cmpi .slt v6299 c0_i32_6797
  let c0_i32_6798 : BitVec 32 := 0#32
  let v6302 : BitVec 1 := Scalar.cmpi .slt v6298 c0_i32_6798
  let v6303 : BitVec 1 := Scalar.xori v6301 v6302
  let c0_i32_6796 : BitVec 32 := 0#32
  let v6300 : BitVec 1 := Scalar.cmpi .ne v6299 c0_i32_6796
  let v6304 : BitVec 1 := Scalar.andi v6303 v6300
  let v6305 : BitVec 32 := Scalar.addi v6299 v6298
  let v6306 : BitVec 32 := Scalar.select v6304 v6305 v6299
  let c1_i32_6803 : BitVec 32 := 1#32
  let v6307 : BitVec 32 := Scalar.muli v6306 c1_i32_6803
  let v6308 : BitVec 32 := Scalar.addi c0_i32_6804 v6307
  v6308.toNat
def k0_dev231 (d0 : Dev nD) : Nat :=
  let c0_i32_6819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_6807 : BitVec 32 := 14#32
  let v6315 : BitVec 32 := Scalar.addi v2 c14_i32_6807
  let c32_i32_6808 : BitVec 32 := 32#32
  let c0_i32_6809 : BitVec 32 := 0#32
  let v6316 : BitVec 1 := Scalar.cmpi .eq c32_i32_6808 c0_i32_6809
  let c1_i32_6810 : BitVec 32 := 1#32
  let v6317 : BitVec 32 := Scalar.select v6316 c1_i32_6810 c32_i32_6808
  let v6318 : BitVec 32 := Scalar.remsi v6315 v6317
  let c0_i32_6812 : BitVec 32 := 0#32
  let v6320 : BitVec 1 := Scalar.cmpi .slt v6318 c0_i32_6812
  let c0_i32_6813 : BitVec 32 := 0#32
  let v6321 : BitVec 1 := Scalar.cmpi .slt v6317 c0_i32_6813
  let v6322 : BitVec 1 := Scalar.xori v6320 v6321
  let c0_i32_6811 : BitVec 32 := 0#32
  let v6319 : BitVec 1 := Scalar.cmpi .ne v6318 c0_i32_6811
  let v6323 : BitVec 1 := Scalar.andi v6322 v6319
  let v6324 : BitVec 32 := Scalar.addi v6318 v6317
  let v6325 : BitVec 32 := Scalar.select v6323 v6324 v6318
  let c1_i32_6818 : BitVec 32 := 1#32
  let v6326 : BitVec 32 := Scalar.muli v6325 c1_i32_6818
  let v6327 : BitVec 32 := Scalar.addi c0_i32_6819 v6326
  v6327.toNat
def k0_dev232 (d0 : Dev nD) : Nat :=
  let c0_i32_6834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_6822 : BitVec 32 := 15#32
  let v6334 : BitVec 32 := Scalar.addi v2 c15_i32_6822
  let c32_i32_6823 : BitVec 32 := 32#32
  let c0_i32_6824 : BitVec 32 := 0#32
  let v6335 : BitVec 1 := Scalar.cmpi .eq c32_i32_6823 c0_i32_6824
  let c1_i32_6825 : BitVec 32 := 1#32
  let v6336 : BitVec 32 := Scalar.select v6335 c1_i32_6825 c32_i32_6823
  let v6337 : BitVec 32 := Scalar.remsi v6334 v6336
  let c0_i32_6827 : BitVec 32 := 0#32
  let v6339 : BitVec 1 := Scalar.cmpi .slt v6337 c0_i32_6827
  let c0_i32_6828 : BitVec 32 := 0#32
  let v6340 : BitVec 1 := Scalar.cmpi .slt v6336 c0_i32_6828
  let v6341 : BitVec 1 := Scalar.xori v6339 v6340
  let c0_i32_6826 : BitVec 32 := 0#32
  let v6338 : BitVec 1 := Scalar.cmpi .ne v6337 c0_i32_6826
  let v6342 : BitVec 1 := Scalar.andi v6341 v6338
  let v6343 : BitVec 32 := Scalar.addi v6337 v6336
  let v6344 : BitVec 32 := Scalar.select v6342 v6343 v6337
  let c1_i32_6833 : BitVec 32 := 1#32
  let v6345 : BitVec 32 := Scalar.muli v6344 c1_i32_6833
  let v6346 : BitVec 32 := Scalar.addi c0_i32_6834 v6345
  v6346.toNat
def k0_dev233 (d0 : Dev nD) : Nat :=
  let c0_i32_6849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_6837 : BitVec 32 := 16#32
  let v6353 : BitVec 32 := Scalar.addi v2 c16_i32_6837
  let c32_i32_6838 : BitVec 32 := 32#32
  let c0_i32_6839 : BitVec 32 := 0#32
  let v6354 : BitVec 1 := Scalar.cmpi .eq c32_i32_6838 c0_i32_6839
  let c1_i32_6840 : BitVec 32 := 1#32
  let v6355 : BitVec 32 := Scalar.select v6354 c1_i32_6840 c32_i32_6838
  let v6356 : BitVec 32 := Scalar.remsi v6353 v6355
  let c0_i32_6842 : BitVec 32 := 0#32
  let v6358 : BitVec 1 := Scalar.cmpi .slt v6356 c0_i32_6842
  let c0_i32_6843 : BitVec 32 := 0#32
  let v6359 : BitVec 1 := Scalar.cmpi .slt v6355 c0_i32_6843
  let v6360 : BitVec 1 := Scalar.xori v6358 v6359
  let c0_i32_6841 : BitVec 32 := 0#32
  let v6357 : BitVec 1 := Scalar.cmpi .ne v6356 c0_i32_6841
  let v6361 : BitVec 1 := Scalar.andi v6360 v6357
  let v6362 : BitVec 32 := Scalar.addi v6356 v6355
  let v6363 : BitVec 32 := Scalar.select v6361 v6362 v6356
  let c1_i32_6848 : BitVec 32 := 1#32
  let v6364 : BitVec 32 := Scalar.muli v6363 c1_i32_6848
  let v6365 : BitVec 32 := Scalar.addi c0_i32_6849 v6364
  v6365.toNat
def k0_dev234 (d0 : Dev nD) : Nat :=
  let c0_i32_6864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_6852 : BitVec 32 := 17#32
  let v6372 : BitVec 32 := Scalar.addi v2 c17_i32_6852
  let c32_i32_6853 : BitVec 32 := 32#32
  let c0_i32_6854 : BitVec 32 := 0#32
  let v6373 : BitVec 1 := Scalar.cmpi .eq c32_i32_6853 c0_i32_6854
  let c1_i32_6855 : BitVec 32 := 1#32
  let v6374 : BitVec 32 := Scalar.select v6373 c1_i32_6855 c32_i32_6853
  let v6375 : BitVec 32 := Scalar.remsi v6372 v6374
  let c0_i32_6857 : BitVec 32 := 0#32
  let v6377 : BitVec 1 := Scalar.cmpi .slt v6375 c0_i32_6857
  let c0_i32_6858 : BitVec 32 := 0#32
  let v6378 : BitVec 1 := Scalar.cmpi .slt v6374 c0_i32_6858
  let v6379 : BitVec 1 := Scalar.xori v6377 v6378
  let c0_i32_6856 : BitVec 32 := 0#32
  let v6376 : BitVec 1 := Scalar.cmpi .ne v6375 c0_i32_6856
  let v6380 : BitVec 1 := Scalar.andi v6379 v6376
  let v6381 : BitVec 32 := Scalar.addi v6375 v6374
  let v6382 : BitVec 32 := Scalar.select v6380 v6381 v6375
  let c1_i32_6863 : BitVec 32 := 1#32
  let v6383 : BitVec 32 := Scalar.muli v6382 c1_i32_6863
  let v6384 : BitVec 32 := Scalar.addi c0_i32_6864 v6383
  v6384.toNat
def k0_dev235 (d0 : Dev nD) : Nat :=
  let c0_i32_6879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_6867 : BitVec 32 := 18#32
  let v6391 : BitVec 32 := Scalar.addi v2 c18_i32_6867
  let c32_i32_6868 : BitVec 32 := 32#32
  let c0_i32_6869 : BitVec 32 := 0#32
  let v6392 : BitVec 1 := Scalar.cmpi .eq c32_i32_6868 c0_i32_6869
  let c1_i32_6870 : BitVec 32 := 1#32
  let v6393 : BitVec 32 := Scalar.select v6392 c1_i32_6870 c32_i32_6868
  let v6394 : BitVec 32 := Scalar.remsi v6391 v6393
  let c0_i32_6872 : BitVec 32 := 0#32
  let v6396 : BitVec 1 := Scalar.cmpi .slt v6394 c0_i32_6872
  let c0_i32_6873 : BitVec 32 := 0#32
  let v6397 : BitVec 1 := Scalar.cmpi .slt v6393 c0_i32_6873
  let v6398 : BitVec 1 := Scalar.xori v6396 v6397
  let c0_i32_6871 : BitVec 32 := 0#32
  let v6395 : BitVec 1 := Scalar.cmpi .ne v6394 c0_i32_6871
  let v6399 : BitVec 1 := Scalar.andi v6398 v6395
  let v6400 : BitVec 32 := Scalar.addi v6394 v6393
  let v6401 : BitVec 32 := Scalar.select v6399 v6400 v6394
  let c1_i32_6878 : BitVec 32 := 1#32
  let v6402 : BitVec 32 := Scalar.muli v6401 c1_i32_6878
  let v6403 : BitVec 32 := Scalar.addi c0_i32_6879 v6402
  v6403.toNat
def k0_dev236 (d0 : Dev nD) : Nat :=
  let c0_i32_6894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_6882 : BitVec 32 := 19#32
  let v6410 : BitVec 32 := Scalar.addi v2 c19_i32_6882
  let c32_i32_6883 : BitVec 32 := 32#32
  let c0_i32_6884 : BitVec 32 := 0#32
  let v6411 : BitVec 1 := Scalar.cmpi .eq c32_i32_6883 c0_i32_6884
  let c1_i32_6885 : BitVec 32 := 1#32
  let v6412 : BitVec 32 := Scalar.select v6411 c1_i32_6885 c32_i32_6883
  let v6413 : BitVec 32 := Scalar.remsi v6410 v6412
  let c0_i32_6887 : BitVec 32 := 0#32
  let v6415 : BitVec 1 := Scalar.cmpi .slt v6413 c0_i32_6887
  let c0_i32_6888 : BitVec 32 := 0#32
  let v6416 : BitVec 1 := Scalar.cmpi .slt v6412 c0_i32_6888
  let v6417 : BitVec 1 := Scalar.xori v6415 v6416
  let c0_i32_6886 : BitVec 32 := 0#32
  let v6414 : BitVec 1 := Scalar.cmpi .ne v6413 c0_i32_6886
  let v6418 : BitVec 1 := Scalar.andi v6417 v6414
  let v6419 : BitVec 32 := Scalar.addi v6413 v6412
  let v6420 : BitVec 32 := Scalar.select v6418 v6419 v6413
  let c1_i32_6893 : BitVec 32 := 1#32
  let v6421 : BitVec 32 := Scalar.muli v6420 c1_i32_6893
  let v6422 : BitVec 32 := Scalar.addi c0_i32_6894 v6421
  v6422.toNat
def k0_dev237 (d0 : Dev nD) : Nat :=
  let c0_i32_6909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_6897 : BitVec 32 := 20#32
  let v6429 : BitVec 32 := Scalar.addi v2 c20_i32_6897
  let c32_i32_6898 : BitVec 32 := 32#32
  let c0_i32_6899 : BitVec 32 := 0#32
  let v6430 : BitVec 1 := Scalar.cmpi .eq c32_i32_6898 c0_i32_6899
  let c1_i32_6900 : BitVec 32 := 1#32
  let v6431 : BitVec 32 := Scalar.select v6430 c1_i32_6900 c32_i32_6898
  let v6432 : BitVec 32 := Scalar.remsi v6429 v6431
  let c0_i32_6902 : BitVec 32 := 0#32
  let v6434 : BitVec 1 := Scalar.cmpi .slt v6432 c0_i32_6902
  let c0_i32_6903 : BitVec 32 := 0#32
  let v6435 : BitVec 1 := Scalar.cmpi .slt v6431 c0_i32_6903
  let v6436 : BitVec 1 := Scalar.xori v6434 v6435
  let c0_i32_6901 : BitVec 32 := 0#32
  let v6433 : BitVec 1 := Scalar.cmpi .ne v6432 c0_i32_6901
  let v6437 : BitVec 1 := Scalar.andi v6436 v6433
  let v6438 : BitVec 32 := Scalar.addi v6432 v6431
  let v6439 : BitVec 32 := Scalar.select v6437 v6438 v6432
  let c1_i32_6908 : BitVec 32 := 1#32
  let v6440 : BitVec 32 := Scalar.muli v6439 c1_i32_6908
  let v6441 : BitVec 32 := Scalar.addi c0_i32_6909 v6440
  v6441.toNat
def k0_dev238 (d0 : Dev nD) : Nat :=
  let c0_i32_6924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_6912 : BitVec 32 := 21#32
  let v6448 : BitVec 32 := Scalar.addi v2 c21_i32_6912
  let c32_i32_6913 : BitVec 32 := 32#32
  let c0_i32_6914 : BitVec 32 := 0#32
  let v6449 : BitVec 1 := Scalar.cmpi .eq c32_i32_6913 c0_i32_6914
  let c1_i32_6915 : BitVec 32 := 1#32
  let v6450 : BitVec 32 := Scalar.select v6449 c1_i32_6915 c32_i32_6913
  let v6451 : BitVec 32 := Scalar.remsi v6448 v6450
  let c0_i32_6917 : BitVec 32 := 0#32
  let v6453 : BitVec 1 := Scalar.cmpi .slt v6451 c0_i32_6917
  let c0_i32_6918 : BitVec 32 := 0#32
  let v6454 : BitVec 1 := Scalar.cmpi .slt v6450 c0_i32_6918
  let v6455 : BitVec 1 := Scalar.xori v6453 v6454
  let c0_i32_6916 : BitVec 32 := 0#32
  let v6452 : BitVec 1 := Scalar.cmpi .ne v6451 c0_i32_6916
  let v6456 : BitVec 1 := Scalar.andi v6455 v6452
  let v6457 : BitVec 32 := Scalar.addi v6451 v6450
  let v6458 : BitVec 32 := Scalar.select v6456 v6457 v6451
  let c1_i32_6923 : BitVec 32 := 1#32
  let v6459 : BitVec 32 := Scalar.muli v6458 c1_i32_6923
  let v6460 : BitVec 32 := Scalar.addi c0_i32_6924 v6459
  v6460.toNat
def k0_dev239 (d0 : Dev nD) : Nat :=
  let c0_i32_6939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_6927 : BitVec 32 := 22#32
  let v6467 : BitVec 32 := Scalar.addi v2 c22_i32_6927
  let c32_i32_6928 : BitVec 32 := 32#32
  let c0_i32_6929 : BitVec 32 := 0#32
  let v6468 : BitVec 1 := Scalar.cmpi .eq c32_i32_6928 c0_i32_6929
  let c1_i32_6930 : BitVec 32 := 1#32
  let v6469 : BitVec 32 := Scalar.select v6468 c1_i32_6930 c32_i32_6928
  let v6470 : BitVec 32 := Scalar.remsi v6467 v6469
  let c0_i32_6932 : BitVec 32 := 0#32
  let v6472 : BitVec 1 := Scalar.cmpi .slt v6470 c0_i32_6932
  let c0_i32_6933 : BitVec 32 := 0#32
  let v6473 : BitVec 1 := Scalar.cmpi .slt v6469 c0_i32_6933
  let v6474 : BitVec 1 := Scalar.xori v6472 v6473
  let c0_i32_6931 : BitVec 32 := 0#32
  let v6471 : BitVec 1 := Scalar.cmpi .ne v6470 c0_i32_6931
  let v6475 : BitVec 1 := Scalar.andi v6474 v6471
  let v6476 : BitVec 32 := Scalar.addi v6470 v6469
  let v6477 : BitVec 32 := Scalar.select v6475 v6476 v6470
  let c1_i32_6938 : BitVec 32 := 1#32
  let v6478 : BitVec 32 := Scalar.muli v6477 c1_i32_6938
  let v6479 : BitVec 32 := Scalar.addi c0_i32_6939 v6478
  v6479.toNat
def k0_dev240 (d0 : Dev nD) : Nat :=
  let c0_i32_6954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_6942 : BitVec 32 := 23#32
  let v6486 : BitVec 32 := Scalar.addi v2 c23_i32_6942
  let c32_i32_6943 : BitVec 32 := 32#32
  let c0_i32_6944 : BitVec 32 := 0#32
  let v6487 : BitVec 1 := Scalar.cmpi .eq c32_i32_6943 c0_i32_6944
  let c1_i32_6945 : BitVec 32 := 1#32
  let v6488 : BitVec 32 := Scalar.select v6487 c1_i32_6945 c32_i32_6943
  let v6489 : BitVec 32 := Scalar.remsi v6486 v6488
  let c0_i32_6947 : BitVec 32 := 0#32
  let v6491 : BitVec 1 := Scalar.cmpi .slt v6489 c0_i32_6947
  let c0_i32_6948 : BitVec 32 := 0#32
  let v6492 : BitVec 1 := Scalar.cmpi .slt v6488 c0_i32_6948
  let v6493 : BitVec 1 := Scalar.xori v6491 v6492
  let c0_i32_6946 : BitVec 32 := 0#32
  let v6490 : BitVec 1 := Scalar.cmpi .ne v6489 c0_i32_6946
  let v6494 : BitVec 1 := Scalar.andi v6493 v6490
  let v6495 : BitVec 32 := Scalar.addi v6489 v6488
  let v6496 : BitVec 32 := Scalar.select v6494 v6495 v6489
  let c1_i32_6953 : BitVec 32 := 1#32
  let v6497 : BitVec 32 := Scalar.muli v6496 c1_i32_6953
  let v6498 : BitVec 32 := Scalar.addi c0_i32_6954 v6497
  v6498.toNat
def k0_dev241 (d0 : Dev nD) : Nat :=
  let c0_i32_6969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_6957 : BitVec 32 := 24#32
  let v6505 : BitVec 32 := Scalar.addi v2 c24_i32_6957
  let c32_i32_6958 : BitVec 32 := 32#32
  let c0_i32_6959 : BitVec 32 := 0#32
  let v6506 : BitVec 1 := Scalar.cmpi .eq c32_i32_6958 c0_i32_6959
  let c1_i32_6960 : BitVec 32 := 1#32
  let v6507 : BitVec 32 := Scalar.select v6506 c1_i32_6960 c32_i32_6958
  let v6508 : BitVec 32 := Scalar.remsi v6505 v6507
  let c0_i32_6962 : BitVec 32 := 0#32
  let v6510 : BitVec 1 := Scalar.cmpi .slt v6508 c0_i32_6962
  let c0_i32_6963 : BitVec 32 := 0#32
  let v6511 : BitVec 1 := Scalar.cmpi .slt v6507 c0_i32_6963
  let v6512 : BitVec 1 := Scalar.xori v6510 v6511
  let c0_i32_6961 : BitVec 32 := 0#32
  let v6509 : BitVec 1 := Scalar.cmpi .ne v6508 c0_i32_6961
  let v6513 : BitVec 1 := Scalar.andi v6512 v6509
  let v6514 : BitVec 32 := Scalar.addi v6508 v6507
  let v6515 : BitVec 32 := Scalar.select v6513 v6514 v6508
  let c1_i32_6968 : BitVec 32 := 1#32
  let v6516 : BitVec 32 := Scalar.muli v6515 c1_i32_6968
  let v6517 : BitVec 32 := Scalar.addi c0_i32_6969 v6516
  v6517.toNat
def k0_dev242 (d0 : Dev nD) : Nat :=
  let c0_i32_6984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_6972 : BitVec 32 := 25#32
  let v6524 : BitVec 32 := Scalar.addi v2 c25_i32_6972
  let c32_i32_6973 : BitVec 32 := 32#32
  let c0_i32_6974 : BitVec 32 := 0#32
  let v6525 : BitVec 1 := Scalar.cmpi .eq c32_i32_6973 c0_i32_6974
  let c1_i32_6975 : BitVec 32 := 1#32
  let v6526 : BitVec 32 := Scalar.select v6525 c1_i32_6975 c32_i32_6973
  let v6527 : BitVec 32 := Scalar.remsi v6524 v6526
  let c0_i32_6977 : BitVec 32 := 0#32
  let v6529 : BitVec 1 := Scalar.cmpi .slt v6527 c0_i32_6977
  let c0_i32_6978 : BitVec 32 := 0#32
  let v6530 : BitVec 1 := Scalar.cmpi .slt v6526 c0_i32_6978
  let v6531 : BitVec 1 := Scalar.xori v6529 v6530
  let c0_i32_6976 : BitVec 32 := 0#32
  let v6528 : BitVec 1 := Scalar.cmpi .ne v6527 c0_i32_6976
  let v6532 : BitVec 1 := Scalar.andi v6531 v6528
  let v6533 : BitVec 32 := Scalar.addi v6527 v6526
  let v6534 : BitVec 32 := Scalar.select v6532 v6533 v6527
  let c1_i32_6983 : BitVec 32 := 1#32
  let v6535 : BitVec 32 := Scalar.muli v6534 c1_i32_6983
  let v6536 : BitVec 32 := Scalar.addi c0_i32_6984 v6535
  v6536.toNat
def k0_dev243 (d0 : Dev nD) : Nat :=
  let c0_i32_6999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_6987 : BitVec 32 := 26#32
  let v6543 : BitVec 32 := Scalar.addi v2 c26_i32_6987
  let c32_i32_6988 : BitVec 32 := 32#32
  let c0_i32_6989 : BitVec 32 := 0#32
  let v6544 : BitVec 1 := Scalar.cmpi .eq c32_i32_6988 c0_i32_6989
  let c1_i32_6990 : BitVec 32 := 1#32
  let v6545 : BitVec 32 := Scalar.select v6544 c1_i32_6990 c32_i32_6988
  let v6546 : BitVec 32 := Scalar.remsi v6543 v6545
  let c0_i32_6992 : BitVec 32 := 0#32
  let v6548 : BitVec 1 := Scalar.cmpi .slt v6546 c0_i32_6992
  let c0_i32_6993 : BitVec 32 := 0#32
  let v6549 : BitVec 1 := Scalar.cmpi .slt v6545 c0_i32_6993
  let v6550 : BitVec 1 := Scalar.xori v6548 v6549
  let c0_i32_6991 : BitVec 32 := 0#32
  let v6547 : BitVec 1 := Scalar.cmpi .ne v6546 c0_i32_6991
  let v6551 : BitVec 1 := Scalar.andi v6550 v6547
  let v6552 : BitVec 32 := Scalar.addi v6546 v6545
  let v6553 : BitVec 32 := Scalar.select v6551 v6552 v6546
  let c1_i32_6998 : BitVec 32 := 1#32
  let v6554 : BitVec 32 := Scalar.muli v6553 c1_i32_6998
  let v6555 : BitVec 32 := Scalar.addi c0_i32_6999 v6554
  v6555.toNat
def k0_dev244 (d0 : Dev nD) : Nat :=
  let c0_i32_7014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_7002 : BitVec 32 := 27#32
  let v6562 : BitVec 32 := Scalar.addi v2 c27_i32_7002
  let c32_i32_7003 : BitVec 32 := 32#32
  let c0_i32_7004 : BitVec 32 := 0#32
  let v6563 : BitVec 1 := Scalar.cmpi .eq c32_i32_7003 c0_i32_7004
  let c1_i32_7005 : BitVec 32 := 1#32
  let v6564 : BitVec 32 := Scalar.select v6563 c1_i32_7005 c32_i32_7003
  let v6565 : BitVec 32 := Scalar.remsi v6562 v6564
  let c0_i32_7007 : BitVec 32 := 0#32
  let v6567 : BitVec 1 := Scalar.cmpi .slt v6565 c0_i32_7007
  let c0_i32_7008 : BitVec 32 := 0#32
  let v6568 : BitVec 1 := Scalar.cmpi .slt v6564 c0_i32_7008
  let v6569 : BitVec 1 := Scalar.xori v6567 v6568
  let c0_i32_7006 : BitVec 32 := 0#32
  let v6566 : BitVec 1 := Scalar.cmpi .ne v6565 c0_i32_7006
  let v6570 : BitVec 1 := Scalar.andi v6569 v6566
  let v6571 : BitVec 32 := Scalar.addi v6565 v6564
  let v6572 : BitVec 32 := Scalar.select v6570 v6571 v6565
  let c1_i32_7013 : BitVec 32 := 1#32
  let v6573 : BitVec 32 := Scalar.muli v6572 c1_i32_7013
  let v6574 : BitVec 32 := Scalar.addi c0_i32_7014 v6573
  v6574.toNat
def k0_dev245 (d0 : Dev nD) : Nat :=
  let c0_i32_7029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_7017 : BitVec 32 := 28#32
  let v6581 : BitVec 32 := Scalar.addi v2 c28_i32_7017
  let c32_i32_7018 : BitVec 32 := 32#32
  let c0_i32_7019 : BitVec 32 := 0#32
  let v6582 : BitVec 1 := Scalar.cmpi .eq c32_i32_7018 c0_i32_7019
  let c1_i32_7020 : BitVec 32 := 1#32
  let v6583 : BitVec 32 := Scalar.select v6582 c1_i32_7020 c32_i32_7018
  let v6584 : BitVec 32 := Scalar.remsi v6581 v6583
  let c0_i32_7022 : BitVec 32 := 0#32
  let v6586 : BitVec 1 := Scalar.cmpi .slt v6584 c0_i32_7022
  let c0_i32_7023 : BitVec 32 := 0#32
  let v6587 : BitVec 1 := Scalar.cmpi .slt v6583 c0_i32_7023
  let v6588 : BitVec 1 := Scalar.xori v6586 v6587
  let c0_i32_7021 : BitVec 32 := 0#32
  let v6585 : BitVec 1 := Scalar.cmpi .ne v6584 c0_i32_7021
  let v6589 : BitVec 1 := Scalar.andi v6588 v6585
  let v6590 : BitVec 32 := Scalar.addi v6584 v6583
  let v6591 : BitVec 32 := Scalar.select v6589 v6590 v6584
  let c1_i32_7028 : BitVec 32 := 1#32
  let v6592 : BitVec 32 := Scalar.muli v6591 c1_i32_7028
  let v6593 : BitVec 32 := Scalar.addi c0_i32_7029 v6592
  v6593.toNat
def k0_dev246 (d0 : Dev nD) : Nat :=
  let c0_i32_7044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_7032 : BitVec 32 := 29#32
  let v6600 : BitVec 32 := Scalar.addi v2 c29_i32_7032
  let c32_i32_7033 : BitVec 32 := 32#32
  let c0_i32_7034 : BitVec 32 := 0#32
  let v6601 : BitVec 1 := Scalar.cmpi .eq c32_i32_7033 c0_i32_7034
  let c1_i32_7035 : BitVec 32 := 1#32
  let v6602 : BitVec 32 := Scalar.select v6601 c1_i32_7035 c32_i32_7033
  let v6603 : BitVec 32 := Scalar.remsi v6600 v6602
  let c0_i32_7037 : BitVec 32 := 0#32
  let v6605 : BitVec 1 := Scalar.cmpi .slt v6603 c0_i32_7037
  let c0_i32_7038 : BitVec 32 := 0#32
  let v6606 : BitVec 1 := Scalar.cmpi .slt v6602 c0_i32_7038
  let v6607 : BitVec 1 := Scalar.xori v6605 v6606
  let c0_i32_7036 : BitVec 32 := 0#32
  let v6604 : BitVec 1 := Scalar.cmpi .ne v6603 c0_i32_7036
  let v6608 : BitVec 1 := Scalar.andi v6607 v6604
  let v6609 : BitVec 32 := Scalar.addi v6603 v6602
  let v6610 : BitVec 32 := Scalar.select v6608 v6609 v6603
  let c1_i32_7043 : BitVec 32 := 1#32
  let v6611 : BitVec 32 := Scalar.muli v6610 c1_i32_7043
  let v6612 : BitVec 32 := Scalar.addi c0_i32_7044 v6611
  v6612.toNat
def k0_dev247 (d0 : Dev nD) : Nat :=
  let c0_i32_7059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_7047 : BitVec 32 := 30#32
  let v6619 : BitVec 32 := Scalar.addi v2 c30_i32_7047
  let c32_i32_7048 : BitVec 32 := 32#32
  let c0_i32_7049 : BitVec 32 := 0#32
  let v6620 : BitVec 1 := Scalar.cmpi .eq c32_i32_7048 c0_i32_7049
  let c1_i32_7050 : BitVec 32 := 1#32
  let v6621 : BitVec 32 := Scalar.select v6620 c1_i32_7050 c32_i32_7048
  let v6622 : BitVec 32 := Scalar.remsi v6619 v6621
  let c0_i32_7052 : BitVec 32 := 0#32
  let v6624 : BitVec 1 := Scalar.cmpi .slt v6622 c0_i32_7052
  let c0_i32_7053 : BitVec 32 := 0#32
  let v6625 : BitVec 1 := Scalar.cmpi .slt v6621 c0_i32_7053
  let v6626 : BitVec 1 := Scalar.xori v6624 v6625
  let c0_i32_7051 : BitVec 32 := 0#32
  let v6623 : BitVec 1 := Scalar.cmpi .ne v6622 c0_i32_7051
  let v6627 : BitVec 1 := Scalar.andi v6626 v6623
  let v6628 : BitVec 32 := Scalar.addi v6622 v6621
  let v6629 : BitVec 32 := Scalar.select v6627 v6628 v6622
  let c1_i32_7058 : BitVec 32 := 1#32
  let v6630 : BitVec 32 := Scalar.muli v6629 c1_i32_7058
  let v6631 : BitVec 32 := Scalar.addi c0_i32_7059 v6630
  v6631.toNat
def k0_dev248 (d0 : Dev nD) : Nat :=
  let c0_i32_7074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_7062 : BitVec 32 := 31#32
  let v6638 : BitVec 32 := Scalar.addi v2 c31_i32_7062
  let c32_i32_7063 : BitVec 32 := 32#32
  let c0_i32_7064 : BitVec 32 := 0#32
  let v6639 : BitVec 1 := Scalar.cmpi .eq c32_i32_7063 c0_i32_7064
  let c1_i32_7065 : BitVec 32 := 1#32
  let v6640 : BitVec 32 := Scalar.select v6639 c1_i32_7065 c32_i32_7063
  let v6641 : BitVec 32 := Scalar.remsi v6638 v6640
  let c0_i32_7067 : BitVec 32 := 0#32
  let v6643 : BitVec 1 := Scalar.cmpi .slt v6641 c0_i32_7067
  let c0_i32_7068 : BitVec 32 := 0#32
  let v6644 : BitVec 1 := Scalar.cmpi .slt v6640 c0_i32_7068
  let v6645 : BitVec 1 := Scalar.xori v6643 v6644
  let c0_i32_7066 : BitVec 32 := 0#32
  let v6642 : BitVec 1 := Scalar.cmpi .ne v6641 c0_i32_7066
  let v6646 : BitVec 1 := Scalar.andi v6645 v6642
  let v6647 : BitVec 32 := Scalar.addi v6641 v6640
  let v6648 : BitVec 32 := Scalar.select v6646 v6647 v6641
  let c1_i32_7073 : BitVec 32 := 1#32
  let v6649 : BitVec 32 := Scalar.muli v6648 c1_i32_7073
  let v6650 : BitVec 32 := Scalar.addi c0_i32_7074 v6649
  v6650.toNat
def k0_dev249 (d0 : Dev nD) : Nat :=
  let c0_i32_7532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7520 : BitVec 32 := 1#32
  let v6916 : BitVec 32 := Scalar.addi v2 c1_i32_7520
  let c32_i32_7521 : BitVec 32 := 32#32
  let c0_i32_7522 : BitVec 32 := 0#32
  let v6917 : BitVec 1 := Scalar.cmpi .eq c32_i32_7521 c0_i32_7522
  let c1_i32_7523 : BitVec 32 := 1#32
  let v6918 : BitVec 32 := Scalar.select v6917 c1_i32_7523 c32_i32_7521
  let v6919 : BitVec 32 := Scalar.remsi v6916 v6918
  let c0_i32_7525 : BitVec 32 := 0#32
  let v6921 : BitVec 1 := Scalar.cmpi .slt v6919 c0_i32_7525
  let c0_i32_7526 : BitVec 32 := 0#32
  let v6922 : BitVec 1 := Scalar.cmpi .slt v6918 c0_i32_7526
  let v6923 : BitVec 1 := Scalar.xori v6921 v6922
  let c0_i32_7524 : BitVec 32 := 0#32
  let v6920 : BitVec 1 := Scalar.cmpi .ne v6919 c0_i32_7524
  let v6924 : BitVec 1 := Scalar.andi v6923 v6920
  let v6925 : BitVec 32 := Scalar.addi v6919 v6918
  let v6926 : BitVec 32 := Scalar.select v6924 v6925 v6919
  let c1_i32_7531 : BitVec 32 := 1#32
  let v6927 : BitVec 32 := Scalar.muli v6926 c1_i32_7531
  let v6928 : BitVec 32 := Scalar.addi c0_i32_7532 v6927
  v6928.toNat
def k0_dev250 (d0 : Dev nD) : Nat :=
  let c0_i32_7547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7535 : BitVec 32 := 2#32
  let v6935 : BitVec 32 := Scalar.addi v2 c2_i32_7535
  let c32_i32_7536 : BitVec 32 := 32#32
  let c0_i32_7537 : BitVec 32 := 0#32
  let v6936 : BitVec 1 := Scalar.cmpi .eq c32_i32_7536 c0_i32_7537
  let c1_i32_7538 : BitVec 32 := 1#32
  let v6937 : BitVec 32 := Scalar.select v6936 c1_i32_7538 c32_i32_7536
  let v6938 : BitVec 32 := Scalar.remsi v6935 v6937
  let c0_i32_7540 : BitVec 32 := 0#32
  let v6940 : BitVec 1 := Scalar.cmpi .slt v6938 c0_i32_7540
  let c0_i32_7541 : BitVec 32 := 0#32
  let v6941 : BitVec 1 := Scalar.cmpi .slt v6937 c0_i32_7541
  let v6942 : BitVec 1 := Scalar.xori v6940 v6941
  let c0_i32_7539 : BitVec 32 := 0#32
  let v6939 : BitVec 1 := Scalar.cmpi .ne v6938 c0_i32_7539
  let v6943 : BitVec 1 := Scalar.andi v6942 v6939
  let v6944 : BitVec 32 := Scalar.addi v6938 v6937
  let v6945 : BitVec 32 := Scalar.select v6943 v6944 v6938
  let c1_i32_7546 : BitVec 32 := 1#32
  let v6946 : BitVec 32 := Scalar.muli v6945 c1_i32_7546
  let v6947 : BitVec 32 := Scalar.addi c0_i32_7547 v6946
  v6947.toNat
def k0_dev251 (d0 : Dev nD) : Nat :=
  let c0_i32_7562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_7550 : BitVec 32 := 3#32
  let v6954 : BitVec 32 := Scalar.addi v2 c3_i32_7550
  let c32_i32_7551 : BitVec 32 := 32#32
  let c0_i32_7552 : BitVec 32 := 0#32
  let v6955 : BitVec 1 := Scalar.cmpi .eq c32_i32_7551 c0_i32_7552
  let c1_i32_7553 : BitVec 32 := 1#32
  let v6956 : BitVec 32 := Scalar.select v6955 c1_i32_7553 c32_i32_7551
  let v6957 : BitVec 32 := Scalar.remsi v6954 v6956
  let c0_i32_7555 : BitVec 32 := 0#32
  let v6959 : BitVec 1 := Scalar.cmpi .slt v6957 c0_i32_7555
  let c0_i32_7556 : BitVec 32 := 0#32
  let v6960 : BitVec 1 := Scalar.cmpi .slt v6956 c0_i32_7556
  let v6961 : BitVec 1 := Scalar.xori v6959 v6960
  let c0_i32_7554 : BitVec 32 := 0#32
  let v6958 : BitVec 1 := Scalar.cmpi .ne v6957 c0_i32_7554
  let v6962 : BitVec 1 := Scalar.andi v6961 v6958
  let v6963 : BitVec 32 := Scalar.addi v6957 v6956
  let v6964 : BitVec 32 := Scalar.select v6962 v6963 v6957
  let c1_i32_7561 : BitVec 32 := 1#32
  let v6965 : BitVec 32 := Scalar.muli v6964 c1_i32_7561
  let v6966 : BitVec 32 := Scalar.addi c0_i32_7562 v6965
  v6966.toNat
def k0_dev252 (d0 : Dev nD) : Nat :=
  let c0_i32_7577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7565 : BitVec 32 := 4#32
  let v6973 : BitVec 32 := Scalar.addi v2 c4_i32_7565
  let c32_i32_7566 : BitVec 32 := 32#32
  let c0_i32_7567 : BitVec 32 := 0#32
  let v6974 : BitVec 1 := Scalar.cmpi .eq c32_i32_7566 c0_i32_7567
  let c1_i32_7568 : BitVec 32 := 1#32
  let v6975 : BitVec 32 := Scalar.select v6974 c1_i32_7568 c32_i32_7566
  let v6976 : BitVec 32 := Scalar.remsi v6973 v6975
  let c0_i32_7570 : BitVec 32 := 0#32
  let v6978 : BitVec 1 := Scalar.cmpi .slt v6976 c0_i32_7570
  let c0_i32_7571 : BitVec 32 := 0#32
  let v6979 : BitVec 1 := Scalar.cmpi .slt v6975 c0_i32_7571
  let v6980 : BitVec 1 := Scalar.xori v6978 v6979
  let c0_i32_7569 : BitVec 32 := 0#32
  let v6977 : BitVec 1 := Scalar.cmpi .ne v6976 c0_i32_7569
  let v6981 : BitVec 1 := Scalar.andi v6980 v6977
  let v6982 : BitVec 32 := Scalar.addi v6976 v6975
  let v6983 : BitVec 32 := Scalar.select v6981 v6982 v6976
  let c1_i32_7576 : BitVec 32 := 1#32
  let v6984 : BitVec 32 := Scalar.muli v6983 c1_i32_7576
  let v6985 : BitVec 32 := Scalar.addi c0_i32_7577 v6984
  v6985.toNat
def k0_dev253 (d0 : Dev nD) : Nat :=
  let c0_i32_7592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_7580 : BitVec 32 := 5#32
  let v6992 : BitVec 32 := Scalar.addi v2 c5_i32_7580
  let c32_i32_7581 : BitVec 32 := 32#32
  let c0_i32_7582 : BitVec 32 := 0#32
  let v6993 : BitVec 1 := Scalar.cmpi .eq c32_i32_7581 c0_i32_7582
  let c1_i32_7583 : BitVec 32 := 1#32
  let v6994 : BitVec 32 := Scalar.select v6993 c1_i32_7583 c32_i32_7581
  let v6995 : BitVec 32 := Scalar.remsi v6992 v6994
  let c0_i32_7585 : BitVec 32 := 0#32
  let v6997 : BitVec 1 := Scalar.cmpi .slt v6995 c0_i32_7585
  let c0_i32_7586 : BitVec 32 := 0#32
  let v6998 : BitVec 1 := Scalar.cmpi .slt v6994 c0_i32_7586
  let v6999 : BitVec 1 := Scalar.xori v6997 v6998
  let c0_i32_7584 : BitVec 32 := 0#32
  let v6996 : BitVec 1 := Scalar.cmpi .ne v6995 c0_i32_7584
  let v7000 : BitVec 1 := Scalar.andi v6999 v6996
  let v7001 : BitVec 32 := Scalar.addi v6995 v6994
  let v7002 : BitVec 32 := Scalar.select v7000 v7001 v6995
  let c1_i32_7591 : BitVec 32 := 1#32
  let v7003 : BitVec 32 := Scalar.muli v7002 c1_i32_7591
  let v7004 : BitVec 32 := Scalar.addi c0_i32_7592 v7003
  v7004.toNat
def k0_dev254 (d0 : Dev nD) : Nat :=
  let c0_i32_7607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_7595 : BitVec 32 := 6#32
  let v7011 : BitVec 32 := Scalar.addi v2 c6_i32_7595
  let c32_i32_7596 : BitVec 32 := 32#32
  let c0_i32_7597 : BitVec 32 := 0#32
  let v7012 : BitVec 1 := Scalar.cmpi .eq c32_i32_7596 c0_i32_7597
  let c1_i32_7598 : BitVec 32 := 1#32
  let v7013 : BitVec 32 := Scalar.select v7012 c1_i32_7598 c32_i32_7596
  let v7014 : BitVec 32 := Scalar.remsi v7011 v7013
  let c0_i32_7600 : BitVec 32 := 0#32
  let v7016 : BitVec 1 := Scalar.cmpi .slt v7014 c0_i32_7600
  let c0_i32_7601 : BitVec 32 := 0#32
  let v7017 : BitVec 1 := Scalar.cmpi .slt v7013 c0_i32_7601
  let v7018 : BitVec 1 := Scalar.xori v7016 v7017
  let c0_i32_7599 : BitVec 32 := 0#32
  let v7015 : BitVec 1 := Scalar.cmpi .ne v7014 c0_i32_7599
  let v7019 : BitVec 1 := Scalar.andi v7018 v7015
  let v7020 : BitVec 32 := Scalar.addi v7014 v7013
  let v7021 : BitVec 32 := Scalar.select v7019 v7020 v7014
  let c1_i32_7606 : BitVec 32 := 1#32
  let v7022 : BitVec 32 := Scalar.muli v7021 c1_i32_7606
  let v7023 : BitVec 32 := Scalar.addi c0_i32_7607 v7022
  v7023.toNat
def k0_dev255 (d0 : Dev nD) : Nat :=
  let c0_i32_7622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_7610 : BitVec 32 := 7#32
  let v7030 : BitVec 32 := Scalar.addi v2 c7_i32_7610
  let c32_i32_7611 : BitVec 32 := 32#32
  let c0_i32_7612 : BitVec 32 := 0#32
  let v7031 : BitVec 1 := Scalar.cmpi .eq c32_i32_7611 c0_i32_7612
  let c1_i32_7613 : BitVec 32 := 1#32
  let v7032 : BitVec 32 := Scalar.select v7031 c1_i32_7613 c32_i32_7611
  let v7033 : BitVec 32 := Scalar.remsi v7030 v7032
  let c0_i32_7615 : BitVec 32 := 0#32
  let v7035 : BitVec 1 := Scalar.cmpi .slt v7033 c0_i32_7615
  let c0_i32_7616 : BitVec 32 := 0#32
  let v7036 : BitVec 1 := Scalar.cmpi .slt v7032 c0_i32_7616
  let v7037 : BitVec 1 := Scalar.xori v7035 v7036
  let c0_i32_7614 : BitVec 32 := 0#32
  let v7034 : BitVec 1 := Scalar.cmpi .ne v7033 c0_i32_7614
  let v7038 : BitVec 1 := Scalar.andi v7037 v7034
  let v7039 : BitVec 32 := Scalar.addi v7033 v7032
  let v7040 : BitVec 32 := Scalar.select v7038 v7039 v7033
  let c1_i32_7621 : BitVec 32 := 1#32
  let v7041 : BitVec 32 := Scalar.muli v7040 c1_i32_7621
  let v7042 : BitVec 32 := Scalar.addi c0_i32_7622 v7041
  v7042.toNat
def k0_dev256 (d0 : Dev nD) : Nat :=
  let c0_i32_7637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_7625 : BitVec 32 := 8#32
  let v7049 : BitVec 32 := Scalar.addi v2 c8_i32_7625
  let c32_i32_7626 : BitVec 32 := 32#32
  let c0_i32_7627 : BitVec 32 := 0#32
  let v7050 : BitVec 1 := Scalar.cmpi .eq c32_i32_7626 c0_i32_7627
  let c1_i32_7628 : BitVec 32 := 1#32
  let v7051 : BitVec 32 := Scalar.select v7050 c1_i32_7628 c32_i32_7626
  let v7052 : BitVec 32 := Scalar.remsi v7049 v7051
  let c0_i32_7630 : BitVec 32 := 0#32
  let v7054 : BitVec 1 := Scalar.cmpi .slt v7052 c0_i32_7630
  let c0_i32_7631 : BitVec 32 := 0#32
  let v7055 : BitVec 1 := Scalar.cmpi .slt v7051 c0_i32_7631
  let v7056 : BitVec 1 := Scalar.xori v7054 v7055
  let c0_i32_7629 : BitVec 32 := 0#32
  let v7053 : BitVec 1 := Scalar.cmpi .ne v7052 c0_i32_7629
  let v7057 : BitVec 1 := Scalar.andi v7056 v7053
  let v7058 : BitVec 32 := Scalar.addi v7052 v7051
  let v7059 : BitVec 32 := Scalar.select v7057 v7058 v7052
  let c1_i32_7636 : BitVec 32 := 1#32
  let v7060 : BitVec 32 := Scalar.muli v7059 c1_i32_7636
  let v7061 : BitVec 32 := Scalar.addi c0_i32_7637 v7060
  v7061.toNat
def k0_dev257 (d0 : Dev nD) : Nat :=
  let c0_i32_7652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_7640 : BitVec 32 := 9#32
  let v7068 : BitVec 32 := Scalar.addi v2 c9_i32_7640
  let c32_i32_7641 : BitVec 32 := 32#32
  let c0_i32_7642 : BitVec 32 := 0#32
  let v7069 : BitVec 1 := Scalar.cmpi .eq c32_i32_7641 c0_i32_7642
  let c1_i32_7643 : BitVec 32 := 1#32
  let v7070 : BitVec 32 := Scalar.select v7069 c1_i32_7643 c32_i32_7641
  let v7071 : BitVec 32 := Scalar.remsi v7068 v7070
  let c0_i32_7645 : BitVec 32 := 0#32
  let v7073 : BitVec 1 := Scalar.cmpi .slt v7071 c0_i32_7645
  let c0_i32_7646 : BitVec 32 := 0#32
  let v7074 : BitVec 1 := Scalar.cmpi .slt v7070 c0_i32_7646
  let v7075 : BitVec 1 := Scalar.xori v7073 v7074
  let c0_i32_7644 : BitVec 32 := 0#32
  let v7072 : BitVec 1 := Scalar.cmpi .ne v7071 c0_i32_7644
  let v7076 : BitVec 1 := Scalar.andi v7075 v7072
  let v7077 : BitVec 32 := Scalar.addi v7071 v7070
  let v7078 : BitVec 32 := Scalar.select v7076 v7077 v7071
  let c1_i32_7651 : BitVec 32 := 1#32
  let v7079 : BitVec 32 := Scalar.muli v7078 c1_i32_7651
  let v7080 : BitVec 32 := Scalar.addi c0_i32_7652 v7079
  v7080.toNat
def k0_dev258 (d0 : Dev nD) : Nat :=
  let c0_i32_7667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_7655 : BitVec 32 := 10#32
  let v7087 : BitVec 32 := Scalar.addi v2 c10_i32_7655
  let c32_i32_7656 : BitVec 32 := 32#32
  let c0_i32_7657 : BitVec 32 := 0#32
  let v7088 : BitVec 1 := Scalar.cmpi .eq c32_i32_7656 c0_i32_7657
  let c1_i32_7658 : BitVec 32 := 1#32
  let v7089 : BitVec 32 := Scalar.select v7088 c1_i32_7658 c32_i32_7656
  let v7090 : BitVec 32 := Scalar.remsi v7087 v7089
  let c0_i32_7660 : BitVec 32 := 0#32
  let v7092 : BitVec 1 := Scalar.cmpi .slt v7090 c0_i32_7660
  let c0_i32_7661 : BitVec 32 := 0#32
  let v7093 : BitVec 1 := Scalar.cmpi .slt v7089 c0_i32_7661
  let v7094 : BitVec 1 := Scalar.xori v7092 v7093
  let c0_i32_7659 : BitVec 32 := 0#32
  let v7091 : BitVec 1 := Scalar.cmpi .ne v7090 c0_i32_7659
  let v7095 : BitVec 1 := Scalar.andi v7094 v7091
  let v7096 : BitVec 32 := Scalar.addi v7090 v7089
  let v7097 : BitVec 32 := Scalar.select v7095 v7096 v7090
  let c1_i32_7666 : BitVec 32 := 1#32
  let v7098 : BitVec 32 := Scalar.muli v7097 c1_i32_7666
  let v7099 : BitVec 32 := Scalar.addi c0_i32_7667 v7098
  v7099.toNat
def k0_dev259 (d0 : Dev nD) : Nat :=
  let c0_i32_7682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_7670 : BitVec 32 := 11#32
  let v7106 : BitVec 32 := Scalar.addi v2 c11_i32_7670
  let c32_i32_7671 : BitVec 32 := 32#32
  let c0_i32_7672 : BitVec 32 := 0#32
  let v7107 : BitVec 1 := Scalar.cmpi .eq c32_i32_7671 c0_i32_7672
  let c1_i32_7673 : BitVec 32 := 1#32
  let v7108 : BitVec 32 := Scalar.select v7107 c1_i32_7673 c32_i32_7671
  let v7109 : BitVec 32 := Scalar.remsi v7106 v7108
  let c0_i32_7675 : BitVec 32 := 0#32
  let v7111 : BitVec 1 := Scalar.cmpi .slt v7109 c0_i32_7675
  let c0_i32_7676 : BitVec 32 := 0#32
  let v7112 : BitVec 1 := Scalar.cmpi .slt v7108 c0_i32_7676
  let v7113 : BitVec 1 := Scalar.xori v7111 v7112
  let c0_i32_7674 : BitVec 32 := 0#32
  let v7110 : BitVec 1 := Scalar.cmpi .ne v7109 c0_i32_7674
  let v7114 : BitVec 1 := Scalar.andi v7113 v7110
  let v7115 : BitVec 32 := Scalar.addi v7109 v7108
  let v7116 : BitVec 32 := Scalar.select v7114 v7115 v7109
  let c1_i32_7681 : BitVec 32 := 1#32
  let v7117 : BitVec 32 := Scalar.muli v7116 c1_i32_7681
  let v7118 : BitVec 32 := Scalar.addi c0_i32_7682 v7117
  v7118.toNat
def k0_dev260 (d0 : Dev nD) : Nat :=
  let c0_i32_7697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_7685 : BitVec 32 := 12#32
  let v7125 : BitVec 32 := Scalar.addi v2 c12_i32_7685
  let c32_i32_7686 : BitVec 32 := 32#32
  let c0_i32_7687 : BitVec 32 := 0#32
  let v7126 : BitVec 1 := Scalar.cmpi .eq c32_i32_7686 c0_i32_7687
  let c1_i32_7688 : BitVec 32 := 1#32
  let v7127 : BitVec 32 := Scalar.select v7126 c1_i32_7688 c32_i32_7686
  let v7128 : BitVec 32 := Scalar.remsi v7125 v7127
  let c0_i32_7690 : BitVec 32 := 0#32
  let v7130 : BitVec 1 := Scalar.cmpi .slt v7128 c0_i32_7690
  let c0_i32_7691 : BitVec 32 := 0#32
  let v7131 : BitVec 1 := Scalar.cmpi .slt v7127 c0_i32_7691
  let v7132 : BitVec 1 := Scalar.xori v7130 v7131
  let c0_i32_7689 : BitVec 32 := 0#32
  let v7129 : BitVec 1 := Scalar.cmpi .ne v7128 c0_i32_7689
  let v7133 : BitVec 1 := Scalar.andi v7132 v7129
  let v7134 : BitVec 32 := Scalar.addi v7128 v7127
  let v7135 : BitVec 32 := Scalar.select v7133 v7134 v7128
  let c1_i32_7696 : BitVec 32 := 1#32
  let v7136 : BitVec 32 := Scalar.muli v7135 c1_i32_7696
  let v7137 : BitVec 32 := Scalar.addi c0_i32_7697 v7136
  v7137.toNat
def k0_dev261 (d0 : Dev nD) : Nat :=
  let c0_i32_7712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_7700 : BitVec 32 := 13#32
  let v7144 : BitVec 32 := Scalar.addi v2 c13_i32_7700
  let c32_i32_7701 : BitVec 32 := 32#32
  let c0_i32_7702 : BitVec 32 := 0#32
  let v7145 : BitVec 1 := Scalar.cmpi .eq c32_i32_7701 c0_i32_7702
  let c1_i32_7703 : BitVec 32 := 1#32
  let v7146 : BitVec 32 := Scalar.select v7145 c1_i32_7703 c32_i32_7701
  let v7147 : BitVec 32 := Scalar.remsi v7144 v7146
  let c0_i32_7705 : BitVec 32 := 0#32
  let v7149 : BitVec 1 := Scalar.cmpi .slt v7147 c0_i32_7705
  let c0_i32_7706 : BitVec 32 := 0#32
  let v7150 : BitVec 1 := Scalar.cmpi .slt v7146 c0_i32_7706
  let v7151 : BitVec 1 := Scalar.xori v7149 v7150
  let c0_i32_7704 : BitVec 32 := 0#32
  let v7148 : BitVec 1 := Scalar.cmpi .ne v7147 c0_i32_7704
  let v7152 : BitVec 1 := Scalar.andi v7151 v7148
  let v7153 : BitVec 32 := Scalar.addi v7147 v7146
  let v7154 : BitVec 32 := Scalar.select v7152 v7153 v7147
  let c1_i32_7711 : BitVec 32 := 1#32
  let v7155 : BitVec 32 := Scalar.muli v7154 c1_i32_7711
  let v7156 : BitVec 32 := Scalar.addi c0_i32_7712 v7155
  v7156.toNat
def k0_dev262 (d0 : Dev nD) : Nat :=
  let c0_i32_7727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_7715 : BitVec 32 := 14#32
  let v7163 : BitVec 32 := Scalar.addi v2 c14_i32_7715
  let c32_i32_7716 : BitVec 32 := 32#32
  let c0_i32_7717 : BitVec 32 := 0#32
  let v7164 : BitVec 1 := Scalar.cmpi .eq c32_i32_7716 c0_i32_7717
  let c1_i32_7718 : BitVec 32 := 1#32
  let v7165 : BitVec 32 := Scalar.select v7164 c1_i32_7718 c32_i32_7716
  let v7166 : BitVec 32 := Scalar.remsi v7163 v7165
  let c0_i32_7720 : BitVec 32 := 0#32
  let v7168 : BitVec 1 := Scalar.cmpi .slt v7166 c0_i32_7720
  let c0_i32_7721 : BitVec 32 := 0#32
  let v7169 : BitVec 1 := Scalar.cmpi .slt v7165 c0_i32_7721
  let v7170 : BitVec 1 := Scalar.xori v7168 v7169
  let c0_i32_7719 : BitVec 32 := 0#32
  let v7167 : BitVec 1 := Scalar.cmpi .ne v7166 c0_i32_7719
  let v7171 : BitVec 1 := Scalar.andi v7170 v7167
  let v7172 : BitVec 32 := Scalar.addi v7166 v7165
  let v7173 : BitVec 32 := Scalar.select v7171 v7172 v7166
  let c1_i32_7726 : BitVec 32 := 1#32
  let v7174 : BitVec 32 := Scalar.muli v7173 c1_i32_7726
  let v7175 : BitVec 32 := Scalar.addi c0_i32_7727 v7174
  v7175.toNat
def k0_dev263 (d0 : Dev nD) : Nat :=
  let c0_i32_7742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_7730 : BitVec 32 := 15#32
  let v7182 : BitVec 32 := Scalar.addi v2 c15_i32_7730
  let c32_i32_7731 : BitVec 32 := 32#32
  let c0_i32_7732 : BitVec 32 := 0#32
  let v7183 : BitVec 1 := Scalar.cmpi .eq c32_i32_7731 c0_i32_7732
  let c1_i32_7733 : BitVec 32 := 1#32
  let v7184 : BitVec 32 := Scalar.select v7183 c1_i32_7733 c32_i32_7731
  let v7185 : BitVec 32 := Scalar.remsi v7182 v7184
  let c0_i32_7735 : BitVec 32 := 0#32
  let v7187 : BitVec 1 := Scalar.cmpi .slt v7185 c0_i32_7735
  let c0_i32_7736 : BitVec 32 := 0#32
  let v7188 : BitVec 1 := Scalar.cmpi .slt v7184 c0_i32_7736
  let v7189 : BitVec 1 := Scalar.xori v7187 v7188
  let c0_i32_7734 : BitVec 32 := 0#32
  let v7186 : BitVec 1 := Scalar.cmpi .ne v7185 c0_i32_7734
  let v7190 : BitVec 1 := Scalar.andi v7189 v7186
  let v7191 : BitVec 32 := Scalar.addi v7185 v7184
  let v7192 : BitVec 32 := Scalar.select v7190 v7191 v7185
  let c1_i32_7741 : BitVec 32 := 1#32
  let v7193 : BitVec 32 := Scalar.muli v7192 c1_i32_7741
  let v7194 : BitVec 32 := Scalar.addi c0_i32_7742 v7193
  v7194.toNat
def k0_dev264 (d0 : Dev nD) : Nat :=
  let c0_i32_7757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7745 : BitVec 32 := 16#32
  let v7201 : BitVec 32 := Scalar.addi v2 c16_i32_7745
  let c32_i32_7746 : BitVec 32 := 32#32
  let c0_i32_7747 : BitVec 32 := 0#32
  let v7202 : BitVec 1 := Scalar.cmpi .eq c32_i32_7746 c0_i32_7747
  let c1_i32_7748 : BitVec 32 := 1#32
  let v7203 : BitVec 32 := Scalar.select v7202 c1_i32_7748 c32_i32_7746
  let v7204 : BitVec 32 := Scalar.remsi v7201 v7203
  let c0_i32_7750 : BitVec 32 := 0#32
  let v7206 : BitVec 1 := Scalar.cmpi .slt v7204 c0_i32_7750
  let c0_i32_7751 : BitVec 32 := 0#32
  let v7207 : BitVec 1 := Scalar.cmpi .slt v7203 c0_i32_7751
  let v7208 : BitVec 1 := Scalar.xori v7206 v7207
  let c0_i32_7749 : BitVec 32 := 0#32
  let v7205 : BitVec 1 := Scalar.cmpi .ne v7204 c0_i32_7749
  let v7209 : BitVec 1 := Scalar.andi v7208 v7205
  let v7210 : BitVec 32 := Scalar.addi v7204 v7203
  let v7211 : BitVec 32 := Scalar.select v7209 v7210 v7204
  let c1_i32_7756 : BitVec 32 := 1#32
  let v7212 : BitVec 32 := Scalar.muli v7211 c1_i32_7756
  let v7213 : BitVec 32 := Scalar.addi c0_i32_7757 v7212
  v7213.toNat
def k0_dev265 (d0 : Dev nD) : Nat :=
  let c0_i32_7772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_7760 : BitVec 32 := 17#32
  let v7220 : BitVec 32 := Scalar.addi v2 c17_i32_7760
  let c32_i32_7761 : BitVec 32 := 32#32
  let c0_i32_7762 : BitVec 32 := 0#32
  let v7221 : BitVec 1 := Scalar.cmpi .eq c32_i32_7761 c0_i32_7762
  let c1_i32_7763 : BitVec 32 := 1#32
  let v7222 : BitVec 32 := Scalar.select v7221 c1_i32_7763 c32_i32_7761
  let v7223 : BitVec 32 := Scalar.remsi v7220 v7222
  let c0_i32_7765 : BitVec 32 := 0#32
  let v7225 : BitVec 1 := Scalar.cmpi .slt v7223 c0_i32_7765
  let c0_i32_7766 : BitVec 32 := 0#32
  let v7226 : BitVec 1 := Scalar.cmpi .slt v7222 c0_i32_7766
  let v7227 : BitVec 1 := Scalar.xori v7225 v7226
  let c0_i32_7764 : BitVec 32 := 0#32
  let v7224 : BitVec 1 := Scalar.cmpi .ne v7223 c0_i32_7764
  let v7228 : BitVec 1 := Scalar.andi v7227 v7224
  let v7229 : BitVec 32 := Scalar.addi v7223 v7222
  let v7230 : BitVec 32 := Scalar.select v7228 v7229 v7223
  let c1_i32_7771 : BitVec 32 := 1#32
  let v7231 : BitVec 32 := Scalar.muli v7230 c1_i32_7771
  let v7232 : BitVec 32 := Scalar.addi c0_i32_7772 v7231
  v7232.toNat
def k0_dev266 (d0 : Dev nD) : Nat :=
  let c0_i32_7787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_7775 : BitVec 32 := 18#32
  let v7239 : BitVec 32 := Scalar.addi v2 c18_i32_7775
  let c32_i32_7776 : BitVec 32 := 32#32
  let c0_i32_7777 : BitVec 32 := 0#32
  let v7240 : BitVec 1 := Scalar.cmpi .eq c32_i32_7776 c0_i32_7777
  let c1_i32_7778 : BitVec 32 := 1#32
  let v7241 : BitVec 32 := Scalar.select v7240 c1_i32_7778 c32_i32_7776
  let v7242 : BitVec 32 := Scalar.remsi v7239 v7241
  let c0_i32_7780 : BitVec 32 := 0#32
  let v7244 : BitVec 1 := Scalar.cmpi .slt v7242 c0_i32_7780
  let c0_i32_7781 : BitVec 32 := 0#32
  let v7245 : BitVec 1 := Scalar.cmpi .slt v7241 c0_i32_7781
  let v7246 : BitVec 1 := Scalar.xori v7244 v7245
  let c0_i32_7779 : BitVec 32 := 0#32
  let v7243 : BitVec 1 := Scalar.cmpi .ne v7242 c0_i32_7779
  let v7247 : BitVec 1 := Scalar.andi v7246 v7243
  let v7248 : BitVec 32 := Scalar.addi v7242 v7241
  let v7249 : BitVec 32 := Scalar.select v7247 v7248 v7242
  let c1_i32_7786 : BitVec 32 := 1#32
  let v7250 : BitVec 32 := Scalar.muli v7249 c1_i32_7786
  let v7251 : BitVec 32 := Scalar.addi c0_i32_7787 v7250
  v7251.toNat
def k0_dev267 (d0 : Dev nD) : Nat :=
  let c0_i32_7802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_7790 : BitVec 32 := 19#32
  let v7258 : BitVec 32 := Scalar.addi v2 c19_i32_7790
  let c32_i32_7791 : BitVec 32 := 32#32
  let c0_i32_7792 : BitVec 32 := 0#32
  let v7259 : BitVec 1 := Scalar.cmpi .eq c32_i32_7791 c0_i32_7792
  let c1_i32_7793 : BitVec 32 := 1#32
  let v7260 : BitVec 32 := Scalar.select v7259 c1_i32_7793 c32_i32_7791
  let v7261 : BitVec 32 := Scalar.remsi v7258 v7260
  let c0_i32_7795 : BitVec 32 := 0#32
  let v7263 : BitVec 1 := Scalar.cmpi .slt v7261 c0_i32_7795
  let c0_i32_7796 : BitVec 32 := 0#32
  let v7264 : BitVec 1 := Scalar.cmpi .slt v7260 c0_i32_7796
  let v7265 : BitVec 1 := Scalar.xori v7263 v7264
  let c0_i32_7794 : BitVec 32 := 0#32
  let v7262 : BitVec 1 := Scalar.cmpi .ne v7261 c0_i32_7794
  let v7266 : BitVec 1 := Scalar.andi v7265 v7262
  let v7267 : BitVec 32 := Scalar.addi v7261 v7260
  let v7268 : BitVec 32 := Scalar.select v7266 v7267 v7261
  let c1_i32_7801 : BitVec 32 := 1#32
  let v7269 : BitVec 32 := Scalar.muli v7268 c1_i32_7801
  let v7270 : BitVec 32 := Scalar.addi c0_i32_7802 v7269
  v7270.toNat
def k0_dev268 (d0 : Dev nD) : Nat :=
  let c0_i32_7817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_7805 : BitVec 32 := 20#32
  let v7277 : BitVec 32 := Scalar.addi v2 c20_i32_7805
  let c32_i32_7806 : BitVec 32 := 32#32
  let c0_i32_7807 : BitVec 32 := 0#32
  let v7278 : BitVec 1 := Scalar.cmpi .eq c32_i32_7806 c0_i32_7807
  let c1_i32_7808 : BitVec 32 := 1#32
  let v7279 : BitVec 32 := Scalar.select v7278 c1_i32_7808 c32_i32_7806
  let v7280 : BitVec 32 := Scalar.remsi v7277 v7279
  let c0_i32_7810 : BitVec 32 := 0#32
  let v7282 : BitVec 1 := Scalar.cmpi .slt v7280 c0_i32_7810
  let c0_i32_7811 : BitVec 32 := 0#32
  let v7283 : BitVec 1 := Scalar.cmpi .slt v7279 c0_i32_7811
  let v7284 : BitVec 1 := Scalar.xori v7282 v7283
  let c0_i32_7809 : BitVec 32 := 0#32
  let v7281 : BitVec 1 := Scalar.cmpi .ne v7280 c0_i32_7809
  let v7285 : BitVec 1 := Scalar.andi v7284 v7281
  let v7286 : BitVec 32 := Scalar.addi v7280 v7279
  let v7287 : BitVec 32 := Scalar.select v7285 v7286 v7280
  let c1_i32_7816 : BitVec 32 := 1#32
  let v7288 : BitVec 32 := Scalar.muli v7287 c1_i32_7816
  let v7289 : BitVec 32 := Scalar.addi c0_i32_7817 v7288
  v7289.toNat
def k0_dev269 (d0 : Dev nD) : Nat :=
  let c0_i32_7832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_7820 : BitVec 32 := 21#32
  let v7296 : BitVec 32 := Scalar.addi v2 c21_i32_7820
  let c32_i32_7821 : BitVec 32 := 32#32
  let c0_i32_7822 : BitVec 32 := 0#32
  let v7297 : BitVec 1 := Scalar.cmpi .eq c32_i32_7821 c0_i32_7822
  let c1_i32_7823 : BitVec 32 := 1#32
  let v7298 : BitVec 32 := Scalar.select v7297 c1_i32_7823 c32_i32_7821
  let v7299 : BitVec 32 := Scalar.remsi v7296 v7298
  let c0_i32_7825 : BitVec 32 := 0#32
  let v7301 : BitVec 1 := Scalar.cmpi .slt v7299 c0_i32_7825
  let c0_i32_7826 : BitVec 32 := 0#32
  let v7302 : BitVec 1 := Scalar.cmpi .slt v7298 c0_i32_7826
  let v7303 : BitVec 1 := Scalar.xori v7301 v7302
  let c0_i32_7824 : BitVec 32 := 0#32
  let v7300 : BitVec 1 := Scalar.cmpi .ne v7299 c0_i32_7824
  let v7304 : BitVec 1 := Scalar.andi v7303 v7300
  let v7305 : BitVec 32 := Scalar.addi v7299 v7298
  let v7306 : BitVec 32 := Scalar.select v7304 v7305 v7299
  let c1_i32_7831 : BitVec 32 := 1#32
  let v7307 : BitVec 32 := Scalar.muli v7306 c1_i32_7831
  let v7308 : BitVec 32 := Scalar.addi c0_i32_7832 v7307
  v7308.toNat
def k0_dev270 (d0 : Dev nD) : Nat :=
  let c0_i32_7847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_7835 : BitVec 32 := 22#32
  let v7315 : BitVec 32 := Scalar.addi v2 c22_i32_7835
  let c32_i32_7836 : BitVec 32 := 32#32
  let c0_i32_7837 : BitVec 32 := 0#32
  let v7316 : BitVec 1 := Scalar.cmpi .eq c32_i32_7836 c0_i32_7837
  let c1_i32_7838 : BitVec 32 := 1#32
  let v7317 : BitVec 32 := Scalar.select v7316 c1_i32_7838 c32_i32_7836
  let v7318 : BitVec 32 := Scalar.remsi v7315 v7317
  let c0_i32_7840 : BitVec 32 := 0#32
  let v7320 : BitVec 1 := Scalar.cmpi .slt v7318 c0_i32_7840
  let c0_i32_7841 : BitVec 32 := 0#32
  let v7321 : BitVec 1 := Scalar.cmpi .slt v7317 c0_i32_7841
  let v7322 : BitVec 1 := Scalar.xori v7320 v7321
  let c0_i32_7839 : BitVec 32 := 0#32
  let v7319 : BitVec 1 := Scalar.cmpi .ne v7318 c0_i32_7839
  let v7323 : BitVec 1 := Scalar.andi v7322 v7319
  let v7324 : BitVec 32 := Scalar.addi v7318 v7317
  let v7325 : BitVec 32 := Scalar.select v7323 v7324 v7318
  let c1_i32_7846 : BitVec 32 := 1#32
  let v7326 : BitVec 32 := Scalar.muli v7325 c1_i32_7846
  let v7327 : BitVec 32 := Scalar.addi c0_i32_7847 v7326
  v7327.toNat
def k0_dev271 (d0 : Dev nD) : Nat :=
  let c0_i32_7862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_7850 : BitVec 32 := 23#32
  let v7334 : BitVec 32 := Scalar.addi v2 c23_i32_7850
  let c32_i32_7851 : BitVec 32 := 32#32
  let c0_i32_7852 : BitVec 32 := 0#32
  let v7335 : BitVec 1 := Scalar.cmpi .eq c32_i32_7851 c0_i32_7852
  let c1_i32_7853 : BitVec 32 := 1#32
  let v7336 : BitVec 32 := Scalar.select v7335 c1_i32_7853 c32_i32_7851
  let v7337 : BitVec 32 := Scalar.remsi v7334 v7336
  let c0_i32_7855 : BitVec 32 := 0#32
  let v7339 : BitVec 1 := Scalar.cmpi .slt v7337 c0_i32_7855
  let c0_i32_7856 : BitVec 32 := 0#32
  let v7340 : BitVec 1 := Scalar.cmpi .slt v7336 c0_i32_7856
  let v7341 : BitVec 1 := Scalar.xori v7339 v7340
  let c0_i32_7854 : BitVec 32 := 0#32
  let v7338 : BitVec 1 := Scalar.cmpi .ne v7337 c0_i32_7854
  let v7342 : BitVec 1 := Scalar.andi v7341 v7338
  let v7343 : BitVec 32 := Scalar.addi v7337 v7336
  let v7344 : BitVec 32 := Scalar.select v7342 v7343 v7337
  let c1_i32_7861 : BitVec 32 := 1#32
  let v7345 : BitVec 32 := Scalar.muli v7344 c1_i32_7861
  let v7346 : BitVec 32 := Scalar.addi c0_i32_7862 v7345
  v7346.toNat
def k0_dev272 (d0 : Dev nD) : Nat :=
  let c0_i32_7877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_7865 : BitVec 32 := 24#32
  let v7353 : BitVec 32 := Scalar.addi v2 c24_i32_7865
  let c32_i32_7866 : BitVec 32 := 32#32
  let c0_i32_7867 : BitVec 32 := 0#32
  let v7354 : BitVec 1 := Scalar.cmpi .eq c32_i32_7866 c0_i32_7867
  let c1_i32_7868 : BitVec 32 := 1#32
  let v7355 : BitVec 32 := Scalar.select v7354 c1_i32_7868 c32_i32_7866
  let v7356 : BitVec 32 := Scalar.remsi v7353 v7355
  let c0_i32_7870 : BitVec 32 := 0#32
  let v7358 : BitVec 1 := Scalar.cmpi .slt v7356 c0_i32_7870
  let c0_i32_7871 : BitVec 32 := 0#32
  let v7359 : BitVec 1 := Scalar.cmpi .slt v7355 c0_i32_7871
  let v7360 : BitVec 1 := Scalar.xori v7358 v7359
  let c0_i32_7869 : BitVec 32 := 0#32
  let v7357 : BitVec 1 := Scalar.cmpi .ne v7356 c0_i32_7869
  let v7361 : BitVec 1 := Scalar.andi v7360 v7357
  let v7362 : BitVec 32 := Scalar.addi v7356 v7355
  let v7363 : BitVec 32 := Scalar.select v7361 v7362 v7356
  let c1_i32_7876 : BitVec 32 := 1#32
  let v7364 : BitVec 32 := Scalar.muli v7363 c1_i32_7876
  let v7365 : BitVec 32 := Scalar.addi c0_i32_7877 v7364
  v7365.toNat
def k0_dev273 (d0 : Dev nD) : Nat :=
  let c0_i32_7892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_7880 : BitVec 32 := 25#32
  let v7372 : BitVec 32 := Scalar.addi v2 c25_i32_7880
  let c32_i32_7881 : BitVec 32 := 32#32
  let c0_i32_7882 : BitVec 32 := 0#32
  let v7373 : BitVec 1 := Scalar.cmpi .eq c32_i32_7881 c0_i32_7882
  let c1_i32_7883 : BitVec 32 := 1#32
  let v7374 : BitVec 32 := Scalar.select v7373 c1_i32_7883 c32_i32_7881
  let v7375 : BitVec 32 := Scalar.remsi v7372 v7374
  let c0_i32_7885 : BitVec 32 := 0#32
  let v7377 : BitVec 1 := Scalar.cmpi .slt v7375 c0_i32_7885
  let c0_i32_7886 : BitVec 32 := 0#32
  let v7378 : BitVec 1 := Scalar.cmpi .slt v7374 c0_i32_7886
  let v7379 : BitVec 1 := Scalar.xori v7377 v7378
  let c0_i32_7884 : BitVec 32 := 0#32
  let v7376 : BitVec 1 := Scalar.cmpi .ne v7375 c0_i32_7884
  let v7380 : BitVec 1 := Scalar.andi v7379 v7376
  let v7381 : BitVec 32 := Scalar.addi v7375 v7374
  let v7382 : BitVec 32 := Scalar.select v7380 v7381 v7375
  let c1_i32_7891 : BitVec 32 := 1#32
  let v7383 : BitVec 32 := Scalar.muli v7382 c1_i32_7891
  let v7384 : BitVec 32 := Scalar.addi c0_i32_7892 v7383
  v7384.toNat
def k0_dev274 (d0 : Dev nD) : Nat :=
  let c0_i32_7907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_7895 : BitVec 32 := 26#32
  let v7391 : BitVec 32 := Scalar.addi v2 c26_i32_7895
  let c32_i32_7896 : BitVec 32 := 32#32
  let c0_i32_7897 : BitVec 32 := 0#32
  let v7392 : BitVec 1 := Scalar.cmpi .eq c32_i32_7896 c0_i32_7897
  let c1_i32_7898 : BitVec 32 := 1#32
  let v7393 : BitVec 32 := Scalar.select v7392 c1_i32_7898 c32_i32_7896
  let v7394 : BitVec 32 := Scalar.remsi v7391 v7393
  let c0_i32_7900 : BitVec 32 := 0#32
  let v7396 : BitVec 1 := Scalar.cmpi .slt v7394 c0_i32_7900
  let c0_i32_7901 : BitVec 32 := 0#32
  let v7397 : BitVec 1 := Scalar.cmpi .slt v7393 c0_i32_7901
  let v7398 : BitVec 1 := Scalar.xori v7396 v7397
  let c0_i32_7899 : BitVec 32 := 0#32
  let v7395 : BitVec 1 := Scalar.cmpi .ne v7394 c0_i32_7899
  let v7399 : BitVec 1 := Scalar.andi v7398 v7395
  let v7400 : BitVec 32 := Scalar.addi v7394 v7393
  let v7401 : BitVec 32 := Scalar.select v7399 v7400 v7394
  let c1_i32_7906 : BitVec 32 := 1#32
  let v7402 : BitVec 32 := Scalar.muli v7401 c1_i32_7906
  let v7403 : BitVec 32 := Scalar.addi c0_i32_7907 v7402
  v7403.toNat
def k0_dev275 (d0 : Dev nD) : Nat :=
  let c0_i32_7922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_7910 : BitVec 32 := 27#32
  let v7410 : BitVec 32 := Scalar.addi v2 c27_i32_7910
  let c32_i32_7911 : BitVec 32 := 32#32
  let c0_i32_7912 : BitVec 32 := 0#32
  let v7411 : BitVec 1 := Scalar.cmpi .eq c32_i32_7911 c0_i32_7912
  let c1_i32_7913 : BitVec 32 := 1#32
  let v7412 : BitVec 32 := Scalar.select v7411 c1_i32_7913 c32_i32_7911
  let v7413 : BitVec 32 := Scalar.remsi v7410 v7412
  let c0_i32_7915 : BitVec 32 := 0#32
  let v7415 : BitVec 1 := Scalar.cmpi .slt v7413 c0_i32_7915
  let c0_i32_7916 : BitVec 32 := 0#32
  let v7416 : BitVec 1 := Scalar.cmpi .slt v7412 c0_i32_7916
  let v7417 : BitVec 1 := Scalar.xori v7415 v7416
  let c0_i32_7914 : BitVec 32 := 0#32
  let v7414 : BitVec 1 := Scalar.cmpi .ne v7413 c0_i32_7914
  let v7418 : BitVec 1 := Scalar.andi v7417 v7414
  let v7419 : BitVec 32 := Scalar.addi v7413 v7412
  let v7420 : BitVec 32 := Scalar.select v7418 v7419 v7413
  let c1_i32_7921 : BitVec 32 := 1#32
  let v7421 : BitVec 32 := Scalar.muli v7420 c1_i32_7921
  let v7422 : BitVec 32 := Scalar.addi c0_i32_7922 v7421
  v7422.toNat
def k0_dev276 (d0 : Dev nD) : Nat :=
  let c0_i32_7937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_7925 : BitVec 32 := 28#32
  let v7429 : BitVec 32 := Scalar.addi v2 c28_i32_7925
  let c32_i32_7926 : BitVec 32 := 32#32
  let c0_i32_7927 : BitVec 32 := 0#32
  let v7430 : BitVec 1 := Scalar.cmpi .eq c32_i32_7926 c0_i32_7927
  let c1_i32_7928 : BitVec 32 := 1#32
  let v7431 : BitVec 32 := Scalar.select v7430 c1_i32_7928 c32_i32_7926
  let v7432 : BitVec 32 := Scalar.remsi v7429 v7431
  let c0_i32_7930 : BitVec 32 := 0#32
  let v7434 : BitVec 1 := Scalar.cmpi .slt v7432 c0_i32_7930
  let c0_i32_7931 : BitVec 32 := 0#32
  let v7435 : BitVec 1 := Scalar.cmpi .slt v7431 c0_i32_7931
  let v7436 : BitVec 1 := Scalar.xori v7434 v7435
  let c0_i32_7929 : BitVec 32 := 0#32
  let v7433 : BitVec 1 := Scalar.cmpi .ne v7432 c0_i32_7929
  let v7437 : BitVec 1 := Scalar.andi v7436 v7433
  let v7438 : BitVec 32 := Scalar.addi v7432 v7431
  let v7439 : BitVec 32 := Scalar.select v7437 v7438 v7432
  let c1_i32_7936 : BitVec 32 := 1#32
  let v7440 : BitVec 32 := Scalar.muli v7439 c1_i32_7936
  let v7441 : BitVec 32 := Scalar.addi c0_i32_7937 v7440
  v7441.toNat
def k0_dev277 (d0 : Dev nD) : Nat :=
  let c0_i32_7952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_7940 : BitVec 32 := 29#32
  let v7448 : BitVec 32 := Scalar.addi v2 c29_i32_7940
  let c32_i32_7941 : BitVec 32 := 32#32
  let c0_i32_7942 : BitVec 32 := 0#32
  let v7449 : BitVec 1 := Scalar.cmpi .eq c32_i32_7941 c0_i32_7942
  let c1_i32_7943 : BitVec 32 := 1#32
  let v7450 : BitVec 32 := Scalar.select v7449 c1_i32_7943 c32_i32_7941
  let v7451 : BitVec 32 := Scalar.remsi v7448 v7450
  let c0_i32_7945 : BitVec 32 := 0#32
  let v7453 : BitVec 1 := Scalar.cmpi .slt v7451 c0_i32_7945
  let c0_i32_7946 : BitVec 32 := 0#32
  let v7454 : BitVec 1 := Scalar.cmpi .slt v7450 c0_i32_7946
  let v7455 : BitVec 1 := Scalar.xori v7453 v7454
  let c0_i32_7944 : BitVec 32 := 0#32
  let v7452 : BitVec 1 := Scalar.cmpi .ne v7451 c0_i32_7944
  let v7456 : BitVec 1 := Scalar.andi v7455 v7452
  let v7457 : BitVec 32 := Scalar.addi v7451 v7450
  let v7458 : BitVec 32 := Scalar.select v7456 v7457 v7451
  let c1_i32_7951 : BitVec 32 := 1#32
  let v7459 : BitVec 32 := Scalar.muli v7458 c1_i32_7951
  let v7460 : BitVec 32 := Scalar.addi c0_i32_7952 v7459
  v7460.toNat
def k0_dev278 (d0 : Dev nD) : Nat :=
  let c0_i32_7967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_7955 : BitVec 32 := 30#32
  let v7467 : BitVec 32 := Scalar.addi v2 c30_i32_7955
  let c32_i32_7956 : BitVec 32 := 32#32
  let c0_i32_7957 : BitVec 32 := 0#32
  let v7468 : BitVec 1 := Scalar.cmpi .eq c32_i32_7956 c0_i32_7957
  let c1_i32_7958 : BitVec 32 := 1#32
  let v7469 : BitVec 32 := Scalar.select v7468 c1_i32_7958 c32_i32_7956
  let v7470 : BitVec 32 := Scalar.remsi v7467 v7469
  let c0_i32_7960 : BitVec 32 := 0#32
  let v7472 : BitVec 1 := Scalar.cmpi .slt v7470 c0_i32_7960
  let c0_i32_7961 : BitVec 32 := 0#32
  let v7473 : BitVec 1 := Scalar.cmpi .slt v7469 c0_i32_7961
  let v7474 : BitVec 1 := Scalar.xori v7472 v7473
  let c0_i32_7959 : BitVec 32 := 0#32
  let v7471 : BitVec 1 := Scalar.cmpi .ne v7470 c0_i32_7959
  let v7475 : BitVec 1 := Scalar.andi v7474 v7471
  let v7476 : BitVec 32 := Scalar.addi v7470 v7469
  let v7477 : BitVec 32 := Scalar.select v7475 v7476 v7470
  let c1_i32_7966 : BitVec 32 := 1#32
  let v7478 : BitVec 32 := Scalar.muli v7477 c1_i32_7966
  let v7479 : BitVec 32 := Scalar.addi c0_i32_7967 v7478
  v7479.toNat
def k0_dev279 (d0 : Dev nD) : Nat :=
  let c0_i32_7982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_7970 : BitVec 32 := 31#32
  let v7486 : BitVec 32 := Scalar.addi v2 c31_i32_7970
  let c32_i32_7971 : BitVec 32 := 32#32
  let c0_i32_7972 : BitVec 32 := 0#32
  let v7487 : BitVec 1 := Scalar.cmpi .eq c32_i32_7971 c0_i32_7972
  let c1_i32_7973 : BitVec 32 := 1#32
  let v7488 : BitVec 32 := Scalar.select v7487 c1_i32_7973 c32_i32_7971
  let v7489 : BitVec 32 := Scalar.remsi v7486 v7488
  let c0_i32_7975 : BitVec 32 := 0#32
  let v7491 : BitVec 1 := Scalar.cmpi .slt v7489 c0_i32_7975
  let c0_i32_7976 : BitVec 32 := 0#32
  let v7492 : BitVec 1 := Scalar.cmpi .slt v7488 c0_i32_7976
  let v7493 : BitVec 1 := Scalar.xori v7491 v7492
  let c0_i32_7974 : BitVec 32 := 0#32
  let v7490 : BitVec 1 := Scalar.cmpi .ne v7489 c0_i32_7974
  let v7494 : BitVec 1 := Scalar.andi v7493 v7490
  let v7495 : BitVec 32 := Scalar.addi v7489 v7488
  let v7496 : BitVec 32 := Scalar.select v7494 v7495 v7489
  let c1_i32_7981 : BitVec 32 := 1#32
  let v7497 : BitVec 32 := Scalar.muli v7496 c1_i32_7981
  let v7498 : BitVec 32 := Scalar.addi c0_i32_7982 v7497
  v7498.toNat
def k0_dev280 (d0 : Dev nD) : Nat :=
  let c0_i32_8789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_8773 : BitVec 32 := 1#32
  let v7983 : BitVec 32 := Scalar.addi v2 c1_i32_8773
  let c32_i32_8774 : BitVec 32 := 32#32
  let c0_i32_8775 : BitVec 32 := 0#32
  let v7984 : BitVec 1 := Scalar.cmpi .eq c32_i32_8774 c0_i32_8775
  let c1_i32_8776 : BitVec 32 := 1#32
  let v7985 : BitVec 32 := Scalar.select v7984 c1_i32_8776 c32_i32_8774
  let v7986 : BitVec 32 := Scalar.remsi v7983 v7985
  let c0_i32_8778 : BitVec 32 := 0#32
  let v7988 : BitVec 1 := Scalar.cmpi .slt v7986 c0_i32_8778
  let c0_i32_8779 : BitVec 32 := 0#32
  let v7989 : BitVec 1 := Scalar.cmpi .slt v7985 c0_i32_8779
  let v7990 : BitVec 1 := Scalar.xori v7988 v7989
  let c0_i32_8777 : BitVec 32 := 0#32
  let v7987 : BitVec 1 := Scalar.cmpi .ne v7986 c0_i32_8777
  let v7991 : BitVec 1 := Scalar.andi v7990 v7987
  let v7992 : BitVec 32 := Scalar.addi v7986 v7985
  let v7993 : BitVec 32 := Scalar.select v7991 v7992 v7986
  let c1_i32_8788 : BitVec 32 := 1#32
  let v7996 : BitVec 32 := Scalar.muli v7993 c1_i32_8788
  let v7997 : BitVec 32 := Scalar.addi c0_i32_8789 v7996
  v7997.toNat
def k0_dev281 (d0 : Dev nD) : Nat :=
  let c0_i32_8809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_8793 : BitVec 32 := 2#32
  let v8005 : BitVec 32 := Scalar.addi v2 c2_i32_8793
  let c32_i32_8794 : BitVec 32 := 32#32
  let c0_i32_8795 : BitVec 32 := 0#32
  let v8006 : BitVec 1 := Scalar.cmpi .eq c32_i32_8794 c0_i32_8795
  let c1_i32_8796 : BitVec 32 := 1#32
  let v8007 : BitVec 32 := Scalar.select v8006 c1_i32_8796 c32_i32_8794
  let v8008 : BitVec 32 := Scalar.remsi v8005 v8007
  let c0_i32_8798 : BitVec 32 := 0#32
  let v8010 : BitVec 1 := Scalar.cmpi .slt v8008 c0_i32_8798
  let c0_i32_8799 : BitVec 32 := 0#32
  let v8011 : BitVec 1 := Scalar.cmpi .slt v8007 c0_i32_8799
  let v8012 : BitVec 1 := Scalar.xori v8010 v8011
  let c0_i32_8797 : BitVec 32 := 0#32
  let v8009 : BitVec 1 := Scalar.cmpi .ne v8008 c0_i32_8797
  let v8013 : BitVec 1 := Scalar.andi v8012 v8009
  let v8014 : BitVec 32 := Scalar.addi v8008 v8007
  let v8015 : BitVec 32 := Scalar.select v8013 v8014 v8008
  let c1_i32_8808 : BitVec 32 := 1#32
  let v8018 : BitVec 32 := Scalar.muli v8015 c1_i32_8808
  let v8019 : BitVec 32 := Scalar.addi c0_i32_8809 v8018
  v8019.toNat
def k0_dev282 (d0 : Dev nD) : Nat :=
  let c0_i32_8829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_8813 : BitVec 32 := 3#32
  let v8027 : BitVec 32 := Scalar.addi v2 c3_i32_8813
  let c32_i32_8814 : BitVec 32 := 32#32
  let c0_i32_8815 : BitVec 32 := 0#32
  let v8028 : BitVec 1 := Scalar.cmpi .eq c32_i32_8814 c0_i32_8815
  let c1_i32_8816 : BitVec 32 := 1#32
  let v8029 : BitVec 32 := Scalar.select v8028 c1_i32_8816 c32_i32_8814
  let v8030 : BitVec 32 := Scalar.remsi v8027 v8029
  let c0_i32_8818 : BitVec 32 := 0#32
  let v8032 : BitVec 1 := Scalar.cmpi .slt v8030 c0_i32_8818
  let c0_i32_8819 : BitVec 32 := 0#32
  let v8033 : BitVec 1 := Scalar.cmpi .slt v8029 c0_i32_8819
  let v8034 : BitVec 1 := Scalar.xori v8032 v8033
  let c0_i32_8817 : BitVec 32 := 0#32
  let v8031 : BitVec 1 := Scalar.cmpi .ne v8030 c0_i32_8817
  let v8035 : BitVec 1 := Scalar.andi v8034 v8031
  let v8036 : BitVec 32 := Scalar.addi v8030 v8029
  let v8037 : BitVec 32 := Scalar.select v8035 v8036 v8030
  let c1_i32_8828 : BitVec 32 := 1#32
  let v8040 : BitVec 32 := Scalar.muli v8037 c1_i32_8828
  let v8041 : BitVec 32 := Scalar.addi c0_i32_8829 v8040
  v8041.toNat
def k0_dev283 (d0 : Dev nD) : Nat :=
  let c0_i32_8849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_8833 : BitVec 32 := 4#32
  let v8049 : BitVec 32 := Scalar.addi v2 c4_i32_8833
  let c32_i32_8834 : BitVec 32 := 32#32
  let c0_i32_8835 : BitVec 32 := 0#32
  let v8050 : BitVec 1 := Scalar.cmpi .eq c32_i32_8834 c0_i32_8835
  let c1_i32_8836 : BitVec 32 := 1#32
  let v8051 : BitVec 32 := Scalar.select v8050 c1_i32_8836 c32_i32_8834
  let v8052 : BitVec 32 := Scalar.remsi v8049 v8051
  let c0_i32_8838 : BitVec 32 := 0#32
  let v8054 : BitVec 1 := Scalar.cmpi .slt v8052 c0_i32_8838
  let c0_i32_8839 : BitVec 32 := 0#32
  let v8055 : BitVec 1 := Scalar.cmpi .slt v8051 c0_i32_8839
  let v8056 : BitVec 1 := Scalar.xori v8054 v8055
  let c0_i32_8837 : BitVec 32 := 0#32
  let v8053 : BitVec 1 := Scalar.cmpi .ne v8052 c0_i32_8837
  let v8057 : BitVec 1 := Scalar.andi v8056 v8053
  let v8058 : BitVec 32 := Scalar.addi v8052 v8051
  let v8059 : BitVec 32 := Scalar.select v8057 v8058 v8052
  let c1_i32_8848 : BitVec 32 := 1#32
  let v8062 : BitVec 32 := Scalar.muli v8059 c1_i32_8848
  let v8063 : BitVec 32 := Scalar.addi c0_i32_8849 v8062
  v8063.toNat
def k0_dev284 (d0 : Dev nD) : Nat :=
  let c0_i32_8869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_8853 : BitVec 32 := 5#32
  let v8071 : BitVec 32 := Scalar.addi v2 c5_i32_8853
  let c32_i32_8854 : BitVec 32 := 32#32
  let c0_i32_8855 : BitVec 32 := 0#32
  let v8072 : BitVec 1 := Scalar.cmpi .eq c32_i32_8854 c0_i32_8855
  let c1_i32_8856 : BitVec 32 := 1#32
  let v8073 : BitVec 32 := Scalar.select v8072 c1_i32_8856 c32_i32_8854
  let v8074 : BitVec 32 := Scalar.remsi v8071 v8073
  let c0_i32_8858 : BitVec 32 := 0#32
  let v8076 : BitVec 1 := Scalar.cmpi .slt v8074 c0_i32_8858
  let c0_i32_8859 : BitVec 32 := 0#32
  let v8077 : BitVec 1 := Scalar.cmpi .slt v8073 c0_i32_8859
  let v8078 : BitVec 1 := Scalar.xori v8076 v8077
  let c0_i32_8857 : BitVec 32 := 0#32
  let v8075 : BitVec 1 := Scalar.cmpi .ne v8074 c0_i32_8857
  let v8079 : BitVec 1 := Scalar.andi v8078 v8075
  let v8080 : BitVec 32 := Scalar.addi v8074 v8073
  let v8081 : BitVec 32 := Scalar.select v8079 v8080 v8074
  let c1_i32_8868 : BitVec 32 := 1#32
  let v8084 : BitVec 32 := Scalar.muli v8081 c1_i32_8868
  let v8085 : BitVec 32 := Scalar.addi c0_i32_8869 v8084
  v8085.toNat
def k0_dev285 (d0 : Dev nD) : Nat :=
  let c0_i32_8889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_8873 : BitVec 32 := 6#32
  let v8093 : BitVec 32 := Scalar.addi v2 c6_i32_8873
  let c32_i32_8874 : BitVec 32 := 32#32
  let c0_i32_8875 : BitVec 32 := 0#32
  let v8094 : BitVec 1 := Scalar.cmpi .eq c32_i32_8874 c0_i32_8875
  let c1_i32_8876 : BitVec 32 := 1#32
  let v8095 : BitVec 32 := Scalar.select v8094 c1_i32_8876 c32_i32_8874
  let v8096 : BitVec 32 := Scalar.remsi v8093 v8095
  let c0_i32_8878 : BitVec 32 := 0#32
  let v8098 : BitVec 1 := Scalar.cmpi .slt v8096 c0_i32_8878
  let c0_i32_8879 : BitVec 32 := 0#32
  let v8099 : BitVec 1 := Scalar.cmpi .slt v8095 c0_i32_8879
  let v8100 : BitVec 1 := Scalar.xori v8098 v8099
  let c0_i32_8877 : BitVec 32 := 0#32
  let v8097 : BitVec 1 := Scalar.cmpi .ne v8096 c0_i32_8877
  let v8101 : BitVec 1 := Scalar.andi v8100 v8097
  let v8102 : BitVec 32 := Scalar.addi v8096 v8095
  let v8103 : BitVec 32 := Scalar.select v8101 v8102 v8096
  let c1_i32_8888 : BitVec 32 := 1#32
  let v8106 : BitVec 32 := Scalar.muli v8103 c1_i32_8888
  let v8107 : BitVec 32 := Scalar.addi c0_i32_8889 v8106
  v8107.toNat
def k0_dev286 (d0 : Dev nD) : Nat :=
  let c0_i32_8909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_8893 : BitVec 32 := 7#32
  let v8115 : BitVec 32 := Scalar.addi v2 c7_i32_8893
  let c32_i32_8894 : BitVec 32 := 32#32
  let c0_i32_8895 : BitVec 32 := 0#32
  let v8116 : BitVec 1 := Scalar.cmpi .eq c32_i32_8894 c0_i32_8895
  let c1_i32_8896 : BitVec 32 := 1#32
  let v8117 : BitVec 32 := Scalar.select v8116 c1_i32_8896 c32_i32_8894
  let v8118 : BitVec 32 := Scalar.remsi v8115 v8117
  let c0_i32_8898 : BitVec 32 := 0#32
  let v8120 : BitVec 1 := Scalar.cmpi .slt v8118 c0_i32_8898
  let c0_i32_8899 : BitVec 32 := 0#32
  let v8121 : BitVec 1 := Scalar.cmpi .slt v8117 c0_i32_8899
  let v8122 : BitVec 1 := Scalar.xori v8120 v8121
  let c0_i32_8897 : BitVec 32 := 0#32
  let v8119 : BitVec 1 := Scalar.cmpi .ne v8118 c0_i32_8897
  let v8123 : BitVec 1 := Scalar.andi v8122 v8119
  let v8124 : BitVec 32 := Scalar.addi v8118 v8117
  let v8125 : BitVec 32 := Scalar.select v8123 v8124 v8118
  let c1_i32_8908 : BitVec 32 := 1#32
  let v8128 : BitVec 32 := Scalar.muli v8125 c1_i32_8908
  let v8129 : BitVec 32 := Scalar.addi c0_i32_8909 v8128
  v8129.toNat
def k0_dev287 (d0 : Dev nD) : Nat :=
  let c0_i32_8929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8913 : BitVec 32 := 8#32
  let v8137 : BitVec 32 := Scalar.addi v2 c8_i32_8913
  let c32_i32_8914 : BitVec 32 := 32#32
  let c0_i32_8915 : BitVec 32 := 0#32
  let v8138 : BitVec 1 := Scalar.cmpi .eq c32_i32_8914 c0_i32_8915
  let c1_i32_8916 : BitVec 32 := 1#32
  let v8139 : BitVec 32 := Scalar.select v8138 c1_i32_8916 c32_i32_8914
  let v8140 : BitVec 32 := Scalar.remsi v8137 v8139
  let c0_i32_8918 : BitVec 32 := 0#32
  let v8142 : BitVec 1 := Scalar.cmpi .slt v8140 c0_i32_8918
  let c0_i32_8919 : BitVec 32 := 0#32
  let v8143 : BitVec 1 := Scalar.cmpi .slt v8139 c0_i32_8919
  let v8144 : BitVec 1 := Scalar.xori v8142 v8143
  let c0_i32_8917 : BitVec 32 := 0#32
  let v8141 : BitVec 1 := Scalar.cmpi .ne v8140 c0_i32_8917
  let v8145 : BitVec 1 := Scalar.andi v8144 v8141
  let v8146 : BitVec 32 := Scalar.addi v8140 v8139
  let v8147 : BitVec 32 := Scalar.select v8145 v8146 v8140
  let c1_i32_8928 : BitVec 32 := 1#32
  let v8150 : BitVec 32 := Scalar.muli v8147 c1_i32_8928
  let v8151 : BitVec 32 := Scalar.addi c0_i32_8929 v8150
  v8151.toNat
def k0_dev288 (d0 : Dev nD) : Nat :=
  let c0_i32_8949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_8933 : BitVec 32 := 9#32
  let v8159 : BitVec 32 := Scalar.addi v2 c9_i32_8933
  let c32_i32_8934 : BitVec 32 := 32#32
  let c0_i32_8935 : BitVec 32 := 0#32
  let v8160 : BitVec 1 := Scalar.cmpi .eq c32_i32_8934 c0_i32_8935
  let c1_i32_8936 : BitVec 32 := 1#32
  let v8161 : BitVec 32 := Scalar.select v8160 c1_i32_8936 c32_i32_8934
  let v8162 : BitVec 32 := Scalar.remsi v8159 v8161
  let c0_i32_8938 : BitVec 32 := 0#32
  let v8164 : BitVec 1 := Scalar.cmpi .slt v8162 c0_i32_8938
  let c0_i32_8939 : BitVec 32 := 0#32
  let v8165 : BitVec 1 := Scalar.cmpi .slt v8161 c0_i32_8939
  let v8166 : BitVec 1 := Scalar.xori v8164 v8165
  let c0_i32_8937 : BitVec 32 := 0#32
  let v8163 : BitVec 1 := Scalar.cmpi .ne v8162 c0_i32_8937
  let v8167 : BitVec 1 := Scalar.andi v8166 v8163
  let v8168 : BitVec 32 := Scalar.addi v8162 v8161
  let v8169 : BitVec 32 := Scalar.select v8167 v8168 v8162
  let c1_i32_8948 : BitVec 32 := 1#32
  let v8172 : BitVec 32 := Scalar.muli v8169 c1_i32_8948
  let v8173 : BitVec 32 := Scalar.addi c0_i32_8949 v8172
  v8173.toNat
def k0_dev289 (d0 : Dev nD) : Nat :=
  let c0_i32_8969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_8953 : BitVec 32 := 10#32
  let v8181 : BitVec 32 := Scalar.addi v2 c10_i32_8953
  let c32_i32_8954 : BitVec 32 := 32#32
  let c0_i32_8955 : BitVec 32 := 0#32
  let v8182 : BitVec 1 := Scalar.cmpi .eq c32_i32_8954 c0_i32_8955
  let c1_i32_8956 : BitVec 32 := 1#32
  let v8183 : BitVec 32 := Scalar.select v8182 c1_i32_8956 c32_i32_8954
  let v8184 : BitVec 32 := Scalar.remsi v8181 v8183
  let c0_i32_8958 : BitVec 32 := 0#32
  let v8186 : BitVec 1 := Scalar.cmpi .slt v8184 c0_i32_8958
  let c0_i32_8959 : BitVec 32 := 0#32
  let v8187 : BitVec 1 := Scalar.cmpi .slt v8183 c0_i32_8959
  let v8188 : BitVec 1 := Scalar.xori v8186 v8187
  let c0_i32_8957 : BitVec 32 := 0#32
  let v8185 : BitVec 1 := Scalar.cmpi .ne v8184 c0_i32_8957
  let v8189 : BitVec 1 := Scalar.andi v8188 v8185
  let v8190 : BitVec 32 := Scalar.addi v8184 v8183
  let v8191 : BitVec 32 := Scalar.select v8189 v8190 v8184
  let c1_i32_8968 : BitVec 32 := 1#32
  let v8194 : BitVec 32 := Scalar.muli v8191 c1_i32_8968
  let v8195 : BitVec 32 := Scalar.addi c0_i32_8969 v8194
  v8195.toNat
def k0_dev290 (d0 : Dev nD) : Nat :=
  let c0_i32_8989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_8973 : BitVec 32 := 11#32
  let v8203 : BitVec 32 := Scalar.addi v2 c11_i32_8973
  let c32_i32_8974 : BitVec 32 := 32#32
  let c0_i32_8975 : BitVec 32 := 0#32
  let v8204 : BitVec 1 := Scalar.cmpi .eq c32_i32_8974 c0_i32_8975
  let c1_i32_8976 : BitVec 32 := 1#32
  let v8205 : BitVec 32 := Scalar.select v8204 c1_i32_8976 c32_i32_8974
  let v8206 : BitVec 32 := Scalar.remsi v8203 v8205
  let c0_i32_8978 : BitVec 32 := 0#32
  let v8208 : BitVec 1 := Scalar.cmpi .slt v8206 c0_i32_8978
  let c0_i32_8979 : BitVec 32 := 0#32
  let v8209 : BitVec 1 := Scalar.cmpi .slt v8205 c0_i32_8979
  let v8210 : BitVec 1 := Scalar.xori v8208 v8209
  let c0_i32_8977 : BitVec 32 := 0#32
  let v8207 : BitVec 1 := Scalar.cmpi .ne v8206 c0_i32_8977
  let v8211 : BitVec 1 := Scalar.andi v8210 v8207
  let v8212 : BitVec 32 := Scalar.addi v8206 v8205
  let v8213 : BitVec 32 := Scalar.select v8211 v8212 v8206
  let c1_i32_8988 : BitVec 32 := 1#32
  let v8216 : BitVec 32 := Scalar.muli v8213 c1_i32_8988
  let v8217 : BitVec 32 := Scalar.addi c0_i32_8989 v8216
  v8217.toNat
def k0_dev291 (d0 : Dev nD) : Nat :=
  let c0_i32_9009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_8993 : BitVec 32 := 12#32
  let v8225 : BitVec 32 := Scalar.addi v2 c12_i32_8993
  let c32_i32_8994 : BitVec 32 := 32#32
  let c0_i32_8995 : BitVec 32 := 0#32
  let v8226 : BitVec 1 := Scalar.cmpi .eq c32_i32_8994 c0_i32_8995
  let c1_i32_8996 : BitVec 32 := 1#32
  let v8227 : BitVec 32 := Scalar.select v8226 c1_i32_8996 c32_i32_8994
  let v8228 : BitVec 32 := Scalar.remsi v8225 v8227
  let c0_i32_8998 : BitVec 32 := 0#32
  let v8230 : BitVec 1 := Scalar.cmpi .slt v8228 c0_i32_8998
  let c0_i32_8999 : BitVec 32 := 0#32
  let v8231 : BitVec 1 := Scalar.cmpi .slt v8227 c0_i32_8999
  let v8232 : BitVec 1 := Scalar.xori v8230 v8231
  let c0_i32_8997 : BitVec 32 := 0#32
  let v8229 : BitVec 1 := Scalar.cmpi .ne v8228 c0_i32_8997
  let v8233 : BitVec 1 := Scalar.andi v8232 v8229
  let v8234 : BitVec 32 := Scalar.addi v8228 v8227
  let v8235 : BitVec 32 := Scalar.select v8233 v8234 v8228
  let c1_i32_9008 : BitVec 32 := 1#32
  let v8238 : BitVec 32 := Scalar.muli v8235 c1_i32_9008
  let v8239 : BitVec 32 := Scalar.addi c0_i32_9009 v8238
  v8239.toNat
def k0_dev292 (d0 : Dev nD) : Nat :=
  let c0_i32_9029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_9013 : BitVec 32 := 13#32
  let v8247 : BitVec 32 := Scalar.addi v2 c13_i32_9013
  let c32_i32_9014 : BitVec 32 := 32#32
  let c0_i32_9015 : BitVec 32 := 0#32
  let v8248 : BitVec 1 := Scalar.cmpi .eq c32_i32_9014 c0_i32_9015
  let c1_i32_9016 : BitVec 32 := 1#32
  let v8249 : BitVec 32 := Scalar.select v8248 c1_i32_9016 c32_i32_9014
  let v8250 : BitVec 32 := Scalar.remsi v8247 v8249
  let c0_i32_9018 : BitVec 32 := 0#32
  let v8252 : BitVec 1 := Scalar.cmpi .slt v8250 c0_i32_9018
  let c0_i32_9019 : BitVec 32 := 0#32
  let v8253 : BitVec 1 := Scalar.cmpi .slt v8249 c0_i32_9019
  let v8254 : BitVec 1 := Scalar.xori v8252 v8253
  let c0_i32_9017 : BitVec 32 := 0#32
  let v8251 : BitVec 1 := Scalar.cmpi .ne v8250 c0_i32_9017
  let v8255 : BitVec 1 := Scalar.andi v8254 v8251
  let v8256 : BitVec 32 := Scalar.addi v8250 v8249
  let v8257 : BitVec 32 := Scalar.select v8255 v8256 v8250
  let c1_i32_9028 : BitVec 32 := 1#32
  let v8260 : BitVec 32 := Scalar.muli v8257 c1_i32_9028
  let v8261 : BitVec 32 := Scalar.addi c0_i32_9029 v8260
  v8261.toNat
def k0_dev293 (d0 : Dev nD) : Nat :=
  let c0_i32_9049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_9033 : BitVec 32 := 14#32
  let v8269 : BitVec 32 := Scalar.addi v2 c14_i32_9033
  let c32_i32_9034 : BitVec 32 := 32#32
  let c0_i32_9035 : BitVec 32 := 0#32
  let v8270 : BitVec 1 := Scalar.cmpi .eq c32_i32_9034 c0_i32_9035
  let c1_i32_9036 : BitVec 32 := 1#32
  let v8271 : BitVec 32 := Scalar.select v8270 c1_i32_9036 c32_i32_9034
  let v8272 : BitVec 32 := Scalar.remsi v8269 v8271
  let c0_i32_9038 : BitVec 32 := 0#32
  let v8274 : BitVec 1 := Scalar.cmpi .slt v8272 c0_i32_9038
  let c0_i32_9039 : BitVec 32 := 0#32
  let v8275 : BitVec 1 := Scalar.cmpi .slt v8271 c0_i32_9039
  let v8276 : BitVec 1 := Scalar.xori v8274 v8275
  let c0_i32_9037 : BitVec 32 := 0#32
  let v8273 : BitVec 1 := Scalar.cmpi .ne v8272 c0_i32_9037
  let v8277 : BitVec 1 := Scalar.andi v8276 v8273
  let v8278 : BitVec 32 := Scalar.addi v8272 v8271
  let v8279 : BitVec 32 := Scalar.select v8277 v8278 v8272
  let c1_i32_9048 : BitVec 32 := 1#32
  let v8282 : BitVec 32 := Scalar.muli v8279 c1_i32_9048
  let v8283 : BitVec 32 := Scalar.addi c0_i32_9049 v8282
  v8283.toNat
def k0_dev294 (d0 : Dev nD) : Nat :=
  let c0_i32_9069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_9053 : BitVec 32 := 15#32
  let v8291 : BitVec 32 := Scalar.addi v2 c15_i32_9053
  let c32_i32_9054 : BitVec 32 := 32#32
  let c0_i32_9055 : BitVec 32 := 0#32
  let v8292 : BitVec 1 := Scalar.cmpi .eq c32_i32_9054 c0_i32_9055
  let c1_i32_9056 : BitVec 32 := 1#32
  let v8293 : BitVec 32 := Scalar.select v8292 c1_i32_9056 c32_i32_9054
  let v8294 : BitVec 32 := Scalar.remsi v8291 v8293
  let c0_i32_9058 : BitVec 32 := 0#32
  let v8296 : BitVec 1 := Scalar.cmpi .slt v8294 c0_i32_9058
  let c0_i32_9059 : BitVec 32 := 0#32
  let v8297 : BitVec 1 := Scalar.cmpi .slt v8293 c0_i32_9059
  let v8298 : BitVec 1 := Scalar.xori v8296 v8297
  let c0_i32_9057 : BitVec 32 := 0#32
  let v8295 : BitVec 1 := Scalar.cmpi .ne v8294 c0_i32_9057
  let v8299 : BitVec 1 := Scalar.andi v8298 v8295
  let v8300 : BitVec 32 := Scalar.addi v8294 v8293
  let v8301 : BitVec 32 := Scalar.select v8299 v8300 v8294
  let c1_i32_9068 : BitVec 32 := 1#32
  let v8304 : BitVec 32 := Scalar.muli v8301 c1_i32_9068
  let v8305 : BitVec 32 := Scalar.addi c0_i32_9069 v8304
  v8305.toNat
def k0_dev295 (d0 : Dev nD) : Nat :=
  let c0_i32_9089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_9073 : BitVec 32 := 16#32
  let v8313 : BitVec 32 := Scalar.addi v2 c16_i32_9073
  let c32_i32_9074 : BitVec 32 := 32#32
  let c0_i32_9075 : BitVec 32 := 0#32
  let v8314 : BitVec 1 := Scalar.cmpi .eq c32_i32_9074 c0_i32_9075
  let c1_i32_9076 : BitVec 32 := 1#32
  let v8315 : BitVec 32 := Scalar.select v8314 c1_i32_9076 c32_i32_9074
  let v8316 : BitVec 32 := Scalar.remsi v8313 v8315
  let c0_i32_9078 : BitVec 32 := 0#32
  let v8318 : BitVec 1 := Scalar.cmpi .slt v8316 c0_i32_9078
  let c0_i32_9079 : BitVec 32 := 0#32
  let v8319 : BitVec 1 := Scalar.cmpi .slt v8315 c0_i32_9079
  let v8320 : BitVec 1 := Scalar.xori v8318 v8319
  let c0_i32_9077 : BitVec 32 := 0#32
  let v8317 : BitVec 1 := Scalar.cmpi .ne v8316 c0_i32_9077
  let v8321 : BitVec 1 := Scalar.andi v8320 v8317
  let v8322 : BitVec 32 := Scalar.addi v8316 v8315
  let v8323 : BitVec 32 := Scalar.select v8321 v8322 v8316
  let c1_i32_9088 : BitVec 32 := 1#32
  let v8326 : BitVec 32 := Scalar.muli v8323 c1_i32_9088
  let v8327 : BitVec 32 := Scalar.addi c0_i32_9089 v8326
  v8327.toNat
def k0_dev296 (d0 : Dev nD) : Nat :=
  let c0_i32_9109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_9093 : BitVec 32 := 17#32
  let v8335 : BitVec 32 := Scalar.addi v2 c17_i32_9093
  let c32_i32_9094 : BitVec 32 := 32#32
  let c0_i32_9095 : BitVec 32 := 0#32
  let v8336 : BitVec 1 := Scalar.cmpi .eq c32_i32_9094 c0_i32_9095
  let c1_i32_9096 : BitVec 32 := 1#32
  let v8337 : BitVec 32 := Scalar.select v8336 c1_i32_9096 c32_i32_9094
  let v8338 : BitVec 32 := Scalar.remsi v8335 v8337
  let c0_i32_9098 : BitVec 32 := 0#32
  let v8340 : BitVec 1 := Scalar.cmpi .slt v8338 c0_i32_9098
  let c0_i32_9099 : BitVec 32 := 0#32
  let v8341 : BitVec 1 := Scalar.cmpi .slt v8337 c0_i32_9099
  let v8342 : BitVec 1 := Scalar.xori v8340 v8341
  let c0_i32_9097 : BitVec 32 := 0#32
  let v8339 : BitVec 1 := Scalar.cmpi .ne v8338 c0_i32_9097
  let v8343 : BitVec 1 := Scalar.andi v8342 v8339
  let v8344 : BitVec 32 := Scalar.addi v8338 v8337
  let v8345 : BitVec 32 := Scalar.select v8343 v8344 v8338
  let c1_i32_9108 : BitVec 32 := 1#32
  let v8348 : BitVec 32 := Scalar.muli v8345 c1_i32_9108
  let v8349 : BitVec 32 := Scalar.addi c0_i32_9109 v8348
  v8349.toNat
def k0_dev297 (d0 : Dev nD) : Nat :=
  let c0_i32_9129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_9113 : BitVec 32 := 18#32
  let v8357 : BitVec 32 := Scalar.addi v2 c18_i32_9113
  let c32_i32_9114 : BitVec 32 := 32#32
  let c0_i32_9115 : BitVec 32 := 0#32
  let v8358 : BitVec 1 := Scalar.cmpi .eq c32_i32_9114 c0_i32_9115
  let c1_i32_9116 : BitVec 32 := 1#32
  let v8359 : BitVec 32 := Scalar.select v8358 c1_i32_9116 c32_i32_9114
  let v8360 : BitVec 32 := Scalar.remsi v8357 v8359
  let c0_i32_9118 : BitVec 32 := 0#32
  let v8362 : BitVec 1 := Scalar.cmpi .slt v8360 c0_i32_9118
  let c0_i32_9119 : BitVec 32 := 0#32
  let v8363 : BitVec 1 := Scalar.cmpi .slt v8359 c0_i32_9119
  let v8364 : BitVec 1 := Scalar.xori v8362 v8363
  let c0_i32_9117 : BitVec 32 := 0#32
  let v8361 : BitVec 1 := Scalar.cmpi .ne v8360 c0_i32_9117
  let v8365 : BitVec 1 := Scalar.andi v8364 v8361
  let v8366 : BitVec 32 := Scalar.addi v8360 v8359
  let v8367 : BitVec 32 := Scalar.select v8365 v8366 v8360
  let c1_i32_9128 : BitVec 32 := 1#32
  let v8370 : BitVec 32 := Scalar.muli v8367 c1_i32_9128
  let v8371 : BitVec 32 := Scalar.addi c0_i32_9129 v8370
  v8371.toNat
def k0_dev298 (d0 : Dev nD) : Nat :=
  let c0_i32_9149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_9133 : BitVec 32 := 19#32
  let v8379 : BitVec 32 := Scalar.addi v2 c19_i32_9133
  let c32_i32_9134 : BitVec 32 := 32#32
  let c0_i32_9135 : BitVec 32 := 0#32
  let v8380 : BitVec 1 := Scalar.cmpi .eq c32_i32_9134 c0_i32_9135
  let c1_i32_9136 : BitVec 32 := 1#32
  let v8381 : BitVec 32 := Scalar.select v8380 c1_i32_9136 c32_i32_9134
  let v8382 : BitVec 32 := Scalar.remsi v8379 v8381
  let c0_i32_9138 : BitVec 32 := 0#32
  let v8384 : BitVec 1 := Scalar.cmpi .slt v8382 c0_i32_9138
  let c0_i32_9139 : BitVec 32 := 0#32
  let v8385 : BitVec 1 := Scalar.cmpi .slt v8381 c0_i32_9139
  let v8386 : BitVec 1 := Scalar.xori v8384 v8385
  let c0_i32_9137 : BitVec 32 := 0#32
  let v8383 : BitVec 1 := Scalar.cmpi .ne v8382 c0_i32_9137
  let v8387 : BitVec 1 := Scalar.andi v8386 v8383
  let v8388 : BitVec 32 := Scalar.addi v8382 v8381
  let v8389 : BitVec 32 := Scalar.select v8387 v8388 v8382
  let c1_i32_9148 : BitVec 32 := 1#32
  let v8392 : BitVec 32 := Scalar.muli v8389 c1_i32_9148
  let v8393 : BitVec 32 := Scalar.addi c0_i32_9149 v8392
  v8393.toNat
def k0_dev299 (d0 : Dev nD) : Nat :=
  let c0_i32_9169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_9153 : BitVec 32 := 20#32
  let v8401 : BitVec 32 := Scalar.addi v2 c20_i32_9153
  let c32_i32_9154 : BitVec 32 := 32#32
  let c0_i32_9155 : BitVec 32 := 0#32
  let v8402 : BitVec 1 := Scalar.cmpi .eq c32_i32_9154 c0_i32_9155
  let c1_i32_9156 : BitVec 32 := 1#32
  let v8403 : BitVec 32 := Scalar.select v8402 c1_i32_9156 c32_i32_9154
  let v8404 : BitVec 32 := Scalar.remsi v8401 v8403
  let c0_i32_9158 : BitVec 32 := 0#32
  let v8406 : BitVec 1 := Scalar.cmpi .slt v8404 c0_i32_9158
  let c0_i32_9159 : BitVec 32 := 0#32
  let v8407 : BitVec 1 := Scalar.cmpi .slt v8403 c0_i32_9159
  let v8408 : BitVec 1 := Scalar.xori v8406 v8407
  let c0_i32_9157 : BitVec 32 := 0#32
  let v8405 : BitVec 1 := Scalar.cmpi .ne v8404 c0_i32_9157
  let v8409 : BitVec 1 := Scalar.andi v8408 v8405
  let v8410 : BitVec 32 := Scalar.addi v8404 v8403
  let v8411 : BitVec 32 := Scalar.select v8409 v8410 v8404
  let c1_i32_9168 : BitVec 32 := 1#32
  let v8414 : BitVec 32 := Scalar.muli v8411 c1_i32_9168
  let v8415 : BitVec 32 := Scalar.addi c0_i32_9169 v8414
  v8415.toNat
def k0_dev300 (d0 : Dev nD) : Nat :=
  let c0_i32_9189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_9173 : BitVec 32 := 21#32
  let v8423 : BitVec 32 := Scalar.addi v2 c21_i32_9173
  let c32_i32_9174 : BitVec 32 := 32#32
  let c0_i32_9175 : BitVec 32 := 0#32
  let v8424 : BitVec 1 := Scalar.cmpi .eq c32_i32_9174 c0_i32_9175
  let c1_i32_9176 : BitVec 32 := 1#32
  let v8425 : BitVec 32 := Scalar.select v8424 c1_i32_9176 c32_i32_9174
  let v8426 : BitVec 32 := Scalar.remsi v8423 v8425
  let c0_i32_9178 : BitVec 32 := 0#32
  let v8428 : BitVec 1 := Scalar.cmpi .slt v8426 c0_i32_9178
  let c0_i32_9179 : BitVec 32 := 0#32
  let v8429 : BitVec 1 := Scalar.cmpi .slt v8425 c0_i32_9179
  let v8430 : BitVec 1 := Scalar.xori v8428 v8429
  let c0_i32_9177 : BitVec 32 := 0#32
  let v8427 : BitVec 1 := Scalar.cmpi .ne v8426 c0_i32_9177
  let v8431 : BitVec 1 := Scalar.andi v8430 v8427
  let v8432 : BitVec 32 := Scalar.addi v8426 v8425
  let v8433 : BitVec 32 := Scalar.select v8431 v8432 v8426
  let c1_i32_9188 : BitVec 32 := 1#32
  let v8436 : BitVec 32 := Scalar.muli v8433 c1_i32_9188
  let v8437 : BitVec 32 := Scalar.addi c0_i32_9189 v8436
  v8437.toNat
def k0_dev301 (d0 : Dev nD) : Nat :=
  let c0_i32_9209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_9193 : BitVec 32 := 22#32
  let v8445 : BitVec 32 := Scalar.addi v2 c22_i32_9193
  let c32_i32_9194 : BitVec 32 := 32#32
  let c0_i32_9195 : BitVec 32 := 0#32
  let v8446 : BitVec 1 := Scalar.cmpi .eq c32_i32_9194 c0_i32_9195
  let c1_i32_9196 : BitVec 32 := 1#32
  let v8447 : BitVec 32 := Scalar.select v8446 c1_i32_9196 c32_i32_9194
  let v8448 : BitVec 32 := Scalar.remsi v8445 v8447
  let c0_i32_9198 : BitVec 32 := 0#32
  let v8450 : BitVec 1 := Scalar.cmpi .slt v8448 c0_i32_9198
  let c0_i32_9199 : BitVec 32 := 0#32
  let v8451 : BitVec 1 := Scalar.cmpi .slt v8447 c0_i32_9199
  let v8452 : BitVec 1 := Scalar.xori v8450 v8451
  let c0_i32_9197 : BitVec 32 := 0#32
  let v8449 : BitVec 1 := Scalar.cmpi .ne v8448 c0_i32_9197
  let v8453 : BitVec 1 := Scalar.andi v8452 v8449
  let v8454 : BitVec 32 := Scalar.addi v8448 v8447
  let v8455 : BitVec 32 := Scalar.select v8453 v8454 v8448
  let c1_i32_9208 : BitVec 32 := 1#32
  let v8458 : BitVec 32 := Scalar.muli v8455 c1_i32_9208
  let v8459 : BitVec 32 := Scalar.addi c0_i32_9209 v8458
  v8459.toNat
def k0_dev302 (d0 : Dev nD) : Nat :=
  let c0_i32_9229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_9213 : BitVec 32 := 23#32
  let v8467 : BitVec 32 := Scalar.addi v2 c23_i32_9213
  let c32_i32_9214 : BitVec 32 := 32#32
  let c0_i32_9215 : BitVec 32 := 0#32
  let v8468 : BitVec 1 := Scalar.cmpi .eq c32_i32_9214 c0_i32_9215
  let c1_i32_9216 : BitVec 32 := 1#32
  let v8469 : BitVec 32 := Scalar.select v8468 c1_i32_9216 c32_i32_9214
  let v8470 : BitVec 32 := Scalar.remsi v8467 v8469
  let c0_i32_9218 : BitVec 32 := 0#32
  let v8472 : BitVec 1 := Scalar.cmpi .slt v8470 c0_i32_9218
  let c0_i32_9219 : BitVec 32 := 0#32
  let v8473 : BitVec 1 := Scalar.cmpi .slt v8469 c0_i32_9219
  let v8474 : BitVec 1 := Scalar.xori v8472 v8473
  let c0_i32_9217 : BitVec 32 := 0#32
  let v8471 : BitVec 1 := Scalar.cmpi .ne v8470 c0_i32_9217
  let v8475 : BitVec 1 := Scalar.andi v8474 v8471
  let v8476 : BitVec 32 := Scalar.addi v8470 v8469
  let v8477 : BitVec 32 := Scalar.select v8475 v8476 v8470
  let c1_i32_9228 : BitVec 32 := 1#32
  let v8480 : BitVec 32 := Scalar.muli v8477 c1_i32_9228
  let v8481 : BitVec 32 := Scalar.addi c0_i32_9229 v8480
  v8481.toNat
def k0_dev303 (d0 : Dev nD) : Nat :=
  let c0_i32_9249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_9233 : BitVec 32 := 24#32
  let v8489 : BitVec 32 := Scalar.addi v2 c24_i32_9233
  let c32_i32_9234 : BitVec 32 := 32#32
  let c0_i32_9235 : BitVec 32 := 0#32
  let v8490 : BitVec 1 := Scalar.cmpi .eq c32_i32_9234 c0_i32_9235
  let c1_i32_9236 : BitVec 32 := 1#32
  let v8491 : BitVec 32 := Scalar.select v8490 c1_i32_9236 c32_i32_9234
  let v8492 : BitVec 32 := Scalar.remsi v8489 v8491
  let c0_i32_9238 : BitVec 32 := 0#32
  let v8494 : BitVec 1 := Scalar.cmpi .slt v8492 c0_i32_9238
  let c0_i32_9239 : BitVec 32 := 0#32
  let v8495 : BitVec 1 := Scalar.cmpi .slt v8491 c0_i32_9239
  let v8496 : BitVec 1 := Scalar.xori v8494 v8495
  let c0_i32_9237 : BitVec 32 := 0#32
  let v8493 : BitVec 1 := Scalar.cmpi .ne v8492 c0_i32_9237
  let v8497 : BitVec 1 := Scalar.andi v8496 v8493
  let v8498 : BitVec 32 := Scalar.addi v8492 v8491
  let v8499 : BitVec 32 := Scalar.select v8497 v8498 v8492
  let c1_i32_9248 : BitVec 32 := 1#32
  let v8502 : BitVec 32 := Scalar.muli v8499 c1_i32_9248
  let v8503 : BitVec 32 := Scalar.addi c0_i32_9249 v8502
  v8503.toNat
def k0_dev304 (d0 : Dev nD) : Nat :=
  let c0_i32_9269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_9253 : BitVec 32 := 25#32
  let v8511 : BitVec 32 := Scalar.addi v2 c25_i32_9253
  let c32_i32_9254 : BitVec 32 := 32#32
  let c0_i32_9255 : BitVec 32 := 0#32
  let v8512 : BitVec 1 := Scalar.cmpi .eq c32_i32_9254 c0_i32_9255
  let c1_i32_9256 : BitVec 32 := 1#32
  let v8513 : BitVec 32 := Scalar.select v8512 c1_i32_9256 c32_i32_9254
  let v8514 : BitVec 32 := Scalar.remsi v8511 v8513
  let c0_i32_9258 : BitVec 32 := 0#32
  let v8516 : BitVec 1 := Scalar.cmpi .slt v8514 c0_i32_9258
  let c0_i32_9259 : BitVec 32 := 0#32
  let v8517 : BitVec 1 := Scalar.cmpi .slt v8513 c0_i32_9259
  let v8518 : BitVec 1 := Scalar.xori v8516 v8517
  let c0_i32_9257 : BitVec 32 := 0#32
  let v8515 : BitVec 1 := Scalar.cmpi .ne v8514 c0_i32_9257
  let v8519 : BitVec 1 := Scalar.andi v8518 v8515
  let v8520 : BitVec 32 := Scalar.addi v8514 v8513
  let v8521 : BitVec 32 := Scalar.select v8519 v8520 v8514
  let c1_i32_9268 : BitVec 32 := 1#32
  let v8524 : BitVec 32 := Scalar.muli v8521 c1_i32_9268
  let v8525 : BitVec 32 := Scalar.addi c0_i32_9269 v8524
  v8525.toNat
def k0_dev305 (d0 : Dev nD) : Nat :=
  let c0_i32_9289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_9273 : BitVec 32 := 26#32
  let v8533 : BitVec 32 := Scalar.addi v2 c26_i32_9273
  let c32_i32_9274 : BitVec 32 := 32#32
  let c0_i32_9275 : BitVec 32 := 0#32
  let v8534 : BitVec 1 := Scalar.cmpi .eq c32_i32_9274 c0_i32_9275
  let c1_i32_9276 : BitVec 32 := 1#32
  let v8535 : BitVec 32 := Scalar.select v8534 c1_i32_9276 c32_i32_9274
  let v8536 : BitVec 32 := Scalar.remsi v8533 v8535
  let c0_i32_9278 : BitVec 32 := 0#32
  let v8538 : BitVec 1 := Scalar.cmpi .slt v8536 c0_i32_9278
  let c0_i32_9279 : BitVec 32 := 0#32
  let v8539 : BitVec 1 := Scalar.cmpi .slt v8535 c0_i32_9279
  let v8540 : BitVec 1 := Scalar.xori v8538 v8539
  let c0_i32_9277 : BitVec 32 := 0#32
  let v8537 : BitVec 1 := Scalar.cmpi .ne v8536 c0_i32_9277
  let v8541 : BitVec 1 := Scalar.andi v8540 v8537
  let v8542 : BitVec 32 := Scalar.addi v8536 v8535
  let v8543 : BitVec 32 := Scalar.select v8541 v8542 v8536
  let c1_i32_9288 : BitVec 32 := 1#32
  let v8546 : BitVec 32 := Scalar.muli v8543 c1_i32_9288
  let v8547 : BitVec 32 := Scalar.addi c0_i32_9289 v8546
  v8547.toNat
def k0_dev306 (d0 : Dev nD) : Nat :=
  let c0_i32_9309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_9293 : BitVec 32 := 27#32
  let v8555 : BitVec 32 := Scalar.addi v2 c27_i32_9293
  let c32_i32_9294 : BitVec 32 := 32#32
  let c0_i32_9295 : BitVec 32 := 0#32
  let v8556 : BitVec 1 := Scalar.cmpi .eq c32_i32_9294 c0_i32_9295
  let c1_i32_9296 : BitVec 32 := 1#32
  let v8557 : BitVec 32 := Scalar.select v8556 c1_i32_9296 c32_i32_9294
  let v8558 : BitVec 32 := Scalar.remsi v8555 v8557
  let c0_i32_9298 : BitVec 32 := 0#32
  let v8560 : BitVec 1 := Scalar.cmpi .slt v8558 c0_i32_9298
  let c0_i32_9299 : BitVec 32 := 0#32
  let v8561 : BitVec 1 := Scalar.cmpi .slt v8557 c0_i32_9299
  let v8562 : BitVec 1 := Scalar.xori v8560 v8561
  let c0_i32_9297 : BitVec 32 := 0#32
  let v8559 : BitVec 1 := Scalar.cmpi .ne v8558 c0_i32_9297
  let v8563 : BitVec 1 := Scalar.andi v8562 v8559
  let v8564 : BitVec 32 := Scalar.addi v8558 v8557
  let v8565 : BitVec 32 := Scalar.select v8563 v8564 v8558
  let c1_i32_9308 : BitVec 32 := 1#32
  let v8568 : BitVec 32 := Scalar.muli v8565 c1_i32_9308
  let v8569 : BitVec 32 := Scalar.addi c0_i32_9309 v8568
  v8569.toNat
def k0_dev307 (d0 : Dev nD) : Nat :=
  let c0_i32_9329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_9313 : BitVec 32 := 28#32
  let v8577 : BitVec 32 := Scalar.addi v2 c28_i32_9313
  let c32_i32_9314 : BitVec 32 := 32#32
  let c0_i32_9315 : BitVec 32 := 0#32
  let v8578 : BitVec 1 := Scalar.cmpi .eq c32_i32_9314 c0_i32_9315
  let c1_i32_9316 : BitVec 32 := 1#32
  let v8579 : BitVec 32 := Scalar.select v8578 c1_i32_9316 c32_i32_9314
  let v8580 : BitVec 32 := Scalar.remsi v8577 v8579
  let c0_i32_9318 : BitVec 32 := 0#32
  let v8582 : BitVec 1 := Scalar.cmpi .slt v8580 c0_i32_9318
  let c0_i32_9319 : BitVec 32 := 0#32
  let v8583 : BitVec 1 := Scalar.cmpi .slt v8579 c0_i32_9319
  let v8584 : BitVec 1 := Scalar.xori v8582 v8583
  let c0_i32_9317 : BitVec 32 := 0#32
  let v8581 : BitVec 1 := Scalar.cmpi .ne v8580 c0_i32_9317
  let v8585 : BitVec 1 := Scalar.andi v8584 v8581
  let v8586 : BitVec 32 := Scalar.addi v8580 v8579
  let v8587 : BitVec 32 := Scalar.select v8585 v8586 v8580
  let c1_i32_9328 : BitVec 32 := 1#32
  let v8590 : BitVec 32 := Scalar.muli v8587 c1_i32_9328
  let v8591 : BitVec 32 := Scalar.addi c0_i32_9329 v8590
  v8591.toNat
def k0_dev308 (d0 : Dev nD) : Nat :=
  let c0_i32_9349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_9333 : BitVec 32 := 29#32
  let v8599 : BitVec 32 := Scalar.addi v2 c29_i32_9333
  let c32_i32_9334 : BitVec 32 := 32#32
  let c0_i32_9335 : BitVec 32 := 0#32
  let v8600 : BitVec 1 := Scalar.cmpi .eq c32_i32_9334 c0_i32_9335
  let c1_i32_9336 : BitVec 32 := 1#32
  let v8601 : BitVec 32 := Scalar.select v8600 c1_i32_9336 c32_i32_9334
  let v8602 : BitVec 32 := Scalar.remsi v8599 v8601
  let c0_i32_9338 : BitVec 32 := 0#32
  let v8604 : BitVec 1 := Scalar.cmpi .slt v8602 c0_i32_9338
  let c0_i32_9339 : BitVec 32 := 0#32
  let v8605 : BitVec 1 := Scalar.cmpi .slt v8601 c0_i32_9339
  let v8606 : BitVec 1 := Scalar.xori v8604 v8605
  let c0_i32_9337 : BitVec 32 := 0#32
  let v8603 : BitVec 1 := Scalar.cmpi .ne v8602 c0_i32_9337
  let v8607 : BitVec 1 := Scalar.andi v8606 v8603
  let v8608 : BitVec 32 := Scalar.addi v8602 v8601
  let v8609 : BitVec 32 := Scalar.select v8607 v8608 v8602
  let c1_i32_9348 : BitVec 32 := 1#32
  let v8612 : BitVec 32 := Scalar.muli v8609 c1_i32_9348
  let v8613 : BitVec 32 := Scalar.addi c0_i32_9349 v8612
  v8613.toNat
def k0_dev309 (d0 : Dev nD) : Nat :=
  let c0_i32_9369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_9353 : BitVec 32 := 30#32
  let v8621 : BitVec 32 := Scalar.addi v2 c30_i32_9353
  let c32_i32_9354 : BitVec 32 := 32#32
  let c0_i32_9355 : BitVec 32 := 0#32
  let v8622 : BitVec 1 := Scalar.cmpi .eq c32_i32_9354 c0_i32_9355
  let c1_i32_9356 : BitVec 32 := 1#32
  let v8623 : BitVec 32 := Scalar.select v8622 c1_i32_9356 c32_i32_9354
  let v8624 : BitVec 32 := Scalar.remsi v8621 v8623
  let c0_i32_9358 : BitVec 32 := 0#32
  let v8626 : BitVec 1 := Scalar.cmpi .slt v8624 c0_i32_9358
  let c0_i32_9359 : BitVec 32 := 0#32
  let v8627 : BitVec 1 := Scalar.cmpi .slt v8623 c0_i32_9359
  let v8628 : BitVec 1 := Scalar.xori v8626 v8627
  let c0_i32_9357 : BitVec 32 := 0#32
  let v8625 : BitVec 1 := Scalar.cmpi .ne v8624 c0_i32_9357
  let v8629 : BitVec 1 := Scalar.andi v8628 v8625
  let v8630 : BitVec 32 := Scalar.addi v8624 v8623
  let v8631 : BitVec 32 := Scalar.select v8629 v8630 v8624
  let c1_i32_9368 : BitVec 32 := 1#32
  let v8634 : BitVec 32 := Scalar.muli v8631 c1_i32_9368
  let v8635 : BitVec 32 := Scalar.addi c0_i32_9369 v8634
  v8635.toNat
def k0_dev310 (d0 : Dev nD) : Nat :=
  let c0_i32_9389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_9373 : BitVec 32 := 31#32
  let v8643 : BitVec 32 := Scalar.addi v2 c31_i32_9373
  let c32_i32_9374 : BitVec 32 := 32#32
  let c0_i32_9375 : BitVec 32 := 0#32
  let v8644 : BitVec 1 := Scalar.cmpi .eq c32_i32_9374 c0_i32_9375
  let c1_i32_9376 : BitVec 32 := 1#32
  let v8645 : BitVec 32 := Scalar.select v8644 c1_i32_9376 c32_i32_9374
  let v8646 : BitVec 32 := Scalar.remsi v8643 v8645
  let c0_i32_9378 : BitVec 32 := 0#32
  let v8648 : BitVec 1 := Scalar.cmpi .slt v8646 c0_i32_9378
  let c0_i32_9379 : BitVec 32 := 0#32
  let v8649 : BitVec 1 := Scalar.cmpi .slt v8645 c0_i32_9379
  let v8650 : BitVec 1 := Scalar.xori v8648 v8649
  let c0_i32_9377 : BitVec 32 := 0#32
  let v8647 : BitVec 1 := Scalar.cmpi .ne v8646 c0_i32_9377
  let v8651 : BitVec 1 := Scalar.andi v8650 v8647
  let v8652 : BitVec 32 := Scalar.addi v8646 v8645
  let v8653 : BitVec 32 := Scalar.select v8651 v8652 v8646
  let c1_i32_9388 : BitVec 32 := 1#32
  let v8656 : BitVec 32 := Scalar.muli v8653 c1_i32_9388
  let v8657 : BitVec 32 := Scalar.addi c0_i32_9389 v8656
  v8657.toNat
def k0_dev311 (d0 : Dev nD) : Nat :=
  let c0_i32_10197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_10181 : BitVec 32 := 1#32
  let v9143 : BitVec 32 := Scalar.addi v2 c1_i32_10181
  let c32_i32_10182 : BitVec 32 := 32#32
  let c0_i32_10183 : BitVec 32 := 0#32
  let v9144 : BitVec 1 := Scalar.cmpi .eq c32_i32_10182 c0_i32_10183
  let c1_i32_10184 : BitVec 32 := 1#32
  let v9145 : BitVec 32 := Scalar.select v9144 c1_i32_10184 c32_i32_10182
  let v9146 : BitVec 32 := Scalar.remsi v9143 v9145
  let c0_i32_10186 : BitVec 32 := 0#32
  let v9148 : BitVec 1 := Scalar.cmpi .slt v9146 c0_i32_10186
  let c0_i32_10187 : BitVec 32 := 0#32
  let v9149 : BitVec 1 := Scalar.cmpi .slt v9145 c0_i32_10187
  let v9150 : BitVec 1 := Scalar.xori v9148 v9149
  let c0_i32_10185 : BitVec 32 := 0#32
  let v9147 : BitVec 1 := Scalar.cmpi .ne v9146 c0_i32_10185
  let v9151 : BitVec 1 := Scalar.andi v9150 v9147
  let v9152 : BitVec 32 := Scalar.addi v9146 v9145
  let v9153 : BitVec 32 := Scalar.select v9151 v9152 v9146
  let c1_i32_10196 : BitVec 32 := 1#32
  let v9156 : BitVec 32 := Scalar.muli v9153 c1_i32_10196
  let v9157 : BitVec 32 := Scalar.addi c0_i32_10197 v9156
  v9157.toNat
def k0_dev312 (d0 : Dev nD) : Nat :=
  let c0_i32_10217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_10201 : BitVec 32 := 2#32
  let v9165 : BitVec 32 := Scalar.addi v2 c2_i32_10201
  let c32_i32_10202 : BitVec 32 := 32#32
  let c0_i32_10203 : BitVec 32 := 0#32
  let v9166 : BitVec 1 := Scalar.cmpi .eq c32_i32_10202 c0_i32_10203
  let c1_i32_10204 : BitVec 32 := 1#32
  let v9167 : BitVec 32 := Scalar.select v9166 c1_i32_10204 c32_i32_10202
  let v9168 : BitVec 32 := Scalar.remsi v9165 v9167
  let c0_i32_10206 : BitVec 32 := 0#32
  let v9170 : BitVec 1 := Scalar.cmpi .slt v9168 c0_i32_10206
  let c0_i32_10207 : BitVec 32 := 0#32
  let v9171 : BitVec 1 := Scalar.cmpi .slt v9167 c0_i32_10207
  let v9172 : BitVec 1 := Scalar.xori v9170 v9171
  let c0_i32_10205 : BitVec 32 := 0#32
  let v9169 : BitVec 1 := Scalar.cmpi .ne v9168 c0_i32_10205
  let v9173 : BitVec 1 := Scalar.andi v9172 v9169
  let v9174 : BitVec 32 := Scalar.addi v9168 v9167
  let v9175 : BitVec 32 := Scalar.select v9173 v9174 v9168
  let c1_i32_10216 : BitVec 32 := 1#32
  let v9178 : BitVec 32 := Scalar.muli v9175 c1_i32_10216
  let v9179 : BitVec 32 := Scalar.addi c0_i32_10217 v9178
  v9179.toNat
def k0_dev313 (d0 : Dev nD) : Nat :=
  let c0_i32_10237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_10221 : BitVec 32 := 3#32
  let v9187 : BitVec 32 := Scalar.addi v2 c3_i32_10221
  let c32_i32_10222 : BitVec 32 := 32#32
  let c0_i32_10223 : BitVec 32 := 0#32
  let v9188 : BitVec 1 := Scalar.cmpi .eq c32_i32_10222 c0_i32_10223
  let c1_i32_10224 : BitVec 32 := 1#32
  let v9189 : BitVec 32 := Scalar.select v9188 c1_i32_10224 c32_i32_10222
  let v9190 : BitVec 32 := Scalar.remsi v9187 v9189
  let c0_i32_10226 : BitVec 32 := 0#32
  let v9192 : BitVec 1 := Scalar.cmpi .slt v9190 c0_i32_10226
  let c0_i32_10227 : BitVec 32 := 0#32
  let v9193 : BitVec 1 := Scalar.cmpi .slt v9189 c0_i32_10227
  let v9194 : BitVec 1 := Scalar.xori v9192 v9193
  let c0_i32_10225 : BitVec 32 := 0#32
  let v9191 : BitVec 1 := Scalar.cmpi .ne v9190 c0_i32_10225
  let v9195 : BitVec 1 := Scalar.andi v9194 v9191
  let v9196 : BitVec 32 := Scalar.addi v9190 v9189
  let v9197 : BitVec 32 := Scalar.select v9195 v9196 v9190
  let c1_i32_10236 : BitVec 32 := 1#32
  let v9200 : BitVec 32 := Scalar.muli v9197 c1_i32_10236
  let v9201 : BitVec 32 := Scalar.addi c0_i32_10237 v9200
  v9201.toNat
def k0_dev314 (d0 : Dev nD) : Nat :=
  let c0_i32_10257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_10241 : BitVec 32 := 4#32
  let v9209 : BitVec 32 := Scalar.addi v2 c4_i32_10241
  let c32_i32_10242 : BitVec 32 := 32#32
  let c0_i32_10243 : BitVec 32 := 0#32
  let v9210 : BitVec 1 := Scalar.cmpi .eq c32_i32_10242 c0_i32_10243
  let c1_i32_10244 : BitVec 32 := 1#32
  let v9211 : BitVec 32 := Scalar.select v9210 c1_i32_10244 c32_i32_10242
  let v9212 : BitVec 32 := Scalar.remsi v9209 v9211
  let c0_i32_10246 : BitVec 32 := 0#32
  let v9214 : BitVec 1 := Scalar.cmpi .slt v9212 c0_i32_10246
  let c0_i32_10247 : BitVec 32 := 0#32
  let v9215 : BitVec 1 := Scalar.cmpi .slt v9211 c0_i32_10247
  let v9216 : BitVec 1 := Scalar.xori v9214 v9215
  let c0_i32_10245 : BitVec 32 := 0#32
  let v9213 : BitVec 1 := Scalar.cmpi .ne v9212 c0_i32_10245
  let v9217 : BitVec 1 := Scalar.andi v9216 v9213
  let v9218 : BitVec 32 := Scalar.addi v9212 v9211
  let v9219 : BitVec 32 := Scalar.select v9217 v9218 v9212
  let c1_i32_10256 : BitVec 32 := 1#32
  let v9222 : BitVec 32 := Scalar.muli v9219 c1_i32_10256
  let v9223 : BitVec 32 := Scalar.addi c0_i32_10257 v9222
  v9223.toNat
def k0_dev315 (d0 : Dev nD) : Nat :=
  let c0_i32_10277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_10261 : BitVec 32 := 5#32
  let v9231 : BitVec 32 := Scalar.addi v2 c5_i32_10261
  let c32_i32_10262 : BitVec 32 := 32#32
  let c0_i32_10263 : BitVec 32 := 0#32
  let v9232 : BitVec 1 := Scalar.cmpi .eq c32_i32_10262 c0_i32_10263
  let c1_i32_10264 : BitVec 32 := 1#32
  let v9233 : BitVec 32 := Scalar.select v9232 c1_i32_10264 c32_i32_10262
  let v9234 : BitVec 32 := Scalar.remsi v9231 v9233
  let c0_i32_10266 : BitVec 32 := 0#32
  let v9236 : BitVec 1 := Scalar.cmpi .slt v9234 c0_i32_10266
  let c0_i32_10267 : BitVec 32 := 0#32
  let v9237 : BitVec 1 := Scalar.cmpi .slt v9233 c0_i32_10267
  let v9238 : BitVec 1 := Scalar.xori v9236 v9237
  let c0_i32_10265 : BitVec 32 := 0#32
  let v9235 : BitVec 1 := Scalar.cmpi .ne v9234 c0_i32_10265
  let v9239 : BitVec 1 := Scalar.andi v9238 v9235
  let v9240 : BitVec 32 := Scalar.addi v9234 v9233
  let v9241 : BitVec 32 := Scalar.select v9239 v9240 v9234
  let c1_i32_10276 : BitVec 32 := 1#32
  let v9244 : BitVec 32 := Scalar.muli v9241 c1_i32_10276
  let v9245 : BitVec 32 := Scalar.addi c0_i32_10277 v9244
  v9245.toNat
def k0_dev316 (d0 : Dev nD) : Nat :=
  let c0_i32_10297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_10281 : BitVec 32 := 6#32
  let v9253 : BitVec 32 := Scalar.addi v2 c6_i32_10281
  let c32_i32_10282 : BitVec 32 := 32#32
  let c0_i32_10283 : BitVec 32 := 0#32
  let v9254 : BitVec 1 := Scalar.cmpi .eq c32_i32_10282 c0_i32_10283
  let c1_i32_10284 : BitVec 32 := 1#32
  let v9255 : BitVec 32 := Scalar.select v9254 c1_i32_10284 c32_i32_10282
  let v9256 : BitVec 32 := Scalar.remsi v9253 v9255
  let c0_i32_10286 : BitVec 32 := 0#32
  let v9258 : BitVec 1 := Scalar.cmpi .slt v9256 c0_i32_10286
  let c0_i32_10287 : BitVec 32 := 0#32
  let v9259 : BitVec 1 := Scalar.cmpi .slt v9255 c0_i32_10287
  let v9260 : BitVec 1 := Scalar.xori v9258 v9259
  let c0_i32_10285 : BitVec 32 := 0#32
  let v9257 : BitVec 1 := Scalar.cmpi .ne v9256 c0_i32_10285
  let v9261 : BitVec 1 := Scalar.andi v9260 v9257
  let v9262 : BitVec 32 := Scalar.addi v9256 v9255
  let v9263 : BitVec 32 := Scalar.select v9261 v9262 v9256
  let c1_i32_10296 : BitVec 32 := 1#32
  let v9266 : BitVec 32 := Scalar.muli v9263 c1_i32_10296
  let v9267 : BitVec 32 := Scalar.addi c0_i32_10297 v9266
  v9267.toNat
def k0_dev317 (d0 : Dev nD) : Nat :=
  let c0_i32_10317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_10301 : BitVec 32 := 7#32
  let v9275 : BitVec 32 := Scalar.addi v2 c7_i32_10301
  let c32_i32_10302 : BitVec 32 := 32#32
  let c0_i32_10303 : BitVec 32 := 0#32
  let v9276 : BitVec 1 := Scalar.cmpi .eq c32_i32_10302 c0_i32_10303
  let c1_i32_10304 : BitVec 32 := 1#32
  let v9277 : BitVec 32 := Scalar.select v9276 c1_i32_10304 c32_i32_10302
  let v9278 : BitVec 32 := Scalar.remsi v9275 v9277
  let c0_i32_10306 : BitVec 32 := 0#32
  let v9280 : BitVec 1 := Scalar.cmpi .slt v9278 c0_i32_10306
  let c0_i32_10307 : BitVec 32 := 0#32
  let v9281 : BitVec 1 := Scalar.cmpi .slt v9277 c0_i32_10307
  let v9282 : BitVec 1 := Scalar.xori v9280 v9281
  let c0_i32_10305 : BitVec 32 := 0#32
  let v9279 : BitVec 1 := Scalar.cmpi .ne v9278 c0_i32_10305
  let v9283 : BitVec 1 := Scalar.andi v9282 v9279
  let v9284 : BitVec 32 := Scalar.addi v9278 v9277
  let v9285 : BitVec 32 := Scalar.select v9283 v9284 v9278
  let c1_i32_10316 : BitVec 32 := 1#32
  let v9288 : BitVec 32 := Scalar.muli v9285 c1_i32_10316
  let v9289 : BitVec 32 := Scalar.addi c0_i32_10317 v9288
  v9289.toNat
def k0_dev318 (d0 : Dev nD) : Nat :=
  let c0_i32_10337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10321 : BitVec 32 := 8#32
  let v9297 : BitVec 32 := Scalar.addi v2 c8_i32_10321
  let c32_i32_10322 : BitVec 32 := 32#32
  let c0_i32_10323 : BitVec 32 := 0#32
  let v9298 : BitVec 1 := Scalar.cmpi .eq c32_i32_10322 c0_i32_10323
  let c1_i32_10324 : BitVec 32 := 1#32
  let v9299 : BitVec 32 := Scalar.select v9298 c1_i32_10324 c32_i32_10322
  let v9300 : BitVec 32 := Scalar.remsi v9297 v9299
  let c0_i32_10326 : BitVec 32 := 0#32
  let v9302 : BitVec 1 := Scalar.cmpi .slt v9300 c0_i32_10326
  let c0_i32_10327 : BitVec 32 := 0#32
  let v9303 : BitVec 1 := Scalar.cmpi .slt v9299 c0_i32_10327
  let v9304 : BitVec 1 := Scalar.xori v9302 v9303
  let c0_i32_10325 : BitVec 32 := 0#32
  let v9301 : BitVec 1 := Scalar.cmpi .ne v9300 c0_i32_10325
  let v9305 : BitVec 1 := Scalar.andi v9304 v9301
  let v9306 : BitVec 32 := Scalar.addi v9300 v9299
  let v9307 : BitVec 32 := Scalar.select v9305 v9306 v9300
  let c1_i32_10336 : BitVec 32 := 1#32
  let v9310 : BitVec 32 := Scalar.muli v9307 c1_i32_10336
  let v9311 : BitVec 32 := Scalar.addi c0_i32_10337 v9310
  v9311.toNat
def k0_dev319 (d0 : Dev nD) : Nat :=
  let c0_i32_10357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_10341 : BitVec 32 := 9#32
  let v9319 : BitVec 32 := Scalar.addi v2 c9_i32_10341
  let c32_i32_10342 : BitVec 32 := 32#32
  let c0_i32_10343 : BitVec 32 := 0#32
  let v9320 : BitVec 1 := Scalar.cmpi .eq c32_i32_10342 c0_i32_10343
  let c1_i32_10344 : BitVec 32 := 1#32
  let v9321 : BitVec 32 := Scalar.select v9320 c1_i32_10344 c32_i32_10342
  let v9322 : BitVec 32 := Scalar.remsi v9319 v9321
  let c0_i32_10346 : BitVec 32 := 0#32
  let v9324 : BitVec 1 := Scalar.cmpi .slt v9322 c0_i32_10346
  let c0_i32_10347 : BitVec 32 := 0#32
  let v9325 : BitVec 1 := Scalar.cmpi .slt v9321 c0_i32_10347
  let v9326 : BitVec 1 := Scalar.xori v9324 v9325
  let c0_i32_10345 : BitVec 32 := 0#32
  let v9323 : BitVec 1 := Scalar.cmpi .ne v9322 c0_i32_10345
  let v9327 : BitVec 1 := Scalar.andi v9326 v9323
  let v9328 : BitVec 32 := Scalar.addi v9322 v9321
  let v9329 : BitVec 32 := Scalar.select v9327 v9328 v9322
  let c1_i32_10356 : BitVec 32 := 1#32
  let v9332 : BitVec 32 := Scalar.muli v9329 c1_i32_10356
  let v9333 : BitVec 32 := Scalar.addi c0_i32_10357 v9332
  v9333.toNat
def k0_dev320 (d0 : Dev nD) : Nat :=
  let c0_i32_10377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_10361 : BitVec 32 := 10#32
  let v9341 : BitVec 32 := Scalar.addi v2 c10_i32_10361
  let c32_i32_10362 : BitVec 32 := 32#32
  let c0_i32_10363 : BitVec 32 := 0#32
  let v9342 : BitVec 1 := Scalar.cmpi .eq c32_i32_10362 c0_i32_10363
  let c1_i32_10364 : BitVec 32 := 1#32
  let v9343 : BitVec 32 := Scalar.select v9342 c1_i32_10364 c32_i32_10362
  let v9344 : BitVec 32 := Scalar.remsi v9341 v9343
  let c0_i32_10366 : BitVec 32 := 0#32
  let v9346 : BitVec 1 := Scalar.cmpi .slt v9344 c0_i32_10366
  let c0_i32_10367 : BitVec 32 := 0#32
  let v9347 : BitVec 1 := Scalar.cmpi .slt v9343 c0_i32_10367
  let v9348 : BitVec 1 := Scalar.xori v9346 v9347
  let c0_i32_10365 : BitVec 32 := 0#32
  let v9345 : BitVec 1 := Scalar.cmpi .ne v9344 c0_i32_10365
  let v9349 : BitVec 1 := Scalar.andi v9348 v9345
  let v9350 : BitVec 32 := Scalar.addi v9344 v9343
  let v9351 : BitVec 32 := Scalar.select v9349 v9350 v9344
  let c1_i32_10376 : BitVec 32 := 1#32
  let v9354 : BitVec 32 := Scalar.muli v9351 c1_i32_10376
  let v9355 : BitVec 32 := Scalar.addi c0_i32_10377 v9354
  v9355.toNat
def k0_dev321 (d0 : Dev nD) : Nat :=
  let c0_i32_10397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_10381 : BitVec 32 := 11#32
  let v9363 : BitVec 32 := Scalar.addi v2 c11_i32_10381
  let c32_i32_10382 : BitVec 32 := 32#32
  let c0_i32_10383 : BitVec 32 := 0#32
  let v9364 : BitVec 1 := Scalar.cmpi .eq c32_i32_10382 c0_i32_10383
  let c1_i32_10384 : BitVec 32 := 1#32
  let v9365 : BitVec 32 := Scalar.select v9364 c1_i32_10384 c32_i32_10382
  let v9366 : BitVec 32 := Scalar.remsi v9363 v9365
  let c0_i32_10386 : BitVec 32 := 0#32
  let v9368 : BitVec 1 := Scalar.cmpi .slt v9366 c0_i32_10386
  let c0_i32_10387 : BitVec 32 := 0#32
  let v9369 : BitVec 1 := Scalar.cmpi .slt v9365 c0_i32_10387
  let v9370 : BitVec 1 := Scalar.xori v9368 v9369
  let c0_i32_10385 : BitVec 32 := 0#32
  let v9367 : BitVec 1 := Scalar.cmpi .ne v9366 c0_i32_10385
  let v9371 : BitVec 1 := Scalar.andi v9370 v9367
  let v9372 : BitVec 32 := Scalar.addi v9366 v9365
  let v9373 : BitVec 32 := Scalar.select v9371 v9372 v9366
  let c1_i32_10396 : BitVec 32 := 1#32
  let v9376 : BitVec 32 := Scalar.muli v9373 c1_i32_10396
  let v9377 : BitVec 32 := Scalar.addi c0_i32_10397 v9376
  v9377.toNat
def k0_dev322 (d0 : Dev nD) : Nat :=
  let c0_i32_10417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_10401 : BitVec 32 := 12#32
  let v9385 : BitVec 32 := Scalar.addi v2 c12_i32_10401
  let c32_i32_10402 : BitVec 32 := 32#32
  let c0_i32_10403 : BitVec 32 := 0#32
  let v9386 : BitVec 1 := Scalar.cmpi .eq c32_i32_10402 c0_i32_10403
  let c1_i32_10404 : BitVec 32 := 1#32
  let v9387 : BitVec 32 := Scalar.select v9386 c1_i32_10404 c32_i32_10402
  let v9388 : BitVec 32 := Scalar.remsi v9385 v9387
  let c0_i32_10406 : BitVec 32 := 0#32
  let v9390 : BitVec 1 := Scalar.cmpi .slt v9388 c0_i32_10406
  let c0_i32_10407 : BitVec 32 := 0#32
  let v9391 : BitVec 1 := Scalar.cmpi .slt v9387 c0_i32_10407
  let v9392 : BitVec 1 := Scalar.xori v9390 v9391
  let c0_i32_10405 : BitVec 32 := 0#32
  let v9389 : BitVec 1 := Scalar.cmpi .ne v9388 c0_i32_10405
  let v9393 : BitVec 1 := Scalar.andi v9392 v9389
  let v9394 : BitVec 32 := Scalar.addi v9388 v9387
  let v9395 : BitVec 32 := Scalar.select v9393 v9394 v9388
  let c1_i32_10416 : BitVec 32 := 1#32
  let v9398 : BitVec 32 := Scalar.muli v9395 c1_i32_10416
  let v9399 : BitVec 32 := Scalar.addi c0_i32_10417 v9398
  v9399.toNat
def k0_dev323 (d0 : Dev nD) : Nat :=
  let c0_i32_10437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_10421 : BitVec 32 := 13#32
  let v9407 : BitVec 32 := Scalar.addi v2 c13_i32_10421
  let c32_i32_10422 : BitVec 32 := 32#32
  let c0_i32_10423 : BitVec 32 := 0#32
  let v9408 : BitVec 1 := Scalar.cmpi .eq c32_i32_10422 c0_i32_10423
  let c1_i32_10424 : BitVec 32 := 1#32
  let v9409 : BitVec 32 := Scalar.select v9408 c1_i32_10424 c32_i32_10422
  let v9410 : BitVec 32 := Scalar.remsi v9407 v9409
  let c0_i32_10426 : BitVec 32 := 0#32
  let v9412 : BitVec 1 := Scalar.cmpi .slt v9410 c0_i32_10426
  let c0_i32_10427 : BitVec 32 := 0#32
  let v9413 : BitVec 1 := Scalar.cmpi .slt v9409 c0_i32_10427
  let v9414 : BitVec 1 := Scalar.xori v9412 v9413
  let c0_i32_10425 : BitVec 32 := 0#32
  let v9411 : BitVec 1 := Scalar.cmpi .ne v9410 c0_i32_10425
  let v9415 : BitVec 1 := Scalar.andi v9414 v9411
  let v9416 : BitVec 32 := Scalar.addi v9410 v9409
  let v9417 : BitVec 32 := Scalar.select v9415 v9416 v9410
  let c1_i32_10436 : BitVec 32 := 1#32
  let v9420 : BitVec 32 := Scalar.muli v9417 c1_i32_10436
  let v9421 : BitVec 32 := Scalar.addi c0_i32_10437 v9420
  v9421.toNat
def k0_dev324 (d0 : Dev nD) : Nat :=
  let c0_i32_10457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_10441 : BitVec 32 := 14#32
  let v9429 : BitVec 32 := Scalar.addi v2 c14_i32_10441
  let c32_i32_10442 : BitVec 32 := 32#32
  let c0_i32_10443 : BitVec 32 := 0#32
  let v9430 : BitVec 1 := Scalar.cmpi .eq c32_i32_10442 c0_i32_10443
  let c1_i32_10444 : BitVec 32 := 1#32
  let v9431 : BitVec 32 := Scalar.select v9430 c1_i32_10444 c32_i32_10442
  let v9432 : BitVec 32 := Scalar.remsi v9429 v9431
  let c0_i32_10446 : BitVec 32 := 0#32
  let v9434 : BitVec 1 := Scalar.cmpi .slt v9432 c0_i32_10446
  let c0_i32_10447 : BitVec 32 := 0#32
  let v9435 : BitVec 1 := Scalar.cmpi .slt v9431 c0_i32_10447
  let v9436 : BitVec 1 := Scalar.xori v9434 v9435
  let c0_i32_10445 : BitVec 32 := 0#32
  let v9433 : BitVec 1 := Scalar.cmpi .ne v9432 c0_i32_10445
  let v9437 : BitVec 1 := Scalar.andi v9436 v9433
  let v9438 : BitVec 32 := Scalar.addi v9432 v9431
  let v9439 : BitVec 32 := Scalar.select v9437 v9438 v9432
  let c1_i32_10456 : BitVec 32 := 1#32
  let v9442 : BitVec 32 := Scalar.muli v9439 c1_i32_10456
  let v9443 : BitVec 32 := Scalar.addi c0_i32_10457 v9442
  v9443.toNat
def k0_dev325 (d0 : Dev nD) : Nat :=
  let c0_i32_10477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_10461 : BitVec 32 := 15#32
  let v9451 : BitVec 32 := Scalar.addi v2 c15_i32_10461
  let c32_i32_10462 : BitVec 32 := 32#32
  let c0_i32_10463 : BitVec 32 := 0#32
  let v9452 : BitVec 1 := Scalar.cmpi .eq c32_i32_10462 c0_i32_10463
  let c1_i32_10464 : BitVec 32 := 1#32
  let v9453 : BitVec 32 := Scalar.select v9452 c1_i32_10464 c32_i32_10462
  let v9454 : BitVec 32 := Scalar.remsi v9451 v9453
  let c0_i32_10466 : BitVec 32 := 0#32
  let v9456 : BitVec 1 := Scalar.cmpi .slt v9454 c0_i32_10466
  let c0_i32_10467 : BitVec 32 := 0#32
  let v9457 : BitVec 1 := Scalar.cmpi .slt v9453 c0_i32_10467
  let v9458 : BitVec 1 := Scalar.xori v9456 v9457
  let c0_i32_10465 : BitVec 32 := 0#32
  let v9455 : BitVec 1 := Scalar.cmpi .ne v9454 c0_i32_10465
  let v9459 : BitVec 1 := Scalar.andi v9458 v9455
  let v9460 : BitVec 32 := Scalar.addi v9454 v9453
  let v9461 : BitVec 32 := Scalar.select v9459 v9460 v9454
  let c1_i32_10476 : BitVec 32 := 1#32
  let v9464 : BitVec 32 := Scalar.muli v9461 c1_i32_10476
  let v9465 : BitVec 32 := Scalar.addi c0_i32_10477 v9464
  v9465.toNat
def k0_dev326 (d0 : Dev nD) : Nat :=
  let c0_i32_10497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_10481 : BitVec 32 := 16#32
  let v9473 : BitVec 32 := Scalar.addi v2 c16_i32_10481
  let c32_i32_10482 : BitVec 32 := 32#32
  let c0_i32_10483 : BitVec 32 := 0#32
  let v9474 : BitVec 1 := Scalar.cmpi .eq c32_i32_10482 c0_i32_10483
  let c1_i32_10484 : BitVec 32 := 1#32
  let v9475 : BitVec 32 := Scalar.select v9474 c1_i32_10484 c32_i32_10482
  let v9476 : BitVec 32 := Scalar.remsi v9473 v9475
  let c0_i32_10486 : BitVec 32 := 0#32
  let v9478 : BitVec 1 := Scalar.cmpi .slt v9476 c0_i32_10486
  let c0_i32_10487 : BitVec 32 := 0#32
  let v9479 : BitVec 1 := Scalar.cmpi .slt v9475 c0_i32_10487
  let v9480 : BitVec 1 := Scalar.xori v9478 v9479
  let c0_i32_10485 : BitVec 32 := 0#32
  let v9477 : BitVec 1 := Scalar.cmpi .ne v9476 c0_i32_10485
  let v9481 : BitVec 1 := Scalar.andi v9480 v9477
  let v9482 : BitVec 32 := Scalar.addi v9476 v9475
  let v9483 : BitVec 32 := Scalar.select v9481 v9482 v9476
  let c1_i32_10496 : BitVec 32 := 1#32
  let v9486 : BitVec 32 := Scalar.muli v9483 c1_i32_10496
  let v9487 : BitVec 32 := Scalar.addi c0_i32_10497 v9486
  v9487.toNat
def k0_dev327 (d0 : Dev nD) : Nat :=
  let c0_i32_10517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_10501 : BitVec 32 := 17#32
  let v9495 : BitVec 32 := Scalar.addi v2 c17_i32_10501
  let c32_i32_10502 : BitVec 32 := 32#32
  let c0_i32_10503 : BitVec 32 := 0#32
  let v9496 : BitVec 1 := Scalar.cmpi .eq c32_i32_10502 c0_i32_10503
  let c1_i32_10504 : BitVec 32 := 1#32
  let v9497 : BitVec 32 := Scalar.select v9496 c1_i32_10504 c32_i32_10502
  let v9498 : BitVec 32 := Scalar.remsi v9495 v9497
  let c0_i32_10506 : BitVec 32 := 0#32
  let v9500 : BitVec 1 := Scalar.cmpi .slt v9498 c0_i32_10506
  let c0_i32_10507 : BitVec 32 := 0#32
  let v9501 : BitVec 1 := Scalar.cmpi .slt v9497 c0_i32_10507
  let v9502 : BitVec 1 := Scalar.xori v9500 v9501
  let c0_i32_10505 : BitVec 32 := 0#32
  let v9499 : BitVec 1 := Scalar.cmpi .ne v9498 c0_i32_10505
  let v9503 : BitVec 1 := Scalar.andi v9502 v9499
  let v9504 : BitVec 32 := Scalar.addi v9498 v9497
  let v9505 : BitVec 32 := Scalar.select v9503 v9504 v9498
  let c1_i32_10516 : BitVec 32 := 1#32
  let v9508 : BitVec 32 := Scalar.muli v9505 c1_i32_10516
  let v9509 : BitVec 32 := Scalar.addi c0_i32_10517 v9508
  v9509.toNat
def k0_dev328 (d0 : Dev nD) : Nat :=
  let c0_i32_10537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_10521 : BitVec 32 := 18#32
  let v9517 : BitVec 32 := Scalar.addi v2 c18_i32_10521
  let c32_i32_10522 : BitVec 32 := 32#32
  let c0_i32_10523 : BitVec 32 := 0#32
  let v9518 : BitVec 1 := Scalar.cmpi .eq c32_i32_10522 c0_i32_10523
  let c1_i32_10524 : BitVec 32 := 1#32
  let v9519 : BitVec 32 := Scalar.select v9518 c1_i32_10524 c32_i32_10522
  let v9520 : BitVec 32 := Scalar.remsi v9517 v9519
  let c0_i32_10526 : BitVec 32 := 0#32
  let v9522 : BitVec 1 := Scalar.cmpi .slt v9520 c0_i32_10526
  let c0_i32_10527 : BitVec 32 := 0#32
  let v9523 : BitVec 1 := Scalar.cmpi .slt v9519 c0_i32_10527
  let v9524 : BitVec 1 := Scalar.xori v9522 v9523
  let c0_i32_10525 : BitVec 32 := 0#32
  let v9521 : BitVec 1 := Scalar.cmpi .ne v9520 c0_i32_10525
  let v9525 : BitVec 1 := Scalar.andi v9524 v9521
  let v9526 : BitVec 32 := Scalar.addi v9520 v9519
  let v9527 : BitVec 32 := Scalar.select v9525 v9526 v9520
  let c1_i32_10536 : BitVec 32 := 1#32
  let v9530 : BitVec 32 := Scalar.muli v9527 c1_i32_10536
  let v9531 : BitVec 32 := Scalar.addi c0_i32_10537 v9530
  v9531.toNat
def k0_dev329 (d0 : Dev nD) : Nat :=
  let c0_i32_10557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_10541 : BitVec 32 := 19#32
  let v9539 : BitVec 32 := Scalar.addi v2 c19_i32_10541
  let c32_i32_10542 : BitVec 32 := 32#32
  let c0_i32_10543 : BitVec 32 := 0#32
  let v9540 : BitVec 1 := Scalar.cmpi .eq c32_i32_10542 c0_i32_10543
  let c1_i32_10544 : BitVec 32 := 1#32
  let v9541 : BitVec 32 := Scalar.select v9540 c1_i32_10544 c32_i32_10542
  let v9542 : BitVec 32 := Scalar.remsi v9539 v9541
  let c0_i32_10546 : BitVec 32 := 0#32
  let v9544 : BitVec 1 := Scalar.cmpi .slt v9542 c0_i32_10546
  let c0_i32_10547 : BitVec 32 := 0#32
  let v9545 : BitVec 1 := Scalar.cmpi .slt v9541 c0_i32_10547
  let v9546 : BitVec 1 := Scalar.xori v9544 v9545
  let c0_i32_10545 : BitVec 32 := 0#32
  let v9543 : BitVec 1 := Scalar.cmpi .ne v9542 c0_i32_10545
  let v9547 : BitVec 1 := Scalar.andi v9546 v9543
  let v9548 : BitVec 32 := Scalar.addi v9542 v9541
  let v9549 : BitVec 32 := Scalar.select v9547 v9548 v9542
  let c1_i32_10556 : BitVec 32 := 1#32
  let v9552 : BitVec 32 := Scalar.muli v9549 c1_i32_10556
  let v9553 : BitVec 32 := Scalar.addi c0_i32_10557 v9552
  v9553.toNat
def k0_dev330 (d0 : Dev nD) : Nat :=
  let c0_i32_10577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_10561 : BitVec 32 := 20#32
  let v9561 : BitVec 32 := Scalar.addi v2 c20_i32_10561
  let c32_i32_10562 : BitVec 32 := 32#32
  let c0_i32_10563 : BitVec 32 := 0#32
  let v9562 : BitVec 1 := Scalar.cmpi .eq c32_i32_10562 c0_i32_10563
  let c1_i32_10564 : BitVec 32 := 1#32
  let v9563 : BitVec 32 := Scalar.select v9562 c1_i32_10564 c32_i32_10562
  let v9564 : BitVec 32 := Scalar.remsi v9561 v9563
  let c0_i32_10566 : BitVec 32 := 0#32
  let v9566 : BitVec 1 := Scalar.cmpi .slt v9564 c0_i32_10566
  let c0_i32_10567 : BitVec 32 := 0#32
  let v9567 : BitVec 1 := Scalar.cmpi .slt v9563 c0_i32_10567
  let v9568 : BitVec 1 := Scalar.xori v9566 v9567
  let c0_i32_10565 : BitVec 32 := 0#32
  let v9565 : BitVec 1 := Scalar.cmpi .ne v9564 c0_i32_10565
  let v9569 : BitVec 1 := Scalar.andi v9568 v9565
  let v9570 : BitVec 32 := Scalar.addi v9564 v9563
  let v9571 : BitVec 32 := Scalar.select v9569 v9570 v9564
  let c1_i32_10576 : BitVec 32 := 1#32
  let v9574 : BitVec 32 := Scalar.muli v9571 c1_i32_10576
  let v9575 : BitVec 32 := Scalar.addi c0_i32_10577 v9574
  v9575.toNat
def k0_dev331 (d0 : Dev nD) : Nat :=
  let c0_i32_10597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_10581 : BitVec 32 := 21#32
  let v9583 : BitVec 32 := Scalar.addi v2 c21_i32_10581
  let c32_i32_10582 : BitVec 32 := 32#32
  let c0_i32_10583 : BitVec 32 := 0#32
  let v9584 : BitVec 1 := Scalar.cmpi .eq c32_i32_10582 c0_i32_10583
  let c1_i32_10584 : BitVec 32 := 1#32
  let v9585 : BitVec 32 := Scalar.select v9584 c1_i32_10584 c32_i32_10582
  let v9586 : BitVec 32 := Scalar.remsi v9583 v9585
  let c0_i32_10586 : BitVec 32 := 0#32
  let v9588 : BitVec 1 := Scalar.cmpi .slt v9586 c0_i32_10586
  let c0_i32_10587 : BitVec 32 := 0#32
  let v9589 : BitVec 1 := Scalar.cmpi .slt v9585 c0_i32_10587
  let v9590 : BitVec 1 := Scalar.xori v9588 v9589
  let c0_i32_10585 : BitVec 32 := 0#32
  let v9587 : BitVec 1 := Scalar.cmpi .ne v9586 c0_i32_10585
  let v9591 : BitVec 1 := Scalar.andi v9590 v9587
  let v9592 : BitVec 32 := Scalar.addi v9586 v9585
  let v9593 : BitVec 32 := Scalar.select v9591 v9592 v9586
  let c1_i32_10596 : BitVec 32 := 1#32
  let v9596 : BitVec 32 := Scalar.muli v9593 c1_i32_10596
  let v9597 : BitVec 32 := Scalar.addi c0_i32_10597 v9596
  v9597.toNat
def k0_dev332 (d0 : Dev nD) : Nat :=
  let c0_i32_10617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_10601 : BitVec 32 := 22#32
  let v9605 : BitVec 32 := Scalar.addi v2 c22_i32_10601
  let c32_i32_10602 : BitVec 32 := 32#32
  let c0_i32_10603 : BitVec 32 := 0#32
  let v9606 : BitVec 1 := Scalar.cmpi .eq c32_i32_10602 c0_i32_10603
  let c1_i32_10604 : BitVec 32 := 1#32
  let v9607 : BitVec 32 := Scalar.select v9606 c1_i32_10604 c32_i32_10602
  let v9608 : BitVec 32 := Scalar.remsi v9605 v9607
  let c0_i32_10606 : BitVec 32 := 0#32
  let v9610 : BitVec 1 := Scalar.cmpi .slt v9608 c0_i32_10606
  let c0_i32_10607 : BitVec 32 := 0#32
  let v9611 : BitVec 1 := Scalar.cmpi .slt v9607 c0_i32_10607
  let v9612 : BitVec 1 := Scalar.xori v9610 v9611
  let c0_i32_10605 : BitVec 32 := 0#32
  let v9609 : BitVec 1 := Scalar.cmpi .ne v9608 c0_i32_10605
  let v9613 : BitVec 1 := Scalar.andi v9612 v9609
  let v9614 : BitVec 32 := Scalar.addi v9608 v9607
  let v9615 : BitVec 32 := Scalar.select v9613 v9614 v9608
  let c1_i32_10616 : BitVec 32 := 1#32
  let v9618 : BitVec 32 := Scalar.muli v9615 c1_i32_10616
  let v9619 : BitVec 32 := Scalar.addi c0_i32_10617 v9618
  v9619.toNat
def k0_dev333 (d0 : Dev nD) : Nat :=
  let c0_i32_10637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_10621 : BitVec 32 := 23#32
  let v9627 : BitVec 32 := Scalar.addi v2 c23_i32_10621
  let c32_i32_10622 : BitVec 32 := 32#32
  let c0_i32_10623 : BitVec 32 := 0#32
  let v9628 : BitVec 1 := Scalar.cmpi .eq c32_i32_10622 c0_i32_10623
  let c1_i32_10624 : BitVec 32 := 1#32
  let v9629 : BitVec 32 := Scalar.select v9628 c1_i32_10624 c32_i32_10622
  let v9630 : BitVec 32 := Scalar.remsi v9627 v9629
  let c0_i32_10626 : BitVec 32 := 0#32
  let v9632 : BitVec 1 := Scalar.cmpi .slt v9630 c0_i32_10626
  let c0_i32_10627 : BitVec 32 := 0#32
  let v9633 : BitVec 1 := Scalar.cmpi .slt v9629 c0_i32_10627
  let v9634 : BitVec 1 := Scalar.xori v9632 v9633
  let c0_i32_10625 : BitVec 32 := 0#32
  let v9631 : BitVec 1 := Scalar.cmpi .ne v9630 c0_i32_10625
  let v9635 : BitVec 1 := Scalar.andi v9634 v9631
  let v9636 : BitVec 32 := Scalar.addi v9630 v9629
  let v9637 : BitVec 32 := Scalar.select v9635 v9636 v9630
  let c1_i32_10636 : BitVec 32 := 1#32
  let v9640 : BitVec 32 := Scalar.muli v9637 c1_i32_10636
  let v9641 : BitVec 32 := Scalar.addi c0_i32_10637 v9640
  v9641.toNat
def k0_dev334 (d0 : Dev nD) : Nat :=
  let c0_i32_10657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_10641 : BitVec 32 := 24#32
  let v9649 : BitVec 32 := Scalar.addi v2 c24_i32_10641
  let c32_i32_10642 : BitVec 32 := 32#32
  let c0_i32_10643 : BitVec 32 := 0#32
  let v9650 : BitVec 1 := Scalar.cmpi .eq c32_i32_10642 c0_i32_10643
  let c1_i32_10644 : BitVec 32 := 1#32
  let v9651 : BitVec 32 := Scalar.select v9650 c1_i32_10644 c32_i32_10642
  let v9652 : BitVec 32 := Scalar.remsi v9649 v9651
  let c0_i32_10646 : BitVec 32 := 0#32
  let v9654 : BitVec 1 := Scalar.cmpi .slt v9652 c0_i32_10646
  let c0_i32_10647 : BitVec 32 := 0#32
  let v9655 : BitVec 1 := Scalar.cmpi .slt v9651 c0_i32_10647
  let v9656 : BitVec 1 := Scalar.xori v9654 v9655
  let c0_i32_10645 : BitVec 32 := 0#32
  let v9653 : BitVec 1 := Scalar.cmpi .ne v9652 c0_i32_10645
  let v9657 : BitVec 1 := Scalar.andi v9656 v9653
  let v9658 : BitVec 32 := Scalar.addi v9652 v9651
  let v9659 : BitVec 32 := Scalar.select v9657 v9658 v9652
  let c1_i32_10656 : BitVec 32 := 1#32
  let v9662 : BitVec 32 := Scalar.muli v9659 c1_i32_10656
  let v9663 : BitVec 32 := Scalar.addi c0_i32_10657 v9662
  v9663.toNat
def k0_dev335 (d0 : Dev nD) : Nat :=
  let c0_i32_10677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_10661 : BitVec 32 := 25#32
  let v9671 : BitVec 32 := Scalar.addi v2 c25_i32_10661
  let c32_i32_10662 : BitVec 32 := 32#32
  let c0_i32_10663 : BitVec 32 := 0#32
  let v9672 : BitVec 1 := Scalar.cmpi .eq c32_i32_10662 c0_i32_10663
  let c1_i32_10664 : BitVec 32 := 1#32
  let v9673 : BitVec 32 := Scalar.select v9672 c1_i32_10664 c32_i32_10662
  let v9674 : BitVec 32 := Scalar.remsi v9671 v9673
  let c0_i32_10666 : BitVec 32 := 0#32
  let v9676 : BitVec 1 := Scalar.cmpi .slt v9674 c0_i32_10666
  let c0_i32_10667 : BitVec 32 := 0#32
  let v9677 : BitVec 1 := Scalar.cmpi .slt v9673 c0_i32_10667
  let v9678 : BitVec 1 := Scalar.xori v9676 v9677
  let c0_i32_10665 : BitVec 32 := 0#32
  let v9675 : BitVec 1 := Scalar.cmpi .ne v9674 c0_i32_10665
  let v9679 : BitVec 1 := Scalar.andi v9678 v9675
  let v9680 : BitVec 32 := Scalar.addi v9674 v9673
  let v9681 : BitVec 32 := Scalar.select v9679 v9680 v9674
  let c1_i32_10676 : BitVec 32 := 1#32
  let v9684 : BitVec 32 := Scalar.muli v9681 c1_i32_10676
  let v9685 : BitVec 32 := Scalar.addi c0_i32_10677 v9684
  v9685.toNat
def k0_dev336 (d0 : Dev nD) : Nat :=
  let c0_i32_10697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_10681 : BitVec 32 := 26#32
  let v9693 : BitVec 32 := Scalar.addi v2 c26_i32_10681
  let c32_i32_10682 : BitVec 32 := 32#32
  let c0_i32_10683 : BitVec 32 := 0#32
  let v9694 : BitVec 1 := Scalar.cmpi .eq c32_i32_10682 c0_i32_10683
  let c1_i32_10684 : BitVec 32 := 1#32
  let v9695 : BitVec 32 := Scalar.select v9694 c1_i32_10684 c32_i32_10682
  let v9696 : BitVec 32 := Scalar.remsi v9693 v9695
  let c0_i32_10686 : BitVec 32 := 0#32
  let v9698 : BitVec 1 := Scalar.cmpi .slt v9696 c0_i32_10686
  let c0_i32_10687 : BitVec 32 := 0#32
  let v9699 : BitVec 1 := Scalar.cmpi .slt v9695 c0_i32_10687
  let v9700 : BitVec 1 := Scalar.xori v9698 v9699
  let c0_i32_10685 : BitVec 32 := 0#32
  let v9697 : BitVec 1 := Scalar.cmpi .ne v9696 c0_i32_10685
  let v9701 : BitVec 1 := Scalar.andi v9700 v9697
  let v9702 : BitVec 32 := Scalar.addi v9696 v9695
  let v9703 : BitVec 32 := Scalar.select v9701 v9702 v9696
  let c1_i32_10696 : BitVec 32 := 1#32
  let v9706 : BitVec 32 := Scalar.muli v9703 c1_i32_10696
  let v9707 : BitVec 32 := Scalar.addi c0_i32_10697 v9706
  v9707.toNat
def k0_dev337 (d0 : Dev nD) : Nat :=
  let c0_i32_10717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_10701 : BitVec 32 := 27#32
  let v9715 : BitVec 32 := Scalar.addi v2 c27_i32_10701
  let c32_i32_10702 : BitVec 32 := 32#32
  let c0_i32_10703 : BitVec 32 := 0#32
  let v9716 : BitVec 1 := Scalar.cmpi .eq c32_i32_10702 c0_i32_10703
  let c1_i32_10704 : BitVec 32 := 1#32
  let v9717 : BitVec 32 := Scalar.select v9716 c1_i32_10704 c32_i32_10702
  let v9718 : BitVec 32 := Scalar.remsi v9715 v9717
  let c0_i32_10706 : BitVec 32 := 0#32
  let v9720 : BitVec 1 := Scalar.cmpi .slt v9718 c0_i32_10706
  let c0_i32_10707 : BitVec 32 := 0#32
  let v9721 : BitVec 1 := Scalar.cmpi .slt v9717 c0_i32_10707
  let v9722 : BitVec 1 := Scalar.xori v9720 v9721
  let c0_i32_10705 : BitVec 32 := 0#32
  let v9719 : BitVec 1 := Scalar.cmpi .ne v9718 c0_i32_10705
  let v9723 : BitVec 1 := Scalar.andi v9722 v9719
  let v9724 : BitVec 32 := Scalar.addi v9718 v9717
  let v9725 : BitVec 32 := Scalar.select v9723 v9724 v9718
  let c1_i32_10716 : BitVec 32 := 1#32
  let v9728 : BitVec 32 := Scalar.muli v9725 c1_i32_10716
  let v9729 : BitVec 32 := Scalar.addi c0_i32_10717 v9728
  v9729.toNat
def k0_dev338 (d0 : Dev nD) : Nat :=
  let c0_i32_10737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_10721 : BitVec 32 := 28#32
  let v9737 : BitVec 32 := Scalar.addi v2 c28_i32_10721
  let c32_i32_10722 : BitVec 32 := 32#32
  let c0_i32_10723 : BitVec 32 := 0#32
  let v9738 : BitVec 1 := Scalar.cmpi .eq c32_i32_10722 c0_i32_10723
  let c1_i32_10724 : BitVec 32 := 1#32
  let v9739 : BitVec 32 := Scalar.select v9738 c1_i32_10724 c32_i32_10722
  let v9740 : BitVec 32 := Scalar.remsi v9737 v9739
  let c0_i32_10726 : BitVec 32 := 0#32
  let v9742 : BitVec 1 := Scalar.cmpi .slt v9740 c0_i32_10726
  let c0_i32_10727 : BitVec 32 := 0#32
  let v9743 : BitVec 1 := Scalar.cmpi .slt v9739 c0_i32_10727
  let v9744 : BitVec 1 := Scalar.xori v9742 v9743
  let c0_i32_10725 : BitVec 32 := 0#32
  let v9741 : BitVec 1 := Scalar.cmpi .ne v9740 c0_i32_10725
  let v9745 : BitVec 1 := Scalar.andi v9744 v9741
  let v9746 : BitVec 32 := Scalar.addi v9740 v9739
  let v9747 : BitVec 32 := Scalar.select v9745 v9746 v9740
  let c1_i32_10736 : BitVec 32 := 1#32
  let v9750 : BitVec 32 := Scalar.muli v9747 c1_i32_10736
  let v9751 : BitVec 32 := Scalar.addi c0_i32_10737 v9750
  v9751.toNat
def k0_dev339 (d0 : Dev nD) : Nat :=
  let c0_i32_10757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_10741 : BitVec 32 := 29#32
  let v9759 : BitVec 32 := Scalar.addi v2 c29_i32_10741
  let c32_i32_10742 : BitVec 32 := 32#32
  let c0_i32_10743 : BitVec 32 := 0#32
  let v9760 : BitVec 1 := Scalar.cmpi .eq c32_i32_10742 c0_i32_10743
  let c1_i32_10744 : BitVec 32 := 1#32
  let v9761 : BitVec 32 := Scalar.select v9760 c1_i32_10744 c32_i32_10742
  let v9762 : BitVec 32 := Scalar.remsi v9759 v9761
  let c0_i32_10746 : BitVec 32 := 0#32
  let v9764 : BitVec 1 := Scalar.cmpi .slt v9762 c0_i32_10746
  let c0_i32_10747 : BitVec 32 := 0#32
  let v9765 : BitVec 1 := Scalar.cmpi .slt v9761 c0_i32_10747
  let v9766 : BitVec 1 := Scalar.xori v9764 v9765
  let c0_i32_10745 : BitVec 32 := 0#32
  let v9763 : BitVec 1 := Scalar.cmpi .ne v9762 c0_i32_10745
  let v9767 : BitVec 1 := Scalar.andi v9766 v9763
  let v9768 : BitVec 32 := Scalar.addi v9762 v9761
  let v9769 : BitVec 32 := Scalar.select v9767 v9768 v9762
  let c1_i32_10756 : BitVec 32 := 1#32
  let v9772 : BitVec 32 := Scalar.muli v9769 c1_i32_10756
  let v9773 : BitVec 32 := Scalar.addi c0_i32_10757 v9772
  v9773.toNat
def k0_dev340 (d0 : Dev nD) : Nat :=
  let c0_i32_10777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_10761 : BitVec 32 := 30#32
  let v9781 : BitVec 32 := Scalar.addi v2 c30_i32_10761
  let c32_i32_10762 : BitVec 32 := 32#32
  let c0_i32_10763 : BitVec 32 := 0#32
  let v9782 : BitVec 1 := Scalar.cmpi .eq c32_i32_10762 c0_i32_10763
  let c1_i32_10764 : BitVec 32 := 1#32
  let v9783 : BitVec 32 := Scalar.select v9782 c1_i32_10764 c32_i32_10762
  let v9784 : BitVec 32 := Scalar.remsi v9781 v9783
  let c0_i32_10766 : BitVec 32 := 0#32
  let v9786 : BitVec 1 := Scalar.cmpi .slt v9784 c0_i32_10766
  let c0_i32_10767 : BitVec 32 := 0#32
  let v9787 : BitVec 1 := Scalar.cmpi .slt v9783 c0_i32_10767
  let v9788 : BitVec 1 := Scalar.xori v9786 v9787
  let c0_i32_10765 : BitVec 32 := 0#32
  let v9785 : BitVec 1 := Scalar.cmpi .ne v9784 c0_i32_10765
  let v9789 : BitVec 1 := Scalar.andi v9788 v9785
  let v9790 : BitVec 32 := Scalar.addi v9784 v9783
  let v9791 : BitVec 32 := Scalar.select v9789 v9790 v9784
  let c1_i32_10776 : BitVec 32 := 1#32
  let v9794 : BitVec 32 := Scalar.muli v9791 c1_i32_10776
  let v9795 : BitVec 32 := Scalar.addi c0_i32_10777 v9794
  v9795.toNat
def k0_dev341 (d0 : Dev nD) : Nat :=
  let c0_i32_10797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_10781 : BitVec 32 := 31#32
  let v9803 : BitVec 32 := Scalar.addi v2 c31_i32_10781
  let c32_i32_10782 : BitVec 32 := 32#32
  let c0_i32_10783 : BitVec 32 := 0#32
  let v9804 : BitVec 1 := Scalar.cmpi .eq c32_i32_10782 c0_i32_10783
  let c1_i32_10784 : BitVec 32 := 1#32
  let v9805 : BitVec 32 := Scalar.select v9804 c1_i32_10784 c32_i32_10782
  let v9806 : BitVec 32 := Scalar.remsi v9803 v9805
  let c0_i32_10786 : BitVec 32 := 0#32
  let v9808 : BitVec 1 := Scalar.cmpi .slt v9806 c0_i32_10786
  let c0_i32_10787 : BitVec 32 := 0#32
  let v9809 : BitVec 1 := Scalar.cmpi .slt v9805 c0_i32_10787
  let v9810 : BitVec 1 := Scalar.xori v9808 v9809
  let c0_i32_10785 : BitVec 32 := 0#32
  let v9807 : BitVec 1 := Scalar.cmpi .ne v9806 c0_i32_10785
  let v9811 : BitVec 1 := Scalar.andi v9810 v9807
  let v9812 : BitVec 32 := Scalar.addi v9806 v9805
  let v9813 : BitVec 32 := Scalar.select v9811 v9812 v9806
  let c1_i32_10796 : BitVec 32 := 1#32
  let v9816 : BitVec 32 := Scalar.muli v9813 c1_i32_10796
  let v9817 : BitVec 32 := Scalar.addi c0_i32_10797 v9816
  v9817.toNat
def k0_dev342 (d0 : Dev nD) : Nat :=
  let c0_i32_11256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11244 : BitVec 32 := 1#32
  let v10084 : BitVec 32 := Scalar.addi v2 c1_i32_11244
  let c32_i32_11245 : BitVec 32 := 32#32
  let c0_i32_11246 : BitVec 32 := 0#32
  let v10085 : BitVec 1 := Scalar.cmpi .eq c32_i32_11245 c0_i32_11246
  let c1_i32_11247 : BitVec 32 := 1#32
  let v10086 : BitVec 32 := Scalar.select v10085 c1_i32_11247 c32_i32_11245
  let v10087 : BitVec 32 := Scalar.remsi v10084 v10086
  let c0_i32_11249 : BitVec 32 := 0#32
  let v10089 : BitVec 1 := Scalar.cmpi .slt v10087 c0_i32_11249
  let c0_i32_11250 : BitVec 32 := 0#32
  let v10090 : BitVec 1 := Scalar.cmpi .slt v10086 c0_i32_11250
  let v10091 : BitVec 1 := Scalar.xori v10089 v10090
  let c0_i32_11248 : BitVec 32 := 0#32
  let v10088 : BitVec 1 := Scalar.cmpi .ne v10087 c0_i32_11248
  let v10092 : BitVec 1 := Scalar.andi v10091 v10088
  let v10093 : BitVec 32 := Scalar.addi v10087 v10086
  let v10094 : BitVec 32 := Scalar.select v10092 v10093 v10087
  let c1_i32_11255 : BitVec 32 := 1#32
  let v10095 : BitVec 32 := Scalar.muli v10094 c1_i32_11255
  let v10096 : BitVec 32 := Scalar.addi c0_i32_11256 v10095
  v10096.toNat
def k0_dev343 (d0 : Dev nD) : Nat :=
  let c0_i32_11271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_11259 : BitVec 32 := 2#32
  let v10103 : BitVec 32 := Scalar.addi v2 c2_i32_11259
  let c32_i32_11260 : BitVec 32 := 32#32
  let c0_i32_11261 : BitVec 32 := 0#32
  let v10104 : BitVec 1 := Scalar.cmpi .eq c32_i32_11260 c0_i32_11261
  let c1_i32_11262 : BitVec 32 := 1#32
  let v10105 : BitVec 32 := Scalar.select v10104 c1_i32_11262 c32_i32_11260
  let v10106 : BitVec 32 := Scalar.remsi v10103 v10105
  let c0_i32_11264 : BitVec 32 := 0#32
  let v10108 : BitVec 1 := Scalar.cmpi .slt v10106 c0_i32_11264
  let c0_i32_11265 : BitVec 32 := 0#32
  let v10109 : BitVec 1 := Scalar.cmpi .slt v10105 c0_i32_11265
  let v10110 : BitVec 1 := Scalar.xori v10108 v10109
  let c0_i32_11263 : BitVec 32 := 0#32
  let v10107 : BitVec 1 := Scalar.cmpi .ne v10106 c0_i32_11263
  let v10111 : BitVec 1 := Scalar.andi v10110 v10107
  let v10112 : BitVec 32 := Scalar.addi v10106 v10105
  let v10113 : BitVec 32 := Scalar.select v10111 v10112 v10106
  let c1_i32_11270 : BitVec 32 := 1#32
  let v10114 : BitVec 32 := Scalar.muli v10113 c1_i32_11270
  let v10115 : BitVec 32 := Scalar.addi c0_i32_11271 v10114
  v10115.toNat
def k0_dev344 (d0 : Dev nD) : Nat :=
  let c0_i32_11286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_11274 : BitVec 32 := 3#32
  let v10122 : BitVec 32 := Scalar.addi v2 c3_i32_11274
  let c32_i32_11275 : BitVec 32 := 32#32
  let c0_i32_11276 : BitVec 32 := 0#32
  let v10123 : BitVec 1 := Scalar.cmpi .eq c32_i32_11275 c0_i32_11276
  let c1_i32_11277 : BitVec 32 := 1#32
  let v10124 : BitVec 32 := Scalar.select v10123 c1_i32_11277 c32_i32_11275
  let v10125 : BitVec 32 := Scalar.remsi v10122 v10124
  let c0_i32_11279 : BitVec 32 := 0#32
  let v10127 : BitVec 1 := Scalar.cmpi .slt v10125 c0_i32_11279
  let c0_i32_11280 : BitVec 32 := 0#32
  let v10128 : BitVec 1 := Scalar.cmpi .slt v10124 c0_i32_11280
  let v10129 : BitVec 1 := Scalar.xori v10127 v10128
  let c0_i32_11278 : BitVec 32 := 0#32
  let v10126 : BitVec 1 := Scalar.cmpi .ne v10125 c0_i32_11278
  let v10130 : BitVec 1 := Scalar.andi v10129 v10126
  let v10131 : BitVec 32 := Scalar.addi v10125 v10124
  let v10132 : BitVec 32 := Scalar.select v10130 v10131 v10125
  let c1_i32_11285 : BitVec 32 := 1#32
  let v10133 : BitVec 32 := Scalar.muli v10132 c1_i32_11285
  let v10134 : BitVec 32 := Scalar.addi c0_i32_11286 v10133
  v10134.toNat
def k0_dev345 (d0 : Dev nD) : Nat :=
  let c0_i32_11301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_11289 : BitVec 32 := 4#32
  let v10141 : BitVec 32 := Scalar.addi v2 c4_i32_11289
  let c32_i32_11290 : BitVec 32 := 32#32
  let c0_i32_11291 : BitVec 32 := 0#32
  let v10142 : BitVec 1 := Scalar.cmpi .eq c32_i32_11290 c0_i32_11291
  let c1_i32_11292 : BitVec 32 := 1#32
  let v10143 : BitVec 32 := Scalar.select v10142 c1_i32_11292 c32_i32_11290
  let v10144 : BitVec 32 := Scalar.remsi v10141 v10143
  let c0_i32_11294 : BitVec 32 := 0#32
  let v10146 : BitVec 1 := Scalar.cmpi .slt v10144 c0_i32_11294
  let c0_i32_11295 : BitVec 32 := 0#32
  let v10147 : BitVec 1 := Scalar.cmpi .slt v10143 c0_i32_11295
  let v10148 : BitVec 1 := Scalar.xori v10146 v10147
  let c0_i32_11293 : BitVec 32 := 0#32
  let v10145 : BitVec 1 := Scalar.cmpi .ne v10144 c0_i32_11293
  let v10149 : BitVec 1 := Scalar.andi v10148 v10145
  let v10150 : BitVec 32 := Scalar.addi v10144 v10143
  let v10151 : BitVec 32 := Scalar.select v10149 v10150 v10144
  let c1_i32_11300 : BitVec 32 := 1#32
  let v10152 : BitVec 32 := Scalar.muli v10151 c1_i32_11300
  let v10153 : BitVec 32 := Scalar.addi c0_i32_11301 v10152
  v10153.toNat
def k0_dev346 (d0 : Dev nD) : Nat :=
  let c0_i32_11316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_11304 : BitVec 32 := 5#32
  let v10160 : BitVec 32 := Scalar.addi v2 c5_i32_11304
  let c32_i32_11305 : BitVec 32 := 32#32
  let c0_i32_11306 : BitVec 32 := 0#32
  let v10161 : BitVec 1 := Scalar.cmpi .eq c32_i32_11305 c0_i32_11306
  let c1_i32_11307 : BitVec 32 := 1#32
  let v10162 : BitVec 32 := Scalar.select v10161 c1_i32_11307 c32_i32_11305
  let v10163 : BitVec 32 := Scalar.remsi v10160 v10162
  let c0_i32_11309 : BitVec 32 := 0#32
  let v10165 : BitVec 1 := Scalar.cmpi .slt v10163 c0_i32_11309
  let c0_i32_11310 : BitVec 32 := 0#32
  let v10166 : BitVec 1 := Scalar.cmpi .slt v10162 c0_i32_11310
  let v10167 : BitVec 1 := Scalar.xori v10165 v10166
  let c0_i32_11308 : BitVec 32 := 0#32
  let v10164 : BitVec 1 := Scalar.cmpi .ne v10163 c0_i32_11308
  let v10168 : BitVec 1 := Scalar.andi v10167 v10164
  let v10169 : BitVec 32 := Scalar.addi v10163 v10162
  let v10170 : BitVec 32 := Scalar.select v10168 v10169 v10163
  let c1_i32_11315 : BitVec 32 := 1#32
  let v10171 : BitVec 32 := Scalar.muli v10170 c1_i32_11315
  let v10172 : BitVec 32 := Scalar.addi c0_i32_11316 v10171
  v10172.toNat
def k0_dev347 (d0 : Dev nD) : Nat :=
  let c0_i32_11331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_11319 : BitVec 32 := 6#32
  let v10179 : BitVec 32 := Scalar.addi v2 c6_i32_11319
  let c32_i32_11320 : BitVec 32 := 32#32
  let c0_i32_11321 : BitVec 32 := 0#32
  let v10180 : BitVec 1 := Scalar.cmpi .eq c32_i32_11320 c0_i32_11321
  let c1_i32_11322 : BitVec 32 := 1#32
  let v10181 : BitVec 32 := Scalar.select v10180 c1_i32_11322 c32_i32_11320
  let v10182 : BitVec 32 := Scalar.remsi v10179 v10181
  let c0_i32_11324 : BitVec 32 := 0#32
  let v10184 : BitVec 1 := Scalar.cmpi .slt v10182 c0_i32_11324
  let c0_i32_11325 : BitVec 32 := 0#32
  let v10185 : BitVec 1 := Scalar.cmpi .slt v10181 c0_i32_11325
  let v10186 : BitVec 1 := Scalar.xori v10184 v10185
  let c0_i32_11323 : BitVec 32 := 0#32
  let v10183 : BitVec 1 := Scalar.cmpi .ne v10182 c0_i32_11323
  let v10187 : BitVec 1 := Scalar.andi v10186 v10183
  let v10188 : BitVec 32 := Scalar.addi v10182 v10181
  let v10189 : BitVec 32 := Scalar.select v10187 v10188 v10182
  let c1_i32_11330 : BitVec 32 := 1#32
  let v10190 : BitVec 32 := Scalar.muli v10189 c1_i32_11330
  let v10191 : BitVec 32 := Scalar.addi c0_i32_11331 v10190
  v10191.toNat
def k0_dev348 (d0 : Dev nD) : Nat :=
  let c0_i32_11346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_11334 : BitVec 32 := 7#32
  let v10198 : BitVec 32 := Scalar.addi v2 c7_i32_11334
  let c32_i32_11335 : BitVec 32 := 32#32
  let c0_i32_11336 : BitVec 32 := 0#32
  let v10199 : BitVec 1 := Scalar.cmpi .eq c32_i32_11335 c0_i32_11336
  let c1_i32_11337 : BitVec 32 := 1#32
  let v10200 : BitVec 32 := Scalar.select v10199 c1_i32_11337 c32_i32_11335
  let v10201 : BitVec 32 := Scalar.remsi v10198 v10200
  let c0_i32_11339 : BitVec 32 := 0#32
  let v10203 : BitVec 1 := Scalar.cmpi .slt v10201 c0_i32_11339
  let c0_i32_11340 : BitVec 32 := 0#32
  let v10204 : BitVec 1 := Scalar.cmpi .slt v10200 c0_i32_11340
  let v10205 : BitVec 1 := Scalar.xori v10203 v10204
  let c0_i32_11338 : BitVec 32 := 0#32
  let v10202 : BitVec 1 := Scalar.cmpi .ne v10201 c0_i32_11338
  let v10206 : BitVec 1 := Scalar.andi v10205 v10202
  let v10207 : BitVec 32 := Scalar.addi v10201 v10200
  let v10208 : BitVec 32 := Scalar.select v10206 v10207 v10201
  let c1_i32_11345 : BitVec 32 := 1#32
  let v10209 : BitVec 32 := Scalar.muli v10208 c1_i32_11345
  let v10210 : BitVec 32 := Scalar.addi c0_i32_11346 v10209
  v10210.toNat
def k0_dev349 (d0 : Dev nD) : Nat :=
  let c0_i32_11361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_11349 : BitVec 32 := 8#32
  let v10217 : BitVec 32 := Scalar.addi v2 c8_i32_11349
  let c32_i32_11350 : BitVec 32 := 32#32
  let c0_i32_11351 : BitVec 32 := 0#32
  let v10218 : BitVec 1 := Scalar.cmpi .eq c32_i32_11350 c0_i32_11351
  let c1_i32_11352 : BitVec 32 := 1#32
  let v10219 : BitVec 32 := Scalar.select v10218 c1_i32_11352 c32_i32_11350
  let v10220 : BitVec 32 := Scalar.remsi v10217 v10219
  let c0_i32_11354 : BitVec 32 := 0#32
  let v10222 : BitVec 1 := Scalar.cmpi .slt v10220 c0_i32_11354
  let c0_i32_11355 : BitVec 32 := 0#32
  let v10223 : BitVec 1 := Scalar.cmpi .slt v10219 c0_i32_11355
  let v10224 : BitVec 1 := Scalar.xori v10222 v10223
  let c0_i32_11353 : BitVec 32 := 0#32
  let v10221 : BitVec 1 := Scalar.cmpi .ne v10220 c0_i32_11353
  let v10225 : BitVec 1 := Scalar.andi v10224 v10221
  let v10226 : BitVec 32 := Scalar.addi v10220 v10219
  let v10227 : BitVec 32 := Scalar.select v10225 v10226 v10220
  let c1_i32_11360 : BitVec 32 := 1#32
  let v10228 : BitVec 32 := Scalar.muli v10227 c1_i32_11360
  let v10229 : BitVec 32 := Scalar.addi c0_i32_11361 v10228
  v10229.toNat
def k0_dev350 (d0 : Dev nD) : Nat :=
  let c0_i32_11376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_11364 : BitVec 32 := 9#32
  let v10236 : BitVec 32 := Scalar.addi v2 c9_i32_11364
  let c32_i32_11365 : BitVec 32 := 32#32
  let c0_i32_11366 : BitVec 32 := 0#32
  let v10237 : BitVec 1 := Scalar.cmpi .eq c32_i32_11365 c0_i32_11366
  let c1_i32_11367 : BitVec 32 := 1#32
  let v10238 : BitVec 32 := Scalar.select v10237 c1_i32_11367 c32_i32_11365
  let v10239 : BitVec 32 := Scalar.remsi v10236 v10238
  let c0_i32_11369 : BitVec 32 := 0#32
  let v10241 : BitVec 1 := Scalar.cmpi .slt v10239 c0_i32_11369
  let c0_i32_11370 : BitVec 32 := 0#32
  let v10242 : BitVec 1 := Scalar.cmpi .slt v10238 c0_i32_11370
  let v10243 : BitVec 1 := Scalar.xori v10241 v10242
  let c0_i32_11368 : BitVec 32 := 0#32
  let v10240 : BitVec 1 := Scalar.cmpi .ne v10239 c0_i32_11368
  let v10244 : BitVec 1 := Scalar.andi v10243 v10240
  let v10245 : BitVec 32 := Scalar.addi v10239 v10238
  let v10246 : BitVec 32 := Scalar.select v10244 v10245 v10239
  let c1_i32_11375 : BitVec 32 := 1#32
  let v10247 : BitVec 32 := Scalar.muli v10246 c1_i32_11375
  let v10248 : BitVec 32 := Scalar.addi c0_i32_11376 v10247
  v10248.toNat
def k0_dev351 (d0 : Dev nD) : Nat :=
  let c0_i32_11391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_11379 : BitVec 32 := 10#32
  let v10255 : BitVec 32 := Scalar.addi v2 c10_i32_11379
  let c32_i32_11380 : BitVec 32 := 32#32
  let c0_i32_11381 : BitVec 32 := 0#32
  let v10256 : BitVec 1 := Scalar.cmpi .eq c32_i32_11380 c0_i32_11381
  let c1_i32_11382 : BitVec 32 := 1#32
  let v10257 : BitVec 32 := Scalar.select v10256 c1_i32_11382 c32_i32_11380
  let v10258 : BitVec 32 := Scalar.remsi v10255 v10257
  let c0_i32_11384 : BitVec 32 := 0#32
  let v10260 : BitVec 1 := Scalar.cmpi .slt v10258 c0_i32_11384
  let c0_i32_11385 : BitVec 32 := 0#32
  let v10261 : BitVec 1 := Scalar.cmpi .slt v10257 c0_i32_11385
  let v10262 : BitVec 1 := Scalar.xori v10260 v10261
  let c0_i32_11383 : BitVec 32 := 0#32
  let v10259 : BitVec 1 := Scalar.cmpi .ne v10258 c0_i32_11383
  let v10263 : BitVec 1 := Scalar.andi v10262 v10259
  let v10264 : BitVec 32 := Scalar.addi v10258 v10257
  let v10265 : BitVec 32 := Scalar.select v10263 v10264 v10258
  let c1_i32_11390 : BitVec 32 := 1#32
  let v10266 : BitVec 32 := Scalar.muli v10265 c1_i32_11390
  let v10267 : BitVec 32 := Scalar.addi c0_i32_11391 v10266
  v10267.toNat
def k0_dev352 (d0 : Dev nD) : Nat :=
  let c0_i32_11406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_11394 : BitVec 32 := 11#32
  let v10274 : BitVec 32 := Scalar.addi v2 c11_i32_11394
  let c32_i32_11395 : BitVec 32 := 32#32
  let c0_i32_11396 : BitVec 32 := 0#32
  let v10275 : BitVec 1 := Scalar.cmpi .eq c32_i32_11395 c0_i32_11396
  let c1_i32_11397 : BitVec 32 := 1#32
  let v10276 : BitVec 32 := Scalar.select v10275 c1_i32_11397 c32_i32_11395
  let v10277 : BitVec 32 := Scalar.remsi v10274 v10276
  let c0_i32_11399 : BitVec 32 := 0#32
  let v10279 : BitVec 1 := Scalar.cmpi .slt v10277 c0_i32_11399
  let c0_i32_11400 : BitVec 32 := 0#32
  let v10280 : BitVec 1 := Scalar.cmpi .slt v10276 c0_i32_11400
  let v10281 : BitVec 1 := Scalar.xori v10279 v10280
  let c0_i32_11398 : BitVec 32 := 0#32
  let v10278 : BitVec 1 := Scalar.cmpi .ne v10277 c0_i32_11398
  let v10282 : BitVec 1 := Scalar.andi v10281 v10278
  let v10283 : BitVec 32 := Scalar.addi v10277 v10276
  let v10284 : BitVec 32 := Scalar.select v10282 v10283 v10277
  let c1_i32_11405 : BitVec 32 := 1#32
  let v10285 : BitVec 32 := Scalar.muli v10284 c1_i32_11405
  let v10286 : BitVec 32 := Scalar.addi c0_i32_11406 v10285
  v10286.toNat
def k0_dev353 (d0 : Dev nD) : Nat :=
  let c0_i32_11421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_11409 : BitVec 32 := 12#32
  let v10293 : BitVec 32 := Scalar.addi v2 c12_i32_11409
  let c32_i32_11410 : BitVec 32 := 32#32
  let c0_i32_11411 : BitVec 32 := 0#32
  let v10294 : BitVec 1 := Scalar.cmpi .eq c32_i32_11410 c0_i32_11411
  let c1_i32_11412 : BitVec 32 := 1#32
  let v10295 : BitVec 32 := Scalar.select v10294 c1_i32_11412 c32_i32_11410
  let v10296 : BitVec 32 := Scalar.remsi v10293 v10295
  let c0_i32_11414 : BitVec 32 := 0#32
  let v10298 : BitVec 1 := Scalar.cmpi .slt v10296 c0_i32_11414
  let c0_i32_11415 : BitVec 32 := 0#32
  let v10299 : BitVec 1 := Scalar.cmpi .slt v10295 c0_i32_11415
  let v10300 : BitVec 1 := Scalar.xori v10298 v10299
  let c0_i32_11413 : BitVec 32 := 0#32
  let v10297 : BitVec 1 := Scalar.cmpi .ne v10296 c0_i32_11413
  let v10301 : BitVec 1 := Scalar.andi v10300 v10297
  let v10302 : BitVec 32 := Scalar.addi v10296 v10295
  let v10303 : BitVec 32 := Scalar.select v10301 v10302 v10296
  let c1_i32_11420 : BitVec 32 := 1#32
  let v10304 : BitVec 32 := Scalar.muli v10303 c1_i32_11420
  let v10305 : BitVec 32 := Scalar.addi c0_i32_11421 v10304
  v10305.toNat
def k0_dev354 (d0 : Dev nD) : Nat :=
  let c0_i32_11436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_11424 : BitVec 32 := 13#32
  let v10312 : BitVec 32 := Scalar.addi v2 c13_i32_11424
  let c32_i32_11425 : BitVec 32 := 32#32
  let c0_i32_11426 : BitVec 32 := 0#32
  let v10313 : BitVec 1 := Scalar.cmpi .eq c32_i32_11425 c0_i32_11426
  let c1_i32_11427 : BitVec 32 := 1#32
  let v10314 : BitVec 32 := Scalar.select v10313 c1_i32_11427 c32_i32_11425
  let v10315 : BitVec 32 := Scalar.remsi v10312 v10314
  let c0_i32_11429 : BitVec 32 := 0#32
  let v10317 : BitVec 1 := Scalar.cmpi .slt v10315 c0_i32_11429
  let c0_i32_11430 : BitVec 32 := 0#32
  let v10318 : BitVec 1 := Scalar.cmpi .slt v10314 c0_i32_11430
  let v10319 : BitVec 1 := Scalar.xori v10317 v10318
  let c0_i32_11428 : BitVec 32 := 0#32
  let v10316 : BitVec 1 := Scalar.cmpi .ne v10315 c0_i32_11428
  let v10320 : BitVec 1 := Scalar.andi v10319 v10316
  let v10321 : BitVec 32 := Scalar.addi v10315 v10314
  let v10322 : BitVec 32 := Scalar.select v10320 v10321 v10315
  let c1_i32_11435 : BitVec 32 := 1#32
  let v10323 : BitVec 32 := Scalar.muli v10322 c1_i32_11435
  let v10324 : BitVec 32 := Scalar.addi c0_i32_11436 v10323
  v10324.toNat
def k0_dev355 (d0 : Dev nD) : Nat :=
  let c0_i32_11451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_11439 : BitVec 32 := 14#32
  let v10331 : BitVec 32 := Scalar.addi v2 c14_i32_11439
  let c32_i32_11440 : BitVec 32 := 32#32
  let c0_i32_11441 : BitVec 32 := 0#32
  let v10332 : BitVec 1 := Scalar.cmpi .eq c32_i32_11440 c0_i32_11441
  let c1_i32_11442 : BitVec 32 := 1#32
  let v10333 : BitVec 32 := Scalar.select v10332 c1_i32_11442 c32_i32_11440
  let v10334 : BitVec 32 := Scalar.remsi v10331 v10333
  let c0_i32_11444 : BitVec 32 := 0#32
  let v10336 : BitVec 1 := Scalar.cmpi .slt v10334 c0_i32_11444
  let c0_i32_11445 : BitVec 32 := 0#32
  let v10337 : BitVec 1 := Scalar.cmpi .slt v10333 c0_i32_11445
  let v10338 : BitVec 1 := Scalar.xori v10336 v10337
  let c0_i32_11443 : BitVec 32 := 0#32
  let v10335 : BitVec 1 := Scalar.cmpi .ne v10334 c0_i32_11443
  let v10339 : BitVec 1 := Scalar.andi v10338 v10335
  let v10340 : BitVec 32 := Scalar.addi v10334 v10333
  let v10341 : BitVec 32 := Scalar.select v10339 v10340 v10334
  let c1_i32_11450 : BitVec 32 := 1#32
  let v10342 : BitVec 32 := Scalar.muli v10341 c1_i32_11450
  let v10343 : BitVec 32 := Scalar.addi c0_i32_11451 v10342
  v10343.toNat
def k0_dev356 (d0 : Dev nD) : Nat :=
  let c0_i32_11466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_11454 : BitVec 32 := 15#32
  let v10350 : BitVec 32 := Scalar.addi v2 c15_i32_11454
  let c32_i32_11455 : BitVec 32 := 32#32
  let c0_i32_11456 : BitVec 32 := 0#32
  let v10351 : BitVec 1 := Scalar.cmpi .eq c32_i32_11455 c0_i32_11456
  let c1_i32_11457 : BitVec 32 := 1#32
  let v10352 : BitVec 32 := Scalar.select v10351 c1_i32_11457 c32_i32_11455
  let v10353 : BitVec 32 := Scalar.remsi v10350 v10352
  let c0_i32_11459 : BitVec 32 := 0#32
  let v10355 : BitVec 1 := Scalar.cmpi .slt v10353 c0_i32_11459
  let c0_i32_11460 : BitVec 32 := 0#32
  let v10356 : BitVec 1 := Scalar.cmpi .slt v10352 c0_i32_11460
  let v10357 : BitVec 1 := Scalar.xori v10355 v10356
  let c0_i32_11458 : BitVec 32 := 0#32
  let v10354 : BitVec 1 := Scalar.cmpi .ne v10353 c0_i32_11458
  let v10358 : BitVec 1 := Scalar.andi v10357 v10354
  let v10359 : BitVec 32 := Scalar.addi v10353 v10352
  let v10360 : BitVec 32 := Scalar.select v10358 v10359 v10353
  let c1_i32_11465 : BitVec 32 := 1#32
  let v10361 : BitVec 32 := Scalar.muli v10360 c1_i32_11465
  let v10362 : BitVec 32 := Scalar.addi c0_i32_11466 v10361
  v10362.toNat
def k0_dev357 (d0 : Dev nD) : Nat :=
  let c0_i32_11481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_11469 : BitVec 32 := 16#32
  let v10369 : BitVec 32 := Scalar.addi v2 c16_i32_11469
  let c32_i32_11470 : BitVec 32 := 32#32
  let c0_i32_11471 : BitVec 32 := 0#32
  let v10370 : BitVec 1 := Scalar.cmpi .eq c32_i32_11470 c0_i32_11471
  let c1_i32_11472 : BitVec 32 := 1#32
  let v10371 : BitVec 32 := Scalar.select v10370 c1_i32_11472 c32_i32_11470
  let v10372 : BitVec 32 := Scalar.remsi v10369 v10371
  let c0_i32_11474 : BitVec 32 := 0#32
  let v10374 : BitVec 1 := Scalar.cmpi .slt v10372 c0_i32_11474
  let c0_i32_11475 : BitVec 32 := 0#32
  let v10375 : BitVec 1 := Scalar.cmpi .slt v10371 c0_i32_11475
  let v10376 : BitVec 1 := Scalar.xori v10374 v10375
  let c0_i32_11473 : BitVec 32 := 0#32
  let v10373 : BitVec 1 := Scalar.cmpi .ne v10372 c0_i32_11473
  let v10377 : BitVec 1 := Scalar.andi v10376 v10373
  let v10378 : BitVec 32 := Scalar.addi v10372 v10371
  let v10379 : BitVec 32 := Scalar.select v10377 v10378 v10372
  let c1_i32_11480 : BitVec 32 := 1#32
  let v10380 : BitVec 32 := Scalar.muli v10379 c1_i32_11480
  let v10381 : BitVec 32 := Scalar.addi c0_i32_11481 v10380
  v10381.toNat
def k0_dev358 (d0 : Dev nD) : Nat :=
  let c0_i32_11496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_11484 : BitVec 32 := 17#32
  let v10388 : BitVec 32 := Scalar.addi v2 c17_i32_11484
  let c32_i32_11485 : BitVec 32 := 32#32
  let c0_i32_11486 : BitVec 32 := 0#32
  let v10389 : BitVec 1 := Scalar.cmpi .eq c32_i32_11485 c0_i32_11486
  let c1_i32_11487 : BitVec 32 := 1#32
  let v10390 : BitVec 32 := Scalar.select v10389 c1_i32_11487 c32_i32_11485
  let v10391 : BitVec 32 := Scalar.remsi v10388 v10390
  let c0_i32_11489 : BitVec 32 := 0#32
  let v10393 : BitVec 1 := Scalar.cmpi .slt v10391 c0_i32_11489
  let c0_i32_11490 : BitVec 32 := 0#32
  let v10394 : BitVec 1 := Scalar.cmpi .slt v10390 c0_i32_11490
  let v10395 : BitVec 1 := Scalar.xori v10393 v10394
  let c0_i32_11488 : BitVec 32 := 0#32
  let v10392 : BitVec 1 := Scalar.cmpi .ne v10391 c0_i32_11488
  let v10396 : BitVec 1 := Scalar.andi v10395 v10392
  let v10397 : BitVec 32 := Scalar.addi v10391 v10390
  let v10398 : BitVec 32 := Scalar.select v10396 v10397 v10391
  let c1_i32_11495 : BitVec 32 := 1#32
  let v10399 : BitVec 32 := Scalar.muli v10398 c1_i32_11495
  let v10400 : BitVec 32 := Scalar.addi c0_i32_11496 v10399
  v10400.toNat
def k0_dev359 (d0 : Dev nD) : Nat :=
  let c0_i32_11511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_11499 : BitVec 32 := 18#32
  let v10407 : BitVec 32 := Scalar.addi v2 c18_i32_11499
  let c32_i32_11500 : BitVec 32 := 32#32
  let c0_i32_11501 : BitVec 32 := 0#32
  let v10408 : BitVec 1 := Scalar.cmpi .eq c32_i32_11500 c0_i32_11501
  let c1_i32_11502 : BitVec 32 := 1#32
  let v10409 : BitVec 32 := Scalar.select v10408 c1_i32_11502 c32_i32_11500
  let v10410 : BitVec 32 := Scalar.remsi v10407 v10409
  let c0_i32_11504 : BitVec 32 := 0#32
  let v10412 : BitVec 1 := Scalar.cmpi .slt v10410 c0_i32_11504
  let c0_i32_11505 : BitVec 32 := 0#32
  let v10413 : BitVec 1 := Scalar.cmpi .slt v10409 c0_i32_11505
  let v10414 : BitVec 1 := Scalar.xori v10412 v10413
  let c0_i32_11503 : BitVec 32 := 0#32
  let v10411 : BitVec 1 := Scalar.cmpi .ne v10410 c0_i32_11503
  let v10415 : BitVec 1 := Scalar.andi v10414 v10411
  let v10416 : BitVec 32 := Scalar.addi v10410 v10409
  let v10417 : BitVec 32 := Scalar.select v10415 v10416 v10410
  let c1_i32_11510 : BitVec 32 := 1#32
  let v10418 : BitVec 32 := Scalar.muli v10417 c1_i32_11510
  let v10419 : BitVec 32 := Scalar.addi c0_i32_11511 v10418
  v10419.toNat
def k0_dev360 (d0 : Dev nD) : Nat :=
  let c0_i32_11526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_11514 : BitVec 32 := 19#32
  let v10426 : BitVec 32 := Scalar.addi v2 c19_i32_11514
  let c32_i32_11515 : BitVec 32 := 32#32
  let c0_i32_11516 : BitVec 32 := 0#32
  let v10427 : BitVec 1 := Scalar.cmpi .eq c32_i32_11515 c0_i32_11516
  let c1_i32_11517 : BitVec 32 := 1#32
  let v10428 : BitVec 32 := Scalar.select v10427 c1_i32_11517 c32_i32_11515
  let v10429 : BitVec 32 := Scalar.remsi v10426 v10428
  let c0_i32_11519 : BitVec 32 := 0#32
  let v10431 : BitVec 1 := Scalar.cmpi .slt v10429 c0_i32_11519
  let c0_i32_11520 : BitVec 32 := 0#32
  let v10432 : BitVec 1 := Scalar.cmpi .slt v10428 c0_i32_11520
  let v10433 : BitVec 1 := Scalar.xori v10431 v10432
  let c0_i32_11518 : BitVec 32 := 0#32
  let v10430 : BitVec 1 := Scalar.cmpi .ne v10429 c0_i32_11518
  let v10434 : BitVec 1 := Scalar.andi v10433 v10430
  let v10435 : BitVec 32 := Scalar.addi v10429 v10428
  let v10436 : BitVec 32 := Scalar.select v10434 v10435 v10429
  let c1_i32_11525 : BitVec 32 := 1#32
  let v10437 : BitVec 32 := Scalar.muli v10436 c1_i32_11525
  let v10438 : BitVec 32 := Scalar.addi c0_i32_11526 v10437
  v10438.toNat
def k0_dev361 (d0 : Dev nD) : Nat :=
  let c0_i32_11541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_11529 : BitVec 32 := 20#32
  let v10445 : BitVec 32 := Scalar.addi v2 c20_i32_11529
  let c32_i32_11530 : BitVec 32 := 32#32
  let c0_i32_11531 : BitVec 32 := 0#32
  let v10446 : BitVec 1 := Scalar.cmpi .eq c32_i32_11530 c0_i32_11531
  let c1_i32_11532 : BitVec 32 := 1#32
  let v10447 : BitVec 32 := Scalar.select v10446 c1_i32_11532 c32_i32_11530
  let v10448 : BitVec 32 := Scalar.remsi v10445 v10447
  let c0_i32_11534 : BitVec 32 := 0#32
  let v10450 : BitVec 1 := Scalar.cmpi .slt v10448 c0_i32_11534
  let c0_i32_11535 : BitVec 32 := 0#32
  let v10451 : BitVec 1 := Scalar.cmpi .slt v10447 c0_i32_11535
  let v10452 : BitVec 1 := Scalar.xori v10450 v10451
  let c0_i32_11533 : BitVec 32 := 0#32
  let v10449 : BitVec 1 := Scalar.cmpi .ne v10448 c0_i32_11533
  let v10453 : BitVec 1 := Scalar.andi v10452 v10449
  let v10454 : BitVec 32 := Scalar.addi v10448 v10447
  let v10455 : BitVec 32 := Scalar.select v10453 v10454 v10448
  let c1_i32_11540 : BitVec 32 := 1#32
  let v10456 : BitVec 32 := Scalar.muli v10455 c1_i32_11540
  let v10457 : BitVec 32 := Scalar.addi c0_i32_11541 v10456
  v10457.toNat
def k0_dev362 (d0 : Dev nD) : Nat :=
  let c0_i32_11556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_11544 : BitVec 32 := 21#32
  let v10464 : BitVec 32 := Scalar.addi v2 c21_i32_11544
  let c32_i32_11545 : BitVec 32 := 32#32
  let c0_i32_11546 : BitVec 32 := 0#32
  let v10465 : BitVec 1 := Scalar.cmpi .eq c32_i32_11545 c0_i32_11546
  let c1_i32_11547 : BitVec 32 := 1#32
  let v10466 : BitVec 32 := Scalar.select v10465 c1_i32_11547 c32_i32_11545
  let v10467 : BitVec 32 := Scalar.remsi v10464 v10466
  let c0_i32_11549 : BitVec 32 := 0#32
  let v10469 : BitVec 1 := Scalar.cmpi .slt v10467 c0_i32_11549
  let c0_i32_11550 : BitVec 32 := 0#32
  let v10470 : BitVec 1 := Scalar.cmpi .slt v10466 c0_i32_11550
  let v10471 : BitVec 1 := Scalar.xori v10469 v10470
  let c0_i32_11548 : BitVec 32 := 0#32
  let v10468 : BitVec 1 := Scalar.cmpi .ne v10467 c0_i32_11548
  let v10472 : BitVec 1 := Scalar.andi v10471 v10468
  let v10473 : BitVec 32 := Scalar.addi v10467 v10466
  let v10474 : BitVec 32 := Scalar.select v10472 v10473 v10467
  let c1_i32_11555 : BitVec 32 := 1#32
  let v10475 : BitVec 32 := Scalar.muli v10474 c1_i32_11555
  let v10476 : BitVec 32 := Scalar.addi c0_i32_11556 v10475
  v10476.toNat
def k0_dev363 (d0 : Dev nD) : Nat :=
  let c0_i32_11571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_11559 : BitVec 32 := 22#32
  let v10483 : BitVec 32 := Scalar.addi v2 c22_i32_11559
  let c32_i32_11560 : BitVec 32 := 32#32
  let c0_i32_11561 : BitVec 32 := 0#32
  let v10484 : BitVec 1 := Scalar.cmpi .eq c32_i32_11560 c0_i32_11561
  let c1_i32_11562 : BitVec 32 := 1#32
  let v10485 : BitVec 32 := Scalar.select v10484 c1_i32_11562 c32_i32_11560
  let v10486 : BitVec 32 := Scalar.remsi v10483 v10485
  let c0_i32_11564 : BitVec 32 := 0#32
  let v10488 : BitVec 1 := Scalar.cmpi .slt v10486 c0_i32_11564
  let c0_i32_11565 : BitVec 32 := 0#32
  let v10489 : BitVec 1 := Scalar.cmpi .slt v10485 c0_i32_11565
  let v10490 : BitVec 1 := Scalar.xori v10488 v10489
  let c0_i32_11563 : BitVec 32 := 0#32
  let v10487 : BitVec 1 := Scalar.cmpi .ne v10486 c0_i32_11563
  let v10491 : BitVec 1 := Scalar.andi v10490 v10487
  let v10492 : BitVec 32 := Scalar.addi v10486 v10485
  let v10493 : BitVec 32 := Scalar.select v10491 v10492 v10486
  let c1_i32_11570 : BitVec 32 := 1#32
  let v10494 : BitVec 32 := Scalar.muli v10493 c1_i32_11570
  let v10495 : BitVec 32 := Scalar.addi c0_i32_11571 v10494
  v10495.toNat
def k0_dev364 (d0 : Dev nD) : Nat :=
  let c0_i32_11586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_11574 : BitVec 32 := 23#32
  let v10502 : BitVec 32 := Scalar.addi v2 c23_i32_11574
  let c32_i32_11575 : BitVec 32 := 32#32
  let c0_i32_11576 : BitVec 32 := 0#32
  let v10503 : BitVec 1 := Scalar.cmpi .eq c32_i32_11575 c0_i32_11576
  let c1_i32_11577 : BitVec 32 := 1#32
  let v10504 : BitVec 32 := Scalar.select v10503 c1_i32_11577 c32_i32_11575
  let v10505 : BitVec 32 := Scalar.remsi v10502 v10504
  let c0_i32_11579 : BitVec 32 := 0#32
  let v10507 : BitVec 1 := Scalar.cmpi .slt v10505 c0_i32_11579
  let c0_i32_11580 : BitVec 32 := 0#32
  let v10508 : BitVec 1 := Scalar.cmpi .slt v10504 c0_i32_11580
  let v10509 : BitVec 1 := Scalar.xori v10507 v10508
  let c0_i32_11578 : BitVec 32 := 0#32
  let v10506 : BitVec 1 := Scalar.cmpi .ne v10505 c0_i32_11578
  let v10510 : BitVec 1 := Scalar.andi v10509 v10506
  let v10511 : BitVec 32 := Scalar.addi v10505 v10504
  let v10512 : BitVec 32 := Scalar.select v10510 v10511 v10505
  let c1_i32_11585 : BitVec 32 := 1#32
  let v10513 : BitVec 32 := Scalar.muli v10512 c1_i32_11585
  let v10514 : BitVec 32 := Scalar.addi c0_i32_11586 v10513
  v10514.toNat
def k0_dev365 (d0 : Dev nD) : Nat :=
  let c0_i32_11601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_11589 : BitVec 32 := 24#32
  let v10521 : BitVec 32 := Scalar.addi v2 c24_i32_11589
  let c32_i32_11590 : BitVec 32 := 32#32
  let c0_i32_11591 : BitVec 32 := 0#32
  let v10522 : BitVec 1 := Scalar.cmpi .eq c32_i32_11590 c0_i32_11591
  let c1_i32_11592 : BitVec 32 := 1#32
  let v10523 : BitVec 32 := Scalar.select v10522 c1_i32_11592 c32_i32_11590
  let v10524 : BitVec 32 := Scalar.remsi v10521 v10523
  let c0_i32_11594 : BitVec 32 := 0#32
  let v10526 : BitVec 1 := Scalar.cmpi .slt v10524 c0_i32_11594
  let c0_i32_11595 : BitVec 32 := 0#32
  let v10527 : BitVec 1 := Scalar.cmpi .slt v10523 c0_i32_11595
  let v10528 : BitVec 1 := Scalar.xori v10526 v10527
  let c0_i32_11593 : BitVec 32 := 0#32
  let v10525 : BitVec 1 := Scalar.cmpi .ne v10524 c0_i32_11593
  let v10529 : BitVec 1 := Scalar.andi v10528 v10525
  let v10530 : BitVec 32 := Scalar.addi v10524 v10523
  let v10531 : BitVec 32 := Scalar.select v10529 v10530 v10524
  let c1_i32_11600 : BitVec 32 := 1#32
  let v10532 : BitVec 32 := Scalar.muli v10531 c1_i32_11600
  let v10533 : BitVec 32 := Scalar.addi c0_i32_11601 v10532
  v10533.toNat
def k0_dev366 (d0 : Dev nD) : Nat :=
  let c0_i32_11616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_11604 : BitVec 32 := 25#32
  let v10540 : BitVec 32 := Scalar.addi v2 c25_i32_11604
  let c32_i32_11605 : BitVec 32 := 32#32
  let c0_i32_11606 : BitVec 32 := 0#32
  let v10541 : BitVec 1 := Scalar.cmpi .eq c32_i32_11605 c0_i32_11606
  let c1_i32_11607 : BitVec 32 := 1#32
  let v10542 : BitVec 32 := Scalar.select v10541 c1_i32_11607 c32_i32_11605
  let v10543 : BitVec 32 := Scalar.remsi v10540 v10542
  let c0_i32_11609 : BitVec 32 := 0#32
  let v10545 : BitVec 1 := Scalar.cmpi .slt v10543 c0_i32_11609
  let c0_i32_11610 : BitVec 32 := 0#32
  let v10546 : BitVec 1 := Scalar.cmpi .slt v10542 c0_i32_11610
  let v10547 : BitVec 1 := Scalar.xori v10545 v10546
  let c0_i32_11608 : BitVec 32 := 0#32
  let v10544 : BitVec 1 := Scalar.cmpi .ne v10543 c0_i32_11608
  let v10548 : BitVec 1 := Scalar.andi v10547 v10544
  let v10549 : BitVec 32 := Scalar.addi v10543 v10542
  let v10550 : BitVec 32 := Scalar.select v10548 v10549 v10543
  let c1_i32_11615 : BitVec 32 := 1#32
  let v10551 : BitVec 32 := Scalar.muli v10550 c1_i32_11615
  let v10552 : BitVec 32 := Scalar.addi c0_i32_11616 v10551
  v10552.toNat
def k0_dev367 (d0 : Dev nD) : Nat :=
  let c0_i32_11631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_11619 : BitVec 32 := 26#32
  let v10559 : BitVec 32 := Scalar.addi v2 c26_i32_11619
  let c32_i32_11620 : BitVec 32 := 32#32
  let c0_i32_11621 : BitVec 32 := 0#32
  let v10560 : BitVec 1 := Scalar.cmpi .eq c32_i32_11620 c0_i32_11621
  let c1_i32_11622 : BitVec 32 := 1#32
  let v10561 : BitVec 32 := Scalar.select v10560 c1_i32_11622 c32_i32_11620
  let v10562 : BitVec 32 := Scalar.remsi v10559 v10561
  let c0_i32_11624 : BitVec 32 := 0#32
  let v10564 : BitVec 1 := Scalar.cmpi .slt v10562 c0_i32_11624
  let c0_i32_11625 : BitVec 32 := 0#32
  let v10565 : BitVec 1 := Scalar.cmpi .slt v10561 c0_i32_11625
  let v10566 : BitVec 1 := Scalar.xori v10564 v10565
  let c0_i32_11623 : BitVec 32 := 0#32
  let v10563 : BitVec 1 := Scalar.cmpi .ne v10562 c0_i32_11623
  let v10567 : BitVec 1 := Scalar.andi v10566 v10563
  let v10568 : BitVec 32 := Scalar.addi v10562 v10561
  let v10569 : BitVec 32 := Scalar.select v10567 v10568 v10562
  let c1_i32_11630 : BitVec 32 := 1#32
  let v10570 : BitVec 32 := Scalar.muli v10569 c1_i32_11630
  let v10571 : BitVec 32 := Scalar.addi c0_i32_11631 v10570
  v10571.toNat
def k0_dev368 (d0 : Dev nD) : Nat :=
  let c0_i32_11646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_11634 : BitVec 32 := 27#32
  let v10578 : BitVec 32 := Scalar.addi v2 c27_i32_11634
  let c32_i32_11635 : BitVec 32 := 32#32
  let c0_i32_11636 : BitVec 32 := 0#32
  let v10579 : BitVec 1 := Scalar.cmpi .eq c32_i32_11635 c0_i32_11636
  let c1_i32_11637 : BitVec 32 := 1#32
  let v10580 : BitVec 32 := Scalar.select v10579 c1_i32_11637 c32_i32_11635
  let v10581 : BitVec 32 := Scalar.remsi v10578 v10580
  let c0_i32_11639 : BitVec 32 := 0#32
  let v10583 : BitVec 1 := Scalar.cmpi .slt v10581 c0_i32_11639
  let c0_i32_11640 : BitVec 32 := 0#32
  let v10584 : BitVec 1 := Scalar.cmpi .slt v10580 c0_i32_11640
  let v10585 : BitVec 1 := Scalar.xori v10583 v10584
  let c0_i32_11638 : BitVec 32 := 0#32
  let v10582 : BitVec 1 := Scalar.cmpi .ne v10581 c0_i32_11638
  let v10586 : BitVec 1 := Scalar.andi v10585 v10582
  let v10587 : BitVec 32 := Scalar.addi v10581 v10580
  let v10588 : BitVec 32 := Scalar.select v10586 v10587 v10581
  let c1_i32_11645 : BitVec 32 := 1#32
  let v10589 : BitVec 32 := Scalar.muli v10588 c1_i32_11645
  let v10590 : BitVec 32 := Scalar.addi c0_i32_11646 v10589
  v10590.toNat
def k0_dev369 (d0 : Dev nD) : Nat :=
  let c0_i32_11661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_11649 : BitVec 32 := 28#32
  let v10597 : BitVec 32 := Scalar.addi v2 c28_i32_11649
  let c32_i32_11650 : BitVec 32 := 32#32
  let c0_i32_11651 : BitVec 32 := 0#32
  let v10598 : BitVec 1 := Scalar.cmpi .eq c32_i32_11650 c0_i32_11651
  let c1_i32_11652 : BitVec 32 := 1#32
  let v10599 : BitVec 32 := Scalar.select v10598 c1_i32_11652 c32_i32_11650
  let v10600 : BitVec 32 := Scalar.remsi v10597 v10599
  let c0_i32_11654 : BitVec 32 := 0#32
  let v10602 : BitVec 1 := Scalar.cmpi .slt v10600 c0_i32_11654
  let c0_i32_11655 : BitVec 32 := 0#32
  let v10603 : BitVec 1 := Scalar.cmpi .slt v10599 c0_i32_11655
  let v10604 : BitVec 1 := Scalar.xori v10602 v10603
  let c0_i32_11653 : BitVec 32 := 0#32
  let v10601 : BitVec 1 := Scalar.cmpi .ne v10600 c0_i32_11653
  let v10605 : BitVec 1 := Scalar.andi v10604 v10601
  let v10606 : BitVec 32 := Scalar.addi v10600 v10599
  let v10607 : BitVec 32 := Scalar.select v10605 v10606 v10600
  let c1_i32_11660 : BitVec 32 := 1#32
  let v10608 : BitVec 32 := Scalar.muli v10607 c1_i32_11660
  let v10609 : BitVec 32 := Scalar.addi c0_i32_11661 v10608
  v10609.toNat
def k0_dev370 (d0 : Dev nD) : Nat :=
  let c0_i32_11676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_11664 : BitVec 32 := 29#32
  let v10616 : BitVec 32 := Scalar.addi v2 c29_i32_11664
  let c32_i32_11665 : BitVec 32 := 32#32
  let c0_i32_11666 : BitVec 32 := 0#32
  let v10617 : BitVec 1 := Scalar.cmpi .eq c32_i32_11665 c0_i32_11666
  let c1_i32_11667 : BitVec 32 := 1#32
  let v10618 : BitVec 32 := Scalar.select v10617 c1_i32_11667 c32_i32_11665
  let v10619 : BitVec 32 := Scalar.remsi v10616 v10618
  let c0_i32_11669 : BitVec 32 := 0#32
  let v10621 : BitVec 1 := Scalar.cmpi .slt v10619 c0_i32_11669
  let c0_i32_11670 : BitVec 32 := 0#32
  let v10622 : BitVec 1 := Scalar.cmpi .slt v10618 c0_i32_11670
  let v10623 : BitVec 1 := Scalar.xori v10621 v10622
  let c0_i32_11668 : BitVec 32 := 0#32
  let v10620 : BitVec 1 := Scalar.cmpi .ne v10619 c0_i32_11668
  let v10624 : BitVec 1 := Scalar.andi v10623 v10620
  let v10625 : BitVec 32 := Scalar.addi v10619 v10618
  let v10626 : BitVec 32 := Scalar.select v10624 v10625 v10619
  let c1_i32_11675 : BitVec 32 := 1#32
  let v10627 : BitVec 32 := Scalar.muli v10626 c1_i32_11675
  let v10628 : BitVec 32 := Scalar.addi c0_i32_11676 v10627
  v10628.toNat
def k0_dev371 (d0 : Dev nD) : Nat :=
  let c0_i32_11691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_11679 : BitVec 32 := 30#32
  let v10635 : BitVec 32 := Scalar.addi v2 c30_i32_11679
  let c32_i32_11680 : BitVec 32 := 32#32
  let c0_i32_11681 : BitVec 32 := 0#32
  let v10636 : BitVec 1 := Scalar.cmpi .eq c32_i32_11680 c0_i32_11681
  let c1_i32_11682 : BitVec 32 := 1#32
  let v10637 : BitVec 32 := Scalar.select v10636 c1_i32_11682 c32_i32_11680
  let v10638 : BitVec 32 := Scalar.remsi v10635 v10637
  let c0_i32_11684 : BitVec 32 := 0#32
  let v10640 : BitVec 1 := Scalar.cmpi .slt v10638 c0_i32_11684
  let c0_i32_11685 : BitVec 32 := 0#32
  let v10641 : BitVec 1 := Scalar.cmpi .slt v10637 c0_i32_11685
  let v10642 : BitVec 1 := Scalar.xori v10640 v10641
  let c0_i32_11683 : BitVec 32 := 0#32
  let v10639 : BitVec 1 := Scalar.cmpi .ne v10638 c0_i32_11683
  let v10643 : BitVec 1 := Scalar.andi v10642 v10639
  let v10644 : BitVec 32 := Scalar.addi v10638 v10637
  let v10645 : BitVec 32 := Scalar.select v10643 v10644 v10638
  let c1_i32_11690 : BitVec 32 := 1#32
  let v10646 : BitVec 32 := Scalar.muli v10645 c1_i32_11690
  let v10647 : BitVec 32 := Scalar.addi c0_i32_11691 v10646
  v10647.toNat
def k0_dev372 (d0 : Dev nD) : Nat :=
  let c0_i32_11706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_11694 : BitVec 32 := 31#32
  let v10654 : BitVec 32 := Scalar.addi v2 c31_i32_11694
  let c32_i32_11695 : BitVec 32 := 32#32
  let c0_i32_11696 : BitVec 32 := 0#32
  let v10655 : BitVec 1 := Scalar.cmpi .eq c32_i32_11695 c0_i32_11696
  let c1_i32_11697 : BitVec 32 := 1#32
  let v10656 : BitVec 32 := Scalar.select v10655 c1_i32_11697 c32_i32_11695
  let v10657 : BitVec 32 := Scalar.remsi v10654 v10656
  let c0_i32_11699 : BitVec 32 := 0#32
  let v10659 : BitVec 1 := Scalar.cmpi .slt v10657 c0_i32_11699
  let c0_i32_11700 : BitVec 32 := 0#32
  let v10660 : BitVec 1 := Scalar.cmpi .slt v10656 c0_i32_11700
  let v10661 : BitVec 1 := Scalar.xori v10659 v10660
  let c0_i32_11698 : BitVec 32 := 0#32
  let v10658 : BitVec 1 := Scalar.cmpi .ne v10657 c0_i32_11698
  let v10662 : BitVec 1 := Scalar.andi v10661 v10658
  let v10663 : BitVec 32 := Scalar.addi v10657 v10656
  let v10664 : BitVec 32 := Scalar.select v10662 v10663 v10657
  let c1_i32_11705 : BitVec 32 := 1#32
  let v10665 : BitVec 32 := Scalar.muli v10664 c1_i32_11705
  let v10666 : BitVec 32 := Scalar.addi c0_i32_11706 v10665
  v10666.toNat
def k0_dev373 (d0 : Dev nD) : Nat :=
  let c0_i32_12164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12152 : BitVec 32 := 1#32
  let v10932 : BitVec 32 := Scalar.addi v2 c1_i32_12152
  let c32_i32_12153 : BitVec 32 := 32#32
  let c0_i32_12154 : BitVec 32 := 0#32
  let v10933 : BitVec 1 := Scalar.cmpi .eq c32_i32_12153 c0_i32_12154
  let c1_i32_12155 : BitVec 32 := 1#32
  let v10934 : BitVec 32 := Scalar.select v10933 c1_i32_12155 c32_i32_12153
  let v10935 : BitVec 32 := Scalar.remsi v10932 v10934
  let c0_i32_12157 : BitVec 32 := 0#32
  let v10937 : BitVec 1 := Scalar.cmpi .slt v10935 c0_i32_12157
  let c0_i32_12158 : BitVec 32 := 0#32
  let v10938 : BitVec 1 := Scalar.cmpi .slt v10934 c0_i32_12158
  let v10939 : BitVec 1 := Scalar.xori v10937 v10938
  let c0_i32_12156 : BitVec 32 := 0#32
  let v10936 : BitVec 1 := Scalar.cmpi .ne v10935 c0_i32_12156
  let v10940 : BitVec 1 := Scalar.andi v10939 v10936
  let v10941 : BitVec 32 := Scalar.addi v10935 v10934
  let v10942 : BitVec 32 := Scalar.select v10940 v10941 v10935
  let c1_i32_12163 : BitVec 32 := 1#32
  let v10943 : BitVec 32 := Scalar.muli v10942 c1_i32_12163
  let v10944 : BitVec 32 := Scalar.addi c0_i32_12164 v10943
  v10944.toNat
def k0_dev374 (d0 : Dev nD) : Nat :=
  let c0_i32_12179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_12167 : BitVec 32 := 2#32
  let v10951 : BitVec 32 := Scalar.addi v2 c2_i32_12167
  let c32_i32_12168 : BitVec 32 := 32#32
  let c0_i32_12169 : BitVec 32 := 0#32
  let v10952 : BitVec 1 := Scalar.cmpi .eq c32_i32_12168 c0_i32_12169
  let c1_i32_12170 : BitVec 32 := 1#32
  let v10953 : BitVec 32 := Scalar.select v10952 c1_i32_12170 c32_i32_12168
  let v10954 : BitVec 32 := Scalar.remsi v10951 v10953
  let c0_i32_12172 : BitVec 32 := 0#32
  let v10956 : BitVec 1 := Scalar.cmpi .slt v10954 c0_i32_12172
  let c0_i32_12173 : BitVec 32 := 0#32
  let v10957 : BitVec 1 := Scalar.cmpi .slt v10953 c0_i32_12173
  let v10958 : BitVec 1 := Scalar.xori v10956 v10957
  let c0_i32_12171 : BitVec 32 := 0#32
  let v10955 : BitVec 1 := Scalar.cmpi .ne v10954 c0_i32_12171
  let v10959 : BitVec 1 := Scalar.andi v10958 v10955
  let v10960 : BitVec 32 := Scalar.addi v10954 v10953
  let v10961 : BitVec 32 := Scalar.select v10959 v10960 v10954
  let c1_i32_12178 : BitVec 32 := 1#32
  let v10962 : BitVec 32 := Scalar.muli v10961 c1_i32_12178
  let v10963 : BitVec 32 := Scalar.addi c0_i32_12179 v10962
  v10963.toNat
def k0_dev375 (d0 : Dev nD) : Nat :=
  let c0_i32_12194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_12182 : BitVec 32 := 3#32
  let v10970 : BitVec 32 := Scalar.addi v2 c3_i32_12182
  let c32_i32_12183 : BitVec 32 := 32#32
  let c0_i32_12184 : BitVec 32 := 0#32
  let v10971 : BitVec 1 := Scalar.cmpi .eq c32_i32_12183 c0_i32_12184
  let c1_i32_12185 : BitVec 32 := 1#32
  let v10972 : BitVec 32 := Scalar.select v10971 c1_i32_12185 c32_i32_12183
  let v10973 : BitVec 32 := Scalar.remsi v10970 v10972
  let c0_i32_12187 : BitVec 32 := 0#32
  let v10975 : BitVec 1 := Scalar.cmpi .slt v10973 c0_i32_12187
  let c0_i32_12188 : BitVec 32 := 0#32
  let v10976 : BitVec 1 := Scalar.cmpi .slt v10972 c0_i32_12188
  let v10977 : BitVec 1 := Scalar.xori v10975 v10976
  let c0_i32_12186 : BitVec 32 := 0#32
  let v10974 : BitVec 1 := Scalar.cmpi .ne v10973 c0_i32_12186
  let v10978 : BitVec 1 := Scalar.andi v10977 v10974
  let v10979 : BitVec 32 := Scalar.addi v10973 v10972
  let v10980 : BitVec 32 := Scalar.select v10978 v10979 v10973
  let c1_i32_12193 : BitVec 32 := 1#32
  let v10981 : BitVec 32 := Scalar.muli v10980 c1_i32_12193
  let v10982 : BitVec 32 := Scalar.addi c0_i32_12194 v10981
  v10982.toNat
def k0_dev376 (d0 : Dev nD) : Nat :=
  let c0_i32_12209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_12197 : BitVec 32 := 4#32
  let v10989 : BitVec 32 := Scalar.addi v2 c4_i32_12197
  let c32_i32_12198 : BitVec 32 := 32#32
  let c0_i32_12199 : BitVec 32 := 0#32
  let v10990 : BitVec 1 := Scalar.cmpi .eq c32_i32_12198 c0_i32_12199
  let c1_i32_12200 : BitVec 32 := 1#32
  let v10991 : BitVec 32 := Scalar.select v10990 c1_i32_12200 c32_i32_12198
  let v10992 : BitVec 32 := Scalar.remsi v10989 v10991
  let c0_i32_12202 : BitVec 32 := 0#32
  let v10994 : BitVec 1 := Scalar.cmpi .slt v10992 c0_i32_12202
  let c0_i32_12203 : BitVec 32 := 0#32
  let v10995 : BitVec 1 := Scalar.cmpi .slt v10991 c0_i32_12203
  let v10996 : BitVec 1 := Scalar.xori v10994 v10995
  let c0_i32_12201 : BitVec 32 := 0#32
  let v10993 : BitVec 1 := Scalar.cmpi .ne v10992 c0_i32_12201
  let v10997 : BitVec 1 := Scalar.andi v10996 v10993
  let v10998 : BitVec 32 := Scalar.addi v10992 v10991
  let v10999 : BitVec 32 := Scalar.select v10997 v10998 v10992
  let c1_i32_12208 : BitVec 32 := 1#32
  let v11000 : BitVec 32 := Scalar.muli v10999 c1_i32_12208
  let v11001 : BitVec 32 := Scalar.addi c0_i32_12209 v11000
  v11001.toNat
def k0_dev377 (d0 : Dev nD) : Nat :=
  let c0_i32_12224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_12212 : BitVec 32 := 5#32
  let v11008 : BitVec 32 := Scalar.addi v2 c5_i32_12212
  let c32_i32_12213 : BitVec 32 := 32#32
  let c0_i32_12214 : BitVec 32 := 0#32
  let v11009 : BitVec 1 := Scalar.cmpi .eq c32_i32_12213 c0_i32_12214
  let c1_i32_12215 : BitVec 32 := 1#32
  let v11010 : BitVec 32 := Scalar.select v11009 c1_i32_12215 c32_i32_12213
  let v11011 : BitVec 32 := Scalar.remsi v11008 v11010
  let c0_i32_12217 : BitVec 32 := 0#32
  let v11013 : BitVec 1 := Scalar.cmpi .slt v11011 c0_i32_12217
  let c0_i32_12218 : BitVec 32 := 0#32
  let v11014 : BitVec 1 := Scalar.cmpi .slt v11010 c0_i32_12218
  let v11015 : BitVec 1 := Scalar.xori v11013 v11014
  let c0_i32_12216 : BitVec 32 := 0#32
  let v11012 : BitVec 1 := Scalar.cmpi .ne v11011 c0_i32_12216
  let v11016 : BitVec 1 := Scalar.andi v11015 v11012
  let v11017 : BitVec 32 := Scalar.addi v11011 v11010
  let v11018 : BitVec 32 := Scalar.select v11016 v11017 v11011
  let c1_i32_12223 : BitVec 32 := 1#32
  let v11019 : BitVec 32 := Scalar.muli v11018 c1_i32_12223
  let v11020 : BitVec 32 := Scalar.addi c0_i32_12224 v11019
  v11020.toNat
def k0_dev378 (d0 : Dev nD) : Nat :=
  let c0_i32_12239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_12227 : BitVec 32 := 6#32
  let v11027 : BitVec 32 := Scalar.addi v2 c6_i32_12227
  let c32_i32_12228 : BitVec 32 := 32#32
  let c0_i32_12229 : BitVec 32 := 0#32
  let v11028 : BitVec 1 := Scalar.cmpi .eq c32_i32_12228 c0_i32_12229
  let c1_i32_12230 : BitVec 32 := 1#32
  let v11029 : BitVec 32 := Scalar.select v11028 c1_i32_12230 c32_i32_12228
  let v11030 : BitVec 32 := Scalar.remsi v11027 v11029
  let c0_i32_12232 : BitVec 32 := 0#32
  let v11032 : BitVec 1 := Scalar.cmpi .slt v11030 c0_i32_12232
  let c0_i32_12233 : BitVec 32 := 0#32
  let v11033 : BitVec 1 := Scalar.cmpi .slt v11029 c0_i32_12233
  let v11034 : BitVec 1 := Scalar.xori v11032 v11033
  let c0_i32_12231 : BitVec 32 := 0#32
  let v11031 : BitVec 1 := Scalar.cmpi .ne v11030 c0_i32_12231
  let v11035 : BitVec 1 := Scalar.andi v11034 v11031
  let v11036 : BitVec 32 := Scalar.addi v11030 v11029
  let v11037 : BitVec 32 := Scalar.select v11035 v11036 v11030
  let c1_i32_12238 : BitVec 32 := 1#32
  let v11038 : BitVec 32 := Scalar.muli v11037 c1_i32_12238
  let v11039 : BitVec 32 := Scalar.addi c0_i32_12239 v11038
  v11039.toNat
def k0_dev379 (d0 : Dev nD) : Nat :=
  let c0_i32_12254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_12242 : BitVec 32 := 7#32
  let v11046 : BitVec 32 := Scalar.addi v2 c7_i32_12242
  let c32_i32_12243 : BitVec 32 := 32#32
  let c0_i32_12244 : BitVec 32 := 0#32
  let v11047 : BitVec 1 := Scalar.cmpi .eq c32_i32_12243 c0_i32_12244
  let c1_i32_12245 : BitVec 32 := 1#32
  let v11048 : BitVec 32 := Scalar.select v11047 c1_i32_12245 c32_i32_12243
  let v11049 : BitVec 32 := Scalar.remsi v11046 v11048
  let c0_i32_12247 : BitVec 32 := 0#32
  let v11051 : BitVec 1 := Scalar.cmpi .slt v11049 c0_i32_12247
  let c0_i32_12248 : BitVec 32 := 0#32
  let v11052 : BitVec 1 := Scalar.cmpi .slt v11048 c0_i32_12248
  let v11053 : BitVec 1 := Scalar.xori v11051 v11052
  let c0_i32_12246 : BitVec 32 := 0#32
  let v11050 : BitVec 1 := Scalar.cmpi .ne v11049 c0_i32_12246
  let v11054 : BitVec 1 := Scalar.andi v11053 v11050
  let v11055 : BitVec 32 := Scalar.addi v11049 v11048
  let v11056 : BitVec 32 := Scalar.select v11054 v11055 v11049
  let c1_i32_12253 : BitVec 32 := 1#32
  let v11057 : BitVec 32 := Scalar.muli v11056 c1_i32_12253
  let v11058 : BitVec 32 := Scalar.addi c0_i32_12254 v11057
  v11058.toNat
def k0_dev380 (d0 : Dev nD) : Nat :=
  let c0_i32_12269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_12257 : BitVec 32 := 8#32
  let v11065 : BitVec 32 := Scalar.addi v2 c8_i32_12257
  let c32_i32_12258 : BitVec 32 := 32#32
  let c0_i32_12259 : BitVec 32 := 0#32
  let v11066 : BitVec 1 := Scalar.cmpi .eq c32_i32_12258 c0_i32_12259
  let c1_i32_12260 : BitVec 32 := 1#32
  let v11067 : BitVec 32 := Scalar.select v11066 c1_i32_12260 c32_i32_12258
  let v11068 : BitVec 32 := Scalar.remsi v11065 v11067
  let c0_i32_12262 : BitVec 32 := 0#32
  let v11070 : BitVec 1 := Scalar.cmpi .slt v11068 c0_i32_12262
  let c0_i32_12263 : BitVec 32 := 0#32
  let v11071 : BitVec 1 := Scalar.cmpi .slt v11067 c0_i32_12263
  let v11072 : BitVec 1 := Scalar.xori v11070 v11071
  let c0_i32_12261 : BitVec 32 := 0#32
  let v11069 : BitVec 1 := Scalar.cmpi .ne v11068 c0_i32_12261
  let v11073 : BitVec 1 := Scalar.andi v11072 v11069
  let v11074 : BitVec 32 := Scalar.addi v11068 v11067
  let v11075 : BitVec 32 := Scalar.select v11073 v11074 v11068
  let c1_i32_12268 : BitVec 32 := 1#32
  let v11076 : BitVec 32 := Scalar.muli v11075 c1_i32_12268
  let v11077 : BitVec 32 := Scalar.addi c0_i32_12269 v11076
  v11077.toNat
def k0_dev381 (d0 : Dev nD) : Nat :=
  let c0_i32_12284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_12272 : BitVec 32 := 9#32
  let v11084 : BitVec 32 := Scalar.addi v2 c9_i32_12272
  let c32_i32_12273 : BitVec 32 := 32#32
  let c0_i32_12274 : BitVec 32 := 0#32
  let v11085 : BitVec 1 := Scalar.cmpi .eq c32_i32_12273 c0_i32_12274
  let c1_i32_12275 : BitVec 32 := 1#32
  let v11086 : BitVec 32 := Scalar.select v11085 c1_i32_12275 c32_i32_12273
  let v11087 : BitVec 32 := Scalar.remsi v11084 v11086
  let c0_i32_12277 : BitVec 32 := 0#32
  let v11089 : BitVec 1 := Scalar.cmpi .slt v11087 c0_i32_12277
  let c0_i32_12278 : BitVec 32 := 0#32
  let v11090 : BitVec 1 := Scalar.cmpi .slt v11086 c0_i32_12278
  let v11091 : BitVec 1 := Scalar.xori v11089 v11090
  let c0_i32_12276 : BitVec 32 := 0#32
  let v11088 : BitVec 1 := Scalar.cmpi .ne v11087 c0_i32_12276
  let v11092 : BitVec 1 := Scalar.andi v11091 v11088
  let v11093 : BitVec 32 := Scalar.addi v11087 v11086
  let v11094 : BitVec 32 := Scalar.select v11092 v11093 v11087
  let c1_i32_12283 : BitVec 32 := 1#32
  let v11095 : BitVec 32 := Scalar.muli v11094 c1_i32_12283
  let v11096 : BitVec 32 := Scalar.addi c0_i32_12284 v11095
  v11096.toNat
def k0_dev382 (d0 : Dev nD) : Nat :=
  let c0_i32_12299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_12287 : BitVec 32 := 10#32
  let v11103 : BitVec 32 := Scalar.addi v2 c10_i32_12287
  let c32_i32_12288 : BitVec 32 := 32#32
  let c0_i32_12289 : BitVec 32 := 0#32
  let v11104 : BitVec 1 := Scalar.cmpi .eq c32_i32_12288 c0_i32_12289
  let c1_i32_12290 : BitVec 32 := 1#32
  let v11105 : BitVec 32 := Scalar.select v11104 c1_i32_12290 c32_i32_12288
  let v11106 : BitVec 32 := Scalar.remsi v11103 v11105
  let c0_i32_12292 : BitVec 32 := 0#32
  let v11108 : BitVec 1 := Scalar.cmpi .slt v11106 c0_i32_12292
  let c0_i32_12293 : BitVec 32 := 0#32
  let v11109 : BitVec 1 := Scalar.cmpi .slt v11105 c0_i32_12293
  let v11110 : BitVec 1 := Scalar.xori v11108 v11109
  let c0_i32_12291 : BitVec 32 := 0#32
  let v11107 : BitVec 1 := Scalar.cmpi .ne v11106 c0_i32_12291
  let v11111 : BitVec 1 := Scalar.andi v11110 v11107
  let v11112 : BitVec 32 := Scalar.addi v11106 v11105
  let v11113 : BitVec 32 := Scalar.select v11111 v11112 v11106
  let c1_i32_12298 : BitVec 32 := 1#32
  let v11114 : BitVec 32 := Scalar.muli v11113 c1_i32_12298
  let v11115 : BitVec 32 := Scalar.addi c0_i32_12299 v11114
  v11115.toNat
def k0_dev383 (d0 : Dev nD) : Nat :=
  let c0_i32_12314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_12302 : BitVec 32 := 11#32
  let v11122 : BitVec 32 := Scalar.addi v2 c11_i32_12302
  let c32_i32_12303 : BitVec 32 := 32#32
  let c0_i32_12304 : BitVec 32 := 0#32
  let v11123 : BitVec 1 := Scalar.cmpi .eq c32_i32_12303 c0_i32_12304
  let c1_i32_12305 : BitVec 32 := 1#32
  let v11124 : BitVec 32 := Scalar.select v11123 c1_i32_12305 c32_i32_12303
  let v11125 : BitVec 32 := Scalar.remsi v11122 v11124
  let c0_i32_12307 : BitVec 32 := 0#32
  let v11127 : BitVec 1 := Scalar.cmpi .slt v11125 c0_i32_12307
  let c0_i32_12308 : BitVec 32 := 0#32
  let v11128 : BitVec 1 := Scalar.cmpi .slt v11124 c0_i32_12308
  let v11129 : BitVec 1 := Scalar.xori v11127 v11128
  let c0_i32_12306 : BitVec 32 := 0#32
  let v11126 : BitVec 1 := Scalar.cmpi .ne v11125 c0_i32_12306
  let v11130 : BitVec 1 := Scalar.andi v11129 v11126
  let v11131 : BitVec 32 := Scalar.addi v11125 v11124
  let v11132 : BitVec 32 := Scalar.select v11130 v11131 v11125
  let c1_i32_12313 : BitVec 32 := 1#32
  let v11133 : BitVec 32 := Scalar.muli v11132 c1_i32_12313
  let v11134 : BitVec 32 := Scalar.addi c0_i32_12314 v11133
  v11134.toNat
def k0_dev384 (d0 : Dev nD) : Nat :=
  let c0_i32_12329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_12317 : BitVec 32 := 12#32
  let v11141 : BitVec 32 := Scalar.addi v2 c12_i32_12317
  let c32_i32_12318 : BitVec 32 := 32#32
  let c0_i32_12319 : BitVec 32 := 0#32
  let v11142 : BitVec 1 := Scalar.cmpi .eq c32_i32_12318 c0_i32_12319
  let c1_i32_12320 : BitVec 32 := 1#32
  let v11143 : BitVec 32 := Scalar.select v11142 c1_i32_12320 c32_i32_12318
  let v11144 : BitVec 32 := Scalar.remsi v11141 v11143
  let c0_i32_12322 : BitVec 32 := 0#32
  let v11146 : BitVec 1 := Scalar.cmpi .slt v11144 c0_i32_12322
  let c0_i32_12323 : BitVec 32 := 0#32
  let v11147 : BitVec 1 := Scalar.cmpi .slt v11143 c0_i32_12323
  let v11148 : BitVec 1 := Scalar.xori v11146 v11147
  let c0_i32_12321 : BitVec 32 := 0#32
  let v11145 : BitVec 1 := Scalar.cmpi .ne v11144 c0_i32_12321
  let v11149 : BitVec 1 := Scalar.andi v11148 v11145
  let v11150 : BitVec 32 := Scalar.addi v11144 v11143
  let v11151 : BitVec 32 := Scalar.select v11149 v11150 v11144
  let c1_i32_12328 : BitVec 32 := 1#32
  let v11152 : BitVec 32 := Scalar.muli v11151 c1_i32_12328
  let v11153 : BitVec 32 := Scalar.addi c0_i32_12329 v11152
  v11153.toNat
def k0_dev385 (d0 : Dev nD) : Nat :=
  let c0_i32_12344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_12332 : BitVec 32 := 13#32
  let v11160 : BitVec 32 := Scalar.addi v2 c13_i32_12332
  let c32_i32_12333 : BitVec 32 := 32#32
  let c0_i32_12334 : BitVec 32 := 0#32
  let v11161 : BitVec 1 := Scalar.cmpi .eq c32_i32_12333 c0_i32_12334
  let c1_i32_12335 : BitVec 32 := 1#32
  let v11162 : BitVec 32 := Scalar.select v11161 c1_i32_12335 c32_i32_12333
  let v11163 : BitVec 32 := Scalar.remsi v11160 v11162
  let c0_i32_12337 : BitVec 32 := 0#32
  let v11165 : BitVec 1 := Scalar.cmpi .slt v11163 c0_i32_12337
  let c0_i32_12338 : BitVec 32 := 0#32
  let v11166 : BitVec 1 := Scalar.cmpi .slt v11162 c0_i32_12338
  let v11167 : BitVec 1 := Scalar.xori v11165 v11166
  let c0_i32_12336 : BitVec 32 := 0#32
  let v11164 : BitVec 1 := Scalar.cmpi .ne v11163 c0_i32_12336
  let v11168 : BitVec 1 := Scalar.andi v11167 v11164
  let v11169 : BitVec 32 := Scalar.addi v11163 v11162
  let v11170 : BitVec 32 := Scalar.select v11168 v11169 v11163
  let c1_i32_12343 : BitVec 32 := 1#32
  let v11171 : BitVec 32 := Scalar.muli v11170 c1_i32_12343
  let v11172 : BitVec 32 := Scalar.addi c0_i32_12344 v11171
  v11172.toNat
def k0_dev386 (d0 : Dev nD) : Nat :=
  let c0_i32_12359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_12347 : BitVec 32 := 14#32
  let v11179 : BitVec 32 := Scalar.addi v2 c14_i32_12347
  let c32_i32_12348 : BitVec 32 := 32#32
  let c0_i32_12349 : BitVec 32 := 0#32
  let v11180 : BitVec 1 := Scalar.cmpi .eq c32_i32_12348 c0_i32_12349
  let c1_i32_12350 : BitVec 32 := 1#32
  let v11181 : BitVec 32 := Scalar.select v11180 c1_i32_12350 c32_i32_12348
  let v11182 : BitVec 32 := Scalar.remsi v11179 v11181
  let c0_i32_12352 : BitVec 32 := 0#32
  let v11184 : BitVec 1 := Scalar.cmpi .slt v11182 c0_i32_12352
  let c0_i32_12353 : BitVec 32 := 0#32
  let v11185 : BitVec 1 := Scalar.cmpi .slt v11181 c0_i32_12353
  let v11186 : BitVec 1 := Scalar.xori v11184 v11185
  let c0_i32_12351 : BitVec 32 := 0#32
  let v11183 : BitVec 1 := Scalar.cmpi .ne v11182 c0_i32_12351
  let v11187 : BitVec 1 := Scalar.andi v11186 v11183
  let v11188 : BitVec 32 := Scalar.addi v11182 v11181
  let v11189 : BitVec 32 := Scalar.select v11187 v11188 v11182
  let c1_i32_12358 : BitVec 32 := 1#32
  let v11190 : BitVec 32 := Scalar.muli v11189 c1_i32_12358
  let v11191 : BitVec 32 := Scalar.addi c0_i32_12359 v11190
  v11191.toNat
def k0_dev387 (d0 : Dev nD) : Nat :=
  let c0_i32_12374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_12362 : BitVec 32 := 15#32
  let v11198 : BitVec 32 := Scalar.addi v2 c15_i32_12362
  let c32_i32_12363 : BitVec 32 := 32#32
  let c0_i32_12364 : BitVec 32 := 0#32
  let v11199 : BitVec 1 := Scalar.cmpi .eq c32_i32_12363 c0_i32_12364
  let c1_i32_12365 : BitVec 32 := 1#32
  let v11200 : BitVec 32 := Scalar.select v11199 c1_i32_12365 c32_i32_12363
  let v11201 : BitVec 32 := Scalar.remsi v11198 v11200
  let c0_i32_12367 : BitVec 32 := 0#32
  let v11203 : BitVec 1 := Scalar.cmpi .slt v11201 c0_i32_12367
  let c0_i32_12368 : BitVec 32 := 0#32
  let v11204 : BitVec 1 := Scalar.cmpi .slt v11200 c0_i32_12368
  let v11205 : BitVec 1 := Scalar.xori v11203 v11204
  let c0_i32_12366 : BitVec 32 := 0#32
  let v11202 : BitVec 1 := Scalar.cmpi .ne v11201 c0_i32_12366
  let v11206 : BitVec 1 := Scalar.andi v11205 v11202
  let v11207 : BitVec 32 := Scalar.addi v11201 v11200
  let v11208 : BitVec 32 := Scalar.select v11206 v11207 v11201
  let c1_i32_12373 : BitVec 32 := 1#32
  let v11209 : BitVec 32 := Scalar.muli v11208 c1_i32_12373
  let v11210 : BitVec 32 := Scalar.addi c0_i32_12374 v11209
  v11210.toNat
def k0_dev388 (d0 : Dev nD) : Nat :=
  let c0_i32_12389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_12377 : BitVec 32 := 16#32
  let v11217 : BitVec 32 := Scalar.addi v2 c16_i32_12377
  let c32_i32_12378 : BitVec 32 := 32#32
  let c0_i32_12379 : BitVec 32 := 0#32
  let v11218 : BitVec 1 := Scalar.cmpi .eq c32_i32_12378 c0_i32_12379
  let c1_i32_12380 : BitVec 32 := 1#32
  let v11219 : BitVec 32 := Scalar.select v11218 c1_i32_12380 c32_i32_12378
  let v11220 : BitVec 32 := Scalar.remsi v11217 v11219
  let c0_i32_12382 : BitVec 32 := 0#32
  let v11222 : BitVec 1 := Scalar.cmpi .slt v11220 c0_i32_12382
  let c0_i32_12383 : BitVec 32 := 0#32
  let v11223 : BitVec 1 := Scalar.cmpi .slt v11219 c0_i32_12383
  let v11224 : BitVec 1 := Scalar.xori v11222 v11223
  let c0_i32_12381 : BitVec 32 := 0#32
  let v11221 : BitVec 1 := Scalar.cmpi .ne v11220 c0_i32_12381
  let v11225 : BitVec 1 := Scalar.andi v11224 v11221
  let v11226 : BitVec 32 := Scalar.addi v11220 v11219
  let v11227 : BitVec 32 := Scalar.select v11225 v11226 v11220
  let c1_i32_12388 : BitVec 32 := 1#32
  let v11228 : BitVec 32 := Scalar.muli v11227 c1_i32_12388
  let v11229 : BitVec 32 := Scalar.addi c0_i32_12389 v11228
  v11229.toNat
def k0_dev389 (d0 : Dev nD) : Nat :=
  let c0_i32_12404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_12392 : BitVec 32 := 17#32
  let v11236 : BitVec 32 := Scalar.addi v2 c17_i32_12392
  let c32_i32_12393 : BitVec 32 := 32#32
  let c0_i32_12394 : BitVec 32 := 0#32
  let v11237 : BitVec 1 := Scalar.cmpi .eq c32_i32_12393 c0_i32_12394
  let c1_i32_12395 : BitVec 32 := 1#32
  let v11238 : BitVec 32 := Scalar.select v11237 c1_i32_12395 c32_i32_12393
  let v11239 : BitVec 32 := Scalar.remsi v11236 v11238
  let c0_i32_12397 : BitVec 32 := 0#32
  let v11241 : BitVec 1 := Scalar.cmpi .slt v11239 c0_i32_12397
  let c0_i32_12398 : BitVec 32 := 0#32
  let v11242 : BitVec 1 := Scalar.cmpi .slt v11238 c0_i32_12398
  let v11243 : BitVec 1 := Scalar.xori v11241 v11242
  let c0_i32_12396 : BitVec 32 := 0#32
  let v11240 : BitVec 1 := Scalar.cmpi .ne v11239 c0_i32_12396
  let v11244 : BitVec 1 := Scalar.andi v11243 v11240
  let v11245 : BitVec 32 := Scalar.addi v11239 v11238
  let v11246 : BitVec 32 := Scalar.select v11244 v11245 v11239
  let c1_i32_12403 : BitVec 32 := 1#32
  let v11247 : BitVec 32 := Scalar.muli v11246 c1_i32_12403
  let v11248 : BitVec 32 := Scalar.addi c0_i32_12404 v11247
  v11248.toNat
def k0_dev390 (d0 : Dev nD) : Nat :=
  let c0_i32_12419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_12407 : BitVec 32 := 18#32
  let v11255 : BitVec 32 := Scalar.addi v2 c18_i32_12407
  let c32_i32_12408 : BitVec 32 := 32#32
  let c0_i32_12409 : BitVec 32 := 0#32
  let v11256 : BitVec 1 := Scalar.cmpi .eq c32_i32_12408 c0_i32_12409
  let c1_i32_12410 : BitVec 32 := 1#32
  let v11257 : BitVec 32 := Scalar.select v11256 c1_i32_12410 c32_i32_12408
  let v11258 : BitVec 32 := Scalar.remsi v11255 v11257
  let c0_i32_12412 : BitVec 32 := 0#32
  let v11260 : BitVec 1 := Scalar.cmpi .slt v11258 c0_i32_12412
  let c0_i32_12413 : BitVec 32 := 0#32
  let v11261 : BitVec 1 := Scalar.cmpi .slt v11257 c0_i32_12413
  let v11262 : BitVec 1 := Scalar.xori v11260 v11261
  let c0_i32_12411 : BitVec 32 := 0#32
  let v11259 : BitVec 1 := Scalar.cmpi .ne v11258 c0_i32_12411
  let v11263 : BitVec 1 := Scalar.andi v11262 v11259
  let v11264 : BitVec 32 := Scalar.addi v11258 v11257
  let v11265 : BitVec 32 := Scalar.select v11263 v11264 v11258
  let c1_i32_12418 : BitVec 32 := 1#32
  let v11266 : BitVec 32 := Scalar.muli v11265 c1_i32_12418
  let v11267 : BitVec 32 := Scalar.addi c0_i32_12419 v11266
  v11267.toNat
def k0_dev391 (d0 : Dev nD) : Nat :=
  let c0_i32_12434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_12422 : BitVec 32 := 19#32
  let v11274 : BitVec 32 := Scalar.addi v2 c19_i32_12422
  let c32_i32_12423 : BitVec 32 := 32#32
  let c0_i32_12424 : BitVec 32 := 0#32
  let v11275 : BitVec 1 := Scalar.cmpi .eq c32_i32_12423 c0_i32_12424
  let c1_i32_12425 : BitVec 32 := 1#32
  let v11276 : BitVec 32 := Scalar.select v11275 c1_i32_12425 c32_i32_12423
  let v11277 : BitVec 32 := Scalar.remsi v11274 v11276
  let c0_i32_12427 : BitVec 32 := 0#32
  let v11279 : BitVec 1 := Scalar.cmpi .slt v11277 c0_i32_12427
  let c0_i32_12428 : BitVec 32 := 0#32
  let v11280 : BitVec 1 := Scalar.cmpi .slt v11276 c0_i32_12428
  let v11281 : BitVec 1 := Scalar.xori v11279 v11280
  let c0_i32_12426 : BitVec 32 := 0#32
  let v11278 : BitVec 1 := Scalar.cmpi .ne v11277 c0_i32_12426
  let v11282 : BitVec 1 := Scalar.andi v11281 v11278
  let v11283 : BitVec 32 := Scalar.addi v11277 v11276
  let v11284 : BitVec 32 := Scalar.select v11282 v11283 v11277
  let c1_i32_12433 : BitVec 32 := 1#32
  let v11285 : BitVec 32 := Scalar.muli v11284 c1_i32_12433
  let v11286 : BitVec 32 := Scalar.addi c0_i32_12434 v11285
  v11286.toNat
def k0_dev392 (d0 : Dev nD) : Nat :=
  let c0_i32_12449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_12437 : BitVec 32 := 20#32
  let v11293 : BitVec 32 := Scalar.addi v2 c20_i32_12437
  let c32_i32_12438 : BitVec 32 := 32#32
  let c0_i32_12439 : BitVec 32 := 0#32
  let v11294 : BitVec 1 := Scalar.cmpi .eq c32_i32_12438 c0_i32_12439
  let c1_i32_12440 : BitVec 32 := 1#32
  let v11295 : BitVec 32 := Scalar.select v11294 c1_i32_12440 c32_i32_12438
  let v11296 : BitVec 32 := Scalar.remsi v11293 v11295
  let c0_i32_12442 : BitVec 32 := 0#32
  let v11298 : BitVec 1 := Scalar.cmpi .slt v11296 c0_i32_12442
  let c0_i32_12443 : BitVec 32 := 0#32
  let v11299 : BitVec 1 := Scalar.cmpi .slt v11295 c0_i32_12443
  let v11300 : BitVec 1 := Scalar.xori v11298 v11299
  let c0_i32_12441 : BitVec 32 := 0#32
  let v11297 : BitVec 1 := Scalar.cmpi .ne v11296 c0_i32_12441
  let v11301 : BitVec 1 := Scalar.andi v11300 v11297
  let v11302 : BitVec 32 := Scalar.addi v11296 v11295
  let v11303 : BitVec 32 := Scalar.select v11301 v11302 v11296
  let c1_i32_12448 : BitVec 32 := 1#32
  let v11304 : BitVec 32 := Scalar.muli v11303 c1_i32_12448
  let v11305 : BitVec 32 := Scalar.addi c0_i32_12449 v11304
  v11305.toNat
def k0_dev393 (d0 : Dev nD) : Nat :=
  let c0_i32_12464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_12452 : BitVec 32 := 21#32
  let v11312 : BitVec 32 := Scalar.addi v2 c21_i32_12452
  let c32_i32_12453 : BitVec 32 := 32#32
  let c0_i32_12454 : BitVec 32 := 0#32
  let v11313 : BitVec 1 := Scalar.cmpi .eq c32_i32_12453 c0_i32_12454
  let c1_i32_12455 : BitVec 32 := 1#32
  let v11314 : BitVec 32 := Scalar.select v11313 c1_i32_12455 c32_i32_12453
  let v11315 : BitVec 32 := Scalar.remsi v11312 v11314
  let c0_i32_12457 : BitVec 32 := 0#32
  let v11317 : BitVec 1 := Scalar.cmpi .slt v11315 c0_i32_12457
  let c0_i32_12458 : BitVec 32 := 0#32
  let v11318 : BitVec 1 := Scalar.cmpi .slt v11314 c0_i32_12458
  let v11319 : BitVec 1 := Scalar.xori v11317 v11318
  let c0_i32_12456 : BitVec 32 := 0#32
  let v11316 : BitVec 1 := Scalar.cmpi .ne v11315 c0_i32_12456
  let v11320 : BitVec 1 := Scalar.andi v11319 v11316
  let v11321 : BitVec 32 := Scalar.addi v11315 v11314
  let v11322 : BitVec 32 := Scalar.select v11320 v11321 v11315
  let c1_i32_12463 : BitVec 32 := 1#32
  let v11323 : BitVec 32 := Scalar.muli v11322 c1_i32_12463
  let v11324 : BitVec 32 := Scalar.addi c0_i32_12464 v11323
  v11324.toNat
def k0_dev394 (d0 : Dev nD) : Nat :=
  let c0_i32_12479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_12467 : BitVec 32 := 22#32
  let v11331 : BitVec 32 := Scalar.addi v2 c22_i32_12467
  let c32_i32_12468 : BitVec 32 := 32#32
  let c0_i32_12469 : BitVec 32 := 0#32
  let v11332 : BitVec 1 := Scalar.cmpi .eq c32_i32_12468 c0_i32_12469
  let c1_i32_12470 : BitVec 32 := 1#32
  let v11333 : BitVec 32 := Scalar.select v11332 c1_i32_12470 c32_i32_12468
  let v11334 : BitVec 32 := Scalar.remsi v11331 v11333
  let c0_i32_12472 : BitVec 32 := 0#32
  let v11336 : BitVec 1 := Scalar.cmpi .slt v11334 c0_i32_12472
  let c0_i32_12473 : BitVec 32 := 0#32
  let v11337 : BitVec 1 := Scalar.cmpi .slt v11333 c0_i32_12473
  let v11338 : BitVec 1 := Scalar.xori v11336 v11337
  let c0_i32_12471 : BitVec 32 := 0#32
  let v11335 : BitVec 1 := Scalar.cmpi .ne v11334 c0_i32_12471
  let v11339 : BitVec 1 := Scalar.andi v11338 v11335
  let v11340 : BitVec 32 := Scalar.addi v11334 v11333
  let v11341 : BitVec 32 := Scalar.select v11339 v11340 v11334
  let c1_i32_12478 : BitVec 32 := 1#32
  let v11342 : BitVec 32 := Scalar.muli v11341 c1_i32_12478
  let v11343 : BitVec 32 := Scalar.addi c0_i32_12479 v11342
  v11343.toNat
def k0_dev395 (d0 : Dev nD) : Nat :=
  let c0_i32_12494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_12482 : BitVec 32 := 23#32
  let v11350 : BitVec 32 := Scalar.addi v2 c23_i32_12482
  let c32_i32_12483 : BitVec 32 := 32#32
  let c0_i32_12484 : BitVec 32 := 0#32
  let v11351 : BitVec 1 := Scalar.cmpi .eq c32_i32_12483 c0_i32_12484
  let c1_i32_12485 : BitVec 32 := 1#32
  let v11352 : BitVec 32 := Scalar.select v11351 c1_i32_12485 c32_i32_12483
  let v11353 : BitVec 32 := Scalar.remsi v11350 v11352
  let c0_i32_12487 : BitVec 32 := 0#32
  let v11355 : BitVec 1 := Scalar.cmpi .slt v11353 c0_i32_12487
  let c0_i32_12488 : BitVec 32 := 0#32
  let v11356 : BitVec 1 := Scalar.cmpi .slt v11352 c0_i32_12488
  let v11357 : BitVec 1 := Scalar.xori v11355 v11356
  let c0_i32_12486 : BitVec 32 := 0#32
  let v11354 : BitVec 1 := Scalar.cmpi .ne v11353 c0_i32_12486
  let v11358 : BitVec 1 := Scalar.andi v11357 v11354
  let v11359 : BitVec 32 := Scalar.addi v11353 v11352
  let v11360 : BitVec 32 := Scalar.select v11358 v11359 v11353
  let c1_i32_12493 : BitVec 32 := 1#32
  let v11361 : BitVec 32 := Scalar.muli v11360 c1_i32_12493
  let v11362 : BitVec 32 := Scalar.addi c0_i32_12494 v11361
  v11362.toNat
def k0_dev396 (d0 : Dev nD) : Nat :=
  let c0_i32_12509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_12497 : BitVec 32 := 24#32
  let v11369 : BitVec 32 := Scalar.addi v2 c24_i32_12497
  let c32_i32_12498 : BitVec 32 := 32#32
  let c0_i32_12499 : BitVec 32 := 0#32
  let v11370 : BitVec 1 := Scalar.cmpi .eq c32_i32_12498 c0_i32_12499
  let c1_i32_12500 : BitVec 32 := 1#32
  let v11371 : BitVec 32 := Scalar.select v11370 c1_i32_12500 c32_i32_12498
  let v11372 : BitVec 32 := Scalar.remsi v11369 v11371
  let c0_i32_12502 : BitVec 32 := 0#32
  let v11374 : BitVec 1 := Scalar.cmpi .slt v11372 c0_i32_12502
  let c0_i32_12503 : BitVec 32 := 0#32
  let v11375 : BitVec 1 := Scalar.cmpi .slt v11371 c0_i32_12503
  let v11376 : BitVec 1 := Scalar.xori v11374 v11375
  let c0_i32_12501 : BitVec 32 := 0#32
  let v11373 : BitVec 1 := Scalar.cmpi .ne v11372 c0_i32_12501
  let v11377 : BitVec 1 := Scalar.andi v11376 v11373
  let v11378 : BitVec 32 := Scalar.addi v11372 v11371
  let v11379 : BitVec 32 := Scalar.select v11377 v11378 v11372
  let c1_i32_12508 : BitVec 32 := 1#32
  let v11380 : BitVec 32 := Scalar.muli v11379 c1_i32_12508
  let v11381 : BitVec 32 := Scalar.addi c0_i32_12509 v11380
  v11381.toNat
def k0_dev397 (d0 : Dev nD) : Nat :=
  let c0_i32_12524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_12512 : BitVec 32 := 25#32
  let v11388 : BitVec 32 := Scalar.addi v2 c25_i32_12512
  let c32_i32_12513 : BitVec 32 := 32#32
  let c0_i32_12514 : BitVec 32 := 0#32
  let v11389 : BitVec 1 := Scalar.cmpi .eq c32_i32_12513 c0_i32_12514
  let c1_i32_12515 : BitVec 32 := 1#32
  let v11390 : BitVec 32 := Scalar.select v11389 c1_i32_12515 c32_i32_12513
  let v11391 : BitVec 32 := Scalar.remsi v11388 v11390
  let c0_i32_12517 : BitVec 32 := 0#32
  let v11393 : BitVec 1 := Scalar.cmpi .slt v11391 c0_i32_12517
  let c0_i32_12518 : BitVec 32 := 0#32
  let v11394 : BitVec 1 := Scalar.cmpi .slt v11390 c0_i32_12518
  let v11395 : BitVec 1 := Scalar.xori v11393 v11394
  let c0_i32_12516 : BitVec 32 := 0#32
  let v11392 : BitVec 1 := Scalar.cmpi .ne v11391 c0_i32_12516
  let v11396 : BitVec 1 := Scalar.andi v11395 v11392
  let v11397 : BitVec 32 := Scalar.addi v11391 v11390
  let v11398 : BitVec 32 := Scalar.select v11396 v11397 v11391
  let c1_i32_12523 : BitVec 32 := 1#32
  let v11399 : BitVec 32 := Scalar.muli v11398 c1_i32_12523
  let v11400 : BitVec 32 := Scalar.addi c0_i32_12524 v11399
  v11400.toNat
def k0_dev398 (d0 : Dev nD) : Nat :=
  let c0_i32_12539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_12527 : BitVec 32 := 26#32
  let v11407 : BitVec 32 := Scalar.addi v2 c26_i32_12527
  let c32_i32_12528 : BitVec 32 := 32#32
  let c0_i32_12529 : BitVec 32 := 0#32
  let v11408 : BitVec 1 := Scalar.cmpi .eq c32_i32_12528 c0_i32_12529
  let c1_i32_12530 : BitVec 32 := 1#32
  let v11409 : BitVec 32 := Scalar.select v11408 c1_i32_12530 c32_i32_12528
  let v11410 : BitVec 32 := Scalar.remsi v11407 v11409
  let c0_i32_12532 : BitVec 32 := 0#32
  let v11412 : BitVec 1 := Scalar.cmpi .slt v11410 c0_i32_12532
  let c0_i32_12533 : BitVec 32 := 0#32
  let v11413 : BitVec 1 := Scalar.cmpi .slt v11409 c0_i32_12533
  let v11414 : BitVec 1 := Scalar.xori v11412 v11413
  let c0_i32_12531 : BitVec 32 := 0#32
  let v11411 : BitVec 1 := Scalar.cmpi .ne v11410 c0_i32_12531
  let v11415 : BitVec 1 := Scalar.andi v11414 v11411
  let v11416 : BitVec 32 := Scalar.addi v11410 v11409
  let v11417 : BitVec 32 := Scalar.select v11415 v11416 v11410
  let c1_i32_12538 : BitVec 32 := 1#32
  let v11418 : BitVec 32 := Scalar.muli v11417 c1_i32_12538
  let v11419 : BitVec 32 := Scalar.addi c0_i32_12539 v11418
  v11419.toNat
def k0_dev399 (d0 : Dev nD) : Nat :=
  let c0_i32_12554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_12542 : BitVec 32 := 27#32
  let v11426 : BitVec 32 := Scalar.addi v2 c27_i32_12542
  let c32_i32_12543 : BitVec 32 := 32#32
  let c0_i32_12544 : BitVec 32 := 0#32
  let v11427 : BitVec 1 := Scalar.cmpi .eq c32_i32_12543 c0_i32_12544
  let c1_i32_12545 : BitVec 32 := 1#32
  let v11428 : BitVec 32 := Scalar.select v11427 c1_i32_12545 c32_i32_12543
  let v11429 : BitVec 32 := Scalar.remsi v11426 v11428
  let c0_i32_12547 : BitVec 32 := 0#32
  let v11431 : BitVec 1 := Scalar.cmpi .slt v11429 c0_i32_12547
  let c0_i32_12548 : BitVec 32 := 0#32
  let v11432 : BitVec 1 := Scalar.cmpi .slt v11428 c0_i32_12548
  let v11433 : BitVec 1 := Scalar.xori v11431 v11432
  let c0_i32_12546 : BitVec 32 := 0#32
  let v11430 : BitVec 1 := Scalar.cmpi .ne v11429 c0_i32_12546
  let v11434 : BitVec 1 := Scalar.andi v11433 v11430
  let v11435 : BitVec 32 := Scalar.addi v11429 v11428
  let v11436 : BitVec 32 := Scalar.select v11434 v11435 v11429
  let c1_i32_12553 : BitVec 32 := 1#32
  let v11437 : BitVec 32 := Scalar.muli v11436 c1_i32_12553
  let v11438 : BitVec 32 := Scalar.addi c0_i32_12554 v11437
  v11438.toNat
def k0_dev400 (d0 : Dev nD) : Nat :=
  let c0_i32_12569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_12557 : BitVec 32 := 28#32
  let v11445 : BitVec 32 := Scalar.addi v2 c28_i32_12557
  let c32_i32_12558 : BitVec 32 := 32#32
  let c0_i32_12559 : BitVec 32 := 0#32
  let v11446 : BitVec 1 := Scalar.cmpi .eq c32_i32_12558 c0_i32_12559
  let c1_i32_12560 : BitVec 32 := 1#32
  let v11447 : BitVec 32 := Scalar.select v11446 c1_i32_12560 c32_i32_12558
  let v11448 : BitVec 32 := Scalar.remsi v11445 v11447
  let c0_i32_12562 : BitVec 32 := 0#32
  let v11450 : BitVec 1 := Scalar.cmpi .slt v11448 c0_i32_12562
  let c0_i32_12563 : BitVec 32 := 0#32
  let v11451 : BitVec 1 := Scalar.cmpi .slt v11447 c0_i32_12563
  let v11452 : BitVec 1 := Scalar.xori v11450 v11451
  let c0_i32_12561 : BitVec 32 := 0#32
  let v11449 : BitVec 1 := Scalar.cmpi .ne v11448 c0_i32_12561
  let v11453 : BitVec 1 := Scalar.andi v11452 v11449
  let v11454 : BitVec 32 := Scalar.addi v11448 v11447
  let v11455 : BitVec 32 := Scalar.select v11453 v11454 v11448
  let c1_i32_12568 : BitVec 32 := 1#32
  let v11456 : BitVec 32 := Scalar.muli v11455 c1_i32_12568
  let v11457 : BitVec 32 := Scalar.addi c0_i32_12569 v11456
  v11457.toNat
def k0_dev401 (d0 : Dev nD) : Nat :=
  let c0_i32_12584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_12572 : BitVec 32 := 29#32
  let v11464 : BitVec 32 := Scalar.addi v2 c29_i32_12572
  let c32_i32_12573 : BitVec 32 := 32#32
  let c0_i32_12574 : BitVec 32 := 0#32
  let v11465 : BitVec 1 := Scalar.cmpi .eq c32_i32_12573 c0_i32_12574
  let c1_i32_12575 : BitVec 32 := 1#32
  let v11466 : BitVec 32 := Scalar.select v11465 c1_i32_12575 c32_i32_12573
  let v11467 : BitVec 32 := Scalar.remsi v11464 v11466
  let c0_i32_12577 : BitVec 32 := 0#32
  let v11469 : BitVec 1 := Scalar.cmpi .slt v11467 c0_i32_12577
  let c0_i32_12578 : BitVec 32 := 0#32
  let v11470 : BitVec 1 := Scalar.cmpi .slt v11466 c0_i32_12578
  let v11471 : BitVec 1 := Scalar.xori v11469 v11470
  let c0_i32_12576 : BitVec 32 := 0#32
  let v11468 : BitVec 1 := Scalar.cmpi .ne v11467 c0_i32_12576
  let v11472 : BitVec 1 := Scalar.andi v11471 v11468
  let v11473 : BitVec 32 := Scalar.addi v11467 v11466
  let v11474 : BitVec 32 := Scalar.select v11472 v11473 v11467
  let c1_i32_12583 : BitVec 32 := 1#32
  let v11475 : BitVec 32 := Scalar.muli v11474 c1_i32_12583
  let v11476 : BitVec 32 := Scalar.addi c0_i32_12584 v11475
  v11476.toNat
def k0_dev402 (d0 : Dev nD) : Nat :=
  let c0_i32_12599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_12587 : BitVec 32 := 30#32
  let v11483 : BitVec 32 := Scalar.addi v2 c30_i32_12587
  let c32_i32_12588 : BitVec 32 := 32#32
  let c0_i32_12589 : BitVec 32 := 0#32
  let v11484 : BitVec 1 := Scalar.cmpi .eq c32_i32_12588 c0_i32_12589
  let c1_i32_12590 : BitVec 32 := 1#32
  let v11485 : BitVec 32 := Scalar.select v11484 c1_i32_12590 c32_i32_12588
  let v11486 : BitVec 32 := Scalar.remsi v11483 v11485
  let c0_i32_12592 : BitVec 32 := 0#32
  let v11488 : BitVec 1 := Scalar.cmpi .slt v11486 c0_i32_12592
  let c0_i32_12593 : BitVec 32 := 0#32
  let v11489 : BitVec 1 := Scalar.cmpi .slt v11485 c0_i32_12593
  let v11490 : BitVec 1 := Scalar.xori v11488 v11489
  let c0_i32_12591 : BitVec 32 := 0#32
  let v11487 : BitVec 1 := Scalar.cmpi .ne v11486 c0_i32_12591
  let v11491 : BitVec 1 := Scalar.andi v11490 v11487
  let v11492 : BitVec 32 := Scalar.addi v11486 v11485
  let v11493 : BitVec 32 := Scalar.select v11491 v11492 v11486
  let c1_i32_12598 : BitVec 32 := 1#32
  let v11494 : BitVec 32 := Scalar.muli v11493 c1_i32_12598
  let v11495 : BitVec 32 := Scalar.addi c0_i32_12599 v11494
  v11495.toNat
def k0_dev403 (d0 : Dev nD) : Nat :=
  let c0_i32_12614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_12602 : BitVec 32 := 31#32
  let v11502 : BitVec 32 := Scalar.addi v2 c31_i32_12602
  let c32_i32_12603 : BitVec 32 := 32#32
  let c0_i32_12604 : BitVec 32 := 0#32
  let v11503 : BitVec 1 := Scalar.cmpi .eq c32_i32_12603 c0_i32_12604
  let c1_i32_12605 : BitVec 32 := 1#32
  let v11504 : BitVec 32 := Scalar.select v11503 c1_i32_12605 c32_i32_12603
  let v11505 : BitVec 32 := Scalar.remsi v11502 v11504
  let c0_i32_12607 : BitVec 32 := 0#32
  let v11507 : BitVec 1 := Scalar.cmpi .slt v11505 c0_i32_12607
  let c0_i32_12608 : BitVec 32 := 0#32
  let v11508 : BitVec 1 := Scalar.cmpi .slt v11504 c0_i32_12608
  let v11509 : BitVec 1 := Scalar.xori v11507 v11508
  let c0_i32_12606 : BitVec 32 := 0#32
  let v11506 : BitVec 1 := Scalar.cmpi .ne v11505 c0_i32_12606
  let v11510 : BitVec 1 := Scalar.andi v11509 v11506
  let v11511 : BitVec 32 := Scalar.addi v11505 v11504
  let v11512 : BitVec 32 := Scalar.select v11510 v11511 v11505
  let c1_i32_12613 : BitVec 32 := 1#32
  let v11513 : BitVec 32 := Scalar.muli v11512 c1_i32_12613
  let v11514 : BitVec 32 := Scalar.addi c0_i32_12614 v11513
  v11514.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x16384 : Shape := ⟨2, ![256, 16384]⟩
abbrev S16384x256 : Shape := ⟨2, ![16384, 256]⟩
abbrev S512x16384 : Shape := ⟨2, ![512, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16384, .f32⟩
  | .hbm, ⟨2, _⟩ => ⟨S256x16384, .f32⟩
  | .hbm, ⟨3, _⟩ => ⟨S256x16384, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S512x16384, .f32⟩
  | .hbm, ⟨8, _⟩ => ⟨S_, .f32⟩
  | .hbm, ⟨9, _⟩ => ⟨S512x16384, .f32⟩
  | .hbm, ⟨10, _⟩ => ⟨S512x16384, .f32⟩
  | .hbm, ⟨11, _⟩ => ⟨S512x256, .f32⟩
  | .hbm, ⟨12, _⟩ => ⟨S512x16384, .f32⟩
  | .hbm, ⟨13, _⟩ => ⟨S_, .f32⟩
  | .hbm, ⟨14, _⟩ => ⟨S512x16384, .f32⟩
  | .hbm, ⟨15, _⟩ => ⟨S512x16384, .f32⟩
  | .hbm, ⟨16, _⟩ => ⟨S512x256, .f32⟩
  | .hbm, ⟨17, _⟩ => ⟨S512x16384, .f32⟩
  | .hbm, ⟨18, _⟩ => ⟨S_, .f32⟩
  | .hbm, ⟨19, _⟩ => ⟨S512x16384, .f32⟩
  | .hbm, ⟨20, _⟩ => ⟨S512x16384, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/- The kernel's body as a list of instructions: one instruction per signal, wait, send and compute step, the lists
   indexed by the peer and the half, and the printed body read as the run of that list. -/
module

public import proofs.«01_k».proof.Proof.Gen.KernelIdeal.Skeleton
public import proofs.«01_k».proof.Proof.Gen.KernelIdeal.Launch

@[expose] public section

set_option maxRecDepth 65536

noncomputable section

namespace Cert.KernelIdeal.P

open Idealize.ShloMosaic Idealize.SL.Sem
open Cert.KernelIdeal.Facts₀ Cert.KernelIdeal.Facts

variable {F : FTy → Type} [FloatOps F]

/-- The staged input rows. -/
abbrev aX : Memref sig .tc .vmem S512x256 .f32 := Memref.whole cc0_stg0_0
/-- The staged first factor of layer `l`. -/
abbrev aI : Fin 3 → Memref sig .tc .vmem S256x512 .f32
  | 0 => Memref.whole cc0_stg1_0
  | 1 => Memref.whole cc0_stg3_0
  | 2 => Memref.whole cc0_stg5_0
/-- The staged second factor of layer `l`. -/
abbrev aO : Fin 3 → Memref sig .tc .vmem S512x256 .f32
  | 0 => Memref.whole cc0_stg2_0
  | 1 => Memref.whole cc0_stg4_0
  | 2 => Memref.whole cc0_stg6_0
/-- The staged result, which also carries the partial products. -/
abbrev aR : Memref sig .tc .vmem S512x256 .f32 := Memref.whole cc0_stg7_0
/-- The slots into which the peers' partial products land. -/
abbrev aS : Memref sig .tc .vmem S2x31x8x256 .f32 := Memref.whole cc0_scratch0

/-- The peer `t + 1` devices further round, as the kernel computes it. -/
def devT (d0 : Dev nD) (t : Fin 31) : Nat :=
  let v2 : BitVec 32 := Scalar.remsi (Scalar.divsi (Dev.word d0) 1#32) 32#32
  let v418 : BitVec 32 := Scalar.addi v2 (BitVec.ofNat 32 (1 + t.val))
  let v420 : BitVec 32 := Scalar.select (Scalar.cmpi .eq 32#32 0#32) 1#32 32#32
  let v421 : BitVec 32 := Scalar.remsi v418 v420
  let v425 : BitVec 1 := Scalar.xori (Scalar.cmpi .slt v421 0#32) (Scalar.cmpi .slt v420 0#32)
  let v426 : BitVec 1 := Scalar.andi v425 (Scalar.cmpi .ne v421 0#32)
  let v428 : BitVec 32 := Scalar.select v426 (Scalar.addi v421 v420) v421
  (Scalar.addi 0#32 (Scalar.muli v428 1#32)).toNat

/-- It is `(d0 + t + 1) mod 32`. -/
theorem devT_eq : ∀ (d0 : Dev nD) (t : Fin 31), devT d0 t = (d0.val + (t.val + 1)) % 32 := by decide +kernel

theorem devT_lt (d0 : Dev nD) (t : Fin 31) : devT d0 t < nD := by
  rw [devT_eq]; exact Nat.mod_lt _ (by decide)

/-- The row offset of a half fits the result buffer. -/
theorem inb_half (h : Fin 2) : ∀ a, (![256 * h.val, 0] : Fin 2 → Nat) a + S256x256.size a ≤ S512x256.size a := by
  revert h; decide
theorem inb_slot (h : Fin 2) (t : Fin 31) :
    ∀ a, (![h.val, t.val, 0, 0] : Fin 4 → Nat) a + S1x1x8x256.size a ≤ S2x31x8x256.size a := by
  revert h t; decide
theorem inb_slots (h : Fin 2) :
    ∀ a, (![h.val, 0, 0, 0] : Fin 4 → Nat) a + S1x31x8x256.size a ≤ S2x31x8x256.size a := by
  revert h; decide
theorem inb_sem (h : Fin 2) (t : Fin 31) : ∀ a, (![h.val, t.val] : Fin 2 → Nat) a + S1x1.size a ≤ S2x31.size a := by
  revert h t; decide

/-- The semaphore `[h, t]` of an array of them. -/
abbrev semAt (a : DmaSems sig S2x31) (h : Fin 2) (t : Fin 31) : DmaSem sig :=
  ((a.slice (Rect.unit (s := S2x31) ![h.val, t.val] S1x1.size (inb_sem h t))).squeeze S_ squeezes_S1x1_S_).sem
/-- The slot `[h, t]` in which a partial product lands. -/
abbrev slot (h : Fin 2) (t : Fin 31) : Memref sig .tc .vmem S8x256 .f32 :=
  (aS.slice (Rect.unit (s := S2x31x8x256) ![h.val, t.val, 0, 0] S1x1x8x256.size (inb_slot h t)) (fun _ => rfl)).squeeze
    S8x256 squeezes_S1x1x8x256_S8x256
/-- The rows of half `h` that the peer `t + 1` further round reduces. -/
abbrev peerRows (d0 : Dev nD) (h : Fin 2) (t : Fin 31) : Memref sig .tc .vmem S8x256 .f32 :=
  aR.slice (Rect.unit (s := S512x256) (k0_off1 d0 (BitVec.ofNat 32 (256 * h.val)) (BitVec.ofNat 32 (1 + t.val))) S8x256.size
    (k0_off1_inb d0 h t)) (fun _ => rfl)
/-- The rows of half `h` that the device itself reduces. -/
abbrev ownRows (d0 : Dev nD) (h : Fin 2) : Memref sig .tc .vmem S8x256 .f32 :=
  aR.slice (Rect.unit (s := S512x256) (k0_off3 d0 (BitVec.ofNat 32 (256 * h.val))) S8x256.size (k0_off3_inb d0 h)) (fun _ => rfl)

/-- The barrier's semaphore. -/
abbrev barSem : Sem sig := (SemArray.scalar (sig.barrier 0 rfl) : Sems sig S_).sem

/-- The layer's product of one half: the rows times the first factor, the negatives cut to zero, times the second. -/
def mmul (xh : FVec F S256x256 .f32) (w1 : Vec F S256x512 .f32) (w2 : Vec F S512x256 .f32) : FVec F S256x256 .f32 :=
  matmul dot_S256x512_S512x256_S256x256_1_0_0_1_n_n none
    (maximumf (matmul dot_S256x256_S256x512_S256x512_1_0_0_1_n_n none xh (shapeCast S256x512 w1 shapeCasts_S256x512_S256x512)
        (constant S256x512 .f32 0x00000000#32))
      (broadcast S256x512 (Scalar.ofBits .f32 0x00000000#32)))
    (shapeCast S512x256 w2 shapeCasts_S512x256_S512x256) (constant S256x256 .f32 0x00000000#32)

/-- One instruction of the body. `l` counts the layers, `h` the halves, `t` the peers. -/
inductive Ins
  | sig (t : Fin 31)
  | bwait
  | xh (l : Fin 3) (h : Fin 2)
  | mm (l : Fin 3) (h : Fin 2)
  | rs (l : Fin 3) (h : Fin 2) (t : Fin 31)
  | wrr (l : Fin 3) (h : Fin 2) (t : Fin 31)
  | acc (l : Fin 3) (h : Fin 2)
  | ag (l : Fin 3) (h : Fin 2) (t : Fin 31)
  | war (l : Fin 3) (h : Fin 2) (t : Fin 31)
  | wrs (l : Fin 3) (h : Fin 2) (t : Fin 31)
  | was (l : Fin 3) (h : Fin 2) (t : Fin 31)
  deriving DecidableEq

/-- What the loaded rows of half `h` are taken from in layer `l`. -/
abbrev srcOf : Fin 3 → Memref sig .tc .vmem S512x256 .f32
  | 0 => aX
  | 1 => aR
  | 2 => aR

abbrev halfRect (h : Fin 2) : Rect S512x256 := Rect.unit (s := S512x256) ![256 * h.val, 0] S256x256.size (inb_half h)
abbrev ownRect (d0 : Dev nD) (h : Fin 2) : Rect S512x256 :=
  Rect.unit (s := S512x256) (k0_off2 d0 (BitVec.ofNat 32 (256 * h.val))) S8x256.size (k0_off2_inb d0 h)
abbrev slotsRect (h : Fin 2) : Rect S2x31x8x256 := Rect.unit (s := S2x31x8x256) ![h.val, 0, 0, 0] S1x31x8x256.size (inb_slots h)

/-- The program's effects. -/
abbrev PM (F : FTy → Type) [FloatOps F] := Prog (TpuEff nD τ sig (Elt F) Λ₀ .tc)

/-- One instruction run: it takes the rows loaded last and gives them on. -/
def step (d0 : Dev nD) (i : Ins) (x : FVec F S256x256 .f32) : PM F (FVec F S256x256 .f32) :=
  match i with
  | .sig t => do semSignalWord (⟨devT d0 t, devT_lt d0 t⟩ : Dev nD) barSem 1#32; pure x
  | .bwait => do semWaitWord barSem 31#32; pure x
  | .xh l h => do
      let v ← Prog.lift (.load (srcOf l) (halfRect h).toLoadRect (View.loadsAt_vmem h_S256x256))
      pure (shapeCast S256x256 v shapeCasts_S256x256_S256x256)
  | .mm l h => do
      let w1 ← Prog.lift (.load (aI l) (Rect.unit (s := S256x512) ![0, 0] S256x512.size inb_S256x512_S256x512_0_0).toLoadRect (View.loadsAt_vmem h_S256x512))
      let w2 ← Prog.lift (.load (aO l) (Rect.unit (s := S512x256) ![0, 0] S512x256.size inb_S512x256_S512x256_0_0).toLoadRect (View.loadsAt_vmem h_S512x256))
      let _ ← Prog.lift (.load aR (halfRect h).toLoadRect (View.loadsAt_vmem h_S256x256))
      Prog.lift (.store aR (halfRect h) (mmul x w1 w2) Finset.univ (View.stores_vmem_bits_univ h_S256x256 rfl) (.inl rfl))
      pure x
  | .rs _ h t => do
      Prog.lift (.enqueueDma (peerRows d0 h t) (.remote (Dev.tc (⟨devT d0 t, devT_lt d0 t⟩ : Dev nD)) (slot h t) (.dma (semAt cc0_scratch1 h t)))
        (.dma (semAt cc0_scratch2 h t)) (View.wordExact_bits rfl) ((View.wordExact_bits rfl).reshape _ _) ⟨⟨rfl, Or.inl rfl⟩, trivial⟩)
      pure x
  | .wrr _ h t => do
      Prog.lift (.waitDma2 (semAt cc0_scratch2 h t) (slot h t) (slot h t) ((View.wordExact_bits rfl).reshape _ _) ((View.wordExact_bits rfl).reshape _ _))
      pure x
  | .acc _ h => do
      let v ← Prog.lift (.load aR (ownRect d0 h).toLoadRect (View.loadsAt_vmem h_S8x256))
      let w ← Prog.lift (.load aS (slotsRect h).toLoadRect (View.loadsAt_vmem h_S1x31x8x256))
      let _ ← Prog.lift (.load aR (ownRect d0 h).toLoadRect (View.loadsAt_vmem h_S8x256))
      Prog.lift (.store aR (ownRect d0 h) (Gen.k0_pay3 v w) Finset.univ (View.stores_vmem_bits_univ h_S8x256 rfl) (.inl rfl))
      pure x
  | .ag _ h t => do
      Prog.lift (.enqueueDma (ownRows d0 h) (.remote (Dev.tc (⟨devT d0 t, devT_lt d0 t⟩ : Dev nD)) (ownRows d0 h) (.dma (semAt cc0_scratch3 h t)))
        (.dma (semAt cc0_scratch4 h t)) (View.wordExact_bits rfl) (View.wordExact_bits rfl) ⟨⟨rfl, Or.inl rfl⟩, trivial⟩)
      pure x
  | .war _ h t => do
      Prog.lift (.waitDma2 (semAt cc0_scratch4 h t) (ownRows d0 h) (ownRows d0 h) (View.wordExact_bits rfl) (View.wordExact_bits rfl))
      pure x
  | .wrs _ h t => do
      Prog.lift (.waitDma2 (semAt cc0_scratch1 h t) (slot h t) (peerRows d0 h t) ((View.wordExact_bits rfl).reshape _ _) (View.wordExact_bits rfl))
      pure x
  | .was _ h t => do
      Prog.lift (.waitDma2 (semAt cc0_scratch3 h t) (ownRows d0 h) (ownRows d0 h) (View.wordExact_bits rfl) (View.wordExact_bits rfl))
      pure x

/-- A list of instructions run in order, then `K` on the rows loaded last. -/
def runK {α : Type} (d0 : Dev nD) : List Ins → FVec F S256x256 .f32 → (FVec F S256x256 .f32 → PM F α) → PM F α
  | [], x, K => K x
  | i :: is, x, K => step d0 i x >>= fun y => runK d0 is y K

theorem runK_append {α : Type} (d0 : Dev nD) : ∀ (p q : List Ins) (x : FVec F S256x256 .f32) (K : FVec F S256x256 .f32 → PM F α),
    runK d0 (p ++ q) x K = runK d0 p x fun y => runK d0 q y K
  | [], _, _, _ => rfl
  | i :: p, q, x, K => congrArg (step d0 i x >>= ·) (funext fun y => runK_append d0 p q y K)

/-- The peers from the `n`-th on. -/
abbrev tsFrom (n : Nat) : List (Fin 31) := (List.finRange 31).drop n
abbrev tsTo (n : Nat) : List (Fin 31) := (List.finRange 31).take n
abbrev ts : List (Fin 31) := List.finRange 31

/-- The first layer's product of one half, and its blocks sent to the peers that reduce them. -/
def firstHalf (h : Fin 2) : List Ins := .xh 0 h :: .mm 0 h :: ts.map (.rs 0 h)
/-- A half reduced: the peers' blocks awaited, summed, and the sum sent to every peer. -/
def reduceHalf (l : Fin 3) (h : Fin 2) : List Ins := ts.map (.wrr l h) ++ .acc l h :: ts.map (.ag l h)
/-- A later layer's product of one half: the reduced rows of layer `k` awaited and loaded, the sends of that layer
    awaited, then as in the first layer. -/
def nextHalf (k l : Fin 3) (h : Fin 2) : List Ins :=
  ts.map (.war k h) ++ .xh l h :: (ts.map (.wrs k h) ++ ts.map (.was k h) ++ .mm l h :: ts.map (.rs l h))
/-- The last layer's half awaited. -/
def lastHalf (h : Fin 2) : List Ins := ts.map (.war 2 h) ++ ts.map (.wrs 2 h) ++ ts.map (.was 2 h)

/-- The whole body after the device has read its number. -/
def full : List Ins :=
  ts.map .sig ++ .bwait :: (firstHalf 0 ++ firstHalf 1
    ++ reduceHalf 0 0 ++ reduceHalf 0 1 ++ nextHalf 0 1 0 ++ nextHalf 0 1 1
    ++ reduceHalf 1 0 ++ reduceHalf 1 1 ++ nextHalf 1 2 0 ++ nextHalf 1 2 1
    ++ reduceHalf 2 0 ++ reduceHalf 2 1 ++ lastHalf 0 ++ lastHalf 1)

/-- The body on the staged windows and the scratch. -/
abbrev theBody : PM F PUnit :=
  cc0_body aX (Memref.isWhole_whole _) (aI 0) (Memref.isWhole_whole _) (aO 0) (Memref.isWhole_whole _) (aI 1) (Memref.isWhole_whole _)
    (aO 1) (Memref.isWhole_whole _) (aI 2) (Memref.isWhole_whole _) (aO 2) (Memref.isWhole_whole _) aR (Memref.isWhole_whole _)
    aS (Memref.isWhole_whole _) cc0_scratch1 cc0_scratch2 cc0_scratch3 cc0_scratch4

end Cert.KernelIdeal.P
-- ==== Proof.Geo.lean ====
/- The parts of the buffers that travel: blocks of eight rows of the result buffer and slots of the landing buffer, as sets
   of elements, with what a read of them gives; and the contents of each stage as functions of the arguments. -/
module

public import proofs.«01_k».proof.Proof.Prog
public import Idealize.ShloMosaic.Lib.ValueLayout

@[expose] public section

set_option maxRecDepth 65536

noncomputable section

namespace Cert.KernelIdeal.P

open Idealize.ShloMosaic Idealize.SL.Sem
open Cert.KernelIdeal.Facts₀ Cert.KernelIdeal.Facts

variable {F : FTy → Type} [FloatOps F]

/-! ## Peers -/

/-- The device `t + 1` further round. -/
def fwd (c : Dev nD) (t : Fin 31) : Dev nD := ⟨(c.val + (t.val + 1)) % 32, Nat.mod_lt _ (by decide)⟩
/-- The device `t + 1` before. -/
def bwd (c : Dev nD) (t : Fin 31) : Dev nD := ⟨(c.val + (31 - t.val)) % 32, Nat.mod_lt _ (by decide)⟩

theorem devT_fwd (c : Dev nD) (t : Fin 31) : (⟨devT c t, devT_lt c t⟩ : Dev nD) = fwd c t := Fin.ext (devT_eq c t)
theorem bwd_fwd (c : Dev nD) (t : Fin 31) : bwd (fwd c t) t = c := by
  apply Fin.ext; show ((c.val + (t.val + 1)) % 32 + (31 - t.val)) % 32 = c.val
  have : c.val < 32 := c.isLt; have := t.isLt; omega
theorem fwd_bwd (c : Dev nD) (t : Fin 31) : fwd (bwd c t) t = c := by
  apply Fin.ext; show ((c.val + (31 - t.val)) % 32 + (t.val + 1)) % 32 = c.val
  have : c.val < 32 := c.isLt; have := t.isLt; omega
theorem fwd_rev (c : Dev nD) (t : Fin 31) : fwd c t.rev = bwd c t := by
  apply Fin.ext; show (c.val + (t.rev.val + 1)) % 32 = (c.val + (31 - t.val)) % 32
  rw [Fin.val_rev]; have := t.isLt; congr 2; omega
theorem bwd_rev (c : Dev nD) (t : Fin 31) : bwd c t.rev = fwd c t := by
  rw [← fwd_rev, Fin.rev_rev]
theorem bwd_ne (c : Dev nD) (t : Fin 31) : bwd c t ≠ c := by
  intro h; have := congrArg Fin.val h
  have : (c.val + (31 - t.val)) % 32 = c.val := this
  have : c.val < 32 := c.isLt; have := t.isLt; omega
theorem bwd_inj (c : Dev nD) {t t' : Fin 31} (h : bwd c t = bwd c t') : t = t' := by
  have : (c.val + (31 - t.val)) % 32 = (c.val + (31 - t'.val)) % 32 := congrArg Fin.val h
  apply Fin.ext; have : c.val < 32 := c.isLt; have := t.isLt; have := t'.isLt; omega
theorem exists_bwd (c b : Dev nD) (h : b ≠ c) : ∃ t, bwd c t = b := by
  have h' : b.val ≠ c.val := fun e => h (Fin.ext e)
  have : c.val < 32 := c.isLt; have : b.val < 32 := b.isLt
  refine ⟨⟨(31 + c.val - b.val) % 32, by omega⟩, Fin.ext ?_⟩
  show (c.val + (31 - (31 + c.val - b.val) % 32)) % 32 = b.val
  omega
/-- Going `t + 1` round is a bijection of the devices. -/
def fwdE (t : Fin 31) : Dev nD ≃ Dev nD := ⟨(fwd · t), (bwd · t), (bwd_fwd · t), (fwd_bwd · t)⟩

/-! ## Blocks of rows -/

/-- The elements of block `b` of half `h`. -/
abbrev rowSet (h : Fin 2) (b : Dev nD) : Finset S512x256.Idx := (ownRows b h).view.set
abbrev halfSet (h : Fin 2) : Finset S512x256.Idx := (halfRect h).set
abbrev slotSet (h : Fin 2) (t : Fin 31) : Finset S2x31x8x256.Idx := (slot h t).view.set
abbrev slotsSet (h : Fin 2) : Finset S2x31x8x256.Idx := (slotsRect h).set

theorem k0_off1_closed : ∀ (c : Dev nD) (h : Fin 2) (t : Fin 31),
    k0_off1 c (BitVec.ofNat 32 (256 * h.val)) (BitVec.ofNat 32 (1 + t.val)) = ![256 * h.val + 8 * ((c.val + (t.val + 1)) % 32), 0] := by
  decide +kernel

theorem peerRows_eq (c : Dev nD) (h : Fin 2) (t : Fin 31) : peerRows c h t = ownRows (fwd c t) h := by
  have e : k0_off1 c (BitVec.ofNat 32 (256 * h.val)) (BitVec.ofNat 32 (1 + t.val)) = k0_off3 (fwd c t) (BitVec.ofNat 32 (256 * h.val)) :=
    (k0_off1_closed c h t).trans (Gen.k0_off3_eq (fwd c t) h).symm
  have e2 : ∀ (o o' : Fin 2 → Nat) (H : ∀ a, o a + S8x256.size a ≤ S512x256.size a) (H' : ∀ a, o' a + S8x256.size a ≤ S512x256.size a), o = o' →
      aR.slice (Rect.unit (s := S512x256) o S8x256.size H) (fun _ => rfl) = aR.slice (Rect.unit (s := S512x256) o' S8x256.size H') (fun _ => rfl) := by
    rintro o _ H H' rfl; rfl
  exact e2 _ _ _ _ e

theorem mem_rowSet {h : Fin 2} {b : Dev nD} {i : S512x256.Idx} :
    i ∈ rowSet h b ↔ 256 * h.val + 8 * b.val ≤ (i 0).val ∧ (i 0).val < 256 * h.val + 8 * b.val + 8 := by
  show i ∈ ((View.whole cc0_stg7_0).slice (Rect.unit (s := S512x256) (k0_off3 b (BitVec.ofNat 32 (256 * h.val))) S8x256.size (k0_off3_inb b h))).set ↔ _
  rw [View.set_slice_whole]
  have e := Gen.k0_off3_eq b h
  refine Rect.mem_set_unit.trans ?_
  rw [e]
  constructor
  · intro H; exact H 0
  · intro H a
    match a with
    | ⟨0, _⟩ => exact H
    | ⟨1, _⟩ => exact ⟨Nat.zero_le _, by have := (i 1).isLt; show (i 1).val < 0 + 256; exact (Nat.zero_add 256).symm ▸ this⟩

theorem mem_halfSet {h : Fin 2} {i : S512x256.Idx} :
    i ∈ halfSet h ↔ 256 * h.val ≤ (i 0).val ∧ (i 0).val < 256 * h.val + 256 := by
  refine Rect.mem_set_unit.trans ?_
  constructor
  · intro H; exact H 0
  · intro H a
    match a with
    | ⟨0, _⟩ => exact H
    | ⟨1, _⟩ => exact ⟨Nat.zero_le _, by have := (i 1).isLt; show (i 1).val < 0 + 256; exact (Nat.zero_add 256).symm ▸ this⟩

theorem mem_slotsSet {h : Fin 2} {i : S2x31x8x256.Idx} : i ∈ slotsSet h ↔ (i 0).val = h.val := by
  refine Rect.mem_set_unit.trans ?_
  constructor
  · intro H; have := H 0
    have h1 : h.val ≤ (i 0).val := this.1
    have h2 : (i 0).val < h.val + 1 := this.2
    omega
  · intro H a
    match a with
    | ⟨0, _⟩ => exact ⟨Nat.le_of_eq H.symm, by show (i 0).val < h.val + 1; omega⟩
    | ⟨1, _⟩ => exact ⟨Nat.zero_le _, by have := (i 1).isLt; show (i 1).val < 0 + 31; exact (Nat.zero_add 31).symm ▸ this⟩
    | ⟨2, _⟩ => exact ⟨Nat.zero_le _, by have := (i 2).isLt; show (i 2).val < 0 + 8; exact (Nat.zero_add 8).symm ▸ this⟩
    | ⟨3, _⟩ => exact ⟨Nat.zero_le _, by have := (i 3).isLt; show (i 3).val < 0 + 256; exact (Nat.zero_add 256).symm ▸ this⟩

theorem mem_slotSet {h : Fin 2} {t : Fin 31} {i : S2x31x8x256.Idx} : i ∈ slotSet h t ↔ (i 0).val = h.val ∧ (i 1).val = t.val := by
  show i ∈ (((View.whole cc0_scratch0).slice (Rect.unit (s := S2x31x8x256) ![h.val, t.val, 0, 0] S1x1x8x256.size (inb_slot h t))).reshape S8x256 squeezes_S1x1x8x256_S8x256.numel_eq).set ↔ _
  rw [View.set_reshape, View.set_slice_whole]
  refine Rect.mem_set_unit.trans ?_
  constructor
  · intro H
    have h1 : h.val ≤ (i 0).val := (H 0).1
    have h2 : (i 0).val < h.val + 1 := (H 0).2
    have h3 : t.val ≤ (i 1).val := (H 1).1
    have h4 : (i 1).val < t.val + 1 := (H 1).2
    omega
  · intro H a
    match a with
    | ⟨0, _⟩ => exact ⟨Nat.le_of_eq H.1.symm, by show (i 0).val < h.val + 1; omega⟩
    | ⟨1, _⟩ => exact ⟨Nat.le_of_eq H.2.symm, by show (i 1).val < t.val + 1; omega⟩
    | ⟨2, _⟩ => exact ⟨Nat.zero_le _, by have := (i 2).isLt; show (i 2).val < 0 + 8; exact (Nat.zero_add 8).symm ▸ this⟩
    | ⟨3, _⟩ => exact ⟨Nat.zero_le _, by have := (i 3).isLt; show (i 3).val < 0 + 256; exact (Nat.zero_add 256).symm ▸ this⟩

theorem rowSet_disjoint (h : Fin 2) {b b' : Dev nD} (hb : b ≠ b') : Disjoint (rowSet h b) (rowSet h b') := by
  rw [Finset.disjoint_left]; intro i hi hi'
  rw [mem_rowSet] at hi hi'
  exact hb (Fin.ext (by omega))

theorem slotSet_disjoint (h : Fin 2) {t t' : Fin 31} (ht : t ≠ t') : Disjoint (slotSet h t) (slotSet h t') := by
  rw [Finset.disjoint_left]; intro i hi hi'
  rw [mem_slotSet] at hi hi'
  exact ht (Fin.ext (by omega))

theorem halfSet_cover (h : Fin 2) : halfSet h = Finset.univ.biUnion (rowSet h) := by
  ext i
  simp only [Finset.mem_biUnion, Finset.mem_univ, true_and, mem_rowSet, mem_halfSet]
  constructor
  · intro H; exact ⟨⟨((i 0).val - 256 * h.val) / 8, by show _ < 32; omega⟩, by show 256 * h.val + 8 * (((i 0).val - 256 * h.val) / 8) ≤ (i 0).val ∧ (i 0).val < 256 * h.val + 8 * (((i 0).val - 256 * h.val) / 8) + 8; omega⟩
  · rintro ⟨b, H⟩; have : b.val < 32 := b.isLt; omega

theorem slotsSet_cover (h : Fin 2) : slotsSet h = Finset.univ.biUnion (slotSet h) := by
  ext i
  simp only [Finset.mem_biUnion, Finset.mem_univ, true_and, mem_slotSet, mem_slotsSet]
  exact ⟨fun H => ⟨i 1, H, rfl⟩, fun ⟨_, H⟩ => H.1⟩

theorem halves_disjoint : Disjoint (halfSet 0) (halfSet 1) := by
  rw [Finset.disjoint_left]; intro i hi hi'
  rw [mem_halfSet] at hi hi'
  simp only [Fin.val_zero, Fin.val_one] at hi hi'; omega
theorem halves_cover : (Finset.univ : Finset S512x256.Idx) = halfSet 0 ∪ halfSet 1 := by
  ext i; simp only [Finset.mem_univ, Finset.mem_union, mem_halfSet, true_iff]
  have : (i 0).val < 512 := (i 0).isLt
  simp only [Fin.val_zero, Fin.val_one]; omega
theorem slots_disjoint : Disjoint (slotsSet 0) (slotsSet 1) := by
  rw [Finset.disjoint_left]; intro i hi hi'
  rw [mem_slotsSet] at hi hi'
  simp only [Fin.val_zero, Fin.val_one] at hi hi'; omega
theorem slots_cover : (Finset.univ : Finset S2x31x8x256.Idx) = slotsSet 0 ∪ slotsSet 1 := by
  ext i; simp only [Finset.mem_univ, Finset.mem_union, mem_slotsSet, true_iff]
  have : (i 0).val < 2 := (i 0).isLt
  simp only [Fin.val_zero, Fin.val_one]; omega

/-- The blocks of the peers, numbered as they arrive, with the own block make a half. -/
theorem half_split (h : Fin 2) (c : Dev nD) : halfSet h = rowSet h c ∪ Finset.univ.biUnion fun t => rowSet h (bwd c t) := by
  rw [halfSet_cover]
  ext i
  simp only [Finset.mem_biUnion, Finset.mem_univ, true_and, Finset.mem_union]
  constructor
  · rintro ⟨b, hb⟩
    by_cases e : b = c
    · exact .inl (e ▸ hb)
    · obtain ⟨t, rfl⟩ := exists_bwd c b e; exact .inr ⟨t, hb⟩
  · rintro (H | ⟨t, H⟩)
    · exact ⟨_, H⟩
    · exact ⟨_, H⟩
theorem own_disjoint (h : Fin 2) (c : Dev nD) : Disjoint (rowSet h c) (Finset.univ.biUnion fun t => rowSet h (bwd c t)) := by
  rw [Finset.disjoint_biUnion_right]
  intro t _; exact rowSet_disjoint h (bwd_ne c t).symm

/-! ## Reads -/

/-- The element `(r, j)` of block `b` of half `h`. -/
def rowIx (h : Fin 2) (b : Dev nD) (r : Fin 8) (j : Fin 256) : S512x256.Idx :=
  ValueIdx.ix2 ⟨256 * h.val + 8 * b.val + r.val, by have := h.isLt; have : b.val < 32 := b.isLt; have := r.isLt; omega⟩ j

/-- The contents of the result buffer. -/
abbrev RB (F : FTy → Type) : Type := S512x256.Idx → F .f32
/-- The contents of the landing buffer. -/
abbrev SB (F : FTy → Type) : Type := S2x31x8x256.Idx → F .f32

theorem rowIx_mem (h : Fin 2) (b : Dev nD) (r : Fin 8) (j : Fin 256) : rowIx h b r j ∈ rowSet h b :=
  mem_rowSet.mpr ⟨Nat.le_add_right _ _, Nat.add_lt_add_left r.isLt _⟩

theorem own_emb (h : Fin 2) (b : Dev nD) (y : S8x256.Idx) : (ownRows b h).view.emb y = rowIx h b (y 0) (y 1) := by
  have e := Gen.k0_off3_eq b h
  funext a
  match a with
  | ⟨0, _⟩ =>
    apply Fin.ext
    show k0_off3 b (BitVec.ofNat 32 (256 * h.val)) 0 + 1 * (y 0).val = _
    rw [e]; show 256 * h.val + 8 * b.val + 1 * (y 0).val = 256 * h.val + 8 * b.val + (y 0).val
    rw [Nat.one_mul]
  | ⟨1, _⟩ =>
    apply Fin.ext
    show k0_off3 b (BitVec.ofNat 32 (256 * h.val)) 1 + 1 * (y 1).val = _
    rw [e]; show 0 + 1 * (y 1).val = (y 1).val
    rw [Nat.one_mul, Nat.zero_add]

theorem own_read (h : Fin 2) (b : Dev nD) (f : RB F) :
    (ownRows b h).view.read (Elt F) f = fun y => f (rowIx h b (y 0) (y 1)) := by
  funext y
  show f ((ownRows b h).view.emb y) = _
  rw [own_emb]

theorem ownA_emb (h : Fin 2) (b : Dev nD) (y : S8x256.Idx) : (aR.access (ownRect b h)).emb y = rowIx h b (y 0) (y 1) := by
  have e := Gen.k0_off2_eq b h
  funext a
  match a with
  | ⟨0, _⟩ =>
    apply Fin.ext
    show k0_off2 b (BitVec.ofNat 32 (256 * h.val)) 0 + 1 * (y 0).val = _
    rw [e]; show 256 * h.val + 8 * b.val + 1 * (y 0).val = 256 * h.val + 8 * b.val + (y 0).val
    rw [Nat.one_mul]
  | ⟨1, _⟩ =>
    apply Fin.ext
    show k0_off2 b (BitVec.ofNat 32 (256 * h.val)) 1 + 1 * (y 1).val = _
    rw [e]; show 0 + 1 * (y 1).val = (y 1).val
    rw [Nat.one_mul, Nat.zero_add]

theorem ownA_read (h : Fin 2) (b : Dev nD) (f : RB F) :
    (aR.access (ownRect b h)).read (Elt F) f = fun y => f (rowIx h b (y 0) (y 1)) := by
  funext y
  show f ((aR.access (ownRect b h)).emb y) = _
  rw [ownA_emb]

/-- The rectangle of the own rows' accesses covers the own block. -/
theorem ownA_set (h : Fin 2) (b : Dev nD) : (aR.access (ownRect b h)).set = rowSet h b := by
  ext i
  constructor
  · intro H
    obtain ⟨y, _, rfl⟩ := Finset.mem_map.mp H
    rw [ownA_emb]; exact rowIx_mem _ _ _ _
  · intro H
    obtain ⟨y, _, rfl⟩ := Finset.mem_map.mp H
    rw [own_emb, ← ownA_emb]; exact View.emb_mem_set _ _

theorem slot_emb (h : Fin 2) (t : Fin 31) (y : S8x256.Idx) : (slot h t).view.emb y = ValueIdx.ix4 h t (y 0) (y 1) := by
  have e : (slot h t).view.emb y = (Rect.unit (s := S2x31x8x256) ![h.val, t.val, 0, 0] S1x1x8x256.size (inb_slot h t)).emb
      (Shape.reshapeEquiv squeezes_S1x1x8x256_S8x256.numel_eq y) := rfl
  rw [e, ValueIdx.eq_ix2 y]
  have e2 := ValueIdx.reshapeEquiv_ix2_11ab (a := 8) (b := 256) squeezes_S1x1x8x256_S8x256.numel_eq (y 0) (y 1)
  refine (congrArg (Rect.unit (s := S2x31x8x256) ![h.val, t.val, 0, 0] S1x1x8x256.size (inb_slot h t)).emb e2).trans ?_
  funext a
  match a with
  | ⟨0, _⟩ => apply Fin.ext; show h.val + 1 * 0 = h.val; omega
  | ⟨1, _⟩ => apply Fin.ext; show t.val + 1 * 0 = t.val; omega
  | ⟨2, _⟩ => apply Fin.ext; show 0 + 1 * (y 0).val = (y 0).val; omega
  | ⟨3, _⟩ => apply Fin.ext; show 0 + 1 * (y 1).val = (y 1).val; omega

theorem slot_read (h : Fin 2) (t : Fin 31) (f : SB F) :
    (slot h t).view.read (Elt F) f = fun y => f (ValueIdx.ix4 h t (y 0) (y 1)) := by
  funext y
  exact congrArg f (slot_emb h t y)

theorem slotsA_emb (h : Fin 2) (z : S1x31x8x256.Idx) : (aS.access (slotsRect h)).emb z = ValueIdx.ix4 h (z 1) (z 2) (z 3) := by
  funext a
  match a with
  | ⟨0, _⟩ => apply Fin.ext; show h.val + 1 * (z 0).val = h.val; have : (z 0).val < 1 := (z 0).isLt; omega
  | ⟨1, _⟩ => apply Fin.ext; show 0 + 1 * (z 1).val = (z 1).val; omega
  | ⟨2, _⟩ => apply Fin.ext; show 0 + 1 * (z 2).val = (z 2).val; omega
  | ⟨3, _⟩ => apply Fin.ext; show 0 + 1 * (z 3).val = (z 3).val; omega

theorem slotsA_read (h : Fin 2) (f : SB F) :
    (aS.access (slotsRect h)).read (Elt F) f = fun z => f (ValueIdx.ix4 h (z 1) (z 2) (z 3)) := by
  funext z
  exact congrArg f (slotsA_emb h z)

theorem slotsA_set (h : Fin 2) : (aS.access (slotsRect h)).set = slotsSet h := by
  show ((View.whole cc0_scratch0).slice (slotsRect h)).set = _
  rw [View.set_slice_whole]
theorem halfA_set (h : Fin 2) : (aR.access (halfRect h)).set = halfSet h := by
  show ((View.whole cc0_stg7_0).slice (halfRect h)).set = _
  rw [View.set_slice_whole]

/-- What agrees with the read of a view agrees on its elements. -/
theorem eqOn_of_read {κ : Kind} {sp : Space} {s : Shape} {e : EltTy} (v : View sig κ sp s e) {f g : v.ty.Contents (Elt F)}
    (h : v.read (Elt F) f = v.read (Elt F) g) : ∀ i ∈ v.set, f i = g i := by
  intro i hi
  obtain ⟨x, _, rfl⟩ := Finset.mem_map.mp hi
  have hx := congrFun h x
  rw [View.read_apply, View.read_apply] at hx
  exact (cast_bijective _).1 hx

/-! ## The contents of the stages -/

/-- The rows of half `h`. -/
def halfOf (h : Fin 2) (X : RB F) : FVec F S256x256 .f32 :=
  shapeCast S256x256 (fun y => X ((halfRect h).emb y) : Vec F S256x256 .f32) shapeCasts_S256x256_S256x256
/-- The product of a layer on one device: the rows times its blocks of the two factors, half by half. -/
def prodOf (X : RB F) (w1 : Vec F S256x512 .f32) (w2 : Vec F S512x256 .f32) : RB F := fun i =>
  mmul (halfOf ⟨(i 0).val / 256, by have : (i 0).val < 512 := (i 0).isLt; omega⟩ X) w1 w2
    (ValueIdx.ix2 ⟨(i 0).val % 256, Nat.mod_lt _ (by decide)⟩ (i 1))
/-- What lands on a device: in slot `[h, t]` its rows of the product of the device `t + 1` before. -/
def stOf (P : Dev nD → RB F) (c : Dev nD) : SB F := fun i => P (bwd c (i 1)) (rowIx (i 0) c (i 2) (i 3))
/-- The sum of a block of rows over the devices, as the device that reduces it forms it. -/
def redOf (P : Dev nD → RB F) (h : Fin 2) (b : Dev nD) : FVec F S8x256 .f32 :=
  Gen.k0_pay3 (fun y => P b (rowIx h b (y 0) (y 1))) (fun z => stOf P b (ValueIdx.ix4 h (z 1) (z 2) (z 3)))
/-- The reduced blocks put together. -/
def gathOf (P : Dev nD → RB F) : RB F := fun i =>
  redOf P ⟨(i 0).val / 256, by have : (i 0).val < 512 := (i 0).isLt; omega⟩
    ⟨(i 0).val % 256 / 8, by show _ < 32; have : (i 0).val % 256 < 256 := Nat.mod_lt _ (by decide); omega⟩
    (ValueIdx.ix2 ⟨(i 0).val % 8, Nat.mod_lt _ (by decide)⟩ (i 1))

theorem gathOf_row (P : Dev nD → RB F) (h : Fin 2) (b : Dev nD) (r : Fin 8) (j : Fin 256) :
    gathOf P (rowIx h b r j) = redOf P h b (ValueIdx.ix2 r j) := by
  have hh := h.isLt; have hb : b.val < 32 := b.isLt; have hr := r.isLt
  have e : ((rowIx h b r j) 0).val = 256 * h.val + 8 * b.val + r.val := rfl
  have q1 : ∀ H, (⟨((rowIx h b r j) 0).val / 256, H⟩ : Fin 2) = h := fun H => by
    apply Fin.ext; show ((rowIx h b r j) 0).val / 256 = h.val; rw [e]; omega
  have q2 : ∀ H, (⟨((rowIx h b r j) 0).val % 256 / 8, H⟩ : Dev nD) = b := fun H => by
    apply Fin.ext; show ((rowIx h b r j) 0).val % 256 / 8 = b.val; rw [e]; omega
  have q3 : ∀ H, (⟨((rowIx h b r j) 0).val % 8, H⟩ : Fin 8) = r := fun H => by
    apply Fin.ext; show ((rowIx h b r j) 0).val % 8 = r.val; rw [e]; omega
  show redOf P ⟨((rowIx h b r j) 0).val / 256, _⟩ ⟨((rowIx h b r j) 0).val % 256 / 8, _⟩ (ValueIdx.ix2 ⟨((rowIx h b r j) 0).val % 8, _⟩ j) = _
  rw [q1, q2, q3]

/-- The own rows of the gathered blocks are the own sum. -/
theorem own_read_gath (P : Dev nD → RB F) (h : Fin 2) (b : Dev nD) : (aR.access (ownRect b h)).read (Elt F) (gathOf P) = redOf P h b := by
  rw [ownA_read]; funext y
  exact (gathOf_row P h b (y 0) (y 1)).trans (congrArg _ (ValueIdx.eq_ix2 (n0 := 8) (n1 := 256) y).symm)

/-- A half's rows of the product are the product of the half's rows. -/
theorem half_read_prod (X : RB F) (w1 : Vec F S256x512 .f32) (w2 : Vec F S512x256 .f32) (h : Fin 2) :
    (aR.access (halfRect h)).read (Elt F) (prodOf X w1 w2) = mmul (halfOf h X) w1 w2 := by
  funext y
  have hh := h.isLt
  have hy : (y 0).val < 256 := (y 0).isLt
  have e : (((halfRect h).emb y) 0).val = 256 * h.val + 1 * (y 0).val := rfl
  have e1 : ((halfRect h).emb y) 1 = y 1 := by apply Fin.ext; show 0 + 1 * (y 1).val = (y 1).val; omega
  show prodOf X w1 w2 ((halfRect h).emb y) = _
  unfold prodOf
  have a1 : (⟨(((halfRect h).emb y) 0).val / 256, by have : (((halfRect h).emb y) 0).val < 512 := (((halfRect h).emb y) 0).isLt; omega⟩ : Fin 2) = h := by
    apply Fin.ext; show (((halfRect h).emb y) 0).val / 256 = h.val; rw [e]; omega
  have a2 : (ValueIdx.ix2 ⟨(((halfRect h).emb y) 0).val % 256, Nat.mod_lt _ (by decide)⟩ (((halfRect h).emb y) 1) : S256x256.Idx) = y := by
    refine Eq.trans ?_ (ValueIdx.eq_ix2 y).symm
    rw [e1]; congr 1
    apply Fin.ext; show (((halfRect h).emb y) 0).val % 256 = (y 0).val; rw [e]; omega
  rw [a1, a2]

/-- What lands in a slot is what its sender's rows hold. -/
theorem slot_read_st (P : Dev nD → RB F) (c : Dev nD) (h : Fin 2) (t : Fin 31) :
    (slot h t).view.read (Elt F) (stOf P c) = (ownRows c h).view.read (Elt F) (P (bwd c t)) := by
  rw [slot_read, own_read]; rfl

end Cert.KernelIdeal.P
-- ==== Proof.Sched.lean ====
/- The protocol: for each semaphore of each device the rounds it goes through, what pays for each and what is handed over;
   what a device still owes before each instruction; and the levels by which every wait is allowed. -/
module

public import proofs.«01_k».proof.Proof.Geo
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline's copy and the protocol's, whose duties are numbered by the peers -/

abbrev UB : Type := URounds (GSem nD τ sig) (Fin 31)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

abbrev barC (c : Dev nD) : GSem nD τ sig := ((c : Thread nD τ), .reg barSem)
abbrev rsS (c : Dev nD) (h : Fin 2) (t : Fin 31) : GSem nD τ sig := ((c : Thread nD τ), .dma (semAt cc0_scratch1 h t))
abbrev rsR (c : Dev nD) (h : Fin 2) (t : Fin 31) : GSem nD τ sig := ((c : Thread nD τ), .dma (semAt cc0_scratch2 h t))
abbrev agS (c : Dev nD) (h : Fin 2) (t : Fin 31) : GSem nD τ sig := ((c : Thread nD τ), .dma (semAt cc0_scratch3 h t))
abbrev agR (c : Dev nD) (h : Fin 2) (t : Fin 31) : GSem nD τ sig := ((c : Thread nD τ), .dma (semAt cc0_scratch4 h t))

/-- The semaphores of a kind: sends and receipts of the partial products, sends and receipts of the reduced rows. -/
abbrev arr : Fin 4 → DmaSems sig S2x31
  | 0 => cc0_scratch1
  | 1 => cc0_scratch2
  | 2 => cc0_scratch3
  | 3 => cc0_scratch4

/-- Which of the protocol's semaphores one is. -/
inductive Cel
  | bar
  | cell (a : Fin 4) (h : Fin 2) (t : Fin 31)
  | none
  deriving DecidableEq

def cel : SemLoc sig → Cel
  | .reg _ => .bar
  | .dma q => if 8 ≤ q.val then .cell ⟨(q.val - 8) / 62 % 4, Nat.mod_lt _ (by decide)⟩ ⟨(q.val - 8) % 62 / 31 % 2, Nat.mod_lt _ (by decide)⟩
      ⟨(q.val - 8) % 31, Nat.mod_lt _ (by decide)⟩ else .none

theorem semAt_val : ∀ (a : Fin 4) (h : Fin 2) (t : Fin 31), (semAt (arr a) h t).val = 8 + (62 * a.val + (31 * h.val + t.val)) := by decide +kernel

theorem cel_semAt (a : Fin 4) (h : Fin 2) (t : Fin 31) : cel (.dma (semAt (arr a) h t)) = .cell a h t := by
  have e := semAt_val a h t
  have := a.isLt; have := h.isLt; have := t.isLt
  show (if 8 ≤ (semAt (arr a) h t).val then Cel.cell ⟨((semAt (arr a) h t).val - 8) / 62 % 4, _⟩ ⟨((semAt (arr a) h t).val - 8) % 62 / 31 % 2, _⟩
      ⟨((semAt (arr a) h t).val - 8) % 31, _⟩ else Cel.none) = _
  rw [if_pos (by omega)]
  congr 1 <;> apply Fin.ext
  · show ((semAt (arr a) h t).val - 8) / 62 % 4 = a.val; omega
  · show ((semAt (arr a) h t).val - 8) % 62 / 31 % 2 = h.val; omega
  · show ((semAt (arr a) h t).val - 8) % 31 = t.val; omega

theorem cel_rsS (h : Fin 2) (t : Fin 31) : cel (.dma (semAt cc0_scratch1 h t)) = .cell 0 h t := cel_semAt 0 h t
theorem cel_rsR (h : Fin 2) (t : Fin 31) : cel (.dma (semAt cc0_scratch2 h t)) = .cell 1 h t := cel_semAt 1 h t
theorem cel_agS (h : Fin 2) (t : Fin 31) : cel (.dma (semAt cc0_scratch3 h t)) = .cell 2 h t := cel_semAt 2 h t
theorem cel_agR (h : Fin 2) (t : Fin 31) : cel (.dma (semAt cc0_scratch4 h t)) = .cell 3 h t := cel_semAt 3 h t
theorem cel_bar : cel (.reg barSem) = .bar := rfl

/-- What a block's transfer credits. -/
abbrev N : ℕ := (slot 0 0).view.dmaCredit
theorem N_pos : 0 < N := View.dmaCredit_pos _ (by decide)
theorem N_slot (h : Fin 2) (t : Fin 31) : (slot h t).view.dmaCredit = N := rfl
theorem N_own (c : Dev nD) (h : Fin 2) : (ownRows c h).view.dmaCredit = N := rfl
theorem N_peer (c : Dev nD) (h : Fin 2) (t : Fin 31) : (peerRows c h t).view.dmaCredit = N := rfl

/-! ## The parts of the buffers held -/

/-- Block `b` of half `h` of the result buffer of device `c`. -/
def rowP (c : Dev nD) (h : Fin 2) (b : Dev nD) (q : PosShare TreeShare) (f : RB F) : sProp 𝕄 :=
  (((c : Thread nD τ).loc cc0_stg7_0) ↦[rowSet h b]{q} f)
/-- Slot `[h, t]` of the landing buffer of device `c`. -/
def slotP (c : Dev nD) (h : Fin 2) (t : Fin 31) (f : SB F) : sProp 𝕄 :=
  (((c : Thread nD τ).loc cc0_scratch0) ↦[slotSet h t]{fullShare} f)

instance rowP_storable (c : Dev nD) (h : Fin 2) (b : Dev nD) (q) (f : RB F) : BI.Storable (upEmb : UEmb _ 𝕄) (rowP c h b q f) := by
  unfold rowP; infer_instance
instance slotP_storable (c : Dev nD) (h : Fin 2) (t : Fin 31) (f : SB F) : BI.Storable (upEmb : UEmb _ 𝕄) (slotP c h t f) := by
  unfold slotP; infer_instance

/-! ## The schedule -/

variable (P : ℕ → Dev nD → RB F) (G : ℕ → RB F)

/-- The entry signal of the peer `t + 1` before hands over that peer's two slots that the device will write. -/
def barPay (c : Dev nD) (t : Fin 31) : sProp 𝕄 :=
  iprop((∃ f, slotP (F := F) (bwd c t) 0 t.rev f) ∗ (∃ f, slotP (F := F) (bwd c t) 1 t.rev f))
/-- A partial product's arrival hands over the slot it landed in and the rows it was sent from, into which the reduced
    block will be sent. -/
def rsPay (r : ℕ) (c : Dev nD) (h : Fin 2) (t : Fin 31) : sProp 𝕄 :=
  iprop((slotP c h t (stOf (P r) c) ∗ reached ER (agR (bwd c t) h t.rev) r) ∗ rowP (bwd c t) h c fullShare (P r (bwd c t)))
/-- The end of a send of the reduced rows gives back the share it was sent from. -/
def agsPay (r : ℕ) (c : Dev nD) (h : Fin 2) (t : Fin 31) : sProp 𝕄 :=
  rowP c h c (shareTok fullShare 31 t) (G r)
/-- What the arrival of reduced rows hands over beside them: the sender's slot for the next layer. -/
def agX (r : ℕ) (c : Dev nD) (h : Fin 2) (t : Fin 31) : sProp 𝕄 :=
  if r < 2 then iprop((∃ f, slotP (F := F) (bwd c t) h t.rev f) ∗ reached ER (rsR (bwd c t) h t.rev) (r + 1)) else iprop(emp)
def agPay (r : ℕ) (c : Dev nD) (h : Fin 2) (t : Fin 31) : sProp 𝕄 :=
  iprop(rowP c h (bwd c t) fullShare (G r) ∗ agX (F := F) r c h t)

instance agX_storable (r : ℕ) (c : Dev nD) (h : Fin 2) (t : Fin 31) : BI.Storable (upEmb : UEmb _ 𝕄) (agX (F := F) r c h t) := by
  unfold agX; split <;> infer_instance

def payl (g : GSem nD τ sig) (r : ℕ) (d : Fin 31) : sProp 𝕄 :=
  match cel g.2 with
  | .bar => barPay g.1.1 d
  | .cell 0 _ _ => iprop(emp)
  | .cell 1 h t => rsPay P r g.1.1 h t
  | .cell 2 h t => agsPay G r g.1.1 h t
  | .cell 3 h t => agPay G r g.1.1 h t
  | .none => iprop(emp)

def dut (g : GSem nD τ sig) (r : ℕ) : Finset (Fin 31) :=
  if g.1.2 = .tc then
    match cel g.2 with
    | .bar => if r < 1 then Finset.univ else ∅
    | .cell _ _ _ => if r < 3 then {0} else ∅
    | .none => ∅
  else ∅

def amt (g : GSem nD τ sig) : ℕ := if cel g.2 = .bar then 1 else N

def Rd : Rounds.Schedule (GSem nD τ sig) (Fin 31) 𝕄 where
  duties g r := dut g r
  unitless _ := False
  amount g _ _ := amt g
  payload g r d := payl P G g r d
  amount_pos g _ _ _ := by
    unfold amt; split
    · exact Nat.one_pos
    · exact N_pos

instance Rd_storable (g : GSem nD τ sig) (r : ℕ) (d : Fin 31) : BI.Storable (upEmb : UEmb _ 𝕄) ((Rd P G).payload g r d) := by
  show BI.Storable upEmb (payl P G g r d)
  unfold payl barPay rsPay agsPay agPay
  split <;> infer_instance

section Table
variable (c : Dev nD) (h : Fin 2) (t : Fin 31) (r : ℕ)

theorem dut_tc (sm : SemLoc sig) (hr : 3 ≤ r) : dut ((c : Thread nD τ), sm) r = ∅ := by
  unfold dut; rw [if_pos rfl]; split
  · rw [if_neg (by omega)]
  · rw [if_neg (by omega)]
  · rfl
theorem dut_bar : dut (barC c) 0 = Finset.univ := by unfold dut; rw [if_pos rfl]; rfl
theorem dut_bar_later (hr : 1 ≤ r) : dut (barC c) r = ∅ := by
  unfold dut; rw [if_pos rfl]; show (if r < 1 then Finset.univ else ∅) = _; rw [if_neg (by omega)]
theorem dut_cell (a : Fin 4) (hr : r < 3) : dut ((c : Thread nD τ), .dma (semAt (arr a) h t)) r = {0} := by
  unfold dut; rw [if_pos rfl]; dsimp only; rw [cel_semAt]; exact if_pos hr
theorem amt_bar : amt (barC c) = 1 := rfl
theorem amt_cell (a : Fin 4) : amt ((c : Thread nD τ), .dma (semAt (arr a) h t)) = N := by
  unfold amt; dsimp only; rw [cel_semAt]; rfl
theorem expect_bar : (Rd P G).expect (barC c) 0 = 31 := by
  unfold Schedule.expect Schedule.amountOf
  show (∑ d ∈ dut (barC c) 0, amt (barC c)) = 31
  rw [dut_bar, amt_bar]; decide
theorem expect_cell (a : Fin 4) (hr : r < 3) : (Rd P G).expect ((c : Thread nD τ), .dma (semAt (arr a) h t)) r = N := by
  unfold Schedule.expect Schedule.amountOf
  show (∑ d ∈ dut ((c : Thread nD τ), .dma (semAt (arr a) h t)) r, amt ((c : Thread nD τ), .dma (semAt (arr a) h t))) = N
  rw [dut_cell c h t r a hr, Finset.sum_singleton, amt_cell]
theorem payl_bar (d : Fin 31) : payl P G (barC c) r d = barPay c d := rfl
theorem payl_rsS (d : Fin 31) : payl P G (rsS c h t) r d = iprop(emp) := by unfold payl; dsimp only; rw [cel_rsS]
theorem payl_rsR (d : Fin 31) : payl P G (rsR c h t) r d = rsPay P r c h t := by unfold payl; dsimp only; rw [cel_rsR]
theorem payl_agS (d : Fin 31) : payl P G (agS c h t) r d = agsPay G r c h t := by unfold payl; dsimp only; rw [cel_agS]
theorem payl_agR (d : Fin 31) : payl P G (agR c h t) r d = agPay G r c h t := by unfold payl; dsimp only; rw [cel_agR]

end Table

/-! ## What is owed -/

/-- What an instruction pays. -/
def payOf (c : Dev nD) : Ins → CellTallies nD τ sig ℕ
  | .sig t => tallyAt (barC (fwd c t)) 0 1
  | .rs l h t => tallyAt (rsR (fwd c t) h t) l.val N
  | .ag l h t => tallyAt (agR (fwd c t) h t) l.val N
  | _ => 0
/-- What is owed before the instructions left. -/
def owed (c : Dev nD) : List Ins → CellTallies nD τ sig ℕ
  | [] => 0
  | i :: is => owed c is + payOf c i

/-- The level of the wait an instruction pays for; an instruction that pays nothing is above all. -/
def lvlOf : Ins → ℕ
  | .sig _ => 1
  | .rs l h _ => 2 + 4 * l.val + h.val
  | .ag l h _ => 4 + 4 * l.val + h.val
  | _ => 1000

def L (g : GSem nD τ sig) : Finset ℕ := if g.1.2 = .tc then {0, 1, 2} else ∅
def lv (g : GSem nD τ sig) (i : ℕ) : ℕ :=
  match cel g.2 with
  | .bar => 1
  | .cell a h _ => if a = 1 then 2 + 4 * i + h.val else if a = 3 then 4 + 4 * i + h.val else 0
  | .none => 0

theorem L_of_ne (g : GSem nD τ sig) (h : g.1.2 ≠ .tc) : L g = ∅ := if_neg h
theorem L_tc (c : Dev nD) (sm : SemLoc sig) : L ((c : Thread nD τ), sm) = {0, 1, 2} := if_pos rfl
theorem mem_L (c : Dev nD) (sm : SemLoc sig) (l : Fin 3) : l.val ∈ L ((c : Thread nD τ), sm) := by
  rw [L_tc]; revert l; decide

theorem lv_rsR (c : Dev nD) (h : Fin 2) (t : Fin 31) (i : ℕ) : lv (rsR c h t) i = 2 + 4 * i + h.val := by
  unfold lv; dsimp only; rw [cel_rsR]; rfl
theorem lv_agR (c : Dev nD) (h : Fin 2) (t : Fin 31) (i : ℕ) : lv (agR c h t) i = 4 + 4 * i + h.val := by
  unfold lv; dsimp only; rw [cel_agR]; rfl
theorem lv_rsS (c : Dev nD) (h : Fin 2) (t : Fin 31) (i : ℕ) : lv (rsS c h t) i = 0 := by
  unfold lv; dsimp only; rw [cel_rsS]; rfl
theorem lv_agS (c : Dev nD) (h : Fin 2) (t : Fin 31) (i : ℕ) : lv (agS c h t) i = 0 := by
  unfold lv; dsimp only; rw [cel_agS]; rfl
theorem lv_bar (c : Dev nD) (i : ℕ) : lv (barC c) i = 1 := rfl

theorem tally_pos {g g' : GSem nD τ sig} {i i' n : ℕ} (h : 0 < tallyAt g i n g' i') : g' = g ∧ i' = i := by
  rw [tallyAt_apply] at h
  by_contra hn
  rw [if_neg hn] at h
  exact Nat.lt_irrefl 0 h

theorem payOf_pos {c : Dev nD} {j : Ins} {g : GSem nD τ sig} {i : ℕ} (h : 0 < payOf c j g i) : i ∈ L g ∧ lv g i = lvlOf j := by
  cases j with
  | sig t => obtain ⟨rfl, rfl⟩ := tally_pos h; exact ⟨mem_L _ _ 0, rfl⟩
  | rs l hh t => obtain ⟨rfl, rfl⟩ := tally_pos h; exact ⟨mem_L _ _ l, lv_rsR _ _ _ _⟩
  | ag l hh t => obtain ⟨rfl, rfl⟩ := tally_pos h; exact ⟨mem_L _ _ l, lv_agR _ _ _ _⟩
  | _ => exact absurd h (Nat.lt_irrefl 0)

theorem owed_pos {c : Dev nD} {g : GSem nD τ sig} {i : ℕ} : ∀ {is : List Ins}, 0 < owed c is g i → ∃ j ∈ is, i ∈ L g ∧ lv g i = lvlOf j
  | [], h => absurd h (Nat.lt_irrefl 0)
  | j :: is, h => by
    unfold owed at h
    rw [Pi.add_apply, Finsupp.add_apply] at h
    by_cases h1 : 0 < payOf c j g i
    · exact ⟨j, List.mem_cons_self, payOf_pos h1⟩
    · obtain ⟨k, hk, hh⟩ := owed_pos (is := is) (by rw [Nat.eq_zero_of_not_pos h1, Nat.add_zero] at h; exact h)
      exact ⟨k, List.mem_cons_of_mem _ hk, hh⟩

/-- Every payment of the instructions left is above the level `v`. -/
abbrev Above (v : ℕ) (is : List Ins) : Prop := ∀ j ∈ is, v < lvlOf j

theorem mayWait (c : Dev nD) (sm : SemLoc sig) (ι : ℕ) (v : ℕ) (hι : ι ∈ L ((c : Thread nD τ), sm)) (hv : lv ((c : Thread nD τ), sm) ι ≤ v)
    (is : List Ins) (h : Above v is) :
    (levAts L lv : sProp 𝕄) ⊢ MayWait (c : Thread nD τ) sm ι (owed c is) :=
  MayOwe.of_cut (L := L) (lev := lv) v (fun p hp => by rw [Finset.mem_singleton.mp hp]; exact hι)
    (fun g u hg => by obtain ⟨_, _, h1, _⟩ := owed_pos hg; exact h1)
    (fun p hp => by rw [Finset.mem_singleton.mp hp]; exact hv)
    (fun g u hg => by obtain ⟨j, hj, _, h2⟩ := owed_pos hg; rw [h2]; exact h j hj)

/-! ## The cells of the protocol together -/

abbrev CI : Type := Option (Fin 4 × Fin 2 × Fin 31)
abbrev csem : CI → SemLoc sig
  | none => .reg barSem
  | some (a, h, t) => .dma (semAt (arr a) h t)
abbrev kcell (ck : Dev nD × CI) : GSem nD τ sig := ((ck.1 : Thread nD τ), csem ck.2)

variable (K : Dev nD × CI → ℕ)

/-- What every device knows throughout: the invariants of all cells, that their first round is reached, the levels. -/
def ctx : sProp 𝕄 :=
  iprop((bigSep Finset.univ fun ck => cellInv ER (Rd P G) (K ck) (kcell ck)) ∗ (bigSep Finset.univ fun ck => reached ER (kcell ck) 0) ∗ levAts L lv)

instance ctx_persistent : BI.Persistent (ctx P G K) := by unfold ctx; infer_instance

theorem ctx_inv (ck : Dev nD × CI) : ctx P G K ⊢ cellInv ER (Rd P G) (K ck) (kcell ck) := by
  unfold ctx; iintro ⟨H, -, -⟩
  iapply (show (bigSep Finset.univ (fun ck => cellInv ER (Rd P G) (K ck) (kcell ck)) : sProp 𝕄) ⊢ cellInv ER (Rd P G) (K ck) (kcell ck) from
    bigSep_elim (Finset.mem_univ ck))
  iexact H
theorem ctx_reached (ck : Dev nD × CI) : ctx P G K ⊢ reached ER (kcell ck) 0 := by
  unfold ctx; iintro ⟨-, H, -⟩
  iapply (show (bigSep Finset.univ (fun ck => reached ER (kcell ck) 0) : sProp 𝕄) ⊢ reached ER (kcell ck) 0 from
    bigSep_elim (Finset.mem_univ ck))
  iexact H
theorem ctx_lev : ctx P G K ⊢ levAts L lv := by
  unfold ctx; iintro ⟨-, -, H⟩; iexact H

end Cert.KernelIdeal.P
-- ==== Proof.Steps.lean ====
/- One instruction at a time: what each needs, and what it leaves. -/
module

public import proofs.«01_k».proof.Proof.Sched

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- The body's specifications on device `c`. -/
abbrev WP {α : Type} (c : Dev nD) (p : PM F α) (Q : α → sProp 𝕄) : sProp 𝕄 :=
  wp frame (wpE (defs₀ (F := F)) 𝒱₀ (c : Thread nD τ) none) Set.univ p Q

/-- What device `c` owes before the instructions `is`. -/
def ow (c : Dev nD) (is : List Ins) : sProp 𝕄 := iprop(∃ W, owes (c : Thread nD τ) (owed c is) W)

variable (P : ℕ → Dev nD → RB F) (G : ℕ → RB F) (K : Dev nD × CI → ℕ) (c : Dev nD)

/-- The instructions `p` run from `Pre` to `Post` whenever what remains pays above the level `v`. -/
def Tr (p : List Ins) (Pre Post : sProp 𝕄) (v : ℕ) : Prop :=
  ∀ (rest : List Ins) (x : FVec F S256x256 .f32) (k : FVec F S256x256 .f32 → PM F PUnit) (Q : PUnit → sProp 𝕄), Above v rest →
    iprop(ctx P G K ∗ Pre ∗ ow c (p ++ rest) ∗ ((Post ∗ ow c rest) -∗ WP c (runK c rest x k) Q)) ⊢ WP c (runK c (p ++ rest) x k) Q

theorem above_zero (is : List Ins) : Above 0 is := by
  intro j _; cases j <;> simp only [lvlOf] <;> omega

theorem sep_ins {I : Type} [DecidableEq I] {i : I} {s : Finset I} (h : i ∉ s) {Φ : I → sProp 𝕄} :
    bigSep (insert i s) Φ = iprop(Φ i ∗ bigSep s Φ) := bigSep_insert h

/-- A range of instructions, one per peer. -/
theorem tr_map (f : Fin 31 → Ins) (Pre Post : Fin 31 → sProp 𝕄) (v : ℕ) (hf : ∀ t, v < lvlOf (f t))
    (h : ∀ t, Tr P G K c [f t] (Pre t) (Post t) v) :
    ∀ l : List (Fin 31), l.Nodup → Tr P G K c (l.map f) (bigSep l.toFinset Pre) (bigSep l.toFinset Post) v
  | [], _ => by
    intro rest x k Q _
    iintro ⟨-, HP, HO, Hk⟩
    iapply Hk
    isplitl [HP]
    · iexact HP
    · iexact HO
  | t :: l, hl => by
    intro rest x k Q hA
    rw [List.nodup_cons] at hl
    have hn : t ∉ l.toFinset := fun H => hl.1 (List.mem_toFinset.mp H)
    rw [List.toFinset_cons, sep_ins hn, sep_ins hn]
    have hA' : Above v (l.map f ++ rest) := by
      intro j hj
      rcases List.mem_append.mp hj with hj | hj
      · obtain ⟨t', _, rfl⟩ := List.mem_map.mp hj; exact hf t'
      · exact hA j hj
    iintro ⟨#Hc, ⟨Ht, Hl⟩, HO, Hk⟩
    iapply (h t (l.map f ++ rest) x k Q hA')
    isplitr; · iexact Hc
    isplitl [Ht]; · iexact Ht
    isplitl [HO]; · iexact HO
    iintro ⟨Ht, HO⟩
    iapply (tr_map f Pre Post v hf h l hl.2 rest x k Q hA)
    isplitr; · iexact Hc
    isplitl [Hl]; · iexact Hl
    isplitl [HO]; · iexact HO
    iintro ⟨Hl, HO⟩
    iapply Hk
    isplitl [Ht Hl]
    · isplitl [Ht]
      · iexact Ht
      · iexact Hl
    · iexact HO

/-- All the peers. -/
theorem tr_all (f : Fin 31 → Ins) (Pre Post : Fin 31 → sProp 𝕄) (v : ℕ) (hf : ∀ t, v < lvlOf (f t))
    (h : ∀ t, Tr P G K c [f t] (Pre t) (Post t) v) :
    Tr P G K c (ts.map f) (bigSep Finset.univ Pre) (bigSep Finset.univ Post) v := by
  have := tr_map P G K c f Pre Post v hf h ts (List.nodup_finRange 31)
  rwa [show ts.toFinset = Finset.univ from List.toFinset_finRange 31] at this

/-! ## Waits -/

/-- A wait on one of the device's transfer semaphores in its round `r`: the payment of the round, and the next round. -/
theorem wait_cell (a : Fin 4) (h : Fin 2) (t : Fin 31) (l : Fin 3) (is : List Ins) (v : ℕ)
    (hv : lv ((c : Thread nD τ), .dma (semAt (arr a) h t)) l.val ≤ v) (hA : Above v is)
    {s : Shape} {e : EltTy} {src dst : Memref sig .tc .vmem s e} {hsrc : src.view.WordExact} {hdst : dst.view.WordExact} (hN : dst.view.dmaCredit = N)
    {Q : PUnit → sProp 𝕄} {k : PUnit → PM F PUnit} :
    iprop(ctx P G K ∗ (cred (tallyAt ((c : Thread nD τ), .dma (semAt (arr a) h t)) l.val N)
        ∗ atPos ER ((c : Thread nD τ), .dma (semAt (arr a) h t)) l.val ∅ 0) ∗ ow c is
        ∗ (((atPos ER ((c : Thread nD τ), .dma (semAt (arr a) h t)) (l.val + 1) ∅ 0 ∗ reached ER ((c : Thread nD τ), .dma (semAt (arr a) h t)) (l.val + 1)
            ∗ payl P G ((c : Thread nD τ), .dma (semAt (arr a) h t)) l.val 0) ∗ ow c is) -∗ WP c (k ⟨⟩) Q))
      ⊢ WP c (.op (.waitDma2 (semAt (arr a) h t) src dst hsrc hdst) k) Q := by
  unfold ow
  iintro ⟨#Hc, ⟨Hcr, Hat⟩, ⟨%W, HO⟩, Hk⟩
  iapply (Rounds.wp_wait_rest_token 𝒱₀ ER (Rd P G) (c : Thread nD τ) none (κ := K (c, some (a, h, t)))
      (wpE_waitDma2_eq 𝒱₀ (c : Thread nD τ) none Set.univ) (Set.mem_univ _) l.val (O := owed c is) (W := W) (R := l.val) (m := 0) (T := ∅)
      (by rw [Nat.zero_add, expect_cell P G c h t l.val a l.isLt, hN])) $$ [Hcr HO Hat]
  · isplitr; · iapply (ctx_inv P G K (c, some (a, h, t))); iexact Hc
    isplitl [Hcr]; · rw [hN]; iexact Hcr
    isplitl [HO]; · iexact HO
    isplitr
    · iapply (mayWait c _ l.val v (mem_L _ _ _) hv is hA)
      iapply (ctx_lev P G K); iexact Hc
    iexact Hat
  iintro ⟨HO, Hat, Hr, Hpay⟩
  iapply Hk
  isplitr [HO]
  · isplitl [Hat]; · iexact Hat
    isplitl [Hr]; · iexact Hr
    have e : bigSep ((Rd P G).duties ((c : Thread nD τ), .dma (semAt (arr a) h t)) l.val \ ∅)
        (fun d => (Rd P G).payload ((c : Thread nD τ), .dma (semAt (arr a) h t)) l.val d)
        = payl P G ((c : Thread nD τ), .dma (semAt (arr a) h t)) l.val 0 := by
      rw [Finset.sdiff_empty]
      show bigSep (dut ((c : Thread nD τ), .dma (semAt (arr a) h t)) l.val) _ = _
      rw [dut_cell c h t l.val a l.isLt, bigSep_singleton]; rfl
    ihave Hp := (Entails.of_eq e) $$ Hpay
    iexact Hp
  · iexists _; iexact HO

/-! ## The instructions -/

/-- A wait for a partial product. -/
theorem tr_wrr (l : Fin 3) (h : Fin 2) (t : Fin 31) :
    Tr P G K c [.wrr l h t] iprop(cred (tallyAt (rsR c h t) l.val N) ∗ atPos ER (rsR c h t) l.val ∅ 0)
      iprop(atPos ER (rsR c h t) (l.val + 1) ∅ 0 ∗ reached ER (rsR c h t) (l.val + 1) ∗ rsPay P l.val c h t) (2 + 4 * l.val + h.val) := by
  intro rest x k Q hA
  have e := wait_cell P G K c 1 h t l rest (2 + 4 * l.val + h.val) (Nat.le_of_eq (lv_rsR c h t l.val)) hA (N_slot h t)
    (hsrc := (View.wordExact_bits rfl).reshape _ _) (hdst := (View.wordExact_bits rfl).reshape _ _) (src := slot h t) (Q := Q) (k := fun _ => runK c rest x k)
  rw [show payl P G ((c : Thread nD τ), .dma (semAt (arr 1) h t)) l.val 0 = rsPay P l.val c h t from payl_rsR P G c h t l.val 0] at e
  have eo : owed c ([.wrr l h t] ++ rest) = owed c rest := add_zero _
  unfold ow at e ⊢
  rw [eo]
  exact e

/-- A wait for a peer's reduced rows. -/
theorem tr_war (l : Fin 3) (h : Fin 2) (t : Fin 31) :
    Tr P G K c [.war l h t] iprop(cred (tallyAt (agR c h t) l.val N) ∗ atPos ER (agR c h t) l.val ∅ 0)
      iprop(atPos ER (agR c h t) (l.val + 1) ∅ 0 ∗ reached ER (agR c h t) (l.val + 1) ∗ agPay G l.val c h t) (4 + 4 * l.val + h.val) := by
  intro rest x k Q hA
  have e := wait_cell P G K c 3 h t l rest (4 + 4 * l.val + h.val) (Nat.le_of_eq (lv_agR c h t l.val)) hA (N_own c h)
    (hsrc := View.wordExact_bits rfl) (hdst := View.wordExact_bits rfl) (src := ownRows c h) (Q := Q) (k := fun _ => runK c rest x k)
  rw [show payl P G ((c : Thread nD τ), .dma (semAt (arr 3) h t)) l.val 0 = agPay G l.val c h t from payl_agR P G c h t l.val 0] at e
  have eo : owed c ([.war l h t] ++ rest) = owed c rest := add_zero _
  unfold ow at e ⊢
  rw [eo]
  exact e

/-- A wait for the end of a send of a partial product. -/
theorem tr_wrs (l : Fin 3) (h : Fin 2) (t : Fin 31) :
    Tr P G K c [.wrs l h t] iprop(cred (tallyAt (rsS c h t) l.val N) ∗ atPos ER (rsS c h t) l.val ∅ 0)
      iprop(atPos ER (rsS c h t) (l.val + 1) ∅ 0 ∗ reached ER (rsS c h t) (l.val + 1) ∗ emp) 0 := by
  intro rest x k Q hA
  have e := wait_cell P G K c 0 h t l rest 0 (Nat.le_of_eq (lv_rsS c h t l.val)) hA (N_peer c h t)
    (hsrc := (View.wordExact_bits rfl).reshape _ _) (hdst := View.wordExact_bits rfl) (src := slot h t) (Q := Q) (k := fun _ => runK c rest x k)
  rw [show payl P G ((c : Thread nD τ), .dma (semAt (arr 0) h t)) l.val 0 = iprop(emp) from payl_rsS P G c h t l.val 0] at e
  have eo : owed c ([.wrs l h t] ++ rest) = owed c rest := add_zero _
  unfold ow at e ⊢
  rw [eo]
  exact e

/-- A wait for the end of a send of the reduced rows. -/
theorem tr_was (l : Fin 3) (h : Fin 2) (t : Fin 31) :
    Tr P G K c [.was l h t] iprop(cred (tallyAt (agS c h t) l.val N) ∗ atPos ER (agS c h t) l.val ∅ 0)
      iprop(atPos ER (agS c h t) (l.val + 1) ∅ 0 ∗ reached ER (agS c h t) (l.val + 1) ∗ agsPay G l.val c h t) 0 := by
  intro rest x k Q hA
  have e := wait_cell P G K c 2 h t l rest 0 (Nat.le_of_eq (lv_agS c h t l.val)) hA (N_own c h)
    (hsrc := View.wordExact_bits rfl) (hdst := View.wordExact_bits rfl) (src := ownRows c h) (Q := Q) (k := fun _ => runK c rest x k)
  rw [show payl P G ((c : Thread nD τ), .dma (semAt (arr 2) h t)) l.val 0 = agsPay G l.val c h t from payl_agS P G c h t l.val 0] at e
  have eo : owed c ([.was l h t] ++ rest) = owed c rest := add_zero _
  unfold ow at e ⊢
  rw [eo]
  exact e

/-- The wait for the peers' entry signals. -/
theorem tr_bwait :
    Tr P G K c [.bwait] iprop(cred (tallyAt (barC c) 0 31) ∗ atPos ER (barC c) 0 ∅ 0)
      iprop(atPos ER (barC c) 1 ∅ 0 ∗ bigSep Finset.univ fun t => barPay (F := F) c t) 1 := by
  intro rest x k Q hA
  show _ ⊢ WP c (step c .bwait x >>= fun y => runK c rest y k) Q
  simp only [step, semWaitWord, Prog.lift, Prog.bind_op, Prog.bind_ret, Prog.pure_eq_ret]
  unfold ow
  rw [show owed c ([.bwait] ++ rest) = owed c rest from add_zero _]
  iintro ⟨#Hc, ⟨Hcr, Hat⟩, ⟨%W, HO⟩, Hk⟩
  iapply (Rounds.wp_wait_rest_token 𝒱₀ ER (Rd P G) (c : Thread nD τ) none (κ := K (c, none))
      (wpE_semWait_eq 𝒱₀ (c : Thread nD τ) none Set.univ) (Set.mem_univ _) 0 (O := owed c rest) (W := W) (R := 0) (m := 0) (T := ∅)
      (by rw [expect_bar]; decide)) $$ [Hcr HO Hat]
  · isplitr; · iapply (ctx_inv P G K (c, none)); iexact Hc
    isplitl [Hcr]; · iexact Hcr
    isplitl [HO]; · iexact HO
    isplitr
    · iapply (mayWait c _ 0 1 (mem_L _ _ 0) (Nat.le_of_eq (lv_bar c 0)) rest hA)
      iapply (ctx_lev P G K); iexact Hc
    iexact Hat
  iintro ⟨HO, Hat, -, Hpay⟩
  iapply Hk
  isplitr [HO]
  · isplitl [Hat]; · iexact Hat
    have e : bigSep ((Rd P G).duties (barC c) 0 \ ∅) (fun d => (Rd P G).payload (barC c) 0 d) = bigSep Finset.univ fun t => barPay (F := F) c t := by
      rw [Finset.sdiff_empty]
      show bigSep (dut (barC c) 0) _ = _
      rw [dut_bar]; rfl
    ihave Hp := (Entails.of_eq e) $$ Hpay
    iexact Hp
  · iexists _; iexact HO

/-- An entry signal: to the peer `t + 1` further round, with the device's slots that this peer will write. -/
theorem tr_sig (t : Fin 31) :
    Tr P G K c [.sig t] iprop(barPay (F := F) (fwd c t) t ∗ dutyTok ER (barC (fwd c t)) 0 t) iprop(emp) 0 := by
  intro rest x k Q hA
  show _ ⊢ WP c (step c (.sig t) x >>= fun y => runK c rest y k) Q
  simp only [step, devT_fwd, semSignalWord, Prog.lift, Prog.bind_op, Prog.bind_ret, Prog.pure_eq_ret]
  unfold ow
  iintro ⟨#Hc, ⟨Hp, Htok⟩, ⟨%W, HO⟩, Hk⟩
  iapply (Rounds.wp_signal 𝒱₀ ER (Rd P G) (c : Thread nD τ) none (dst := (fwd c t : Thread nD τ)) (κ := K (fwd c t, none))
      (d := t) (r := 0) (by show t ∈ dut (barC (fwd c t)) 0; rw [dut_bar]; exact Finset.mem_univ _) (amt_bar (fwd c t)) 0 (owed c rest) rfl)
    $$ [HO Htok Hp]
  · isplitr; · iapply (ctx_inv P G K (fwd c t, none)); iexact Hc
    isplitl [HO]; · iexact HO
    isplitl [Htok]; · iexact Htok
    isplitl [Hp]; · iapply (Entails.of_eq (show barPay (F := F) (fwd c t) t = (Rd P G).payload (barC (fwd c t)) 0 t from rfl)); iexact Hp
    iapply (ctx_reached P G K (fwd c t, none)); iexact Hc
  iintro HO
  iapply Hk
  isplitr; · iempintro
  iexists _; iexact HO

/-- What a send of a partial product needs: the rows sent, the peer's slot, the two duties, and that the semaphores are
    at the round; the last mark is handed over with the rows. -/
def rsPre (l : Fin 3) (h : Fin 2) (t : Fin 31) : sProp 𝕄 :=
  iprop(rowP c h (fwd c t) fullShare (P l.val c) ∗ (∃ f, slotP (F := F) (fwd c t) h t f)
    ∗ (dutyTok ER (rsS c h t) l.val 0 ∗ dutyTok ER (rsR (fwd c t) h t) l.val 0)
    ∗ reached ER (rsS c h t) l.val ∗ reached ER (rsR (fwd c t) h t) l.val ∗ reached ER (agR c h t.rev) l.val)

theorem wp_rs (l : Fin 3) (h : Fin 2) (t : Fin 31) (rest : List Ins) (M : Memref sig .tc .vmem S8x256 .f32) (hM : M = ownRows (fwd c t) h)
    (n : Dev nD) (hn : n = fwd c t)
    {hsc : (slot h t : Memref sig (Dev.tc n : Thread nD τ).2.kind .vmem S8x256 .f32).view.ref.isScScratch = false}
    {hsrc : M.view.WordExact} {hdst : (slot h t).view.WordExact}
    {hsem : DmaTarget.Typed .vmem (.dma (semAt cc0_scratch2 h t)) (.remote (Dev.tc n : Thread nD τ) (slot h t) (.dma (semAt cc0_scratch1 h t)) hsc)}
    {Q : PUnit → sProp 𝕄} {k : PUnit → PM F PUnit} :
    iprop(ctx P G K ∗ rsPre P c l h t ∗ ow c (.rs l h t :: rest)
        ∗ ((cred (tallyAt (rsS c h t) l.val N) ∗ ow c rest) -∗ WP c (k ⟨⟩) Q))
      ⊢ WP c (.op (.enqueueDma M (.remote (Dev.tc n : Thread nD τ) (slot h t) (.dma (semAt cc0_scratch1 h t)) hsc) (.dma (semAt cc0_scratch2 h t)) hsrc hdst hsem) k) Q := by
  subst hM hn
  unfold rsPre ow
  iintro ⟨#Hc, ⟨Hrow, ⟨%fd, Hslot⟩, ⟨Ht1, Ht2⟩, #Hr1, #Hr2, #Hr3⟩, ⟨%W, HO⟩, Hk⟩
  have hpay : iprop((((slot h t).view.loc (fwd c t : Thread nD τ) ↦[(slot h t).view.set]{fullShare}
          ((slot h t).view.write (Elt F) fd ((ownRows (fwd c t) h).view.read (Elt F) (P l.val c)) Finset.univ)) ∗ reached ER (agR c h t.rev) l.val)
        ∗ ((ownRows (fwd c t) h).view.loc (c : Thread nD τ) ↦[(ownRows (fwd c t) h).view.set]{fullShare} (P l.val c)))
      ⊢ ((Rd P G).payload (rsR (fwd c t) h t) l.val 0 : sProp 𝕄) := by
    show _ ⊢ payl P G (rsR (fwd c t) h t) l.val 0
    rw [payl_rsR]
    unfold rsPay slotP rowP
    rw [bwd_fwd]
    have e : (((slot h t).view.loc (fwd c t : Thread nD τ) ↦[(slot h t).view.set]{fullShare}
          ((slot h t).view.write (Elt F) fd ((ownRows (fwd c t) h).view.read (Elt F) (P l.val c)) Finset.univ)) : sProp 𝕄)
        = (((fwd c t : Thread nD τ).loc cc0_scratch0) ↦[slotSet h t]{fullShare} (stOf (P l.val) (fwd c t))) := by
      refine pointsTo_congr ?_
      refine eqOn_of_read (slot h t).view ?_
      rw [View.read_write_univ, slot_read_st, bwd_fwd]
    rw [e]
  iapply (Rounds.wp_send_landing_pointsTo_with 𝒱₀ ER (Rd P G) (c : Thread nD τ) none (κ₁ := K (c, some (0, h, t))) (κ₂ := K (fwd c t, some (1, h, t)))
      (c' := (fwd c t : Thread nD τ)) (src := ownRows (fwd c t) h) (dst := slot h t) (sS := .dma (semAt cc0_scratch1 h t)) (sem := .dma (semAt cc0_scratch2 h t))
      (r₁ := l.val) (r₂ := l.val) (d₁ := 0) (d₂ := 0) (fd := fd) (fs := P l.val c) (F := reached ER (agR c h t.rev) l.val) (q := fullShare)
      (by show 0 ∈ dut (rsS c h t) l.val; rw [dut_cell c h t l.val 0 l.isLt]; exact Finset.mem_singleton_self _)
      (by show 0 ∈ dut (rsR (fwd c t) h t) l.val; rw [dut_cell (fwd c t) h t l.val 1 l.isLt]; exact Finset.mem_singleton_self _)
      l.val l.val N (N_slot h t) (amt_cell c h t 0) (amt_cell (fwd c t) h t 1) (owed c rest) rfl (W := W)
      (by show _ ⊢ payl P G (rsS c h t) l.val 0; rw [payl_rsS]) hpay) $$ [Hrow Hslot Ht1 Ht2 HO]
  · isplitr; · iapply (ctx_inv P G K (c, some (0, h, t))); iexact Hc
    isplitr; · iapply (ctx_inv P G K (fwd c t, some (1, h, t))); iexact Hc
    isplitl [Hrow]; · unfold rowP; iexact Hrow
    isplitl [Hslot]
    · isplitl [Hslot]
      · unfold slotP; iexact Hslot
      · iexact Hr3
    isplitl [HO]; · iexact HO
    isplitl [Ht1]; · iexact Ht1
    isplitr; · iexact Hr1
    isplitl [Ht2]; · iexact Ht2
    iexact Hr2
  iintro ⟨Hcr, HO⟩
  iapply Hk
  isplitl [Hcr]; · iexact Hcr
  iexists _; iexact HO

/-- A partial product's rows sent to the peer that reduces them. -/
theorem tr_rs (l : Fin 3) (h : Fin 2) (t : Fin 31) :
    Tr P G K c [.rs l h t] (rsPre P c l h t) (cred (tallyAt (rsS c h t) l.val N)) 0 := by
  intro rest x k Q hA
  show _ ⊢ WP c (step c (.rs l h t) x >>= fun y => runK c rest y k) Q
  simp only [step, Prog.lift, Prog.bind_op, Prog.bind_ret, Prog.pure_eq_ret]
  exact wp_rs P G K c l h t rest (peerRows c h t) (peerRows_eq c h t) _ (devT_fwd c t) (Q := Q) (k := fun _ => runK c rest x k)

/-- What a send of the reduced rows needs: a share of them, the peer's rows they replace, what travels beside them, the
    two duties, and that the semaphores are at the round. -/
def agPre (l : Fin 3) (h : Fin 2) (t : Fin 31) : sProp 𝕄 :=
  iprop(rowP c h c (shareTok fullShare 31 t) (G l.val) ∗ rowP (fwd c t) h c fullShare (P l.val (fwd c t)) ∗ agX (F := F) l.val (fwd c t) h t
    ∗ (dutyTok ER (agS c h t) l.val 0 ∗ dutyTok ER (agR (fwd c t) h t) l.val 0)
    ∗ reached ER (agS c h t) l.val ∗ reached ER (agR (fwd c t) h t) l.val)

theorem wp_ag (l : Fin 3) (h : Fin 2) (t : Fin 31) (rest : List Ins) (n : Dev nD) (hn : n = fwd c t)
    {hsc : (ownRows c h : Memref sig (Dev.tc n : Thread nD τ).2.kind .vmem S8x256 .f32).view.ref.isScScratch = false}
    {hsrc : (ownRows c h).view.WordExact} {hdst : (ownRows c h).view.WordExact}
    {hsem : DmaTarget.Typed .vmem (.dma (semAt cc0_scratch4 h t)) (.remote (Dev.tc n : Thread nD τ) (ownRows c h) (.dma (semAt cc0_scratch3 h t)) hsc)}
    {Q : PUnit → sProp 𝕄} {k : PUnit → PM F PUnit} :
    iprop(ctx P G K ∗ agPre P G c l h t ∗ ow c (.ag l h t :: rest)
        ∗ ((cred (tallyAt (agS c h t) l.val N) ∗ ow c rest) -∗ WP c (k ⟨⟩) Q))
      ⊢ WP c (.op (.enqueueDma (ownRows c h) (.remote (Dev.tc n : Thread nD τ) (ownRows c h) (.dma (semAt cc0_scratch3 h t)) hsc) (.dma (semAt cc0_scratch4 h t)) hsrc hdst hsem) k) Q := by
  subst hn
  unfold agPre ow
  iintro ⟨#Hc, ⟨Hrow, Hdst, HX, ⟨Ht1, Ht2⟩, #Hr1, #Hr2⟩, ⟨%W, HO⟩, Hk⟩
  have hpay : iprop(((ownRows c h).view.loc (fwd c t : Thread nD τ) ↦[(ownRows c h).view.set]{fullShare}
          ((ownRows c h).view.write (Elt F) (P l.val (fwd c t)) ((ownRows c h).view.read (Elt F) (G l.val)) Finset.univ)) ∗ agX (F := F) l.val (fwd c t) h t)
      ⊢ ((Rd P G).payload (agR (fwd c t) h t) l.val 0 : sProp 𝕄) := by
    show _ ⊢ payl P G (agR (fwd c t) h t) l.val 0
    rw [payl_agR]
    unfold agPay rowP
    rw [bwd_fwd]
    have e : (((ownRows c h).view.loc (fwd c t : Thread nD τ) ↦[(ownRows c h).view.set]{fullShare}
          ((ownRows c h).view.write (Elt F) (P l.val (fwd c t)) ((ownRows c h).view.read (Elt F) (G l.val)) Finset.univ)) : sProp 𝕄)
        = (((fwd c t : Thread nD τ).loc cc0_stg7_0) ↦[rowSet h c]{fullShare} (G l.val)) := by
      refine pointsTo_congr ?_
      refine eqOn_of_read (ownRows c h).view ?_
      rw [View.read_write_univ]
    rw [e]
  iapply (Rounds.wp_send_pointsTo_with 𝒱₀ ER (Rd P G) (c : Thread nD τ) none (κ₁ := K (c, some (2, h, t))) (κ₂ := K (fwd c t, some (3, h, t)))
      (c' := (fwd c t : Thread nD τ)) (src := ownRows c h) (dst := ownRows c h) (sS := .dma (semAt cc0_scratch3 h t)) (sem := .dma (semAt cc0_scratch4 h t))
      (r₁ := l.val) (r₂ := l.val) (d₁ := 0) (d₂ := 0) (fd := P l.val (fwd c t)) (fs := G l.val) (F := agX (F := F) l.val (fwd c t) h t) (q := shareTok fullShare 31 t)
      (by show 0 ∈ dut (agS c h t) l.val; rw [dut_cell c h t l.val 2 l.isLt]; exact Finset.mem_singleton_self _)
      (by show 0 ∈ dut (agR (fwd c t) h t) l.val; rw [dut_cell (fwd c t) h t l.val 3 l.isLt]; exact Finset.mem_singleton_self _)
      l.val l.val N (N_own c h) (amt_cell c h t 2) (amt_cell (fwd c t) h t 3) (owed c rest) rfl (W := W)
      (by show _ ⊢ payl P G (agS c h t) l.val 0; rw [payl_agS]; unfold agsPay rowP; exact BI.Entails.refl _) hpay) $$ [Hrow Hdst HX Ht1 Ht2 HO]
  · isplitr; · iapply (ctx_inv P G K (c, some (2, h, t))); iexact Hc
    isplitr; · iapply (ctx_inv P G K (fwd c t, some (3, h, t))); iexact Hc
    isplitl [Hrow]; · unfold rowP; iexact Hrow
    isplitl [Hdst HX]
    · isplitl [Hdst]
      · unfold rowP; iexact Hdst
      · iexact HX
    isplitl [HO]; · iexact HO
    isplitl [Ht1]; · iexact Ht1
    isplitr; · iexact Hr1
    isplitl [Ht2]; · iexact Ht2
    iexact Hr2
  iintro ⟨Hcr, HO⟩
  iapply Hk
  isplitl [Hcr]; · iexact Hcr
  iexists _; iexact HO

/-- The reduced rows sent to a peer. -/
theorem tr_ag (l : Fin 3) (h : Fin 2) (t : Fin 31) :
    Tr P G K c [.ag l h t] (agPre P G c l h t) (cred (tallyAt (agS c h t) l.val N)) 0 := by
  intro rest x k Q hA
  show _ ⊢ WP c (step c (.ag l h t) x >>= fun y => runK c rest y k) Q
  simp only [step, Prog.lift, Prog.bind_op, Prog.bind_ret, Prog.pure_eq_ret]
  exact wp_ag P G K c l h t rest _ (devT_fwd c t) (Q := Q) (k := fun _ => runK c rest x k)

end Cert.KernelIdeal.P
-- ==== Proof.Comp.lean ====
/- The compute steps: loading a half, the product of a half, the sum of a block. -/
module

public import proofs.«01_k».proof.Proof.Steps

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F) (K : Dev nD × CI → ℕ) (c : Dev nD)

/-- A half of the result buffer. -/
def halfP (h : Fin 2) (q : PosShare TreeShare) (f : RB F) : sProp 𝕄 := iprop((c : Thread nD τ).loc cc0_stg7_0 ↦[halfSet h]{q} f)
/-- The slots of a half. -/
def slotsP (h : Fin 2) (f : SB F) : sProp 𝕄 := iprop((c : Thread nD τ).loc cc0_scratch0 ↦[slotsSet h]{fullShare} f)

/-- A whole rectangle at the corner reads the whole. -/
theorem readAt_corner {s : Shape} (hs : s.rank = 2) (m : Memref sig .tc .vmem s .f32) (o : Fin s.rank → Nat) (ho : o = fun _ => 0)
    (hi : ∀ a, o a + s.size a ≤ s.size a) (f : m.view.ty.Contents (Elt F)) :
    m.view.readAt (Elt F) (Rect.unit (s := s) o s.size hi).toLoadRect f = m.view.read (Elt F) f := by
  funext y
  rw [View.readAt_apply]
  refine congrArg (m.view.read (Elt F) f) (funext fun a => Fin.ext ?_)
  subst ho
  show 0 + 1 * (y a).val = (y a).val
  omega

/-- The rows of a half loaded from a buffer of which a share is held. -/
theorem wp_xh (l : Fin 3) (h : Fin 2) (M : Memref sig .tc .vmem S512x256 .f32) (hM : srcOf l = M) (S : Finset (Idx ((M.access (halfRect h)).loc (c : Thread nD τ))))
    (q : PosShare TreeShare) (f : Buf (Elt F) ((M.access (halfRect h)).loc (c : Thread nD τ))) (hS : (M.access (halfRect h)).set ⊆ S)
    (rest : List Ins) (x : FVec F S256x256 .f32) (k : FVec F S256x256 .f32 → PM F PUnit) (Q : PUnit → sProp 𝕄) :
    iprop(((M.access (halfRect h)).loc (c : Thread nD τ) ↦[S]{q} f) ∗ ow c (.xh l h :: rest)
        ∗ ((((M.access (halfRect h)).loc (c : Thread nD τ) ↦[S]{q} f) ∗ ow c rest)
          -∗ WP c (runK c rest (shapeCast S256x256 ((M.access (halfRect h)).read (Elt F) f) shapeCasts_S256x256_S256x256) k) Q))
      ⊢ WP c (runK c (.xh l h :: rest) x k) Q := by
  subst hM
  show _ ⊢ WP c (step c (.xh l h) x >>= fun y => runK c rest y k) Q
  simp only [step, Prog.lift, Prog.bind_op, Prog.bind_ret, Prog.pure_eq_ret]
  unfold ow
  rw [show owed c (.xh l h :: rest) = owed c rest from add_zero _]
  iintro ⟨HX, HO, Hk⟩
  iapply (wp_load_rect 𝒱₀ (c : Thread nD τ) none Set.univ (m := srcOf l) hS) $$ HX
  iintro HX
  iapply Hk
  isplitl [HX]; · iexact HX
  iexact HO

/-- The rows of a half loaded from the staged input. -/
theorem wp_xhX (l : Fin 3) (h : Fin 2) (hs : srcOf l = aX) (S : Finset S512x256.Idx) (q : PosShare TreeShare) (f : RB F)
    (hS : ∀ i, i ∈ S) (rest : List Ins) (x : FVec F S256x256 .f32) (k : FVec F S256x256 .f32 → PM F PUnit) (Q : PUnit → sProp 𝕄) :
    iprop(((c : Thread nD τ).loc cc0_stg0_0 ↦[S]{q} f) ∗ ow c (.xh l h :: rest)
        ∗ ((((c : Thread nD τ).loc cc0_stg0_0 ↦[S]{q} f) ∗ ow c rest) -∗ WP c (runK c rest (halfOf h f) k) Q))
      ⊢ WP c (runK c (.xh l h :: rest) x k) Q :=
  wp_xh c l h aX hs S q f (fun i _ => hS i) rest x k Q

/-- The rows of a half loaded from a share of the half of the result buffer. -/
theorem wp_xhR (l : Fin 3) (h : Fin 2) (hs : srcOf l = aR) (q : PosShare TreeShare) (f : RB F)
    (rest : List Ins) (x : FVec F S256x256 .f32) (k : FVec F S256x256 .f32 → PM F PUnit) (Q : PUnit → sProp 𝕄) :
    iprop(halfP c h q f ∗ ow c (.xh l h :: rest) ∗ ((halfP c h q f ∗ ow c rest) -∗ WP c (runK c rest (halfOf h f) k) Q))
      ⊢ WP c (runK c (.xh l h :: rest) x k) Q :=
  wp_xh c l h aR hs (halfSet h) q f (by rw [halfA_set]) rest x k Q

/-- The product of a half written over the half. -/
theorem wp_mm (l : Fin 3) (h : Fin 2) (X : RB F) (w1 : Vec F S256x512 .f32) (w2 : Vec F S512x256 .f32)
    (rest : List Ins) (k : FVec F S256x256 .f32 → PM F PUnit) (Q : PUnit → sProp 𝕄) :
    iprop(owns (c : Thread nD τ) (aI l) fullShare w1 ∗ owns (c : Thread nD τ) (aO l) fullShare w2 ∗ (∃ f, halfP (F := F) c h fullShare f) ∗ ow c (.mm l h :: rest)
        ∗ ((owns (c : Thread nD τ) (aI l) fullShare w1 ∗ owns (c : Thread nD τ) (aO l) fullShare w2 ∗ halfP c h fullShare (prodOf X w1 w2) ∗ ow c rest)
          -∗ WP c (runK c rest (halfOf h X) k) Q))
      ⊢ WP c (runK c (.mm l h :: rest) (halfOf h X) k) Q := by
  show _ ⊢ WP c (step c (.mm l h) (halfOf h X) >>= fun y => runK c rest y k) Q
  simp only [step, Prog.lift, Prog.bind_op, Prog.bind_ret, Prog.pure_eq_ret]
  unfold owns ow
  rw [show owed c (.mm l h :: rest) = owed c rest from add_zero _]
  have hz : (![0, 0] : Fin 2 → Nat) = fun _ => 0 := by decide
  iintro ⟨⟨%f1, %h1, H1⟩, ⟨%f2, %h2, H2⟩, ⟨%f, HR⟩, HO, Hk⟩
  unfold halfP
  iapply (wp_load 𝒱₀ (c : Thread nD τ) none Set.univ (m := aI l) (View.setOn_subset_set _ _)) $$ H1
  iintro H1
  iapply (wp_load 𝒱₀ (c : Thread nD τ) none Set.univ (m := aO l) (View.setOn_subset_set _ _)) $$ H2
  iintro H2
  rw [readAt_corner rfl (aI l) _ hz _ f1, readAt_corner rfl (aO l) _ hz _ f2, h1, h2]
  iapply (wp_load_rect 𝒱₀ (c : Thread nD τ) none Set.univ (m := aR) (r := halfRect h) (S := halfSet h) (by rw [halfA_set])) $$ HR
  iintro HR
  iapply (wp_store 𝒱₀ (c : Thread nD τ) none Set.univ (m := aR) (r := halfRect h) (Mk := Finset.univ) (S := halfSet h)
    (by rw [View.setOn_univ, halfA_set])) $$ HR
  iintro HR
  iapply Hk
  isplitl [H1]
  · iexists f1; isplitr; · ipureintro; exact h1
    iexact H1
  isplitl [H2]
  · iexists f2; isplitr; · ipureintro; exact h2
    iexact H2
  isplitl [HR]
  · have e := eqOn_of_read (aR.access (halfRect h)) (f := (aR.access (halfRect h)).write (Elt F) f (mmul (halfOf h X) w1 w2) Finset.univ)
      (g := prodOf X w1 w2) (by rw [View.read_write_univ, half_read_prod])
    rw [halfA_set] at e
    iapply (Entails.of_eq (pointsTo_congr e)) $$ HR
  iexact HO

/-- A block summed over the devices and written over the device's own rows. -/
theorem wp_acc (l : Fin 3) (h : Fin 2) (PP : Dev nD → RB F)
    (rest : List Ins) (x : FVec F S256x256 .f32) (k : FVec F S256x256 .f32 → PM F PUnit) (Q : PUnit → sProp 𝕄) :
    iprop(rowP c h c fullShare (PP c) ∗ slotsP c h (stOf PP c) ∗ ow c (.acc l h :: rest)
        ∗ ((rowP c h c fullShare (gathOf PP) ∗ slotsP c h (stOf PP c) ∗ ow c rest) -∗ WP c (runK c rest x k) Q))
      ⊢ WP c (runK c (.acc l h :: rest) x k) Q := by
  show _ ⊢ WP c (step c (.acc l h) x >>= fun y => runK c rest y k) Q
  simp only [step, Prog.lift, Prog.bind_op, Prog.bind_ret, Prog.pure_eq_ret]
  unfold ow
  rw [show owed c (.acc l h :: rest) = owed c rest from add_zero _]
  iintro ⟨HR, HS, HO, Hk⟩
  unfold rowP slotsP
  iapply (wp_load_rect 𝒱₀ (c : Thread nD τ) none Set.univ (m := aR) (r := ownRect c h) (S := rowSet h c) (by rw [ownA_set])) $$ HR
  iintro HR
  iapply (wp_load_rect 𝒱₀ (c : Thread nD τ) none Set.univ (m := aS) (r := slotsRect h) (S := slotsSet h) (by rw [slotsA_set])) $$ HS
  iintro HS
  iapply (wp_load_rect 𝒱₀ (c : Thread nD τ) none Set.univ (m := aR) (r := ownRect c h) (S := rowSet h c) (by rw [ownA_set])) $$ HR
  iintro HR
  iapply (wp_store 𝒱₀ (c : Thread nD τ) none Set.univ (m := aR) (r := ownRect c h) (Mk := Finset.univ) (S := rowSet h c)
    (by rw [View.setOn_univ, ownA_set])) $$ HR
  iintro HR
  iapply Hk
  isplitl [HR]
  · have e := eqOn_of_read (aR.access (ownRect c h)) (f := (aR.access (ownRect c h)).write (Elt F) (PP c)
        (Gen.k0_pay3 ((aR.access (ownRect c h)).read (Elt F) (PP c)) ((aS.access (slotsRect h)).read (Elt F) (stOf PP c))) Finset.univ)
      (g := gathOf PP) (by rw [View.read_write_univ, own_read_gath, ownA_read, slotsA_read]; rfl)
    rw [ownA_set] at e
    iapply (Entails.of_eq (pointsTo_congr e)) $$ HR
  isplitl [HS]; · iexact HS
  iexact HO

end Cert.KernelIdeal.P
-- ==== Proof.Blocks.lean ====
/- The blocks of the body: a half sent, a half reduced, a half gathered. -/
module

public import proofs.«01_k».proof.Proof.Comp

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F) (K : Dev nD × CI → ℕ) (c : Dev nD)

/-- Over all peers. -/
abbrev all (Φ : Fin 31 → sProp 𝕄) : sProp 𝕄 := bigSep Finset.univ Φ

theorem all_sep (Φ Ψ : Fin 31 → sProp 𝕄) : all (fun t => iprop(Φ t ∗ Ψ t)) = iprop(all Φ ∗ all Ψ) := bigSep_sep' _ _ _
theorem all_rev (Φ : Fin 31 → sProp 𝕄) : all Φ = all (fun t => Φ t.rev) := bigSep_univ_equiv Fin.revPerm Φ
theorem all_mono {Φ Ψ : Fin 31 → sProp 𝕄} (h : ∀ t, Φ t ⊢ Ψ t) : all Φ ⊢ all Ψ := bigSep_mono fun t _ => h t

/-- A half of the result buffer is the device's own rows of it and the peers'. -/
theorem half_eq (h : Fin 2) (q : PosShare TreeShare) (f : RB F) :
    halfP c h q f = iprop(rowP c h c q f ∗ all fun t => rowP c h (bwd c t) q f) := by
  unfold halfP rowP
  rw [half_split h c]
  have hu : ((c : Thread nD τ).loc cc0_stg7_0 ↦[rowSet h c ∪ Finset.univ.biUnion fun t => rowSet h (bwd c t)]{q} f : sProp 𝕄)
      ⊣⊢ iprop(((c : Thread nD τ).loc cc0_stg7_0 ↦[rowSet h c]{q} f)
        ∗ (c : Thread nD τ).loc cc0_stg7_0 ↦[Finset.univ.biUnion fun t => rowSet h (bwd c t)]{q} f) := pointsTo_union (own_disjoint h c)
  have hb : ((c : Thread nD τ).loc cc0_stg7_0 ↦[Finset.univ.biUnion fun t => rowSet h (bwd c t)]{q} f : sProp 𝕄)
      = all fun t => (c : Thread nD τ).loc cc0_stg7_0 ↦[rowSet h (bwd c t)]{q} f :=
    pointsTo_biUnion (ℓ := (c : Thread nD τ).loc cc0_stg7_0) Finset.univ (fun t => rowSet h (bwd c t)) fun t _ t' _ hn => rowSet_disjoint h fun e => hn (bwd_inj c e)
  rw [BI.equiv_iff.mp ⟨hu.1, hu.2⟩, hb]

theorem half_eq_fwd (h : Fin 2) (q : PosShare TreeShare) (f : RB F) :
    halfP c h q f = iprop(rowP c h c q f ∗ all fun t => rowP c h (fwd c t) q f) := by
  rw [half_eq, all_rev]; simp only [bwd_rev]

theorem slots_eq (h : Fin 2) (f : SB F) : slotsP c h f = all fun t => slotP c h t f := by
  unfold slotsP slotP
  rw [slotsSet_cover h]
  exact pointsTo_biUnion (ℓ := (c : Thread nD τ).loc cc0_scratch0) Finset.univ (slotSet h) fun t _ t' _ hn => slotSet_disjoint h hn

/-! ## Ranges of instructions -/

variable {P G K c}
theorem Tr.mono {p : List Ins} {Pre Post Pre' Post' : sProp 𝕄} {v : ℕ} (h : Tr P G K c p Pre Post v) (h1 : Pre' ⊢ Pre) (h2 : Post ⊢ Post') :
    Tr P G K c p Pre' Post' v := by
  intro rest x k Q hA
  refine BIBase.Entails.trans ?_ (h rest x k Q hA)
  iintro ⟨#Hc, HP, HO, Hk⟩
  isplitr; · iexact Hc
  isplitl [HP]; · iapply h1 $$ HP
  isplitl [HO]; · iexact HO
  iintro ⟨HP, HO⟩
  iapply Hk
  isplitl [HP]; · iapply h2 $$ HP
  iexact HO
variable (P G K c)

/-- The positions of the semaphores of a kind in their rounds. -/
def pos (g : Fin 2 → Fin 31 → GSem nD τ sig) (h : Fin 2) (r : ℕ) : sProp 𝕄 := all fun t => atPos ER (g h t) r ∅ 0
/-- The credits to wait on them in round `r`. -/
def crs (g : Fin 2 → Fin 31 → GSem nD τ sig) (h : Fin 2) (r : ℕ) : sProp 𝕄 := all fun t => cred (tallyAt (g h t) r N)
/-- That they have reached round `r`. -/
def mks (g : Fin 2 → Fin 31 → GSem nD τ sig) (h : Fin 2) (r : ℕ) : sProp 𝕄 := all fun t => reached ER (g h t) r
instance mks_persistent (g : Fin 2 → Fin 31 → GSem nD τ sig) (h : Fin 2) (r : ℕ) : BI.Persistent (mks (F := F) g h r) := by unfold mks; infer_instance
/-- The duties of the sends of partial products. -/
def tokRS (l : ℕ) (h : Fin 2) : sProp 𝕄 := iprop((all fun t => dutyTok ER (rsS c h t) l 0) ∗ (all fun t => dutyTok ER (rsR (fwd c t) h t) l 0))
/-- The duties of the sends of reduced rows. -/
def tokAG (l : ℕ) (h : Fin 2) : sProp 𝕄 := iprop((all fun t => dutyTok ER (agS c h t) l 0) ∗ (all fun t => dutyTok ER (agR (fwd c t) h t) l 0))

theorem all_wrr (l : Fin 3) (h : Fin 2) :
    Tr P G K c (ts.map (.wrr l h)) iprop(crs (rsR c) h l.val ∗ pos (rsR c) h l.val)
      iprop(pos (rsR c) h (l.val + 1) ∗ mks (rsR c) h (l.val + 1)
        ∗ (((all fun t => slotP c h t (stOf (P l.val) c)) ∗ all fun t => reached ER (agR (bwd c t) h t.rev) l.val) ∗ all fun t => rowP (bwd c t) h c fullShare (P l.val (bwd c t))))
      (2 + 4 * l.val + h.val) := by
  have := tr_all P G K c (.wrr l h) _ _ _ (fun t => by simp only [lvlOf]; have := l.isLt; have := h.isLt; omega) (tr_wrr P G K c l h)
  simp only [rsPay, bigSep_sep'] at this
  exact this

theorem all_war (l : Fin 3) (h : Fin 2) :
    Tr P G K c (ts.map (.war l h)) iprop(crs (agR c) h l.val ∗ pos (agR c) h l.val)
      iprop(pos (agR c) h (l.val + 1) ∗ mks (agR c) h (l.val + 1)
        ∗ ((all fun t => rowP c h (bwd c t) fullShare (G l.val)) ∗ all fun t => agX l.val c h t))
      (4 + 4 * l.val + h.val) := by
  have := tr_all P G K c (.war l h) _ _ _ (fun t => by simp only [lvlOf]; have := l.isLt; have := h.isLt; omega) (tr_war P G K c l h)
  simp only [agPay, bigSep_sep'] at this
  exact this

theorem all_wrs (l : Fin 3) (h : Fin 2) :
    Tr P G K c (ts.map (.wrs l h)) iprop(crs (rsS c) h l.val ∗ pos (rsS c) h l.val)
      iprop(pos (rsS c) h (l.val + 1) ∗ mks (rsS c) h (l.val + 1) ∗ all fun _ => iprop(emp)) 0 := by
  have := tr_all P G K c (.wrs l h) _ _ _ (fun t => by simp only [lvlOf]; omega) (tr_wrs P G K c l h)
  simp only [bigSep_sep'] at this
  exact this

theorem all_was (l : Fin 3) (h : Fin 2) :
    Tr P G K c (ts.map (.was l h)) iprop(crs (agS c) h l.val ∗ pos (agS c) h l.val)
      iprop(pos (agS c) h (l.val + 1) ∗ mks (agS c) h (l.val + 1) ∗ all fun t => rowP c h c (shareTok fullShare 31 t) (G l.val)) 0 := by
  have := tr_all P G K c (.was l h) _ _ _ (fun t => by simp only [lvlOf]; omega) (tr_was P G K c l h)
  simp only [agsPay, bigSep_sep'] at this
  exact this

theorem all_rs (l : Fin 3) (h : Fin 2) :
    Tr P G K c (ts.map (.rs l h)) iprop((all fun t => rowP c h (fwd c t) fullShare (P l.val c)) ∗ (all fun t => iprop(∃ f, slotP (F := F) (fwd c t) h t f))
        ∗ tokRS c l.val h ∗ mks (rsS c) h l.val ∗ (all fun t => reached ER (rsR (fwd c t) h t) l.val) ∗ all fun t => reached ER (agR c h t.rev) l.val)
      (crs (rsS c) h l.val) 0 := by
  have := tr_all P G K c (.rs l h) _ _ _ (fun t => by simp only [lvlOf]; omega) (tr_rs P G K c l h)
  rw [show rsPre P c l h = fun t => _ from funext fun t => by unfold rsPre; rfl] at this
  simp only [bigSep_sep'] at this
  exact this

theorem all_ag (l : Fin 3) (h : Fin 2) :
    Tr P G K c (ts.map (.ag l h)) iprop((all fun t => rowP c h c (shareTok fullShare 31 t) (G l.val)) ∗ (all fun t => rowP (fwd c t) h c fullShare (P l.val (fwd c t)))
        ∗ (all fun t => agX (F := F) l.val (fwd c t) h t) ∗ tokAG c l.val h ∗ mks (agS c) h l.val ∗ all fun t => reached ER (agR (fwd c t) h t) l.val)
      (crs (agS c) h l.val) 0 := by
  have := tr_all P G K c (.ag l h) _ _ _ (fun t => by simp only [lvlOf]; omega) (tr_ag P G K c l h)
  rw [show agPre P G c l h = fun t => _ from funext fun t => by unfold agPre; rfl] at this
  simp only [bigSep_sep'] at this
  exact this

/-! ## The blocks -/

/-- The instructions `p` run from `Pre` to `Post`, whatever rows they leave loaded. -/
def Blk (p : List Ins) (Pre Post : sProp 𝕄) (v : ℕ) : Prop :=
  ∀ (rest : List Ins) (x : FVec F S256x256 .f32) (k : FVec F S256x256 .f32 → PM F PUnit) (Q : PUnit → sProp 𝕄), Above v rest →
    iprop(ctx P G K ∗ Pre ∗ ow c (p ++ rest) ∗ (∀ y, (Post ∗ ow c rest) -∗ WP c (runK c rest y k) Q)) ⊢ WP c (runK c (p ++ rest) x k) Q

/-- The slots still held once the reduced rows are sent: they have gone to the senders, except after the last layer. -/
def left (l : ℕ) (h : Fin 2) : sProp 𝕄 := if l < 2 then iprop(emp) else iprop(∃ f, slotsP (F := F) c h f)

/-- What is held of a half before its product: the half, the slots it will be sent to, where the semaphores are. -/
def Ready (l : ℕ) (h : Fin 2) : sProp 𝕄 :=
  iprop((∃ f, halfP (F := F) c h fullShare f) ∗ (all fun t => iprop(∃ f, slotP (F := F) (fwd c t) h t f))
    ∗ (pos (rsS c) h l ∗ pos (rsR c) h l ∗ pos (agS c) h l ∗ pos (agR c) h l)
    ∗ mks (rsS c) h l ∗ (all fun t => reached ER (rsR (fwd c t) h t) l) ∗ mks (agR c) h l ∗ mks (agS c) h l)
/-- What is held of a half once its product is sent. -/
def Sent (l : ℕ) (h : Fin 2) : sProp 𝕄 :=
  iprop(rowP c h c fullShare (P l c) ∗ crs (rsS c) h l ∗ (pos (rsS c) h l ∗ pos (rsR c) h l ∗ pos (agS c) h l ∗ pos (agR c) h l) ∗ mks (agS c) h l)
/-- What is held of a half once its reduced rows are sent. -/
def Reduced (l : ℕ) (h : Fin 2) : sProp 𝕄 :=
  iprop(rowP c h c (shareDrop fullShare 31) (G l) ∗ crs (rsS c) h l ∗ crs (agS c) h l
    ∗ (pos (rsS c) h l ∗ pos (rsR c) h (l + 1) ∗ pos (agS c) h l ∗ pos (agR c) h l) ∗ left (F := F) c l h)
/-- What is held of a half at the end. -/
def Done (h : Fin 2) : sProp 𝕄 :=
  iprop(halfP c h fullShare (G 2) ∗ (∃ f, slotsP (F := F) c h f) ∗ (pos (rsS c) h 3 ∗ pos (rsR c) h 3 ∗ pos (agS c) h 3 ∗ pos (agR c) h 3))

/-- The factors of layer `l`. -/
def facs (l : Fin 3) (w1 : Vec F S256x512 .f32) (w2 : Vec F S512x256 .f32) : sProp 𝕄 :=
  iprop(owns (c : Thread nD τ) (aI l) fullShare w1 ∗ owns (c : Thread nD τ) (aO l) fullShare w2)

/-- The product of a half formed and sent. -/
theorem blk_send (l : Fin 3) (h : Fin 2) (X : RB F) (w1 : Vec F S256x512 .f32) (w2 : Vec F S512x256 .f32) (hP : P l.val c = prodOf X w1 w2)
    (rest : List Ins) (k : FVec F S256x256 .f32 → PM F PUnit) (Q : PUnit → sProp 𝕄) :
    iprop(ctx P G K ∗ (Ready (F := F) c l.val h ∗ tokRS c l.val h ∗ facs c l w1 w2) ∗ ow c (.mm l h :: (ts.map (.rs l h) ++ rest))
        ∗ (((Sent P c l.val h ∗ facs c l w1 w2) ∗ ow c rest) -∗ WP c (runK c rest (halfOf h X) k) Q))
      ⊢ WP c (runK c (.mm l h :: (ts.map (.rs l h) ++ rest)) (halfOf h X) k) Q := by
  unfold Ready facs
  iintro ⟨#Hc, ⟨⟨HR, HS, Hp, M1, M2, M3, M4⟩, Ht, HI, HO⟩, How, Hk⟩
  iapply (wp_mm c l h X w1 w2 (ts.map (.rs l h) ++ rest) k Q)
  isplitl [HI]; · iexact HI
  isplitl [HO]; · iexact HO
  isplitl [HR]; · iexact HR
  isplitl [How]; · iexact How
  rw [← hP, half_eq_fwd]
  iintro ⟨HI, HO, ⟨Hown, Hrows⟩, How⟩
  iapply (all_rs P G K c l h rest (halfOf h X) k Q (above_zero rest))
  isplitr; · iexact Hc
  isplitl [Hrows HS Ht M1 M2 M3]
  · isplitl [Hrows]; · iexact Hrows
    isplitl [HS]; · iexact HS
    isplitl [Ht]; · iexact Ht
    isplitl [M1]; · iexact M1
    isplitl [M2]; · iexact M2
    iapply (show mks (F := F) (agR c) h l.val ⊢ all fun t => reached ER (agR c h t.rev) l.val from
      Entails.of_eq (all_rev (F := F) fun t => reached ER (agR c h t) l.val)) $$ M3
  isplitl [How]; · iexact How
  iintro ⟨Hcr, How⟩
  iapply Hk
  isplitr [How]
  · isplitr [HI HO]
    · unfold Sent
      isplitl [Hown]; · iexact Hown
      isplitl [Hcr]; · iexact Hcr
      isplitl [Hp]; · iexact Hp
      iexact M4
    · isplitl [HI]; · iexact HI
      iexact HO
  · iexact How

/-- The slots given to their senders with the reduced rows, or kept after the last layer. -/
theorem agX_intro (l : ℕ) (h : Fin 2) (f : SB F) :
    iprop((all fun t => slotP c h t f) ∗ mks (rsR c) h (l + 1)) ⊢ iprop((all fun t => agX (F := F) l (fwd c t) h t) ∗ left (F := F) c l h) := by
  unfold agX left mks
  by_cases hl : l < 2
  · simp only [if_pos hl, bwd_fwd]
    rw [all_rev (fun t => slotP c h t f), all_rev (fun t => reached ER (rsR c h t) (l + 1)), all_sep]
    iintro ⟨HS, HM⟩
    isplitl
    · isplitl [HS]
      · iapply (all_mono (F := F) (Φ := fun t => slotP c h t.rev f) fun t => (by iintro H; iexists f; iexact H)) $$ HS
      · iexact HM
    · itrivial
  · simp only [if_neg hl]
    iintro ⟨HS, -⟩
    isplitr
    · rw [show (all fun _ => iprop(emp) : sProp 𝕄) = iprop(emp) from bigSep_emp_const _]
      itrivial
    · iexists f
      iapply (Entails.of_eq (slots_eq c h f).symm) $$ HS

/-- A half reduced and sent. -/
theorem blk_reduce (l : Fin 3) (h : Fin 2) (hG : G l.val = gathOf (P l.val)) :
    Blk P G K c (reduceHalf l h) iprop(Sent P c l.val h ∗ tokAG c l.val h ∗ crs (rsR c) h l.val) (Reduced G c l.val h) (2 + 4 * l.val + h.val) := by
  intro rest x k Q hA
  unfold Sent
  have hl := l.isLt; have hh := h.isLt
  have hA' : Above (2 + 4 * l.val + h.val) (.acc l h :: (ts.map (.ag l h) ++ rest)) := by
    intro j hj
    rcases List.mem_cons.mp hj with rfl | hj
    · simp only [lvlOf]; omega
    rcases List.mem_append.mp hj with hj | hj
    · obtain ⟨t', _, rfl⟩ := List.mem_map.mp hj; simp only [lvlOf]; omega
    · exact hA j hj
  rw [show reduceHalf l h ++ rest = ts.map (.wrr l h) ++ (.acc l h :: (ts.map (.ag l h) ++ rest)) by
    unfold reduceHalf; rw [List.append_assoc, List.cons_append]]
  iintro ⟨#Hc, ⟨⟨Hown, Hcs, ⟨Hp0, Hp1, Hp2, Hp3⟩, Hm⟩, Ht, Hcr⟩, How, Hk⟩
  iapply (all_wrr P G K c l h _ x k Q hA')
  isplitr; · iexact Hc
  isplitl [Hcr Hp1]
  · isplitl [Hcr]; · iexact Hcr
    iexact Hp1
  isplitl [How]; · iexact How
  iintro ⟨⟨Hp1, Hm1, ⟨Hsl, Hrc⟩, Hrows⟩, How⟩
  iapply (wp_acc c l h (P l.val) _ x k Q)
  isplitl [Hown]; · iexact Hown
  isplitl [Hsl]; · iapply (Entails.of_eq (slots_eq c h (stOf (P l.val) c)).symm) $$ Hsl
  isplitl [How]; · iexact How
  rw [slots_eq, ← hG]
  iintro ⟨Hown, Hsl, How⟩
  ihave Hx := (agX_intro c l.val h (stOf (P l.val) c)) $$ [Hsl Hm1]
  · isplitl [Hsl]; · iexact Hsl
    iexact Hm1
  icases Hx with ⟨Hx, Hleft⟩
  ihave Hown := (show rowP c h c fullShare (G l.val) ⊢ iprop(rowP c h c (shareDrop fullShare 31) (G l.val)
    ∗ all fun t => rowP c h c (shareTok fullShare 31 t) (G l.val)) from pointsTo_toks_split fullShare 31) $$ Hown
  icases Hown with ⟨Hown, Htk⟩
  ihave Hrc := (Entails.of_eq (all_rev (F := F) fun t => reached ER (agR (bwd c t) h t.rev) l.val)) $$ Hrc
  ihave Hrows := (Entails.of_eq (all_rev (F := F) fun t => rowP (bwd c t) h c fullShare (P l.val (bwd c t)))) $$ Hrows
  simp only [bwd_rev, Fin.rev_rev]
  iapply (all_ag P G K c l h rest x k Q (above_zero rest))
  isplitr; · iexact Hc
  isplitl [Htk Hrows Hx Ht Hm Hrc]
  · isplitl [Htk]; · iexact Htk
    isplitl [Hrows]; · iexact Hrows
    isplitl [Hx]; · iexact Hx
    isplitl [Ht]; · iexact Ht
    isplitl [Hm]; · iexact Hm
    iexact Hrc
  isplitl [How]; · iexact How
  iintro ⟨Hca, How⟩
  iapply Hk
  isplitr [How]
  · unfold Reduced
    isplitl [Hown]; · iexact Hown
    isplitl [Hcs]; · iexact Hcs
    isplitl [Hca]; · iexact Hca
    isplitr [Hleft]
    · isplitl [Hp0]; · iexact Hp0
      isplitl [Hp1]; · iexact Hp1
      isplitl [Hp2]; · iexact Hp2
      iexact Hp3
    · iexact Hleft
  · iexact How

end Cert.KernelIdeal.P
-- ==== Proof.Blocks2.lean ====
/- The remaining blocks of the body: the first half sent, a half gathered and sent again, the last half gathered. -/
module

public import proofs.«01_k».proof.Proof.Blocks

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F) (K : Dev nD × CI → ℕ) (c : Dev nD)

/-- The staged input rows. -/
def xP (S : Finset S512x256.Idx) (X : RB F) : sProp 𝕄 := iprop((c : Thread nD τ).loc cc0_stg0_0 ↦[S]{fullShare} X)

/-- The first layer's half formed and sent. -/
theorem blk_first (l : Fin 3) (h : Fin 2) (hs : srcOf l = aX) (S : Finset S512x256.Idx) (hS : ∀ i, i ∈ S) (X : RB F) (w1 : Vec F S256x512 .f32) (w2 : Vec F S512x256 .f32) (hP : P l.val c = prodOf X w1 w2) :
    Blk P G K c (.xh l h :: .mm l h :: ts.map (.rs l h)) iprop(xP c S X ∗ Ready (F := F) c l.val h ∗ tokRS c l.val h ∗ facs c l w1 w2) iprop(xP c S X ∗ Sent P c l.val h ∗ facs c l w1 w2) 0 := by
  intro rest x k Q hA
  rw [show (.xh l h :: .mm l h :: ts.map (.rs l h)) ++ rest = .xh l h :: (.mm l h :: (ts.map (.rs l h) ++ rest)) from rfl]
  unfold xP
  iintro ⟨#Hc, ⟨HX, HR, Ht, HF⟩, How, Hk⟩
  iapply (wp_xhX c l h hs S fullShare X hS (.mm l h :: (ts.map (.rs l h) ++ rest)) x k Q)
  isplitl [HX]; · iexact HX
  isplitl [How]; · iexact How
  iintro ⟨HX, How⟩
  iapply (blk_send P G K c l h X w1 w2 hP rest k Q)
  isplitr; · iexact Hc
  isplitl [HR Ht HF]
  · isplitl [HR]; · iexact HR
    isplitl [Ht]; · iexact Ht
    iexact HF
  isplitl [How]; · iexact How
  iintro ⟨⟨HS, HF⟩, How⟩
  iapply Hk
  isplitr [How]
  · isplitl [HX]; · iexact HX
    isplitl [HS]; · iexact HS
    iexact HF
  · iexact How

/-- Rows dealt into shares, and put together again. -/
theorem rows_split (h : Fin 2) (f : RB F) :
    (all fun t => rowP c h (bwd c t) fullShare f) ⊢ iprop((all fun t => rowP c h (bwd c t) (shareDrop fullShare 31) f)
      ∗ all fun t => all fun i => rowP c h (bwd c t) (shareTok fullShare 31 i) f) :=
  (all_mono fun t => pointsTo_toks_split fullShare 31).trans (Entails.of_eq (all_sep _ _))
theorem rows_join (h : Fin 2) (f : RB F) :
    iprop((all fun t => rowP c h (bwd c t) (shareDrop fullShare 31) f)
      ∗ all fun t => all fun i => rowP c h (bwd c t) (shareTok fullShare 31 i) f) ⊢ (all fun t => rowP c h (bwd c t) fullShare f) :=
  (Entails.of_eq (all_sep _ _).symm).trans (all_mono fun t => pointsTo_toks_join fullShare 31)
theorem own_join (h : Fin 2) (f : RB F) :
    iprop(rowP c h c (shareDrop fullShare 31) f ∗ all fun i => rowP c h c (shareTok fullShare 31 i) f) ⊢ rowP c h c fullShare f :=
  pointsTo_toks_join fullShare 31

/-- The slots of the peers taken from what came with the reduced rows. -/
theorem agX_elim (k : ℕ) (hk : k < 2) (h : Fin 2) :
    (all fun t => agX (F := F) k c h t) ⊢ iprop((all fun t => iprop(∃ f, slotP (F := F) (fwd c t) h t f)) ∗ all fun t => reached ER (rsR (fwd c t) h t) (k + 1)) := by
  unfold agX
  simp only [if_pos hk]
  rw [all_sep, all_rev (fun t => iprop(∃ f, slotP (F := F) (bwd c t) h t.rev f)), all_rev (fun t => reached ER (rsR (bwd c t) h t.rev) (k + 1))]
  simp only [bwd_rev, Fin.rev_rev]
  exact .rfl

theorem above_war (l : Fin 3) (h : Fin 2) (k l' : Fin 3) (hkl : l'.val = k.val + 1) (rest : List Ins) (hA : Above (4 + 4 * k.val + h.val) rest) :
    Above (4 + 4 * k.val + h.val) (.xh l h :: (ts.map (.wrs k h) ++ (ts.map (.was k h) ++ (.mm l h :: (ts.map (.rs l' h) ++ rest))))) := by
  have hk := k.isLt; have hh := h.isLt
  have hw : 4 + 4 * k.val + h.val < 1000 := by omega
  intro j hj
  rcases List.mem_cons.mp hj with rfl | hj
  · exact hw
  rcases List.mem_append.mp hj with hj | hj
  · obtain ⟨t, _, rfl⟩ := List.mem_map.mp hj; exact hw
  rcases List.mem_append.mp hj with hj | hj
  · obtain ⟨t, _, rfl⟩ := List.mem_map.mp hj; exact hw
  rcases List.mem_cons.mp hj with rfl | hj
  · exact hw
  rcases List.mem_append.mp hj with hj | hj
  · obtain ⟨t, _, rfl⟩ := List.mem_map.mp hj; simp only [lvlOf]; omega
  · exact hA j hj

/-- A half gathered, its product formed and sent. -/
theorem blk_next (k l : Fin 3) (h : Fin 2) (hkl : l.val = k.val + 1) (hs : srcOf l = aR) (w1 : Vec F S256x512 .f32) (w2 : Vec F S512x256 .f32)
    (hP : P l.val c = prodOf (G k.val) w1 w2) :
    Blk P G K c (nextHalf k l h) iprop(Reduced G c k.val h ∗ crs (agR c) h k.val ∗ tokRS c l.val h ∗ facs c l w1 w2)
      iprop(Sent P c l.val h ∗ facs c l w1 w2) (4 + 4 * k.val + h.val) := by
  intro rest x kk Q hA
  have hk2 : k.val < 2 := by have := l.isLt; omega
  have hA' := above_war l h k l hkl rest hA
  unfold Reduced left
  rw [show nextHalf k l h ++ rest = ts.map (.war k h) ++ (.xh l h :: (ts.map (.wrs k h) ++ (ts.map (.was k h) ++ (.mm l h :: (ts.map (.rs l h) ++ rest))))) by
    unfold nextHalf; simp only [List.append_assoc, List.cons_append], if_pos hk2]
  iintro ⟨#Hc, ⟨⟨Hown, Hcs, Hca, ⟨Hp0, Hp1, Hp2, Hp3⟩, -⟩, Hcr, Ht, HF⟩, How, Hk⟩
  iapply (all_war P G K c k h _ x kk Q hA')
  isplitr; · iexact Hc
  isplitl [Hcr Hp3]
  · isplitl [Hcr]; · iexact Hcr
    iexact Hp3
  isplitl [How]; · iexact How
  iintro ⟨⟨Hp3, #Hm3, Hrows, Hx⟩, How⟩
  ihave Hrows := (rows_split c h (G k.val)) $$ Hrows
  icases Hrows with ⟨Hrd, Hrt⟩
  iapply (wp_xhR c l h hs (shareDrop fullShare 31) (G k.val) _ x kk Q)
  isplitl [Hown Hrd]
  · iapply (Entails.of_eq (half_eq c h (shareDrop fullShare 31) (G k.val)).symm)
    isplitl [Hown]; · iexact Hown
    iexact Hrd
  isplitl [How]; · iexact How
  iintro ⟨Hh, How⟩
  ihave Hh := (Entails.of_eq (half_eq c h (shareDrop fullShare 31) (G k.val))) $$ Hh
  icases Hh with ⟨Hown, Hrd⟩
  ihave Hrows := (rows_join c h (G k.val)) $$ [Hrd Hrt]
  · isplitl [Hrd]; · iexact Hrd
    iexact Hrt
  iapply (all_wrs P G K c k h _ (halfOf h (G k.val)) kk Q (above_zero _))
  isplitr; · iexact Hc
  isplitl [Hcs Hp0]
  · isplitl [Hcs]; · iexact Hcs
    iexact Hp0
  isplitl [How]; · iexact How
  iintro ⟨⟨Hp0, Hm0, -⟩, How⟩
  iapply (all_was P G K c k h _ (halfOf h (G k.val)) kk Q (above_zero _))
  isplitr; · iexact Hc
  isplitl [Hca Hp2]
  · isplitl [Hca]; · iexact Hca
    iexact Hp2
  isplitl [How]; · iexact How
  iintro ⟨⟨Hp2, Hm2, Htk⟩, How⟩
  ihave Hown := (own_join c h (G k.val)) $$ [Hown Htk]
  · isplitl [Hown]; · iexact Hown
    iexact Htk
  ihave Hx := (agX_elim c k.val hk2 h) $$ Hx
  icases Hx with ⟨Hsl, Hm1⟩
  iapply (blk_send P G K c l h (G k.val) w1 w2 hP rest kk Q)
  isplitr; · iexact Hc
  isplitr [How Hk]
  · isplitr [Ht HF]
    · unfold Ready
      rw [hkl]
      isplitl [Hown Hrows]
      · iexists (G k.val)
        iapply (Entails.of_eq (half_eq c h fullShare (G k.val)).symm)
        isplitl [Hown]; · iexact Hown
        iexact Hrows
      isplitl [Hsl]; · iexact Hsl
      isplitl [Hp0 Hp1 Hp2 Hp3]
      · isplitl [Hp0]; · iexact Hp0
        isplitl [Hp1]; · iexact Hp1
        isplitl [Hp2]; · iexact Hp2
        iexact Hp3
      isplitl [Hm0]; · iexact Hm0
      isplitl [Hm1]; · iexact Hm1
      isplitr; · iexact Hm3
      iexact Hm2
    · isplitl [Ht]; · iexact Ht
      iexact HF
  isplitl [How]; · iexact How
  iexact Hk

theorem above_last (h : Fin 2) (rest : List Ins) (hA : Above (12 + h.val) rest) :
    Above (4 + 4 * (2 : Fin 3).val + h.val) (ts.map (.wrs 2 h) ++ (ts.map (.was 2 h) ++ rest)) := by
  have hh := h.isLt
  have hw : 4 + 4 * (2 : Fin 3).val + h.val < 1000 := by show 4 + 4 * 2 + _ < 1000; omega
  intro j hj
  rcases List.mem_append.mp hj with hj | hj
  · obtain ⟨t, _, rfl⟩ := List.mem_map.mp hj; exact hw
  rcases List.mem_append.mp hj with hj | hj
  · obtain ⟨t, _, rfl⟩ := List.mem_map.mp hj; exact hw
  · exact hA j hj

/-- The last layer's half gathered. -/
theorem blk_last (h : Fin 2) :
    Blk P G K c (lastHalf h) iprop(Reduced G c (2 : Fin 3).val h ∗ crs (agR c) h (2 : Fin 3).val) (Done G c h) (12 + h.val) := by
  intro rest x kk Q hA
  have hA' := above_last h rest hA
  unfold Reduced left
  rw [show lastHalf h ++ rest = ts.map (.war 2 h) ++ (ts.map (.wrs 2 h) ++ (ts.map (.was 2 h) ++ rest)) by
    unfold lastHalf; simp only [List.append_assoc], if_neg (by decide)]
  iintro ⟨#Hc, ⟨⟨Hown, Hcs, Hca, ⟨Hp0, Hp1, Hp2, Hp3⟩, Hsl⟩, Hcr⟩, How, Hk⟩
  iapply (all_war P G K c 2 h _ x kk Q hA')
  isplitr; · iexact Hc
  isplitl [Hcr Hp3]
  · isplitl [Hcr]; · iexact Hcr
    iexact Hp3
  isplitl [How]; · iexact How
  iintro ⟨⟨Hp3, -, Hrows, -⟩, How⟩
  iapply (all_wrs P G K c 2 h _ x kk Q (above_zero _))
  isplitr; · iexact Hc
  isplitl [Hcs Hp0]
  · isplitl [Hcs]; · iexact Hcs
    iexact Hp0
  isplitl [How]; · iexact How
  iintro ⟨⟨Hp0, -, -⟩, How⟩
  iapply (all_was P G K c 2 h _ x kk Q (above_zero _))
  isplitr; · iexact Hc
  isplitl [Hca Hp2]
  · isplitl [Hca]; · iexact Hca
    iexact Hp2
  isplitl [How]; · iexact How
  iintro ⟨⟨Hp2, -, Htk⟩, How⟩
  ihave Hown := (own_join c h (G 2)) $$ [Hown Htk]
  · isplitl [Hown]; · iexact Hown
    iexact Htk
  iapply Hk
  isplitr [How]
  · unfold Done
    isplitl [Hown Hrows]
    · iapply (Entails.of_eq (half_eq c h fullShare (G 2)).symm)
      isplitl [Hown]; · iexact Hown
      iexact Hrows
    isplitl [Hsl]; · iexact Hsl
    isplitl [Hp0]; · iexact Hp0
    isplitl [Hp1]; · iexact Hp1
    isplitl [Hp2]; · iexact Hp2
    iexact Hp3
  · iexact How

end Cert.KernelIdeal.P
-- ==== Proof.Body.lean ====
/- The whole body on a device: from what it is dealt to the gathered rows of the last layer. -/
module

public import proofs.«01_k».proof.Proof.Blocks2

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F) (K : Dev nD × CI → ℕ) (c : Dev nD)

/-- The positions of a half's semaphores, all in round `r`. -/
def poss (h : Fin 2) (r : ℕ) : sProp 𝕄 := iprop(pos (rsS c) h r ∗ pos (rsR c) h r ∗ pos (agS c) h r ∗ pos (agR c) h r)
/-- What one layer of one half uses up: the duties of its sends and the credits of its receipts. -/
def fuel (l : ℕ) (h : Fin 2) : sProp 𝕄 := iprop(tokRS c l h ∗ tokAG c l h ∗ crs (rsR c) h l ∗ crs (agR c) h l)
/-- The first layer of both halves. -/
def firsts : List Ins := firstHalf 0 ++ firstHalf 1
/-- Both halves of a layer reduced. -/
def reduces (l : Fin 3) : List Ins := reduceHalf l 0 ++ reduceHalf l 1
/-- Both halves taken from layer `k` to layer `l`. -/
def nexts (k l : Fin 3) : List Ins := nextHalf k l 0 ++ nextHalf k l 1
/-- Both halves of the last layer gathered. -/
def lasts : List Ins := lastHalf 0 ++ lastHalf 1

/-- What follows each part of the body. -/
def tl6 : List Ins := lasts ++ []
def tl5 : List Ins := reduces 2 ++ tl6
def tl4 : List Ins := nexts 1 2 ++ tl5
def tl3 : List Ins := reduces 1 ++ tl4
def tl2 : List Ins := nexts 0 1 ++ tl3
def tl1 : List Ins := reduces 0 ++ tl2
def tl0 : List Ins := firsts ++ tl1

theorem parts_eq : full = ts.map .sig ++ ([.bwait] ++ tl0) := by
  simp only [full, tl0, tl1, tl2, tl3, tl4, tl5, tl6, firsts, reduces, nexts, lasts, List.append_assoc, List.cons_append, List.nil_append, List.append_nil]

theorem all_persistent {R : sProp 𝕄} [BI.Persistent R] {Φ : Fin 31 → sProp 𝕄} (h : ∀ t, R ⊢ Φ t) : R ⊢ all Φ :=
  (BI.bigSep_of_persistent Finset.univ R).trans (all_mono h)

/-- Everybody's semaphores are at their first round. -/
theorem mks_intro (a : Fin 4) (h : Fin 2) (d : Fin 31 → Dev nD) :
    ctx P G K ⊢ all fun t => reached ER (kcell (d t, some (a, h, t))) 0 :=
  all_persistent fun t => ctx_reached P G K (d t, some (a, h, t))

/-- What the barrier brings, half by half: the slots of the peers. -/
theorem bar_elim : (all fun t => barPay (F := F) c t) ⊢ iprop((all fun t => iprop(∃ f, slotP (F := F) (fwd c t) 0 t f)) ∗ all fun t => iprop(∃ f, slotP (F := F) (fwd c t) 1 t f)) := by
  unfold barPay
  rw [all_sep, all_rev (fun t => iprop(∃ f, slotP (F := F) (bwd c t) 0 t.rev f)), all_rev (fun t => iprop(∃ f, slotP (F := F) (bwd c t) 1 t.rev f))]
  simp only [bwd_rev, Fin.rev_rev]
  exact .rfl

theorem slots_rev (h : Fin 2) (f : SB F) : slotsP c h f ⊢ all fun t => iprop(∃ f, slotP (F := F) c h t.rev f) := by
  rw [slots_eq, all_rev]
  exact all_mono fun t => by iintro H; iexists f; iexact H

/-- What the signals carry: the device's own slots. -/
theorem bar_intro (f0 f1 : SB F) : iprop(slotsP c 0 f0 ∗ slotsP c 1 f1) ⊢ all fun t => barPay (F := F) (fwd c t) t := by
  unfold barPay
  simp only [bwd_fwd]
  rw [all_sep]
  iintro ⟨H0, H1⟩
  isplitl [H0]
  · iapply (slots_rev c 0 f0) $$ H0
  · iapply (slots_rev c 1 f1) $$ H1

/-- A half is ready for the first layer once the peers' slots are there. -/
theorem ready_intro (h : Fin 2) (f : RB F) :
    iprop(ctx P G K ∗ halfP c h fullShare f ∗ (all fun t => iprop(∃ f, slotP (F := F) (fwd c t) h t f)) ∗ poss c h 0) ⊢ Ready (F := F) c (0 : Fin 3).val h := by
  iintro ⟨#Hc, HR, HS, Hp⟩
  unfold Ready poss mks
  isplitl [HR]; · iexists f; iexact HR
  isplitl [HS]; · iexact HS
  isplitl [Hp]; · iexact Hp
  isplitr; · iapply (mks_intro P G K 0 h fun _ => c); iexact Hc
  isplitr; · iapply (mks_intro P G K 1 h (fwd c)); iexact Hc
  isplitr; · iapply (mks_intro P G K 3 h fun _ => c); iexact Hc
  iapply (mks_intro P G K 2 h fun _ => c); iexact Hc

/-- The signals, the wait on the barrier, and both halves ready. -/
theorem bar_wp (f0 f1 : SB F) (g0 g1 : RB F) (rest : List Ins) (hA : Above 1 rest) (x : FVec F S256x256 .f32) (k : FVec F S256x256 .f32 → PM F PUnit) (Q : PUnit → sProp 𝕄) :
    iprop(ctx P G K ∗ ((atPos ER (barC c) 0 ∅ 0 ∗ (all fun t => dutyTok ER (barC (fwd c t)) 0 t) ∗ cred (tallyAt (barC c) 0 31))
        ∗ (slotsP c 0 f0 ∗ slotsP c 1 f1) ∗ (halfP c 0 fullShare g0 ∗ halfP c 1 fullShare g1) ∗ (poss c 0 0 ∗ poss c 1 0))
        ∗ ow c (ts.map .sig ++ ([.bwait] ++ rest))
        ∗ (((atPos ER (barC c) 1 ∅ 0 ∗ Ready (F := F) c (0 : Fin 3).val 0 ∗ Ready (F := F) c (0 : Fin 3).val 1) ∗ ow c rest) -∗ WP c (runK c rest x k) Q))
      ⊢ WP c (runK c (ts.map .sig ++ ([.bwait] ++ rest)) x k) Q := by
  have hs := tr_all P G K c .sig _ _ 0 (fun t => by simp only [lvlOf]; omega) (tr_sig P G K c)
  rw [bigSep_sep'] at hs
  iintro ⟨#Hc, ⟨⟨Hat, Htk, Hcr⟩, HS, ⟨HR0, HR1⟩, ⟨Hp0, Hp1⟩⟩, How, Hk⟩
  iapply (hs ([.bwait] ++ rest) x k Q (above_zero _))
  isplitr; · iexact Hc
  isplitl [HS Htk]
  · isplitl [HS]
    · iapply (bar_intro c f0 f1) $$ HS
    · iexact Htk
  isplitl [How]; · iexact How
  iintro ⟨-, How⟩
  iapply (tr_bwait P G K c rest x k Q hA)
  isplitr; · iexact Hc
  isplitl [Hcr Hat]
  · isplitl [Hcr]; · iexact Hcr
    iexact Hat
  isplitl [How]; · iexact How
  iintro ⟨⟨Hat, Hb⟩, How⟩
  ihave Hb := (bar_elim (F := F) c) $$ Hb
  icases Hb with ⟨HS0, HS1⟩
  iapply Hk
  isplitr [How]
  · isplitl [Hat]; · iexact Hat
    isplitl [HR0 HS0 Hp0]
    · iapply (ready_intro P G K c 0 g0)
      isplitr; · iexact Hc
      isplitl [HR0]; · iexact HR0
      isplitl [HS0]; · iexact HS0
      iexact Hp0
    · iapply (ready_intro P G K c 1 g1)
      isplitr; · iexact Hc
      isplitl [HR1]; · iexact HR1
      isplitl [HS1]; · iexact HS1
      iexact Hp1
  · iexact How

/-! ## Both halves of a layer -/

variable {P G K c}
/-- Two blocks in order, each on its own half, with what they share. -/
theorem Blk.both {p q : List Ins} {A0 B0 A1 B1 R : sProp 𝕄} {v w u : ℕ} (h0 : Blk P G K c p iprop(A0 ∗ R) iprop(B0 ∗ R) v)
    (h1 : Blk P G K c q iprop(A1 ∗ R) iprop(B1 ∗ R) w) (hv : v ≤ u) (hw : w ≤ u) (hq : Above v q) :
    Blk P G K c (p ++ q) iprop((A0 ∗ A1) ∗ R) iprop((B0 ∗ B1) ∗ R) u := by
  intro rest x k Q hA
  rw [List.append_assoc]
  iintro ⟨#Hc, ⟨⟨HA0, HA1⟩, HR⟩, How, Hk⟩
  iapply (h0 (q ++ rest) x k Q fun j hj => (List.mem_append.mp hj).elim (hq j) fun hj => Nat.lt_of_le_of_lt hv (hA j hj))
  isplitr; · iexact Hc
  isplitl [HA0 HR]
  · isplitl [HA0]; · iexact HA0
    iexact HR
  isplitl [How]; · iexact How
  iintro %y ⟨⟨HB0, HR⟩, How⟩
  iapply (h1 rest y k Q fun j hj => Nat.lt_of_le_of_lt hw (hA j hj))
  isplitr; · iexact Hc
  isplitl [HA1 HR]
  · isplitl [HA1]; · iexact HA1
    iexact HR
  isplitl [How]; · iexact How
  iintro %z ⟨⟨HB1, HR⟩, How⟩
  iapply Hk
  isplitr [How]
  · isplitr [HR]
    · isplitl [HB0]; · iexact HB0
      iexact HB1
    · iexact HR
  · iexact How

theorem Blk.mono {p : List Ins} {A A' B B' : sProp 𝕄} {v : ℕ} (h : Blk P G K c p A B v) (hA : A' ⊢ A) (hB : B ⊢ B') : Blk P G K c p A' B' v := by
  intro rest x k Q hv
  refine BIBase.Entails.trans ?_ (h rest x k Q hv)
  iintro ⟨#Hc, HA, How, Hk⟩
  isplitr; · iexact Hc
  isplitl [HA]; · iapply hA $$ HA
  isplitl [How]; · iexact How
  iintro %y ⟨HB, How⟩
  iapply Hk
  isplitl [HB]; · iapply hB $$ HB
  iexact How
variable (P G K c)

theorem emp_in (A : sProp 𝕄) : iprop(A ∗ emp) ⊢ A := by
  iintro ⟨H, -⟩; iexact H
theorem emp_out (A : sProp 𝕄) : A ⊢ iprop(A ∗ emp) := by
  iintro H; isplitl; · iexact H
  itrivial

theorem above_first : Above 0 (firstHalf 1) := above_zero _
theorem above_reduce : ∀ l : Fin 3, Above (2 + 4 * l.val + (0 : Fin 2).val) (reduceHalf l 1) := by decide +kernel
theorem above_next : ∀ k l : Fin 3, l.val = k.val + 1 → Above (4 + 4 * k.val + (0 : Fin 2).val) (nextHalf k l 1) := by decide +kernel
theorem above_lasts : Above (12 + (0 : Fin 2).val) (lastHalf 1) := by decide +kernel

theorem blk_firsts (S : Finset S512x256.Idx) (hS : ∀ i, i ∈ S) (X : RB F) (w1 : Vec F S256x512 .f32) (w2 : Vec F S512x256 .f32)
    (hP : P (0 : Fin 3).val c = prodOf X w1 w2) :
    Blk P G K c firsts iprop(((Ready (F := F) c (0 : Fin 3).val 0 ∗ tokRS c (0 : Fin 3).val 0) ∗ (Ready (F := F) c (0 : Fin 3).val 1 ∗ tokRS c (0 : Fin 3).val 1)) ∗ (xP c S X ∗ facs c 0 w1 w2))
      iprop((Sent P c (0 : Fin 3).val 0 ∗ Sent P c (0 : Fin 3).val 1) ∗ (xP c S X ∗ facs c 0 w1 w2)) 0 := by
  have h (h : Fin 2) : Blk P G K c (firstHalf h) iprop((Ready (F := F) c (0 : Fin 3).val h ∗ tokRS c (0 : Fin 3).val h) ∗ (xP c S X ∗ facs c 0 w1 w2))
      iprop(Sent P c (0 : Fin 3).val h ∗ (xP c S X ∗ facs c 0 w1 w2)) 0 := by
    refine (blk_first P G K c 0 h rfl S hS X w1 w2 hP).mono ?_ ?_
    · iintro ⟨⟨HR, Ht⟩, HX, HF⟩
      isplitl [HX]; · iexact HX
      isplitl [HR]; · iexact HR
      isplitl [Ht]; · iexact Ht
      iexact HF
    · iintro ⟨HX, HS, HF⟩
      isplitl [HS]; · iexact HS
      isplitl [HX]; · iexact HX
      iexact HF
  exact (h 0).both (h 1) (Nat.le_refl 0) (Nat.le_refl 0) above_first

theorem blk_reduces (l : Fin 3) (hG : G l.val = gathOf (P l.val)) :
    Blk P G K c (reduces l) iprop((Sent P c l.val 0 ∗ tokAG c l.val 0 ∗ crs (rsR c) 0 l.val) ∗ (Sent P c l.val 1 ∗ tokAG c l.val 1 ∗ crs (rsR c) 1 l.val))
      iprop(Reduced G c l.val 0 ∗ Reduced G c l.val 1) (3 + 4 * l.val) := by
  have h (h : Fin 2) := (blk_reduce P G K c l h hG).mono (emp_in _) (emp_out _)
  refine ((h 0).both (h 1) (u := 3 + 4 * l.val) ?_ ?_ (above_reduce l)).mono (emp_out _) (emp_in _)
  · show 2 + 4 * l.val + 0 ≤ _; omega
  · show 2 + 4 * l.val + 1 ≤ _; omega

theorem blk_nexts (k l : Fin 3) (hkl : l.val = k.val + 1) (hs : srcOf l = aR) (w1 : Vec F S256x512 .f32) (w2 : Vec F S512x256 .f32)
    (hP : P l.val c = prodOf (G k.val) w1 w2) :
    Blk P G K c (nexts k l) iprop(((Reduced G c k.val 0 ∗ crs (agR c) 0 k.val ∗ tokRS c l.val 0) ∗ (Reduced G c k.val 1 ∗ crs (agR c) 1 k.val ∗ tokRS c l.val 1)) ∗ facs c l w1 w2)
      iprop((Sent P c l.val 0 ∗ Sent P c l.val 1) ∗ facs c l w1 w2) (5 + 4 * k.val) := by
  have h (h : Fin 2) : Blk P G K c (nextHalf k l h) iprop((Reduced G c k.val h ∗ crs (agR c) h k.val ∗ tokRS c l.val h) ∗ facs c l w1 w2)
      iprop(Sent P c l.val h ∗ facs c l w1 w2) (4 + 4 * k.val + h.val) := by
    refine (blk_next P G K c k l h hkl hs w1 w2 hP).mono ?_ .rfl
    iintro ⟨⟨HR, HC, Ht⟩, HF⟩
    isplitl [HR]; · iexact HR
    isplitl [HC]; · iexact HC
    isplitl [Ht]; · iexact Ht
    iexact HF
  refine (h 0).both (h 1) ?_ ?_ (above_next k l hkl)
  · show 4 + 4 * k.val + 0 ≤ _; omega
  · show 4 + 4 * k.val + 1 ≤ _; omega

theorem blk_lasts :
    Blk P G K c lasts iprop((Reduced G c (2 : Fin 3).val 0 ∗ crs (agR c) 0 (2 : Fin 3).val) ∗ (Reduced G c (2 : Fin 3).val 1 ∗ crs (agR c) 1 (2 : Fin 3).val))
      iprop(Done G c 0 ∗ Done G c 1) 13 := by
  have h (h : Fin 2) := (blk_last P G K c h).mono (emp_in _) (emp_out _)
  exact ((h 0).both (h 1) (by decide) (by decide) above_lasts).mono (emp_out _) (emp_in _)

/-- The credits and duties of one layer of both halves. -/
def fuels (l : ℕ) : sProp 𝕄 := iprop(fuel (F := F) c l 0 ∗ fuel (F := F) c l 1)

/-- A layer's product, sent, taken to the next layer's product, sent. -/
theorem blk_layer (k l : Fin 3) (hkl : l.val = k.val + 1) (hs : srcOf l = aR) (w1 : Vec F S256x512 .f32) (w2 : Vec F S512x256 .f32)
    (hG : G k.val = gathOf (P k.val)) (hP : P l.val c = prodOf (G k.val) w1 w2) (hN : Above (3 + 4 * k.val) (nexts k l)) :
    Blk P G K c (reduces k ++ nexts k l)
      iprop((Sent P c k.val 0 ∗ Sent P c k.val 1) ∗ ((tokAG c k.val 0 ∗ crs (rsR c) 0 k.val ∗ crs (agR c) 0 k.val) ∗ (tokAG c k.val 1 ∗ crs (rsR c) 1 k.val ∗ crs (agR c) 1 k.val))
        ∗ (tokRS c l.val 0 ∗ tokRS c l.val 1) ∗ facs c l w1 w2)
      iprop((Sent P c l.val 0 ∗ Sent P c l.val 1) ∗ facs c l w1 w2) (5 + 4 * k.val) := by
  intro rest x kk Q hA
  rw [List.append_assoc]
  iintro ⟨#Hc, ⟨⟨H0, H1⟩, ⟨⟨A0, R0, C0⟩, ⟨A1, R1, C1⟩⟩, ⟨T0, T1⟩, HF⟩, How, Hk⟩
  iapply (blk_reduces P G K c k hG (nexts k l ++ rest) x kk Q fun j hj => (List.mem_append.mp hj).elim (hN j) fun hj => by have := hA j hj; omega)
  isplitr; · iexact Hc
  isplitl [H0 A0 R0 H1 A1 R1]
  · isplitl [H0 A0 R0]
    · isplitl [H0]; · iexact H0
      isplitl [A0]; · iexact A0
      iexact R0
    · isplitl [H1]; · iexact H1
      isplitl [A1]; · iexact A1
      iexact R1
  isplitl [How]; · iexact How
  iintro %y ⟨⟨H0, H1⟩, How⟩
  iapply (blk_nexts P G K c k l hkl hs w1 w2 hP rest y kk Q hA)
  isplitr; · iexact Hc
  isplitl [H0 C0 T0 H1 C1 T1 HF]
  · isplitr [HF]
    · isplitl [H0 C0 T0]
      · isplitl [H0]; · iexact H0
        isplitl [C0]; · iexact C0
        iexact T0
      · isplitl [H1]; · iexact H1
        isplitl [C1]; · iexact C1
        iexact T1
    · iexact HF
  isplitl [How]; · iexact How
  iexact Hk

theorem above_nexts : ∀ k l : Fin 3, l.val = k.val + 1 → Above (3 + 4 * k.val) (nexts k l) := by decide +kernel
theorem above_tl6 : Above (3 + 4 * (2 : Fin 3).val) tl6 := by decide +kernel
theorem above_tl5 : Above (5 + 4 * (1 : Fin 3).val) tl5 := by decide +kernel
theorem above_tl3 : Above (5 + 4 * (0 : Fin 3).val) tl3 := by decide +kernel

/-- The body's layers: both halves through all three. -/
theorem layers_wp (S : Finset S512x256.Idx) (hS : ∀ i, i ∈ S) (X : RB F) (w1 : Fin 3 → Vec F S256x512 .f32) (w2 : Fin 3 → Vec F S512x256 .f32)
    (hP0 : P (0 : Fin 3).val c = prodOf X (w1 0) (w2 0)) (hP1 : P (1 : Fin 3).val c = prodOf (G (0 : Fin 3).val) (w1 1) (w2 1))
    (hP2 : P (2 : Fin 3).val c = prodOf (G (1 : Fin 3).val) (w1 2) (w2 2)) (hG : ∀ l : Fin 3, G l.val = gathOf (P l.val))
    (x : FVec F S256x256 .f32) (k : FVec F S256x256 .f32 → PM F PUnit) (Q : PUnit → sProp 𝕄) :
    iprop(ctx P G K ∗ ((Ready (F := F) c (0 : Fin 3).val 0 ∗ Ready (F := F) c (0 : Fin 3).val 1)
        ∗ (fuels (F := F) c (0 : Fin 3).val ∗ fuels (F := F) c (1 : Fin 3).val ∗ fuels (F := F) c (2 : Fin 3).val)
        ∗ xP c S X ∗ facs c 0 (w1 0) (w2 0) ∗ facs c 1 (w1 1) (w2 1) ∗ facs c 2 (w1 2) (w2 2))
        ∗ ow c tl0
        ∗ (∀ y, (((Done G c 0 ∗ Done G c 1) ∗ xP c S X ∗ facs c 0 (w1 0) (w2 0) ∗ facs c 1 (w1 1) (w2 1) ∗ facs c 2 (w1 2) (w2 2)) ∗ ow c []) -∗ WP c (k y) Q))
      ⊢ WP c (runK c tl0 x k) Q := by
  unfold fuels fuel
  rw [show tl0 = firsts ++ ((reduces 0 ++ nexts 0 1) ++ tl3) by unfold tl0 tl1 tl2; rw [List.append_assoc]]
  iintro ⟨#Hc, ⟨⟨H0, H1⟩, ⟨⟨⟨R00, A00, CR00, CA00⟩, ⟨R01, A01, CR01, CA01⟩⟩, ⟨⟨R10, A10, CR10, CA10⟩, ⟨R11, A11, CR11, CA11⟩⟩, ⟨⟨R20, A20, CR20, CA20⟩, ⟨R21, A21, CR21, CA21⟩⟩⟩, HX, HF0, HF1, HF2⟩, How, Hk⟩
  iapply (blk_firsts P G K c S hS X (w1 0) (w2 0) hP0 _ x k Q (above_zero _))
  isplitr; · iexact Hc
  isplitl [H0 R00 H1 R01 HX HF0]
  · isplitr [HX HF0]
    · isplitl [H0 R00]
      · isplitl [H0]; · iexact H0
        iexact R00
      · isplitl [H1]; · iexact H1
        iexact R01
    · isplitl [HX]; · iexact HX
      iexact HF0
  isplitl [How]; · iexact How
  iintro %y0 ⟨⟨HS, HX, HF0⟩, How⟩
  iapply (blk_layer P G K c 0 1 rfl rfl (w1 1) (w2 1) (hG 0) hP1 (above_nexts 0 1 rfl) tl3 y0 k Q above_tl3)
  isplitr; · iexact Hc
  isplitl [HS A00 CR00 CA00 A01 CR01 CA01 R10 R11 HF1]
  · isplitl [HS]; · iexact HS
    isplitl [A00 CR00 CA00 A01 CR01 CA01]
    · isplitl [A00 CR00 CA00]
      · isplitl [A00]; · iexact A00
        isplitl [CR00]; · iexact CR00
        iexact CA00
      · isplitl [A01]; · iexact A01
        isplitl [CR01]; · iexact CR01
        iexact CA01
    isplitl [R10 R11]
    · isplitl [R10]; · iexact R10
      iexact R11
    iexact HF1
  isplitl [How]; · iexact How
  iintro %y1 ⟨⟨HS, HF1⟩, How⟩
  rw [show tl3 = (reduces 1 ++ nexts 1 2) ++ tl5 by unfold tl3 tl4; rw [List.append_assoc]]
  iapply (blk_layer P G K c 1 2 rfl rfl (w1 2) (w2 2) (hG 1) hP2 (above_nexts 1 2 rfl) tl5 y1 k Q above_tl5)
  isplitr; · iexact Hc
  isplitl [HS A10 CR10 CA10 A11 CR11 CA11 R20 R21 HF2]
  · isplitl [HS]; · iexact HS
    isplitl [A10 CR10 CA10 A11 CR11 CA11]
    · isplitl [A10 CR10 CA10]
      · isplitl [A10]; · iexact A10
        isplitl [CR10]; · iexact CR10
        iexact CA10
      · isplitl [A11]; · iexact A11
        isplitl [CR11]; · iexact CR11
        iexact CA11
    isplitl [R20 R21]
    · isplitl [R20]; · iexact R20
      iexact R21
    iexact HF2
  isplitl [How]; · iexact How
  iintro %y2 ⟨⟨⟨H0, H1⟩, HF2⟩, How⟩
  unfold tl5
  iapply (blk_reduces P G K c 2 (hG 2) tl6 y2 k Q above_tl6)
  isplitr; · iexact Hc
  isplitl [H0 A20 CR20 H1 A21 CR21]
  · isplitl [H0 A20 CR20]
    · isplitl [H0]; · iexact H0
      isplitl [A20]; · iexact A20
      iexact CR20
    · isplitl [H1]; · iexact H1
      isplitl [A21]; · iexact A21
      iexact CR21
  isplitl [How]; · iexact How
  iintro %y3 ⟨⟨H0, H1⟩, How⟩
  unfold tl6
  iapply (blk_lasts P G K c [] y3 k Q fun _ h => nomatch h)
  isplitr; · iexact Hc
  isplitl [H0 CA20 H1 CA21]
  · isplitl [H0 CA20]
    · isplitl [H0]; · iexact H0
      iexact CA20
    · isplitl [H1]; · iexact H1
      iexact CA21
  isplitl [How]; · iexact How
  iintro %y4 ⟨HD, How⟩
  iapply Hk $$ %y4
  isplitr [How]
  · isplitl [HD]; · iexact HD
    isplitl [HX]; · iexact HX
    isplitl [HF0]; · iexact HF0
    isplitl [HF1]; · iexact HF1
    iexact HF2
  · iexact How

end Cert.KernelIdeal.P
-- ==== Proof.Deal.lean ====
/- What the launch deals: the credits of the semaphores the peers pay, the duty tokens of the semaphores the device pays. -/
module

public import proofs.«01_k».proof.Proof.Body

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F) (c : Dev nD)

/-! ## Credits -/

/-- What device `c` is credited because its peers run one instruction. -/
def credIns : Ins → sProp 𝕄
  | .sig _ => cred (tallyAt (barC c) 0 1)
  | .rs l h t => cred (tallyAt (rsR c h t) l.val N)
  | .ag l h t => cred (tallyAt (agR c h t) l.val N)
  | _ => iprop(emp)
/-- And because they run a list of them. -/
def credOf : List Ins → sProp 𝕄
  | [] => iprop(emp)
  | i :: is => iprop(credOf is ∗ credIns (F := F) c i)

/-- Every device owes one other device's semaphore: each semaphore is credited once. -/
theorem launch_perm (e : Dev nD ≃ Dev nD) (sm : SemLoc sig) (ι n : ℕ) :
    (Pipeline.launchCred (fun d => tallyAt ((e d : Thread nD τ), sm) ι n) c : sProp 𝕄) ⊢ cred (tallyAt ((c : Thread nD τ), sm) ι n) := by
  unfold Pipeline.launchCred
  have h : tallyOn ((c : Thread nD τ), sm) (launchCredit (Pipeline.owing fun d => tallyAt ((e d : Thread nD τ), sm) ι n) 0 ((c : Thread nD τ), sm))
      = (tallyAt ((c : Thread nD τ), sm) ι n : CellTallies nD τ sig ℕ) := by
    unfold tallyAt
    refine congrArg _ (Finsupp.ext fun u => ?_)
    rw [Pipeline.launchCredit_owing, Finset.sum_eq_single (e.symm c)]
    · rw [e.apply_symm_apply]
      simp only [tallyOn, Pi.single_eq_same]
    · intro d _ hd
      have : ((c : Thread nD τ), sm) ≠ ((e d : Thread nD τ), sm) := fun H => hd (by
        have h1 : c = e d := congrArg (fun g : GSem nD τ sig => g.1.1) H
        rw [h1, e.symm_apply_apply])
      exact congrArg (fun f => f u) (tallyAt_ne_cell this ι n)
    · exact fun H => absurd (Finset.mem_univ _) H
  rw [bigSep_univ_at _ sm, h]
  iintro ⟨H, -⟩
  iexact H

theorem launch_ins (i : Ins) : (Pipeline.launchCred (fun d => payOf d i) c : sProp 𝕄) ⊢ credIns (F := F) c i := by
  cases i with
  | sig t => exact launch_perm c (fwdE t) (.reg barSem) 0 1
  | rs l h t => exact launch_perm c (fwdE t) (.dma (semAt cc0_scratch2 h t)) l.val N
  | ag l h t => exact launch_perm c (fwdE t) (.dma (semAt cc0_scratch4 h t)) l.val N
  | _ => exact Entails.of_eq (Pipeline.launchCred_zero c)

theorem launch_list : ∀ is : List Ins, (Pipeline.launchCred (fun d => owed d is) c : sProp 𝕄) ⊢ credOf (F := F) c is
  | [] => Entails.of_eq (Pipeline.launchCred_zero c)
  | i :: is => by
    unfold credOf
    rw [show (fun d => owed d (i :: is)) = fun d => owed d is + payOf d i from rfl, Pipeline.launchCred_add]
    exact BIClass.sep_mono (launch_list is) (launch_ins c i)

theorem emp_before (A : sProp 𝕄) : A ⊢ iprop(emp ∗ A) := by
  iintro H
  isplitr; · itrivial
  iexact H

theorem credOf_append : ∀ p q : List Ins, credOf (F := F) c (p ++ q) ⊢ iprop(credOf (F := F) c p ∗ credOf (F := F) c q)
  | [], q => emp_before (credOf c q)
  | i :: p, q => by
    show iprop(credOf c (p ++ q) ∗ credIns c i) ⊢ iprop((credOf c p ∗ credIns c i) ∗ credOf c q)
    iintro ⟨H, Hi⟩
    ihave H := (credOf_append p q) $$ H
    icases H with ⟨Hp, Hq⟩
    isplitr [Hq]
    · isplitl [Hp]; · iexact Hp
      iexact Hi
    · iexact Hq

theorem credOf_cons (i : Ins) (p : List Ins) : credOf (F := F) c (i :: p) ⊢ credOf (F := F) c p := by
  rw [credOf]
  iintro ⟨H, -⟩; iexact H

theorem credOf_map (f : Fin 31 → Ins) : ∀ l : List (Fin 31), l.Nodup → credOf (F := F) c (l.map f) ⊢ bigSep l.toFinset fun t => credIns (F := F) c (f t)
  | [], _ => .rfl
  | t :: l, hl => by
    rw [List.nodup_cons] at hl
    have hn : t ∉ l.toFinset := fun H => hl.1 (List.mem_toFinset.mp H)
    rw [List.toFinset_cons, sep_ins hn, List.map_cons, credOf]
    iintro ⟨H, Hi⟩
    isplitl [Hi]; · iexact Hi
    iapply (credOf_map f l hl.2) $$ H

theorem credOf_all (f : Fin 31 → Ins) : credOf (F := F) c (ts.map f) ⊢ all fun t => credIns (F := F) c (f t) := by
  have := credOf_map (F := F) c f ts (List.nodup_finRange 31)
  rwa [show ts.toFinset = Finset.univ from List.toFinset_finRange 31] at this

theorem credOf_right (p q : List Ins) : credOf (F := F) c (p ++ q) ⊢ credOf (F := F) c q := by
  iintro H
  ihave H := (credOf_append c p q) $$ H
  icases H with ⟨-, H⟩
  iexact H

theorem cred_first (h : Fin 2) : credOf (F := F) c (firstHalf h) ⊢ crs (rsR c) h (0 : Fin 3).val :=
  (credOf_cons c _ _).trans ((credOf_cons c _ _).trans (credOf_all c (.rs 0 h)))
theorem cred_reduce (l : Fin 3) (h : Fin 2) : credOf (F := F) c (reduceHalf l h) ⊢ crs (agR c) h l.val :=
  (credOf_right c _ _).trans ((credOf_cons c _ _).trans (credOf_all c (.ag l h)))
theorem cred_next (k l : Fin 3) (h : Fin 2) : credOf (F := F) c (nextHalf k l h) ⊢ crs (rsR c) h l.val :=
  (credOf_right c _ _).trans ((credOf_cons c _ _).trans ((credOf_right c _ _).trans ((credOf_cons c _ _).trans (credOf_all c (.rs l h)))))

/-- The barrier's units together. -/
theorem cred_bar : (all fun t => credIns (F := F) c (.sig t)) ⊢ cred (tallyAt (barC c) 0 31) := by
  show (bigSep Finset.univ fun _ : Fin 31 => (cred (tallyAt (barC c) 0 1) : sProp 𝕄)) ⊢ _
  rw [← Pipeline.cred_finsetSum Finset.univ (fun _ : Fin 31 => (tallyAt (barC c) 0 1 : CellTallies nD τ sig ℕ))]
  have h : ∀ n : ℕ, n • (tallyAt (barC c) 0 1 : CellTallies nD τ sig ℕ) = tallyAt (barC c) 0 n := by
    intro n
    induction n with
    | zero => rw [zero_nsmul, tallyAt_zero]
    | succ n ih => rw [succ_nsmul, ih, tallyAt_add]
  rw [Finset.sum_const, h]
  exact .rfl

/-- The credits of both halves of a layer. -/
def creds2 (l : ℕ) : sProp 𝕄 := iprop((crs (rsR c) 0 l ∗ crs (rsR c) 1 l) ∗ (crs (agR c) 0 l ∗ crs (agR c) 1 l))

theorem two (p q : List Ins) {A B : sProp 𝕄} (hp : credOf (F := F) c p ⊢ A) (hq : credOf (F := F) c q ⊢ B) : credOf (F := F) c (p ++ q) ⊢ iprop(A ∗ B) :=
  (credOf_append c p q).trans (BIClass.sep_mono hp hq)

/-- All a device is credited at the launch. -/
theorem creds : (Pipeline.launchCred (fun d => owed d full) c : sProp 𝕄)
    ⊢ iprop(cred (tallyAt (barC c) 0 31) ∗ creds2 (F := F) c (0 : Fin 3).val ∗ creds2 (F := F) c (1 : Fin 3).val ∗ creds2 (F := F) c (2 : Fin 3).val) := by
  have h1 : credOf (F := F) c firsts ⊢ _ := two c _ _ (cred_first c 0) (cred_first c 1)
  have h2 (l : Fin 3) : credOf (F := F) c (reduces l) ⊢ _ := two c _ _ (cred_reduce c l 0) (cred_reduce c l 1)
  have h3 (k l : Fin 3) : credOf (F := F) c (nexts k l) ⊢ _ := two c _ _ (cred_next c k l 0) (cred_next c k l 1)
  have h0 : credOf (F := F) c (ts.map .sig) ⊢ cred (tallyAt (barC c) 0 31) := (credOf_all c .sig).trans (cred_bar c)
  have hA : credOf (F := F) c tl0 ⊢ _ := two c _ _ h1 (two c _ _ (h2 0) (two c _ _ (h3 0 1) (two c _ _ (h2 1) (two c _ _ (h3 1 2) (two c _ tl6 (h2 2) .rfl)))))
  refine (launch_list c full).trans ?_
  rw [parts_eq]
  refine (two c _ _ h0 ((credOf_right c _ _).trans hA)).trans ?_
  unfold creds2
  iintro ⟨HB, R0, A0, R1, A1, R2, A2, -⟩
  isplitl [HB]; · iexact HB
  isplitl [R0 A0]
  · isplitl [R0]; · iexact R0
    iexact A0
  isplitl [R1 A1]
  · isplitl [R1]; · iexact R1
    iexact A1
  · isplitl [R2]; · iexact R2
    iexact A2

/-! ## Duty tokens -/

theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I) (fun p : I × J => Φ p.1 p.2), bigSep_univ_prod]
  rfl

/-- What every device has for every peer, dealt to that peer. -/
theorem deal (Φ : Dev nD → Fin 31 → sProp 𝕄) :
    (bigSep Finset.univ fun d => all fun t => Φ d t) = bigSep Finset.univ fun d => all fun t => Φ (fwd d t) t := by
  unfold all
  rw [bigSep_swap, bigSep_swap (fun d t => Φ (fwd d t) t)]
  exact bigSep_congr fun t _ => bigSep_univ_equiv (fwdE t) fun d => Φ d t

/-- The tokens of a device's own semaphores of one layer and half. -/
def tokOwn (l : ℕ) (h : Fin 2) : sProp 𝕄 :=
  iprop((all fun t => dutyTok ER (rsS c h t) l 0) ∗ (all fun t => dutyTok ER (rsR c h t) l 0)
    ∗ (all fun t => dutyTok ER (agS c h t) l 0) ∗ (all fun t => dutyTok ER (agR c h t) l 0))

theorem deal_own (l : ℕ) (h : Fin 2) :
    (bigSep Finset.univ fun d => tokOwn (F := F) d l h) ⊢ bigSep Finset.univ fun d => iprop(tokRS (F := F) d l h ∗ tokAG (F := F) d l h) := by
  unfold tokOwn tokRS tokAG
  simp only [bigSep_sep']
  rw [deal (fun d t => dutyTok ER (rsR d h t) l 0), deal (fun d t => dutyTok ER (agR d h t) l 0)]
  iintro ⟨H0, H1, H2, H3⟩
  isplitl [H0 H1]
  · isplitl [H0]; · iexact H0
    iexact H1
  · isplitl [H2]; · iexact H2
    iexact H3

/-- All the tokens of a device's own semaphores. -/
def toks : sProp 𝕄 := iprop((all fun t => dutyTok ER (barC c) 0 t) ∗ bigSep Finset.univ fun lh : Fin 3 × Fin 2 => tokOwn (F := F) c lh.1.val lh.2)
/-- All the tokens of the semaphores a device pays. -/
def payToks : sProp 𝕄 :=
  iprop((all fun t => dutyTok ER (barC (fwd c t)) 0 t) ∗ bigSep Finset.univ fun lh : Fin 3 × Fin 2 => iprop(tokRS (F := F) c lh.1.val lh.2 ∗ tokAG (F := F) c lh.1.val lh.2))

theorem toks_around : (bigSep Finset.univ fun d => toks (F := F) d) ⊢ bigSep Finset.univ fun d => payToks (F := F) d := by
  unfold toks payToks
  rw [bigSep_sep', bigSep_sep', deal (fun d t => dutyTok ER (barC d) 0 t),
    bigSep_swap (fun (d : Dev nD) (lh : Fin 3 × Fin 2) => tokOwn (F := F) d lh.1.val lh.2),
    bigSep_swap (fun (d : Dev nD) (lh : Fin 3 × Fin 2) => iprop(tokRS (F := F) d lh.1.val lh.2 ∗ tokAG (F := F) d lh.1.val lh.2))]
  exact BIClass.sep_mono .rfl (bigSep_mono fun (lh : Fin 3 × Fin 2) _ => deal_own lh.1.val lh.2)

theorem fin2 (Φ : Fin 2 → sProp 𝕄) : bigSep Finset.univ Φ = iprop(Φ 0 ∗ Φ 1) := bigSep_univ_eq_bigSepL [0, 1] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ
theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The tokens and credits of a layer are what the layer uses up. -/
theorem fuels_intro (l : ℕ) : iprop(((tokRS (F := F) c l 0 ∗ tokAG (F := F) c l 0) ∗ (tokRS (F := F) c l 1 ∗ tokAG (F := F) c l 1)) ∗ creds2 (F := F) c l) ⊢ fuels (F := F) c l := by
  unfold fuels fuel creds2
  iintro ⟨⟨⟨R0, A0⟩, ⟨R1, A1⟩⟩, ⟨CR0, CR1⟩, ⟨CA0, CA1⟩⟩
  isplitl [R0 A0 CR0 CA0]
  · isplitl [R0]; · iexact R0
    isplitl [A0]; · iexact A0
    isplitl [CR0]; · iexact CR0
    iexact CA0
  · isplitl [R1]; · iexact R1
    isplitl [A1]; · iexact A1
    isplitl [CR1]; · iexact CR1
    iexact CA1

end Cert.KernelIdeal.P
-- ==== Proof.Fund.lean ====
/- The ghost state of the launch: every cell allocated, every device dealt its positions and the tokens of the duties it pays. -/
module

public import proofs.«01_k».proof.Proof.Deal

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F)

/-! ## The cells and the tokens minted -/

theorem csem_injective : Function.Injective (csem : CI → SemLoc sig) := by
  rintro (_ | ⟨a, h, t⟩) (_ | ⟨a', h', t'⟩) H
  · rfl
  · exact absurd H (by intro H; cases H)
  · exact absurd H (by intro H; cases H)
  · have H' := congrArg cel H
    rw [cel_semAt, cel_semAt] at H'
    cases H'; rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The cells of all devices. -/
def allCells : Finset (GSem nD τ sig) := Finset.univ.map ⟨kcell, kcell_injective⟩

/-- Which duty: one of the barrier's, or one of a transfer semaphore's of a layer. -/
abbrev TI : Type := Fin 31 ⊕ ((Fin 3 × Fin 2) × (Fin 4 × Fin 31))
abbrev tokOf (ct : Dev nD × TI) : GSem nD τ sig × ℕ × Fin 31 := match ct.2 with
  | .inl t => (barC ct.1, 0, t)
  | .inr ((l, h), (a, t)) => (((ct.1 : Thread nD τ), .dma (semAt (arr a) h t)), l.val, 0)

theorem tokOf_injective : Function.Injective (tokOf : Dev nD × TI → GSem nD τ sig × ℕ × Fin 31) := by
  rintro ⟨c, j⟩ ⟨c', j'⟩ h
  have h1 : c = c' := by
    have := congrArg (fun x : GSem nD τ sig × ℕ × Fin 31 => x.1.1.1) h
    rcases j with _ | ⟨⟨_, _⟩, ⟨_, _⟩⟩ <;> rcases j' with _ | ⟨⟨_, _⟩, ⟨_, _⟩⟩ <;> exact this
  subst h1
  have h2 := congrArg (fun x : GSem nD τ sig × ℕ × Fin 31 => cel x.1.2) h
  have h3 := congrArg (fun x : GSem nD τ sig × ℕ × Fin 31 => x.2) h
  rcases j with t | ⟨⟨l, h⟩, ⟨a, t⟩⟩ <;> rcases j' with t' | ⟨⟨l', h'⟩, ⟨a', t'⟩⟩ <;> dsimp only [tokOf] at h2 h3
  · rw [(Prod.mk.inj h3).2]
  · rw [cel_semAt, cel_bar] at h2; cases h2
  · rw [cel_semAt, cel_bar] at h2; cases h2
  · rw [cel_semAt, cel_semAt] at h2
    cases h2
    rw [Fin.ext (Prod.mk.inj h3).1]

/-- The tokens of all devices. -/
def allToks : Finset (GSem nD τ sig × ℕ × Fin 31) := Finset.univ.map ⟨tokOf, tokOf_injective⟩

theorem bigSep_cells (Φ : GSem nD τ sig → sProp 𝕄) :
    bigSep allCells Φ = bigSep Finset.univ fun c : Dev nD => bigSep Finset.univ fun k : CI => Φ (kcell (c, k)) := by
  unfold allCells; rw [bigSep_map, bigSep_univ_prod]; rfl

theorem bigSep_toks : bigSep allToks (fun x => (dutyTok ER x.1 x.2.1 x.2.2 : sProp 𝕄)) = bigSep Finset.univ fun c : Dev nD => toks (F := F) c := by
  unfold allToks
  rw [bigSep_map, bigSep_univ_prod]
  refine bigSep_congr fun c _ => ?_
  rw [bigSep_univ_sum]
  unfold toks
  refine congrArg₂ _ rfl ?_
  rw [bigSep_univ_prod]
  refine bigSep_congr fun lh _ => ?_
  rw [bigSep_univ_prod, fin4]
  rfl

/-- One cell for the barrier, and the four arrays of two rows of cells. -/
theorem bigSep_CI (Φ : CI → sProp 𝕄) :
    bigSep Finset.univ Φ = iprop((bigSep Finset.univ fun a : Fin 4 × Fin 2 × Fin 31 => Φ (some a)) ∗ Φ none) := by
  rw [bigSep_univ_equiv (Equiv.optionEquivSumPUnit.{0} (Fin 4 × Fin 2 × Fin 31)).symm, bigSep_univ_sum]
  refine congrArg₂ _ rfl ?_
  exact bigSep_univ_eq_bigSepL [PUnit.unit] (by decide) (by decide) _

variable (c : Dev nD)

/-- What the launch deals a device. -/
def dealt : sProp 𝕄 :=
  iprop((bigSep Finset.univ fun k : CI => roundState ER (Rd P G) (kcell (c, k)) 0)
    ∗ (bigSep Finset.univ fun k : CI => iprop(atPos ER (kcell (c, k)) 0 ∅ 0 ∗ reached ER (kcell (c, k)) 0)) ∗ toks (F := F) c)

theorem fund_cells : BI.own (ER (initOf allCells allToks)) ⊢ (|==> bigSep Finset.univ (dealt P G) : sProp 𝕄) := by
  iintro HX
  imod (Rounds.fund ER (Rd P G) allCells allToks) $$ HX with ⟨Hst, Hr, Hat, Htok⟩
  imodintro
  ihave Hst' := (Entails.of_eq (bigSep_cells fun g => roundState ER (Rd P G) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  unfold dealt; simp only [bigSep_sep']
  isplitl [Hst']; · iexact Hst'
  isplitl [Hat' Hr']
  · isplitl [Hat'] <;> iassumption
  iexact Htok'

/-- The kernel's own semaphores: the four arrays. -/
abbrev osem (x : Fin 4 × Fin 2 × Fin 31) : SemLoc sig := csem (some x)

theorem ownSemFacts : Pipeline.OwnSemFacts cfg0.spec osem where
  isScoped := by decide +kernel
  inj := fun a b h => Option.some.inj (csem_injective h)
  disj := by
    rintro ⟨a, h, t⟩ w s H
    have H' : (semAt (arr a) h t).val = ((cfg0.spec w).sem s).val := congrArg (fun x : SemLoc sig => match x with | .dma i => i.val | .reg i => i.val) H
    rw [semAt_val] at H'
    have : ((cfg0.spec w).sem s).val < 8 := (by decide +kernel : ∀ (w : Fin 8) (s : Fin (cfg0.spec w).nbuf), ((cfg0.spec w).sem s).val < 8) w s
    omega

theorem unscopedSems0_eq : (unscopedSems0 c : sProp 𝕄) = semVal (barC c) 0 := by
  unfold unscopedSems0; rw [bigSep_eq_bigSepL_of_eq [SemLoc.reg barSem] (by decide +kernel) (by decide)]; rfl

/-- A device's own semaphores and the barrier's are its cells. -/
theorem sems_eq :
    iprop(Pipeline.ownSems0 (Ix := ℕ) (Name := ℕ) (U := UU) (Lvl := ℕ) (Val := Elt F) (τ := τ) osem c ∗ unscopedSems0 c)
      = (bigSep Finset.univ fun k : CI => semVal (kcell (c, k)) 0 : sProp 𝕄) := by
  rw [unscopedSems0_eq, bigSep_CI]; rfl

theorem core_alloc :
    iprop(Pipeline.ownSems0 (Ix := ℕ) (Name := ℕ) (U := UU) (Lvl := ℕ) (Val := Elt F) (τ := τ) osem c ∗ unscopedSems0 c ∗ dealt P G c)
      ⊢ |={Set.univ}=> iprop((bigSep Finset.univ fun k => iprop(∃ κ : ℕ, cellInv ER (Rd P G) κ (kcell (c, k))))
          ∗ (bigSep Finset.univ fun k => iprop(atPos ER (kcell (c, k)) 0 ∅ 0 ∗ reached ER (kcell (c, k)) 0)) ∗ toks (F := F) c) := by
  unfold dealt
  iintro ⟨Hos, Hus, Hst, Hat, Htok⟩
  ihave Hv := (Entails.of_eq (sems_eq (F := F) c)) $$ [Hos Hus]
  · isplitl [Hos] <;> iassumption
  imod (show iprop((bigSep Finset.univ fun k : CI => semVal (kcell (c, k)) 0) ∗ bigSep Finset.univ fun k : CI => roundState ER (Rd P G) (kcell (c, k)) 0)
      ⊢ (|={Set.univ}=> bigSep Finset.univ fun k => iprop(∃ κ : ℕ, cellInv ER (Rd P G) κ (kcell (c, k))) : sProp 𝕄) from by
        rw [← bigSep_sep']
        exact (bigSep_mono fun k _ => (Rounds.body_intro ER (Rd P G) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows of the cells. -/
def records (K : Dev nD × CI → ℕ) : sProp 𝕄 :=
  iprop((bigSep Finset.univ fun ck => cellInv ER (Rd P G) (K ck) (kcell ck)) ∗ (bigSep Finset.univ fun ck => reached ER (kcell ck) 0))
instance records_persistent (K : Dev nD × CI → ℕ) : BI.Persistent (records P G K) := by unfold records; infer_instance

/-- What a device holds of its own: its positions, the tokens it pays with. -/
def linear : sProp 𝕄 := iprop((bigSep Finset.univ fun k : CI => atPos ER (kcell (c, k)) 0 ∅ 0) ∗ payToks (F := F) c)
def held : sProp 𝕄 := iprop(∃ K, records P G K ∗ linear (F := F) c)

theorem held_intro (K : Dev nD × CI → ℕ) : iprop(records P G K ∗ linear (F := F) c) ⊢ held P G c := by
  unfold held; iintro H; iexists K; iexact H

theorem bigSep_know {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) .rfl).trans (by rw [← bigSep_sep']; exact bigSep_mono h)

theorem regroup :
    (bigSep Finset.univ fun c : Dev nD => iprop((bigSep Finset.univ fun k => iprop(∃ κ : ℕ, cellInv ER (Rd P G) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (held P G) := by
  rw [bigSep_sep', bigSep_sep', ← bigSep_univ_prod (fun ck : Dev nD × CI => iprop(∃ κ : ℕ, cellInv ER (Rd P G) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd P G) κ (kcell ck) : sProp 𝕄))) $$ HI
  icases HK with ⟨%K, #HI⟩
  ihave Htk := (toks_around (F := F)) $$ Htok
  iapply (bigSep_know (R := records P G K) fun c _ => held_intro P G c K)
  isplitr
  · unfold records; isplitl; · iexact HI
    iexact HR
  · unfold linear
    rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ dealt P G c) : sProp 𝕄)
    ⊢ |={Set.univ}=> bigSep Finset.univ (held P G) :=
  ((bigSep_mono fun c _ => core_alloc P G c).trans (bigSep_fupd _ _)).trans (BI.fupd_mono (regroup P G))

/-- A device's positions, cell by cell. -/
theorem positions : (bigSep Finset.univ fun k : CI => (atPos ER (kcell (c, k)) 0 ∅ 0 : sProp 𝕄))
    ⊢ iprop(atPos ER (barC c) 0 ∅ 0 ∗ (poss (F := F) c 0 0 ∗ poss (F := F) c 1 0)) := by
  rw [bigSep_CI, bigSep_univ_prod, fin4]
  simp only [bigSep_univ_prod, fin2]
  unfold poss pos all
  iintro ⟨⟨⟨A0, A1⟩, ⟨B0, B1⟩, ⟨C0, C1⟩, ⟨D0, D1⟩⟩, HB⟩
  isplitl [HB]; · iexact HB
  isplitl [A0 B0 C0 D0]
  · isplitl [A0]; · iexact A0
    isplitl [B0]; · iexact B0
    isplitl [C0]; · iexact C0
    iexact D0
  · isplitl [A1]; · iexact A1
    isplitl [B1]; · iexact B1
    isplitl [C1]; · iexact C1
    iexact D1

/-- Semaphores read zero again, gathered as they were dealt. -/
theorem zeros : iprop(semVal (barC c) 0 ∗ ((all fun t => semVal (rsS c 0 t) 0) ∗ (all fun t => semVal (rsR c 0 t) 0) ∗ (all fun t => semVal (agS c 0 t) 0) ∗ (all fun t => semVal (agR c 0 t) 0))
      ∗ ((all fun t => semVal (rsS c 1 t) 0) ∗ (all fun t => semVal (rsR c 1 t) 0) ∗ (all fun t => semVal (agS c 1 t) 0) ∗ (all fun t => semVal (agR c 1 t) 0)))
    ⊢ (bigSep Finset.univ fun k : CI => semVal (kcell (c, k)) 0 : sProp 𝕄) := by
  rw [bigSep_CI, bigSep_univ_prod, fin4]
  simp only [bigSep_univ_prod, fin2]
  iintro ⟨HB, ⟨A0, B0, C0, D0⟩, ⟨A1, B1, C1, D1⟩⟩
  isplitr [HB]
  · isplitl [A0 A1]
    · isplitl [A0]; · iexact A0
      iexact A1
    isplitl [B0 B1]
    · isplitl [B0]; · iexact B0
      iexact B1
    isplitl [C0 C1]
    · isplitl [C0]; · iexact C0
      iexact C1
    · isplitl [D0]; · iexact D0
      iexact D1
  · iexact HB

end Cert.KernelIdeal.P
-- ==== Proof.ProgT.lean ====
/- The printed body is the run of the instruction list: each printed part is the run of its stretch of the list. -/
module

public import proofs.«01_k».proof.Proof.Prog

@[expose] public section

set_option maxRecDepth 65536

noncomputable section

namespace Cert.KernelIdeal.P

open Idealize.ShloMosaic Idealize.SL.Sem
open Cert.KernelIdeal.Facts₀ Cert.KernelIdeal.Facts

variable {F : FTy → Type} [FloatOps F]

/-- A stretch of the instruction list, cut where the printed body is cut into parts. -/
def seg1 : List Ins :=
  ts.map .sig ++ .bwait :: (firstHalf 0 ++ firstHalf 1 ++ (tsTo 5).map (.wrr 0 0))

/-- A stretch of the instruction list, cut where the printed body is cut into parts. -/
def seg2 : List Ins :=
  (tsFrom 5).map (.wrr 0 0) ++ .acc 0 0 :: (ts.map (.ag 0 0) ++ reduceHalf 0 1 ++ (tsTo 6).map (.war 0 0))

/-- A stretch of the instruction list, cut where the printed body is cut into parts. -/
def seg3 : List Ins :=
  (tsFrom 6).map (.war 0 0) ++ .xh 1 0 :: (ts.map (.wrs 0 0) ++ ts.map (.was 0 0) ++ .mm 1 0 :: (ts.map (.rs 1 0) ++ ts.map (.war 0 1) ++ .xh 1 1 :: (ts.map (.wrs 0 1) ++ (tsTo 2).map (.was 0 1))))

/-- A stretch of the instruction list, cut where the printed body is cut into parts. -/
def seg4 : List Ins :=
  (tsFrom 2).map (.was 0 1) ++ .mm 1 1 :: (ts.map (.rs 1 1) ++ reduceHalf 1 0 ++ (tsTo 3).map (.wrr 1 1))

/-- A stretch of the instruction list, cut where the printed body is cut into parts. -/
def seg5 : List Ins :=
  (tsFrom 3).map (.wrr 1 1) ++ .acc 1 1 :: (ts.map (.ag 1 1) ++ ts.map (.war 1 0) ++ .xh 2 0 :: (ts.map (.wrs 1 0) ++ ts.map (.was 1 0) ++ .mm 2 0 :: (tsTo 11).map (.rs 2 0)))

/-- A stretch of the instruction list, cut where the printed body is cut into parts. -/
def seg6 : List Ins :=
  (tsFrom 11).map (.rs 2 0) ++ nextHalf 1 2 1 ++ (tsTo 3).map (.wrr 2 0)

/-- A stretch of the instruction list, cut where the printed body is cut into parts. -/
def seg7 : List Ins :=
  (tsFrom 3).map (.wrr 2 0) ++ .acc 2 0 :: (ts.map (.ag 2 0) ++ reduceHalf 2 1 ++ (tsTo 2).map (.war 2 0))

/-- A stretch of the instruction list, cut where the printed body is cut into parts. -/
def seg8 : List Ins :=
  (tsFrom 2).map (.war 2 0) ++ ts.map (.wrs 2 0) ++ ts.map (.was 2 0) ++ ts.map (.war 2 1) ++ ts.map (.wrs 2 1) ++ (tsTo 28).map (.was 2 1)

/-- A stretch of the instruction list, cut where the printed body is cut into parts. -/
def seg9 : List Ins :=
  (tsFrom 28).map (.was 2 1)

/-- The stretches make up the list. -/
theorem full_eq : full = seg1 ++ (seg2 ++ (seg3 ++ (seg4 ++ (seg5 ++ (seg6 ++ (seg7 ++ (seg8 ++ seg9))))))) := by
  decide +kernel

/-- The printed part 1 followed by `K` is the run of its stretch followed by `K`. -/
theorem part1_eq {α : Type} (x : FVec F S256x256 .f32) (K : Dev nD → BitVec 32 → BitVec 32 → PM F α) :
    (k0_part464 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 >>= fun p => K p.1 p.2.1 p.2.2)
    = Prog.lift .deviceId >>= fun d0 => runK d0 seg1 x fun _ => K d0 (Scalar.remsi (Scalar.divsi (Dev.word d0) 1#32) 32#32) (Scalar.addi 0#32 (Scalar.muli (Scalar.remsi (Scalar.divsi (Dev.word d0) 1#32) 32#32) 8#32)) := rfl

/-- The printed part 2 followed by `K` is the run of its stretch followed by `K`. -/
theorem part2_eq {α : Type} (d0 : Dev nD) (v2 v : BitVec 32) (x : FVec F S256x256 .f32) (K : PM F α) :
    (k0_part465 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 v >>= fun _ => K)
    = runK d0 seg2 x fun _ => K := rfl

/-- The printed part 3 followed by `K` is the run of its stretch followed by `K`. -/
theorem part3_eq {α : Type} (d0 : Dev nD) (v2 : BitVec 32) (x : FVec F S256x256 .f32) (K : FVec F S256x256 .f32 → PM F α) :
    (k0_part466 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 >>= K)
    = runK d0 seg3 x K := rfl

/-- The printed part 4 followed by `K` is the run of its stretch followed by `K`. -/
theorem part4_eq {α : Type} (d0 : Dev nD) (v2 : BitVec 32) (x : FVec F S256x256 .f32) (K : BitVec 32 → PM F α) :
    ∃ v, (k0_part467 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 x >>= K)
    = runK d0 seg4 x fun _ => K v := ⟨Scalar.addi 256#32 (Scalar.muli v2 8#32), rfl⟩

/-- The printed part 5 followed by `K` is the run of its stretch followed by `K`. -/
theorem part5_eq {α : Type} (d0 : Dev nD) (v2 v : BitVec 32) (x : FVec F S256x256 .f32) (K : PM F α) :
    (k0_part468 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 v >>= fun _ => K)
    = runK d0 seg5 x fun _ => K := rfl

/-- The printed part 6 followed by `K` is the run of its stretch followed by `K`. -/
theorem part6_eq {α : Type} (d0 : Dev nD) (v2 : BitVec 32) (x : FVec F S256x256 .f32) (K : BitVec 32 → PM F α) :
    ∃ v, (k0_part469 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 >>= K)
    = runK d0 seg6 x fun _ => K v := ⟨Scalar.addi 0#32 (Scalar.muli v2 8#32), rfl⟩

/-- The printed part 7 followed by `K` is the run of its stretch followed by `K`. -/
theorem part7_eq {α : Type} (d0 : Dev nD) (v2 v : BitVec 32) (x : FVec F S256x256 .f32) (K : PM F α) :
    (k0_part470 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 v >>= fun _ => K)
    = runK d0 seg7 x fun _ => K := rfl

/-- The printed part 8 followed by `K` is the run of its stretch followed by `K`. -/
theorem part8_eq {α : Type} (d0 : Dev nD) (v2 : BitVec 32) (x : FVec F S256x256 .f32) (K : PM F α) :
    (k0_part471 aX (Memref.isWhole_whole _) (aI 0) (Memref.isWhole_whole _) (aO 0) (Memref.isWhole_whole _) (aI 1) (Memref.isWhole_whole _) (aO 1) (Memref.isWhole_whole _)
      (aI 2) (Memref.isWhole_whole _) (aO 2) (Memref.isWhole_whole _) aR (Memref.isWhole_whole _) aS (Memref.isWhole_whole _)
      cc0_scratch1 cc0_scratch2 cc0_scratch3 cc0_scratch4 d0 v2 >>= fun _ => K)
    = runK d0 seg8 x fun _ => K := rfl

/-- The last stretch, run. -/
def tail9 (d0 : Dev nD) (x : FVec F S256x256 .f32) : PM F PUnit := runK d0 seg9 x fun _ => pure ⟨⟩

/-- The printed body from its eighth part on. -/
def tail8 (d0 : Dev nD) (v2 : BitVec 32) : PM F PUnit :=
  k0_part471 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 >>= fun _ => tail9 d0 (constant S256x256 .f32 0x00000000#32)

/-- The printed body from its seventh part on. -/
def tail7 (d0 : Dev nD) (v2 : BitVec 32) (v : BitVec 32) : PM F PUnit :=
  k0_part470 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 v >>= fun _ => tail8 d0 v2

/-- The printed body from its sixth part on. -/
def tail6 (d0 : Dev nD) (v2 : BitVec 32) : PM F PUnit :=
  k0_part469 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 >>= fun v => tail7 d0 v2 v

/-- The printed body from its fifth part on. -/
def tail5 (d0 : Dev nD) (v2 : BitVec 32) (v : BitVec 32) : PM F PUnit :=
  k0_part468 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 v >>= fun _ => tail6 d0 v2

/-- The printed body from its fourth part on. -/
def tail4 (d0 : Dev nD) (v2 : BitVec 32) (x : FVec F S256x256 .f32) : PM F PUnit :=
  k0_part467 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 x >>= fun v => tail5 d0 v2 v

/-- The printed body from its third part on. -/
def tail3 (d0 : Dev nD) (v2 : BitVec 32) : PM F PUnit :=
  k0_part466 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 >>= fun x => tail4 d0 v2 x

/-- The printed body from its second part on. -/
def tail2 (d0 : Dev nD) (v2 : BitVec 32) (v : BitVec 32) : PM F PUnit :=
  k0_part465 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 d0 v2 v >>= fun _ => tail3 d0 v2

/-- The last stretch gives the same from any rows loaded before. -/
theorem tail9_eq (d0 : Dev nD) (x y : FVec F S256x256 .f32) : tail9 d0 x = tail9 d0 y := rfl

/-- The printed body, its parts one after the other. -/
theorem theBody_cut : theBody (F := F) = k0_part464 aX (Memref.isWhole_whole _) (aI 0) (Memref.isWhole_whole _) (aO 0) (Memref.isWhole_whole _) (aI 1) (Memref.isWhole_whole _) (aO 1) (Memref.isWhole_whole _)
    (aI 2) (Memref.isWhole_whole _) (aO 2) (Memref.isWhole_whole _) aR (Memref.isWhole_whole _) aS (Memref.isWhole_whole _)
    cc0_scratch1 cc0_scratch2 cc0_scratch3 cc0_scratch4 >>= fun p => tail2 p.1 p.2.1 p.2.2 := by
  rw [theBody, Gen.cc0_body_eq_skeleton]
  unfold Gen.cc0_body_skel tail2 tail3 tail4 tail5 tail6 tail7 tail8 tail9
  rfl

/-- The printed body is the run of the whole list, from any rows loaded before. -/
theorem theBody_eq (x : FVec F S256x256 .f32) :
    theBody (F := F) = Prog.lift .deviceId >>= fun d0 => runK d0 full x fun _ => pure ⟨⟩ := by
  refine theBody_cut.trans ((part1_eq x tail2).trans ?_)
  refine congrArg (Bind.bind (Prog.lift TpuEff.deviceId)) (funext fun d0 => ?_)
  rw [full_eq]
  simp only [runK_append]
  generalize Scalar.remsi (Scalar.divsi (Dev.word d0) 1#32) 32#32 = v2
  refine congrArg (runK d0 seg1 x) (funext fun x1 => ?_)
  unfold tail2
  refine (part2_eq d0 _ _ x1 _).trans (congrArg (runK d0 seg2 x1) (funext fun x2 => ?_))
  unfold tail3
  refine (part3_eq d0 _ x2 _).trans (congrArg (runK d0 seg3 x2) (funext fun x3 => ?_))
  unfold tail4
  obtain ⟨v, hv⟩ := part4_eq d0 v2 x3 (fun v => tail5 (F := F) d0 v2 v)
  refine hv.trans (congrArg (runK d0 seg4 x3) (funext fun x4 => ?_))
  unfold tail5
  refine (part5_eq d0 _ _ x4 _).trans (congrArg (runK d0 seg5 x4) (funext fun x5 => ?_))
  unfold tail6
  obtain ⟨v', hv'⟩ := part6_eq d0 v2 x5 (fun v => tail7 (F := F) d0 v2 v)
  refine hv'.trans (congrArg (runK d0 seg6 x5) (funext fun x6 => ?_))
  unfold tail7
  refine (part7_eq d0 _ _ x6 _).trans (congrArg (runK d0 seg7 x6) (funext fun x7 => ?_))
  unfold tail8
  refine (part8_eq d0 _ x7 _).trans (congrArg (runK d0 seg8 x7) (funext fun x8 => ?_))
  exact (tail9_eq d0 _ x8)

end Cert.KernelIdeal.P
-- ==== Proof.Device.lean ====
/- One device from its start to its end: the body between what the launch deals and what it takes back. -/
module

public import proofs.«01_k».proof.Proof.Fund
public import proofs.«01_k».proof.Proof.ProgT

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (P : ℕ → Dev nD → RB F) (G : ℕ → RB F) (K : Dev nD × CI → ℕ) (c : Dev nD)

/-- Cells past their last round close: their semaphores read zero. -/
theorem close_all (g : Fin 31 → GSem nD τ sig) (κ : Fin 31 → ℕ) (hI : ∀ t, ctx P G K ⊢ cellInv ER (Rd P G) (κ t) (g t)) (hd : ∀ t r, 3 ≤ r → dut (g t) r = ∅) :
    iprop(ctx P G K ∗ all fun t => atPos ER (g t) 3 ∅ 0) ⊢ |={Set.univ}=> (all fun t => semVal (g t) 0 : sProp 𝕄) := by
  refine (bigSep_know (R := ctx P G K) (Ψ := fun t => iprop(|={Set.univ}=> semVal (g t) 0)) fun t _ => ?_).trans (bigSep_fupd _ _)
  iintro ⟨#Hc, Hat⟩
  ihave #HI := (hI t) $$ Hc
  iapply (Rounds.cell_close ER (Rd P G) (Set.mem_univ (κ t)) (fun h => h) (R := 3) (hd t))
  isplitr; · iexact HI
  iexact Hat

/-- The semaphores of a half close. -/
theorem close_half (h : Fin 2) : iprop(ctx P G K ∗ poss (F := F) c h 3) ⊢
    |={Set.univ}=> iprop((all fun t => semVal (rsS c h t) 0) ∗ (all fun t => semVal (rsR c h t) 0) ∗ (all fun t => semVal (agS c h t) 0) ∗ (all fun t => semVal (agR c h t) 0) : sProp 𝕄) := by
  unfold poss pos
  iintro ⟨#Hc, HA, HB, HC, HD⟩
  imod (close_all P G K (rsS c h) (fun t => K (c, some (0, h, t))) (fun t => ctx_inv P G K (c, some (0, h, t))) (fun t r hr => dut_tc (c := c) (hr := hr) ..)) $$ [HA] with HA
  · isplitr; · iexact Hc
    iexact HA
  imod (close_all P G K (rsR c h) (fun t => K (c, some (1, h, t))) (fun t => ctx_inv P G K (c, some (1, h, t))) (fun t r hr => dut_tc (c := c) (hr := hr) ..)) $$ [HB] with HB
  · isplitr; · iexact Hc
    iexact HB
  imod (close_all P G K (agS c h) (fun t => K (c, some (2, h, t))) (fun t => ctx_inv P G K (c, some (2, h, t))) (fun t r hr => dut_tc (c := c) (hr := hr) ..)) $$ [HC] with HC
  · isplitr; · iexact Hc
    iexact HC
  imod (close_all P G K (agR c h) (fun t => K (c, some (3, h, t))) (fun t => ctx_inv P G K (c, some (3, h, t))) (fun t r hr => dut_tc (c := c) (hr := hr) ..)) $$ [HD] with HD
  · isplitr; · iexact Hc
    iexact HD
  imodintro
  isplitl [HA]; · iexact HA
  isplitl [HB]; · iexact HB
  isplitl [HC]; · iexact HC
  iexact HD

/-- All of a device's semaphores close. -/
theorem close_dev : iprop(ctx P G K ∗ atPos ER (barC c) 1 ∅ 0 ∗ poss (F := F) c 0 3 ∗ poss (F := F) c 1 3)
    ⊢ |={Set.univ}=> (bigSep Finset.univ fun k : CI => semVal (kcell (c, k)) 0 : sProp 𝕄) := by
  iintro ⟨#Hc, HB, H0, H1⟩
  ihave #HI := (ctx_inv P G K (c, none)) $$ Hc
  imod (Rounds.cell_close ER (Rd P G) (Set.mem_univ (K (c, none))) (fun h => h) (R := 1) (show ∀ r, 1 ≤ r → (Rd P G).duties (barC c) r = ∅ from fun r hr => dut_bar_later (c := c) (hr := hr) ..)) $$ [HB] with HB
  · isplitr; · iexact HI
    iexact HB
  imod (close_half P G K c 0) $$ [H0] with H0
  · isplitr; · iexact Hc
    iexact H0
  imod (close_half P G K c 1) $$ [H1] with H1
  · isplitr; · iexact Hc
    iexact H1
  imodintro
  iapply (zeros (F := F) c)
  isplitl [HB]; · iexact HB
  isplitl [H0]; · iexact H0
  iexact H1

/-- The result's staging buffer by halves, and the scratch. -/
theorem res_halves (f : RB F) : ((c : Thread nD τ).loc cc0_stg7_0 ↦{fullShare} f : sProp 𝕄) ⊣⊢ iprop(halfP (F := F) c 0 fullShare f ∗ halfP (F := F) c 1 fullShare f) := by
  unfold halfP
  have h := pointsTo_union (ℓ := (c : Thread nD τ).loc cc0_stg7_0) (q := fullShare) (Val := Elt F) (f := f) (Ix := ℕ) (Name := ℕ) (U := UU) (Lvl := ℕ) halves_disjoint
  rw [← halves_cover] at h
  exact h
theorem scr_halves (f : SB F) : ((c : Thread nD τ).loc cc0_scratch0 ↦{fullShare} f : sProp 𝕄) ⊢ iprop(slotsP (F := F) c 0 f ∗ slotsP (F := F) c 1 f) := by
  unfold slotsP
  have h := (pointsTo_union (ℓ := (c : Thread nD τ).loc cc0_scratch0) (q := fullShare) (Val := Elt F) (f := f) (Ix := ℕ) (Name := ℕ) (U := UU) (Lvl := ℕ) slots_disjoint).1
  rw [← slots_cover] at h
  exact h
theorem scr_join (f g : SB F) : iprop(slotsP (F := F) c 0 f ∗ slotsP (F := F) c 1 g) ⊢ (∃ u : SB F, (c : Thread nD τ).loc cc0_scratch0 ↦{fullShare} u : sProp 𝕄) := by
  unfold slotsP
  have h := pointsTo_join (ℓ := (c : Thread nD τ).loc cc0_scratch0) (q := fullShare) (Val := Elt F) (f := f) (g := g) (Ix := ℕ) (Name := ℕ) (U := UU) (Lvl := ℕ) slots_disjoint
  rw [← slots_cover] at h
  iintro H
  ihave H := h $$ H
  iexists _
  iexact H

/-- What the body starts from beside its buffers. -/
def begins : sProp 𝕄 :=
  iprop(linear (F := F) c ∗ cred (tallyAt (barC c) 0 31) ∗ creds2 (F := F) c (0 : Fin 3).val ∗ creds2 (F := F) c (1 : Fin 3).val ∗ creds2 (F := F) c (2 : Fin 3).val)

theorem begins_elim : begins (F := F) c ⊢ iprop((atPos ER (barC c) 0 ∅ 0 ∗ (all fun t => dutyTok ER (barC (fwd c t)) 0 t) ∗ cred (tallyAt (barC c) 0 31))
    ∗ (poss (F := F) c 0 0 ∗ poss (F := F) c 1 0) ∗ (fuels (F := F) c (0 : Fin 3).val ∗ fuels (F := F) c (1 : Fin 3).val ∗ fuels (F := F) c (2 : Fin 3).val)) := by
  unfold begins linear payToks
  rw [bigSep_univ_prod, fin3]
  simp only [fin2]
  iintro ⟨⟨Hat, Hb, T0, T1, T2⟩, HB, C0, C1, C2⟩
  ihave Hat := (positions (F := F) c) $$ Hat
  icases Hat with ⟨HaB, Hp⟩
  isplitl [HaB Hb HB]
  · isplitl [HaB]; · iexact HaB
    isplitl [Hb]; · iexact Hb
    iexact HB
  isplitl [Hp]; · iexact Hp
  isplitl [T0 C0]
  · iapply (fuels_intro (F := F) c (0 : Fin 3).val)
    isplitl [T0]; · iexact T0
    iexact C0
  isplitl [T1 C1]
  · iapply (fuels_intro (F := F) c (1 : Fin 3).val)
    isplitl [T1]; · iexact T1
    iexact C1
  · iapply (fuels_intro (F := F) c (2 : Fin 3).val)
    isplitl [T2]; · iexact T2
    iexact C2

/-- What it ends with. -/
def ends : sProp 𝕄 :=
  iprop((∃ u : SB F, (c : Thread nD τ).loc cc0_scratch0 ↦{fullShare} u) ∗ bigSep Finset.univ fun k : CI => semVal (kcell (c, k)) 0)

theorem ends_intro : iprop(ctx P G K ∗ atPos ER (barC c) 1 ∅ 0 ∗ Done G c 0 ∗ Done G c 1)
    ⊢ |={Set.univ}=> iprop(ends (F := F) c ∗ (c : Thread nD τ).loc cc0_stg7_0 ↦{fullShare} G 2 : sProp 𝕄) := by
  unfold Done
  iintro ⟨#Hc, HB, ⟨R0, ⟨%f0, S0⟩, P0⟩, R1, ⟨%f1, S1⟩, P1⟩
  imod (close_dev P G K c) $$ [HB P0 P1] with HZ
  · isplitr; · iexact Hc
    isplitl [HB]; · iexact HB
    unfold poss
    isplitl [P0]; · iexact P0
    iexact P1
  imodintro
  isplitr [R0 R1]
  · unfold ends
    isplitl [S0 S1]
    · iapply (scr_join (F := F) c f0 f1)
      isplitl [S0]; · iexact S0
      iexact S1
    · iexact HZ
  · iapply (res_halves (F := F) c (G 2)).2
    isplitl [R0]; · iexact R0
    iexact R1

theorem above_bar : Above 1 tl0 := by decide +kernel

theorem wp_end (Q : PUnit → sProp 𝕄) : iprop(|={Set.univ}=> Q ⟨⟩) ⊢ WP c (pure ⟨⟩) Q := by
  unfold WP
  rw [Prog.pure_eq_ret, wp_ret]

/-- The body of one device. -/
theorem body_wp (S : Finset S512x256.Idx) (hS : ∀ i, i ∈ S) (X : RB F) (w1 : Fin 3 → Vec F S256x512 .f32) (w2 : Fin 3 → Vec F S512x256 .f32)
    (hP0 : P (0 : Fin 3).val c = prodOf X (w1 0) (w2 0)) (hP1 : P (1 : Fin 3).val c = prodOf (G (0 : Fin 3).val) (w1 1) (w2 1))
    (hP2 : P (2 : Fin 3).val c = prodOf (G (1 : Fin 3).val) (w1 2) (w2 2)) (hG : ∀ l : Fin 3, G l.val = gathOf (P l.val))
    (f : SB F) (g : RB F) (Q : PUnit → sProp 𝕄) :
    iprop(ctx P G K ∗ begins (F := F) c ∗ ((c : Thread nD τ).loc cc0_scratch0 ↦{fullShare} f) ∗ ((c : Thread nD τ).loc cc0_stg7_0 ↦{fullShare} g)
        ∗ (xP c S X ∗ facs c 0 (w1 0) (w2 0) ∗ facs c 1 (w1 1) (w2 1) ∗ facs c 2 (w1 2) (w2 2))
        ∗ ow c full
        ∗ (((ends (F := F) c ∗ (c : Thread nD τ).loc cc0_stg7_0 ↦{fullShare} G 2) ∗ (xP c S X ∗ facs c 0 (w1 0) (w2 0) ∗ facs c 1 (w1 1) (w2 1) ∗ facs c 2 (w1 2) (w2 2)) ∗ ow c []) -∗ Q ⟨⟩))
      ⊢ WP c theBody Q := by
  have x : FVec F S256x256 .f32 := fun _ => X (fun a => ⟨0, by fin_cases a <;> decide⟩)
  rw [theBody_eq x, parts_eq]
  simp only [Prog.lift, Prog.bind_op, Prog.bind_ret, wp_deviceId]
  iintro ⟨#Hc, Hb, Hs, Hr, Hin, How, Hk⟩
  ihave Hb := (begins_elim (F := F) c) $$ Hb
  icases Hb with ⟨HB, Hp, HF⟩
  ihave Hs := (scr_halves (F := F) c f) $$ Hs
  ihave Hr := (res_halves (F := F) c g).1 $$ Hr
  iapply (bar_wp P G K c f f g g tl0 above_bar x _ Q)
  isplitr; · iexact Hc
  isplitl [HB Hs Hr Hp]
  · isplitl [HB]; · iexact HB
    isplitl [Hs]; · iexact Hs
    isplitl [Hr]; · iexact Hr
    iexact Hp
  isplitl [How]; · iexact How
  iintro ⟨⟨HB, H0, H1⟩, How⟩
  iapply (layers_wp P G K c S hS X w1 w2 hP0 hP1 hP2 hG x _ Q)
  isplitr; · iexact Hc
  isplitl [H0 H1 HF Hin]
  · isplitl [H0 H1]
    · isplitl [H0]; · iexact H0
      iexact H1
    isplitl [HF]; · iexact HF
    iexact Hin
  isplitl [How]; · iexact How
  iintro %y ⟨⟨⟨D0, D1⟩, Hin⟩, How⟩
  iapply (wp_end c Q)
  imod (ends_intro P G K c) $$ [HB D0 D1] with HE
  · isplitr; · iexact Hc
    isplitl [HB]; · iexact HB
    isplitl [D0]; · iexact D0
    iexact D1
  imodintro
  iapply Hk
  isplitl [HE]; · iexact HE
  isplitl [Hin]; · iexact Hin
  iexact How

end Cert.KernelIdeal.P
-- ==== Proof.Launch.lean ====
/- What each window holds, and the body at its one grid point. -/
module

public import proofs.«01_k».proof.Proof.Device
public import proofs.«01_k».proof.Proof.Gen.KernelIdeal.Points

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The launch's memory: the given contents, the counters at zero. -/
def s₀ : MemSt nD τ sig (Elt F) := ⟨m, fun _ => 0, ρ⟩

/-! ## Contents -/

/-- The staged input, and the staged factors of the three layers. -/
def xV (c : Dev nD) : RB F := (win0_0.blk (0 : Fin 1)).view.read (Elt F) ((s₀ m ρ).mem ((c : Thread nD τ).loc main_arg0))
def inV (c : Dev nD) : Fin 3 → Vec F S256x512 .f32
  | 0 => (win0_1.blk (0 : Fin 1)).view.read (Elt F) ((s₀ m ρ).mem ((c : Thread nD τ).loc main_arg1))
  | 1 => (win0_3.blk (0 : Fin 1)).view.read (Elt F) ((s₀ m ρ).mem ((c : Thread nD τ).loc main_arg2))
  | 2 => (win0_5.blk (0 : Fin 1)).view.read (Elt F) ((s₀ m ρ).mem ((c : Thread nD τ).loc main_arg3))
def outV (c : Dev nD) : Fin 3 → Vec F S512x256 .f32
  | 0 => (win0_2.blk (0 : Fin 1)).view.read (Elt F) ((s₀ m ρ).mem ((c : Thread nD τ).loc main_arg4))
  | 1 => (win0_4.blk (0 : Fin 1)).view.read (Elt F) ((s₀ m ρ).mem ((c : Thread nD τ).loc main_arg5))
  | 2 => (win0_6.blk (0 : Fin 1)).view.read (Elt F) ((s₀ m ρ).mem ((c : Thread nD τ).loc main_arg6))

/-- The partial products of the three layers. -/
def part0 (c : Dev nD) : RB F := prodOf (xV m ρ c) (inV m ρ c 0) (outV m ρ c 0)
def part1 (c : Dev nD) : RB F := prodOf (gathOf (part0 m ρ)) (inV m ρ c 1) (outV m ρ c 1)
def part2 (c : Dev nD) : RB F := prodOf (gathOf (part1 m ρ)) (inV m ρ c 2) (outV m ρ c 2)
def PV : ℕ → Dev nD → RB F
  | 0 => part0 m ρ
  | 1 => part1 m ρ
  | _ => part2 m ρ
def GV (l : ℕ) : RB F := gathOf (PV m ρ l)

/-! ## The windows' data -/

/-- What a device's body starts from, and what it leaves. -/
def start (c : Dev nD) : sProp 𝕄 :=
  iprop(held (PV m ρ) (GV m ρ) c ∗ (cred (tallyAt (barC c) 0 31) ∗ creds2 (F := F) c (0 : Fin 3).val ∗ creds2 (F := F) c (1 : Fin 3).val ∗ creds2 (F := F) c (2 : Fin 3).val) ∗ levAts L lv)
def phi0 (c : Dev nD) : sProp 𝕄 := iprop(start m ρ c ∗ ∃ f : SB F, (c : Thread nD τ).loc cc0_scratch0 ↦{fullShare} f)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xV m ρ c
    | ⟨1, _⟩ => inV m ρ c 0
    | ⟨2, _⟩ => outV m ρ c 0
    | ⟨3, _⟩ => inV m ρ c 1
    | ⟨4, _⟩ => outV m ρ c 1
    | ⟨5, _⟩ => inV m ρ c 2
    | ⟨6, _⟩ => outV m ρ c 2
    | ⟨7, _⟩ => GV m ρ 2
  Φ t := match t with
    | ⟨0, _⟩ => phi0 m ρ c
    | ⟨_ + 1, _⟩ => ends (F := F) c
  q _ := fullShare
  owed t := match t with
    | ⟨0, _⟩ => owed c full
    | ⟨_ + 1, _⟩ => 0

abbrev t₀ : Fin cfg0.N := Gen.t0_0

variable (c : Dev nD)

theorem before_0 (d) : (dats m ρ 0 c).before (0 : Fin 8) t₀ d = xV m ρ c := by unfold Dat.before; rw [if_pos (Gen.fetch0_0 t₀)]; rfl
theorem before_1 (d) : (dats m ρ 0 c).before (1 : Fin 8) t₀ d = inV m ρ c 0 := by unfold Dat.before; rw [if_pos (Gen.fetch0_1 t₀)]; rfl
theorem before_2 (d) : (dats m ρ 0 c).before (2 : Fin 8) t₀ d = outV m ρ c 0 := by unfold Dat.before; rw [if_pos (Gen.fetch0_2 t₀)]; rfl
theorem before_3 (d) : (dats m ρ 0 c).before (3 : Fin 8) t₀ d = inV m ρ c 1 := by unfold Dat.before; rw [if_pos (Gen.fetch0_3 t₀)]; rfl
theorem before_4 (d) : (dats m ρ 0 c).before (4 : Fin 8) t₀ d = outV m ρ c 1 := by unfold Dat.before; rw [if_pos (Gen.fetch0_4 t₀)]; rfl
theorem before_5 (d) : (dats m ρ 0 c).before (5 : Fin 8) t₀ d = inV m ρ c 2 := by unfold Dat.before; rw [if_pos (Gen.fetch0_5 t₀)]; rfl
theorem before_6 (d) : (dats m ρ 0 c).before (6 : Fin 8) t₀ d = outV m ρ c 2 := by unfold Dat.before; rw [if_pos (Gen.fetch0_6 t₀)]; rfl

theorem owns_all (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The body's start and end, window by window. -/
def bodyPre : sProp 𝕄 :=
  iprop(phi0 m ρ c ∗ (dats m ρ 0 c).owesAt 0 t₀.castSucc
    ∗ (∃ d, owns (c : Thread nD τ) aX fullShare ((dats m ρ 0 c).before (0 : Fin 8) t₀ d))
    ∗ (∃ d, owns (c : Thread nD τ) (aI 0) fullShare ((dats m ρ 0 c).before (1 : Fin 8) t₀ d))
    ∗ (∃ d, owns (c : Thread nD τ) (aO 0) fullShare ((dats m ρ 0 c).before (2 : Fin 8) t₀ d))
    ∗ (∃ d, owns (c : Thread nD τ) (aI 1) fullShare ((dats m ρ 0 c).before (3 : Fin 8) t₀ d))
    ∗ (∃ d, owns (c : Thread nD τ) (aO 1) fullShare ((dats m ρ 0 c).before (4 : Fin 8) t₀ d))
    ∗ (∃ d, owns (c : Thread nD τ) (aI 2) fullShare ((dats m ρ 0 c).before (5 : Fin 8) t₀ d))
    ∗ (∃ d, owns (c : Thread nD τ) (aO 2) fullShare ((dats m ρ 0 c).before (6 : Fin 8) t₀ d))
    ∗ (∃ d, owns (c : Thread nD τ) aR fullShare ((dats m ρ 0 c).before (7 : Fin 8) t₀ d)))
def bodyPost : sProp 𝕄 :=
  iprop(ends (F := F) c ∗ (dats m ρ 0 c).owesAt 0 t₀.succ
    ∗ owns (c : Thread nD τ) aX fullShare (xV m ρ c)
    ∗ owns (c : Thread nD τ) (aI 0) fullShare (inV m ρ c 0) ∗ owns (c : Thread nD τ) (aO 0) fullShare (outV m ρ c 0)
    ∗ owns (c : Thread nD τ) (aI 1) fullShare (inV m ρ c 1) ∗ owns (c : Thread nD τ) (aO 1) fullShare (outV m ρ c 1)
    ∗ owns (c : Thread nD τ) (aI 2) fullShare (inV m ρ c 2) ∗ owns (c : Thread nD τ) (aO 2) fullShare (outV m ρ c 2)
    ∗ owns (c : Thread nD τ) aR fullShare (GV m ρ 2))

theorem body_sound (S : Finset S512x256.Idx) (hS : S = Finset.univ) (hS' : ∀ i, i ∈ S) : bodyPre m ρ c ⊢ WP c theBody fun _ => bodyPost m ρ c := by
  unfold bodyPre phi0 start held records Dat.owesAt Pipeline.owesWithin
  simp only [before_0, before_1, before_2, before_3, before_4, before_5, before_6]
  rw [show (dats m ρ 0 c).owed t₀.castSucc = owed c full from rfl]
  iintro ⟨⟨⟨⟨%K, ⟨#HI, #HR⟩, Hlin⟩, ⟨HC, #HL⟩⟩, ⟨%f, Hs⟩⟩, ⟨%W, %hW, How⟩, ⟨%_, HX⟩, ⟨%_, H1⟩, ⟨%_, H2⟩, ⟨%_, H3⟩, ⟨%_, H4⟩, ⟨%_, H5⟩, ⟨%_, H6⟩, ⟨%d, HO⟩⟩
  ihave HX := (Entails.of_eq (owns_all c cc0_stg0_0 (xV m ρ c))) $$ HX
  icases HX with ⟨%fx, %hx, HX⟩
  subst hx
  ihave HO := (Entails.of_eq (owns_all c cc0_stg7_0 ((dats m ρ 0 c).before (7 : Fin 8) t₀ d))) $$ HO
  icases HO with ⟨%fo, %ho, HO⟩
  iapply (body_wp (PV m ρ) (GV m ρ) K c S hS' (xV m ρ c) (inV m ρ c) (outV m ρ c) rfl rfl rfl (fun _ => rfl) f fo (fun _ => bodyPost m ρ c))
  isplitr
  · unfold ctx
    isplitr; · iexact HI
    isplitr; · iexact HR
    iexact HL
  isplitl [Hlin HC]
  · unfold begins
    isplitl [Hlin]; · iexact Hlin
    iexact HC
  isplitl [Hs]; · iexact Hs
  isplitl [HO]; · iexact HO
  isplitl [HX H1 H2 H3 H4 H5 H6]
  · unfold xP facs
    rw [hS]
    isplitl [HX]; · iexact HX
    isplitl [H1 H2]
    · isplitl [H1]; · iexact H1
      iexact H2
    isplitl [H3 H4]
    · isplitl [H3]; · iexact H3
      iexact H4
    · isplitl [H5]; · iexact H5
      iexact H6
  isplitl [How]
  · unfold ow; iexists W; iexact How
  unfold xP facs ow
  rw [hS]
  iintro ⟨⟨HE, HO⟩, ⟨HX, ⟨H1, H2⟩, ⟨H3, H4⟩, ⟨H5, H6⟩⟩, ⟨%W', How⟩⟩
  unfold bodyPost Dat.owesAt Pipeline.owesWithin
  rw [show (dats m ρ 0 c).owed t₀.succ = 0 from rfl]
  isplitl [HE]; · iexact HE
  isplitl [How]
  · iexists W'
    isplitr; · ipureintro; exact fun _ _ => Or.inl trivial
    iexact How
  isplitl [HX]
  · iapply (Entails.of_eq (owns_all c cc0_stg0_0 (xV m ρ c)).symm)
    iexists _; isplitr; · ipureintro; rfl
    iexact HX
  isplitl [H1]; · iexact H1
  isplitl [H2]; · iexact H2
  isplitl [H3]; · iexact H3
  isplitl [H4]; · iexact H4
  isplitl [H5]; · iexact H5
  isplitl [H6]; · iexact H6
  iapply (Entails.of_eq (owns_all c cc0_stg7_0 (GV m ρ 2)).symm)
  iexists _; isplitr; · ipureintro; rfl
  iexact HO

end Cert.KernelIdeal.P
-- ==== Proof.Run.lean ====
/- The run: the launch on the mesh. -/
module

public import proofs.«01_k».proof.Proof.Launch
public import proofs.«01_k».proof.Proof.Gen.KernelIdeal.Points
public import Idealize.ShloMosaic.Lib.Pipeline.CollectiveSegs

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

attribute [local irreducible] wp in
theorem body_obligation : BodyObligation (dats (F := F) m ρ 0 c) (defs₀ (F := F)) 𝒱₀ (0 : ℕ) Set.univ := fun t => by
  rw [show t = t₀ from Gen.fin_N0 t, Gen.bigSep_W0, Gen.bigSep_W0]
  exact body_sound m ρ c Finset.univ rfl fun i => Finset.mem_univ i

/-! ## The launch -/

theorem share_eq (w : Fin cfg0.W) : (dats m ρ 0 c).share w = fullShare := by unfold Dat.share; split <;> rfl

def u₀ : UU := (initOf (Pipeline.cells cfgs Gen.cellOf_inj) (Pipeline.launchToks cfgs Gen.cellOf_inj), initOf allCells allToks)

theorem start_intro :
    iprop(Pipeline.unscopedRestP Pipeline.Prefetch.none cfg0.spec c (fun b => m ((c : Thread nD τ).loc b)) ∗ levAts L lv
        ∗ Pipeline.launchCred (fun d => owed d full) c ∗ prngReg c (ρ c) ∗ held (PV m ρ) (GV m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m ρ c from rfl, Gen.scopedRest0_eq]
  unfold phi0
  iintro ⟨Hs, -, ⟨%f, Hr⟩⟩
  isplitl [Hs]; · iexact Hs
  iexists f; iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ends (F := F) c from rfl, Gen.scopedRest0_eq]
  unfold ends
  rw [← sems_eq]
  iintro ⟨⟨%u, Hr⟩, Hz, Hu⟩
  isplitl [Hu]; · iexact Hu
  isplitl [Hz]; · iexact Hz
  iexists u; iexact Hr

theorem lv_stage : ∀ (w : Fin 8) (s : Fin (cfg0.win w).nbuf), lv ((c : Thread nD τ), .dma ((cfg0.win w).sem s)) 0 ≤ 0 := by
  show ∀ (w : Fin 8) (s : Fin (cfg0.win w).nbuf), _
  have h : ∀ (w : Fin 8) (s : Fin (cfg0.win w).nbuf), cel (.dma ((cfg0.win w).sem s)) = .none := by decide +kernel
  intro w s
  unfold lv
  rw [h w s]

theorem waits : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 0 (mem_L c _ 0) (lv_stage c w s) full (above_zero _)
    · show _ ⊢ MayWait _ _ _ 0
      rw [MayWait_zero]; iintro -; iempintro

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] wp in
/-- On the mesh of 32 devices, from any memory with zero counters, every fair execution of the program ends with every
    window's array at its final contents on every device, and with every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 Gen.cellOf_inj (0 : Fin 1)
    Gen.winFacts0.to₀ ownSemFacts (Pipeline.PreFacts.none _) EP defs₀ 𝒱₀ m ρ main
    (hmain := fun _ => rfl)
    (hbody := body_obligation m ρ) (hne := Gen.block_pos0) (harr := Gen.arr_whole0) (hstage := Gen.stage_whole0) (hshare := share_eq m ρ)
    (hdistinct := Gen.winFacts0.arr_inj)
    (O₀ := fun d => owed d full) (howed₀ := fun _ => rfl) (howedN := fun _ => rfl)
    (L := L) (lv := lv) (hL := L_of_ne) (hwaits := waits m ρ)
    (G := dealt (PV m ρ) (GV m ρ)) (G' := held (PV m ρ) (GV m ρ)) (u₀ := u₀)
    (hu₀ := by
      unfold u₀
      iintro Hu
      ihave H := (ownU_pair _ _) $$ Hu
      icases H with ⟨HP, HX⟩
      imod (fund_cells (PV m ρ) (GV m ρ)) $$ HX with HG
      imodintro
      isplitl [HP] <;> iassumption)
    (hglob := glob (PV m ρ) (GV m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.P
-- ==== Proof.Final.lean ====
module

public import proofs.«01_k».proof.Proof.Run

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! # What the arrays hold after the run -/

/-- Reading the one block of a window whose block is the whole buffer reads the buffer: the input, -/
theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
/-- the first factors of the layers, -/
theorem read_in0 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_in1 (f : main_arg2.ty.Contents (Elt F)) : (win0_3.blk (0 : Fin 1)).view.read (Elt F) f = f :=
  Memref.read_access_unit_zero (Elt F) main_arg2 (funext fun a => by fin_cases a <;> decide) (fun a => by fin_cases a <;> decide) f
theorem read_in2 (f : main_arg3.ty.Contents (Elt F)) : (win0_5.blk (0 : Fin 1)).view.read (Elt F) f = f :=
  Memref.read_access_unit_zero (Elt F) main_arg3 (funext fun a => by fin_cases a <;> decide) (fun a => by fin_cases a <;> decide) f
/-- the second factors, -/
theorem read_out0 (f : main_arg4.ty.Contents (Elt F)) : (win0_2.blk (0 : Fin 1)).view.read (Elt F) f = f :=
  Memref.read_access_unit_zero (Elt F) main_arg4 (funext fun a => by fin_cases a <;> decide) (fun a => by fin_cases a <;> decide) f
theorem read_out1 (f : main_arg5.ty.Contents (Elt F)) : (win0_4.blk (0 : Fin 1)).view.read (Elt F) f = f :=
  Memref.read_access_unit_zero (Elt F) main_arg5 (funext fun a => by fin_cases a <;> decide) (fun a => by fin_cases a <;> decide) f
theorem read_out2 (f : main_arg6.ty.Contents (Elt F)) : (win0_6.blk (0 : Fin 1)).view.read (Elt F) f = f :=
  Memref.read_access_unit_zero (Elt F) main_arg6 (funext fun a => by fin_cases a <;> decide) (fun a => by fin_cases a <;> decide) f
/-- and the result. -/
theorem read_res (f : main_v1.ty.Contents (Elt F)) : (win0_7.blk (0 : Fin 1)).view.read (Elt F) f = f :=
  Memref.read_access_unit_zero (Elt F) main_v1 (funext fun a => by fin_cases a <;> decide) (fun a => by fin_cases a <;> decide) f

/-- The arguments end as they began, -/
theorem final_arg (w : Fin cfg0.W) (h : (cfg0.win w).isOut = false) : finalA m ρ c w = (s₀ m ρ).mem ((cfg0.win w).arr.view.loc (c : Thread nD τ)) :=
  (dats (F := F) m ρ 0 c).arrAt_in w h _

/-- and the result holds the third layer's sums, the same on every device. -/
theorem final_res : finalA m ρ c (7 : Fin 8) = GV m ρ 2 := by
  refine (read_res _).symm.trans ?_
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _

/-- Every fair execution leaves the result at the third layer's sums on every device, the arguments unchanged. -/
theorem run_final : θ_run defs (onTc (τ := τ) (main (F := F))) ⟨m, fun _ => 0, ρ⟩ (fun r => (∀ c : Dev nD,
      r.2.mem ((c.tc : Thread nD τ).loc main_v1) = GV m ρ 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨(h.1 c (7 : Fin 8)).trans (final_res m ρ c), (h.1 c (0 : Fin 8)).trans (final_arg m ρ c 0 rfl),
      (h.1 c (1 : Fin 8)).trans (final_arg m ρ c 1 rfl), (h.1 c (3 : Fin 8)).trans (final_arg m ρ c 3 rfl),
      (h.1 c (5 : Fin 8)).trans (final_arg m ρ c 5 rfl), (h.1 c (2 : Fin 8)).trans (final_arg m ρ c 2 rfl),
      (h.1 c (4 : Fin 8)).trans (final_arg m ρ c 4 rfl), (h.1 c (6 : Fin 8)).trans (final_arg m ρ c 6 rfl)⟩, h.2⟩)
    (run_main m ρ)

end Cert.KernelIdeal.P
-- ==== Proof.Value.lean ====
module

public import proofs.«01_k».proof.Proof.Final
public import Idealize.ShloMosaic.Lib.Pointwise
public import proofs.«01_k».proof.ReferenceIdeal
public import proofs.«01_k».proof.Proof.Gen.ReferenceIdeal

@[expose] public section

set_option maxRecDepth 65536

noncomputable section

namespace Cert.KernelIdeal.P

open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

open scoped BigOperators

/-! # The layers at exact arithmetic -/

/-- The product of a half's rows with a device's blocks, element by element. -/
theorem mmul_at (xh : FVec Ideal S256x256 .f32) (w1 : Vec Ideal S256x512 .f32) (w2 : Vec Ideal S512x256 .f32) (r j : Fin 256) :
    mmul xh w1 w2 (ix2 r j)
      = ∑ k : Fin 512, max (∑ p : Fin 256, xh (ix2 r p) * (w1 (ix2 p k) : EReal)) 0 * (w2 (ix2 k j) : EReal) := by
  unfold mmul
  pointwise

/-- The sum of a block of rows over the slots, element by element. -/
theorem red_at (own : Vec Ideal S8x256 .f32) (st : Vec Ideal S1x31x8x256 .f32) (r : Fin 8) (j : Fin 256) :
    Gen.k0_pay3 own st (ix2 r j) = (own (ix2 r j) : EReal) + ∑ t : Fin 31, (st (ix4 0 t r j) : EReal) := by
  unfold Gen.k0_pay3
  pointwise

/-- The rows of a half, element by element. -/
theorem half_at (h : Fin 2) (X : RB Ideal) (r p : Fin 256) (i : Fin 512) (hi : i.val = 256 * h.val + r.val) :
    halfOf h X (ix2 r p) = X (ix2 i p) := by
  unfold halfOf
  pointwise
  refine congrArg X (Shape.idx_ext₂ ?_ ?_)
  · show 256 * h.val + 1 * r.val = i.val
    omega
  · show 0 + 1 * p.val = p.val
    omega

/-- The partial product of a device, element by element. -/
theorem prod_at (X : RB Ideal) (w1 : Vec Ideal S256x512 .f32) (w2 : Vec Ideal S512x256 .f32) (r : Fin 512) (j : Fin 256) :
    prodOf X w1 w2 (ix2 r j)
      = ∑ k : Fin 512, max (∑ p : Fin 256, X (ix2 r p) * (w1 (ix2 p k) : EReal)) 0 * (w2 (ix2 k j) : EReal) := by
  have hr := r.isLt
  refine Eq.trans (mmul_at (halfOf ⟨r.val / 256, by omega⟩ X) w1 w2 ⟨r.val % 256, by omega⟩ j) ?_
  refine Finset.sum_congr rfl fun k _ => ?_
  refine congrArg (fun u : EReal => max u 0 * (w2 (ix2 k j) : EReal)) (Finset.sum_congr rfl fun p _ => ?_)
  refine congrArg (fun u : EReal => u * (w1 (ix2 p k) : EReal)) (half_at _ X _ p r ?_)
  show r.val = 256 * (r.val / 256) + r.val % 256
  omega

/-- A device and the 31 before it are all the devices. -/
theorem sum_around (f : Dev nD → EReal) (b : Dev nD) : f b + ∑ t : Fin 31, f (bwd b t) = ∑ c, f c := by
  classical
  have e : (Finset.univ : Finset (Dev nD)) = insert b (Finset.univ.image (bwd b)) := by
    ext c
    simp only [Finset.mem_univ, Finset.mem_insert, Finset.mem_image, true_and, true_iff]
    by_cases h : c = b
    · exact .inl h
    · exact .inr (exists_bwd b c h)
  rw [e, Finset.sum_insert, Finset.sum_image fun t _ t' _ => bwd_inj b]
  intro H
  obtain ⟨t, -, h⟩ := Finset.mem_image.1 H
  exact bwd_ne b t h

/-- The gathered sums, element by element: the sum over the devices of their partial products. -/
theorem gath_at (P : Dev nD → RB Ideal) (r : Fin 512) (j : Fin 256) : gathOf P (ix2 r j) = ∑ c, (P c (ix2 r j) : EReal) := by
  have hr := r.isLt
  have e : (ix2 r j : S512x256.Idx) = rowIx ⟨r.val / 256, by omega⟩ ⟨r.val % 256 / 8, by show _ < 32; omega⟩ ⟨r.val % 8, by omega⟩ j := by
    unfold rowIx
    rw [show (⟨_, _⟩ : Fin 512) = r from Fin.ext (show 256 * (r.val / 256) + 8 * (r.val % 256 / 8) + r.val % 8 = r.val by omega)]
    rfl
  rw [e, gathOf_row]
  refine (red_at _ _ _ _).trans ?_
  exact sum_around (fun c => P c (rowIx _ _ _ j)) _

/-! # The reference -/

/-- A layer of the reference: the rows times the first factor, the negatives cut to zero, times the second. -/
def refLayer (X : S512x256.Idx → Ideal .f32) (W : ReferenceIdeal.S256x16384.Idx → Ideal .f32) (V : ReferenceIdeal.S16384x256.Idx → Ideal .f32) :
    S512x256.Idx → Ideal .f32 :=
  Host.dotGeneral ReferenceIdeal.dot_S512x16384_S16384x256_S512x256_1_0_0_1_n_n none
    (maximumf (Host.dotGeneral (φ₁ := .f32) (φ₂ := .f32) ReferenceIdeal.dot_S512x256_S256x16384_S512x16384_1_0_0_1_n_n none X W)
      (broadcastInDim ReferenceIdeal.S512x16384 ![] ReferenceIdeal.Facts₀.bcast_S_S512x16384 (constant ReferenceIdeal.S_ .f32 0x00000000#32))) V

theorem ref_at (X W V) (r : Fin 512) (j : Fin 256) :
    refLayer X W V (ix2 r j)
      = ∑ k : Fin 16384, max (∑ p : Fin 256, (X (ix2 r p) : EReal) * (W (ix2 p k) : EReal)) 0 * (V (ix2 k j) : EReal) := by
  unfold refLayer
  pointwise

/-- A sum over the hidden coordinates is the sum over the devices of the sums over their blocks. -/
theorem sum_cut (f : Fin 16384 → EReal) :
    ∑ k, f k = ∑ c : Dev nD, ∑ k : Fin 512, f ⟨c.val * 512 + k.val, by have : c.val < 32 := c.isLt; have := k.isLt; omega⟩ := by
  rw [← (finProdFinEquiv (m := 32) (n := 512)).sum_comp f, Fintype.sum_prod_type]
  refine Finset.sum_congr rfl fun c _ => Finset.sum_congr rfl fun k _ => congrArg f (Fin.ext ?_)
  show k.val + 512 * c.val = c.val * 512 + k.val
  omega

/-- The blocks of a first factor, and of a second, element by element. -/
theorem in_block (W : ReferenceIdeal.S256x16384.Idx → Ideal .f32) (c : Dev nD) (p : Fin 256) (k : Fin 512) :
    Layout.block ⟨2, ![256, 512]⟩ ⟨2, ![256, 16384]⟩ 1 32 c W (by decide) (ix2 p k)
      = W (ix2 p ⟨c.val * 512 + k.val, by have : c.val < 32 := c.isLt; have := k.isLt; omega⟩) := by
  rw [Layout.block_apply]
  exact congrArg W (Shape.idx_ext₂ rfl rfl)
theorem out_block (V : ReferenceIdeal.S16384x256.Idx → Ideal .f32) (c : Dev nD) (k : Fin 512) (j : Fin 256) :
    Layout.block ⟨2, ![512, 256]⟩ ⟨2, ![16384, 256]⟩ 0 32 c V (by decide) (ix2 k j)
      = V (ix2 ⟨c.val * 512 + k.val, by have : c.val < 32 := c.isLt; have := k.isLt; omega⟩ j) := by
  rw [Layout.block_apply]
  exact congrArg V (Shape.idx_ext₂ rfl rfl)

/-- The kernel's layer over the devices' blocks is the reference's layer over the whole factors. -/
theorem layer_eq (X : RB Ideal) (w1 : Dev nD → Vec Ideal S256x512 .f32) (w2 : Dev nD → Vec Ideal S512x256 .f32) (W V)
    (h1 : ∀ c, w1 c = Layout.block ⟨2, ![256, 512]⟩ ⟨2, ![256, 16384]⟩ 1 32 c W (by decide))
    (h2 : ∀ c, w2 c = Layout.block ⟨2, ![512, 256]⟩ ⟨2, ![16384, 256]⟩ 0 32 c V (by decide)) :
    gathOf (fun c => prodOf X (w1 c) (w2 c)) = refLayer X W V := by
  have key : ∀ (r : Fin 512) (j : Fin 256), gathOf (fun c => prodOf X (w1 c) (w2 c)) (ix2 r j) = refLayer X W V (ix2 r j) := by
    intro r j
    rw [gath_at, ref_at, sum_cut]
    refine Finset.sum_congr rfl fun c _ => ?_
    rw [prod_at]
    refine Finset.sum_congr rfl fun k _ => ?_
    rw [h1, h2, out_block]
    simp only [in_block]
  funext i
  exact (congrArg _ (eq_ix2 i)).trans ((key _ _).trans (congrArg _ (eq_ix2 i).symm))

variable (m : (ℓ : Loc nD τ sig) → Buf (Elt Ideal) ℓ) (ρ : Dev nD → PrngReg)

/-- Where every device holds the whole input and its block of each factor, the kernel's result is the reference's
    three layers of the whole arrays. -/
theorem value (x : main_arg0.ty.Contents (Elt Ideal)) (W₁ W₂ W₃ : (⟨2, ![256, 16384]⟩ : Shape).Idx → Ideal .f32)
    (V₁ V₂ V₃ : (⟨2, ![16384, 256]⟩ : Shape).Idx → Ideal .f32)
    (hx : ∀ c : Dev nD, m ((c.tc : Thread nD τ).loc main_arg0) = x)
    (hW₁ : ∀ c : Dev nD, m ((c.tc : Thread nD τ).loc main_arg1) = Layout.block ⟨2, ![256, 512]⟩ ⟨2, ![256, 16384]⟩ 1 32 c W₁)
    (hW₂ : ∀ c : Dev nD, m ((c.tc : Thread nD τ).loc main_arg2) = Layout.block ⟨2, ![256, 512]⟩ ⟨2, ![256, 16384]⟩ 1 32 c W₂)
    (hW₃ : ∀ c : Dev nD, m ((c.tc : Thread nD τ).loc main_arg3) = Layout.block ⟨2, ![256, 512]⟩ ⟨2, ![256, 16384]⟩ 1 32 c W₃)
    (hV₁ : ∀ c : Dev nD, m ((c.tc : Thread nD τ).loc main_arg4) = Layout.block ⟨2, ![512, 256]⟩ ⟨2, ![16384, 256]⟩ 0 32 c V₁)
    (hV₂ : ∀ c : Dev nD, m ((c.tc : Thread nD τ).loc main_arg5) = Layout.block ⟨2, ![512, 256]⟩ ⟨2, ![16384, 256]⟩ 0 32 c V₂)
    (hV₃ : ∀ c : Dev nD, m ((c.tc : Thread nD τ).loc main_arg6) = Layout.block ⟨2, ![512, 256]⟩ ⟨2, ![16384, 256]⟩ 0 32 c V₃) :
    GV m ρ 2 = refLayer (refLayer (refLayer x W₁ V₁) W₂ V₂) W₃ V₃ := by
  have e0 : GV m ρ 0 = refLayer x W₁ V₁ := by
    have e : PV m ρ 0 = fun c => prodOf x (inV m ρ c 0) (outV m ρ c 0) := by
      funext c
      exact congrArg (fun u => prodOf u (inV m ρ c 0) (outV m ρ c 0)) ((read_x _).trans (hx c))
    unfold GV
    rw [e]
    exact layer_eq x _ _ _ _ (fun c => (read_in0 _).trans (hW₁ c)) (fun c => (read_out0 _).trans (hV₁ c))
  have e1 : GV m ρ 1 = refLayer (refLayer x W₁ V₁) W₂ V₂ := by
    have e : PV m ρ 1 = fun c => prodOf (GV m ρ 0) (inV m ρ c 1) (outV m ρ c 1) := rfl
    unfold GV
    rw [e, e0]
    exact layer_eq _ _ _ _ _ (fun c => (read_in1 _).trans (hW₂ c)) (fun c => (read_out1 _).trans (hV₂ c))
  have e : PV m ρ 2 = fun c => prodOf (GV m ρ 1) (inV m ρ c 2) (outV m ρ c 2) := rfl
  unfold GV
  rw [e, e1]
  exact layer_eq _ _ _ _ _ (fun c => (read_in2 _).trans (hW₃ c)) (fun c => (read_out2 _).trans (hV₃ c))

end Cert.KernelIdeal.P
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.K.Final
public import Idealize.ShloMosaic.Adequacy
public import Idealize.ShloMosaic.Init

@[expose] public section

noncomputable section

namespace Cert.Proof

open Idealize.ShloMosaic Idealize.SL.Sem

/-- The kernel, at the chip's words: every fair execution ends, the arguments unchanged, the counters at zero. -/
theorem frame_kernel : Cert.quiescent_Kernel := by
  intro m ρ _
  exact (θ_run Cert.Kernel.defs _ _).mono (fun _ h => ⟨fun c => (h.1 c).2, h.2⟩) (Cert.Kernel.P.run_final (F := Bits) m ρ)

/-- The same of the kernel at exact arithmetic, -/
theorem frame_ideal : Cert.quiescent_KernelIdeal := by
  intro m ρ _
  exact (θ_run Cert.KernelIdeal.defs _ _).mono (fun _ h => ⟨fun c => (h.1 c).2, h.2⟩) (Cert.KernelIdeal.P.run_final (F := Ideal) m ρ)

/-- and of the reference, which declares no counter. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- At exact arithmetic the kernel, run on the blocks of the reference's arrays, leaves the reference's result on every
    device. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.KernelIdeal.P.run_final (F := Ideal) m ρ)
  exact Cert.KernelIdeal.P.value m ρ _ _ _ _ _ _ _ (fun c => (hagree c).1) (fun c => (hagree c).2.1) (fun c => (hagree c).2.2.1)
    (fun c => (hagree c).2.2.2.1) (fun c => (hagree c).2.2.2.2.1) (fun c => (hagree c).2.2.2.2.2.1) (fun c => (hagree c).2.2.2.2.2.2)

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
